-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_RefDActIdeal (m : (ℓ : Loc Cert.RefDActIdeal.nD Cert.RefDActIdeal.τ Cert.RefDActIdeal.sig) → Buf (Elt Ideal) ℓ) : Prop :=
  True

def Pre_DWOut (m : (ℓ : Loc Cert.DWOut.nD Cert.DWOut.τ Cert.DWOut.sig) → Buf (Elt Bits) ℓ) : Prop :=
  True

def Pre_DWOutIdeal (m : (ℓ : Loc Cert.DWOutIdeal.nD Cert.DWOutIdeal.τ Cert.DWOutIdeal.sig) → Buf (Elt Ideal) ℓ) : Prop :=
  True

def Pre_RefDWOutIdeal (m : (ℓ : Loc Cert.RefDWOutIdeal.nD Cert.RefDWOutIdeal.τ Cert.RefDWOutIdeal.sig) → Buf (Elt Ideal) ℓ) : Prop :=
  True

def Pre_DH (m : (ℓ : Loc Cert.DH.nD Cert.DH.τ Cert.DH.sig) → Buf (Elt Bits) ℓ) : Prop :=
  True

def Pre_DHIdeal (m : (ℓ : Loc Cert.DHIdeal.nD Cert.DHIdeal.τ Cert.DHIdeal.sig) → Buf (Elt Ideal) ℓ) : Prop :=
  True

def Pre_RefDHIdeal (m : (ℓ : Loc Cert.RefDHIdeal.nD Cert.RefDHIdeal.τ Cert.RefDHIdeal.sig) → Buf (Elt Ideal) ℓ) : Prop :=
  True

def Pre_DWIn (m : (ℓ : Loc Cert.DWIn.nD Cert.DWIn.τ Cert.DWIn.sig) → Buf (Elt Bits) ℓ) : Prop :=
  True

def Pre_DWInIdeal (m : (ℓ : Loc Cert.DWInIdeal.nD Cert.DWInIdeal.τ Cert.DWInIdeal.sig) → Buf (Elt Ideal) ℓ) : Prop :=
  True

def Pre_RefDWInIdeal (m : (ℓ : Loc Cert.RefDWInIdeal.nD Cert.RefDWInIdeal.τ Cert.RefDWInIdeal.sig) → Buf (Elt Ideal) ℓ) : Prop :=
  True

def Pre_DMixed (m : (ℓ : Loc Cert.DMixed.nD Cert.DMixed.τ Cert.DMixed.sig) → Buf (Elt Bits) ℓ) : Prop :=
  True

def Pre_DMixedIdeal (m : (ℓ : Loc Cert.DMixedIdeal.nD Cert.DMixedIdeal.τ Cert.DMixedIdeal.sig) → Buf (Elt Ideal) ℓ) : Prop :=
  True

def Pre_RefDMixedIdeal (m : (ℓ : Loc Cert.RefDMixedIdeal.nD Cert.RefDMixedIdeal.τ Cert.RefDMixedIdeal.sig) → Buf (Elt Ideal) ℓ) : Prop :=
  True

def Pre_DWProj (m : (ℓ : Loc Cert.DWProj.nD Cert.DWProj.τ Cert.DWProj.sig) → Buf (Elt Bits) ℓ) : Prop :=
  True

def Pre_DWProjIdeal (m : (ℓ : Loc Cert.DWProjIdeal.nD Cert.DWProjIdeal.τ Cert.DWProjIdeal.sig) → Buf (Elt Ideal) ℓ) : Prop :=
  True

def Pre_RefDWProjIdeal (m : (ℓ : Loc Cert.RefDWProjIdeal.nD Cert.RefDWProjIdeal.τ Cert.RefDWProjIdeal.sig) → Buf (Elt Ideal) ℓ) : Prop :=
  True

def Pre_DWQkv (m : (ℓ : Loc Cert.DWQkv.nD Cert.DWQkv.τ Cert.DWQkv.sig) → Buf (Elt Bits) ℓ) : Prop :=
  True

def Pre_DWQkvIdeal (m : (ℓ : Loc Cert.DWQkvIdeal.nD Cert.DWQkvIdeal.τ Cert.DWQkvIdeal.sig) → Buf (Elt Ideal) ℓ) : Prop :=
  True

def Pre_RefDWQkvIdeal (m : (ℓ : Loc Cert.RefDWQkvIdeal.nD Cert.RefDWQkvIdeal.τ Cert.RefDWQkvIdeal.sig) → Buf (Elt Ideal) ℓ) : Prop :=
  True

def Pre_DWF (m : (ℓ : Loc Cert.DWF.nD Cert.DWF.τ Cert.DWF.sig) → Buf (Elt Bits) ℓ) : Prop :=
  True

def Pre_DWFIdeal (m : (ℓ : Loc Cert.DWFIdeal.nD Cert.DWFIdeal.τ Cert.DWFIdeal.sig) → Buf (Elt Ideal) ℓ) : Prop :=
  True

def Pre_RefDWFIdeal (m : (ℓ : Loc Cert.RefDWFIdeal.nD Cert.RefDWFIdeal.τ Cert.RefDWFIdeal.sig) → Buf (Elt Ideal) ℓ) : Prop :=
  True

def Pre_DHF (m : (ℓ : Loc Cert.DHF.nD Cert.DHF.τ Cert.DHF.sig) → Buf (Elt Bits) ℓ) : Prop :=
  True

def Pre_DHFIdeal (m : (ℓ : Loc Cert.DHFIdeal.nD Cert.DHFIdeal.τ Cert.DHFIdeal.sig) → Buf (Elt Ideal) ℓ) : Prop :=
  True

def Pre_RefDHFIdeal (m : (ℓ : Loc Cert.RefDHFIdeal.nD Cert.RefDHFIdeal.τ Cert.RefDHFIdeal.sig) → Buf (Elt Ideal) ℓ) : Prop :=
  True

def Pre_DHQkv (m : (ℓ : Loc Cert.DHQkv.nD Cert.DHQkv.τ Cert.DHQkv.sig) → Buf (Elt Bits) ℓ) : Prop :=
  True

def Pre_DHQkvIdeal (m : (ℓ : Loc Cert.DHQkvIdeal.nD Cert.DHQkvIdeal.τ Cert.DHQkvIdeal.sig) → Buf (Elt Ideal) ℓ) : Prop :=
  True

def Pre_RefDHQkvIdeal (m : (ℓ : Loc Cert.RefDHQkvIdeal.nD Cert.RefDHQkvIdeal.τ Cert.RefDHQkvIdeal.sig) → Buf (Elt Ideal) ℓ) : Prop :=
  True

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_RefProjAIdeal (m : (ℓ : Loc Cert.RefProjAIdeal.nD Cert.RefProjAIdeal.τ Cert.RefProjAIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_RefProjBIdeal (m : (ℓ : Loc Cert.RefProjBIdeal.nD Cert.RefProjBIdeal.τ Cert.RefProjBIdeal.sig) → Buf (Elt Ideal) ℓ) : Prop :=
  True

def Pre_ProjF (m : (ℓ : Loc Cert.ProjF.nD Cert.ProjF.τ Cert.ProjF.sig) → Buf (Elt Bits) ℓ) : Prop :=
  True

def Pre_ProjFIdeal (m : (ℓ : Loc Cert.ProjFIdeal.nD Cert.ProjFIdeal.τ Cert.ProjFIdeal.sig) → Buf (Elt Ideal) ℓ) : Prop :=
  True

def Pre_RefProjFIdeal (m : (ℓ : Loc Cert.RefProjFIdeal.nD Cert.RefProjFIdeal.τ Cert.RefProjFIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_RefAttnOutIdeal (m : (ℓ : Loc Cert.RefAttnOutIdeal.nD Cert.RefAttnOutIdeal.τ Cert.RefAttnOutIdeal.sig) → Buf (Elt Ideal) ℓ) : Prop :=
  True

def Pre_MlpIn (m : (ℓ : Loc Cert.MlpIn.nD Cert.MlpIn.τ Cert.MlpIn.sig) → Buf (Elt Bits) ℓ) : Prop :=
  True

def Pre_MlpInIdeal (m : (ℓ : Loc Cert.MlpInIdeal.nD Cert.MlpInIdeal.τ Cert.MlpInIdeal.sig) → Buf (Elt Ideal) ℓ) : Prop :=
  True

def Pre_RefMlpInIdeal (m : (ℓ : Loc Cert.RefMlpInIdeal.nD Cert.RefMlpInIdeal.τ Cert.RefMlpInIdeal.sig) → Buf (Elt Ideal) ℓ) : Prop :=
  True

def Pre_MlpOut (m : (ℓ : Loc Cert.MlpOut.nD Cert.MlpOut.τ Cert.MlpOut.sig) → Buf (Elt Bits) ℓ) : Prop :=
  True

def Pre_MlpOutIdeal (m : (ℓ : Loc Cert.MlpOutIdeal.nD Cert.MlpOutIdeal.τ Cert.MlpOutIdeal.sig) → Buf (Elt Ideal) ℓ) : Prop :=
  True

def Pre_RefMlpOutIdeal (m : (ℓ : Loc Cert.RefMlpOutIdeal.nD Cert.RefMlpOutIdeal.τ Cert.RefMlpOutIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RefRmsBwdIdeal (m : (ℓ : Loc Cert.RefRmsBwdIdeal.nD Cert.RefRmsBwdIdeal.τ Cert.RefRmsBwdIdeal.sig) → Buf (Elt Ideal) ℓ) : Prop :=
  True

def Pre_PairBwd (m : (ℓ : Loc Cert.PairBwd.nD Cert.PairBwd.τ Cert.PairBwd.sig) → Buf (Elt Bits) ℓ) : Prop :=
  True

def Pre_PairBwdIdeal (m : (ℓ : Loc Cert.PairBwdIdeal.nD Cert.PairBwdIdeal.τ Cert.PairBwdIdeal.sig) → Buf (Elt Ideal) ℓ) : Prop :=
  True

def Pre_RefPairBwdIdeal (m : (ℓ : Loc Cert.RefPairBwdIdeal.nD Cert.RefPairBwdIdeal.τ Cert.RefPairBwdIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RefRmsFwdIdeal (m : (ℓ : Loc Cert.RefRmsFwdIdeal.nD Cert.RefRmsFwdIdeal.τ Cert.RefRmsFwdIdeal.sig) → Buf (Elt Ideal) ℓ) : Prop :=
  True

def Pre_PairFwd (m : (ℓ : Loc Cert.PairFwd.nD Cert.PairFwd.τ Cert.PairFwd.sig) → Buf (Elt Bits) ℓ) : Prop :=
  True

def Pre_PairFwdIdeal (m : (ℓ : Loc Cert.PairFwdIdeal.nD Cert.PairFwdIdeal.τ Cert.PairFwdIdeal.sig) → Buf (Elt Ideal) ℓ) : Prop :=
  True

def Pre_RefPairFwdIdeal (m : (ℓ : Loc Cert.RefPairFwdIdeal.nD Cert.RefPairFwdIdeal.τ Cert.RefPairFwdIdeal.sig) → Buf (Elt Ideal) ℓ) : Prop :=
  True

def Pre_FoxFwd (m : (ℓ : Loc Cert.FoxFwd.nD Cert.FoxFwd.τ Cert.FoxFwd.sig) → Buf (Elt Bits) ℓ) : Prop :=
  True

def Pre_FoxFwdIdeal (m : (ℓ : Loc Cert.FoxFwdIdeal.nD Cert.FoxFwdIdeal.τ Cert.FoxFwdIdeal.sig) → Buf (Elt Ideal) ℓ) : Prop :=
  True

def Pre_FoxFwdIdeal_finite24 [hPre_finite24 : Cert.Pre_finite24.Facts] (m : (ℓ : Loc Cert.FoxFwdIdeal.nD Cert.FoxFwdIdeal.τ Cert.FoxFwdIdeal.sig) → Buf (Elt Ideal) ℓ) : Prop :=
  ∀ c : Dev Cert.FoxFwdIdeal.nD,
    (Cert.Pre_finite24.fn (F := Ideal) (m ((c.tc : Thread Cert.FoxFwdIdeal.nD Cert.FoxFwdIdeal.τ).loc Cert.FoxFwdIdeal.main_arg0)) (m ((c.tc : Thread Cert.FoxFwdIdeal.nD Cert.FoxFwdIdeal.τ).loc Cert.FoxFwdIdeal.main_arg1))) = (fun _ => 1#1)

def Pre_RefFoxFwdIdeal (m : (ℓ : Loc Cert.RefFoxFwdIdeal.nD Cert.RefFoxFwdIdeal.τ Cert.RefFoxFwdIdeal.sig) → Buf (Elt Ideal) ℓ) : Prop :=
  True

def Pre_RefFoxFwdIdeal_finite24 [hPre_finite24 : Cert.Pre_finite24.Facts] (m : (ℓ : Loc Cert.RefFoxFwdIdeal.nD Cert.RefFoxFwdIdeal.τ Cert.RefFoxFwdIdeal.sig) → Buf (Elt Ideal) ℓ) : Prop :=
  ∀ c : Dev Cert.RefFoxFwdIdeal.nD,
    (Cert.Pre_finite24.fn (F := Ideal) (m ((c.tc : Thread Cert.RefFoxFwdIdeal.nD Cert.RefFoxFwdIdeal.τ).loc Cert.RefFoxFwdIdeal.main_arg0)) (m ((c.tc : Thread Cert.RefFoxFwdIdeal.nD Cert.RefFoxFwdIdeal.τ).loc Cert.RefFoxFwdIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1)
      ∧ r.2.mem ((c.tc : Thread Cert.DAct.nD Cert.DAct.τ).loc Cert.DAct.main_arg2) = m ((c.tc : Thread Cert.DAct.nD Cert.DAct.τ).loc Cert.DAct.main_arg2))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1)
      ∧ r.2.mem ((c.tc : Thread Cert.DActIdeal.nD Cert.DActIdeal.τ).loc Cert.DActIdeal.main_arg2) = m ((c.tc : Thread Cert.DActIdeal.nD Cert.DActIdeal.τ).loc Cert.DActIdeal.main_arg2))
      ∧ r.2.sem = fun _ => 0)

def quiescent_RefDActIdeal [hRefDActIdeal : Cert.RefDActIdeal.Facts] : Prop :=
  ∀ (m : (ℓ : Loc Cert.RefDActIdeal.nD Cert.RefDActIdeal.τ Cert.RefDActIdeal.sig) → Buf (Elt Ideal) ℓ) (g : Dev Cert.RefDActIdeal.nD → PrngReg), Pre_RefDActIdeal m →
    θ_run (Cert.RefDActIdeal.defs (F := Ideal)) (onTc (τ := Cert.RefDActIdeal.τ) (Cert.RefDActIdeal.main (F := Ideal))) ⟨m, fun _ => 0, g⟩ (fun r => (∀ c : Dev Cert.RefDActIdeal.nD,
      r.2.mem ((c.tc : Thread Cert.RefDActIdeal.nD Cert.RefDActIdeal.τ).loc Cert.RefDActIdeal.main_arg0) = m ((c.tc : Thread Cert.RefDActIdeal.nD Cert.RefDActIdeal.τ).loc Cert.RefDActIdeal.main_arg0)
      ∧ r.2.mem ((c.tc : Thread Cert.RefDActIdeal.nD Cert.RefDActIdeal.τ).loc Cert.RefDActIdeal.main_arg1) = m ((c.tc : Thread Cert.RefDActIdeal.nD Cert.RefDActIdeal.τ).loc Cert.RefDActIdeal.main_arg1)
      ∧ r.2.mem ((c.tc : Thread Cert.RefDActIdeal.nD Cert.RefDActIdeal.τ).loc Cert.RefDActIdeal.main_arg2) = m ((c.tc : Thread Cert.RefDActIdeal.nD Cert.RefDActIdeal.τ).loc Cert.RefDActIdeal.main_arg2))
      ∧ r.2.sem = fun _ => 0)

def quiescent_DWOut [hDWOut : Cert.DWOut.Facts] : Prop :=
  ∀ (m : (ℓ : Loc Cert.DWOut.nD Cert.DWOut.τ Cert.DWOut.sig) → Buf (Elt Bits) ℓ) (g : Dev Cert.DWOut.nD → PrngReg), Pre_DWOut m →
    θ_run (Cert.DWOut.defs (F := Bits)) (onTc (τ := Cert.DWOut.τ) (Cert.DWOut.main (F := Bits))) ⟨m, fun _ => 0, g⟩ (fun r => (∀ c : Dev Cert.DWOut.nD,
      r.2.mem ((c.tc : Thread Cert.DWOut.nD Cert.DWOut.τ).loc Cert.DWOut.main_arg0) = m ((c.tc : Thread Cert.DWOut.nD Cert.DWOut.τ).loc Cert.DWOut.main_arg0)
      ∧ r.2.mem ((c.tc : Thread Cert.DWOut.nD Cert.DWOut.τ).loc Cert.DWOut.main_arg1) = m ((c.tc : Thread Cert.DWOut.nD Cert.DWOut.τ).loc Cert.DWOut.main_arg1))
      ∧ r.2.sem = fun _ => 0)

def quiescent_DWOutIdeal [hDWOutIdeal : Cert.DWOutIdeal.Facts] : Prop :=
  ∀ (m : (ℓ : Loc Cert.DWOutIdeal.nD Cert.DWOutIdeal.τ Cert.DWOutIdeal.sig) → Buf (Elt Ideal) ℓ) (g : Dev Cert.DWOutIdeal.nD → PrngReg), Pre_DWOutIdeal m →
    θ_run (Cert.DWOutIdeal.defs (F := Ideal)) (onTc (τ := Cert.DWOutIdeal.τ) (Cert.DWOutIdeal.main (F := Ideal))) ⟨m, fun _ => 0, g⟩ (fun r => (∀ c : Dev Cert.DWOutIdeal.nD,
      r.2.mem ((c.tc : Thread Cert.DWOutIdeal.nD Cert.DWOutIdeal.τ).loc Cert.DWOutIdeal.main_arg0) = m ((c.tc : Thread Cert.DWOutIdeal.nD Cert.DWOutIdeal.τ).loc Cert.DWOutIdeal.main_arg0)
      ∧ r.2.mem ((c.tc : Thread Cert.DWOutIdeal.nD Cert.DWOutIdeal.τ).loc Cert.DWOutIdeal.main_arg1) = m ((c.tc : Thread Cert.DWOutIdeal.nD Cert.DWOutIdeal.τ).loc Cert.DWOutIdeal.main_arg1))
      ∧ r.2.sem = fun _ => 0)

def quiescent_RefDWOutIdeal [hRefDWOutIdeal : Cert.RefDWOutIdeal.Facts] : Prop :=
  ∀ (m : (ℓ : Loc Cert.RefDWOutIdeal.nD Cert.RefDWOutIdeal.τ Cert.RefDWOutIdeal.sig) → Buf (Elt Ideal) ℓ) (g : Dev Cert.RefDWOutIdeal.nD → PrngReg), Pre_RefDWOutIdeal m →
    θ_run (Cert.RefDWOutIdeal.defs (F := Ideal)) (onTc (τ := Cert.RefDWOutIdeal.τ) (Cert.RefDWOutIdeal.main (F := Ideal))) ⟨m, fun _ => 0, g⟩ (fun r => (∀ c : Dev Cert.RefDWOutIdeal.nD,
      r.2.mem ((c.tc : Thread Cert.RefDWOutIdeal.nD Cert.RefDWOutIdeal.τ).loc Cert.RefDWOutIdeal.main_arg0) = m ((c.tc : Thread Cert.RefDWOutIdeal.nD Cert.RefDWOutIdeal.τ).loc Cert.RefDWOutIdeal.main_arg0)
      ∧ r.2.mem ((c.tc : Thread Cert.RefDWOutIdeal.nD Cert.RefDWOutIdeal.τ).loc Cert.RefDWOutIdeal.main_arg1) = m ((c.tc : Thread Cert.RefDWOutIdeal.nD Cert.RefDWOutIdeal.τ).loc Cert.RefDWOutIdeal.main_arg1))
      ∧ r.2.sem = fun _ => 0)

def quiescent_DH [hDH : Cert.DH.Facts] : Prop :=
  ∀ (m : (ℓ : Loc Cert.DH.nD Cert.DH.τ Cert.DH.sig) → Buf (Elt Bits) ℓ) (g : Dev Cert.DH.nD → PrngReg), Pre_DH m →
    θ_run (Cert.DH.defs (F := Bits)) (onTc (τ := Cert.DH.τ) (Cert.DH.main (F := Bits))) ⟨m, fun _ => 0, g⟩ (fun r => (∀ c : Dev Cert.DH.nD,
      r.2.mem ((c.tc : Thread Cert.DH.nD Cert.DH.τ).loc Cert.DH.main_arg0) = m ((c.tc : Thread Cert.DH.nD Cert.DH.τ).loc Cert.DH.main_arg0)
      ∧ r.2.mem ((c.tc : Thread Cert.DH.nD Cert.DH.τ).loc Cert.DH.main_arg1) = m ((c.tc : Thread Cert.DH.nD Cert.DH.τ).loc Cert.DH.main_arg1))
      ∧ r.2.sem = fun _ => 0)

def quiescent_DHIdeal [hDHIdeal : Cert.DHIdeal.Facts] : Prop :=
  ∀ (m : (ℓ : Loc Cert.DHIdeal.nD Cert.DHIdeal.τ Cert.DHIdeal.sig) → Buf (Elt Ideal) ℓ) (g : Dev Cert.DHIdeal.nD → PrngReg), Pre_DHIdeal m →
    θ_run (Cert.DHIdeal.defs (F := Ideal)) (onTc (τ := Cert.DHIdeal.τ) (Cert.DHIdeal.main (F := Ideal))) ⟨m, fun _ => 0, g⟩ (fun r => (∀ c : Dev Cert.DHIdeal.nD,
      r.2.mem ((c.tc : Thread Cert.DHIdeal.nD Cert.DHIdeal.τ).loc Cert.DHIdeal.main_arg0) = m ((c.tc : Thread Cert.DHIdeal.nD Cert.DHIdeal.τ).loc Cert.DHIdeal.main_arg0)
      ∧ r.2.mem ((c.tc : Thread Cert.DHIdeal.nD Cert.DHIdeal.τ).loc Cert.DHIdeal.main_arg1) = m ((c.tc : Thread Cert.DHIdeal.nD Cert.DHIdeal.τ).loc Cert.DHIdeal.main_arg1))
      ∧ r.2.sem = fun _ => 0)

def quiescent_RefDHIdeal [hRefDHIdeal : Cert.RefDHIdeal.Facts] : Prop :=
  ∀ (m : (ℓ : Loc Cert.RefDHIdeal.nD Cert.RefDHIdeal.τ Cert.RefDHIdeal.sig) → Buf (Elt Ideal) ℓ) (g : Dev Cert.RefDHIdeal.nD → PrngReg), Pre_RefDHIdeal m →
    θ_run (Cert.RefDHIdeal.defs (F := Ideal)) (onTc (τ := Cert.RefDHIdeal.τ) (Cert.RefDHIdeal.main (F := Ideal))) ⟨m, fun _ => 0, g⟩ (fun r => (∀ c : Dev Cert.RefDHIdeal.nD,
      r.2.mem ((c.tc : Thread Cert.RefDHIdeal.nD Cert.RefDHIdeal.τ).loc Cert.RefDHIdeal.main_arg0) = m ((c.tc : Thread Cert.RefDHIdeal.nD Cert.RefDHIdeal.τ).loc Cert.RefDHIdeal.main_arg0)
      ∧ r.2.mem ((c.tc : Thread Cert.RefDHIdeal.nD Cert.RefDHIdeal.τ).loc Cert.RefDHIdeal.main_arg1) = m ((c.tc : Thread Cert.RefDHIdeal.nD Cert.RefDHIdeal.τ).loc Cert.RefDHIdeal.main_arg1))
      ∧ r.2.sem = fun _ => 0)

def quiescent_DWIn [hDWIn : Cert.DWIn.Facts] : Prop :=
  ∀ (m : (ℓ : Loc Cert.DWIn.nD Cert.DWIn.τ Cert.DWIn.sig) → Buf (Elt Bits) ℓ) (g : Dev Cert.DWIn.nD → PrngReg), Pre_DWIn m →
    θ_run (Cert.DWIn.defs (F := Bits)) (onTc (τ := Cert.DWIn.τ) (Cert.DWIn.main (F := Bits))) ⟨m, fun _ => 0, g⟩ (fun r => (∀ c : Dev Cert.DWIn.nD,
      r.2.mem ((c.tc : Thread Cert.DWIn.nD Cert.DWIn.τ).loc Cert.DWIn.main_arg0) = m ((c.tc : Thread Cert.DWIn.nD Cert.DWIn.τ).loc Cert.DWIn.main_arg0)
      ∧ r.2.mem ((c.tc : Thread Cert.DWIn.nD Cert.DWIn.τ).loc Cert.DWIn.main_arg1) = m ((c.tc : Thread Cert.DWIn.nD Cert.DWIn.τ).loc Cert.DWIn.main_arg1))
      ∧ r.2.sem = fun _ => 0)

def quiescent_DWInIdeal [hDWInIdeal : Cert.DWInIdeal.Facts] : Prop :=
  ∀ (m : (ℓ : Loc Cert.DWInIdeal.nD Cert.DWInIdeal.τ Cert.DWInIdeal.sig) → Buf (Elt Ideal) ℓ) (g : Dev Cert.DWInIdeal.nD → PrngReg), Pre_DWInIdeal m →
    θ_run (Cert.DWInIdeal.defs (F := Ideal)) (onTc (τ := Cert.DWInIdeal.τ) (Cert.DWInIdeal.main (F := Ideal))) ⟨m, fun _ => 0, g⟩ (fun r => (∀ c : Dev Cert.DWInIdeal.nD,
      r.2.mem ((c.tc : Thread Cert.DWInIdeal.nD Cert.DWInIdeal.τ).loc Cert.DWInIdeal.main_arg0) = m ((c.tc : Thread Cert.DWInIdeal.nD Cert.DWInIdeal.τ).loc Cert.DWInIdeal.main_arg0)
      ∧ r.2.mem ((c.tc : Thread Cert.DWInIdeal.nD Cert.DWInIdeal.τ).loc Cert.DWInIdeal.main_arg1) = m ((c.tc : Thread Cert.DWInIdeal.nD Cert.DWInIdeal.τ).loc Cert.DWInIdeal.main_arg1))
      ∧ r.2.sem = fun _ => 0)

def quiescent_RefDWInIdeal [hRefDWInIdeal : Cert.RefDWInIdeal.Facts] : Prop :=
  ∀ (m : (ℓ : Loc Cert.RefDWInIdeal.nD Cert.RefDWInIdeal.τ Cert.RefDWInIdeal.sig) → Buf (Elt Ideal) ℓ) (g : Dev Cert.RefDWInIdeal.nD → PrngReg), Pre_RefDWInIdeal m →
    θ_run (Cert.RefDWInIdeal.defs (F := Ideal)) (onTc (τ := Cert.RefDWInIdeal.τ) (Cert.RefDWInIdeal.main (F := Ideal))) ⟨m, fun _ => 0, g⟩ (fun r => (∀ c : Dev Cert.RefDWInIdeal.nD,
      r.2.mem ((c.tc : Thread Cert.RefDWInIdeal.nD Cert.RefDWInIdeal.τ).loc Cert.RefDWInIdeal.main_arg0) = m ((c.tc : Thread Cert.RefDWInIdeal.nD Cert.RefDWInIdeal.τ).loc Cert.RefDWInIdeal.main_arg0)
      ∧ r.2.mem ((c.tc : Thread Cert.RefDWInIdeal.nD Cert.RefDWInIdeal.τ).loc Cert.RefDWInIdeal.main_arg1) = m ((c.tc : Thread Cert.RefDWInIdeal.nD Cert.RefDWInIdeal.τ).loc Cert.RefDWInIdeal.main_arg1))
      ∧ r.2.sem = fun _ => 0)

def quiescent_DMixed [hDMixed : Cert.DMixed.Facts] : Prop :=
  ∀ (m : (ℓ : Loc Cert.DMixed.nD Cert.DMixed.τ Cert.DMixed.sig) → Buf (Elt Bits) ℓ) (g : Dev Cert.DMixed.nD → PrngReg), Pre_DMixed m →
    θ_run (Cert.DMixed.defs (F := Bits)) (onTc (τ := Cert.DMixed.τ) (Cert.DMixed.main (F := Bits))) ⟨m, fun _ => 0, g⟩ (fun r => (∀ c : Dev Cert.DMixed.nD,
      r.2.mem ((c.tc : Thread Cert.DMixed.nD Cert.DMixed.τ).loc Cert.DMixed.main_arg0) = m ((c.tc : Thread Cert.DMixed.nD Cert.DMixed.τ).loc Cert.DMixed.main_arg0)
      ∧ r.2.mem ((c.tc : Thread Cert.DMixed.nD Cert.DMixed.τ).loc Cert.DMixed.main_arg1) = m ((c.tc : Thread Cert.DMixed.nD Cert.DMixed.τ).loc Cert.DMixed.main_arg1))
      ∧ r.2.sem = fun _ => 0)

def quiescent_DMixedIdeal [hDMixedIdeal : Cert.DMixedIdeal.Facts] : Prop :=
  ∀ (m : (ℓ : Loc Cert.DMixedIdeal.nD Cert.DMixedIdeal.τ Cert.DMixedIdeal.sig) → Buf (Elt Ideal) ℓ) (g : Dev Cert.DMixedIdeal.nD → PrngReg), Pre_DMixedIdeal m →
    θ_run (Cert.DMixedIdeal.defs (F := Ideal)) (onTc (τ := Cert.DMixedIdeal.τ) (Cert.DMixedIdeal.main (F := Ideal))) ⟨m, fun _ => 0, g⟩ (fun r => (∀ c : Dev Cert.DMixedIdeal.nD,
      r.2.mem ((c.tc : Thread Cert.DMixedIdeal.nD Cert.DMixedIdeal.τ).loc Cert.DMixedIdeal.main_arg0) = m ((c.tc : Thread Cert.DMixedIdeal.nD Cert.DMixedIdeal.τ).loc Cert.DMixedIdeal.main_arg0)
      ∧ r.2.mem ((c.tc : Thread Cert.DMixedIdeal.nD Cert.DMixedIdeal.τ).loc Cert.DMixedIdeal.main_arg1) = m ((c.tc : Thread Cert.DMixedIdeal.nD Cert.DMixedIdeal.τ).loc Cert.DMixedIdeal.main_arg1))
      ∧ r.2.sem = fun _ => 0)

def quiescent_RefDMixedIdeal [hRefDMixedIdeal : Cert.RefDMixedIdeal.Facts] : Prop :=
  ∀ (m : (ℓ : Loc Cert.RefDMixedIdeal.nD Cert.RefDMixedIdeal.τ Cert.RefDMixedIdeal.sig) → Buf (Elt Ideal) ℓ) (g : Dev Cert.RefDMixedIdeal.nD → PrngReg), Pre_RefDMixedIdeal m →
    θ_run (Cert.RefDMixedIdeal.defs (F := Ideal)) (onTc (τ := Cert.RefDMixedIdeal.τ) (Cert.RefDMixedIdeal.main (F := Ideal))) ⟨m, fun _ => 0, g⟩ (fun r => (∀ c : Dev Cert.RefDMixedIdeal.nD,
      r.2.mem ((c.tc : Thread Cert.RefDMixedIdeal.nD Cert.RefDMixedIdeal.τ).loc Cert.RefDMixedIdeal.main_arg0) = m ((c.tc : Thread Cert.RefDMixedIdeal.nD Cert.RefDMixedIdeal.τ).loc Cert.RefDMixedIdeal.main_arg0)
      ∧ r.2.mem ((c.tc : Thread Cert.RefDMixedIdeal.nD Cert.RefDMixedIdeal.τ).loc Cert.RefDMixedIdeal.main_arg1) = m ((c.tc : Thread Cert.RefDMixedIdeal.nD Cert.RefDMixedIdeal.τ).loc Cert.RefDMixedIdeal.main_arg1))
      ∧ r.2.sem = fun _ => 0)

def quiescent_DWProj [hDWProj : Cert.DWProj.Facts] : Prop :=
  ∀ (m : (ℓ : Loc Cert.DWProj.nD Cert.DWProj.τ Cert.DWProj.sig) → Buf (Elt Bits) ℓ) (g : Dev Cert.DWProj.nD → PrngReg), Pre_DWProj m →
    θ_run (Cert.DWProj.defs (F := Bits)) (onTc (τ := Cert.DWProj.τ) (Cert.DWProj.main (F := Bits))) ⟨m, fun _ => 0, g⟩ (fun r => (∀ c : Dev Cert.DWProj.nD,
      r.2.mem ((c.tc : Thread Cert.DWProj.nD Cert.DWProj.τ).loc Cert.DWProj.main_arg0) = m ((c.tc : Thread Cert.DWProj.nD Cert.DWProj.τ).loc Cert.DWProj.main_arg0)
      ∧ r.2.mem ((c.tc : Thread Cert.DWProj.nD Cert.DWProj.τ).loc Cert.DWProj.main_arg1) = m ((c.tc : Thread Cert.DWProj.nD Cert.DWProj.τ).loc Cert.DWProj.main_arg1))
      ∧ r.2.sem = fun _ => 0)

def quiescent_DWProjIdeal [hDWProjIdeal : Cert.DWProjIdeal.Facts] : Prop :=
  ∀ (m : (ℓ : Loc Cert.DWProjIdeal.nD Cert.DWProjIdeal.τ Cert.DWProjIdeal.sig) → Buf (Elt Ideal) ℓ) (g : Dev Cert.DWProjIdeal.nD → PrngReg), Pre_DWProjIdeal m →
    θ_run (Cert.DWProjIdeal.defs (F := Ideal)) (onTc (τ := Cert.DWProjIdeal.τ) (Cert.DWProjIdeal.main (F := Ideal))) ⟨m, fun _ => 0, g⟩ (fun r => (∀ c : Dev Cert.DWProjIdeal.nD,
      r.2.mem ((c.tc : Thread Cert.DWProjIdeal.nD Cert.DWProjIdeal.τ).loc Cert.DWProjIdeal.main_arg0) = m ((c.tc : Thread Cert.DWProjIdeal.nD Cert.DWProjIdeal.τ).loc Cert.DWProjIdeal.main_arg0)
      ∧ r.2.mem ((c.tc : Thread Cert.DWProjIdeal.nD Cert.DWProjIdeal.τ).loc Cert.DWProjIdeal.main_arg1) = m ((c.tc : Thread Cert.DWProjIdeal.nD Cert.DWProjIdeal.τ).loc Cert.DWProjIdeal.main_arg1))
      ∧ r.2.sem = fun _ => 0)

def quiescent_RefDWProjIdeal [hRefDWProjIdeal : Cert.RefDWProjIdeal.Facts] : Prop :=
  ∀ (m : (ℓ : Loc Cert.RefDWProjIdeal.nD Cert.RefDWProjIdeal.τ Cert.RefDWProjIdeal.sig) → Buf (Elt Ideal) ℓ) (g : Dev Cert.RefDWProjIdeal.nD → PrngReg), Pre_RefDWProjIdeal m →
    θ_run (Cert.RefDWProjIdeal.defs (F := Ideal)) (onTc (τ := Cert.RefDWProjIdeal.τ) (Cert.RefDWProjIdeal.main (F := Ideal))) ⟨m, fun _ => 0, g⟩ (fun r => (∀ c : Dev Cert.RefDWProjIdeal.nD,
      r.2.mem ((c.tc : Thread Cert.RefDWProjIdeal.nD Cert.RefDWProjIdeal.τ).loc Cert.RefDWProjIdeal.main_arg0) = m ((c.tc : Thread Cert.RefDWProjIdeal.nD Cert.RefDWProjIdeal.τ).loc Cert.RefDWProjIdeal.main_arg0)
      ∧ r.2.mem ((c.tc : Thread Cert.RefDWProjIdeal.nD Cert.RefDWProjIdeal.τ).loc Cert.RefDWProjIdeal.main_arg1) = m ((c.tc : Thread Cert.RefDWProjIdeal.nD Cert.RefDWProjIdeal.τ).loc Cert.RefDWProjIdeal.main_arg1))
      ∧ r.2.sem = fun _ => 0)

def quiescent_DWQkv [hDWQkv : Cert.DWQkv.Facts] : Prop :=
  ∀ (m : (ℓ : Loc Cert.DWQkv.nD Cert.DWQkv.τ Cert.DWQkv.sig) → Buf (Elt Bits) ℓ) (g : Dev Cert.DWQkv.nD → PrngReg), Pre_DWQkv m →
    θ_run (Cert.DWQkv.defs (F := Bits)) (onTc (τ := Cert.DWQkv.τ) (Cert.DWQkv.main (F := Bits))) ⟨m, fun _ => 0, g⟩ (fun r => (∀ c : Dev Cert.DWQkv.nD,
      r.2.mem ((c.tc : Thread Cert.DWQkv.nD Cert.DWQkv.τ).loc Cert.DWQkv.main_arg0) = m ((c.tc : Thread Cert.DWQkv.nD Cert.DWQkv.τ).loc Cert.DWQkv.main_arg0)
      ∧ r.2.mem ((c.tc : Thread Cert.DWQkv.nD Cert.DWQkv.τ).loc Cert.DWQkv.main_arg1) = m ((c.tc : Thread Cert.DWQkv.nD Cert.DWQkv.τ).loc Cert.DWQkv.main_arg1))
      ∧ r.2.sem = fun _ => 0)

def quiescent_DWQkvIdeal [hDWQkvIdeal : Cert.DWQkvIdeal.Facts] : Prop :=
  ∀ (m : (ℓ : Loc Cert.DWQkvIdeal.nD Cert.DWQkvIdeal.τ Cert.DWQkvIdeal.sig) → Buf (Elt Ideal) ℓ) (g : Dev Cert.DWQkvIdeal.nD → PrngReg), Pre_DWQkvIdeal m →
    θ_run (Cert.DWQkvIdeal.defs (F := Ideal)) (onTc (τ := Cert.DWQkvIdeal.τ) (Cert.DWQkvIdeal.main (F := Ideal))) ⟨m, fun _ => 0, g⟩ (fun r => (∀ c : Dev Cert.DWQkvIdeal.nD,
      r.2.mem ((c.tc : Thread Cert.DWQkvIdeal.nD Cert.DWQkvIdeal.τ).loc Cert.DWQkvIdeal.main_arg0) = m ((c.tc : Thread Cert.DWQkvIdeal.nD Cert.DWQkvIdeal.τ).loc Cert.DWQkvIdeal.main_arg0)
      ∧ r.2.mem ((c.tc : Thread Cert.DWQkvIdeal.nD Cert.DWQkvIdeal.τ).loc Cert.DWQkvIdeal.main_arg1) = m ((c.tc : Thread Cert.DWQkvIdeal.nD Cert.DWQkvIdeal.τ).loc Cert.DWQkvIdeal.main_arg1))
      ∧ r.2.sem = fun _ => 0)

def quiescent_RefDWQkvIdeal [hRefDWQkvIdeal : Cert.RefDWQkvIdeal.Facts] : Prop :=
  ∀ (m : (ℓ : Loc Cert.RefDWQkvIdeal.nD Cert.RefDWQkvIdeal.τ Cert.RefDWQkvIdeal.sig) → Buf (Elt Ideal) ℓ) (g : Dev Cert.RefDWQkvIdeal.nD → PrngReg), Pre_RefDWQkvIdeal m →
    θ_run (Cert.RefDWQkvIdeal.defs (F := Ideal)) (onTc (τ := Cert.RefDWQkvIdeal.τ) (Cert.RefDWQkvIdeal.main (F := Ideal))) ⟨m, fun _ => 0, g⟩ (fun r => (∀ c : Dev Cert.RefDWQkvIdeal.nD,
      r.2.mem ((c.tc : Thread Cert.RefDWQkvIdeal.nD Cert.RefDWQkvIdeal.τ).loc Cert.RefDWQkvIdeal.main_arg0) = m ((c.tc : Thread Cert.RefDWQkvIdeal.nD Cert.RefDWQkvIdeal.τ).loc Cert.RefDWQkvIdeal.main_arg0)
      ∧ r.2.mem ((c.tc : Thread Cert.RefDWQkvIdeal.nD Cert.RefDWQkvIdeal.τ).loc Cert.RefDWQkvIdeal.main_arg1) = m ((c.tc : Thread Cert.RefDWQkvIdeal.nD Cert.RefDWQkvIdeal.τ).loc Cert.RefDWQkvIdeal.main_arg1))
      ∧ r.2.sem = fun _ => 0)

def quiescent_DWF [hDWF : Cert.DWF.Facts] : Prop :=
  ∀ (m : (ℓ : Loc Cert.DWF.nD Cert.DWF.τ Cert.DWF.sig) → Buf (Elt Bits) ℓ) (g : Dev Cert.DWF.nD → PrngReg), Pre_DWF m →
    θ_run (Cert.DWF.defs (F := Bits)) (onTc (τ := Cert.DWF.τ) (Cert.DWF.main (F := Bits))) ⟨m, fun _ => 0, g⟩ (fun r => (∀ c : Dev Cert.DWF.nD,
      r.2.mem ((c.tc : Thread Cert.DWF.nD Cert.DWF.τ).loc Cert.DWF.main_arg0) = m ((c.tc : Thread Cert.DWF.nD Cert.DWF.τ).loc Cert.DWF.main_arg0)
      ∧ r.2.mem ((c.tc : Thread Cert.DWF.nD Cert.DWF.τ).loc Cert.DWF.main_arg1) = m ((c.tc : Thread Cert.DWF.nD Cert.DWF.τ).loc Cert.DWF.main_arg1))
      ∧ r.2.sem = fun _ => 0)

def quiescent_DWFIdeal [hDWFIdeal : Cert.DWFIdeal.Facts] : Prop :=
  ∀ (m : (ℓ : Loc Cert.DWFIdeal.nD Cert.DWFIdeal.τ Cert.DWFIdeal.sig) → Buf (Elt Ideal) ℓ) (g : Dev Cert.DWFIdeal.nD → PrngReg), Pre_DWFIdeal m →
    θ_run (Cert.DWFIdeal.defs (F := Ideal)) (onTc (τ := Cert.DWFIdeal.τ) (Cert.DWFIdeal.main (F := Ideal))) ⟨m, fun _ => 0, g⟩ (fun r => (∀ c : Dev Cert.DWFIdeal.nD,
      r.2.mem ((c.tc : Thread Cert.DWFIdeal.nD Cert.DWFIdeal.τ).loc Cert.DWFIdeal.main_arg0) = m ((c.tc : Thread Cert.DWFIdeal.nD Cert.DWFIdeal.τ).loc Cert.DWFIdeal.main_arg0)
      ∧ r.2.mem ((c.tc : Thread Cert.DWFIdeal.nD Cert.DWFIdeal.τ).loc Cert.DWFIdeal.main_arg1) = m ((c.tc : Thread Cert.DWFIdeal.nD Cert.DWFIdeal.τ).loc Cert.DWFIdeal.main_arg1))
      ∧ r.2.sem = fun _ => 0)

def quiescent_RefDWFIdeal [hRefDWFIdeal : Cert.RefDWFIdeal.Facts] : Prop :=
  ∀ (m : (ℓ : Loc Cert.RefDWFIdeal.nD Cert.RefDWFIdeal.τ Cert.RefDWFIdeal.sig) → Buf (Elt Ideal) ℓ) (g : Dev Cert.RefDWFIdeal.nD → PrngReg), Pre_RefDWFIdeal m →
    θ_run (Cert.RefDWFIdeal.defs (F := Ideal)) (onTc (τ := Cert.RefDWFIdeal.τ) (Cert.RefDWFIdeal.main (F := Ideal))) ⟨m, fun _ => 0, g⟩ (fun r => (∀ c : Dev Cert.RefDWFIdeal.nD,
      r.2.mem ((c.tc : Thread Cert.RefDWFIdeal.nD Cert.RefDWFIdeal.τ).loc Cert.RefDWFIdeal.main_arg0) = m ((c.tc : Thread Cert.RefDWFIdeal.nD Cert.RefDWFIdeal.τ).loc Cert.RefDWFIdeal.main_arg0)
      ∧ r.2.mem ((c.tc : Thread Cert.RefDWFIdeal.nD Cert.RefDWFIdeal.τ).loc Cert.RefDWFIdeal.main_arg1) = m ((c.tc : Thread Cert.RefDWFIdeal.nD Cert.RefDWFIdeal.τ).loc Cert.RefDWFIdeal.main_arg1))
      ∧ r.2.sem = fun _ => 0)

def quiescent_DHF [hDHF : Cert.DHF.Facts] : Prop :=
  ∀ (m : (ℓ : Loc Cert.DHF.nD Cert.DHF.τ Cert.DHF.sig) → Buf (Elt Bits) ℓ) (g : Dev Cert.DHF.nD → PrngReg), Pre_DHF m →
    θ_run (Cert.DHF.defs (F := Bits)) (onTc (τ := Cert.DHF.τ) (Cert.DHF.main (F := Bits))) ⟨m, fun _ => 0, g⟩ (fun r => (∀ c : Dev Cert.DHF.nD,
      r.2.mem ((c.tc : Thread Cert.DHF.nD Cert.DHF.τ).loc Cert.DHF.main_arg0) = m ((c.tc : Thread Cert.DHF.nD Cert.DHF.τ).loc Cert.DHF.main_arg0)
      ∧ r.2.mem ((c.tc : Thread Cert.DHF.nD Cert.DHF.τ).loc Cert.DHF.main_arg1) = m ((c.tc : Thread Cert.DHF.nD Cert.DHF.τ).loc Cert.DHF.main_arg1))
      ∧ r.2.sem = fun _ => 0)

def quiescent_DHFIdeal [hDHFIdeal : Cert.DHFIdeal.Facts] : Prop :=
  ∀ (m : (ℓ : Loc Cert.DHFIdeal.nD Cert.DHFIdeal.τ Cert.DHFIdeal.sig) → Buf (Elt Ideal) ℓ) (g : Dev Cert.DHFIdeal.nD → PrngReg), Pre_DHFIdeal m →
    θ_run (Cert.DHFIdeal.defs (F := Ideal)) (onTc (τ := Cert.DHFIdeal.τ) (Cert.DHFIdeal.main (F := Ideal))) ⟨m, fun _ => 0, g⟩ (fun r => (∀ c : Dev Cert.DHFIdeal.nD,
      r.2.mem ((c.tc : Thread Cert.DHFIdeal.nD Cert.DHFIdeal.τ).loc Cert.DHFIdeal.main_arg0) = m ((c.tc : Thread Cert.DHFIdeal.nD Cert.DHFIdeal.τ).loc Cert.DHFIdeal.main_arg0)
      ∧ r.2.mem ((c.tc : Thread Cert.DHFIdeal.nD Cert.DHFIdeal.τ).loc Cert.DHFIdeal.main_arg1) = m ((c.tc : Thread Cert.DHFIdeal.nD Cert.DHFIdeal.τ).loc Cert.DHFIdeal.main_arg1))
      ∧ r.2.sem = fun _ => 0)

def quiescent_RefDHFIdeal [hRefDHFIdeal : Cert.RefDHFIdeal.Facts] : Prop :=
  ∀ (m : (ℓ : Loc Cert.RefDHFIdeal.nD Cert.RefDHFIdeal.τ Cert.RefDHFIdeal.sig) → Buf (Elt Ideal) ℓ) (g : Dev Cert.RefDHFIdeal.nD → PrngReg), Pre_RefDHFIdeal m →
    θ_run (Cert.RefDHFIdeal.defs (F := Ideal)) (onTc (τ := Cert.RefDHFIdeal.τ) (Cert.RefDHFIdeal.main (F := Ideal))) ⟨m, fun _ => 0, g⟩ (fun r => (∀ c : Dev Cert.RefDHFIdeal.nD,
      r.2.mem ((c.tc : Thread Cert.RefDHFIdeal.nD Cert.RefDHFIdeal.τ).loc Cert.RefDHFIdeal.main_arg0) = m ((c.tc : Thread Cert.RefDHFIdeal.nD Cert.RefDHFIdeal.τ).loc Cert.RefDHFIdeal.main_arg0)
      ∧ r.2.mem ((c.tc : Thread Cert.RefDHFIdeal.nD Cert.RefDHFIdeal.τ).loc Cert.RefDHFIdeal.main_arg1) = m ((c.tc : Thread Cert.RefDHFIdeal.nD Cert.RefDHFIdeal.τ).loc Cert.RefDHFIdeal.main_arg1))
      ∧ r.2.sem = fun _ => 0)

def quiescent_DHQkv [hDHQkv : Cert.DHQkv.Facts] : Prop :=
  ∀ (m : (ℓ : Loc Cert.DHQkv.nD Cert.DHQkv.τ Cert.DHQkv.sig) → Buf (Elt Bits) ℓ) (g : Dev Cert.DHQkv.nD → PrngReg), Pre_DHQkv m →
    θ_run (Cert.DHQkv.defs (F := Bits)) (onTc (τ := Cert.DHQkv.τ) (Cert.DHQkv.main (F := Bits))) ⟨m, fun _ => 0, g⟩ (fun r => (∀ c : Dev Cert.DHQkv.nD,
      r.2.mem ((c.tc : Thread Cert.DHQkv.nD Cert.DHQkv.τ).loc Cert.DHQkv.main_arg0) = m ((c.tc : Thread Cert.DHQkv.nD Cert.DHQkv.τ).loc Cert.DHQkv.main_arg0)
      ∧ r.2.mem ((c.tc : Thread Cert.DHQkv.nD Cert.DHQkv.τ).loc Cert.DHQkv.main_arg1) = m ((c.tc : Thread Cert.DHQkv.nD Cert.DHQkv.τ).loc Cert.DHQkv.main_arg1)
      ∧ r.2.mem ((c.tc : Thread Cert.DHQkv.nD Cert.DHQkv.τ).loc Cert.DHQkv.main_arg2) = m ((c.tc : Thread Cert.DHQkv.nD Cert.DHQkv.τ).loc Cert.DHQkv.main_arg2))
      ∧ r.2.sem = fun _ => 0)

def quiescent_DHQkvIdeal [hDHQkvIdeal : Cert.DHQkvIdeal.Facts] : Prop :=
  ∀ (m : (ℓ : Loc Cert.DHQkvIdeal.nD Cert.DHQkvIdeal.τ Cert.DHQkvIdeal.sig) → Buf (Elt Ideal) ℓ) (g : Dev Cert.DHQkvIdeal.nD → PrngReg), Pre_DHQkvIdeal m →
    θ_run (Cert.DHQkvIdeal.defs (F := Ideal)) (onTc (τ := Cert.DHQkvIdeal.τ) (Cert.DHQkvIdeal.main (F := Ideal))) ⟨m, fun _ => 0, g⟩ (fun r => (∀ c : Dev Cert.DHQkvIdeal.nD,
      r.2.mem ((c.tc : Thread Cert.DHQkvIdeal.nD Cert.DHQkvIdeal.τ).loc Cert.DHQkvIdeal.main_arg0) = m ((c.tc : Thread Cert.DHQkvIdeal.nD Cert.DHQkvIdeal.τ).loc Cert.DHQkvIdeal.main_arg0)
      ∧ r.2.mem ((c.tc : Thread Cert.DHQkvIdeal.nD Cert.DHQkvIdeal.τ).loc Cert.DHQkvIdeal.main_arg1) = m ((c.tc : Thread Cert.DHQkvIdeal.nD Cert.DHQkvIdeal.τ).loc Cert.DHQkvIdeal.main_arg1)
      ∧ r.2.mem ((c.tc : Thread Cert.DHQkvIdeal.nD Cert.DHQkvIdeal.τ).loc Cert.DHQkvIdeal.main_arg2) = m ((c.tc : Thread Cert.DHQkvIdeal.nD Cert.DHQkvIdeal.τ).loc Cert.DHQkvIdeal.main_arg2))
      ∧ r.2.sem = fun _ => 0)

def quiescent_RefDHQkvIdeal [hRefDHQkvIdeal : Cert.RefDHQkvIdeal.Facts] : Prop :=
  ∀ (m : (ℓ : Loc Cert.RefDHQkvIdeal.nD Cert.RefDHQkvIdeal.τ Cert.RefDHQkvIdeal.sig) → Buf (Elt Ideal) ℓ) (g : Dev Cert.RefDHQkvIdeal.nD → PrngReg), Pre_RefDHQkvIdeal m →
    θ_run (Cert.RefDHQkvIdeal.defs (F := Ideal)) (onTc (τ := Cert.RefDHQkvIdeal.τ) (Cert.RefDHQkvIdeal.main (F := Ideal))) ⟨m, fun _ => 0, g⟩ (fun r => (∀ c : Dev Cert.RefDHQkvIdeal.nD,
      r.2.mem ((c.tc : Thread Cert.RefDHQkvIdeal.nD Cert.RefDHQkvIdeal.τ).loc Cert.RefDHQkvIdeal.main_arg0) = m ((c.tc : Thread Cert.RefDHQkvIdeal.nD Cert.RefDHQkvIdeal.τ).loc Cert.RefDHQkvIdeal.main_arg0)
      ∧ r.2.mem ((c.tc : Thread Cert.RefDHQkvIdeal.nD Cert.RefDHQkvIdeal.τ).loc Cert.RefDHQkvIdeal.main_arg1) = m ((c.tc : Thread Cert.RefDHQkvIdeal.nD Cert.RefDHQkvIdeal.τ).loc Cert.RefDHQkvIdeal.main_arg1)
      ∧ r.2.mem ((c.tc : Thread Cert.RefDHQkvIdeal.nD Cert.RefDHQkvIdeal.τ).loc Cert.RefDHQkvIdeal.main_arg2) = m ((c.tc : Thread Cert.RefDHQkvIdeal.nD Cert.RefDHQkvIdeal.τ).loc Cert.RefDHQkvIdeal.main_arg2))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ r.2.sem = fun _ => 0)

def quiescent_RefProjAIdeal [hRefProjAIdeal : Cert.RefProjAIdeal.Facts] : Prop :=
  ∀ (m : (ℓ : Loc Cert.RefProjAIdeal.nD Cert.RefProjAIdeal.τ Cert.RefProjAIdeal.sig) → Buf (Elt Ideal) ℓ) (g : Dev Cert.RefProjAIdeal.nD → PrngReg), Pre_RefProjAIdeal m →
    θ_run (Cert.RefProjAIdeal.defs (F := Ideal)) (onTc (τ := Cert.RefProjAIdeal.τ) (Cert.RefProjAIdeal.main (F := Ideal))) ⟨m, fun _ => 0, g⟩ (fun r => (∀ c : Dev Cert.RefProjAIdeal.nD,
      r.2.mem ((c.tc : Thread Cert.RefProjAIdeal.nD Cert.RefProjAIdeal.τ).loc Cert.RefProjAIdeal.main_arg0) = m ((c.tc : Thread Cert.RefProjAIdeal.nD Cert.RefProjAIdeal.τ).loc Cert.RefProjAIdeal.main_arg0)
      ∧ r.2.mem ((c.tc : Thread Cert.RefProjAIdeal.nD Cert.RefProjAIdeal.τ).loc Cert.RefProjAIdeal.main_arg1) = m ((c.tc : Thread Cert.RefProjAIdeal.nD Cert.RefProjAIdeal.τ).loc Cert.RefProjAIdeal.main_arg1))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ r.2.sem = fun _ => 0)

def quiescent_RefProjBIdeal [hRefProjBIdeal : Cert.RefProjBIdeal.Facts] : Prop :=
  ∀ (m : (ℓ : Loc Cert.RefProjBIdeal.nD Cert.RefProjBIdeal.τ Cert.RefProjBIdeal.sig) → Buf (Elt Ideal) ℓ) (g : Dev Cert.RefProjBIdeal.nD → PrngReg), Pre_RefProjBIdeal m →
    θ_run (Cert.RefProjBIdeal.defs (F := Ideal)) (onTc (τ := Cert.RefProjBIdeal.τ) (Cert.RefProjBIdeal.main (F := Ideal))) ⟨m, fun _ => 0, g⟩ (fun r => (∀ c : Dev Cert.RefProjBIdeal.nD,
      r.2.mem ((c.tc : Thread Cert.RefProjBIdeal.nD Cert.RefProjBIdeal.τ).loc Cert.RefProjBIdeal.main_arg0) = m ((c.tc : Thread Cert.RefProjBIdeal.nD Cert.RefProjBIdeal.τ).loc Cert.RefProjBIdeal.main_arg0)
      ∧ r.2.mem ((c.tc : Thread Cert.RefProjBIdeal.nD Cert.RefProjBIdeal.τ).loc Cert.RefProjBIdeal.main_arg1) = m ((c.tc : Thread Cert.RefProjBIdeal.nD Cert.RefProjBIdeal.τ).loc Cert.RefProjBIdeal.main_arg1))
      ∧ r.2.sem = fun _ => 0)

def quiescent_ProjF [hProjF : Cert.ProjF.Facts] : Prop :=
  ∀ (m : (ℓ : Loc Cert.ProjF.nD Cert.ProjF.τ Cert.ProjF.sig) → Buf (Elt Bits) ℓ) (g : Dev Cert.ProjF.nD → PrngReg), Pre_ProjF m →
    θ_run (Cert.ProjF.defs (F := Bits)) (onTc (τ := Cert.ProjF.τ) (Cert.ProjF.main (F := Bits))) ⟨m, fun _ => 0, g⟩ (fun r => (∀ c : Dev Cert.ProjF.nD,
      r.2.mem ((c.tc : Thread Cert.ProjF.nD Cert.ProjF.τ).loc Cert.ProjF.main_arg0) = m ((c.tc : Thread Cert.ProjF.nD Cert.ProjF.τ).loc Cert.ProjF.main_arg0)
      ∧ r.2.mem ((c.tc : Thread Cert.ProjF.nD Cert.ProjF.τ).loc Cert.ProjF.main_arg1) = m ((c.tc : Thread Cert.ProjF.nD Cert.ProjF.τ).loc Cert.ProjF.main_arg1))
      ∧ r.2.sem = fun _ => 0)

def quiescent_ProjFIdeal [hProjFIdeal : Cert.ProjFIdeal.Facts] : Prop :=
  ∀ (m : (ℓ : Loc Cert.ProjFIdeal.nD Cert.ProjFIdeal.τ Cert.ProjFIdeal.sig) → Buf (Elt Ideal) ℓ) (g : Dev Cert.ProjFIdeal.nD → PrngReg), Pre_ProjFIdeal m →
    θ_run (Cert.ProjFIdeal.defs (F := Ideal)) (onTc (τ := Cert.ProjFIdeal.τ) (Cert.ProjFIdeal.main (F := Ideal))) ⟨m, fun _ => 0, g⟩ (fun r => (∀ c : Dev Cert.ProjFIdeal.nD,
      r.2.mem ((c.tc : Thread Cert.ProjFIdeal.nD Cert.ProjFIdeal.τ).loc Cert.ProjFIdeal.main_arg0) = m ((c.tc : Thread Cert.ProjFIdeal.nD Cert.ProjFIdeal.τ).loc Cert.ProjFIdeal.main_arg0)
      ∧ r.2.mem ((c.tc : Thread Cert.ProjFIdeal.nD Cert.ProjFIdeal.τ).loc Cert.ProjFIdeal.main_arg1) = m ((c.tc : Thread Cert.ProjFIdeal.nD Cert.ProjFIdeal.τ).loc Cert.ProjFIdeal.main_arg1))
      ∧ r.2.sem = fun _ => 0)

def quiescent_RefProjFIdeal [hRefProjFIdeal : Cert.RefProjFIdeal.Facts] : Prop :=
  ∀ (m : (ℓ : Loc Cert.RefProjFIdeal.nD Cert.RefProjFIdeal.τ Cert.RefProjFIdeal.sig) → Buf (Elt Ideal) ℓ) (g : Dev Cert.RefProjFIdeal.nD → PrngReg), Pre_RefProjFIdeal m →
    θ_run (Cert.RefProjFIdeal.defs (F := Ideal)) (onTc (τ := Cert.RefProjFIdeal.τ) (Cert.RefProjFIdeal.main (F := Ideal))) ⟨m, fun _ => 0, g⟩ (fun r => (∀ c : Dev Cert.RefProjFIdeal.nD,
      r.2.mem ((c.tc : Thread Cert.RefProjFIdeal.nD Cert.RefProjFIdeal.τ).loc Cert.RefProjFIdeal.main_arg0) = m ((c.tc : Thread Cert.RefProjFIdeal.nD Cert.RefProjFIdeal.τ).loc Cert.RefProjFIdeal.main_arg0)
      ∧ r.2.mem ((c.tc : Thread Cert.RefProjFIdeal.nD Cert.RefProjFIdeal.τ).loc Cert.RefProjFIdeal.main_arg1) = m ((c.tc : Thread Cert.RefProjFIdeal.nD Cert.RefProjFIdeal.τ).loc Cert.RefProjFIdeal.main_arg1))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2))
      ∧ r.2.sem = fun _ => 0)

def quiescent_RefAttnOutIdeal [hRefAttnOutIdeal : Cert.RefAttnOutIdeal.Facts] : Prop :=
  ∀ (m : (ℓ : Loc Cert.RefAttnOutIdeal.nD Cert.RefAttnOutIdeal.τ Cert.RefAttnOutIdeal.sig) → Buf (Elt Ideal) ℓ) (g : Dev Cert.RefAttnOutIdeal.nD → PrngReg), Pre_RefAttnOutIdeal m →
    θ_run (Cert.RefAttnOutIdeal.defs (F := Ideal)) (onTc (τ := Cert.RefAttnOutIdeal.τ) (Cert.RefAttnOutIdeal.main (F := Ideal))) ⟨m, fun _ => 0, g⟩ (fun r => (∀ c : Dev Cert.RefAttnOutIdeal.nD,
      r.2.mem ((c.tc : Thread Cert.RefAttnOutIdeal.nD Cert.RefAttnOutIdeal.τ).loc Cert.RefAttnOutIdeal.main_arg0) = m ((c.tc : Thread Cert.RefAttnOutIdeal.nD Cert.RefAttnOutIdeal.τ).loc Cert.RefAttnOutIdeal.main_arg0)
      ∧ r.2.mem ((c.tc : Thread Cert.RefAttnOutIdeal.nD Cert.RefAttnOutIdeal.τ).loc Cert.RefAttnOutIdeal.main_arg1) = m ((c.tc : Thread Cert.RefAttnOutIdeal.nD Cert.RefAttnOutIdeal.τ).loc Cert.RefAttnOutIdeal.main_arg1)
      ∧ r.2.mem ((c.tc : Thread Cert.RefAttnOutIdeal.nD Cert.RefAttnOutIdeal.τ).loc Cert.RefAttnOutIdeal.main_arg2) = m ((c.tc : Thread Cert.RefAttnOutIdeal.nD Cert.RefAttnOutIdeal.τ).loc Cert.RefAttnOutIdeal.main_arg2))
      ∧ r.2.sem = fun _ => 0)

def quiescent_MlpIn [hMlpIn : Cert.MlpIn.Facts] : Prop :=
  ∀ (m : (ℓ : Loc Cert.MlpIn.nD Cert.MlpIn.τ Cert.MlpIn.sig) → Buf (Elt Bits) ℓ) (g : Dev Cert.MlpIn.nD → PrngReg), Pre_MlpIn m →
    θ_run (Cert.MlpIn.defs (F := Bits)) (onTc (τ := Cert.MlpIn.τ) (Cert.MlpIn.main (F := Bits))) ⟨m, fun _ => 0, g⟩ (fun r => (∀ c : Dev Cert.MlpIn.nD,
      r.2.mem ((c.tc : Thread Cert.MlpIn.nD Cert.MlpIn.τ).loc Cert.MlpIn.main_arg0) = m ((c.tc : Thread Cert.MlpIn.nD Cert.MlpIn.τ).loc Cert.MlpIn.main_arg0)
      ∧ r.2.mem ((c.tc : Thread Cert.MlpIn.nD Cert.MlpIn.τ).loc Cert.MlpIn.main_arg1) = m ((c.tc : Thread Cert.MlpIn.nD Cert.MlpIn.τ).loc Cert.MlpIn.main_arg1))
      ∧ r.2.sem = fun _ => 0)

def quiescent_MlpInIdeal [hMlpInIdeal : Cert.MlpInIdeal.Facts] : Prop :=
  ∀ (m : (ℓ : Loc Cert.MlpInIdeal.nD Cert.MlpInIdeal.τ Cert.MlpInIdeal.sig) → Buf (Elt Ideal) ℓ) (g : Dev Cert.MlpInIdeal.nD → PrngReg), Pre_MlpInIdeal m →
    θ_run (Cert.MlpInIdeal.defs (F := Ideal)) (onTc (τ := Cert.MlpInIdeal.τ) (Cert.MlpInIdeal.main (F := Ideal))) ⟨m, fun _ => 0, g⟩ (fun r => (∀ c : Dev Cert.MlpInIdeal.nD,
      r.2.mem ((c.tc : Thread Cert.MlpInIdeal.nD Cert.MlpInIdeal.τ).loc Cert.MlpInIdeal.main_arg0) = m ((c.tc : Thread Cert.MlpInIdeal.nD Cert.MlpInIdeal.τ).loc Cert.MlpInIdeal.main_arg0)
      ∧ r.2.mem ((c.tc : Thread Cert.MlpInIdeal.nD Cert.MlpInIdeal.τ).loc Cert.MlpInIdeal.main_arg1) = m ((c.tc : Thread Cert.MlpInIdeal.nD Cert.MlpInIdeal.τ).loc Cert.MlpInIdeal.main_arg1))
      ∧ r.2.sem = fun _ => 0)

def quiescent_RefMlpInIdeal [hRefMlpInIdeal : Cert.RefMlpInIdeal.Facts] : Prop :=
  ∀ (m : (ℓ : Loc Cert.RefMlpInIdeal.nD Cert.RefMlpInIdeal.τ Cert.RefMlpInIdeal.sig) → Buf (Elt Ideal) ℓ) (g : Dev Cert.RefMlpInIdeal.nD → PrngReg), Pre_RefMlpInIdeal m →
    θ_run (Cert.RefMlpInIdeal.defs (F := Ideal)) (onTc (τ := Cert.RefMlpInIdeal.τ) (Cert.RefMlpInIdeal.main (F := Ideal))) ⟨m, fun _ => 0, g⟩ (fun r => (∀ c : Dev Cert.RefMlpInIdeal.nD,
      r.2.mem ((c.tc : Thread Cert.RefMlpInIdeal.nD Cert.RefMlpInIdeal.τ).loc Cert.RefMlpInIdeal.main_arg0) = m ((c.tc : Thread Cert.RefMlpInIdeal.nD Cert.RefMlpInIdeal.τ).loc Cert.RefMlpInIdeal.main_arg0)
      ∧ r.2.mem ((c.tc : Thread Cert.RefMlpInIdeal.nD Cert.RefMlpInIdeal.τ).loc Cert.RefMlpInIdeal.main_arg1) = m ((c.tc : Thread Cert.RefMlpInIdeal.nD Cert.RefMlpInIdeal.τ).loc Cert.RefMlpInIdeal.main_arg1))
      ∧ r.2.sem = fun _ => 0)

def quiescent_MlpOut [hMlpOut : Cert.MlpOut.Facts] : Prop :=
  ∀ (m : (ℓ : Loc Cert.MlpOut.nD Cert.MlpOut.τ Cert.MlpOut.sig) → Buf (Elt Bits) ℓ) (g : Dev Cert.MlpOut.nD → PrngReg), Pre_MlpOut m →
    θ_run (Cert.MlpOut.defs (F := Bits)) (onTc (τ := Cert.MlpOut.τ) (Cert.MlpOut.main (F := Bits))) ⟨m, fun _ => 0, g⟩ (fun r => (∀ c : Dev Cert.MlpOut.nD,
      r.2.mem ((c.tc : Thread Cert.MlpOut.nD Cert.MlpOut.τ).loc Cert.MlpOut.main_arg0) = m ((c.tc : Thread Cert.MlpOut.nD Cert.MlpOut.τ).loc Cert.MlpOut.main_arg0)
      ∧ r.2.mem ((c.tc : Thread Cert.MlpOut.nD Cert.MlpOut.τ).loc Cert.MlpOut.main_arg1) = m ((c.tc : Thread Cert.MlpOut.nD Cert.MlpOut.τ).loc Cert.MlpOut.main_arg1)
      ∧ r.2.mem ((c.tc : Thread Cert.MlpOut.nD Cert.MlpOut.τ).loc Cert.MlpOut.main_arg2) = m ((c.tc : Thread Cert.MlpOut.nD Cert.MlpOut.τ).loc Cert.MlpOut.main_arg2))
      ∧ r.2.sem = fun _ => 0)

def quiescent_MlpOutIdeal [hMlpOutIdeal : Cert.MlpOutIdeal.Facts] : Prop :=
  ∀ (m : (ℓ : Loc Cert.MlpOutIdeal.nD Cert.MlpOutIdeal.τ Cert.MlpOutIdeal.sig) → Buf (Elt Ideal) ℓ) (g : Dev Cert.MlpOutIdeal.nD → PrngReg), Pre_MlpOutIdeal m →
    θ_run (Cert.MlpOutIdeal.defs (F := Ideal)) (onTc (τ := Cert.MlpOutIdeal.τ) (Cert.MlpOutIdeal.main (F := Ideal))) ⟨m, fun _ => 0, g⟩ (fun r => (∀ c : Dev Cert.MlpOutIdeal.nD,
      r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
      ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1)
      ∧ r.2.mem ((c.tc : Thread Cert.MlpOutIdeal.nD Cert.MlpOutIdeal.τ).loc Cert.MlpOutIdeal.main_arg2) = m ((c.tc : Thread Cert.MlpOutIdeal.nD Cert.MlpOutIdeal.τ).loc Cert.MlpOutIdeal.main_arg2))
      ∧ r.2.sem = fun _ => 0)

def quiescent_RefMlpOutIdeal [hRefMlpOutIdeal : Cert.RefMlpOutIdeal.Facts] : Prop :=
  ∀ (m : (ℓ : Loc Cert.RefMlpOutIdeal.nD Cert.RefMlpOutIdeal.τ Cert.RefMlpOutIdeal.sig) → Buf (Elt Ideal) ℓ) (g : Dev Cert.RefMlpOutIdeal.nD → PrngReg), Pre_RefMlpOutIdeal m →
    θ_run (Cert.RefMlpOutIdeal.defs (F := Ideal)) (onTc (τ := Cert.RefMlpOutIdeal.τ) (Cert.RefMlpOutIdeal.main (F := Ideal))) ⟨m, fun _ => 0, g⟩ (fun r => (∀ c : Dev Cert.RefMlpOutIdeal.nD,
      r.2.mem ((c.tc : Thread Cert.RefMlpOutIdeal.nD Cert.RefMlpOutIdeal.τ).loc Cert.RefMlpOutIdeal.main_arg0) = m ((c.tc : Thread Cert.RefMlpOutIdeal.nD Cert.RefMlpOutIdeal.τ).loc Cert.RefMlpOutIdeal.main_arg0)
      ∧ r.2.mem ((c.tc : Thread Cert.RefMlpOutIdeal.nD Cert.RefMlpOutIdeal.τ).loc Cert.RefMlpOutIdeal.main_arg1) = m ((c.tc : Thread Cert.RefMlpOutIdeal.nD Cert.RefMlpOutIdeal.τ).loc Cert.RefMlpOutIdeal.main_arg1)
      ∧ r.2.mem ((c.tc : Thread Cert.RefMlpOutIdeal.nD Cert.RefMlpOutIdeal.τ).loc Cert.RefMlpOutIdeal.main_arg2) = m ((c.tc : Thread Cert.RefMlpOutIdeal.nD Cert.RefMlpOutIdeal.τ).loc Cert.RefMlpOutIdeal.main_arg2))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RefRmsBwdIdeal [hRefRmsBwdIdeal : Cert.RefRmsBwdIdeal.Facts] : Prop :=
  ∀ (m : (ℓ : Loc Cert.RefRmsBwdIdeal.nD Cert.RefRmsBwdIdeal.τ Cert.RefRmsBwdIdeal.sig) → Buf (Elt Ideal) ℓ) (g : Dev Cert.RefRmsBwdIdeal.nD → PrngReg), Pre_RefRmsBwdIdeal m →
    θ_run (Cert.RefRmsBwdIdeal.defs (F := Ideal)) (onTc (τ := Cert.RefRmsBwdIdeal.τ) (Cert.RefRmsBwdIdeal.main (F := Ideal))) ⟨m, fun _ => 0, g⟩ (fun r => (∀ c : Dev Cert.RefRmsBwdIdeal.nD,
      r.2.mem ((c.tc : Thread Cert.RefRmsBwdIdeal.nD Cert.RefRmsBwdIdeal.τ).loc Cert.RefRmsBwdIdeal.main_arg0) = m ((c.tc : Thread Cert.RefRmsBwdIdeal.nD Cert.RefRmsBwdIdeal.τ).loc Cert.RefRmsBwdIdeal.main_arg0)
      ∧ r.2.mem ((c.tc : Thread Cert.RefRmsBwdIdeal.nD Cert.RefRmsBwdIdeal.τ).loc Cert.RefRmsBwdIdeal.main_arg1) = m ((c.tc : Thread Cert.RefRmsBwdIdeal.nD Cert.RefRmsBwdIdeal.τ).loc Cert.RefRmsBwdIdeal.main_arg1)
      ∧ r.2.mem ((c.tc : Thread Cert.RefRmsBwdIdeal.nD Cert.RefRmsBwdIdeal.τ).loc Cert.RefRmsBwdIdeal.main_arg2) = m ((c.tc : Thread Cert.RefRmsBwdIdeal.nD Cert.RefRmsBwdIdeal.τ).loc Cert.RefRmsBwdIdeal.main_arg2)
      ∧ r.2.mem ((c.tc : Thread Cert.RefRmsBwdIdeal.nD Cert.RefRmsBwdIdeal.τ).loc Cert.RefRmsBwdIdeal.main_arg3) = m ((c.tc : Thread Cert.RefRmsBwdIdeal.nD Cert.RefRmsBwdIdeal.τ).loc Cert.RefRmsBwdIdeal.main_arg3))
      ∧ r.2.sem = fun _ => 0)

def quiescent_PairBwd [hPairBwd : Cert.PairBwd.Facts] : Prop :=
  ∀ (m : (ℓ : Loc Cert.PairBwd.nD Cert.PairBwd.τ Cert.PairBwd.sig) → Buf (Elt Bits) ℓ) (g : Dev Cert.PairBwd.nD → PrngReg), Pre_PairBwd m →
    θ_run (Cert.PairBwd.defs (F := Bits)) (onTc (τ := Cert.PairBwd.τ) (Cert.PairBwd.main (F := Bits))) ⟨m, fun _ => 0, g⟩ (fun r => (∀ c : Dev Cert.PairBwd.nD,
      r.2.mem ((c.tc : Thread Cert.PairBwd.nD Cert.PairBwd.τ).loc Cert.PairBwd.main_arg0) = m ((c.tc : Thread Cert.PairBwd.nD Cert.PairBwd.τ).loc Cert.PairBwd.main_arg0)
      ∧ r.2.mem ((c.tc : Thread Cert.PairBwd.nD Cert.PairBwd.τ).loc Cert.PairBwd.main_arg1) = m ((c.tc : Thread Cert.PairBwd.nD Cert.PairBwd.τ).loc Cert.PairBwd.main_arg1)
      ∧ r.2.mem ((c.tc : Thread Cert.PairBwd.nD Cert.PairBwd.τ).loc Cert.PairBwd.main_arg2) = m ((c.tc : Thread Cert.PairBwd.nD Cert.PairBwd.τ).loc Cert.PairBwd.main_arg2)
      ∧ r.2.mem ((c.tc : Thread Cert.PairBwd.nD Cert.PairBwd.τ).loc Cert.PairBwd.main_arg3) = m ((c.tc : Thread Cert.PairBwd.nD Cert.PairBwd.τ).loc Cert.PairBwd.main_arg3)
      ∧ r.2.mem ((c.tc : Thread Cert.PairBwd.nD Cert.PairBwd.τ).loc Cert.PairBwd.main_arg4) = m ((c.tc : Thread Cert.PairBwd.nD Cert.PairBwd.τ).loc Cert.PairBwd.main_arg4))
      ∧ r.2.sem = fun _ => 0)

def quiescent_PairBwdIdeal [hPairBwdIdeal : Cert.PairBwdIdeal.Facts] : Prop :=
  ∀ (m : (ℓ : Loc Cert.PairBwdIdeal.nD Cert.PairBwdIdeal.τ Cert.PairBwdIdeal.sig) → Buf (Elt Ideal) ℓ) (g : Dev Cert.PairBwdIdeal.nD → PrngReg), Pre_PairBwdIdeal m →
    θ_run (Cert.PairBwdIdeal.defs (F := Ideal)) (onTc (τ := Cert.PairBwdIdeal.τ) (Cert.PairBwdIdeal.main (F := Ideal))) ⟨m, fun _ => 0, g⟩ (fun r => (∀ c : Dev Cert.PairBwdIdeal.nD,
      r.2.mem ((c.tc : Thread Cert.PairBwdIdeal.nD Cert.PairBwdIdeal.τ).loc Cert.PairBwdIdeal.main_arg0) = m ((c.tc : Thread Cert.PairBwdIdeal.nD Cert.PairBwdIdeal.τ).loc Cert.PairBwdIdeal.main_arg0)
      ∧ r.2.mem ((c.tc : Thread Cert.PairBwdIdeal.nD Cert.PairBwdIdeal.τ).loc Cert.PairBwdIdeal.main_arg1) = m ((c.tc : Thread Cert.PairBwdIdeal.nD Cert.PairBwdIdeal.τ).loc Cert.PairBwdIdeal.main_arg1)
      ∧ r.2.mem ((c.tc : Thread Cert.PairBwdIdeal.nD Cert.PairBwdIdeal.τ).loc Cert.PairBwdIdeal.main_arg2) = m ((c.tc : Thread Cert.PairBwdIdeal.nD Cert.PairBwdIdeal.τ).loc Cert.PairBwdIdeal.main_arg2)
      ∧ r.2.mem ((c.tc : Thread Cert.PairBwdIdeal.nD Cert.PairBwdIdeal.τ).loc Cert.PairBwdIdeal.main_arg3) = m ((c.tc : Thread Cert.PairBwdIdeal.nD Cert.PairBwdIdeal.τ).loc Cert.PairBwdIdeal.main_arg3)
      ∧ r.2.mem ((c.tc : Thread Cert.PairBwdIdeal.nD Cert.PairBwdIdeal.τ).loc Cert.PairBwdIdeal.main_arg4) = m ((c.tc : Thread Cert.PairBwdIdeal.nD Cert.PairBwdIdeal.τ).loc Cert.PairBwdIdeal.main_arg4))
      ∧ r.2.sem = fun _ => 0)

def quiescent_RefPairBwdIdeal [hRefPairBwdIdeal : Cert.RefPairBwdIdeal.Facts] : Prop :=
  ∀ (m : (ℓ : Loc Cert.RefPairBwdIdeal.nD Cert.RefPairBwdIdeal.τ Cert.RefPairBwdIdeal.sig) → Buf (Elt Ideal) ℓ) (g : Dev Cert.RefPairBwdIdeal.nD → PrngReg), Pre_RefPairBwdIdeal m →
    θ_run (Cert.RefPairBwdIdeal.defs (F := Ideal)) (onTc (τ := Cert.RefPairBwdIdeal.τ) (Cert.RefPairBwdIdeal.main (F := Ideal))) ⟨m, fun _ => 0, g⟩ (fun r => (∀ c : Dev Cert.RefPairBwdIdeal.nD,
      r.2.mem ((c.tc : Thread Cert.RefPairBwdIdeal.nD Cert.RefPairBwdIdeal.τ).loc Cert.RefPairBwdIdeal.main_arg0) = m ((c.tc : Thread Cert.RefPairBwdIdeal.nD Cert.RefPairBwdIdeal.τ).loc Cert.RefPairBwdIdeal.main_arg0)
      ∧ r.2.mem ((c.tc : Thread Cert.RefPairBwdIdeal.nD Cert.RefPairBwdIdeal.τ).loc Cert.RefPairBwdIdeal.main_arg1) = m ((c.tc : Thread Cert.RefPairBwdIdeal.nD Cert.RefPairBwdIdeal.τ).loc Cert.RefPairBwdIdeal.main_arg1)
      ∧ r.2.mem ((c.tc : Thread Cert.RefPairBwdIdeal.nD Cert.RefPairBwdIdeal.τ).loc Cert.RefPairBwdIdeal.main_arg2) = m ((c.tc : Thread Cert.RefPairBwdIdeal.nD Cert.RefPairBwdIdeal.τ).loc Cert.RefPairBwdIdeal.main_arg2)
      ∧ r.2.mem ((c.tc : Thread Cert.RefPairBwdIdeal.nD Cert.RefPairBwdIdeal.τ).loc Cert.RefPairBwdIdeal.main_arg3) = m ((c.tc : Thread Cert.RefPairBwdIdeal.nD Cert.RefPairBwdIdeal.τ).loc Cert.RefPairBwdIdeal.main_arg3)
      ∧ r.2.mem ((c.tc : Thread Cert.RefPairBwdIdeal.nD Cert.RefPairBwdIdeal.τ).loc Cert.RefPairBwdIdeal.main_arg4) = m ((c.tc : Thread Cert.RefPairBwdIdeal.nD Cert.RefPairBwdIdeal.τ).loc Cert.RefPairBwdIdeal.main_arg4))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RefRmsFwdIdeal [hRefRmsFwdIdeal : Cert.RefRmsFwdIdeal.Facts] : Prop :=
  ∀ (m : (ℓ : Loc Cert.RefRmsFwdIdeal.nD Cert.RefRmsFwdIdeal.τ Cert.RefRmsFwdIdeal.sig) → Buf (Elt Ideal) ℓ) (g : Dev Cert.RefRmsFwdIdeal.nD → PrngReg), Pre_RefRmsFwdIdeal m →
    θ_run (Cert.RefRmsFwdIdeal.defs (F := Ideal)) (onTc (τ := Cert.RefRmsFwdIdeal.τ) (Cert.RefRmsFwdIdeal.main (F := Ideal))) ⟨m, fun _ => 0, g⟩ (fun r => (∀ c : Dev Cert.RefRmsFwdIdeal.nD,
      r.2.mem ((c.tc : Thread Cert.RefRmsFwdIdeal.nD Cert.RefRmsFwdIdeal.τ).loc Cert.RefRmsFwdIdeal.main_arg0) = m ((c.tc : Thread Cert.RefRmsFwdIdeal.nD Cert.RefRmsFwdIdeal.τ).loc Cert.RefRmsFwdIdeal.main_arg0)
      ∧ r.2.mem ((c.tc : Thread Cert.RefRmsFwdIdeal.nD Cert.RefRmsFwdIdeal.τ).loc Cert.RefRmsFwdIdeal.main_arg1) = m ((c.tc : Thread Cert.RefRmsFwdIdeal.nD Cert.RefRmsFwdIdeal.τ).loc Cert.RefRmsFwdIdeal.main_arg1))
      ∧ r.2.sem = fun _ => 0)

def quiescent_PairFwd [hPairFwd : Cert.PairFwd.Facts] : Prop :=
  ∀ (m : (ℓ : Loc Cert.PairFwd.nD Cert.PairFwd.τ Cert.PairFwd.sig) → Buf (Elt Bits) ℓ) (g : Dev Cert.PairFwd.nD → PrngReg), Pre_PairFwd m →
    θ_run (Cert.PairFwd.defs (F := Bits)) (onTc (τ := Cert.PairFwd.τ) (Cert.PairFwd.main (F := Bits))) ⟨m, fun _ => 0, g⟩ (fun r => (∀ c : Dev Cert.PairFwd.nD,
      r.2.mem ((c.tc : Thread Cert.PairFwd.nD Cert.PairFwd.τ).loc Cert.PairFwd.main_arg0) = m ((c.tc : Thread Cert.PairFwd.nD Cert.PairFwd.τ).loc Cert.PairFwd.main_arg0)
      ∧ r.2.mem ((c.tc : Thread Cert.PairFwd.nD Cert.PairFwd.τ).loc Cert.PairFwd.main_arg1) = m ((c.tc : Thread Cert.PairFwd.nD Cert.PairFwd.τ).loc Cert.PairFwd.main_arg1)
      ∧ r.2.mem ((c.tc : Thread Cert.PairFwd.nD Cert.PairFwd.τ).loc Cert.PairFwd.main_arg2) = m ((c.tc : Thread Cert.PairFwd.nD Cert.PairFwd.τ).loc Cert.PairFwd.main_arg2)
      ∧ r.2.mem ((c.tc : Thread Cert.PairFwd.nD Cert.PairFwd.τ).loc Cert.PairFwd.main_arg3) = m ((c.tc : Thread Cert.PairFwd.nD Cert.PairFwd.τ).loc Cert.PairFwd.main_arg3))
      ∧ r.2.sem = fun _ => 0)

def quiescent_PairFwdIdeal [hPairFwdIdeal : Cert.PairFwdIdeal.Facts] : Prop :=
  ∀ (m : (ℓ : Loc Cert.PairFwdIdeal.nD Cert.PairFwdIdeal.τ Cert.PairFwdIdeal.sig) → Buf (Elt Ideal) ℓ) (g : Dev Cert.PairFwdIdeal.nD → PrngReg), Pre_PairFwdIdeal m →
    θ_run (Cert.PairFwdIdeal.defs (F := Ideal)) (onTc (τ := Cert.PairFwdIdeal.τ) (Cert.PairFwdIdeal.main (F := Ideal))) ⟨m, fun _ => 0, g⟩ (fun r => (∀ c : Dev Cert.PairFwdIdeal.nD,
      r.2.mem ((c.tc : Thread Cert.PairFwdIdeal.nD Cert.PairFwdIdeal.τ).loc Cert.PairFwdIdeal.main_arg0) = m ((c.tc : Thread Cert.PairFwdIdeal.nD Cert.PairFwdIdeal.τ).loc Cert.PairFwdIdeal.main_arg0)
      ∧ r.2.mem ((c.tc : Thread Cert.PairFwdIdeal.nD Cert.PairFwdIdeal.τ).loc Cert.PairFwdIdeal.main_arg1) = m ((c.tc : Thread Cert.PairFwdIdeal.nD Cert.PairFwdIdeal.τ).loc Cert.PairFwdIdeal.main_arg1)
      ∧ r.2.mem ((c.tc : Thread Cert.PairFwdIdeal.nD Cert.PairFwdIdeal.τ).loc Cert.PairFwdIdeal.main_arg2) = m ((c.tc : Thread Cert.PairFwdIdeal.nD Cert.PairFwdIdeal.τ).loc Cert.PairFwdIdeal.main_arg2)
      ∧ r.2.mem ((c.tc : Thread Cert.PairFwdIdeal.nD Cert.PairFwdIdeal.τ).loc Cert.PairFwdIdeal.main_arg3) = m ((c.tc : Thread Cert.PairFwdIdeal.nD Cert.PairFwdIdeal.τ).loc Cert.PairFwdIdeal.main_arg3))
      ∧ r.2.sem = fun _ => 0)

def quiescent_RefPairFwdIdeal [hRefPairFwdIdeal : Cert.RefPairFwdIdeal.Facts] : Prop :=
  ∀ (m : (ℓ : Loc Cert.RefPairFwdIdeal.nD Cert.RefPairFwdIdeal.τ Cert.RefPairFwdIdeal.sig) → Buf (Elt Ideal) ℓ) (g : Dev Cert.RefPairFwdIdeal.nD → PrngReg), Pre_RefPairFwdIdeal m →
    θ_run (Cert.RefPairFwdIdeal.defs (F := Ideal)) (onTc (τ := Cert.RefPairFwdIdeal.τ) (Cert.RefPairFwdIdeal.main (F := Ideal))) ⟨m, fun _ => 0, g⟩ (fun r => (∀ c : Dev Cert.RefPairFwdIdeal.nD,
      r.2.mem ((c.tc : Thread Cert.RefPairFwdIdeal.nD Cert.RefPairFwdIdeal.τ).loc Cert.RefPairFwdIdeal.main_arg0) = m ((c.tc : Thread Cert.RefPairFwdIdeal.nD Cert.RefPairFwdIdeal.τ).loc Cert.RefPairFwdIdeal.main_arg0)
      ∧ r.2.mem ((c.tc : Thread Cert.RefPairFwdIdeal.nD Cert.RefPairFwdIdeal.τ).loc Cert.RefPairFwdIdeal.main_arg1) = m ((c.tc : Thread Cert.RefPairFwdIdeal.nD Cert.RefPairFwdIdeal.τ).loc Cert.RefPairFwdIdeal.main_arg1)
      ∧ r.2.mem ((c.tc : Thread Cert.RefPairFwdIdeal.nD Cert.RefPairFwdIdeal.τ).loc Cert.RefPairFwdIdeal.main_arg2) = m ((c.tc : Thread Cert.RefPairFwdIdeal.nD Cert.RefPairFwdIdeal.τ).loc Cert.RefPairFwdIdeal.main_arg2)
      ∧ r.2.mem ((c.tc : Thread Cert.RefPairFwdIdeal.nD Cert.RefPairFwdIdeal.τ).loc Cert.RefPairFwdIdeal.main_arg3) = m ((c.tc : Thread Cert.RefPairFwdIdeal.nD Cert.RefPairFwdIdeal.τ).loc Cert.RefPairFwdIdeal.main_arg3))
      ∧ r.2.sem = fun _ => 0)

def quiescent_FoxFwd [hFoxFwd : Cert.FoxFwd.Facts] : Prop :=
  ∀ (m : (ℓ : Loc Cert.FoxFwd.nD Cert.FoxFwd.τ Cert.FoxFwd.sig) → Buf (Elt Bits) ℓ) (g : Dev Cert.FoxFwd.nD → PrngReg), Pre_FoxFwd m →
    θ_run (Cert.FoxFwd.defs (F := Bits)) (onTc (τ := Cert.FoxFwd.τ) (Cert.FoxFwd.main (F := Bits))) ⟨m, fun _ => 0, g⟩ (fun r => (∀ c : Dev Cert.FoxFwd.nD,
      r.2.mem ((c.tc : Thread Cert.FoxFwd.nD Cert.FoxFwd.τ).loc Cert.FoxFwd.main_arg0) = m ((c.tc : Thread Cert.FoxFwd.nD Cert.FoxFwd.τ).loc Cert.FoxFwd.main_arg0)
      ∧ r.2.mem ((c.tc : Thread Cert.FoxFwd.nD Cert.FoxFwd.τ).loc Cert.FoxFwd.main_arg1) = m ((c.tc : Thread Cert.FoxFwd.nD Cert.FoxFwd.τ).loc Cert.FoxFwd.main_arg1))
      ∧ r.2.sem = fun _ => 0)

def quiescent_FoxFwdIdeal [hFoxFwdIdeal : Cert.FoxFwdIdeal.Facts] : Prop :=
  ∀ (m : (ℓ : Loc Cert.FoxFwdIdeal.nD Cert.FoxFwdIdeal.τ Cert.FoxFwdIdeal.sig) → Buf (Elt Ideal) ℓ) (g : Dev Cert.FoxFwdIdeal.nD → PrngReg), Pre_FoxFwdIdeal m →
    θ_run (Cert.FoxFwdIdeal.defs (F := Ideal)) (onTc (τ := Cert.FoxFwdIdeal.τ) (Cert.FoxFwdIdeal.main (F := Ideal))) ⟨m, fun _ => 0, g⟩ (fun r => (∀ c : Dev Cert.FoxFwdIdeal.nD,
      r.2.mem ((c.tc : Thread Cert.FoxFwdIdeal.nD Cert.FoxFwdIdeal.τ).loc Cert.FoxFwdIdeal.main_arg0) = m ((c.tc : Thread Cert.FoxFwdIdeal.nD Cert.FoxFwdIdeal.τ).loc Cert.FoxFwdIdeal.main_arg0)
      ∧ r.2.mem ((c.tc : Thread Cert.FoxFwdIdeal.nD Cert.FoxFwdIdeal.τ).loc Cert.FoxFwdIdeal.main_arg1) = m ((c.tc : Thread Cert.FoxFwdIdeal.nD Cert.FoxFwdIdeal.τ).loc Cert.FoxFwdIdeal.main_arg1))
      ∧ r.2.sem = fun _ => 0)

def quiescent_FoxFwdIdeal_pre_finite24 [hFoxFwdIdeal : Cert.FoxFwdIdeal.Facts] [hPre_finite24 : Cert.Pre_finite24.Facts] : Prop :=
  ∀ (m : (ℓ : Loc Cert.FoxFwdIdeal.nD Cert.FoxFwdIdeal.τ Cert.FoxFwdIdeal.sig) → Buf (Elt Ideal) ℓ) (g : Dev Cert.FoxFwdIdeal.nD → PrngReg), Pre_FoxFwdIdeal_finite24 m →
    θ_run (Cert.FoxFwdIdeal.defs (F := Ideal)) (onTc (τ := Cert.FoxFwdIdeal.τ) (Cert.FoxFwdIdeal.main (F := Ideal))) ⟨m, fun _ => 0, g⟩ (fun r => (∀ c : Dev Cert.FoxFwdIdeal.nD,
      r.2.mem ((c.tc : Thread Cert.FoxFwdIdeal.nD Cert.FoxFwdIdeal.τ).loc Cert.FoxFwdIdeal.main_arg0) = m ((c.tc : Thread Cert.FoxFwdIdeal.nD Cert.FoxFwdIdeal.τ).loc Cert.FoxFwdIdeal.main_arg0)
      ∧ r.2.mem ((c.tc : Thread Cert.FoxFwdIdeal.nD Cert.FoxFwdIdeal.τ).loc Cert.FoxFwdIdeal.main_arg1) = m ((c.tc : Thread Cert.FoxFwdIdeal.nD Cert.FoxFwdIdeal.τ).loc Cert.FoxFwdIdeal.main_arg1))
      ∧ r.2.sem = fun _ => 0)

def quiescent_RefFoxFwdIdeal [hRefFoxFwdIdeal : Cert.RefFoxFwdIdeal.Facts] : Prop :=
  ∀ (m : (ℓ : Loc Cert.RefFoxFwdIdeal.nD Cert.RefFoxFwdIdeal.τ Cert.RefFoxFwdIdeal.sig) → Buf (Elt Ideal) ℓ) (g : Dev Cert.RefFoxFwdIdeal.nD → PrngReg), Pre_RefFoxFwdIdeal m →
    θ_run (Cert.RefFoxFwdIdeal.defs (F := Ideal)) (onTc (τ := Cert.RefFoxFwdIdeal.τ) (Cert.RefFoxFwdIdeal.main (F := Ideal))) ⟨m, fun _ => 0, g⟩ (fun r => (∀ c : Dev Cert.RefFoxFwdIdeal.nD,
      r.2.mem ((c.tc : Thread Cert.RefFoxFwdIdeal.nD Cert.RefFoxFwdIdeal.τ).loc Cert.RefFoxFwdIdeal.main_arg0) = m ((c.tc : Thread Cert.RefFoxFwdIdeal.nD Cert.RefFoxFwdIdeal.τ).loc Cert.RefFoxFwdIdeal.main_arg0)
      ∧ r.2.mem ((c.tc : Thread Cert.RefFoxFwdIdeal.nD Cert.RefFoxFwdIdeal.τ).loc Cert.RefFoxFwdIdeal.main_arg1) = m ((c.tc : Thread Cert.RefFoxFwdIdeal.nD Cert.RefFoxFwdIdeal.τ).loc Cert.RefFoxFwdIdeal.main_arg1))
      ∧ r.2.sem = fun _ => 0)

def quiescent_RefFoxFwdIdeal_pre_finite24 [hRefFoxFwdIdeal : Cert.RefFoxFwdIdeal.Facts] [hPre_finite24 : Cert.Pre_finite24.Facts] : Prop :=
  ∀ (m : (ℓ : Loc Cert.RefFoxFwdIdeal.nD Cert.RefFoxFwdIdeal.τ Cert.RefFoxFwdIdeal.sig) → Buf (Elt Ideal) ℓ) (g : Dev Cert.RefFoxFwdIdeal.nD → PrngReg), Pre_RefFoxFwdIdeal_finite24 m →
    θ_run (Cert.RefFoxFwdIdeal.defs (F := Ideal)) (onTc (τ := Cert.RefFoxFwdIdeal.τ) (Cert.RefFoxFwdIdeal.main (F := Ideal))) ⟨m, fun _ => 0, g⟩ (fun r => (∀ c : Dev Cert.RefFoxFwdIdeal.nD,
      r.2.mem ((c.tc : Thread Cert.RefFoxFwdIdeal.nD Cert.RefFoxFwdIdeal.τ).loc Cert.RefFoxFwdIdeal.main_arg0) = m ((c.tc : Thread Cert.RefFoxFwdIdeal.nD Cert.RefFoxFwdIdeal.τ).loc Cert.RefFoxFwdIdeal.main_arg0)
      ∧ r.2.mem ((c.tc : Thread Cert.RefFoxFwdIdeal.nD Cert.RefFoxFwdIdeal.τ).loc Cert.RefFoxFwdIdeal.main_arg1) = m ((c.tc : Thread Cert.RefFoxFwdIdeal.nD Cert.RefFoxFwdIdeal.τ).loc Cert.RefFoxFwdIdeal.main_arg1))
      ∧ r.2.sem = fun _ => 0)

def preserves_Kernel_KernelIdeal : Prop :=
  IdealRules.named_const.Statement Cert.KernelIdeal.κ "scale2" .f32 0x3E0293EE#32 (((1048576 / 11863283) * (Real.log 2)⁻¹ : ℝ) : EReal)
  ∧ IdealRules.named_const.Statement Cert.KernelIdeal.κ "scale" .f32 0x3DB504F3#32 ((1048576 / 11863283 : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v65_0)) (v1 : (c : Dev Cert.KernelIdeal.nD) → Buf (Elt Ideal) ((c.tc : Thread Cert.KernelIdeal.nD Cert.KernelIdeal.τ).loc Cert.KernelIdeal.main_v65_1)) (v2 : (c : Dev Cert.KernelIdeal.nD) → Buf (Elt Ideal) ((c.tc : Thread Cert.KernelIdeal.nD Cert.KernelIdeal.τ).loc Cert.KernelIdeal.main_v65_2)) (v3 : (c : Dev Cert.KernelIdeal.nD) → Buf (Elt Ideal) ((c.tc : Thread Cert.KernelIdeal.nD Cert.KernelIdeal.τ).loc Cert.KernelIdeal.main_v65_3)) (v4 : (c : Dev Cert.KernelIdeal.nD) → Buf (Elt Ideal) ((c.tc : Thread Cert.KernelIdeal.nD Cert.KernelIdeal.τ).loc Cert.KernelIdeal.main_v65_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65_0) = v0 c
          ∧ r.2.mem ((c.tc : Thread Cert.KernelIdeal.nD Cert.KernelIdeal.τ).loc Cert.KernelIdeal.main_v65_1) = v1 c
          ∧ r.2.mem ((c.tc : Thread Cert.KernelIdeal.nD Cert.KernelIdeal.τ).loc Cert.KernelIdeal.main_v65_2) = v2 c
          ∧ r.2.mem ((c.tc : Thread Cert.KernelIdeal.nD Cert.KernelIdeal.τ).loc Cert.KernelIdeal.main_v65_3) = v3 c
          ∧ r.2.mem ((c.tc : Thread Cert.KernelIdeal.nD Cert.KernelIdeal.τ).loc Cert.KernelIdeal.main_v65_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_v96) = v3 c
          ∧ r.2.mem ((c.tc : Thread Cert.ReferenceIdeal.nD Cert.ReferenceIdeal.τ).loc Cert.ReferenceIdeal.main_v98) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_DAct_DActIdeal : Prop :=
  True

def algebraic_DActIdeal_RefDActIdeal [hDActIdeal : Cert.DActIdeal.Facts] [hRefDActIdeal : Cert.RefDActIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.RefDActIdeal.nD Cert.RefDActIdeal.τ Cert.RefDActIdeal.sig) → Buf (Elt Ideal) ℓ) (g' : Dev Cert.RefDActIdeal.nD → PrngReg), Pre_DActIdeal m →
    (∀ c : Dev Cert.DActIdeal.nD,
      m' ((c.tc : Thread Cert.RefDActIdeal.nD Cert.RefDActIdeal.τ).loc Cert.RefDActIdeal.main_arg0) = m ((c.tc : Thread Cert.DActIdeal.nD Cert.DActIdeal.τ).loc Cert.DActIdeal.main_arg0)
      ∧ m' ((c.tc : Thread Cert.RefDActIdeal.nD Cert.RefDActIdeal.τ).loc Cert.RefDActIdeal.main_arg1) = m ((c.tc : Thread Cert.DActIdeal.nD Cert.DActIdeal.τ).loc Cert.DActIdeal.main_arg1)
      ∧ m' ((c.tc : Thread Cert.RefDActIdeal.nD Cert.RefDActIdeal.τ).loc Cert.RefDActIdeal.main_arg2) = m ((c.tc : Thread Cert.DActIdeal.nD Cert.DActIdeal.τ).loc Cert.DActIdeal.main_arg2)) →
    ∃ (v0 : (c : Dev Cert.DActIdeal.nD) → Buf (Elt Ideal) ((c.tc : Thread Cert.DActIdeal.nD Cert.DActIdeal.τ).loc Cert.DActIdeal.main_v0)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v0) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1)
          ∧ r.2.mem ((c.tc : Thread Cert.DActIdeal.nD Cert.DActIdeal.τ).loc Cert.DActIdeal.main_arg2) = m ((c.tc : Thread Cert.DActIdeal.nD Cert.DActIdeal.τ).loc Cert.DActIdeal.main_arg2))
      ∧ θ_run (Cert.RefDActIdeal.defs (F := Ideal)) (onTc (τ := Cert.RefDActIdeal.τ) (Cert.RefDActIdeal.main (F := Ideal))) ⟨m', fun _ => 0, g'⟩ (fun r => ∀ c : Dev Cert.RefDActIdeal.nD,
          r.2.mem ((c.tc : Thread Cert.RefDActIdeal.nD Cert.RefDActIdeal.τ).loc Cert.RefDActIdeal.main_v15) = v0 c
          ∧ r.2.mem ((c.tc : Thread Cert.RefDActIdeal.nD Cert.RefDActIdeal.τ).loc Cert.RefDActIdeal.main_arg0) = m' ((c.tc : Thread Cert.RefDActIdeal.nD Cert.RefDActIdeal.τ).loc Cert.RefDActIdeal.main_arg0)
          ∧ r.2.mem ((c.tc : Thread Cert.RefDActIdeal.nD Cert.RefDActIdeal.τ).loc Cert.RefDActIdeal.main_arg1) = m' ((c.tc : Thread Cert.RefDActIdeal.nD Cert.RefDActIdeal.τ).loc Cert.RefDActIdeal.main_arg1)
          ∧ r.2.mem ((c.tc : Thread Cert.RefDActIdeal.nD Cert.RefDActIdeal.τ).loc Cert.RefDActIdeal.main_arg2) = m' ((c.tc : Thread Cert.RefDActIdeal.nD Cert.RefDActIdeal.τ).loc Cert.RefDActIdeal.main_arg2))

def preserves_DWOut_DWOutIdeal : Prop :=
  True

def algebraic_DWOutIdeal_RefDWOutIdeal [hDWOutIdeal : Cert.DWOutIdeal.Facts] [hRefDWOutIdeal : Cert.RefDWOutIdeal.Facts] : Prop :=
  ∀ (m : (ℓ : Loc Cert.DWOutIdeal.nD Cert.DWOutIdeal.τ Cert.DWOutIdeal.sig) → Buf (Elt Ideal) ℓ) (g : Dev Cert.DWOutIdeal.nD → PrngReg)
    (m' : (ℓ : Loc Cert.RefDWOutIdeal.nD Cert.RefDWOutIdeal.τ Cert.RefDWOutIdeal.sig) → Buf (Elt Ideal) ℓ) (g' : Dev Cert.RefDWOutIdeal.nD → PrngReg), Pre_DWOutIdeal m →
    (∀ c : Dev Cert.DWOutIdeal.nD,
      m' ((c.tc : Thread Cert.RefDWOutIdeal.nD Cert.RefDWOutIdeal.τ).loc Cert.RefDWOutIdeal.main_arg0) = m ((c.tc : Thread Cert.DWOutIdeal.nD Cert.DWOutIdeal.τ).loc Cert.DWOutIdeal.main_arg0)
      ∧ m' ((c.tc : Thread Cert.RefDWOutIdeal.nD Cert.RefDWOutIdeal.τ).loc Cert.RefDWOutIdeal.main_arg1) = m ((c.tc : Thread Cert.DWOutIdeal.nD Cert.DWOutIdeal.τ).loc Cert.DWOutIdeal.main_arg1)) →
    ∃ (v0 : (c : Dev Cert.DWOutIdeal.nD) → Buf (Elt Ideal) ((c.tc : Thread Cert.DWOutIdeal.nD Cert.DWOutIdeal.τ).loc Cert.DWOutIdeal.main_v0)),
      θ_run (Cert.DWOutIdeal.defs (F := Ideal)) (onTc (τ := Cert.DWOutIdeal.τ) (Cert.DWOutIdeal.main (F := Ideal))) ⟨m, fun _ => 0, g⟩ (fun r => ∀ c : Dev Cert.DWOutIdeal.nD,
          r.2.mem ((c.tc : Thread Cert.DWOutIdeal.nD Cert.DWOutIdeal.τ).loc Cert.DWOutIdeal.main_v0) = v0 c
          ∧ r.2.mem ((c.tc : Thread Cert.DWOutIdeal.nD Cert.DWOutIdeal.τ).loc Cert.DWOutIdeal.main_arg0) = m ((c.tc : Thread Cert.DWOutIdeal.nD Cert.DWOutIdeal.τ).loc Cert.DWOutIdeal.main_arg0)
          ∧ r.2.mem ((c.tc : Thread Cert.DWOutIdeal.nD Cert.DWOutIdeal.τ).loc Cert.DWOutIdeal.main_arg1) = m ((c.tc : Thread Cert.DWOutIdeal.nD Cert.DWOutIdeal.τ).loc Cert.DWOutIdeal.main_arg1))
      ∧ θ_run (Cert.RefDWOutIdeal.defs (F := Ideal)) (onTc (τ := Cert.RefDWOutIdeal.τ) (Cert.RefDWOutIdeal.main (F := Ideal))) ⟨m', fun _ => 0, g'⟩ (fun r => ∀ c : Dev Cert.RefDWOutIdeal.nD,
          r.2.mem ((c.tc : Thread Cert.RefDWOutIdeal.nD Cert.RefDWOutIdeal.τ).loc Cert.RefDWOutIdeal.main_v6) = v0 c
          ∧ r.2.mem ((c.tc : Thread Cert.RefDWOutIdeal.nD Cert.RefDWOutIdeal.τ).loc Cert.RefDWOutIdeal.main_arg0) = m' ((c.tc : Thread Cert.RefDWOutIdeal.nD Cert.RefDWOutIdeal.τ).loc Cert.RefDWOutIdeal.main_arg0)
          ∧ r.2.mem ((c.tc : Thread Cert.RefDWOutIdeal.nD Cert.RefDWOutIdeal.τ).loc Cert.RefDWOutIdeal.main_arg1) = m' ((c.tc : Thread Cert.RefDWOutIdeal.nD Cert.RefDWOutIdeal.τ).loc Cert.RefDWOutIdeal.main_arg1))

def preserves_DH_DHIdeal : Prop :=
  True

def algebraic_DHIdeal_RefDHIdeal [hDHIdeal : Cert.DHIdeal.Facts] [hRefDHIdeal : Cert.RefDHIdeal.Facts] : Prop :=
  ∀ (m : (ℓ : Loc Cert.DHIdeal.nD Cert.DHIdeal.τ Cert.DHIdeal.sig) → Buf (Elt Ideal) ℓ) (g : Dev Cert.DHIdeal.nD → PrngReg)
    (m' : (ℓ : Loc Cert.RefDHIdeal.nD Cert.RefDHIdeal.τ Cert.RefDHIdeal.sig) → Buf (Elt Ideal) ℓ) (g' : Dev Cert.RefDHIdeal.nD → PrngReg), Pre_DHIdeal m →
    (∀ c : Dev Cert.DHIdeal.nD,
      m' ((c.tc : Thread Cert.RefDHIdeal.nD Cert.RefDHIdeal.τ).loc Cert.RefDHIdeal.main_arg0) = m ((c.tc : Thread Cert.DHIdeal.nD Cert.DHIdeal.τ).loc Cert.DHIdeal.main_arg0)
      ∧ m' ((c.tc : Thread Cert.RefDHIdeal.nD Cert.RefDHIdeal.τ).loc Cert.RefDHIdeal.main_arg1) = m ((c.tc : Thread Cert.DHIdeal.nD Cert.DHIdeal.τ).loc Cert.DHIdeal.main_arg1)) →
    ∃ (v0 : (c : Dev Cert.DHIdeal.nD) → Buf (Elt Ideal) ((c.tc : Thread Cert.DHIdeal.nD Cert.DHIdeal.τ).loc Cert.DHIdeal.main_v0)),
      θ_run (Cert.DHIdeal.defs (F := Ideal)) (onTc (τ := Cert.DHIdeal.τ) (Cert.DHIdeal.main (F := Ideal))) ⟨m, fun _ => 0, g⟩ (fun r => ∀ c : Dev Cert.DHIdeal.nD,
          r.2.mem ((c.tc : Thread Cert.DHIdeal.nD Cert.DHIdeal.τ).loc Cert.DHIdeal.main_v0) = v0 c
          ∧ r.2.mem ((c.tc : Thread Cert.DHIdeal.nD Cert.DHIdeal.τ).loc Cert.DHIdeal.main_arg0) = m ((c.tc : Thread Cert.DHIdeal.nD Cert.DHIdeal.τ).loc Cert.DHIdeal.main_arg0)
          ∧ r.2.mem ((c.tc : Thread Cert.DHIdeal.nD Cert.DHIdeal.τ).loc Cert.DHIdeal.main_arg1) = m ((c.tc : Thread Cert.DHIdeal.nD Cert.DHIdeal.τ).loc Cert.DHIdeal.main_arg1))
      ∧ θ_run (Cert.RefDHIdeal.defs (F := Ideal)) (onTc (τ := Cert.RefDHIdeal.τ) (Cert.RefDHIdeal.main (F := Ideal))) ⟨m', fun _ => 0, g'⟩ (fun r => ∀ c : Dev Cert.RefDHIdeal.nD,
          r.2.mem ((c.tc : Thread Cert.RefDHIdeal.nD Cert.RefDHIdeal.τ).loc Cert.RefDHIdeal.main_v6) = v0 c
          ∧ r.2.mem ((c.tc : Thread Cert.RefDHIdeal.nD Cert.RefDHIdeal.τ).loc Cert.RefDHIdeal.main_arg0) = m' ((c.tc : Thread Cert.RefDHIdeal.nD Cert.RefDHIdeal.τ).loc Cert.RefDHIdeal.main_arg0)
          ∧ r.2.mem ((c.tc : Thread Cert.RefDHIdeal.nD Cert.RefDHIdeal.τ).loc Cert.RefDHIdeal.main_arg1) = m' ((c.tc : Thread Cert.RefDHIdeal.nD Cert.RefDHIdeal.τ).loc Cert.RefDHIdeal.main_arg1))

def preserves_DWIn_DWInIdeal : Prop :=
  True

def algebraic_DWInIdeal_RefDWInIdeal [hDWInIdeal : Cert.DWInIdeal.Facts] [hRefDWInIdeal : Cert.RefDWInIdeal.Facts] : Prop :=
  ∀ (m : (ℓ : Loc Cert.DWInIdeal.nD Cert.DWInIdeal.τ Cert.DWInIdeal.sig) → Buf (Elt Ideal) ℓ) (g : Dev Cert.DWInIdeal.nD → PrngReg)
    (m' : (ℓ : Loc Cert.RefDWInIdeal.nD Cert.RefDWInIdeal.τ Cert.RefDWInIdeal.sig) → Buf (Elt Ideal) ℓ) (g' : Dev Cert.RefDWInIdeal.nD → PrngReg), Pre_DWInIdeal m →
    (∀ c : Dev Cert.DWInIdeal.nD,
      m' ((c.tc : Thread Cert.RefDWInIdeal.nD Cert.RefDWInIdeal.τ).loc Cert.RefDWInIdeal.main_arg0) = m ((c.tc : Thread Cert.DWInIdeal.nD Cert.DWInIdeal.τ).loc Cert.DWInIdeal.main_arg0)
      ∧ m' ((c.tc : Thread Cert.RefDWInIdeal.nD Cert.RefDWInIdeal.τ).loc Cert.RefDWInIdeal.main_arg1) = m ((c.tc : Thread Cert.DWInIdeal.nD Cert.DWInIdeal.τ).loc Cert.DWInIdeal.main_arg1)) →
    ∃ (v0 : (c : Dev Cert.DWInIdeal.nD) → Buf (Elt Ideal) ((c.tc : Thread Cert.DWInIdeal.nD Cert.DWInIdeal.τ).loc Cert.DWInIdeal.main_v0)),
      θ_run (Cert.DWInIdeal.defs (F := Ideal)) (onTc (τ := Cert.DWInIdeal.τ) (Cert.DWInIdeal.main (F := Ideal))) ⟨m, fun _ => 0, g⟩ (fun r => ∀ c : Dev Cert.DWInIdeal.nD,
          r.2.mem ((c.tc : Thread Cert.DWInIdeal.nD Cert.DWInIdeal.τ).loc Cert.DWInIdeal.main_v0) = v0 c
          ∧ r.2.mem ((c.tc : Thread Cert.DWInIdeal.nD Cert.DWInIdeal.τ).loc Cert.DWInIdeal.main_arg0) = m ((c.tc : Thread Cert.DWInIdeal.nD Cert.DWInIdeal.τ).loc Cert.DWInIdeal.main_arg0)
          ∧ r.2.mem ((c.tc : Thread Cert.DWInIdeal.nD Cert.DWInIdeal.τ).loc Cert.DWInIdeal.main_arg1) = m ((c.tc : Thread Cert.DWInIdeal.nD Cert.DWInIdeal.τ).loc Cert.DWInIdeal.main_arg1))
      ∧ θ_run (Cert.RefDWInIdeal.defs (F := Ideal)) (onTc (τ := Cert.RefDWInIdeal.τ) (Cert.RefDWInIdeal.main (F := Ideal))) ⟨m', fun _ => 0, g'⟩ (fun r => ∀ c : Dev Cert.RefDWInIdeal.nD,
          r.2.mem ((c.tc : Thread Cert.RefDWInIdeal.nD Cert.RefDWInIdeal.τ).loc Cert.RefDWInIdeal.main_v8) = v0 c
          ∧ r.2.mem ((c.tc : Thread Cert.RefDWInIdeal.nD Cert.RefDWInIdeal.τ).loc Cert.RefDWInIdeal.main_arg0) = m' ((c.tc : Thread Cert.RefDWInIdeal.nD Cert.RefDWInIdeal.τ).loc Cert.RefDWInIdeal.main_arg0)
          ∧ r.2.mem ((c.tc : Thread Cert.RefDWInIdeal.nD Cert.RefDWInIdeal.τ).loc Cert.RefDWInIdeal.main_arg1) = m' ((c.tc : Thread Cert.RefDWInIdeal.nD Cert.RefDWInIdeal.τ).loc Cert.RefDWInIdeal.main_arg1))

def preserves_DMixed_DMixedIdeal : Prop :=
  True

def algebraic_DMixedIdeal_RefDMixedIdeal [hDMixedIdeal : Cert.DMixedIdeal.Facts] [hRefDMixedIdeal : Cert.RefDMixedIdeal.Facts] : Prop :=
  ∀ (m : (ℓ : Loc Cert.DMixedIdeal.nD Cert.DMixedIdeal.τ Cert.DMixedIdeal.sig) → Buf (Elt Ideal) ℓ) (g : Dev Cert.DMixedIdeal.nD → PrngReg)
    (m' : (ℓ : Loc Cert.RefDMixedIdeal.nD Cert.RefDMixedIdeal.τ Cert.RefDMixedIdeal.sig) → Buf (Elt Ideal) ℓ) (g' : Dev Cert.RefDMixedIdeal.nD → PrngReg), Pre_DMixedIdeal m →
    (∀ c : Dev Cert.DMixedIdeal.nD,
      m' ((c.tc : Thread Cert.RefDMixedIdeal.nD Cert.RefDMixedIdeal.τ).loc Cert.RefDMixedIdeal.main_arg0) = m ((c.tc : Thread Cert.DMixedIdeal.nD Cert.DMixedIdeal.τ).loc Cert.DMixedIdeal.main_arg0)
      ∧ m' ((c.tc : Thread Cert.RefDMixedIdeal.nD Cert.RefDMixedIdeal.τ).loc Cert.RefDMixedIdeal.main_arg1) = m ((c.tc : Thread Cert.DMixedIdeal.nD Cert.DMixedIdeal.τ).loc Cert.DMixedIdeal.main_arg1)) →
    ∃ (v0 : (c : Dev Cert.DMixedIdeal.nD) → Buf (Elt Ideal) ((c.tc : Thread Cert.DMixedIdeal.nD Cert.DMixedIdeal.τ).loc Cert.DMixedIdeal.main_v0)),
      θ_run (Cert.DMixedIdeal.defs (F := Ideal)) (onTc (τ := Cert.DMixedIdeal.τ) (Cert.DMixedIdeal.main (F := Ideal))) ⟨m, fun _ => 0, g⟩ (fun r => ∀ c : Dev Cert.DMixedIdeal.nD,
          r.2.mem ((c.tc : Thread Cert.DMixedIdeal.nD Cert.DMixedIdeal.τ).loc Cert.DMixedIdeal.main_v0) = v0 c
          ∧ r.2.mem ((c.tc : Thread Cert.DMixedIdeal.nD Cert.DMixedIdeal.τ).loc Cert.DMixedIdeal.main_arg0) = m ((c.tc : Thread Cert.DMixedIdeal.nD Cert.DMixedIdeal.τ).loc Cert.DMixedIdeal.main_arg0)
          ∧ r.2.mem ((c.tc : Thread Cert.DMixedIdeal.nD Cert.DMixedIdeal.τ).loc Cert.DMixedIdeal.main_arg1) = m ((c.tc : Thread Cert.DMixedIdeal.nD Cert.DMixedIdeal.τ).loc Cert.DMixedIdeal.main_arg1))
      ∧ θ_run (Cert.RefDMixedIdeal.defs (F := Ideal)) (onTc (τ := Cert.RefDMixedIdeal.τ) (Cert.RefDMixedIdeal.main (F := Ideal))) ⟨m', fun _ => 0, g'⟩ (fun r => ∀ c : Dev Cert.RefDMixedIdeal.nD,
          r.2.mem ((c.tc : Thread Cert.RefDMixedIdeal.nD Cert.RefDMixedIdeal.τ).loc Cert.RefDMixedIdeal.main_v4) = v0 c
          ∧ r.2.mem ((c.tc : Thread Cert.RefDMixedIdeal.nD Cert.RefDMixedIdeal.τ).loc Cert.RefDMixedIdeal.main_arg0) = m' ((c.tc : Thread Cert.RefDMixedIdeal.nD Cert.RefDMixedIdeal.τ).loc Cert.RefDMixedIdeal.main_arg0)
          ∧ r.2.mem ((c.tc : Thread Cert.RefDMixedIdeal.nD Cert.RefDMixedIdeal.τ).loc Cert.RefDMixedIdeal.main_arg1) = m' ((c.tc : Thread Cert.RefDMixedIdeal.nD Cert.RefDMixedIdeal.τ).loc Cert.RefDMixedIdeal.main_arg1))

def preserves_DWProj_DWProjIdeal : Prop :=
  True

def algebraic_DWProjIdeal_RefDWProjIdeal [hDWProjIdeal : Cert.DWProjIdeal.Facts] [hRefDWProjIdeal : Cert.RefDWProjIdeal.Facts] : Prop :=
  ∀ (m : (ℓ : Loc Cert.DWProjIdeal.nD Cert.DWProjIdeal.τ Cert.DWProjIdeal.sig) → Buf (Elt Ideal) ℓ) (g : Dev Cert.DWProjIdeal.nD → PrngReg)
    (m' : (ℓ : Loc Cert.RefDWProjIdeal.nD Cert.RefDWProjIdeal.τ Cert.RefDWProjIdeal.sig) → Buf (Elt Ideal) ℓ) (g' : Dev Cert.RefDWProjIdeal.nD → PrngReg), Pre_DWProjIdeal m →
    (∀ c : Dev Cert.DWProjIdeal.nD,
      m' ((c.tc : Thread Cert.RefDWProjIdeal.nD Cert.RefDWProjIdeal.τ).loc Cert.RefDWProjIdeal.main_arg0) = m ((c.tc : Thread Cert.DWProjIdeal.nD Cert.DWProjIdeal.τ).loc Cert.DWProjIdeal.main_arg0)
      ∧ m' ((c.tc : Thread Cert.RefDWProjIdeal.nD Cert.RefDWProjIdeal.τ).loc Cert.RefDWProjIdeal.main_arg1) = m ((c.tc : Thread Cert.DWProjIdeal.nD Cert.DWProjIdeal.τ).loc Cert.DWProjIdeal.main_arg1)) →
    ∃ (v0 : (c : Dev Cert.DWProjIdeal.nD) → Buf (Elt Ideal) ((c.tc : Thread Cert.DWProjIdeal.nD Cert.DWProjIdeal.τ).loc Cert.DWProjIdeal.main_v0)),
      θ_run (Cert.DWProjIdeal.defs (F := Ideal)) (onTc (τ := Cert.DWProjIdeal.τ) (Cert.DWProjIdeal.main (F := Ideal))) ⟨m, fun _ => 0, g⟩ (fun r => ∀ c : Dev Cert.DWProjIdeal.nD,
          r.2.mem ((c.tc : Thread Cert.DWProjIdeal.nD Cert.DWProjIdeal.τ).loc Cert.DWProjIdeal.main_v0) = v0 c
          ∧ r.2.mem ((c.tc : Thread Cert.DWProjIdeal.nD Cert.DWProjIdeal.τ).loc Cert.DWProjIdeal.main_arg0) = m ((c.tc : Thread Cert.DWProjIdeal.nD Cert.DWProjIdeal.τ).loc Cert.DWProjIdeal.main_arg0)
          ∧ r.2.mem ((c.tc : Thread Cert.DWProjIdeal.nD Cert.DWProjIdeal.τ).loc Cert.DWProjIdeal.main_arg1) = m ((c.tc : Thread Cert.DWProjIdeal.nD Cert.DWProjIdeal.τ).loc Cert.DWProjIdeal.main_arg1))
      ∧ θ_run (Cert.RefDWProjIdeal.defs (F := Ideal)) (onTc (τ := Cert.RefDWProjIdeal.τ) (Cert.RefDWProjIdeal.main (F := Ideal))) ⟨m', fun _ => 0, g'⟩ (fun r => ∀ c : Dev Cert.RefDWProjIdeal.nD,
          r.2.mem ((c.tc : Thread Cert.RefDWProjIdeal.nD Cert.RefDWProjIdeal.τ).loc Cert.RefDWProjIdeal.main_v6) = v0 c
          ∧ r.2.mem ((c.tc : Thread Cert.RefDWProjIdeal.nD Cert.RefDWProjIdeal.τ).loc Cert.RefDWProjIdeal.main_arg0) = m' ((c.tc : Thread Cert.RefDWProjIdeal.nD Cert.RefDWProjIdeal.τ).loc Cert.RefDWProjIdeal.main_arg0)
          ∧ r.2.mem ((c.tc : Thread Cert.RefDWProjIdeal.nD Cert.RefDWProjIdeal.τ).loc Cert.RefDWProjIdeal.main_arg1) = m' ((c.tc : Thread Cert.RefDWProjIdeal.nD Cert.RefDWProjIdeal.τ).loc Cert.RefDWProjIdeal.main_arg1))

def preserves_DWQkv_DWQkvIdeal : Prop :=
  True

def algebraic_DWQkvIdeal_RefDWQkvIdeal [hDWQkvIdeal : Cert.DWQkvIdeal.Facts] [hRefDWQkvIdeal : Cert.RefDWQkvIdeal.Facts] : Prop :=
  ∀ (m : (ℓ : Loc Cert.DWQkvIdeal.nD Cert.DWQkvIdeal.τ Cert.DWQkvIdeal.sig) → Buf (Elt Ideal) ℓ) (g : Dev Cert.DWQkvIdeal.nD → PrngReg)
    (m' : (ℓ : Loc Cert.RefDWQkvIdeal.nD Cert.RefDWQkvIdeal.τ Cert.RefDWQkvIdeal.sig) → Buf (Elt Ideal) ℓ) (g' : Dev Cert.RefDWQkvIdeal.nD → PrngReg), Pre_DWQkvIdeal m →
    (∀ c : Dev Cert.DWQkvIdeal.nD,
      m' ((c.tc : Thread Cert.RefDWQkvIdeal.nD Cert.RefDWQkvIdeal.τ).loc Cert.RefDWQkvIdeal.main_arg0) = m ((c.tc : Thread Cert.DWQkvIdeal.nD Cert.DWQkvIdeal.τ).loc Cert.DWQkvIdeal.main_arg0)
      ∧ m' ((c.tc : Thread Cert.RefDWQkvIdeal.nD Cert.RefDWQkvIdeal.τ).loc Cert.RefDWQkvIdeal.main_arg1) = m ((c.tc : Thread Cert.DWQkvIdeal.nD Cert.DWQkvIdeal.τ).loc Cert.DWQkvIdeal.main_arg1)) →
    ∃ (v0 : (c : Dev Cert.DWQkvIdeal.nD) → Buf (Elt Ideal) ((c.tc : Thread Cert.DWQkvIdeal.nD Cert.DWQkvIdeal.τ).loc Cert.DWQkvIdeal.main_v0)),
      θ_run (Cert.DWQkvIdeal.defs (F := Ideal)) (onTc (τ := Cert.DWQkvIdeal.τ) (Cert.DWQkvIdeal.main (F := Ideal))) ⟨m, fun _ => 0, g⟩ (fun r => ∀ c : Dev Cert.DWQkvIdeal.nD,
          r.2.mem ((c.tc : Thread Cert.DWQkvIdeal.nD Cert.DWQkvIdeal.τ).loc Cert.DWQkvIdeal.main_v0) = v0 c
          ∧ r.2.mem ((c.tc : Thread Cert.DWQkvIdeal.nD Cert.DWQkvIdeal.τ).loc Cert.DWQkvIdeal.main_arg0) = m ((c.tc : Thread Cert.DWQkvIdeal.nD Cert.DWQkvIdeal.τ).loc Cert.DWQkvIdeal.main_arg0)
          ∧ r.2.mem ((c.tc : Thread Cert.DWQkvIdeal.nD Cert.DWQkvIdeal.τ).loc Cert.DWQkvIdeal.main_arg1) = m ((c.tc : Thread Cert.DWQkvIdeal.nD Cert.DWQkvIdeal.τ).loc Cert.DWQkvIdeal.main_arg1))
      ∧ θ_run (Cert.RefDWQkvIdeal.defs (F := Ideal)) (onTc (τ := Cert.RefDWQkvIdeal.τ) (Cert.RefDWQkvIdeal.main (F := Ideal))) ⟨m', fun _ => 0, g'⟩ (fun r => ∀ c : Dev Cert.RefDWQkvIdeal.nD,
          r.2.mem ((c.tc : Thread Cert.RefDWQkvIdeal.nD Cert.RefDWQkvIdeal.τ).loc Cert.RefDWQkvIdeal.main_v6) = v0 c
          ∧ r.2.mem ((c.tc : Thread Cert.RefDWQkvIdeal.nD Cert.RefDWQkvIdeal.τ).loc Cert.RefDWQkvIdeal.main_arg0) = m' ((c.tc : Thread Cert.RefDWQkvIdeal.nD Cert.RefDWQkvIdeal.τ).loc Cert.RefDWQkvIdeal.main_arg0)
          ∧ r.2.mem ((c.tc : Thread Cert.RefDWQkvIdeal.nD Cert.RefDWQkvIdeal.τ).loc Cert.RefDWQkvIdeal.main_arg1) = m' ((c.tc : Thread Cert.RefDWQkvIdeal.nD Cert.RefDWQkvIdeal.τ).loc Cert.RefDWQkvIdeal.main_arg1))

def preserves_DWF_DWFIdeal : Prop :=
  True

def algebraic_DWFIdeal_RefDWFIdeal [hDWFIdeal : Cert.DWFIdeal.Facts] [hRefDWFIdeal : Cert.RefDWFIdeal.Facts] : Prop :=
  ∀ (m : (ℓ : Loc Cert.DWFIdeal.nD Cert.DWFIdeal.τ Cert.DWFIdeal.sig) → Buf (Elt Ideal) ℓ) (g : Dev Cert.DWFIdeal.nD → PrngReg)
    (m' : (ℓ : Loc Cert.RefDWFIdeal.nD Cert.RefDWFIdeal.τ Cert.RefDWFIdeal.sig) → Buf (Elt Ideal) ℓ) (g' : Dev Cert.RefDWFIdeal.nD → PrngReg), Pre_DWFIdeal m →
    (∀ c : Dev Cert.DWFIdeal.nD,
      m' ((c.tc : Thread Cert.RefDWFIdeal.nD Cert.RefDWFIdeal.τ).loc Cert.RefDWFIdeal.main_arg0) = m ((c.tc : Thread Cert.DWFIdeal.nD Cert.DWFIdeal.τ).loc Cert.DWFIdeal.main_arg0)
      ∧ m' ((c.tc : Thread Cert.RefDWFIdeal.nD Cert.RefDWFIdeal.τ).loc Cert.RefDWFIdeal.main_arg1) = m ((c.tc : Thread Cert.DWFIdeal.nD Cert.DWFIdeal.τ).loc Cert.DWFIdeal.main_arg1)) →
    ∃ (v0 : (c : Dev Cert.DWFIdeal.nD) → Buf (Elt Ideal) ((c.tc : Thread Cert.DWFIdeal.nD Cert.DWFIdeal.τ).loc Cert.DWFIdeal.main_v0)),
      θ_run (Cert.DWFIdeal.defs (F := Ideal)) (onTc (τ := Cert.DWFIdeal.τ) (Cert.DWFIdeal.main (F := Ideal))) ⟨m, fun _ => 0, g⟩ (fun r => ∀ c : Dev Cert.DWFIdeal.nD,
          r.2.mem ((c.tc : Thread Cert.DWFIdeal.nD Cert.DWFIdeal.τ).loc Cert.DWFIdeal.main_v0) = v0 c
          ∧ r.2.mem ((c.tc : Thread Cert.DWFIdeal.nD Cert.DWFIdeal.τ).loc Cert.DWFIdeal.main_arg0) = m ((c.tc : Thread Cert.DWFIdeal.nD Cert.DWFIdeal.τ).loc Cert.DWFIdeal.main_arg0)
          ∧ r.2.mem ((c.tc : Thread Cert.DWFIdeal.nD Cert.DWFIdeal.τ).loc Cert.DWFIdeal.main_arg1) = m ((c.tc : Thread Cert.DWFIdeal.nD Cert.DWFIdeal.τ).loc Cert.DWFIdeal.main_arg1))
      ∧ θ_run (Cert.RefDWFIdeal.defs (F := Ideal)) (onTc (τ := Cert.RefDWFIdeal.τ) (Cert.RefDWFIdeal.main (F := Ideal))) ⟨m', fun _ => 0, g'⟩ (fun r => ∀ c : Dev Cert.RefDWFIdeal.nD,
          r.2.mem ((c.tc : Thread Cert.RefDWFIdeal.nD Cert.RefDWFIdeal.τ).loc Cert.RefDWFIdeal.main_v7) = v0 c
          ∧ r.2.mem ((c.tc : Thread Cert.RefDWFIdeal.nD Cert.RefDWFIdeal.τ).loc Cert.RefDWFIdeal.main_arg0) = m' ((c.tc : Thread Cert.RefDWFIdeal.nD Cert.RefDWFIdeal.τ).loc Cert.RefDWFIdeal.main_arg0)
          ∧ r.2.mem ((c.tc : Thread Cert.RefDWFIdeal.nD Cert.RefDWFIdeal.τ).loc Cert.RefDWFIdeal.main_arg1) = m' ((c.tc : Thread Cert.RefDWFIdeal.nD Cert.RefDWFIdeal.τ).loc Cert.RefDWFIdeal.main_arg1))

def preserves_DHF_DHFIdeal : Prop :=
  True

def algebraic_DHFIdeal_RefDHFIdeal [hDHFIdeal : Cert.DHFIdeal.Facts] [hRefDHFIdeal : Cert.RefDHFIdeal.Facts] : Prop :=
  ∀ (m : (ℓ : Loc Cert.DHFIdeal.nD Cert.DHFIdeal.τ Cert.DHFIdeal.sig) → Buf (Elt Ideal) ℓ) (g : Dev Cert.DHFIdeal.nD → PrngReg)
    (m' : (ℓ : Loc Cert.RefDHFIdeal.nD Cert.RefDHFIdeal.τ Cert.RefDHFIdeal.sig) → Buf (Elt Ideal) ℓ) (g' : Dev Cert.RefDHFIdeal.nD → PrngReg), Pre_DHFIdeal m →
    (∀ c : Dev Cert.DHFIdeal.nD,
      m' ((c.tc : Thread Cert.RefDHFIdeal.nD Cert.RefDHFIdeal.τ).loc Cert.RefDHFIdeal.main_arg0) = m ((c.tc : Thread Cert.DHFIdeal.nD Cert.DHFIdeal.τ).loc Cert.DHFIdeal.main_arg0)
      ∧ m' ((c.tc : Thread Cert.RefDHFIdeal.nD Cert.RefDHFIdeal.τ).loc Cert.RefDHFIdeal.main_arg1) = m ((c.tc : Thread Cert.DHFIdeal.nD Cert.DHFIdeal.τ).loc Cert.DHFIdeal.main_arg1)) →
    ∃ (v0 : (c : Dev Cert.DHFIdeal.nD) → Buf (Elt Ideal) ((c.tc : Thread Cert.DHFIdeal.nD Cert.DHFIdeal.τ).loc Cert.DHFIdeal.main_v0)),
      θ_run (Cert.DHFIdeal.defs (F := Ideal)) (onTc (τ := Cert.DHFIdeal.τ) (Cert.DHFIdeal.main (F := Ideal))) ⟨m, fun _ => 0, g⟩ (fun r => ∀ c : Dev Cert.DHFIdeal.nD,
          r.2.mem ((c.tc : Thread Cert.DHFIdeal.nD Cert.DHFIdeal.τ).loc Cert.DHFIdeal.main_v0) = v0 c
          ∧ r.2.mem ((c.tc : Thread Cert.DHFIdeal.nD Cert.DHFIdeal.τ).loc Cert.DHFIdeal.main_arg0) = m ((c.tc : Thread Cert.DHFIdeal.nD Cert.DHFIdeal.τ).loc Cert.DHFIdeal.main_arg0)
          ∧ r.2.mem ((c.tc : Thread Cert.DHFIdeal.nD Cert.DHFIdeal.τ).loc Cert.DHFIdeal.main_arg1) = m ((c.tc : Thread Cert.DHFIdeal.nD Cert.DHFIdeal.τ).loc Cert.DHFIdeal.main_arg1))
      ∧ θ_run (Cert.RefDHFIdeal.defs (F := Ideal)) (onTc (τ := Cert.RefDHFIdeal.τ) (Cert.RefDHFIdeal.main (F := Ideal))) ⟨m', fun _ => 0, g'⟩ (fun r => ∀ c : Dev Cert.RefDHFIdeal.nD,
          r.2.mem ((c.tc : Thread Cert.RefDHFIdeal.nD Cert.RefDHFIdeal.τ).loc Cert.RefDHFIdeal.main_v6) = v0 c
          ∧ r.2.mem ((c.tc : Thread Cert.RefDHFIdeal.nD Cert.RefDHFIdeal.τ).loc Cert.RefDHFIdeal.main_arg0) = m' ((c.tc : Thread Cert.RefDHFIdeal.nD Cert.RefDHFIdeal.τ).loc Cert.RefDHFIdeal.main_arg0)
          ∧ r.2.mem ((c.tc : Thread Cert.RefDHFIdeal.nD Cert.RefDHFIdeal.τ).loc Cert.RefDHFIdeal.main_arg1) = m' ((c.tc : Thread Cert.RefDHFIdeal.nD Cert.RefDHFIdeal.τ).loc Cert.RefDHFIdeal.main_arg1))

def preserves_DHQkv_DHQkvIdeal : Prop :=
  True

def algebraic_DHQkvIdeal_RefDHQkvIdeal [hDHQkvIdeal : Cert.DHQkvIdeal.Facts] [hRefDHQkvIdeal : Cert.RefDHQkvIdeal.Facts] : Prop :=
  ∀ (m : (ℓ : Loc Cert.DHQkvIdeal.nD Cert.DHQkvIdeal.τ Cert.DHQkvIdeal.sig) → Buf (Elt Ideal) ℓ) (g : Dev Cert.DHQkvIdeal.nD → PrngReg)
    (m' : (ℓ : Loc Cert.RefDHQkvIdeal.nD Cert.RefDHQkvIdeal.τ Cert.RefDHQkvIdeal.sig) → Buf (Elt Ideal) ℓ) (g' : Dev Cert.RefDHQkvIdeal.nD → PrngReg), Pre_DHQkvIdeal m →
    (∀ c : Dev Cert.DHQkvIdeal.nD,
      m' ((c.tc : Thread Cert.RefDHQkvIdeal.nD Cert.RefDHQkvIdeal.τ).loc Cert.RefDHQkvIdeal.main_arg0) = m ((c.tc : Thread Cert.DHQkvIdeal.nD Cert.DHQkvIdeal.τ).loc Cert.DHQkvIdeal.main_arg0)
      ∧ m' ((c.tc : Thread Cert.RefDHQkvIdeal.nD Cert.RefDHQkvIdeal.τ).loc Cert.RefDHQkvIdeal.main_arg1) = m ((c.tc : Thread Cert.DHQkvIdeal.nD Cert.DHQkvIdeal.τ).loc Cert.DHQkvIdeal.main_arg1)
      ∧ m' ((c.tc : Thread Cert.RefDHQkvIdeal.nD Cert.RefDHQkvIdeal.τ).loc Cert.RefDHQkvIdeal.main_arg2) = m ((c.tc : Thread Cert.DHQkvIdeal.nD Cert.DHQkvIdeal.τ).loc Cert.DHQkvIdeal.main_arg2)) →
    ∃ (v0 : (c : Dev Cert.DHQkvIdeal.nD) → Buf (Elt Ideal) ((c.tc : Thread Cert.DHQkvIdeal.nD Cert.DHQkvIdeal.τ).loc Cert.DHQkvIdeal.main_v0)),
      θ_run (Cert.DHQkvIdeal.defs (F := Ideal)) (onTc (τ := Cert.DHQkvIdeal.τ) (Cert.DHQkvIdeal.main (F := Ideal))) ⟨m, fun _ => 0, g⟩ (fun r => ∀ c : Dev Cert.DHQkvIdeal.nD,
          r.2.mem ((c.tc : Thread Cert.DHQkvIdeal.nD Cert.DHQkvIdeal.τ).loc Cert.DHQkvIdeal.main_v0) = v0 c
          ∧ r.2.mem ((c.tc : Thread Cert.DHQkvIdeal.nD Cert.DHQkvIdeal.τ).loc Cert.DHQkvIdeal.main_arg0) = m ((c.tc : Thread Cert.DHQkvIdeal.nD Cert.DHQkvIdeal.τ).loc Cert.DHQkvIdeal.main_arg0)
          ∧ r.2.mem ((c.tc : Thread Cert.DHQkvIdeal.nD Cert.DHQkvIdeal.τ).loc Cert.DHQkvIdeal.main_arg1) = m ((c.tc : Thread Cert.DHQkvIdeal.nD Cert.DHQkvIdeal.τ).loc Cert.DHQkvIdeal.main_arg1)
          ∧ r.2.mem ((c.tc : Thread Cert.DHQkvIdeal.nD Cert.DHQkvIdeal.τ).loc Cert.DHQkvIdeal.main_arg2) = m ((c.tc : Thread Cert.DHQkvIdeal.nD Cert.DHQkvIdeal.τ).loc Cert.DHQkvIdeal.main_arg2))
      ∧ θ_run (Cert.RefDHQkvIdeal.defs (F := Ideal)) (onTc (τ := Cert.RefDHQkvIdeal.τ) (Cert.RefDHQkvIdeal.main (F := Ideal))) ⟨m', fun _ => 0, g'⟩ (fun r => ∀ c : Dev Cert.RefDHQkvIdeal.nD,
          r.2.mem ((c.tc : Thread Cert.RefDHQkvIdeal.nD Cert.RefDHQkvIdeal.τ).loc Cert.RefDHQkvIdeal.main_v5) = v0 c
          ∧ r.2.mem ((c.tc : Thread Cert.RefDHQkvIdeal.nD Cert.RefDHQkvIdeal.τ).loc Cert.RefDHQkvIdeal.main_arg0) = m' ((c.tc : Thread Cert.RefDHQkvIdeal.nD Cert.RefDHQkvIdeal.τ).loc Cert.RefDHQkvIdeal.main_arg0)
          ∧ r.2.mem ((c.tc : Thread Cert.RefDHQkvIdeal.nD Cert.RefDHQkvIdeal.τ).loc Cert.RefDHQkvIdeal.main_arg1) = m' ((c.tc : Thread Cert.RefDHQkvIdeal.nD Cert.RefDHQkvIdeal.τ).loc Cert.RefDHQkvIdeal.main_arg1)
          ∧ r.2.mem ((c.tc : Thread Cert.RefDHQkvIdeal.nD Cert.RefDHQkvIdeal.τ).loc Cert.RefDHQkvIdeal.main_arg2) = m' ((c.tc : Thread Cert.RefDHQkvIdeal.nD Cert.RefDHQkvIdeal.τ).loc Cert.RefDHQkvIdeal.main_arg2))

def preserves_ProjA_ProjAIdeal : Prop :=
  True

def algebraic_ProjAIdeal_RefProjAIdeal [hProjAIdeal : Cert.ProjAIdeal.Facts] [hRefProjAIdeal : Cert.RefProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.RefProjAIdeal.nD Cert.RefProjAIdeal.τ Cert.RefProjAIdeal.sig) → Buf (Elt Ideal) ℓ) (g' : Dev Cert.RefProjAIdeal.nD → PrngReg), Pre_ProjAIdeal m →
    (∀ c : Dev Cert.ProjAIdeal.nD,
      m' ((c.tc : Thread Cert.RefProjAIdeal.nD Cert.RefProjAIdeal.τ).loc Cert.RefProjAIdeal.main_arg0) = m ((c.tc : Thread Cert.ProjAIdeal.nD Cert.ProjAIdeal.τ).loc Cert.ProjAIdeal.main_arg0)
      ∧ m' ((c.tc : Thread Cert.RefProjAIdeal.nD Cert.RefProjAIdeal.τ).loc Cert.RefProjAIdeal.main_arg1) = m ((c.tc : Thread Cert.ProjAIdeal.nD Cert.ProjAIdeal.τ).loc Cert.ProjAIdeal.main_arg1)) →
    ∃ (v0 : (c : Dev Cert.ProjAIdeal.nD) → Buf (Elt Ideal) ((c.tc : Thread Cert.ProjAIdeal.nD Cert.ProjAIdeal.τ).loc Cert.ProjAIdeal.main_v0)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v0) = v0 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ θ_run (Cert.RefProjAIdeal.defs (F := Ideal)) (onTc (τ := Cert.RefProjAIdeal.τ) (Cert.RefProjAIdeal.main (F := Ideal))) ⟨m', fun _ => 0, g'⟩ (fun r => ∀ c : Dev Cert.RefProjAIdeal.nD,
          r.2.mem ((c.tc : Thread Cert.RefProjAIdeal.nD Cert.RefProjAIdeal.τ).loc Cert.RefProjAIdeal.main_v4) = v0 c
          ∧ r.2.mem ((c.tc : Thread Cert.RefProjAIdeal.nD Cert.RefProjAIdeal.τ).loc Cert.RefProjAIdeal.main_arg0) = m' ((c.tc : Thread Cert.RefProjAIdeal.nD Cert.RefProjAIdeal.τ).loc Cert.RefProjAIdeal.main_arg0)
          ∧ r.2.mem ((c.tc : Thread Cert.RefProjAIdeal.nD Cert.RefProjAIdeal.τ).loc Cert.RefProjAIdeal.main_arg1) = m' ((c.tc : Thread Cert.RefProjAIdeal.nD Cert.RefProjAIdeal.τ).loc Cert.RefProjAIdeal.main_arg1))

def preserves_ProjB_ProjBIdeal : Prop :=
  True

def algebraic_ProjBIdeal_RefProjBIdeal [hProjBIdeal : Cert.ProjBIdeal.Facts] [hRefProjBIdeal : Cert.RefProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.RefProjBIdeal.nD Cert.RefProjBIdeal.τ Cert.RefProjBIdeal.sig) → Buf (Elt Ideal) ℓ) (g' : Dev Cert.RefProjBIdeal.nD → PrngReg), Pre_ProjBIdeal m →
    (∀ c : Dev Cert.ProjBIdeal.nD,
      m' ((c.tc : Thread Cert.RefProjBIdeal.nD Cert.RefProjBIdeal.τ).loc Cert.RefProjBIdeal.main_arg0) = m ((c.tc : Thread Cert.ProjBIdeal.nD Cert.ProjBIdeal.τ).loc Cert.ProjBIdeal.main_arg0)
      ∧ m' ((c.tc : Thread Cert.RefProjBIdeal.nD Cert.RefProjBIdeal.τ).loc Cert.RefProjBIdeal.main_arg1) = m ((c.tc : Thread Cert.ProjBIdeal.nD Cert.ProjBIdeal.τ).loc Cert.ProjBIdeal.main_arg1)) →
    ∃ (v0 : (c : Dev Cert.ProjBIdeal.nD) → Buf (Elt Ideal) ((c.tc : Thread Cert.ProjBIdeal.nD Cert.ProjBIdeal.τ).loc Cert.ProjBIdeal.main_v0)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v0) = v0 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ θ_run (Cert.RefProjBIdeal.defs (F := Ideal)) (onTc (τ := Cert.RefProjBIdeal.τ) (Cert.RefProjBIdeal.main (F := Ideal))) ⟨m', fun _ => 0, g'⟩ (fun r => ∀ c : Dev Cert.RefProjBIdeal.nD,
          r.2.mem ((c.tc : Thread Cert.RefProjBIdeal.nD Cert.RefProjBIdeal.τ).loc Cert.RefProjBIdeal.main_v3) = v0 c
          ∧ r.2.mem ((c.tc : Thread Cert.RefProjBIdeal.nD Cert.RefProjBIdeal.τ).loc Cert.RefProjBIdeal.main_arg0) = m' ((c.tc : Thread Cert.RefProjBIdeal.nD Cert.RefProjBIdeal.τ).loc Cert.RefProjBIdeal.main_arg0)
          ∧ r.2.mem ((c.tc : Thread Cert.RefProjBIdeal.nD Cert.RefProjBIdeal.τ).loc Cert.RefProjBIdeal.main_arg1) = m' ((c.tc : Thread Cert.RefProjBIdeal.nD Cert.RefProjBIdeal.τ).loc Cert.RefProjBIdeal.main_arg1))

def preserves_ProjF_ProjFIdeal : Prop :=
  True

def algebraic_ProjFIdeal_RefProjFIdeal [hProjFIdeal : Cert.ProjFIdeal.Facts] [hRefProjFIdeal : Cert.RefProjFIdeal.Facts] : Prop :=
  ∀ (m : (ℓ : Loc Cert.ProjFIdeal.nD Cert.ProjFIdeal.τ Cert.ProjFIdeal.sig) → Buf (Elt Ideal) ℓ) (g : Dev Cert.ProjFIdeal.nD → PrngReg)
    (m' : (ℓ : Loc Cert.RefProjFIdeal.nD Cert.RefProjFIdeal.τ Cert.RefProjFIdeal.sig) → Buf (Elt Ideal) ℓ) (g' : Dev Cert.RefProjFIdeal.nD → PrngReg), Pre_ProjFIdeal m →
    (∀ c : Dev Cert.ProjFIdeal.nD,
      m' ((c.tc : Thread Cert.RefProjFIdeal.nD Cert.RefProjFIdeal.τ).loc Cert.RefProjFIdeal.main_arg0) = m ((c.tc : Thread Cert.ProjFIdeal.nD Cert.ProjFIdeal.τ).loc Cert.ProjFIdeal.main_arg0)
      ∧ m' ((c.tc : Thread Cert.RefProjFIdeal.nD Cert.RefProjFIdeal.τ).loc Cert.RefProjFIdeal.main_arg1) = m ((c.tc : Thread Cert.ProjFIdeal.nD Cert.ProjFIdeal.τ).loc Cert.ProjFIdeal.main_arg1)) →
    ∃ (v0 : (c : Dev Cert.ProjFIdeal.nD) → Buf (Elt Ideal) ((c.tc : Thread Cert.ProjFIdeal.nD Cert.ProjFIdeal.τ).loc Cert.ProjFIdeal.main_v0)),
      θ_run (Cert.ProjFIdeal.defs (F := Ideal)) (onTc (τ := Cert.ProjFIdeal.τ) (Cert.ProjFIdeal.main (F := Ideal))) ⟨m, fun _ => 0, g⟩ (fun r => ∀ c : Dev Cert.ProjFIdeal.nD,
          r.2.mem ((c.tc : Thread Cert.ProjFIdeal.nD Cert.ProjFIdeal.τ).loc Cert.ProjFIdeal.main_v0) = v0 c
          ∧ r.2.mem ((c.tc : Thread Cert.ProjFIdeal.nD Cert.ProjFIdeal.τ).loc Cert.ProjFIdeal.main_arg0) = m ((c.tc : Thread Cert.ProjFIdeal.nD Cert.ProjFIdeal.τ).loc Cert.ProjFIdeal.main_arg0)
          ∧ r.2.mem ((c.tc : Thread Cert.ProjFIdeal.nD Cert.ProjFIdeal.τ).loc Cert.ProjFIdeal.main_arg1) = m ((c.tc : Thread Cert.ProjFIdeal.nD Cert.ProjFIdeal.τ).loc Cert.ProjFIdeal.main_arg1))
      ∧ θ_run (Cert.RefProjFIdeal.defs (F := Ideal)) (onTc (τ := Cert.RefProjFIdeal.τ) (Cert.RefProjFIdeal.main (F := Ideal))) ⟨m', fun _ => 0, g'⟩ (fun r => ∀ c : Dev Cert.RefProjFIdeal.nD,
          r.2.mem ((c.tc : Thread Cert.RefProjFIdeal.nD Cert.RefProjFIdeal.τ).loc Cert.RefProjFIdeal.main_v4) = v0 c
          ∧ r.2.mem ((c.tc : Thread Cert.RefProjFIdeal.nD Cert.RefProjFIdeal.τ).loc Cert.RefProjFIdeal.main_arg0) = m' ((c.tc : Thread Cert.RefProjFIdeal.nD Cert.RefProjFIdeal.τ).loc Cert.RefProjFIdeal.main_arg0)
          ∧ r.2.mem ((c.tc : Thread Cert.RefProjFIdeal.nD Cert.RefProjFIdeal.τ).loc Cert.RefProjFIdeal.main_arg1) = m' ((c.tc : Thread Cert.RefProjFIdeal.nD Cert.RefProjFIdeal.τ).loc Cert.RefProjFIdeal.main_arg1))

def preserves_AttnOut_AttnOutIdeal : Prop :=
  True

def algebraic_AttnOutIdeal_RefAttnOutIdeal [hAttnOutIdeal : Cert.AttnOutIdeal.Facts] [hRefAttnOutIdeal : Cert.RefAttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.RefAttnOutIdeal.nD Cert.RefAttnOutIdeal.τ Cert.RefAttnOutIdeal.sig) → Buf (Elt Ideal) ℓ) (g' : Dev Cert.RefAttnOutIdeal.nD → PrngReg), Pre_AttnOutIdeal m →
    (∀ c : Dev Cert.AttnOutIdeal.nD,
      m' ((c.tc : Thread Cert.RefAttnOutIdeal.nD Cert.RefAttnOutIdeal.τ).loc Cert.RefAttnOutIdeal.main_arg0) = m ((c.tc : Thread Cert.AttnOutIdeal.nD Cert.AttnOutIdeal.τ).loc Cert.AttnOutIdeal.main_arg0)
      ∧ m' ((c.tc : Thread Cert.RefAttnOutIdeal.nD Cert.RefAttnOutIdeal.τ).loc Cert.RefAttnOutIdeal.main_arg1) = m ((c.tc : Thread Cert.AttnOutIdeal.nD Cert.AttnOutIdeal.τ).loc Cert.AttnOutIdeal.main_arg1)
      ∧ m' ((c.tc : Thread Cert.RefAttnOutIdeal.nD Cert.RefAttnOutIdeal.τ).loc Cert.RefAttnOutIdeal.main_arg2) = m ((c.tc : Thread Cert.AttnOutIdeal.nD Cert.AttnOutIdeal.τ).loc Cert.AttnOutIdeal.main_arg2)) →
    ∃ (v0 : (c : Dev Cert.AttnOutIdeal.nD) → Buf (Elt Ideal) ((c.tc : Thread Cert.AttnOutIdeal.nD Cert.AttnOutIdeal.τ).loc Cert.AttnOutIdeal.main_v0)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v0) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2))
      ∧ θ_run (Cert.RefAttnOutIdeal.defs (F := Ideal)) (onTc (τ := Cert.RefAttnOutIdeal.τ) (Cert.RefAttnOutIdeal.main (F := Ideal))) ⟨m', fun _ => 0, g'⟩ (fun r => ∀ c : Dev Cert.RefAttnOutIdeal.nD,
          r.2.mem ((c.tc : Thread Cert.RefAttnOutIdeal.nD Cert.RefAttnOutIdeal.τ).loc Cert.RefAttnOutIdeal.main_v3) = v0 c
          ∧ r.2.mem ((c.tc : Thread Cert.RefAttnOutIdeal.nD Cert.RefAttnOutIdeal.τ).loc Cert.RefAttnOutIdeal.main_arg0) = m' ((c.tc : Thread Cert.RefAttnOutIdeal.nD Cert.RefAttnOutIdeal.τ).loc Cert.RefAttnOutIdeal.main_arg0)
          ∧ r.2.mem ((c.tc : Thread Cert.RefAttnOutIdeal.nD Cert.RefAttnOutIdeal.τ).loc Cert.RefAttnOutIdeal.main_arg1) = m' ((c.tc : Thread Cert.RefAttnOutIdeal.nD Cert.RefAttnOutIdeal.τ).loc Cert.RefAttnOutIdeal.main_arg1)
          ∧ r.2.mem ((c.tc : Thread Cert.RefAttnOutIdeal.nD Cert.RefAttnOutIdeal.τ).loc Cert.RefAttnOutIdeal.main_arg2) = m' ((c.tc : Thread Cert.RefAttnOutIdeal.nD Cert.RefAttnOutIdeal.τ).loc Cert.RefAttnOutIdeal.main_arg2))

def preserves_MlpIn_MlpInIdeal : Prop :=
  True

def algebraic_MlpInIdeal_RefMlpInIdeal [hMlpInIdeal : Cert.MlpInIdeal.Facts] [hRefMlpInIdeal : Cert.RefMlpInIdeal.Facts] : Prop :=
  ∀ (m : (ℓ : Loc Cert.MlpInIdeal.nD Cert.MlpInIdeal.τ Cert.MlpInIdeal.sig) → Buf (Elt Ideal) ℓ) (g : Dev Cert.MlpInIdeal.nD → PrngReg)
    (m' : (ℓ : Loc Cert.RefMlpInIdeal.nD Cert.RefMlpInIdeal.τ Cert.RefMlpInIdeal.sig) → Buf (Elt Ideal) ℓ) (g' : Dev Cert.RefMlpInIdeal.nD → PrngReg), Pre_MlpInIdeal m →
    (∀ c : Dev Cert.MlpInIdeal.nD,
      m' ((c.tc : Thread Cert.RefMlpInIdeal.nD Cert.RefMlpInIdeal.τ).loc Cert.RefMlpInIdeal.main_arg0) = m ((c.tc : Thread Cert.MlpInIdeal.nD Cert.MlpInIdeal.τ).loc Cert.MlpInIdeal.main_arg0)
      ∧ m' ((c.tc : Thread Cert.RefMlpInIdeal.nD Cert.RefMlpInIdeal.τ).loc Cert.RefMlpInIdeal.main_arg1) = m ((c.tc : Thread Cert.MlpInIdeal.nD Cert.MlpInIdeal.τ).loc Cert.MlpInIdeal.main_arg1)) →
    ∃ (v0 : (c : Dev Cert.MlpInIdeal.nD) → Buf (Elt Ideal) ((c.tc : Thread Cert.MlpInIdeal.nD Cert.MlpInIdeal.τ).loc Cert.MlpInIdeal.main_v0_0)) (v1 : (c : Dev Cert.MlpInIdeal.nD) → Buf (Elt Ideal) ((c.tc : Thread Cert.MlpInIdeal.nD Cert.MlpInIdeal.τ).loc Cert.MlpInIdeal.main_v0_1)),
      θ_run (Cert.MlpInIdeal.defs (F := Ideal)) (onTc (τ := Cert.MlpInIdeal.τ) (Cert.MlpInIdeal.main (F := Ideal))) ⟨m, fun _ => 0, g⟩ (fun r => ∀ c : Dev Cert.MlpInIdeal.nD,
          r.2.mem ((c.tc : Thread Cert.MlpInIdeal.nD Cert.MlpInIdeal.τ).loc Cert.MlpInIdeal.main_v0_0) = v0 c
          ∧ r.2.mem ((c.tc : Thread Cert.MlpInIdeal.nD Cert.MlpInIdeal.τ).loc Cert.MlpInIdeal.main_v0_1) = v1 c
          ∧ r.2.mem ((c.tc : Thread Cert.MlpInIdeal.nD Cert.MlpInIdeal.τ).loc Cert.MlpInIdeal.main_arg0) = m ((c.tc : Thread Cert.MlpInIdeal.nD Cert.MlpInIdeal.τ).loc Cert.MlpInIdeal.main_arg0)
          ∧ r.2.mem ((c.tc : Thread Cert.MlpInIdeal.nD Cert.MlpInIdeal.τ).loc Cert.MlpInIdeal.main_arg1) = m ((c.tc : Thread Cert.MlpInIdeal.nD Cert.MlpInIdeal.τ).loc Cert.MlpInIdeal.main_arg1))
      ∧ θ_run (Cert.RefMlpInIdeal.defs (F := Ideal)) (onTc (τ := Cert.RefMlpInIdeal.τ) (Cert.RefMlpInIdeal.main (F := Ideal))) ⟨m', fun _ => 0, g'⟩ (fun r => ∀ c : Dev Cert.RefMlpInIdeal.nD,
          r.2.mem ((c.tc : Thread Cert.RefMlpInIdeal.nD Cert.RefMlpInIdeal.τ).loc Cert.RefMlpInIdeal.main_v5) = v0 c
          ∧ r.2.mem ((c.tc : Thread Cert.RefMlpInIdeal.nD Cert.RefMlpInIdeal.τ).loc Cert.RefMlpInIdeal.main_v8) = v1 c
          ∧ r.2.mem ((c.tc : Thread Cert.RefMlpInIdeal.nD Cert.RefMlpInIdeal.τ).loc Cert.RefMlpInIdeal.main_arg0) = m' ((c.tc : Thread Cert.RefMlpInIdeal.nD Cert.RefMlpInIdeal.τ).loc Cert.RefMlpInIdeal.main_arg0)
          ∧ r.2.mem ((c.tc : Thread Cert.RefMlpInIdeal.nD Cert.RefMlpInIdeal.τ).loc Cert.RefMlpInIdeal.main_arg1) = m' ((c.tc : Thread Cert.RefMlpInIdeal.nD Cert.RefMlpInIdeal.τ).loc Cert.RefMlpInIdeal.main_arg1))

def preserves_MlpOut_MlpOutIdeal : Prop :=
  True

def algebraic_MlpOutIdeal_RefMlpOutIdeal [hMlpOutIdeal : Cert.MlpOutIdeal.Facts] [hRefMlpOutIdeal : Cert.RefMlpOutIdeal.Facts] : Prop :=
  ∀ (m : (ℓ : Loc Cert.MlpOutIdeal.nD Cert.MlpOutIdeal.τ Cert.MlpOutIdeal.sig) → Buf (Elt Ideal) ℓ) (g : Dev Cert.MlpOutIdeal.nD → PrngReg)
    (m' : (ℓ : Loc Cert.RefMlpOutIdeal.nD Cert.RefMlpOutIdeal.τ Cert.RefMlpOutIdeal.sig) → Buf (Elt Ideal) ℓ) (g' : Dev Cert.RefMlpOutIdeal.nD → PrngReg), Pre_MlpOutIdeal m →
    (∀ c : Dev Cert.MlpOutIdeal.nD,
      m' ((c.tc : Thread Cert.RefMlpOutIdeal.nD Cert.RefMlpOutIdeal.τ).loc Cert.RefMlpOutIdeal.main_arg0) = m ((c.tc : Thread Cert.MlpOutIdeal.nD Cert.MlpOutIdeal.τ).loc Cert.MlpOutIdeal.main_arg0)
      ∧ m' ((c.tc : Thread Cert.RefMlpOutIdeal.nD Cert.RefMlpOutIdeal.τ).loc Cert.RefMlpOutIdeal.main_arg1) = m ((c.tc : Thread Cert.MlpOutIdeal.nD Cert.MlpOutIdeal.τ).loc Cert.MlpOutIdeal.main_arg1)
      ∧ m' ((c.tc : Thread Cert.RefMlpOutIdeal.nD Cert.RefMlpOutIdeal.τ).loc Cert.RefMlpOutIdeal.main_arg2) = m ((c.tc : Thread Cert.MlpOutIdeal.nD Cert.MlpOutIdeal.τ).loc Cert.MlpOutIdeal.main_arg2)) →
    ∃ (v0 : (c : Dev Cert.MlpOutIdeal.nD) → Buf (Elt Ideal) ((c.tc : Thread Cert.MlpOutIdeal.nD Cert.MlpOutIdeal.τ).loc Cert.MlpOutIdeal.main_v0)),
      θ_run (Cert.MlpOutIdeal.defs (F := Ideal)) (onTc (τ := Cert.MlpOutIdeal.τ) (Cert.MlpOutIdeal.main (F := Ideal))) ⟨m, fun _ => 0, g⟩ (fun r => ∀ c : Dev Cert.MlpOutIdeal.nD,
          r.2.mem ((c.tc : Thread Cert.MlpOutIdeal.nD Cert.MlpOutIdeal.τ).loc Cert.MlpOutIdeal.main_v0) = v0 c
          ∧ r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
          ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1)
          ∧ r.2.mem ((c.tc : Thread Cert.MlpOutIdeal.nD Cert.MlpOutIdeal.τ).loc Cert.MlpOutIdeal.main_arg2) = m ((c.tc : Thread Cert.MlpOutIdeal.nD Cert.MlpOutIdeal.τ).loc Cert.MlpOutIdeal.main_arg2))
      ∧ θ_run (Cert.RefMlpOutIdeal.defs (F := Ideal)) (onTc (τ := Cert.RefMlpOutIdeal.τ) (Cert.RefMlpOutIdeal.main (F := Ideal))) ⟨m', fun _ => 0, g'⟩ (fun r => ∀ c : Dev Cert.RefMlpOutIdeal.nD,
          r.2.mem ((c.tc : Thread Cert.RefMlpOutIdeal.nD Cert.RefMlpOutIdeal.τ).loc Cert.RefMlpOutIdeal.main_v3) = v0 c
          ∧ r.2.mem ((c.tc : Thread Cert.RefMlpOutIdeal.nD Cert.RefMlpOutIdeal.τ).loc Cert.RefMlpOutIdeal.main_arg0) = m' ((c.tc : Thread Cert.RefMlpOutIdeal.nD Cert.RefMlpOutIdeal.τ).loc Cert.RefMlpOutIdeal.main_arg0)
          ∧ r.2.mem ((c.tc : Thread Cert.RefMlpOutIdeal.nD Cert.RefMlpOutIdeal.τ).loc Cert.RefMlpOutIdeal.main_arg1) = m' ((c.tc : Thread Cert.RefMlpOutIdeal.nD Cert.RefMlpOutIdeal.τ).loc Cert.RefMlpOutIdeal.main_arg1)
          ∧ r.2.mem ((c.tc : Thread Cert.RefMlpOutIdeal.nD Cert.RefMlpOutIdeal.τ).loc Cert.RefMlpOutIdeal.main_arg2) = m' ((c.tc : Thread Cert.RefMlpOutIdeal.nD Cert.RefMlpOutIdeal.τ).loc Cert.RefMlpOutIdeal.main_arg2))

def preserves_RmsBwd_RmsBwdIdeal : Prop :=
  True

def algebraic_RmsBwdIdeal_RefRmsBwdIdeal [hRmsBwdIdeal : Cert.RmsBwdIdeal.Facts] [hRefRmsBwdIdeal : Cert.RefRmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RefRmsBwdIdeal.nD Cert.RefRmsBwdIdeal.τ Cert.RefRmsBwdIdeal.sig) → Buf (Elt Ideal) ℓ) (g' : Dev Cert.RefRmsBwdIdeal.nD → PrngReg), Pre_RmsBwdIdeal m →
    (∀ c : Dev Cert.RmsBwdIdeal.nD,
      m' ((c.tc : Thread Cert.RefRmsBwdIdeal.nD Cert.RefRmsBwdIdeal.τ).loc Cert.RefRmsBwdIdeal.main_arg0) = m ((c.tc : Thread Cert.RmsBwdIdeal.nD Cert.RmsBwdIdeal.τ).loc Cert.RmsBwdIdeal.main_arg0)
      ∧ m' ((c.tc : Thread Cert.RefRmsBwdIdeal.nD Cert.RefRmsBwdIdeal.τ).loc Cert.RefRmsBwdIdeal.main_arg1) = m ((c.tc : Thread Cert.RmsBwdIdeal.nD Cert.RmsBwdIdeal.τ).loc Cert.RmsBwdIdeal.main_arg1)
      ∧ m' ((c.tc : Thread Cert.RefRmsBwdIdeal.nD Cert.RefRmsBwdIdeal.τ).loc Cert.RefRmsBwdIdeal.main_arg2) = m ((c.tc : Thread Cert.RmsBwdIdeal.nD Cert.RmsBwdIdeal.τ).loc Cert.RmsBwdIdeal.main_arg2)
      ∧ m' ((c.tc : Thread Cert.RefRmsBwdIdeal.nD Cert.RefRmsBwdIdeal.τ).loc Cert.RefRmsBwdIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v1_0)) (v1 : (c : Dev Cert.RmsBwdIdeal.nD) → Buf (Elt Ideal) ((c.tc : Thread Cert.RmsBwdIdeal.nD Cert.RmsBwdIdeal.τ).loc Cert.RmsBwdIdeal.main_v1_1)) (v2 : (c : Dev Cert.RmsBwdIdeal.nD) → Buf (Elt Ideal) ((c.tc : Thread Cert.RmsBwdIdeal.nD Cert.RmsBwdIdeal.τ).loc Cert.RmsBwdIdeal.main_v1_2)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v1_0) = v0 c
          ∧ r.2.mem ((c.tc : Thread Cert.RmsBwdIdeal.nD Cert.RmsBwdIdeal.τ).loc Cert.RmsBwdIdeal.main_v1_1) = v1 c
          ∧ r.2.mem ((c.tc : Thread Cert.RmsBwdIdeal.nD Cert.RmsBwdIdeal.τ).loc Cert.RmsBwdIdeal.main_v1_2) = v2 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RefRmsBwdIdeal.defs (F := Ideal)) (onTc (τ := Cert.RefRmsBwdIdeal.τ) (Cert.RefRmsBwdIdeal.main (F := Ideal))) ⟨m', fun _ => 0, g'⟩ (fun r => ∀ c : Dev Cert.RefRmsBwdIdeal.nD,
          r.2.mem ((c.tc : Thread Cert.RefRmsBwdIdeal.nD Cert.RefRmsBwdIdeal.τ).loc Cert.RefRmsBwdIdeal.main_v36) = v0 c
          ∧ r.2.mem ((c.tc : Thread Cert.RefRmsBwdIdeal.nD Cert.RefRmsBwdIdeal.τ).loc Cert.RefRmsBwdIdeal.main_v37) = v1 c
          ∧ r.2.mem ((c.tc : Thread Cert.RefRmsBwdIdeal.nD Cert.RefRmsBwdIdeal.τ).loc Cert.RefRmsBwdIdeal.main_v38) = v2 c
          ∧ r.2.mem ((c.tc : Thread Cert.RefRmsBwdIdeal.nD Cert.RefRmsBwdIdeal.τ).loc Cert.RefRmsBwdIdeal.main_arg0) = m' ((c.tc : Thread Cert.RefRmsBwdIdeal.nD Cert.RefRmsBwdIdeal.τ).loc Cert.RefRmsBwdIdeal.main_arg0)
          ∧ r.2.mem ((c.tc : Thread Cert.RefRmsBwdIdeal.nD Cert.RefRmsBwdIdeal.τ).loc Cert.RefRmsBwdIdeal.main_arg1) = m' ((c.tc : Thread Cert.RefRmsBwdIdeal.nD Cert.RefRmsBwdIdeal.τ).loc Cert.RefRmsBwdIdeal.main_arg1)
          ∧ r.2.mem ((c.tc : Thread Cert.RefRmsBwdIdeal.nD Cert.RefRmsBwdIdeal.τ).loc Cert.RefRmsBwdIdeal.main_arg2) = m' ((c.tc : Thread Cert.RefRmsBwdIdeal.nD Cert.RefRmsBwdIdeal.τ).loc Cert.RefRmsBwdIdeal.main_arg2)
          ∧ r.2.mem ((c.tc : Thread Cert.RefRmsBwdIdeal.nD Cert.RefRmsBwdIdeal.τ).loc Cert.RefRmsBwdIdeal.main_arg3) = m' ((c.tc : Thread Cert.RefRmsBwdIdeal.nD Cert.RefRmsBwdIdeal.τ).loc Cert.RefRmsBwdIdeal.main_arg3))

def preserves_PairBwd_PairBwdIdeal : Prop :=
  True

def algebraic_PairBwdIdeal_RefPairBwdIdeal [hPairBwdIdeal : Cert.PairBwdIdeal.Facts] [hRefPairBwdIdeal : Cert.RefPairBwdIdeal.Facts] : Prop :=
  ∀ (m : (ℓ : Loc Cert.PairBwdIdeal.nD Cert.PairBwdIdeal.τ Cert.PairBwdIdeal.sig) → Buf (Elt Ideal) ℓ) (g : Dev Cert.PairBwdIdeal.nD → PrngReg)
    (m' : (ℓ : Loc Cert.RefPairBwdIdeal.nD Cert.RefPairBwdIdeal.τ Cert.RefPairBwdIdeal.sig) → Buf (Elt Ideal) ℓ) (g' : Dev Cert.RefPairBwdIdeal.nD → PrngReg), Pre_PairBwdIdeal m →
    (∀ c : Dev Cert.PairBwdIdeal.nD,
      m' ((c.tc : Thread Cert.RefPairBwdIdeal.nD Cert.RefPairBwdIdeal.τ).loc Cert.RefPairBwdIdeal.main_arg0) = m ((c.tc : Thread Cert.PairBwdIdeal.nD Cert.PairBwdIdeal.τ).loc Cert.PairBwdIdeal.main_arg0)
      ∧ m' ((c.tc : Thread Cert.RefPairBwdIdeal.nD Cert.RefPairBwdIdeal.τ).loc Cert.RefPairBwdIdeal.main_arg1) = m ((c.tc : Thread Cert.PairBwdIdeal.nD Cert.PairBwdIdeal.τ).loc Cert.PairBwdIdeal.main_arg1)
      ∧ m' ((c.tc : Thread Cert.RefPairBwdIdeal.nD Cert.RefPairBwdIdeal.τ).loc Cert.RefPairBwdIdeal.main_arg2) = m ((c.tc : Thread Cert.PairBwdIdeal.nD Cert.PairBwdIdeal.τ).loc Cert.PairBwdIdeal.main_arg2)
      ∧ m' ((c.tc : Thread Cert.RefPairBwdIdeal.nD Cert.RefPairBwdIdeal.τ).loc Cert.RefPairBwdIdeal.main_arg3) = m ((c.tc : Thread Cert.PairBwdIdeal.nD Cert.PairBwdIdeal.τ).loc Cert.PairBwdIdeal.main_arg3)
      ∧ m' ((c.tc : Thread Cert.RefPairBwdIdeal.nD Cert.RefPairBwdIdeal.τ).loc Cert.RefPairBwdIdeal.main_arg4) = m ((c.tc : Thread Cert.PairBwdIdeal.nD Cert.PairBwdIdeal.τ).loc Cert.PairBwdIdeal.main_arg4)) →
    ∃ (v0 : (c : Dev Cert.PairBwdIdeal.nD) → Buf (Elt Ideal) ((c.tc : Thread Cert.PairBwdIdeal.nD Cert.PairBwdIdeal.τ).loc Cert.PairBwdIdeal.main_v2_0)) (v1 : (c : Dev Cert.PairBwdIdeal.nD) → Buf (Elt Ideal) ((c.tc : Thread Cert.PairBwdIdeal.nD Cert.PairBwdIdeal.τ).loc Cert.PairBwdIdeal.main_v2_1)) (v2 : (c : Dev Cert.PairBwdIdeal.nD) → Buf (Elt Ideal) ((c.tc : Thread Cert.PairBwdIdeal.nD Cert.PairBwdIdeal.τ).loc Cert.PairBwdIdeal.main_v2_2)) (v3 : (c : Dev Cert.PairBwdIdeal.nD) → Buf (Elt Ideal) ((c.tc : Thread Cert.PairBwdIdeal.nD Cert.PairBwdIdeal.τ).loc Cert.PairBwdIdeal.main_v2_3)),
      θ_run (Cert.PairBwdIdeal.defs (F := Ideal)) (onTc (τ := Cert.PairBwdIdeal.τ) (Cert.PairBwdIdeal.main (F := Ideal))) ⟨m, fun _ => 0, g⟩ (fun r => ∀ c : Dev Cert.PairBwdIdeal.nD,
          r.2.mem ((c.tc : Thread Cert.PairBwdIdeal.nD Cert.PairBwdIdeal.τ).loc Cert.PairBwdIdeal.main_v2_0) = v0 c
          ∧ r.2.mem ((c.tc : Thread Cert.PairBwdIdeal.nD Cert.PairBwdIdeal.τ).loc Cert.PairBwdIdeal.main_v2_1) = v1 c
          ∧ r.2.mem ((c.tc : Thread Cert.PairBwdIdeal.nD Cert.PairBwdIdeal.τ).loc Cert.PairBwdIdeal.main_v2_2) = v2 c
          ∧ r.2.mem ((c.tc : Thread Cert.PairBwdIdeal.nD Cert.PairBwdIdeal.τ).loc Cert.PairBwdIdeal.main_v2_3) = v3 c
          ∧ r.2.mem ((c.tc : Thread Cert.PairBwdIdeal.nD Cert.PairBwdIdeal.τ).loc Cert.PairBwdIdeal.main_arg0) = m ((c.tc : Thread Cert.PairBwdIdeal.nD Cert.PairBwdIdeal.τ).loc Cert.PairBwdIdeal.main_arg0)
          ∧ r.2.mem ((c.tc : Thread Cert.PairBwdIdeal.nD Cert.PairBwdIdeal.τ).loc Cert.PairBwdIdeal.main_arg1) = m ((c.tc : Thread Cert.PairBwdIdeal.nD Cert.PairBwdIdeal.τ).loc Cert.PairBwdIdeal.main_arg1)
          ∧ r.2.mem ((c.tc : Thread Cert.PairBwdIdeal.nD Cert.PairBwdIdeal.τ).loc Cert.PairBwdIdeal.main_arg2) = m ((c.tc : Thread Cert.PairBwdIdeal.nD Cert.PairBwdIdeal.τ).loc Cert.PairBwdIdeal.main_arg2)
          ∧ r.2.mem ((c.tc : Thread Cert.PairBwdIdeal.nD Cert.PairBwdIdeal.τ).loc Cert.PairBwdIdeal.main_arg3) = m ((c.tc : Thread Cert.PairBwdIdeal.nD Cert.PairBwdIdeal.τ).loc Cert.PairBwdIdeal.main_arg3)
          ∧ r.2.mem ((c.tc : Thread Cert.PairBwdIdeal.nD Cert.PairBwdIdeal.τ).loc Cert.PairBwdIdeal.main_arg4) = m ((c.tc : Thread Cert.PairBwdIdeal.nD Cert.PairBwdIdeal.τ).loc Cert.PairBwdIdeal.main_arg4))
      ∧ θ_run (Cert.RefPairBwdIdeal.defs (F := Ideal)) (onTc (τ := Cert.RefPairBwdIdeal.τ) (Cert.RefPairBwdIdeal.main (F := Ideal))) ⟨m', fun _ => 0, g'⟩ (fun r => ∀ c : Dev Cert.RefPairBwdIdeal.nD,
          r.2.mem ((c.tc : Thread Cert.RefPairBwdIdeal.nD Cert.RefPairBwdIdeal.τ).loc Cert.RefPairBwdIdeal.main_v74) = v0 c
          ∧ r.2.mem ((c.tc : Thread Cert.RefPairBwdIdeal.nD Cert.RefPairBwdIdeal.τ).loc Cert.RefPairBwdIdeal.main_v54) = v1 c
          ∧ r.2.mem ((c.tc : Thread Cert.RefPairBwdIdeal.nD Cert.RefPairBwdIdeal.τ).loc Cert.RefPairBwdIdeal.main_v75) = v2 c
          ∧ r.2.mem ((c.tc : Thread Cert.RefPairBwdIdeal.nD Cert.RefPairBwdIdeal.τ).loc Cert.RefPairBwdIdeal.main_v76) = v3 c
          ∧ r.2.mem ((c.tc : Thread Cert.RefPairBwdIdeal.nD Cert.RefPairBwdIdeal.τ).loc Cert.RefPairBwdIdeal.main_arg0) = m' ((c.tc : Thread Cert.RefPairBwdIdeal.nD Cert.RefPairBwdIdeal.τ).loc Cert.RefPairBwdIdeal.main_arg0)
          ∧ r.2.mem ((c.tc : Thread Cert.RefPairBwdIdeal.nD Cert.RefPairBwdIdeal.τ).loc Cert.RefPairBwdIdeal.main_arg1) = m' ((c.tc : Thread Cert.RefPairBwdIdeal.nD Cert.RefPairBwdIdeal.τ).loc Cert.RefPairBwdIdeal.main_arg1)
          ∧ r.2.mem ((c.tc : Thread Cert.RefPairBwdIdeal.nD Cert.RefPairBwdIdeal.τ).loc Cert.RefPairBwdIdeal.main_arg2) = m' ((c.tc : Thread Cert.RefPairBwdIdeal.nD Cert.RefPairBwdIdeal.τ).loc Cert.RefPairBwdIdeal.main_arg2)
          ∧ r.2.mem ((c.tc : Thread Cert.RefPairBwdIdeal.nD Cert.RefPairBwdIdeal.τ).loc Cert.RefPairBwdIdeal.main_arg3) = m' ((c.tc : Thread Cert.RefPairBwdIdeal.nD Cert.RefPairBwdIdeal.τ).loc Cert.RefPairBwdIdeal.main_arg3)
          ∧ r.2.mem ((c.tc : Thread Cert.RefPairBwdIdeal.nD Cert.RefPairBwdIdeal.τ).loc Cert.RefPairBwdIdeal.main_arg4) = m' ((c.tc : Thread Cert.RefPairBwdIdeal.nD Cert.RefPairBwdIdeal.τ).loc Cert.RefPairBwdIdeal.main_arg4))

def preserves_RmsFwd_RmsFwdIdeal : Prop :=
  True

def algebraic_RmsFwdIdeal_RefRmsFwdIdeal [hRmsFwdIdeal : Cert.RmsFwdIdeal.Facts] [hRefRmsFwdIdeal : Cert.RefRmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RefRmsFwdIdeal.nD Cert.RefRmsFwdIdeal.τ Cert.RefRmsFwdIdeal.sig) → Buf (Elt Ideal) ℓ) (g' : Dev Cert.RefRmsFwdIdeal.nD → PrngReg), Pre_RmsFwdIdeal m →
    (∀ c : Dev Cert.RmsFwdIdeal.nD,
      m' ((c.tc : Thread Cert.RefRmsFwdIdeal.nD Cert.RefRmsFwdIdeal.τ).loc Cert.RefRmsFwdIdeal.main_arg0) = m ((c.tc : Thread Cert.RmsFwdIdeal.nD Cert.RmsFwdIdeal.τ).loc Cert.RmsFwdIdeal.main_arg0)
      ∧ m' ((c.tc : Thread Cert.RefRmsFwdIdeal.nD Cert.RefRmsFwdIdeal.τ).loc Cert.RefRmsFwdIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v1)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v1) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RefRmsFwdIdeal.defs (F := Ideal)) (onTc (τ := Cert.RefRmsFwdIdeal.τ) (Cert.RefRmsFwdIdeal.main (F := Ideal))) ⟨m', fun _ => 0, g'⟩ (fun r => ∀ c : Dev Cert.RefRmsFwdIdeal.nD,
          r.2.mem ((c.tc : Thread Cert.RefRmsFwdIdeal.nD Cert.RefRmsFwdIdeal.τ).loc Cert.RefRmsFwdIdeal.main_v13) = v0 c
          ∧ r.2.mem ((c.tc : Thread Cert.RefRmsFwdIdeal.nD Cert.RefRmsFwdIdeal.τ).loc Cert.RefRmsFwdIdeal.main_arg0) = m' ((c.tc : Thread Cert.RefRmsFwdIdeal.nD Cert.RefRmsFwdIdeal.τ).loc Cert.RefRmsFwdIdeal.main_arg0)
          ∧ r.2.mem ((c.tc : Thread Cert.RefRmsFwdIdeal.nD Cert.RefRmsFwdIdeal.τ).loc Cert.RefRmsFwdIdeal.main_arg1) = m' ((c.tc : Thread Cert.RefRmsFwdIdeal.nD Cert.RefRmsFwdIdeal.τ).loc Cert.RefRmsFwdIdeal.main_arg1))

def preserves_PairFwd_PairFwdIdeal : Prop :=
  True

def algebraic_PairFwdIdeal_RefPairFwdIdeal [hPairFwdIdeal : Cert.PairFwdIdeal.Facts] [hRefPairFwdIdeal : Cert.RefPairFwdIdeal.Facts] : Prop :=
  ∀ (m : (ℓ : Loc Cert.PairFwdIdeal.nD Cert.PairFwdIdeal.τ Cert.PairFwdIdeal.sig) → Buf (Elt Ideal) ℓ) (g : Dev Cert.PairFwdIdeal.nD → PrngReg)
    (m' : (ℓ : Loc Cert.RefPairFwdIdeal.nD Cert.RefPairFwdIdeal.τ Cert.RefPairFwdIdeal.sig) → Buf (Elt Ideal) ℓ) (g' : Dev Cert.RefPairFwdIdeal.nD → PrngReg), Pre_PairFwdIdeal m →
    (∀ c : Dev Cert.PairFwdIdeal.nD,
      m' ((c.tc : Thread Cert.RefPairFwdIdeal.nD Cert.RefPairFwdIdeal.τ).loc Cert.RefPairFwdIdeal.main_arg0) = m ((c.tc : Thread Cert.PairFwdIdeal.nD Cert.PairFwdIdeal.τ).loc Cert.PairFwdIdeal.main_arg0)
      ∧ m' ((c.tc : Thread Cert.RefPairFwdIdeal.nD Cert.RefPairFwdIdeal.τ).loc Cert.RefPairFwdIdeal.main_arg1) = m ((c.tc : Thread Cert.PairFwdIdeal.nD Cert.PairFwdIdeal.τ).loc Cert.PairFwdIdeal.main_arg1)
      ∧ m' ((c.tc : Thread Cert.RefPairFwdIdeal.nD Cert.RefPairFwdIdeal.τ).loc Cert.RefPairFwdIdeal.main_arg2) = m ((c.tc : Thread Cert.PairFwdIdeal.nD Cert.PairFwdIdeal.τ).loc Cert.PairFwdIdeal.main_arg2)
      ∧ m' ((c.tc : Thread Cert.RefPairFwdIdeal.nD Cert.RefPairFwdIdeal.τ).loc Cert.RefPairFwdIdeal.main_arg3) = m ((c.tc : Thread Cert.PairFwdIdeal.nD Cert.PairFwdIdeal.τ).loc Cert.PairFwdIdeal.main_arg3)) →
    ∃ (v0 : (c : Dev Cert.PairFwdIdeal.nD) → Buf (Elt Ideal) ((c.tc : Thread Cert.PairFwdIdeal.nD Cert.PairFwdIdeal.τ).loc Cert.PairFwdIdeal.main_v2)),
      θ_run (Cert.PairFwdIdeal.defs (F := Ideal)) (onTc (τ := Cert.PairFwdIdeal.τ) (Cert.PairFwdIdeal.main (F := Ideal))) ⟨m, fun _ => 0, g⟩ (fun r => ∀ c : Dev Cert.PairFwdIdeal.nD,
          r.2.mem ((c.tc : Thread Cert.PairFwdIdeal.nD Cert.PairFwdIdeal.τ).loc Cert.PairFwdIdeal.main_v2) = v0 c
          ∧ r.2.mem ((c.tc : Thread Cert.PairFwdIdeal.nD Cert.PairFwdIdeal.τ).loc Cert.PairFwdIdeal.main_arg0) = m ((c.tc : Thread Cert.PairFwdIdeal.nD Cert.PairFwdIdeal.τ).loc Cert.PairFwdIdeal.main_arg0)
          ∧ r.2.mem ((c.tc : Thread Cert.PairFwdIdeal.nD Cert.PairFwdIdeal.τ).loc Cert.PairFwdIdeal.main_arg1) = m ((c.tc : Thread Cert.PairFwdIdeal.nD Cert.PairFwdIdeal.τ).loc Cert.PairFwdIdeal.main_arg1)
          ∧ r.2.mem ((c.tc : Thread Cert.PairFwdIdeal.nD Cert.PairFwdIdeal.τ).loc Cert.PairFwdIdeal.main_arg2) = m ((c.tc : Thread Cert.PairFwdIdeal.nD Cert.PairFwdIdeal.τ).loc Cert.PairFwdIdeal.main_arg2)
          ∧ r.2.mem ((c.tc : Thread Cert.PairFwdIdeal.nD Cert.PairFwdIdeal.τ).loc Cert.PairFwdIdeal.main_arg3) = m ((c.tc : Thread Cert.PairFwdIdeal.nD Cert.PairFwdIdeal.τ).loc Cert.PairFwdIdeal.main_arg3))
      ∧ θ_run (Cert.RefPairFwdIdeal.defs (F := Ideal)) (onTc (τ := Cert.RefPairFwdIdeal.τ) (Cert.RefPairFwdIdeal.main (F := Ideal))) ⟨m', fun _ => 0, g'⟩ (fun r => ∀ c : Dev Cert.RefPairFwdIdeal.nD,
          r.2.mem ((c.tc : Thread Cert.RefPairFwdIdeal.nD Cert.RefPairFwdIdeal.τ).loc Cert.RefPairFwdIdeal.main_v27) = v0 c
          ∧ r.2.mem ((c.tc : Thread Cert.RefPairFwdIdeal.nD Cert.RefPairFwdIdeal.τ).loc Cert.RefPairFwdIdeal.main_arg0) = m' ((c.tc : Thread Cert.RefPairFwdIdeal.nD Cert.RefPairFwdIdeal.τ).loc Cert.RefPairFwdIdeal.main_arg0)
          ∧ r.2.mem ((c.tc : Thread Cert.RefPairFwdIdeal.nD Cert.RefPairFwdIdeal.τ).loc Cert.RefPairFwdIdeal.main_arg1) = m' ((c.tc : Thread Cert.RefPairFwdIdeal.nD Cert.RefPairFwdIdeal.τ).loc Cert.RefPairFwdIdeal.main_arg1)
          ∧ r.2.mem ((c.tc : Thread Cert.RefPairFwdIdeal.nD Cert.RefPairFwdIdeal.τ).loc Cert.RefPairFwdIdeal.main_arg2) = m' ((c.tc : Thread Cert.RefPairFwdIdeal.nD Cert.RefPairFwdIdeal.τ).loc Cert.RefPairFwdIdeal.main_arg2)
          ∧ r.2.mem ((c.tc : Thread Cert.RefPairFwdIdeal.nD Cert.RefPairFwdIdeal.τ).loc Cert.RefPairFwdIdeal.main_arg3) = m' ((c.tc : Thread Cert.RefPairFwdIdeal.nD Cert.RefPairFwdIdeal.τ).loc Cert.RefPairFwdIdeal.main_arg3))

def preserves_FoxFwd_FoxFwdIdeal : Prop :=
  IdealRules.named_const.Statement Cert.FoxFwdIdeal.κ "mask" .f32 0xF149F2CA#32 ⊥
  ∧ IdealRules.named_const.Statement Cert.FoxFwdIdeal.κ "scale2" .f32 0x3E0293EE#32 (((1048576 / 11863283) * (Real.log 2)⁻¹ : ℝ) : EReal)

def algebraic_FoxFwdIdeal_RefFoxFwdIdeal_pre_finite24 [hFoxFwdIdeal : Cert.FoxFwdIdeal.Facts] [hRefFoxFwdIdeal : Cert.RefFoxFwdIdeal.Facts] [hPre_finite24 : Cert.Pre_finite24.Facts] : Prop :=
  ∀ (m : (ℓ : Loc Cert.FoxFwdIdeal.nD Cert.FoxFwdIdeal.τ Cert.FoxFwdIdeal.sig) → Buf (Elt Ideal) ℓ) (g : Dev Cert.FoxFwdIdeal.nD → PrngReg)
    (m' : (ℓ : Loc Cert.RefFoxFwdIdeal.nD Cert.RefFoxFwdIdeal.τ Cert.RefFoxFwdIdeal.sig) → Buf (Elt Ideal) ℓ) (g' : Dev Cert.RefFoxFwdIdeal.nD → PrngReg), Pre_FoxFwdIdeal_finite24 m →
    (∀ c : Dev Cert.FoxFwdIdeal.nD,
      m' ((c.tc : Thread Cert.RefFoxFwdIdeal.nD Cert.RefFoxFwdIdeal.τ).loc Cert.RefFoxFwdIdeal.main_arg0) = m ((c.tc : Thread Cert.FoxFwdIdeal.nD Cert.FoxFwdIdeal.τ).loc Cert.FoxFwdIdeal.main_arg0)
      ∧ m' ((c.tc : Thread Cert.RefFoxFwdIdeal.nD Cert.RefFoxFwdIdeal.τ).loc Cert.RefFoxFwdIdeal.main_arg1) = m ((c.tc : Thread Cert.FoxFwdIdeal.nD Cert.FoxFwdIdeal.τ).loc Cert.FoxFwdIdeal.main_arg1)) →
    ∃ (v0 : (c : Dev Cert.FoxFwdIdeal.nD) → Buf (Elt Ideal) ((c.tc : Thread Cert.FoxFwdIdeal.nD Cert.FoxFwdIdeal.τ).loc Cert.FoxFwdIdeal.main_v22_0)) (v1 : (c : Dev Cert.FoxFwdIdeal.nD) → Buf (Elt Ideal) ((c.tc : Thread Cert.FoxFwdIdeal.nD Cert.FoxFwdIdeal.τ).loc Cert.FoxFwdIdeal.main_v22_1)),
      θ_run (Cert.FoxFwdIdeal.defs (F := Ideal)) (onTc (τ := Cert.FoxFwdIdeal.τ) (Cert.FoxFwdIdeal.main (F := Ideal))) ⟨m, fun _ => 0, g⟩ (fun r => ∀ c : Dev Cert.FoxFwdIdeal.nD,
          r.2.mem ((c.tc : Thread Cert.FoxFwdIdeal.nD Cert.FoxFwdIdeal.τ).loc Cert.FoxFwdIdeal.main_v22_0) = v0 c
          ∧ r.2.mem ((c.tc : Thread Cert.FoxFwdIdeal.nD Cert.FoxFwdIdeal.τ).loc Cert.FoxFwdIdeal.main_v22_1) = v1 c
          ∧ r.2.mem ((c.tc : Thread Cert.FoxFwdIdeal.nD Cert.FoxFwdIdeal.τ).loc Cert.FoxFwdIdeal.main_arg0) = m ((c.tc : Thread Cert.FoxFwdIdeal.nD Cert.FoxFwdIdeal.τ).loc Cert.FoxFwdIdeal.main_arg0)
          ∧ r.2.mem ((c.tc : Thread Cert.FoxFwdIdeal.nD Cert.FoxFwdIdeal.τ).loc Cert.FoxFwdIdeal.main_arg1) = m ((c.tc : Thread Cert.FoxFwdIdeal.nD Cert.FoxFwdIdeal.τ).loc Cert.FoxFwdIdeal.main_arg1))
      ∧ θ_run (Cert.RefFoxFwdIdeal.defs (F := Ideal)) (onTc (τ := Cert.RefFoxFwdIdeal.τ) (Cert.RefFoxFwdIdeal.main (F := Ideal))) ⟨m', fun _ => 0, g'⟩ (fun r => ∀ c : Dev Cert.RefFoxFwdIdeal.nD,
          r.2.mem ((c.tc : Thread Cert.RefFoxFwdIdeal.nD Cert.RefFoxFwdIdeal.τ).loc Cert.RefFoxFwdIdeal.main_v35) = v0 c
          ∧ r.2.mem ((c.tc : Thread Cert.RefFoxFwdIdeal.nD Cert.RefFoxFwdIdeal.τ).loc Cert.RefFoxFwdIdeal.main_v44) = v1 c
          ∧ r.2.mem ((c.tc : Thread Cert.RefFoxFwdIdeal.nD Cert.RefFoxFwdIdeal.τ).loc Cert.RefFoxFwdIdeal.main_arg0) = m' ((c.tc : Thread Cert.RefFoxFwdIdeal.nD Cert.RefFoxFwdIdeal.τ).loc Cert.RefFoxFwdIdeal.main_arg0)
          ∧ r.2.mem ((c.tc : Thread Cert.RefFoxFwdIdeal.nD Cert.RefFoxFwdIdeal.τ).loc Cert.RefFoxFwdIdeal.main_arg1) = m' ((c.tc : Thread Cert.RefFoxFwdIdeal.nD Cert.RefFoxFwdIdeal.τ).loc Cert.RefFoxFwdIdeal.main_arg1))

def Claim : Prop :=
  ∃ (hKernel : Cert.Kernel.Facts) (hKernelIdeal : Cert.KernelIdeal.Facts) (hReferenceIdeal : Cert.ReferenceIdeal.Facts) (hDAct : Cert.DAct.Facts) (hDActIdeal : Cert.DActIdeal.Facts) (hRefDActIdeal : Cert.RefDActIdeal.Facts) (hDWOut : Cert.DWOut.Facts) (hDWOutIdeal : Cert.DWOutIdeal.Facts) (hRefDWOutIdeal : Cert.RefDWOutIdeal.Facts) (hDH : Cert.DH.Facts) (hDHIdeal : Cert.DHIdeal.Facts) (hRefDHIdeal : Cert.RefDHIdeal.Facts) (hDWIn : Cert.DWIn.Facts) (hDWInIdeal : Cert.DWInIdeal.Facts) (hRefDWInIdeal : Cert.RefDWInIdeal.Facts) (hDMixed : Cert.DMixed.Facts) (hDMixedIdeal : Cert.DMixedIdeal.Facts) (hRefDMixedIdeal : Cert.RefDMixedIdeal.Facts) (hDWProj : Cert.DWProj.Facts) (hDWProjIdeal : Cert.DWProjIdeal.Facts) (hRefDWProjIdeal : Cert.RefDWProjIdeal.Facts) (hDWQkv : Cert.DWQkv.Facts) (hDWQkvIdeal : Cert.DWQkvIdeal.Facts) (hRefDWQkvIdeal : Cert.RefDWQkvIdeal.Facts) (hDWF : Cert.DWF.Facts) (hDWFIdeal : Cert.DWFIdeal.Facts) (hRefDWFIdeal : Cert.RefDWFIdeal.Facts) (hDHF : Cert.DHF.Facts) (hDHFIdeal : Cert.DHFIdeal.Facts) (hRefDHFIdeal : Cert.RefDHFIdeal.Facts) (hDHQkv : Cert.DHQkv.Facts) (hDHQkvIdeal : Cert.DHQkvIdeal.Facts) (hRefDHQkvIdeal : Cert.RefDHQkvIdeal.Facts) (hProjA : Cert.ProjA.Facts) (hProjAIdeal : Cert.ProjAIdeal.Facts) (hRefProjAIdeal : Cert.RefProjAIdeal.Facts) (hProjB : Cert.ProjB.Facts) (hProjBIdeal : Cert.ProjBIdeal.Facts) (hRefProjBIdeal : Cert.RefProjBIdeal.Facts) (hProjF : Cert.ProjF.Facts) (hProjFIdeal : Cert.ProjFIdeal.Facts) (hRefProjFIdeal : Cert.RefProjFIdeal.Facts) (hAttnOut : Cert.AttnOut.Facts) (hAttnOutIdeal : Cert.AttnOutIdeal.Facts) (hRefAttnOutIdeal : Cert.RefAttnOutIdeal.Facts) (hMlpIn : Cert.MlpIn.Facts) (hMlpInIdeal : Cert.MlpInIdeal.Facts) (hRefMlpInIdeal : Cert.RefMlpInIdeal.Facts) (hMlpOut : Cert.MlpOut.Facts) (hMlpOutIdeal : Cert.MlpOutIdeal.Facts) (hRefMlpOutIdeal : Cert.RefMlpOutIdeal.Facts) (hRmsBwd : Cert.RmsBwd.Facts) (hRmsBwdIdeal : Cert.RmsBwdIdeal.Facts) (hRefRmsBwdIdeal : Cert.RefRmsBwdIdeal.Facts) (hPairBwd : Cert.PairBwd.Facts) (hPairBwdIdeal : Cert.PairBwdIdeal.Facts) (hRefPairBwdIdeal : Cert.RefPairBwdIdeal.Facts) (hRmsFwd : Cert.RmsFwd.Facts) (hRmsFwdIdeal : Cert.RmsFwdIdeal.Facts) (hRefRmsFwdIdeal : Cert.RefRmsFwdIdeal.Facts) (hPairFwd : Cert.PairFwd.Facts) (hPairFwdIdeal : Cert.PairFwdIdeal.Facts) (hRefPairFwdIdeal : Cert.RefPairFwdIdeal.Facts) (hFoxFwd : Cert.FoxFwd.Facts) (hFoxFwdIdeal : Cert.FoxFwdIdeal.Facts) (hRefFoxFwdIdeal : Cert.RefFoxFwdIdeal.Facts) (hPre_finite : Cert.Pre_finite.Facts) (hPre_finite24 : Cert.Pre_finite24.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DAct (hDAct := hDAct)
    ∧ quiescent_DActIdeal (hDActIdeal := hDActIdeal)
    ∧ quiescent_RefDActIdeal (hRefDActIdeal := hRefDActIdeal)
    ∧ quiescent_DWOut (hDWOut := hDWOut)
    ∧ quiescent_DWOutIdeal (hDWOutIdeal := hDWOutIdeal)
    ∧ quiescent_RefDWOutIdeal (hRefDWOutIdeal := hRefDWOutIdeal)
    ∧ quiescent_DH (hDH := hDH)
    ∧ quiescent_DHIdeal (hDHIdeal := hDHIdeal)
    ∧ quiescent_RefDHIdeal (hRefDHIdeal := hRefDHIdeal)
    ∧ quiescent_DWIn (hDWIn := hDWIn)
    ∧ quiescent_DWInIdeal (hDWInIdeal := hDWInIdeal)
    ∧ quiescent_RefDWInIdeal (hRefDWInIdeal := hRefDWInIdeal)
    ∧ quiescent_DMixed (hDMixed := hDMixed)
    ∧ quiescent_DMixedIdeal (hDMixedIdeal := hDMixedIdeal)
    ∧ quiescent_RefDMixedIdeal (hRefDMixedIdeal := hRefDMixedIdeal)
    ∧ quiescent_DWProj (hDWProj := hDWProj)
    ∧ quiescent_DWProjIdeal (hDWProjIdeal := hDWProjIdeal)
    ∧ quiescent_RefDWProjIdeal (hRefDWProjIdeal := hRefDWProjIdeal)
    ∧ quiescent_DWQkv (hDWQkv := hDWQkv)
    ∧ quiescent_DWQkvIdeal (hDWQkvIdeal := hDWQkvIdeal)
    ∧ quiescent_RefDWQkvIdeal (hRefDWQkvIdeal := hRefDWQkvIdeal)
    ∧ quiescent_DWF (hDWF := hDWF)
    ∧ quiescent_DWFIdeal (hDWFIdeal := hDWFIdeal)
    ∧ quiescent_RefDWFIdeal (hRefDWFIdeal := hRefDWFIdeal)
    ∧ quiescent_DHF (hDHF := hDHF)
    ∧ quiescent_DHFIdeal (hDHFIdeal := hDHFIdeal)
    ∧ quiescent_RefDHFIdeal (hRefDHFIdeal := hRefDHFIdeal)
    ∧ quiescent_DHQkv (hDHQkv := hDHQkv)
    ∧ quiescent_DHQkvIdeal (hDHQkvIdeal := hDHQkvIdeal)
    ∧ quiescent_RefDHQkvIdeal (hRefDHQkvIdeal := hRefDHQkvIdeal)
    ∧ quiescent_ProjA (hProjA := hProjA)
    ∧ quiescent_ProjAIdeal (hProjAIdeal := hProjAIdeal)
    ∧ quiescent_RefProjAIdeal (hRefProjAIdeal := hRefProjAIdeal)
    ∧ quiescent_ProjB (hProjB := hProjB)
    ∧ quiescent_ProjBIdeal (hProjBIdeal := hProjBIdeal)
    ∧ quiescent_RefProjBIdeal (hRefProjBIdeal := hRefProjBIdeal)
    ∧ quiescent_ProjF (hProjF := hProjF)
    ∧ quiescent_ProjFIdeal (hProjFIdeal := hProjFIdeal)
    ∧ quiescent_RefProjFIdeal (hRefProjFIdeal := hRefProjFIdeal)
    ∧ quiescent_AttnOut (hAttnOut := hAttnOut)
    ∧ quiescent_AttnOutIdeal (hAttnOutIdeal := hAttnOutIdeal)
    ∧ quiescent_RefAttnOutIdeal (hRefAttnOutIdeal := hRefAttnOutIdeal)
    ∧ quiescent_MlpIn (hMlpIn := hMlpIn)
    ∧ quiescent_MlpInIdeal (hMlpInIdeal := hMlpInIdeal)
    ∧ quiescent_RefMlpInIdeal (hRefMlpInIdeal := hRefMlpInIdeal)
    ∧ quiescent_MlpOut (hMlpOut := hMlpOut)
    ∧ quiescent_MlpOutIdeal (hMlpOutIdeal := hMlpOutIdeal)
    ∧ quiescent_RefMlpOutIdeal (hRefMlpOutIdeal := hRefMlpOutIdeal)
    ∧ quiescent_RmsBwd (hRmsBwd := hRmsBwd)
    ∧ quiescent_RmsBwdIdeal (hRmsBwdIdeal := hRmsBwdIdeal)
    ∧ quiescent_RefRmsBwdIdeal (hRefRmsBwdIdeal := hRefRmsBwdIdeal)
    ∧ quiescent_PairBwd (hPairBwd := hPairBwd)
    ∧ quiescent_PairBwdIdeal (hPairBwdIdeal := hPairBwdIdeal)
    ∧ quiescent_RefPairBwdIdeal (hRefPairBwdIdeal := hRefPairBwdIdeal)
    ∧ quiescent_RmsFwd (hRmsFwd := hRmsFwd)
    ∧ quiescent_RmsFwdIdeal (hRmsFwdIdeal := hRmsFwdIdeal)
    ∧ quiescent_RefRmsFwdIdeal (hRefRmsFwdIdeal := hRefRmsFwdIdeal)
    ∧ quiescent_PairFwd (hPairFwd := hPairFwd)
    ∧ quiescent_PairFwdIdeal (hPairFwdIdeal := hPairFwdIdeal)
    ∧ quiescent_RefPairFwdIdeal (hRefPairFwdIdeal := hRefPairFwdIdeal)
    ∧ quiescent_FoxFwd (hFoxFwd := hFoxFwd)
    ∧ quiescent_FoxFwdIdeal (hFoxFwdIdeal := hFoxFwdIdeal)
    ∧ quiescent_FoxFwdIdeal_pre_finite24 (hFoxFwdIdeal := hFoxFwdIdeal) (hPre_finite24 := hPre_finite24)
    ∧ quiescent_RefFoxFwdIdeal (hRefFoxFwdIdeal := hRefFoxFwdIdeal)
    ∧ quiescent_RefFoxFwdIdeal_pre_finite24 (hRefFoxFwdIdeal := hRefFoxFwdIdeal) (hPre_finite24 := hPre_finite24)
    ∧ preserves_Kernel_KernelIdeal
    ∧ algebraic_KernelIdeal_ReferenceIdeal_pre_finite (hKernelIdeal := hKernelIdeal) (hReferenceIdeal := hReferenceIdeal) (hPre_finite := hPre_finite)
    ∧ preserves_DAct_DActIdeal
    ∧ algebraic_DActIdeal_RefDActIdeal (hDActIdeal := hDActIdeal) (hRefDActIdeal := hRefDActIdeal)
    ∧ preserves_DWOut_DWOutIdeal
    ∧ algebraic_DWOutIdeal_RefDWOutIdeal (hDWOutIdeal := hDWOutIdeal) (hRefDWOutIdeal := hRefDWOutIdeal)
    ∧ preserves_DH_DHIdeal
    ∧ algebraic_DHIdeal_RefDHIdeal (hDHIdeal := hDHIdeal) (hRefDHIdeal := hRefDHIdeal)
    ∧ preserves_DWIn_DWInIdeal
    ∧ algebraic_DWInIdeal_RefDWInIdeal (hDWInIdeal := hDWInIdeal) (hRefDWInIdeal := hRefDWInIdeal)
    ∧ preserves_DMixed_DMixedIdeal
    ∧ algebraic_DMixedIdeal_RefDMixedIdeal (hDMixedIdeal := hDMixedIdeal) (hRefDMixedIdeal := hRefDMixedIdeal)
    ∧ preserves_DWProj_DWProjIdeal
    ∧ algebraic_DWProjIdeal_RefDWProjIdeal (hDWProjIdeal := hDWProjIdeal) (hRefDWProjIdeal := hRefDWProjIdeal)
    ∧ preserves_DWQkv_DWQkvIdeal
    ∧ algebraic_DWQkvIdeal_RefDWQkvIdeal (hDWQkvIdeal := hDWQkvIdeal) (hRefDWQkvIdeal := hRefDWQkvIdeal)
    ∧ preserves_DWF_DWFIdeal
    ∧ algebraic_DWFIdeal_RefDWFIdeal (hDWFIdeal := hDWFIdeal) (hRefDWFIdeal := hRefDWFIdeal)
    ∧ preserves_DHF_DHFIdeal
    ∧ algebraic_DHFIdeal_RefDHFIdeal (hDHFIdeal := hDHFIdeal) (hRefDHFIdeal := hRefDHFIdeal)
    ∧ preserves_DHQkv_DHQkvIdeal
    ∧ algebraic_DHQkvIdeal_RefDHQkvIdeal (hDHQkvIdeal := hDHQkvIdeal) (hRefDHQkvIdeal := hRefDHQkvIdeal)
    ∧ preserves_ProjA_ProjAIdeal
    ∧ algebraic_ProjAIdeal_RefProjAIdeal (hProjAIdeal := hProjAIdeal) (hRefProjAIdeal := hRefProjAIdeal)
    ∧ preserves_ProjB_ProjBIdeal
    ∧ algebraic_ProjBIdeal_RefProjBIdeal (hProjBIdeal := hProjBIdeal) (hRefProjBIdeal := hRefProjBIdeal)
    ∧ preserves_ProjF_ProjFIdeal
    ∧ algebraic_ProjFIdeal_RefProjFIdeal (hProjFIdeal := hProjFIdeal) (hRefProjFIdeal := hRefProjFIdeal)
    ∧ preserves_AttnOut_AttnOutIdeal
    ∧ algebraic_AttnOutIdeal_RefAttnOutIdeal (hAttnOutIdeal := hAttnOutIdeal) (hRefAttnOutIdeal := hRefAttnOutIdeal)
    ∧ preserves_MlpIn_MlpInIdeal
    ∧ algebraic_MlpInIdeal_RefMlpInIdeal (hMlpInIdeal := hMlpInIdeal) (hRefMlpInIdeal := hRefMlpInIdeal)
    ∧ preserves_MlpOut_MlpOutIdeal
    ∧ algebraic_MlpOutIdeal_RefMlpOutIdeal (hMlpOutIdeal := hMlpOutIdeal) (hRefMlpOutIdeal := hRefMlpOutIdeal)
    ∧ preserves_RmsBwd_RmsBwdIdeal
    ∧ algebraic_RmsBwdIdeal_RefRmsBwdIdeal (hRmsBwdIdeal := hRmsBwdIdeal) (hRefRmsBwdIdeal := hRefRmsBwdIdeal)
    ∧ preserves_PairBwd_PairBwdIdeal
    ∧ algebraic_PairBwdIdeal_RefPairBwdIdeal (hPairBwdIdeal := hPairBwdIdeal) (hRefPairBwdIdeal := hRefPairBwdIdeal)
    ∧ preserves_RmsFwd_RmsFwdIdeal
    ∧ algebraic_RmsFwdIdeal_RefRmsFwdIdeal (hRmsFwdIdeal := hRmsFwdIdeal) (hRefRmsFwdIdeal := hRefRmsFwdIdeal)
    ∧ preserves_PairFwd_PairFwdIdeal
    ∧ algebraic_PairFwdIdeal_RefPairFwdIdeal (hPairFwdIdeal := hPairFwdIdeal) (hRefPairFwdIdeal := hRefPairFwdIdeal)
    ∧ preserves_FoxFwd_FoxFwdIdeal
    ∧ algebraic_FoxFwdIdeal_RefFoxFwdIdeal_pre_finite24 (hFoxFwdIdeal := hFoxFwdIdeal) (hRefFoxFwdIdeal := hRefFoxFwdIdeal) (hPre_finite24 := hPre_finite24)
-- ==== Pre_finite.lean ====
abbrev S4096x3072 : Shape := ⟨2, ![4096, 3072]⟩
abbrev S8x4096 : Shape := ⟨2, ![8, 4096]⟩
abbrev S4096x1024 : Shape := ⟨2, ![4096, 1024]⟩
abbrev S_ : Shape := ⟨0, ![]⟩

class Facts : Prop where
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S8x4096 : S_.BroadcastsInDim S8x4096 (![] : Fin 0 → Fin S8x4096.rank)
  reducesTo_S8x4096_S_d0_1 : S8x4096.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x3072 .f32) (main_arg1 : FVec F S8x4096 .f32) (main_arg2 : FVec F S4096x1024 .f32) : IVec S_ 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_c : IVec S_ 1 := constantI S_ 1 1#1
  let main_v3 : IVec S_ 1 := (fun x v => Host.reduce IntOp.andi x v reducesTo_S4096x3072_S_d0_1 h_S_) main_v2 main_c
  let main_v4 : FVec F S8x4096 .f32 := Host.absf main_arg1
  let main_cst_0 : FVec F S_ .f32 := constant S_ .f32 0x7F800000#32
  let main_v5 : FVec F S8x4096 .f32 := broadcastInDim S8x4096 ![] bcast_S_S8x4096 main_cst_0
  let main_v6 : IVec S8x4096 1 := cmpf .olt main_v4 main_v5
  let main_c_1 : IVec S_ 1 := constantI S_ 1 1#1
  let main_v7 : IVec S_ 1 := (fun x v => Host.reduce IntOp.andi x v reducesTo_S8x4096_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  main_v13
-- ==== Pre_finite24.lean ====
abbrev S4096x3072 : Shape := ⟨2, ![4096, 3072]⟩
abbrev S8x4096 : Shape := ⟨2, ![8, 4096]⟩
abbrev S_ : Shape := ⟨0, ![]⟩

class Facts : Prop where
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S8x4096 : S_.BroadcastsInDim S8x4096 (![] : Fin 0 → Fin S8x4096.rank)
  reducesTo_S8x4096_S_d0_1 : S8x4096.ReducesTo [0, 1] S_

variable [Facts]

def fn {F : FTy → Type} [FloatOps F] (main_arg0 : FVec F S4096x3072 .f32) (main_arg1 : FVec F S8x4096 .f32) : IVec S_ 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_c : IVec S_ 1 := constantI S_ 1 1#1
  let main_v3 : IVec S_ 1 := (fun x v => Host.reduce IntOp.andi x v reducesTo_S4096x3072_S_d0_1 h_S_) main_v2 main_c
  let main_v4 : FVec F S8x4096 .f32 := Host.absf main_arg1
  let main_cst_0 : FVec F S_ .f32 := constant S_ .f32 0x7F800000#32
  let main_v5 : FVec F S8x4096 .f32 := broadcastInDim S8x4096 ![] bcast_S_S8x4096 main_cst_0
  let main_v6 : IVec S8x4096 1 := cmpf .olt main_v4 main_v5
  let main_c_1 : IVec S_ 1 := constantI S_ 1 1#1
  let main_v7 : IVec S_ 1 := (fun x v => Host.reduce IntOp.andi x v reducesTo_S8x4096_S_d0_1 h_S_) main_v6 main_c_1
  let main_v8 : IVec S_ 1 := andi main_v3 main_v7
  main_v8
-- ==== Kernel.lean ====
abbrev S4096x3072 : Shape := ⟨2, ![4096, 3072]⟩
abbrev S8x4096 : Shape := ⟨2, ![8, 4096]⟩
abbrev S4096x1024 : Shape := ⟨2, ![4096, 1024]⟩
abbrev S4096x8x128 : Shape := ⟨3, ![4096, 8, 128]⟩
abbrev S8x4096x4096 : Shape := ⟨3, ![8, 4096, 4096]⟩
abbrev S_ : Shape := ⟨0, ![]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4096x8x1 : Shape := ⟨3, ![4096, 8, 1]⟩
abbrev S8x128x4096 : Shape := ⟨3, ![8, 128, 4096]⟩
abbrev S1x8x4096 : Shape := ⟨3, ![1, 8, 4096]⟩
abbrev S3x8x4096 : Shape := ⟨3, ![3, 8, 4096]⟩
abbrev S4096x8x3 : Shape := ⟨3, ![4096, 8, 3]⟩
abbrev S4096x8x122 : Shape := ⟨3, ![4096, 8, 122]⟩
abbrev S1024x128 : Shape := ⟨2, ![1024, 128]⟩
abbrev S4096x128 : Shape := ⟨2, ![4096, 128]⟩
abbrev S1x1x1024 : Shape := ⟨3, ![1, 1, 1024]⟩
abbrev S1x1024 : Shape := ⟨2, ![1, 1024]⟩
abbrev S1024 : Shape := ⟨1, ![1024]⟩
abbrev S1024x1 : Shape := ⟨2, ![1024, 1]⟩
abbrev S1024x256 : Shape := ⟨2, ![1024, 256]⟩
abbrev S1024x1024 : Shape := ⟨2, ![1024, 1024]⟩

abbrev nBuf : Space → Nat
  | .hbm => 84
  | .vmem => 31
  | .smem => 0
  | _ => 0

abbrev bufTy : (tb : Table) → Fin (tcTables nBuf tb) → BufTy
  | .hbm, ⟨0, _⟩ => ⟨S4096x3072, .f32⟩
  | .hbm, ⟨1, _⟩ => ⟨S8x4096, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x8x128, .f32⟩
  | .hbm, ⟨7, _⟩ => ⟨S4096x8x128, .f32⟩
  | .hbm, ⟨8, _⟩ => ⟨S4096x8x128, .f32⟩
  | .hbm, ⟨9, _⟩ => ⟨S8x4096x4096, .f32⟩
  | .hbm, ⟨10, _⟩ => ⟨S_, .f32⟩
  | .hbm, ⟨11, _⟩ => ⟨S8x4096x4096, .f32⟩
  | .hbm, ⟨12, _⟩ => ⟨S8x4096x4096, .f32⟩
  | .hbm, ⟨13, _⟩ => ⟨S8x4096x1, .f32⟩
  | .hbm, ⟨14, _⟩ => ⟨S8x1x4096, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S8x4096x4096, .f32⟩
  | .hbm, ⟨19, _⟩ => ⟨S4096, .i32⟩
  | .hbm, ⟨20, _⟩ => ⟨S1x4096, .i32⟩
  | .hbm, ⟨21, _⟩ => ⟨S4096x1, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S_, .f32⟩
  | .hbm, ⟨26, _⟩ => ⟨S_, .f32⟩
  | .hbm, ⟨27, _⟩ => ⟨S8x4096x4096, .i1⟩
  | .hbm, ⟨28, _⟩ => ⟨S8x4096x4096, .f32⟩
  | .hbm, ⟨29, _⟩ => ⟨S8x4096x4096, .f32⟩
  | .hbm, ⟨30, _⟩ => ⟨S_, .f32⟩
  | .hbm, ⟨31, _⟩ => ⟨S8x4096, .f32⟩
  | .hbm, ⟨32, _⟩ => ⟨S8x4096x1, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S_, .f32⟩
  | .hbm, ⟨37, _⟩ => ⟨S8x4096, .f32⟩
  | .hbm, ⟨38, _⟩ => ⟨S8x4096x1, .f32⟩
  | .hbm, ⟨39, _⟩ => ⟨S8x4096x1, .f32⟩
  | .hbm, ⟨40, _⟩ => ⟨S8x4096x1, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8x4096x1, .f32⟩
  | .hbm, ⟨45, _⟩ => ⟨S8x4096x1, .f32⟩
  | .hbm, ⟨46, _⟩ => ⟨S4096x8x1, .f32⟩
  | .hbm, ⟨47, _⟩ => ⟨S4096x8x128, .f32⟩
  | .hbm, ⟨48, _⟩ => ⟨S4096x1024, .f32⟩
  | .hbm, ⟨49, _⟩ => ⟨S8x4096x4096, .f32⟩
  | .hbm, ⟨50, _⟩ => ⟨S8x4096x4096, .f32⟩
  | .hbm, ⟨51, _⟩ => ⟨S8x128x4096, .f32⟩
  | .hbm, ⟨52, _⟩ => ⟨S4096x8x128, .f32⟩
  | .hbm, ⟨53, _⟩ => ⟨S4096x1024, .f32⟩
  | .hbm, ⟨54, _⟩ => ⟨S_, .f32⟩
  | .hbm, ⟨55, _⟩ => ⟨S8x4096, .f32⟩
  | .hbm, ⟨56, _⟩ => ⟨S8x4096, .f32⟩
  | .hbm, ⟨57, _⟩ => ⟨S8x4096, .bf16⟩
  | .hbm, ⟨58, _⟩ => ⟨S8x4096, .f32⟩
  | .hbm, ⟨59, _⟩ => ⟨S8x4096, .f32⟩
  | .hbm, ⟨60, _⟩ => ⟨S8x4096, .bf16⟩
  | .hbm, ⟨61, _⟩ => ⟨S8x4096, .f32⟩
  | .hbm, ⟨62, _⟩ => ⟨S8x4096, .f32⟩
  | .hbm, ⟨63, _⟩ => ⟨S8x4096, .bf16⟩
  | .hbm, ⟨64, _⟩ => ⟨S1x8x4096, .bf16⟩
  | .hbm, ⟨65, _⟩ => ⟨S1x8x4096, .bf16⟩
  | .hbm, ⟨66, _⟩ => ⟨S1x8x4096, .bf16⟩
  | .hbm, ⟨67, _⟩ => ⟨S3x8x4096, .bf16⟩
  | .hbm, ⟨68, _⟩ => ⟨S4096x8x3, .bf16⟩
  | .hbm, ⟨69, _⟩ => ⟨S_, .bf16⟩
  | .hbm, ⟨70, _⟩ => ⟨S4096x8x3, .bf16⟩
  | .hbm, ⟨71, _⟩ => ⟨S_, .bf16⟩
  | .hbm, ⟨72, _⟩ => ⟨S4096x8x122, .bf16⟩
  | .hbm, ⟨73, _⟩ => ⟨S4096x8x128, .bf16⟩
  | .hbm, ⟨74, _⟩ => ⟨S4096x1024, .bf16⟩
  | .hbm, ⟨75, _⟩ => ⟨S4096x8x3, .bf16⟩
  | .hbm, ⟨76, _⟩ => ⟨S4096x8x128, .bf16⟩
  | .hbm, ⟨77, _⟩ => ⟨S4096x1024, .bf16⟩
  | .hbm, ⟨78, _⟩ => ⟨S4096x3072, .bf16⟩
  | .hbm, ⟨79, _⟩ => ⟨S4096x1024, .bf16⟩
  | .hbm, ⟨80, _⟩ => ⟨S4096x1024, .f32⟩
  | .hbm, ⟨81, _⟩ => ⟨S4096x1024, .bf16⟩
  | .hbm, ⟨82, _⟩ => ⟨S4096x1024, .bf16⟩
  | .hbm, ⟨83, _⟩ => ⟨S8x1x4096, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S4096x128, .bf16⟩
  | .local _ .vmem, ⟨17, _⟩ => ⟨S4096x128, .bf16⟩
  | .local _ .vmem, ⟨18, _⟩ => ⟨S4096x128, .f32⟩
  | .local _ .vmem, ⟨19, _⟩ => ⟨S4096x128, .f32⟩
  | .local _ .vmem, ⟨20, _⟩ => ⟨S1024x128, .bf16⟩
  | .local _ .vmem, ⟨21, _⟩ => ⟨S1024x128, .bf16⟩
  | .local _ .vmem, ⟨22, _⟩ => ⟨S1024x128, .bf16⟩
  | .local _ .vmem, ⟨23, _⟩ => ⟨S1024x128, .bf16⟩
  | .local _ .vmem, ⟨24, _⟩ => ⟨S1x1x1024, .f32⟩
  | .local _ .vmem, ⟨25, _⟩ => ⟨S1x1x1024, .f32⟩
  | .local _ .vmem, ⟨26, _⟩ => ⟨S4096x128, .f32⟩
  | .local _ .vmem, ⟨27, _⟩ => ⟨S4096x1, .f32⟩
  | .local _ .vmem, ⟨28, _⟩ => ⟨S1024x128, .f32⟩
  | .local _ .vmem, ⟨29, _⟩ => ⟨S1024x128, .f32⟩
  | .local _ .vmem, ⟨30, _⟩ => ⟨S1x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_4 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_5 : Ref sig .tc := ⟨.hbm, 69, rfl⟩
abbrev main_v57 : Ref sig .tc := ⟨.hbm, 70, rfl⟩
abbrev main_cst_6 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65_0 : Ref sig .tc := ⟨.hbm, 79, rfl⟩
abbrev main_v65_1 : Ref sig .tc := ⟨.hbm, 80, rfl⟩
abbrev main_v65_2 : Ref sig .tc := ⟨.hbm, 81, rfl⟩
abbrev main_v65_3 : Ref sig .tc := ⟨.hbm, 82, rfl⟩
abbrev main_v65_4 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 10], ![false, false]⟩

def k0_cond2 (i : grid0.Coords) : BitVec 1 :=
  let c0_i32 : BitVec 32 := 0#32
  let arg1 : BitVec 32 := BitVec.ofNat 32 (i 1).val
  let c4_i32 : BitVec 32 := 4#32
  let v0 : BitVec 1 := Scalar.cmpi .sge arg1 c4_i32
  let v1 : BitVec 32 := Scalar.extui v0
  let v2 : BitVec 32 := Scalar.addi c0_i32 v1
  let c7_i32 : BitVec 32 := 7#32
  let v3 : BitVec 1 := Scalar.cmpi .sge arg1 c7_i32
  let v4 : BitVec 32 := Scalar.extui v3
  let v5 : BitVec 32 := Scalar.addi v2 v4
  let c9_i32 : BitVec 32 := 9#32
  let v6 : BitVec 1 := Scalar.cmpi .sge arg1 c9_i32
  let v7 : BitVec 32 := Scalar.extui v6
  let v8 : BitVec 32 := Scalar.addi v5 v7
  let v9 : BitVec 32 := Scalar.addi v8 arg1
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2_i32 : BitVec 32 := 2#32
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let v13 : BitVec 32 := Scalar.divsi v12 c2_i32
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let v35 : BitVec 1 := Scalar.cmpi .sgt v31 v8
  let v36 : BitVec 32 := Scalar.extui v35
  let c0_i32_8 : BitVec 32 := 0#32
  let v37 : BitVec 1 := Scalar.cmpi .ne v36 c0_i32_8
  v37

def k0_mult1 (i : grid0.Coords) : BitVec 32 :=
  let c0_i32 : BitVec 32 := 0#32
  let arg1 : BitVec 32 := BitVec.ofNat 32 (i 1).val
  let c4_i32 : BitVec 32 := 4#32
  let v0 : BitVec 1 := Scalar.cmpi .sge arg1 c4_i32
  let v1 : BitVec 32 := Scalar.extui v0
  let v2 : BitVec 32 := Scalar.addi c0_i32 v1
  let c7_i32 : BitVec 32 := 7#32
  let v3 : BitVec 1 := Scalar.cmpi .sge arg1 c7_i32
  let v4 : BitVec 32 := Scalar.extui v3
  let v5 : BitVec 32 := Scalar.addi v2 v4
  let c9_i32 : BitVec 32 := 9#32
  let v6 : BitVec 1 := Scalar.cmpi .sge arg1 c9_i32
  let v7 : BitVec 32 := Scalar.extui v6
  let v8 : BitVec 32 := Scalar.addi v5 v7
  let v9 : BitVec 32 := Scalar.addi v8 arg1
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2_i32 : BitVec 32 := 2#32
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let v13 : BitVec 32 := Scalar.divsi v12 c2_i32
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let c1024_i32 : BitVec 32 := 1024#32
  let v113 : BitVec 32 := Scalar.muli v31 c1024_i32
  v113
def k0_cond3 (i : grid0.Coords) : BitVec 1 :=
  let c0_i32 : BitVec 32 := 0#32
  let arg1 : BitVec 32 := BitVec.ofNat 32 (i 1).val
  let c4_i32 : BitVec 32 := 4#32
  let v0 : BitVec 1 := Scalar.cmpi .sge arg1 c4_i32
  let v1 : BitVec 32 := Scalar.extui v0
  let v2 : BitVec 32 := Scalar.addi c0_i32 v1
  let c7_i32 : BitVec 32 := 7#32
  let v3 : BitVec 1 := Scalar.cmpi .sge arg1 c7_i32
  let v4 : BitVec 32 := Scalar.extui v3
  let v5 : BitVec 32 := Scalar.addi v2 v4
  let c9_i32 : BitVec 32 := 9#32
  let v6 : BitVec 1 := Scalar.cmpi .sge arg1 c9_i32
  let v7 : BitVec 32 := Scalar.extui v6
  let v8 : BitVec 32 := Scalar.addi v5 v7
  let c0_i32_54 : BitVec 32 := 0#32
  let v115 : BitVec 1 := Scalar.cmpi .eq v8 c0_i32_54
  let v116 : BitVec 32 := Scalar.extui v115
  let c0_i32_55 : BitVec 32 := 0#32
  let v117 : BitVec 1 := Scalar.cmpi .ne v116 c0_i32_55
  v117

def k0_off1 (i : grid0.Coords) : Fin 2 → Nat :=
  let c0_i32 : BitVec 32 := 0#32
  let arg1 : BitVec 32 := BitVec.ofNat 32 (i 1).val
  let c4_i32 : BitVec 32 := 4#32
  let v0 : BitVec 1 := Scalar.cmpi .sge arg1 c4_i32
  let v1 : BitVec 32 := Scalar.extui v0
  let v2 : BitVec 32 := Scalar.addi c0_i32 v1
  let c7_i32 : BitVec 32 := 7#32
  let v3 : BitVec 1 := Scalar.cmpi .sge arg1 c7_i32
  let v4 : BitVec 32 := Scalar.extui v3
  let v5 : BitVec 32 := Scalar.addi v2 v4
  let c9_i32 : BitVec 32 := 9#32
  let v6 : BitVec 1 := Scalar.cmpi .sge arg1 c9_i32
  let v7 : BitVec 32 := Scalar.extui v6
  let v8 : BitVec 32 := Scalar.addi v5 v7
  let v9 : BitVec 32 := Scalar.addi v8 arg1
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2_i32 : BitVec 32 := 2#32
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let v13 : BitVec 32 := Scalar.divsi v12 c2_i32
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let c1024_i32 : BitVec 32 := 1024#32
  let v113 : BitVec 32 := Scalar.muli v31 c1024_i32
  let v114 : BitVec 32 := v113
  let v121 : Index := Scalar.indexCast v114
  let c0_58 : Index := 0#32
  ![v121.toNat, 0]
def k0_off2 (i : grid0.Coords) : Fin 2 → Nat :=
  let c0_i32 : BitVec 32 := 0#32
  let arg1 : BitVec 32 := BitVec.ofNat 32 (i 1).val
  let c4_i32 : BitVec 32 := 4#32
  let v0 : BitVec 1 := Scalar.cmpi .sge arg1 c4_i32
  let v1 : BitVec 32 := Scalar.extui v0
  let v2 : BitVec 32 := Scalar.addi c0_i32 v1
  let c7_i32 : BitVec 32 := 7#32
  let v3 : BitVec 1 := Scalar.cmpi .sge arg1 c7_i32
  let v4 : BitVec 32 := Scalar.extui v3
  let v5 : BitVec 32 := Scalar.addi v2 v4
  let c9_i32 : BitVec 32 := 9#32
  let v6 : BitVec 1 := Scalar.cmpi .sge arg1 c9_i32
  let v7 : BitVec 32 := Scalar.extui v6
  let v8 : BitVec 32 := Scalar.addi v5 v7
  let v9 : BitVec 32 := Scalar.addi v8 arg1
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2_i32 : BitVec 32 := 2#32
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let v13 : BitVec 32 := Scalar.divsi v12 c2_i32
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let c1024_i32 : BitVec 32 := 1024#32
  let v113 : BitVec 32 := Scalar.muli v31 c1024_i32
  let v114 : BitVec 32 := v113
  let v125 : Index := Scalar.indexCast v114
  let c0_59 : Index := 0#32
  ![v125.toNat, 0]
def k0_cond4 (i : grid0.Coords) : BitVec 1 :=
  let c0_i32 : BitVec 32 := 0#32
  let arg1 : BitVec 32 := BitVec.ofNat 32 (i 1).val
  let c4_i32 : BitVec 32 := 4#32
  let v0 : BitVec 1 := Scalar.cmpi .sge arg1 c4_i32
  let v1 : BitVec 32 := Scalar.extui v0
  let v2 : BitVec 32 := Scalar.addi c0_i32 v1
  let c7_i32 : BitVec 32 := 7#32
  let v3 : BitVec 1 := Scalar.cmpi .sge arg1 c7_i32
  let v4 : BitVec 32 := Scalar.extui v3
  let v5 : BitVec 32 := Scalar.addi v2 v4
  let c9_i32 : BitVec 32 := 9#32
  let v6 : BitVec 1 := Scalar.cmpi .sge arg1 c9_i32
  let v7 : BitVec 32 := Scalar.extui v6
  let v8 : BitVec 32 := Scalar.addi v5 v7
  let c0_i32_56 : BitVec 32 := 0#32
  let v118 : BitVec 1 := Scalar.cmpi .sgt v8 c0_i32_56
  let v119 : BitVec 32 := Scalar.extui v118
  let c0_i32_57 : BitVec 32 := 0#32
  let v120 : BitVec 1 := Scalar.cmpi .ne v119 c0_i32_57
  v120

def k0_off3 (i : grid0.Coords) : Fin 2 → Nat :=
  let c0_i32 : BitVec 32 := 0#32
  let arg1 : BitVec 32 := BitVec.ofNat 32 (i 1).val
  let c4_i32 : BitVec 32 := 4#32
  let v0 : BitVec 1 := Scalar.cmpi .sge arg1 c4_i32
  let v1 : BitVec 32 := Scalar.extui v0
  let v2 : BitVec 32 := Scalar.addi c0_i32 v1
  let c7_i32 : BitVec 32 := 7#32
  let v3 : BitVec 1 := Scalar.cmpi .sge arg1 c7_i32
  let v4 : BitVec 32 := Scalar.extui v3
  let v5 : BitVec 32 := Scalar.addi v2 v4
  let c9_i32 : BitVec 32 := 9#32
  let v6 : BitVec 1 := Scalar.cmpi .sge arg1 c9_i32
  let v7 : BitVec 32 := Scalar.extui v6
  let v8 : BitVec 32 := Scalar.addi v5 v7
  let v9 : BitVec 32 := Scalar.addi v8 arg1
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2_i32 : BitVec 32 := 2#32
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let v13 : BitVec 32 := Scalar.divsi v12 c2_i32
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let c1024_i32 : BitVec 32 := 1024#32
  let v113 : BitVec 32 := Scalar.muli v31 c1024_i32
  let v114 : BitVec 32 := v113
  let v121 : Index := Scalar.indexCast v114
  let c0_58 : Index := 0#32
  ![v121.toNat, 0]
def k0_off4 (i : grid0.Coords) : Fin 2 → Nat :=
  let c0_i32 : BitVec 32 := 0#32
  let arg1 : BitVec 32 := BitVec.ofNat 32 (i 1).val
  let c4_i32 : BitVec 32 := 4#32
  let v0 : BitVec 1 := Scalar.cmpi .sge arg1 c4_i32
  let v1 : BitVec 32 := Scalar.extui v0
  let v2 : BitVec 32 := Scalar.addi c0_i32 v1
  let c7_i32 : BitVec 32 := 7#32
  let v3 : BitVec 1 := Scalar.cmpi .sge arg1 c7_i32
  let v4 : BitVec 32 := Scalar.extui v3
  let v5 : BitVec 32 := Scalar.addi v2 v4
  let c9_i32 : BitVec 32 := 9#32
  let v6 : BitVec 1 := Scalar.cmpi .sge arg1 c9_i32
  let v7 : BitVec 32 := Scalar.extui v6
  let v8 : BitVec 32 := Scalar.addi v5 v7
  let v9 : BitVec 32 := Scalar.addi v8 arg1
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2_i32 : BitVec 32 := 2#32
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let v13 : BitVec 32 := Scalar.divsi v12 c2_i32
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let c1024_i32 : BitVec 32 := 1024#32
  let v113 : BitVec 32 := Scalar.muli v31 c1024_i32
  let v114 : BitVec 32 := v113
  let v128 : Index := Scalar.indexCast v114
  let c0_60 : Index := 0#32
  ![v128.toNat, 0]
def k0_cond5 (i : grid0.Coords) : BitVec 1 :=
  let c0_i32 : BitVec 32 := 0#32
  let arg1 : BitVec 32 := BitVec.ofNat 32 (i 1).val
  let c4_i32 : BitVec 32 := 4#32
  let v0 : BitVec 1 := Scalar.cmpi .sge arg1 c4_i32
  let v1 : BitVec 32 := Scalar.extui v0
  let v2 : BitVec 32 := Scalar.addi c0_i32 v1
  let c7_i32 : BitVec 32 := 7#32
  let v3 : BitVec 1 := Scalar.cmpi .sge arg1 c7_i32
  let v4 : BitVec 32 := Scalar.extui v3
  let v5 : BitVec 32 := Scalar.addi v2 v4
  let c9_i32 : BitVec 32 := 9#32
  let v6 : BitVec 1 := Scalar.cmpi .sge arg1 c9_i32
  let v7 : BitVec 32 := Scalar.extui v6
  let v8 : BitVec 32 := Scalar.addi v5 v7
  let v9 : BitVec 32 := Scalar.addi v8 arg1
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2_i32 : BitVec 32 := 2#32
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let v13 : BitVec 32 := Scalar.divsi v12 c2_i32
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let v38 : BitVec 1 := Scalar.cmpi .eq v31 v8
  let v39 : BitVec 32 := Scalar.extui v38
  let c0_i32_9 : BitVec 32 := 0#32
  let v40 : BitVec 1 := Scalar.cmpi .ne v39 c0_i32_9
  v40

def k0_mult2 (i : grid0.Coords) : BitVec 32 :=
  let c0_i32 : BitVec 32 := 0#32
  let arg1 : BitVec 32 := BitVec.ofNat 32 (i 1).val
  let c4_i32 : BitVec 32 := 4#32
  let v0 : BitVec 1 := Scalar.cmpi .sge arg1 c4_i32
  let v1 : BitVec 32 := Scalar.extui v0
  let v2 : BitVec 32 := Scalar.addi c0_i32 v1
  let c7_i32 : BitVec 32 := 7#32
  let v3 : BitVec 1 := Scalar.cmpi .sge arg1 c7_i32
  let v4 : BitVec 32 := Scalar.extui v3
  let v5 : BitVec 32 := Scalar.addi v2 v4
  let c9_i32 : BitVec 32 := 9#32
  let v6 : BitVec 1 := Scalar.cmpi .sge arg1 c9_i32
  let v7 : BitVec 32 := Scalar.extui v6
  let v8 : BitVec 32 := Scalar.addi v5 v7
  let v9 : BitVec 32 := Scalar.addi v8 arg1
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2_i32 : BitVec 32 := 2#32
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let v13 : BitVec 32 := Scalar.divsi v12 c2_i32
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let c1024_i32 : BitVec 32 := 1024#32
  let v118 : BitVec 32 := Scalar.muli v31 c1024_i32
  v118
def k0_cond6 (i : grid0.Coords) : BitVec 1 :=
  let c0_i32 : BitVec 32 := 0#32
  let arg1 : BitVec 32 := BitVec.ofNat 32 (i 1).val
  let c4_i32 : BitVec 32 := 4#32
  let v0 : BitVec 1 := Scalar.cmpi .sge arg1 c4_i32
  let v1 : BitVec 32 := Scalar.extui v0
  let v2 : BitVec 32 := Scalar.addi c0_i32 v1
  let c7_i32 : BitVec 32 := 7#32
  let v3 : BitVec 1 := Scalar.cmpi .sge arg1 c7_i32
  let v4 : BitVec 32 := Scalar.extui v3
  let v5 : BitVec 32 := Scalar.addi v2 v4
  let c9_i32 : BitVec 32 := 9#32
  let v6 : BitVec 1 := Scalar.cmpi .sge arg1 c9_i32
  let v7 : BitVec 32 := Scalar.extui v6
  let v8 : BitVec 32 := Scalar.addi v5 v7
  let c0_i32_55 : BitVec 32 := 0#32
  let v120 : BitVec 1 := Scalar.cmpi .eq v8 c0_i32_55
  let v121 : BitVec 32 := Scalar.extui v120
  let c0_i32_56 : BitVec 32 := 0#32
  let v122 : BitVec 1 := Scalar.cmpi .ne v121 c0_i32_56
  v122

def k0_off5 (i : grid0.Coords) : Fin 2 → Nat :=
  let c0_i32 : BitVec 32 := 0#32
  let arg1 : BitVec 32 := BitVec.ofNat 32 (i 1).val
  let c4_i32 : BitVec 32 := 4#32
  let v0 : BitVec 1 := Scalar.cmpi .sge arg1 c4_i32
  let v1 : BitVec 32 := Scalar.extui v0
  let v2 : BitVec 32 := Scalar.addi c0_i32 v1
  let c7_i32 : BitVec 32 := 7#32
  let v3 : BitVec 1 := Scalar.cmpi .sge arg1 c7_i32
  let v4 : BitVec 32 := Scalar.extui v3
  let v5 : BitVec 32 := Scalar.addi v2 v4
  let c9_i32 : BitVec 32 := 9#32
  let v6 : BitVec 1 := Scalar.cmpi .sge arg1 c9_i32
  let v7 : BitVec 32 := Scalar.extui v6
  let v8 : BitVec 32 := Scalar.addi v5 v7
  let v9 : BitVec 32 := Scalar.addi v8 arg1
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2_i32 : BitVec 32 := 2#32
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let v13 : BitVec 32 := Scalar.divsi v12 c2_i32
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let c1024_i32 : BitVec 32 := 1024#32
  let v118 : BitVec 32 := Scalar.muli v31 c1024_i32
  let v119 : BitVec 32 := v118
  let v126 : Index := Scalar.indexCast v119
  let c0_59 : Index := 0#32
  ![v126.toNat, 0]
def k0_off6 (i : grid0.Coords) : Fin 2 → Nat :=
  let c0_i32 : BitVec 32 := 0#32
  let arg1 : BitVec 32 := BitVec.ofNat 32 (i 1).val
  let c4_i32 : BitVec 32 := 4#32
  let v0 : BitVec 1 := Scalar.cmpi .sge arg1 c4_i32
  let v1 : BitVec 32 := Scalar.extui v0
  let v2 : BitVec 32 := Scalar.addi c0_i32 v1
  let c7_i32 : BitVec 32 := 7#32
  let v3 : BitVec 1 := Scalar.cmpi .sge arg1 c7_i32
  let v4 : BitVec 32 := Scalar.extui v3
  let v5 : BitVec 32 := Scalar.addi v2 v4
  let c9_i32 : BitVec 32 := 9#32
  let v6 : BitVec 1 := Scalar.cmpi .sge arg1 c9_i32
  let v7 : BitVec 32 := Scalar.extui v6
  let v8 : BitVec 32 := Scalar.addi v5 v7
  let v9 : BitVec 32 := Scalar.addi v8 arg1
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2_i32 : BitVec 32 := 2#32
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let v13 : BitVec 32 := Scalar.divsi v12 c2_i32
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let c1024_i32 : BitVec 32 := 1024#32
  let v118 : BitVec 32 := Scalar.muli v31 c1024_i32
  let v119 : BitVec 32 := v118
  let v130 : Index := Scalar.indexCast v119
  let c0_60 : Index := 0#32
  ![v130.toNat, 0]
def k0_cond7 (i : grid0.Coords) : BitVec 1 :=
  let c0_i32 : BitVec 32 := 0#32
  let arg1 : BitVec 32 := BitVec.ofNat 32 (i 1).val
  let c4_i32 : BitVec 32 := 4#32
  let v0 : BitVec 1 := Scalar.cmpi .sge arg1 c4_i32
  let v1 : BitVec 32 := Scalar.extui v0
  let v2 : BitVec 32 := Scalar.addi c0_i32 v1
  let c7_i32 : BitVec 32 := 7#32
  let v3 : BitVec 1 := Scalar.cmpi .sge arg1 c7_i32
  let v4 : BitVec 32 := Scalar.extui v3
  let v5 : BitVec 32 := Scalar.addi v2 v4
  let c9_i32 : BitVec 32 := 9#32
  let v6 : BitVec 1 := Scalar.cmpi .sge arg1 c9_i32
  let v7 : BitVec 32 := Scalar.extui v6
  let v8 : BitVec 32 := Scalar.addi v5 v7
  let c0_i32_57 : BitVec 32 := 0#32
  let v123 : BitVec 1 := Scalar.cmpi .sgt v8 c0_i32_57
  let v124 : BitVec 32 := Scalar.extui v123
  let c0_i32_58 : BitVec 32 := 0#32
  let v125 : BitVec 1 := Scalar.cmpi .ne v124 c0_i32_58
  v125

def k0_off7 (i : grid0.Coords) : Fin 2 → Nat :=
  let c0_i32 : BitVec 32 := 0#32
  let arg1 : BitVec 32 := BitVec.ofNat 32 (i 1).val
  let c4_i32 : BitVec 32 := 4#32
  let v0 : BitVec 1 := Scalar.cmpi .sge arg1 c4_i32
  let v1 : BitVec 32 := Scalar.extui v0
  let v2 : BitVec 32 := Scalar.addi c0_i32 v1
  let c7_i32 : BitVec 32 := 7#32
  let v3 : BitVec 1 := Scalar.cmpi .sge arg1 c7_i32
  let v4 : BitVec 32 := Scalar.extui v3
  let v5 : BitVec 32 := Scalar.addi v2 v4
  let c9_i32 : BitVec 32 := 9#32
  let v6 : BitVec 1 := Scalar.cmpi .sge arg1 c9_i32
  let v7 : BitVec 32 := Scalar.extui v6
  let v8 : BitVec 32 := Scalar.addi v5 v7
  let v9 : BitVec 32 := Scalar.addi v8 arg1
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2_i32 : BitVec 32 := 2#32
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let v13 : BitVec 32 := Scalar.divsi v12 c2_i32
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let c1024_i32 : BitVec 32 := 1024#32
  let v118 : BitVec 32 := Scalar.muli v31 c1024_i32
  let v119 : BitVec 32 := v118
  let v126 : Index := Scalar.indexCast v119
  let c0_59 : Index := 0#32
  ![v126.toNat, 0]
def k0_off8 (i : grid0.Coords) : Fin 2 → Nat :=
  let c0_i32 : BitVec 32 := 0#32
  let arg1 : BitVec 32 := BitVec.ofNat 32 (i 1).val
  let c4_i32 : BitVec 32 := 4#32
  let v0 : BitVec 1 := Scalar.cmpi .sge arg1 c4_i32
  let v1 : BitVec 32 := Scalar.extui v0
  let v2 : BitVec 32 := Scalar.addi c0_i32 v1
  let c7_i32 : BitVec 32 := 7#32
  let v3 : BitVec 1 := Scalar.cmpi .sge arg1 c7_i32
  let v4 : BitVec 32 := Scalar.extui v3
  let v5 : BitVec 32 := Scalar.addi v2 v4
  let c9_i32 : BitVec 32 := 9#32
  let v6 : BitVec 1 := Scalar.cmpi .sge arg1 c9_i32
  let v7 : BitVec 32 := Scalar.extui v6
  let v8 : BitVec 32 := Scalar.addi v5 v7
  let v9 : BitVec 32 := Scalar.addi v8 arg1
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2_i32 : BitVec 32 := 2#32
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let v13 : BitVec 32 := Scalar.divsi v12 c2_i32
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let c1024_i32 : BitVec 32 := 1024#32
  let v118 : BitVec 32 := Scalar.muli v31 c1024_i32
  let v119 : BitVec 32 := v118
  let v133 : Index := Scalar.indexCast v119
  let c0_61 : Index := 0#32
  ![v133.toNat, 0]
def k0_cond9 (i : grid0.Coords) : BitVec 1 :=
  let c0_i32 : BitVec 32 := 0#32
  let arg1 : BitVec 32 := BitVec.ofNat 32 (i 1).val
  let c4_i32 : BitVec 32 := 4#32
  let v0 : BitVec 1 := Scalar.cmpi .sge arg1 c4_i32
  let v1 : BitVec 32 := Scalar.extui v0
  let v2 : BitVec 32 := Scalar.addi c0_i32 v1
  let c7_i32 : BitVec 32 := 7#32
  let v3 : BitVec 1 := Scalar.cmpi .sge arg1 c7_i32
  let v4 : BitVec 32 := Scalar.extui v3
  let v5 : BitVec 32 := Scalar.addi v2 v4
  let c9_i32 : BitVec 32 := 9#32
  let v6 : BitVec 1 := Scalar.cmpi .sge arg1 c9_i32
  let v7 : BitVec 32 := Scalar.extui v6
  let v8 : BitVec 32 := Scalar.addi v5 v7
  let v9 : BitVec 32 := Scalar.addi v8 arg1
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2_i32 : BitVec 32 := 2#32
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let v13 : BitVec 32 := Scalar.divsi v12 c2_i32
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let c3_i32_11 : BitVec 32 := 3#32
  let v44 : BitVec 1 := Scalar.cmpi .eq v31 c3_i32_11
  let c3_i32_12 : BitVec 32 := 3#32
  let v45 : BitVec 1 := Scalar.cmpi .eq v8 c3_i32_12
  let v46 : BitVec 1 := Scalar.andi v44 v45
  let v47 : BitVec 32 := Scalar.extui v46
  let c0_i32_13 : BitVec 32 := 0#32
  let v48 : BitVec 1 := Scalar.cmpi .ne v47 c0_i32_13
  v48

def k0_cond8 (i : grid0.Coords) : BitVec 1 :=
  let c0_i32 : BitVec 32 := 0#32
  let arg1 : BitVec 32 := BitVec.ofNat 32 (i 1).val
  let c4_i32 : BitVec 32 := 4#32
  let v0 : BitVec 1 := Scalar.cmpi .sge arg1 c4_i32
  let v1 : BitVec 32 := Scalar.extui v0
  let v2 : BitVec 32 := Scalar.addi c0_i32 v1
  let c7_i32 : BitVec 32 := 7#32
  let v3 : BitVec 1 := Scalar.cmpi .sge arg1 c7_i32
  let v4 : BitVec 32 := Scalar.extui v3
  let v5 : BitVec 32 := Scalar.addi v2 v4
  let c9_i32 : BitVec 32 := 9#32
  let v6 : BitVec 1 := Scalar.cmpi .sge arg1 c9_i32
  let v7 : BitVec 32 := Scalar.extui v6
  let v8 : BitVec 32 := Scalar.addi v5 v7
  let v9 : BitVec 32 := Scalar.addi v8 arg1
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c2_i32 : BitVec 32 := 2#32
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let v13 : BitVec 32 := Scalar.divsi v12 c2_i32
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let c3_i32 : BitVec 32 := 3#32
  let v41 : BitVec 1 := Scalar.cmpi .eq v31 c3_i32
  let v42 : BitVec 32 := Scalar.extui v41
  let c0_i32_10 : BitVec 32 := 0#32
  let v43 : BitVec 1 := Scalar.cmpi .ne v42 c0_i32_10
  v43

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .sge arg1 c4_i32
  let v1 : BitVec 32 := Scalar.extui v0
  let c0_i32 : BitVec 32 := 0#32
  let v2 : BitVec 32 := Scalar.addi c0_i32 v1
  let c7_i32 : BitVec 32 := 7#32
  let v3 : BitVec 1 := Scalar.cmpi .sge arg1 c7_i32
  let v4 : BitVec 32 := Scalar.extui v3
  let v5 : BitVec 32 := Scalar.addi v2 v4
  let c9_i32 : BitVec 32 := 9#32
  let v6 : BitVec 1 := Scalar.cmpi .sge arg1 c9_i32
  let v7 : BitVec 32 := Scalar.extui v6
  let v8 : BitVec 32 := Scalar.addi v5 v7
  let v9 : BitVec 32 := Scalar.addi v8 arg1
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c2_i32 : BitVec 32 := 2#32
  let v13 : BitVec 32 := Scalar.divsi v12 c2_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let c0_i32_7 : BitVec 32 := 0#32
  let v32 : BitVec 32 := Scalar.addi c0_i32_7 arg0
  let c0_i32_8 : BitVec 32 := 0#32
  ![v31.toNat, v32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .sge arg1 c4_i32
  let v1 : BitVec 32 := Scalar.extui v0
  let c0_i32 : BitVec 32 := 0#32
  let v2 : BitVec 32 := Scalar.addi c0_i32 v1
  let c7_i32 : BitVec 32 := 7#32
  let v3 : BitVec 1 := Scalar.cmpi .sge arg1 c7_i32
  let v4 : BitVec 32 := Scalar.extui v3
  let v5 : BitVec 32 := Scalar.addi v2 v4
  let c9_i32 : BitVec 32 := 9#32
  let v6 : BitVec 1 := Scalar.cmpi .sge arg1 c9_i32
  let v7 : BitVec 32 := Scalar.extui v6
  let v8 : BitVec 32 := Scalar.addi v5 v7
  let v9 : BitVec 32 := Scalar.addi v8 arg1
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c2_i32 : BitVec 32 := 2#32
  let v13 : BitVec 32 := Scalar.divsi v12 c2_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let c0_i32_7 : BitVec 32 := 0#32
  let v32 : BitVec 32 := Scalar.addi c0_i32_7 arg0
  let c0_i32_8 : BitVec 32 := 0#32
  ![v31.toNat, v32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .sge arg1 c4_i32
  let v1 : BitVec 32 := Scalar.extui v0
  let c0_i32 : BitVec 32 := 0#32
  let v2 : BitVec 32 := Scalar.addi c0_i32 v1
  let c7_i32 : BitVec 32 := 7#32
  let v3 : BitVec 1 := Scalar.cmpi .sge arg1 c7_i32
  let v4 : BitVec 32 := Scalar.extui v3
  let v5 : BitVec 32 := Scalar.addi v2 v4
  let c9_i32 : BitVec 32 := 9#32
  let v6 : BitVec 1 := Scalar.cmpi .sge arg1 c9_i32
  let v7 : BitVec 32 := Scalar.extui v6
  let v8 : BitVec 32 := Scalar.addi v5 v7
  let v9 : BitVec 32 := Scalar.addi v8 arg1
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c2_i32 : BitVec 32 := 2#32
  let v13 : BitVec 32 := Scalar.divsi v12 c2_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let c8_i32 : BitVec 32 := 8#32
  let v32 : BitVec 32 := Scalar.addi c8_i32 arg0
  let c0_i32_7 : BitVec 32 := 0#32
  ![v8.toNat, v32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .sge arg1 c4_i32
  let v1 : BitVec 32 := Scalar.extui v0
  let c0_i32 : BitVec 32 := 0#32
  let v2 : BitVec 32 := Scalar.addi c0_i32 v1
  let c7_i32 : BitVec 32 := 7#32
  let v3 : BitVec 1 := Scalar.cmpi .sge arg1 c7_i32
  let v4 : BitVec 32 := Scalar.extui v3
  let v5 : BitVec 32 := Scalar.addi v2 v4
  let c9_i32 : BitVec 32 := 9#32
  let v6 : BitVec 1 := Scalar.cmpi .sge arg1 c9_i32
  let v7 : BitVec 32 := Scalar.extui v6
  let v8 : BitVec 32 := Scalar.addi v5 v7
  let v9 : BitVec 32 := Scalar.addi v8 arg1
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c2_i32 : BitVec 32 := 2#32
  let v13 : BitVec 32 := Scalar.divsi v12 c2_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let c0_i32_7 : BitVec 32 := 0#32
  let v32 : BitVec 32 := Scalar.addi c0_i32_7 arg0
  let c0_i32_8 : BitVec 32 := 0#32
  ![v8.toNat, v32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .sge arg1 c4_i32
  let v1 : BitVec 32 := Scalar.extui v0
  let c0_i32 : BitVec 32 := 0#32
  let v2 : BitVec 32 := Scalar.addi c0_i32 v1
  let c7_i32 : BitVec 32 := 7#32
  let v3 : BitVec 1 := Scalar.cmpi .sge arg1 c7_i32
  let v4 : BitVec 32 := Scalar.extui v3
  let v5 : BitVec 32 := Scalar.addi v2 v4
  let c9_i32 : BitVec 32 := 9#32
  let v6 : BitVec 1 := Scalar.cmpi .sge arg1 c9_i32
  let v7 : BitVec 32 := Scalar.extui v6
  let v8 : BitVec 32 := Scalar.addi v5 v7
  let v9 : BitVec 32 := Scalar.addi v8 arg1
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c2_i32 : BitVec 32 := 2#32
  let v13 : BitVec 32 := Scalar.divsi v12 c2_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let c16_i32 : BitVec 32 := 16#32
  let v32 : BitVec 32 := Scalar.addi c16_i32 arg0
  let c0_i32_7 : BitVec 32 := 0#32
  ![v8.toNat, v32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .sge arg1 c4_i32
  let v1 : BitVec 32 := Scalar.extui v0
  let c0_i32 : BitVec 32 := 0#32
  let v2 : BitVec 32 := Scalar.addi c0_i32 v1
  let c7_i32 : BitVec 32 := 7#32
  let v3 : BitVec 1 := Scalar.cmpi .sge arg1 c7_i32
  let v4 : BitVec 32 := Scalar.extui v3
  let v5 : BitVec 32 := Scalar.addi v2 v4
  let c9_i32 : BitVec 32 := 9#32
  let v6 : BitVec 1 := Scalar.cmpi .sge arg1 c9_i32
  let v7 : BitVec 32 := Scalar.extui v6
  let v8 : BitVec 32 := Scalar.addi v5 v7
  let v9 : BitVec 32 := Scalar.addi v8 arg1
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c2_i32 : BitVec 32 := 2#32
  let v13 : BitVec 32 := Scalar.divsi v12 c2_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let c0_i32_7 : BitVec 32 := 0#32
  let v32 : BitVec 32 := Scalar.addi c0_i32_7 arg0
  let c0_i32_8 : BitVec 32 := 0#32
  ![v31.toNat, v32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .sge arg1 c4_i32
  let v1 : BitVec 32 := Scalar.extui v0
  let c0_i32 : BitVec 32 := 0#32
  let v2 : BitVec 32 := Scalar.addi c0_i32 v1
  let c7_i32 : BitVec 32 := 7#32
  let v3 : BitVec 1 := Scalar.cmpi .sge arg1 c7_i32
  let v4 : BitVec 32 := Scalar.extui v3
  let v5 : BitVec 32 := Scalar.addi v2 v4
  let c9_i32 : BitVec 32 := 9#32
  let v6 : BitVec 1 := Scalar.cmpi .sge arg1 c9_i32
  let v7 : BitVec 32 := Scalar.extui v6
  let v8 : BitVec 32 := Scalar.addi v5 v7
  let v9 : BitVec 32 := Scalar.addi v8 arg1
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c2_i32 : BitVec 32 := 2#32
  let v13 : BitVec 32 := Scalar.divsi v12 c2_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let c0_i32_7 : BitVec 32 := 0#32
  let v32 : BitVec 32 := Scalar.addi c0_i32_7 arg0
  let c0_i32_8 : BitVec 32 := 0#32
  ![v31.toNat, v32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .sge arg1 c4_i32
  let v1 : BitVec 32 := Scalar.extui v0
  let c0_i32 : BitVec 32 := 0#32
  let v2 : BitVec 32 := Scalar.addi c0_i32 v1
  let c7_i32 : BitVec 32 := 7#32
  let v3 : BitVec 1 := Scalar.cmpi .sge arg1 c7_i32
  let v4 : BitVec 32 := Scalar.extui v3
  let v5 : BitVec 32 := Scalar.addi v2 v4
  let c9_i32 : BitVec 32 := 9#32
  let v6 : BitVec 1 := Scalar.cmpi .sge arg1 c9_i32
  let v7 : BitVec 32 := Scalar.extui v6
  let v8 : BitVec 32 := Scalar.addi v5 v7
  let v9 : BitVec 32 := Scalar.addi v8 arg1
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c2_i32 : BitVec 32 := 2#32
  let v13 : BitVec 32 := Scalar.divsi v12 c2_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let c0_i32_7 : BitVec 32 := 0#32
  let v32 : BitVec 32 := Scalar.addi c0_i32_7 arg0
  let c0_i32_8 : BitVec 32 := 0#32
  ![v31.toNat, v32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .sge arg1 c4_i32
  let v1 : BitVec 32 := Scalar.extui v0
  let c0_i32 : BitVec 32 := 0#32
  let v2 : BitVec 32 := Scalar.addi c0_i32 v1
  let c7_i32 : BitVec 32 := 7#32
  let v3 : BitVec 1 := Scalar.cmpi .sge arg1 c7_i32
  let v4 : BitVec 32 := Scalar.extui v3
  let v5 : BitVec 32 := Scalar.addi v2 v4
  let c9_i32 : BitVec 32 := 9#32
  let v6 : BitVec 1 := Scalar.cmpi .sge arg1 c9_i32
  let v7 : BitVec 32 := Scalar.extui v6
  let v8 : BitVec 32 := Scalar.addi v5 v7
  let v9 : BitVec 32 := Scalar.addi v8 arg1
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c2_i32 : BitVec 32 := 2#32
  let v13 : BitVec 32 := Scalar.divsi v12 c2_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let c0_i32_7 : BitVec 32 := 0#32
  let v32 : BitVec 32 := Scalar.addi c0_i32_7 arg0
  let c0_i32_8 : BitVec 32 := 0#32
  ![v8.toNat, v32.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .sge arg1 c4_i32
  let v1 : BitVec 32 := Scalar.extui v0
  let c0_i32 : BitVec 32 := 0#32
  let v2 : BitVec 32 := Scalar.addi c0_i32 v1
  let c7_i32 : BitVec 32 := 7#32
  let v3 : BitVec 1 := Scalar.cmpi .sge arg1 c7_i32
  let v4 : BitVec 32 := Scalar.extui v3
  let v5 : BitVec 32 := Scalar.addi v2 v4
  let c9_i32 : BitVec 32 := 9#32
  let v6 : BitVec 1 := Scalar.cmpi .sge arg1 c9_i32
  let v7 : BitVec 32 := Scalar.extui v6
  let v8 : BitVec 32 := Scalar.addi v5 v7
  let v9 : BitVec 32 := Scalar.addi v8 arg1
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c2_i32 : BitVec 32 := 2#32
  let v13 : BitVec 32 := Scalar.divsi v12 c2_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let c0_i32_7 : BitVec 32 := 0#32
  let v32 : BitVec 32 := Scalar.addi c0_i32_7 arg0
  let c0_i32_8 : BitVec 32 := 0#32
  ![v8.toNat, v32.toNat]

def cc0_transform_12 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .sge arg1 c4_i32
  let v1 : BitVec 32 := Scalar.extui v0
  let c0_i32 : BitVec 32 := 0#32
  let v2 : BitVec 32 := Scalar.addi c0_i32 v1
  let c7_i32 : BitVec 32 := 7#32
  let v3 : BitVec 1 := Scalar.cmpi .sge arg1 c7_i32
  let v4 : BitVec 32 := Scalar.extui v3
  let v5 : BitVec 32 := Scalar.addi v2 v4
  let c9_i32 : BitVec 32 := 9#32
  let v6 : BitVec 1 := Scalar.cmpi .sge arg1 c9_i32
  let v7 : BitVec 32 := Scalar.extui v6
  let v8 : BitVec 32 := Scalar.addi v5 v7
  let v9 : BitVec 32 := Scalar.addi v8 arg1
  let c4_i32_0 : BitVec 32 := 4#32
  let v10 : BitVec 32 := Scalar.muli v8 c4_i32_0
  let c1_i32 : BitVec 32 := 1#32
  let v11 : BitVec 32 := Scalar.subi v8 c1_i32
  let v12 : BitVec 32 := Scalar.muli v8 v11
  let c2_i32 : BitVec 32 := 2#32
  let v13 : BitVec 32 := Scalar.divsi v12 c2_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c0_i32_3 : BitVec 32 := 0#32
  let v19 : BitVec 1 := Scalar.cmpi .sgt c2_i32 c0_i32_3
  let v20 : BitVec 32 := Scalar.extui v19
  let c0_i32_4 : BitVec 32 := 0#32
  let v21 : BitVec 1 := Scalar.cmpi .slt c2_i32 c0_i32_4
  let v22 : BitVec 32 := Scalar.extui v21
  let v23 : BitVec 32 := Scalar.subi v20 v22
  let v24 : BitVec 1 := Scalar.cmpi .ne v18 v23
  let v25 : BitVec 32 := Scalar.remsi v12 c2_i32
  let c0_i32_5 : BitVec 32 := 0#32
  let v26 : BitVec 1 := Scalar.cmpi .ne v25 c0_i32_5
  let v27 : BitVec 1 := Scalar.andi v24 v26
  let c1_i32_6 : BitVec 32 := 1#32
  let v28 : BitVec 32 := Scalar.subi v13 c1_i32_6
  let v29 : BitVec 32 := Scalar.select v27 v28 v13
  let v30 : BitVec 32 := Scalar.subi v10 v29
  let v31 : BitVec 32 := Scalar.subi v9 v30
  let c0_i32_7 : BitVec 32 := 0#32
  let c0_i32_8 : BitVec 32 := 0#32
  ![arg0.toNat, c0_i32_7.toNat, v8.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "mask" => some ⊥
  | "scale" => some ((1048576 / 11863283 : ℝ) : EReal)
  | "scale2" => some (((1048576 / 11863283) * (Real.log 2)⁻¹ : ℝ) : EReal)
  | _ => none
-- ==== ReferenceIdeal.lean ====
abbrev S4096x3072 : Shape := ⟨2, ![4096, 3072]⟩
abbrev S8x4096 : Shape := ⟨2, ![8, 4096]⟩
abbrev S4096x1024 : Shape := ⟨2, ![4096, 1024]⟩
abbrev S4096x8x128 : Shape := ⟨3, ![4096, 8, 128]⟩
abbrev S8x4096x4096 : Shape := ⟨3, ![8, 4096, 4096]⟩
abbrev S_ : Shape := ⟨0, ![]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x128x4096 : Shape := ⟨3, ![8, 128, 4096]⟩
abbrev S8x4096x128 : Shape := ⟨3, ![8, 4096, 128]⟩
abbrev S4096x8 : Shape := ⟨2, ![4096, 8]⟩
abbrev S4096x8x1 : Shape := ⟨3, ![4096, 8, 1]⟩

abbrev nBuf : Space → Nat
  | .hbm => 123
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S8x4096, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x8x128, .f32⟩
  | .hbm, ⟨7, _⟩ => ⟨S4096x8x128, .f32⟩
  | .hbm, ⟨8, _⟩ => ⟨S4096x8x128, .f32⟩
  | .hbm, ⟨9, _⟩ => ⟨S8x4096x4096, .f32⟩
  | .hbm, ⟨10, _⟩ => ⟨S_, .f32⟩
  | .hbm, ⟨11, _⟩ => ⟨S8x4096x4096, .f32⟩
  | .hbm, ⟨12, _⟩ => ⟨S8x4096x4096, .f32⟩
  | .hbm, ⟨13, _⟩ => ⟨S8x4096x1, .f32⟩
  | .hbm, ⟨14, _⟩ => ⟨S8x1x4096, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S8x4096x4096, .f32⟩
  | .hbm, ⟨19, _⟩ => ⟨S4096, .i32⟩
  | .hbm, ⟨20, _⟩ => ⟨S1x4096, .i32⟩
  | .hbm, ⟨21, _⟩ => ⟨S4096x1, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S8x4096x4096, .i1⟩
  | .hbm, ⟨26, _⟩ => ⟨S_, .f32⟩
  | .hbm, ⟨27, _⟩ => ⟨S8x4096x4096, .f32⟩
  | .hbm, ⟨28, _⟩ => ⟨S8x4096x4096, .f32⟩
  | .hbm, ⟨29, _⟩ => ⟨S_, .f32⟩
  | .hbm, ⟨30, _⟩ => ⟨S8x4096x4096, .f32⟩
  | .hbm, ⟨31, _⟩ => ⟨S_, .f32⟩
  | .hbm, ⟨32, _⟩ => ⟨S8x4096, .f32⟩
  | .hbm, ⟨33, _⟩ => ⟨S8x4096x1, .f32⟩
  | .hbm, ⟨34, _⟩ => ⟨S8x4096x4096, .f32⟩
  | .hbm, ⟨35, _⟩ => ⟨S8x4096x4096, .i1⟩
  | .hbm, ⟨36, _⟩ => ⟨S8x4096x4096, .f32⟩
  | .hbm, ⟨37, _⟩ => ⟨S_, .f32⟩
  | .hbm, ⟨38, _⟩ => ⟨S8x4096, .f32⟩
  | .hbm, ⟨39, _⟩ => ⟨S_, .f32⟩
  | .hbm, ⟨40, _⟩ => ⟨S8x4096, .f32⟩
  | .hbm, ⟨41, _⟩ => ⟨S8x4096, .f32⟩
  | .hbm, ⟨42, _⟩ => ⟨S_, .f32⟩
  | .hbm, ⟨43, _⟩ => ⟨S8x4096, .f32⟩
  | .hbm, ⟨44, _⟩ => ⟨S8x4096, .i1⟩
  | .hbm, ⟨45, _⟩ => ⟨S_, .f32⟩
  | .hbm, ⟨46, _⟩ => ⟨S8x4096, .f32⟩
  | .hbm, ⟨47, _⟩ => ⟨S8x4096, .i1⟩
  | .hbm, ⟨48, _⟩ => ⟨S_, .f32⟩
  | .hbm, ⟨49, _⟩ => ⟨S8x4096, .f32⟩
  | .hbm, ⟨50, _⟩ => ⟨S_, .f32⟩
  | .hbm, ⟨51, _⟩ => ⟨S8x4096, .f32⟩
  | .hbm, ⟨52, _⟩ => ⟨S_, .f32⟩
  | .hbm, ⟨53, _⟩ => ⟨S8x4096, .f32⟩
  | .hbm, ⟨54, _⟩ => ⟨S8x4096, .f32⟩
  | .hbm, ⟨55, _⟩ => ⟨S8x4096, .f32⟩
  | .hbm, ⟨56, _⟩ => ⟨S8x4096x1, .f32⟩
  | .hbm, ⟨57, _⟩ => ⟨S8x4096x4096, .f32⟩
  | .hbm, ⟨58, _⟩ => ⟨S8x4096x4096, .f32⟩
  | .hbm, ⟨59, _⟩ => ⟨S8x4096x4096, .f32⟩
  | .hbm, ⟨60, _⟩ => ⟨S_, .f32⟩
  | .hbm, ⟨61, _⟩ => ⟨S8x4096, .f32⟩
  | .hbm, ⟨62, _⟩ => ⟨S8x4096x1, .f32⟩
  | .hbm, ⟨63, _⟩ => ⟨S8x4096x4096, .f32⟩
  | .hbm, ⟨64, _⟩ => ⟨S8x4096x4096, .f32⟩
  | .hbm, ⟨65, _⟩ => ⟨S8x4096x1, .f32⟩
  | .hbm, ⟨66, _⟩ => ⟨S_, .f32⟩
  | .hbm, ⟨67, _⟩ => ⟨S8x4096x1, .f32⟩
  | .hbm, ⟨68, _⟩ => ⟨S8x4096x1, .f32⟩
  | .hbm, ⟨69, _⟩ => ⟨S8x128x4096, .f32⟩
  | .hbm, ⟨70, _⟩ => ⟨S4096x8x128, .f32⟩
  | .hbm, ⟨71, _⟩ => ⟨S4096x8x128, .f32⟩
  | .hbm, ⟨72, _⟩ => ⟨S8x128x4096, .f32⟩
  | .hbm, ⟨73, _⟩ => ⟨S8x4096x4096, .f32⟩
  | .hbm, ⟨74, _⟩ => ⟨S8x128x4096, .f32⟩
  | .hbm, ⟨75, _⟩ => ⟨S4096x8x128, .f32⟩
  | .hbm, ⟨76, _⟩ => ⟨S8x4096x4096, .f32⟩
  | .hbm, ⟨77, _⟩ => ⟨S8x4096x4096, .f32⟩
  | .hbm, ⟨78, _⟩ => ⟨S8x4096x4096, .f32⟩
  | .hbm, ⟨79, _⟩ => ⟨S_, .f32⟩
  | .hbm, ⟨80, _⟩ => ⟨S8x4096, .f32⟩
  | .hbm, ⟨81, _⟩ => ⟨S8x4096x1, .f32⟩
  | .hbm, ⟨82, _⟩ => ⟨S8x4096x1, .f32⟩
  | .hbm, ⟨83, _⟩ => ⟨S8x4096x4096, .f32⟩
  | .hbm, ⟨84, _⟩ => ⟨S8x4096x4096, .f32⟩
  | .hbm, ⟨85, _⟩ => ⟨S_, .f32⟩
  | .hbm, ⟨86, _⟩ => ⟨S8x4096, .f32⟩
  | .hbm, ⟨87, _⟩ => ⟨S8x4096x4096, .f32⟩
  | .hbm, ⟨88, _⟩ => ⟨S8x4096x4096, .f32⟩
  | .hbm, ⟨89, _⟩ => ⟨S8x4096x4096, .f32⟩
  | .hbm, ⟨90, _⟩ => ⟨S_, .f32⟩
  | .hbm, ⟨91, _⟩ => ⟨S8x4096x4096, .f32⟩
  | .hbm, ⟨92, _⟩ => ⟨S8x4096x4096, .f32⟩
  | .hbm, ⟨93, _⟩ => ⟨S_, .f32⟩
  | .hbm, ⟨94, _⟩ => ⟨S8x4096, .f32⟩
  | .hbm, ⟨95, _⟩ => ⟨S8x4096x1, .f32⟩
  | .hbm, ⟨96, _⟩ => ⟨S8x4096x4096, .f32⟩
  | .hbm, ⟨97, _⟩ => ⟨S_, .f32⟩
  | .hbm, ⟨98, _⟩ => ⟨S8x4096, .f32⟩
  | .hbm, ⟨99, _⟩ => ⟨S8x1x4096, .f32⟩
  | .hbm, ⟨100, _⟩ => ⟨S_, .f32⟩
  | .hbm, ⟨101, _⟩ => ⟨S8x4096, .f32⟩
  | .hbm, ⟨102, _⟩ => ⟨S_, .f32⟩
  | .hbm, ⟨103, _⟩ => ⟨S8x4096, .f32⟩
  | .hbm, ⟨104, _⟩ => ⟨S_, .f32⟩
  | .hbm, ⟨105, _⟩ => ⟨S8x4096x4096, .f32⟩
  | .hbm, ⟨106, _⟩ => ⟨S8x4096x4096, .f32⟩
  | .hbm, ⟨107, _⟩ => ⟨S8x4096x128, .f32⟩
  | .hbm, ⟨108, _⟩ => ⟨S4096x8x128, .f32⟩
  | .hbm, ⟨109, _⟩ => ⟨S8x4096x128, .f32⟩
  | .hbm, ⟨110, _⟩ => ⟨S4096x8x128, .f32⟩
  | .hbm, ⟨111, _⟩ => ⟨S4096x8, .f32⟩
  | .hbm, ⟨112, _⟩ => ⟨S4096x8x1, .f32⟩
  | .hbm, ⟨113, _⟩ => ⟨S4096x8x128, .f32⟩
  | .hbm, ⟨114, _⟩ => ⟨S4096x1024, .f32⟩
  | .hbm, ⟨115, _⟩ => ⟨S4096x1024, .f32⟩
  | .hbm, ⟨116, _⟩ => ⟨S4096x1024, .bf16⟩
  | .hbm, ⟨117, _⟩ => ⟨S4096x1024, .f32⟩
  | .hbm, ⟨118, _⟩ => ⟨S4096x1024, .bf16⟩
  | .hbm, ⟨119, _⟩ => ⟨S4096x1024, .f32⟩
  | .hbm, ⟨120, _⟩ => ⟨S4096x1024, .bf16⟩
  | .hbm, ⟨121, _⟩ => ⟨S8x4096, .f32⟩
  | .hbm, ⟨122, _⟩ => ⟨S8x1x4096, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_0 : Ref sig .tc := ⟨.hbm, 26, rfl⟩
abbrev main_v22 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev main_v36 : Ref sig .tc := ⟨.hbm, 47, rfl⟩
abbrev main_cst_7 : Ref sig .tc := ⟨.hbm, 48, rfl⟩
abbrev main_v37 : Ref sig .tc := ⟨.hbm, 49, rfl⟩
abbrev main_cst_8 : Ref sig .tc := ⟨.hbm, 50, rfl⟩
abbrev main_v38 : Ref sig .tc := ⟨.hbm, 51, rfl⟩
abbrev main_cst_9 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_10 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_11 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_12 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_13 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_14 : Ref sig .tc := ⟨.hbm, 90, rfl⟩
abbrev main_v72 : Ref sig .tc := ⟨.hbm, 91, rfl⟩
abbrev main_v73 : Ref sig .tc := ⟨.hbm, 92, rfl⟩
abbrev main_cst_15 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_16 : Ref sig .tc := ⟨.hbm, 97, rfl⟩
abbrev main_v77 : Ref sig .tc := ⟨.hbm, 98, rfl⟩
abbrev main_v78 : Ref sig .tc := ⟨.hbm, 99, rfl⟩
abbrev main_cst_17 : Ref sig .tc := ⟨.hbm, 100, rfl⟩
abbrev main_v79 : Ref sig .tc := ⟨.hbm, 101, rfl⟩
abbrev main_cst_18 : Ref sig .tc := ⟨.hbm, 102, rfl⟩
abbrev main_v80 : Ref sig .tc := ⟨.hbm, 103, rfl⟩
abbrev main_cst_19 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩

abbrev nD : Nat := 1
abbrev τ : Topo := Topo.v7x

variable {F : FTy → Type} [FloatOps F]
-- ==== DAct.lean ====
abbrev S4096x2048 : Shape := ⟨2, ![4096, 2048]⟩
abbrev S8192x2048 : Shape := ⟨2, ![8192, 2048]⟩
abbrev S4096x8192 : Shape := ⟨2, ![4096, 8192]⟩
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .bf16⟩
  | .hbm, ⟨3, _⟩ => ⟨S4096x8192, .bf16⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefDActIdeal.lean ====
abbrev S4096x2048 : Shape := ⟨2, ![4096, 2048]⟩
abbrev S8192x2048 : Shape := ⟨2, ![8192, 2048]⟩
abbrev S4096x8192 : Shape := ⟨2, ![4096, 8192]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .bf16⟩
  | .hbm, ⟨3, _⟩ => ⟨S4096x2048, .f32⟩
  | .hbm, ⟨4, _⟩ => ⟨S8192x2048, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .i1⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S4096x2048, .f32⟩
  | .hbm, ⟨19, _⟩ => ⟨S4096x8192, .f32⟩
  | .hbm, ⟨20, _⟩ => ⟨S4096x8192, .f32⟩
  | .hbm, ⟨21, _⟩ => ⟨S_, .f32⟩
  | .hbm, ⟨22, _⟩ => ⟨S4096x8192, .f32⟩
  | .hbm, ⟨23, _⟩ => ⟨S4096x8192, .f32⟩
  | .hbm, ⟨24, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== DWOut.lean ====
abbrev S4096x8192 : Shape := ⟨2, ![4096, 8192]⟩
abbrev S4096x2048 : Shape := ⟨2, ![4096, 2048]⟩
abbrev S8192x2048 : Shape := ⟨2, ![8192, 2048]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S8192x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDWOutIdeal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S4096x8192, .f32⟩
  | .hbm, ⟨3, _⟩ => ⟨S4096x2048, .f32⟩
  | .hbm, ⟨4, _⟩ => ⟨S_, .f32⟩
  | .hbm, ⟨5, _⟩ => ⟨S8192x2048, .f32⟩
  | .hbm, ⟨6, _⟩ => ⟨S4096x2048, .f32⟩
  | .hbm, ⟨7, _⟩ => ⟨S2048x8192, .f32⟩
  | .hbm, ⟨8, _⟩ => ⟨S8192x2048, .f32⟩
  | .hbm, ⟨9, _⟩ => ⟨S8192x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DH.lean ====
abbrev S4096x8192 : Shape := ⟨2, ![4096, 8192]⟩
abbrev S4x2048x2048 : Shape := ⟨3, ![4, 2048, 2048]⟩
abbrev S4096x2048 : Shape := ⟨2, ![4096, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x8192, .bf16⟩
  | .hbm, ⟨1, _⟩ => ⟨S4x2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg2 : BitVec 32 := BitVec.ofNat 32 (i 2).val
  let c0_i32_5 : BitVec 32 := 0#32
  let v7 : BitVec 1 := Scalar.cmpi .sgt arg2 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDHIdeal.lean ====
abbrev S4096x8192 : Shape := ⟨2, ![4096, 8192]⟩
abbrev S4x2048x2048 : Shape := ⟨3, ![4, 2048, 2048]⟩
abbrev S_ : Shape := ⟨0, ![]⟩
abbrev S4096x2048 : Shape := ⟨2, ![4096, 2048]⟩
abbrev S2048x4x2048 : Shape := ⟨3, ![2048, 4, 2048]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4x2048x2048, .bf16⟩
  | .hbm, ⟨2, _⟩ => ⟨S4096x8192, .f32⟩
  | .hbm, ⟨3, _⟩ => ⟨S4x2048x2048, .f32⟩
  | .hbm, ⟨4, _⟩ => ⟨S_, .f32⟩
  | .hbm, ⟨5, _⟩ => ⟨S4096x2048, .f32⟩
  | .hbm, ⟨6, _⟩ => ⟨S2048x4x2048, .f32⟩
  | .hbm, ⟨7, _⟩ => ⟨S2048x8192, .f32⟩
  | .hbm, ⟨8, _⟩ => ⟨S4096x8192, .f32⟩
  | .hbm, ⟨9, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DWIn.lean ====
abbrev S4096x2048 : Shape := ⟨2, ![4096, 2048]⟩
abbrev S4096x8192 : Shape := ⟨2, ![4096, 8192]⟩
abbrev S4x2048x2048 : Shape := ⟨3, ![4, 2048, 2048]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4x2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDWInIdeal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩
abbrev S2048x4x2048 : Shape := ⟨3, ![2048, 4, 2048]⟩
abbrev S4x2048x2048 : Shape := ⟨3, ![4, 2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4096x2048, .f32⟩
  | .hbm, ⟨3, _⟩ => ⟨S4096x8192, .f32⟩
  | .hbm, ⟨4, _⟩ => ⟨S_, .f32⟩
  | .hbm, ⟨5, _⟩ => ⟨S2048x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | .hbm, ⟨10, _⟩ => ⟨S2048x4x2048, .bf16⟩
  | .hbm, ⟨11, _⟩ => ⟨S4x2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DMixed.lean ====
abbrev S4096x2048 : Shape := ⟨2, ![4096, 2048]⟩
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .f32⟩
  | .local _ .vmem, ⟨5, _⟩ => ⟨S2048x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDMixedIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DWProj.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDWProjIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S2048x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DWQkv.lean ====
abbrev S4096x2048 : Shape := ⟨2, ![4096, 2048]⟩
abbrev S4096x6144 : Shape := ⟨2, ![4096, 6144]⟩
abbrev S2048x6144 : Shape := ⟨2, ![2048, 6144]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S2048x6144, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDWQkvIdeal.lean ====
abbrev S4096x2048 : Shape := ⟨2, ![4096, 2048]⟩
abbrev S4096x6144 : Shape := ⟨2, ![4096, 6144]⟩
abbrev S_ : Shape := ⟨0, ![]⟩
abbrev S2048x6144 : Shape := ⟨2, ![2048, 6144]⟩
abbrev S6144x2048 : Shape := ⟨2, ![6144, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S4096x2048, .f32⟩
  | .hbm, ⟨3, _⟩ => ⟨S4096x6144, .f32⟩
  | .hbm, ⟨4, _⟩ => ⟨S_, .f32⟩
  | .hbm, ⟨5, _⟩ => ⟨S2048x6144, .f32⟩
  | .hbm, ⟨6, _⟩ => ⟨S4096x6144, .f32⟩
  | .hbm, ⟨7, _⟩ => ⟨S6144x2048, .f32⟩
  | .hbm, ⟨8, _⟩ => ⟨S2048x6144, .f32⟩
  | .hbm, ⟨9, _⟩ => ⟨S2048x6144, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DWF.lean ====
abbrev S8x4096 : Shape := ⟨2, ![8, 4096]⟩
abbrev S4096x2048 : Shape := ⟨2, ![4096, 2048]⟩
abbrev S8x2048 : Shape := ⟨2, ![8, 2048]⟩
abbrev S2048x1024 : Shape := ⟨2, ![2048, 1024]⟩
abbrev S8x1024 : Shape := ⟨2, ![8, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8x4096, .bf16⟩
  | .hbm, ⟨1, _⟩ => ⟨S4096x2048, .bf16⟩
  | .hbm, ⟨2, _⟩ => ⟨S8x2048, .f32⟩
  | .local _ .vmem, ⟨0, _⟩ => ⟨S8x2048, .bf16⟩
  | .local _ .vmem, ⟨1, _⟩ => ⟨S8x2048, .bf16⟩
  | .local _ .vmem, ⟨2, _⟩ => ⟨S2048x1024, .bf16⟩
  | .local _ .vmem, ⟨3, _⟩ => ⟨S2048x1024, .bf16⟩
  | .local _ .vmem, ⟨4, _⟩ => ⟨S8x1024, .f32⟩
  | .local _ .vmem, ⟨5, _⟩ => ⟨S8x1024, .f32⟩
  | _, _ => ⟨S8x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDWFIdeal.lean ====
abbrev S8x4096 : Shape := ⟨2, ![8, 4096]⟩
abbrev S4096x2048 : Shape := ⟨2, ![4096, 2048]⟩
abbrev S_ : Shape := ⟨0, ![]⟩
abbrev S2048x8 : Shape := ⟨2, ![2048, 8]⟩
abbrev S4096x8 : Shape := ⟨2, ![4096, 8]⟩
abbrev S8x2048 : Shape := ⟨2, ![8, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8x4096, .bf16⟩
  | .hbm, ⟨1, _⟩ => ⟨S4096x2048, .bf16⟩
  | .hbm, ⟨2, _⟩ => ⟨S8x4096, .f32⟩
  | .hbm, ⟨3, _⟩ => ⟨S4096x2048, .f32⟩
  | .hbm, ⟨4, _⟩ => ⟨S_, .f32⟩
  | .hbm, ⟨5, _⟩ => ⟨S2048x8, .f32⟩
  | .hbm, ⟨6, _⟩ => ⟨S4096x8, .f32⟩
  | .hbm, ⟨7, _⟩ => ⟨S4096x8, .f32⟩
  | .hbm, ⟨8, _⟩ => ⟨S8x2048, .f32⟩
  | .hbm, ⟨9, _⟩ => ⟨S2048x8, .f32⟩
  | .hbm, ⟨10, _⟩ => ⟨S8x2048, .f32⟩
  | _, _ => ⟨S8x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DHF.lean ====
abbrev S8x4096 : Shape := ⟨2, ![8, 4096]⟩
abbrev S8x2048 : Shape := ⟨2, ![8, 2048]⟩
abbrev S4096x2048 : Shape := ⟨2, ![4096, 2048]⟩
abbrev S8x1024 : Shape := ⟨2, ![8, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8x4096, .bf16⟩
  | .hbm, ⟨1, _⟩ => ⟨S8x2048, .bf16⟩
  | .hbm, ⟨2, _⟩ => ⟨S4096x2048, .f32⟩
  | .local _ .vmem, ⟨0, _⟩ => ⟨S8x1024, .bf16⟩
  | .local _ .vmem, ⟨1, _⟩ => ⟨S8x1024, .bf16⟩
  | .local _ .vmem, ⟨2, _⟩ => ⟨S8x1024, .bf16⟩
  | .local _ .vmem, ⟨3, _⟩ => ⟨S8x1024, .bf16⟩
  | .local _ .vmem, ⟨4, _⟩ => ⟨S1024x1024, .f32⟩
  | .local _ .vmem, ⟨5, _⟩ => ⟨S1024x1024, .f32⟩
  | _, _ => ⟨S8x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDHFIdeal.lean ====
abbrev S8x4096 : Shape := ⟨2, ![8, 4096]⟩
abbrev S8x2048 : Shape := ⟨2, ![8, 2048]⟩
abbrev S_ : Shape := ⟨0, ![]⟩
abbrev S4096x2048 : Shape := ⟨2, ![4096, 2048]⟩
abbrev S2048x8 : Shape := ⟨2, ![2048, 8]⟩
abbrev S4096x8 : Shape := ⟨2, ![4096, 8]⟩

abbrev nBuf : Space → Nat
  | .hbm => 10
  | .vmem => 0
  | .smem => 0
  | _ => 0

abbrev bufTy : (tb : Table) → Fin (tcTables nBuf tb) → BufTy
  | .hbm, ⟨0, _⟩ => ⟨S8x4096, .bf16⟩
  | .hbm, ⟨1, _⟩ => ⟨S8x2048, .bf16⟩
  | .hbm, ⟨2, _⟩ => ⟨S8x4096, .f32⟩
  | .hbm, ⟨3, _⟩ => ⟨S8x2048, .f32⟩
  | .hbm, ⟨4, _⟩ => ⟨S_, .f32⟩
  | .hbm, ⟨5, _⟩ => ⟨S4096x2048, .f32⟩
  | .hbm, ⟨6, _⟩ => ⟨S2048x8, .f32⟩
  | .hbm, ⟨7, _⟩ => ⟨S4096x8, .f32⟩
  | .hbm, ⟨8, _⟩ => ⟨S4096x8, .f32⟩
  | .hbm, ⟨9, _⟩ => ⟨S4096x2048, .f32⟩
  | _, _ => ⟨S8x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DHQkv.lean ====
abbrev S4096x6144 : Shape := ⟨2, ![4096, 6144]⟩
abbrev S2048x6144 : Shape := ⟨2, ![2048, 6144]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x6144, .bf16⟩
  | .hbm, ⟨1, _⟩ => ⟨S2048x6144, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 3], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefDHQkvIdeal.lean ====
abbrev S4096x6144 : Shape := ⟨2, ![4096, 6144]⟩
abbrev S2048x6144 : Shape := ⟨2, ![2048, 6144]⟩
abbrev S4096x2048 : Shape := ⟨2, ![4096, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S2048x6144, .bf16⟩
  | .hbm, ⟨2, _⟩ => ⟨S4096x2048, .f32⟩
  | .hbm, ⟨3, _⟩ => ⟨S4096x6144, .f32⟩
  | .hbm, ⟨4, _⟩ => ⟨S2048x6144, .f32⟩
  | .hbm, ⟨5, _⟩ => ⟨S_, .f32⟩
  | .hbm, ⟨6, _⟩ => ⟨S4096x2048, .f32⟩
  | .hbm, ⟨7, _⟩ => ⟨S4096x6144, .f32⟩
  | .hbm, ⟨8, _⟩ => ⟨S4096x2048, .f32⟩
  | .hbm, ⟨9, _⟩ => ⟨S4096x2048, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== ProjA.lean ====
abbrev S4096x2048 : Shape := ⟨2, ![4096, 2048]⟩
abbrev S2048x6144 : Shape := ⟨2, ![2048, 6144]⟩
abbrev S4096x3072 : Shape := ⟨2, ![4096, 3072]⟩
abbrev S2048x2048 : Shape := ⟨2, ![2048, 2048]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S4096x3072, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefProjAIdeal.lean ====
abbrev S4096x2048 : Shape := ⟨2, ![4096, 2048]⟩
abbrev S2048x6144 : Shape := ⟨2, ![2048, 6144]⟩
abbrev S4096x6144 : Shape := ⟨2, ![4096, 6144]⟩
abbrev S4096x3072 : Shape := ⟨2, ![4096, 3072]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S4096x2048, .f32⟩
  | .hbm, ⟨3, _⟩ => ⟨S2048x6144, .f32⟩
  | .hbm, ⟨4, _⟩ => ⟨S4096x6144, .f32⟩
  | .hbm, ⟨5, _⟩ => ⟨S4096x3072, .f32⟩
  | .hbm, ⟨6, _⟩ => ⟨S4096x3072, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ProjB.lean ====
abbrev S4096x2048 : Shape := ⟨2, ![4096, 2048]⟩
abbrev S2048x6144 : Shape := ⟨2, ![2048, 6144]⟩
abbrev S4096x3072 : Shape := ⟨2, ![4096, 3072]⟩
abbrev S2048x2048 : Shape := ⟨2, ![2048, 2048]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S4096x3072, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefProjBIdeal.lean ====
abbrev S4096x2048 : Shape := ⟨2, ![4096, 2048]⟩
abbrev S2048x6144 : Shape := ⟨2, ![2048, 6144]⟩
abbrev S4096x6144 : Shape := ⟨2, ![4096, 6144]⟩
abbrev S4096x3072 : Shape := ⟨2, ![4096, 3072]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S4096x2048, .f32⟩
  | .hbm, ⟨3, _⟩ => ⟨S2048x6144, .f32⟩
  | .hbm, ⟨4, _⟩ => ⟨S4096x6144, .f32⟩
  | .hbm, ⟨5, _⟩ => ⟨S4096x3072, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjF.lean ====
abbrev S8x2048 : Shape := ⟨2, ![8, 2048]⟩
abbrev S4096x2048 : Shape := ⟨2, ![4096, 2048]⟩
abbrev S8x4096 : Shape := ⟨2, ![8, 4096]⟩
abbrev S512x2048 : Shape := ⟨2, ![512, 2048]⟩
abbrev S8x512 : Shape := ⟨2, ![8, 512]⟩

abbrev nBuf : Space → Nat
  | .hbm => 3
  | .vmem => 5
  | .smem => 0
  | _ => 0

abbrev bufTy : (tb : Table) → Fin (tcTables nBuf tb) → BufTy
  | .hbm, ⟨0, _⟩ => ⟨S8x2048, .bf16⟩
  | .hbm, ⟨1, _⟩ => ⟨S4096x2048, .bf16⟩
  | .hbm, ⟨2, _⟩ => ⟨S8x4096, .f32⟩
  | .local _ .vmem, ⟨0, _⟩ => ⟨S8x2048, .bf16⟩
  | .local _ .vmem, ⟨1, _⟩ => ⟨S512x2048, .bf16⟩
  | .local _ .vmem, ⟨2, _⟩ => ⟨S512x2048, .bf16⟩
  | .local _ .vmem, ⟨3, _⟩ => ⟨S8x512, .f32⟩
  | .local _ .vmem, ⟨4, _⟩ => ⟨S8x512, .f32⟩
  | _, _ => ⟨S8x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefProjFIdeal.lean ====
abbrev S8x2048 : Shape := ⟨2, ![8, 2048]⟩
abbrev S4096x2048 : Shape := ⟨2, ![4096, 2048]⟩
abbrev S2048x8 : Shape := ⟨2, ![2048, 8]⟩
abbrev S4096x8 : Shape := ⟨2, ![4096, 8]⟩
abbrev S8x4096 : Shape := ⟨2, ![8, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8x2048, .bf16⟩
  | .hbm, ⟨1, _⟩ => ⟨S4096x2048, .bf16⟩
  | .hbm, ⟨2, _⟩ => ⟨S4096x2048, .f32⟩
  | .hbm, ⟨3, _⟩ => ⟨S8x2048, .f32⟩
  | .hbm, ⟨4, _⟩ => ⟨S2048x8, .f32⟩
  | .hbm, ⟨5, _⟩ => ⟨S4096x8, .f32⟩
  | .hbm, ⟨6, _⟩ => ⟨S8x4096, .f32⟩
  | _, _ => ⟨S8x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== AttnOut.lean ====
abbrev S4096x2048 : Shape := ⟨2, ![4096, 2048]⟩
abbrev S2048x2048 : Shape := ⟨2, ![2048, 2048]⟩
abbrev S2048x512 : Shape := ⟨2, ![2048, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefAttnOutIdeal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MlpIn.lean ====
abbrev S4096x2048 : Shape := ⟨2, ![4096, 2048]⟩
abbrev S4x2048x2048 : Shape := ⟨3, ![4, 2048, 2048]⟩
abbrev S4096x8192 : Shape := ⟨2, ![4096, 8192]⟩
abbrev S2048x2048 : Shape := ⟨2, ![2048, 2048]⟩
abbrev S1x2048x512 : Shape := ⟨3, ![1, 2048, 512]⟩
abbrev S2048x512 : Shape := ⟨2, ![2048, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S4x2048x2048, .bf16⟩
  | .hbm, ⟨2, _⟩ => ⟨S4096x8192, .bf16⟩
  | .hbm, ⟨3, _⟩ => ⟨S4096x8192, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefMlpInIdeal.lean ====
abbrev S4096x2048 : Shape := ⟨2, ![4096, 2048]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x2048, .bf16⟩
  | .hbm, ⟨2, _⟩ => ⟨S4096x2048, .f32⟩
  | .hbm, ⟨3, _⟩ => ⟨S4x2048x2048, .f32⟩
  | .hbm, ⟨4, _⟩ => ⟨S2048x4x2048, .f32⟩
  | .hbm, ⟨5, _⟩ => ⟨S2048x8192, .f32⟩
  | .hbm, ⟨6, _⟩ => ⟨S4096x8192, .f32⟩
  | .hbm, ⟨7, _⟩ => ⟨S4096x8192, .bf16⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_cst : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== MlpOut.lean ====
abbrev S4096x8192 : Shape := ⟨2, ![4096, 8192]⟩
abbrev S8192x2048 : Shape := ⟨2, ![8192, 2048]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefMlpOutIdeal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S4096x8192, .f32⟩
  | .hbm, ⟨4, _⟩ => ⟨S8192x2048, .f32⟩
  | .hbm, ⟨5, _⟩ => ⟨S4096x2048, .f32⟩
  | .hbm, ⟨6, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== RmsBwd.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_16 : BitVec 32 := 0#32
  let v36 : BitVec 1 := Scalar.cmpi .ne v35 c0_i32_16
  v36

def k0_cond2 (i : grid0.Coords) : BitVec 1 :=
  let arg0 : BitVec 32 := BitVec.ofNat 32 (i 0).val
  let c0_i32_17 : BitVec 32 := 0#32
  let v37 : BitVec 1 := Scalar.cmpi .sgt arg0 c0_i32_17
  let v38 : BitVec 32 := Scalar.extui v37
  let c0_i32_18 : BitVec 32 := 0#32
  let v39 : BitVec 1 := Scalar.cmpi .ne v38 c0_i32_18
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RefRmsBwdIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .bf16⟩
  | .hbm, ⟨51, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== PairBwd.lean ====
abbrev S4096x1024 : Shape := ⟨2, ![4096, 1024]⟩
abbrev S1024 : Shape := ⟨1, ![1024]⟩
abbrev S4096x2048 : Shape := ⟨2, ![4096, 2048]⟩
abbrev S1x1024 : Shape := ⟨2, ![1, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 11
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S4096x2048, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S1x1024, .f32⟩
  | .hbm, ⟨10, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x2048, .f32⟩
  | .local _ .vmem, ⟨7, _⟩ => ⟨S512x2048, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_12 : BitVec 32 := 0#32
  let v33 : BitVec 1 := Scalar.cmpi .ne v32 c0_i32_12
  v33

def k0_cond2 (i : grid0.Coords) : BitVec 1 :=
  let arg0 : BitVec 32 := BitVec.ofNat 32 (i 0).val
  let c0_i32_13 : BitVec 32 := 0#32
  let v34 : BitVec 1 := Scalar.cmpi .sgt arg0 c0_i32_13
  let v35 : BitVec 32 := Scalar.extui v34
  let c0_i32_14 : BitVec 32 := 0#32
  let v36 : BitVec 1 := Scalar.cmpi .ne v35 c0_i32_14
  v36

def k0_cond3 (i : grid0.Coords) : BitVec 1 :=
  let arg0 : BitVec 32 := BitVec.ofNat 32 (i 0).val
  let c0_i32_27 : BitVec 32 := 0#32
  let v67 : BitVec 1 := Scalar.cmpi .eq arg0 c0_i32_27
  let v68 : BitVec 32 := Scalar.extui v67
  let c0_i32_28 : BitVec 32 := 0#32
  let v69 : BitVec 1 := Scalar.cmpi .ne v68 c0_i32_28
  v69

def k0_cond4 (i : grid0.Coords) : BitVec 1 :=
  let arg0 : BitVec 32 := BitVec.ofNat 32 (i 0).val
  let c0_i32_29 : BitVec 32 := 0#32
  let v70 : BitVec 1 := Scalar.cmpi .sgt arg0 c0_i32_29
  let v71 : BitVec 32 := Scalar.extui v70
  let c0_i32_30 : BitVec 32 := 0#32
  let v72 : BitVec 1 := Scalar.cmpi .ne v71 c0_i32_30
  v72

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== RefPairBwdIdeal.lean ====
abbrev S4096x1024 : Shape := ⟨2, ![4096, 1024]⟩
abbrev S1024 : Shape := ⟨1, ![1024]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 100
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S4096x2048, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x2048, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S1024, .f32⟩
  | .hbm, ⟨81, _⟩ => ⟨S4096x1024, .f32⟩
  | .hbm, ⟨82, _⟩ => ⟨S_, .f32⟩
  | .hbm, ⟨83, _⟩ => ⟨S4096, .f32⟩
  | .hbm, ⟨84, _⟩ => ⟨S4096x1, .f32⟩
  | .hbm, ⟨85, _⟩ => ⟨S4096x1024, .f32⟩
  | .hbm, ⟨86, _⟩ => ⟨S4096x1024, .f32⟩
  | .hbm, ⟨87, _⟩ => ⟨S4096x1, .f32⟩
  | .hbm, ⟨88, _⟩ => ⟨S_, .f32⟩
  | .hbm, ⟨89, _⟩ => ⟨S4096x1, .f32⟩
  | .hbm, ⟨90, _⟩ => ⟨S4096x1, .f32⟩
  | .hbm, ⟨91, _⟩ => ⟨S_, .f32⟩
  | .hbm, ⟨92, _⟩ => ⟨S4096, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S1x1024, .f32⟩
  | .hbm, ⟨99, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_10 : Ref sig .tc := ⟨.hbm, 63, rfl⟩
abbrev main_v47 : Ref sig .tc := ⟨.hbm, 64, rfl⟩
abbrev main_v48 : Ref sig .tc := ⟨.hbm, 65, rfl⟩
abbrev main_cst_11 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_12 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_13 : Ref sig .tc := ⟨.hbm, 79, rfl⟩
abbrev main_v60 : Ref sig .tc := ⟨.hbm, 80, rfl⟩
abbrev main_v61 : Ref sig .tc := ⟨.hbm, 81, rfl⟩
abbrev main_cst_14 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_15 : Ref sig .tc := ⟨.hbm, 88, rfl⟩
abbrev main_v67 : Ref sig .tc := ⟨.hbm, 89, rfl⟩
abbrev main_v68 : Ref sig .tc := ⟨.hbm, 90, rfl⟩
abbrev main_cst_16 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩

abbrev nD : Nat := 1
abbrev τ : Topo := Topo.v7x

variable {F : FTy → Type} [FloatOps F]
-- ==== RmsFwd.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefRmsFwdIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== PairFwd.lean ====
abbrev S4096x1024 : Shape := ⟨2, ![4096, 1024]⟩
abbrev S1024 : Shape := ⟨1, ![1024]⟩
abbrev S1x1024 : Shape := ⟨2, ![1, 1024]⟩
abbrev S4096x2048 : Shape := ⟨2, ![4096, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x2048, .bf16⟩
  | .local _ .vmem, ⟨7, _⟩ => ⟨S512x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefPairFwdIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2048 : Shape := ⟨2, ![4096, 2048]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x2048, .f32⟩
  | .hbm, ⟨37, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== FoxFwd.lean ====
abbrev S4096x3072 : Shape := ⟨2, ![4096, 3072]⟩
abbrev S8x4096 : Shape := ⟨2, ![8, 4096]⟩
abbrev S_ : Shape := ⟨0, ![]⟩
abbrev S1x8x4096 : Shape := ⟨3, ![1, 8, 4096]⟩
abbrev S3x8x4096 : Shape := ⟨3, ![3, 8, 4096]⟩
abbrev S4096x8x3 : Shape := ⟨3, ![4096, 8, 3]⟩
abbrev S4096x8x122 : Shape := ⟨3, ![4096, 8, 122]⟩
abbrev S4096x8x128 : Shape := ⟨3, ![4096, 8, 128]⟩
abbrev S4096x1024 : Shape := ⟨2, ![4096, 1024]⟩
abbrev S1024x128 : Shape := ⟨2, ![1024, 128]⟩
abbrev S1024x1 : Shape := ⟨2, ![1024, 1]⟩
abbrev S1024x256 : Shape := ⟨2, ![1024, 256]⟩
abbrev S1024x1024 : Shape := ⟨2, ![1024, 1024]⟩
abbrev S1024 : Shape := ⟨1, ![1024]⟩

abbrev nBuf : Space → Nat
  | .hbm => 29
  | .vmem => 17
  | .smem => 0
  | _ => 0

abbrev bufTy : (tb : Table) → Fin (tcTables nBuf tb) → BufTy
  | .hbm, ⟨0, _⟩ => ⟨S4096x3072, .f32⟩
  | .hbm, ⟨1, _⟩ => ⟨S8x4096, .f32⟩
  | .hbm, ⟨2, _⟩ => ⟨S_, .f32⟩
  | .hbm, ⟨3, _⟩ => ⟨S8x4096, .f32⟩
  | .hbm, ⟨4, _⟩ => ⟨S8x4096, .f32⟩
  | .hbm, ⟨5, _⟩ => ⟨S8x4096, .bf16⟩
  | .hbm, ⟨6, _⟩ => ⟨S8x4096, .f32⟩
  | .hbm, ⟨7, _⟩ => ⟨S8x4096, .f32⟩
  | .hbm, ⟨8, _⟩ => ⟨S8x4096, .bf16⟩
  | .hbm, ⟨9, _⟩ => ⟨S8x4096, .f32⟩
  | .hbm, ⟨10, _⟩ => ⟨S8x4096, .f32⟩
  | .hbm, ⟨11, _⟩ => ⟨S8x4096, .bf16⟩
  | .hbm, ⟨12, _⟩ => ⟨S1x8x4096, .bf16⟩
  | .hbm, ⟨13, _⟩ => ⟨S1x8x4096, .bf16⟩
  | .hbm, ⟨14, _⟩ => ⟨S1x8x4096, .bf16⟩
  | .hbm, ⟨15, _⟩ => ⟨S3x8x4096, .bf16⟩
  | .hbm, ⟨16, _⟩ => ⟨S4096x8x3, .bf16⟩
  | .hbm, ⟨17, _⟩ => ⟨S_, .bf16⟩
  | .hbm, ⟨18, _⟩ => ⟨S4096x8x3, .bf16⟩
  | .hbm, ⟨19, _⟩ => ⟨S_, .bf16⟩
  | .hbm, ⟨20, _⟩ => ⟨S4096x8x122, .bf16⟩
  | .hbm, ⟨21, _⟩ => ⟨S4096x8x128, .bf16⟩
  | .hbm, ⟨22, _⟩ => ⟨S4096x1024, .bf16⟩
  | .hbm, ⟨23, _⟩ => ⟨S4096x8x3, .bf16⟩
  | .hbm, ⟨24, _⟩ => ⟨S4096x8x128, .bf16⟩
  | .hbm, ⟨25, _⟩ => ⟨S4096x1024, .bf16⟩
  | .hbm, ⟨26, _⟩ => ⟨S4096x3072, .bf16⟩
  | .hbm, ⟨27, _⟩ => ⟨S4096x1024, .f32⟩
  | .hbm, ⟨28, _⟩ => ⟨S4096x1024, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x1, .f32⟩
  | .local _ .vmem, ⟨15, _⟩ => ⟨S1024x1, .f32⟩
  | .local _ .vmem, ⟨16, _⟩ => ⟨S1024x128, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22_0 : Ref sig .tc := ⟨.hbm, 27, rfl⟩
abbrev main_v22_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 10], ![false, false]⟩

def k0_cond4 (i : grid0.Coords) : BitVec 1 :=
  let arg1 : BitVec 32 := BitVec.ofNat 32 (i 1).val
  let c0_i32 : BitVec 32 := 0#32
  let c1_i32 : BitVec 32 := 1#32
  let v0 : BitVec 1 := Scalar.cmpi .sge arg1 c1_i32
  let v1 : BitVec 32 := Scalar.extui v0
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c1_i32_0 : BitVec 32 := 1#32
  let v9 : BitVec 32 := Scalar.addi v8 c1_i32_0
  let v10 : BitVec 32 := Scalar.muli v8 v9
  let c0_i32_1 : BitVec 32 := 0#32
  let v12 : BitVec 1 := Scalar.cmpi .sgt v10 c0_i32_1
  let v13 : BitVec 32 := Scalar.extui v12
  let c0_i32_2 : BitVec 32 := 0#32
  let v14 : BitVec 1 := Scalar.cmpi .slt v10 c0_i32_2
  let v15 : BitVec 32 := Scalar.extui v14
  let v16 : BitVec 32 := Scalar.subi v13 v15
  let c2_i32 : BitVec 32 := 2#32
  let c0_i32_3 : BitVec 32 := 0#32
  let v17 : BitVec 1 := Scalar.cmpi .sgt c2_i32 c0_i32_3
  let v18 : BitVec 32 := Scalar.extui v17
  let c0_i32_4 : BitVec 32 := 0#32
  let v19 : BitVec 1 := Scalar.cmpi .slt c2_i32 c0_i32_4
  let v20 : BitVec 32 := Scalar.extui v19
  let v21 : BitVec 32 := Scalar.subi v18 v20
  let v22 : BitVec 1 := Scalar.cmpi .ne v16 v21
  let v23 : BitVec 32 := Scalar.remsi v10 c2_i32
  let c0_i32_5 : BitVec 32 := 0#32
  let v24 : BitVec 1 := Scalar.cmpi .ne v23 c0_i32_5
  let v25 : BitVec 1 := Scalar.andi v22 v24
  let v11 : BitVec 32 := Scalar.divsi v10 c2_i32
  let c1_i32_6 : BitVec 32 := 1#32
  let v26 : BitVec 32 := Scalar.subi v11 c1_i32_6
  let v27 : BitVec 32 := Scalar.select v25 v26 v11
  let v28 : BitVec 32 := Scalar.subi arg1 v27
  let v38 : BitVec 1 := Scalar.cmpi .eq v28 v8
  let v39 : BitVec 32 := Scalar.extui v38
  let c0_i32_11 : BitVec 32 := 0#32
  let v40 : BitVec 1 := Scalar.cmpi .ne v39 c0_i32_11
  v40

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c1_i32_0 : BitVec 32 := 1#32
  let v9 : BitVec 32 := Scalar.addi v8 c1_i32_0
  let v10 : BitVec 32 := Scalar.muli v8 v9
  let c2_i32 : BitVec 32 := 2#32
  let v11 : BitVec 32 := Scalar.divsi v10 c2_i32
  let c0_i32_1 : BitVec 32 := 0#32
  let v12 : BitVec 1 := Scalar.cmpi .sgt v10 c0_i32_1
  let v13 : BitVec 32 := Scalar.extui v12
  let c0_i32_2 : BitVec 32 := 0#32
  let v14 : BitVec 1 := Scalar.cmpi .slt v10 c0_i32_2
  let v15 : BitVec 32 := Scalar.extui v14
  let v16 : BitVec 32 := Scalar.subi v13 v15
  let c0_i32_3 : BitVec 32 := 0#32
  let v17 : BitVec 1 := Scalar.cmpi .sgt c2_i32 c0_i32_3
  let v18 : BitVec 32 := Scalar.extui v17
  let c0_i32_4 : BitVec 32 := 0#32
  let v19 : BitVec 1 := Scalar.cmpi .slt c2_i32 c0_i32_4
  let v20 : BitVec 32 := Scalar.extui v19
  let v21 : BitVec 32 := Scalar.subi v18 v20
  let v22 : BitVec 1 := Scalar.cmpi .ne v16 v21
  let v23 : BitVec 32 := Scalar.remsi v10 c2_i32
  let c0_i32_5 : BitVec 32 := 0#32
  let v24 : BitVec 1 := Scalar.cmpi .ne v23 c0_i32_5
  let v25 : BitVec 1 := Scalar.andi v22 v24
  let c1_i32_6 : BitVec 32 := 1#32
  let v26 : BitVec 32 := Scalar.subi v11 c1_i32_6
  let v27 : BitVec 32 := Scalar.select v25 v26 v11
  let v28 : BitVec 32 := Scalar.subi arg1 v27
  let c0_i32_7 : BitVec 32 := 0#32
  let v29 : BitVec 32 := Scalar.addi c0_i32_7 arg0
  let c0_i32_8 : BitVec 32 := 0#32
  ![v8.toNat, v29.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c1_i32_0 : BitVec 32 := 1#32
  let v9 : BitVec 32 := Scalar.addi v8 c1_i32_0
  let v10 : BitVec 32 := Scalar.muli v8 v9
  let c2_i32 : BitVec 32 := 2#32
  let v11 : BitVec 32 := Scalar.divsi v10 c2_i32
  let c0_i32_1 : BitVec 32 := 0#32
  let v12 : BitVec 1 := Scalar.cmpi .sgt v10 c0_i32_1
  let v13 : BitVec 32 := Scalar.extui v12
  let c0_i32_2 : BitVec 32 := 0#32
  let v14 : BitVec 1 := Scalar.cmpi .slt v10 c0_i32_2
  let v15 : BitVec 32 := Scalar.extui v14
  let v16 : BitVec 32 := Scalar.subi v13 v15
  let c0_i32_3 : BitVec 32 := 0#32
  let v17 : BitVec 1 := Scalar.cmpi .sgt c2_i32 c0_i32_3
  let v18 : BitVec 32 := Scalar.extui v17
  let c0_i32_4 : BitVec 32 := 0#32
  let v19 : BitVec 1 := Scalar.cmpi .slt c2_i32 c0_i32_4
  let v20 : BitVec 32 := Scalar.extui v19
  let v21 : BitVec 32 := Scalar.subi v18 v20
  let v22 : BitVec 1 := Scalar.cmpi .ne v16 v21
  let v23 : BitVec 32 := Scalar.remsi v10 c2_i32
  let c0_i32_5 : BitVec 32 := 0#32
  let v24 : BitVec 1 := Scalar.cmpi .ne v23 c0_i32_5
  let v25 : BitVec 1 := Scalar.andi v22 v24
  let c1_i32_6 : BitVec 32 := 1#32
  let v26 : BitVec 32 := Scalar.subi v11 c1_i32_6
  let v27 : BitVec 32 := Scalar.select v25 v26 v11
  let v28 : BitVec 32 := Scalar.subi arg1 v27
  let c0_i32_7 : BitVec 32 := 0#32
  let v29 : BitVec 32 := Scalar.addi c0_i32_7 arg0
  let c0_i32_8 : BitVec 32 := 0#32
  ![v8.toNat, v29.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c1_i32_0 : BitVec 32 := 1#32
  let v9 : BitVec 32 := Scalar.addi v8 c1_i32_0
  let v10 : BitVec 32 := Scalar.muli v8 v9
  let c2_i32 : BitVec 32 := 2#32
  let v11 : BitVec 32 := Scalar.divsi v10 c2_i32
  let c0_i32_1 : BitVec 32 := 0#32
  let v12 : BitVec 1 := Scalar.cmpi .sgt v10 c0_i32_1
  let v13 : BitVec 32 := Scalar.extui v12
  let c0_i32_2 : BitVec 32 := 0#32
  let v14 : BitVec 1 := Scalar.cmpi .slt v10 c0_i32_2
  let v15 : BitVec 32 := Scalar.extui v14
  let v16 : BitVec 32 := Scalar.subi v13 v15
  let c0_i32_3 : BitVec 32 := 0#32
  let v17 : BitVec 1 := Scalar.cmpi .sgt c2_i32 c0_i32_3
  let v18 : BitVec 32 := Scalar.extui v17
  let c0_i32_4 : BitVec 32 := 0#32
  let v19 : BitVec 1 := Scalar.cmpi .slt c2_i32 c0_i32_4
  let v20 : BitVec 32 := Scalar.extui v19
  let v21 : BitVec 32 := Scalar.subi v18 v20
  let v22 : BitVec 1 := Scalar.cmpi .ne v16 v21
  let v23 : BitVec 32 := Scalar.remsi v10 c2_i32
  let c0_i32_5 : BitVec 32 := 0#32
  let v24 : BitVec 1 := Scalar.cmpi .ne v23 c0_i32_5
  let v25 : BitVec 1 := Scalar.andi v22 v24
  let c1_i32_6 : BitVec 32 := 1#32
  let v26 : BitVec 32 := Scalar.subi v11 c1_i32_6
  let v27 : BitVec 32 := Scalar.select v25 v26 v11
  let v28 : BitVec 32 := Scalar.subi arg1 v27
  let c8_i32 : BitVec 32 := 8#32
  let v29 : BitVec 32 := Scalar.addi c8_i32 arg0
  let c0_i32_7 : BitVec 32 := 0#32
  ![v28.toNat, v29.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c1_i32_0 : BitVec 32 := 1#32
  let v9 : BitVec 32 := Scalar.addi v8 c1_i32_0
  let v10 : BitVec 32 := Scalar.muli v8 v9
  let c2_i32 : BitVec 32 := 2#32
  let v11 : BitVec 32 := Scalar.divsi v10 c2_i32
  let c0_i32_1 : BitVec 32 := 0#32
  let v12 : BitVec 1 := Scalar.cmpi .sgt v10 c0_i32_1
  let v13 : BitVec 32 := Scalar.extui v12
  let c0_i32_2 : BitVec 32 := 0#32
  let v14 : BitVec 1 := Scalar.cmpi .slt v10 c0_i32_2
  let v15 : BitVec 32 := Scalar.extui v14
  let v16 : BitVec 32 := Scalar.subi v13 v15
  let c0_i32_3 : BitVec 32 := 0#32
  let v17 : BitVec 1 := Scalar.cmpi .sgt c2_i32 c0_i32_3
  let v18 : BitVec 32 := Scalar.extui v17
  let c0_i32_4 : BitVec 32 := 0#32
  let v19 : BitVec 1 := Scalar.cmpi .slt c2_i32 c0_i32_4
  let v20 : BitVec 32 := Scalar.extui v19
  let v21 : BitVec 32 := Scalar.subi v18 v20
  let v22 : BitVec 1 := Scalar.cmpi .ne v16 v21
  let v23 : BitVec 32 := Scalar.remsi v10 c2_i32
  let c0_i32_5 : BitVec 32 := 0#32
  let v24 : BitVec 1 := Scalar.cmpi .ne v23 c0_i32_5
  let v25 : BitVec 1 := Scalar.andi v22 v24
  let c1_i32_6 : BitVec 32 := 1#32
  let v26 : BitVec 32 := Scalar.subi v11 c1_i32_6
  let v27 : BitVec 32 := Scalar.select v25 v26 v11
  let v28 : BitVec 32 := Scalar.subi arg1 v27
  let c0_i32_7 : BitVec 32 := 0#32
  let v29 : BitVec 32 := Scalar.addi c0_i32_7 arg0
  let c0_i32_8 : BitVec 32 := 0#32
  ![v28.toNat, v29.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c1_i32_0 : BitVec 32 := 1#32
  let v9 : BitVec 32 := Scalar.addi v8 c1_i32_0
  let v10 : BitVec 32 := Scalar.muli v8 v9
  let c2_i32 : BitVec 32 := 2#32
  let v11 : BitVec 32 := Scalar.divsi v10 c2_i32
  let c0_i32_1 : BitVec 32 := 0#32
  let v12 : BitVec 1 := Scalar.cmpi .sgt v10 c0_i32_1
  let v13 : BitVec 32 := Scalar.extui v12
  let c0_i32_2 : BitVec 32 := 0#32
  let v14 : BitVec 1 := Scalar.cmpi .slt v10 c0_i32_2
  let v15 : BitVec 32 := Scalar.extui v14
  let v16 : BitVec 32 := Scalar.subi v13 v15
  let c0_i32_3 : BitVec 32 := 0#32
  let v17 : BitVec 1 := Scalar.cmpi .sgt c2_i32 c0_i32_3
  let v18 : BitVec 32 := Scalar.extui v17
  let c0_i32_4 : BitVec 32 := 0#32
  let v19 : BitVec 1 := Scalar.cmpi .slt c2_i32 c0_i32_4
  let v20 : BitVec 32 := Scalar.extui v19
  let v21 : BitVec 32 := Scalar.subi v18 v20
  let v22 : BitVec 1 := Scalar.cmpi .ne v16 v21
  let v23 : BitVec 32 := Scalar.remsi v10 c2_i32
  let c0_i32_5 : BitVec 32 := 0#32
  let v24 : BitVec 1 := Scalar.cmpi .ne v23 c0_i32_5
  let v25 : BitVec 1 := Scalar.andi v22 v24
  let c1_i32_6 : BitVec 32 := 1#32
  let v26 : BitVec 32 := Scalar.subi v11 c1_i32_6
  let v27 : BitVec 32 := Scalar.select v25 v26 v11
  let v28 : BitVec 32 := Scalar.subi arg1 v27
  let c16_i32 : BitVec 32 := 16#32
  let v29 : BitVec 32 := Scalar.addi c16_i32 arg0
  let c0_i32_7 : BitVec 32 := 0#32
  ![v28.toNat, v29.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c1_i32_0 : BitVec 32 := 1#32
  let v9 : BitVec 32 := Scalar.addi v8 c1_i32_0
  let v10 : BitVec 32 := Scalar.muli v8 v9
  let c2_i32 : BitVec 32 := 2#32
  let v11 : BitVec 32 := Scalar.divsi v10 c2_i32
  let c0_i32_1 : BitVec 32 := 0#32
  let v12 : BitVec 1 := Scalar.cmpi .sgt v10 c0_i32_1
  let v13 : BitVec 32 := Scalar.extui v12
  let c0_i32_2 : BitVec 32 := 0#32
  let v14 : BitVec 1 := Scalar.cmpi .slt v10 c0_i32_2
  let v15 : BitVec 32 := Scalar.extui v14
  let v16 : BitVec 32 := Scalar.subi v13 v15
  let c0_i32_3 : BitVec 32 := 0#32
  let v17 : BitVec 1 := Scalar.cmpi .sgt c2_i32 c0_i32_3
  let v18 : BitVec 32 := Scalar.extui v17
  let c0_i32_4 : BitVec 32 := 0#32
  let v19 : BitVec 1 := Scalar.cmpi .slt c2_i32 c0_i32_4
  let v20 : BitVec 32 := Scalar.extui v19
  let v21 : BitVec 32 := Scalar.subi v18 v20
  let v22 : BitVec 1 := Scalar.cmpi .ne v16 v21
  let v23 : BitVec 32 := Scalar.remsi v10 c2_i32
  let c0_i32_5 : BitVec 32 := 0#32
  let v24 : BitVec 1 := Scalar.cmpi .ne v23 c0_i32_5
  let v25 : BitVec 1 := Scalar.andi v22 v24
  let c1_i32_6 : BitVec 32 := 1#32
  let v26 : BitVec 32 := Scalar.subi v11 c1_i32_6
  let v27 : BitVec 32 := Scalar.select v25 v26 v11
  let v28 : BitVec 32 := Scalar.subi arg1 v27
  let c0_i32_7 : BitVec 32 := 0#32
  let v29 : BitVec 32 := Scalar.addi c0_i32_7 arg0
  let c0_i32_8 : BitVec 32 := 0#32
  ![v8.toNat, v29.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c1_i32_0 : BitVec 32 := 1#32
  let v9 : BitVec 32 := Scalar.addi v8 c1_i32_0
  let v10 : BitVec 32 := Scalar.muli v8 v9
  let c2_i32 : BitVec 32 := 2#32
  let v11 : BitVec 32 := Scalar.divsi v10 c2_i32
  let c0_i32_1 : BitVec 32 := 0#32
  let v12 : BitVec 1 := Scalar.cmpi .sgt v10 c0_i32_1
  let v13 : BitVec 32 := Scalar.extui v12
  let c0_i32_2 : BitVec 32 := 0#32
  let v14 : BitVec 1 := Scalar.cmpi .slt v10 c0_i32_2
  let v15 : BitVec 32 := Scalar.extui v14
  let v16 : BitVec 32 := Scalar.subi v13 v15
  let c0_i32_3 : BitVec 32 := 0#32
  let v17 : BitVec 1 := Scalar.cmpi .sgt c2_i32 c0_i32_3
  let v18 : BitVec 32 := Scalar.extui v17
  let c0_i32_4 : BitVec 32 := 0#32
  let v19 : BitVec 1 := Scalar.cmpi .slt c2_i32 c0_i32_4
  let v20 : BitVec 32 := Scalar.extui v19
  let v21 : BitVec 32 := Scalar.subi v18 v20
  let v22 : BitVec 1 := Scalar.cmpi .ne v16 v21
  let v23 : BitVec 32 := Scalar.remsi v10 c2_i32
  let c0_i32_5 : BitVec 32 := 0#32
  let v24 : BitVec 1 := Scalar.cmpi .ne v23 c0_i32_5
  let v25 : BitVec 1 := Scalar.andi v22 v24
  let c1_i32_6 : BitVec 32 := 1#32
  let v26 : BitVec 32 := Scalar.subi v11 c1_i32_6
  let v27 : BitVec 32 := Scalar.select v25 v26 v11
  let v28 : BitVec 32 := Scalar.subi arg1 v27
  let c0_i32_7 : BitVec 32 := 0#32
  let v29 : BitVec 32 := Scalar.addi c0_i32_7 arg0
  let c0_i32_8 : BitVec 32 := 0#32
  ![v8.toNat, v29.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FoxFwdIdeal.lean ====
variable {F : FTy → Type} [FloatOps F] [Named F]
def κ : String → Option EReal := fun
  | "mask" => some ⊥
  | "scale2" => some (((1048576 / 11863283) * (Real.log 2)⁻¹ : ℝ) : EReal)
  | _ => none
-- ==== RefFoxFwdIdeal.lean ====
abbrev S4096x3072 : Shape := ⟨2, ![4096, 3072]⟩
abbrev S8x4096 : Shape := ⟨2, ![8, 4096]⟩
abbrev S4096x1024 : Shape := ⟨2, ![4096, 1024]⟩
abbrev S4096x8x128 : Shape := ⟨3, ![4096, 8, 128]⟩
abbrev S8x4096x4096 : Shape := ⟨3, ![8, 4096, 4096]⟩
abbrev S_ : Shape := ⟨0, ![]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x128x4096 : Shape := ⟨3, ![8, 128, 4096]⟩
abbrev S4096x8x1 : Shape := ⟨3, ![4096, 8, 1]⟩

abbrev nBuf : Space → Nat
  | .hbm => 52
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S8x4096, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x8x128, .f32⟩
  | .hbm, ⟨6, _⟩ => ⟨S4096x8x128, .f32⟩
  | .hbm, ⟨7, _⟩ => ⟨S4096x8x128, .f32⟩
  | .hbm, ⟨8, _⟩ => ⟨S8x4096x4096, .f32⟩
  | .hbm, ⟨9, _⟩ => ⟨S_, .f32⟩
  | .hbm, ⟨10, _⟩ => ⟨S8x4096x4096, .f32⟩
  | .hbm, ⟨11, _⟩ => ⟨S8x4096x4096, .f32⟩
  | .hbm, ⟨12, _⟩ => ⟨S8x4096x1, .f32⟩
  | .hbm, ⟨13, _⟩ => ⟨S8x1x4096, .f32⟩
  | .hbm, ⟨14, _⟩ => ⟨S8x4096x4096, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S4096, .i32⟩
  | .hbm, ⟨19, _⟩ => ⟨S1x4096, .i32⟩
  | .hbm, ⟨20, _⟩ => ⟨S4096x1, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S8x4096x4096, .i1⟩
  | .hbm, ⟨25, _⟩ => ⟨S_, .f32⟩
  | .hbm, ⟨26, _⟩ => ⟨S8x4096x4096, .f32⟩
  | .hbm, ⟨27, _⟩ => ⟨S8x4096x4096, .f32⟩
  | .hbm, ⟨28, _⟩ => ⟨S_, .f32⟩
  | .hbm, ⟨29, _⟩ => ⟨S8x4096, .f32⟩
  | .hbm, ⟨30, _⟩ => ⟨S8x4096x1, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S_, .f32⟩
  | .hbm, ⟨35, _⟩ => ⟨S8x4096, .f32⟩
  | .hbm, ⟨36, _⟩ => ⟨S8x4096x1, .f32⟩
  | .hbm, ⟨37, _⟩ => ⟨S8x4096x4096, .f32⟩
  | .hbm, ⟨38, _⟩ => ⟨S8x4096x4096, .f32⟩
  | .hbm, ⟨39, _⟩ => ⟨S8x128x4096, .f32⟩
  | .hbm, ⟨40, _⟩ => ⟨S4096x8x128, .f32⟩
  | .hbm, ⟨41, _⟩ => ⟨S4096x1024, .f32⟩
  | .hbm, ⟨42, _⟩ => ⟨S8x4096x1, .f32⟩
  | .hbm, ⟨43, _⟩ => ⟨S8x4096x1, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S8x4096x1, .f32⟩
  | .hbm, ⟨48, _⟩ => ⟨S8x4096x1, .f32⟩
  | .hbm, ⟨49, _⟩ => ⟨S4096x8x1, .f32⟩
  | .hbm, ⟨50, _⟩ => ⟨S4096x8x128, .f32⟩
  | .hbm, ⟨51, _⟩ => ⟨S4096x1024, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst_0 : Ref sig .tc := ⟨.hbm, 25, rfl⟩
abbrev main_v22 : Ref sig .tc := ⟨.hbm, 26, rfl⟩
abbrev main_v23 : Ref sig .tc := ⟨.hbm, 27, rfl⟩
abbrev main_cst_1 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_2 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_3 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩

abbrev nD : Nat := 1
abbrev τ : Topo := Topo.v7x

variable {F : FTy → Type} [FloatOps F]
-- ==== Proof.KernelIdealStep.lean ====
module

public import proofs.«01_k».proof.Proof.Gen.KernelIdeal.Skeleton
public import Idealize.ShloMosaic.Lib.Pipeline.FrameBody
public import Idealize.ShloMosaic.Lib.Tactic
public import Idealize.ShloMosaic.Lib.WordCmp
public import Idealize.ShloMosaic.Lib.Pipeline.ValueKit
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! What one grid point computes from its blocks and from what the scratch holds. -/

/-- The first column of the row statistics' block. -/
abbrev lseCol (x5 : Vec F S1024x128 .f32) : Vec F S1024x1 .f32 :=
  View.ld x5 (Rect.unit (s := S1024x128) ![0, 0] S1024x1.size inb_S1024x128_S1024x1_0_0)

section
variable (x0 x1 x2 x3 x4 : Vec F S1024x128 .bf16) (x5 x6 x7 : Vec F S1024x128 .f32)

/-- Probabilities, their gradients, and these times the scale: below the diagonal block. -/
def offP : FVec F S1024x1024 .f32 := k0_pay11 x0 x2 x1 x3 (lseCol x5)
def offDS : FVec F S1024x1024 .f32 := k0_pay12 x7 x6 x0 x2 x1 x3 (lseCol x5) x4
def offDSs : FVec F S1024x1024 .f32 := k0_pay13 x7 x6 x0 x2 x1 x3 (lseCol x5) x4
/-- The same on the diagonal block. -/
def diaP : FVec F S1024x1024 .f32 := k0_pay23 x0 x2 x1 x3 (lseCol x5)
def diaDS : FVec F S1024x1024 .f32 := k0_pay24 x7 x6 x0 x2 x1 x3 (lseCol x5) x4
def diaDSs : FVec F S1024x1024 .f32 := k0_pay25 x7 x6 x0 x2 x1 x3 (lseCol x5) x4

/-- The accumulators of the key side after a point, over what they held. -/
def offDK (s : Vec F S1024x128 .f32) : Vec F S1024x128 .f32 := k0_pay17 (offDSs x0 x1 x2 x3 x4 x5 x6 x7) s x0
def offDV (s : Vec F S1024x128 .f32) : Vec F S1024x128 .f32 := k0_pay16 (k0_pay10 x7) (offP x0 x1 x2 x3 x5) s
def offDC (s : Vec F S1x1024 .f32) : Vec F S1x1024 .f32 :=
  k0_pay15 s (k0_pay14 x7 x6 x0 x2 x1 x3 (lseCol x5) x4)
def diaDK (s : Vec F S1024x128 .f32) : Vec F S1024x128 .f32 := k0_pay28 (diaDSs x0 x1 x2 x3 x4 x5 x6 x7) s x0
def diaDV (s : Vec F S1024x128 .f32) : Vec F S1024x128 .f32 := k0_pay27 (k0_pay22 x7) (diaP x0 x1 x2 x3 x5) s
def diaDC (s : Vec F S1x1024 .f32) : Vec F S1x1024 .f32 := k0_pay26 (diaDS x0 x1 x2 x3 x4 x5 x6 x7) s

/-- The rows of the query side: stored at the first block of keys, added to at the others. -/
def offQ0 : Vec F S1024x128 .f32 := k0_pay20 (offDSs x0 x1 x2 x3 x4 x5 x6 x7) x2
def offR0 : Vec F S1024x1 .f32 := k0_pay21 (offDS x0 x1 x2 x3 x4 x5 x6 x7)
def offQ1 (s : Vec F S1024x128 .f32) : Vec F S1024x128 .f32 := k0_pay34 (k0_pay18 (offDSs x0 x1 x2 x3 x4 x5 x6 x7) x2) s
def offR1 (s : Vec F S1024x1 .f32) : Vec F S1024x1 .f32 := k0_pay35 (k0_pay19 (offDS x0 x1 x2 x3 x4 x5 x6 x7)) s
def diaQ0 : Vec F S1024x128 .f32 := k0_pay1 (k0_pay29 (diaDSs x0 x1 x2 x3 x4 x5 x6 x7) x2)
def diaR0 : Vec F S1024x1 .f32 := k0_pay2 (k0_pay30 (diaDS x0 x1 x2 x3 x4 x5 x6 x7))
def diaQ1 (s : Vec F S1024x128 .f32) : Vec F S1024x128 .f32 := k0_pay3 (k0_pay29 (diaDSs x0 x1 x2 x3 x4 x5 x6 x7) x2) s
def diaR1 (s : Vec F S1024x1 .f32) : Vec F S1024x1 .f32 := k0_pay4 (k0_pay30 (diaDS x0 x1 x2 x3 x4 x5 x6 x7)) s
end

section
variable {sg : RefSig} {κ : Kind} {sp : Space} {s : Shape} {e : EltTy}

/-- What one store leaves in a buffer held at named contents. -/
theorem read_one {m : Memref sg κ sp s e} (h : m.IsWhole) (x : s.Idx → Elt F e) (r : Rect s) (w : r.shape.Idx → Elt F e) :
    m.view.read (Elt F) (m.view.writes (Elt F) (h.unread x) [⟨r, w⟩]) = r.overlay x w := by
  funext y
  by_cases hy : y ∈ r.set
  · obtain ⟨z, rfl⟩ : ∃ z, r.emb z = y := r.exists_idx_of_mem hy
    rw [View.read_writes_cons_emb, Rect.overlay_emb]
  · have hy' : y ∉ Finset.univ.map r.emb := by rwa [Rect.map_emb_univ]
    rw [View.writes_cons, View.read_slice_write_of_not_mem r _ _ _ hy', Rect.overlay_of_not_mem _ _ _ hy,
      View.writes_nil, h.read_unread]

/-- A store of the whole buffer leaves its payload, whatever came before. -/
theorem read_full {m : Memref sg κ sp s e} (f : m.view.ty.Contents (Elt F)) {off : Fin s.rank → ℕ} (h0 : off = fun _ => 0)
    (inb : ∀ a, off a + s.size a ≤ s.size a)
    (w : s.Idx → Elt F e) (L : List (View.Piece (Elt F) s e)) :
    m.view.read (Elt F) (m.view.writes (Elt F) f (⟨Rect.unit (s := s) off s.size inb, w⟩ :: L)) = w := by
  subst h0
  funext y
  have := View.read_writes_cons_emb m.view f (Rect.unit (s := s) (fun _ => 0) s.size inb) w L y
  rwa [show (Rect.unit (s := s) (fun _ => 0) s.size inb).emb y = y from by
    funext a; apply Fin.ext; simp] at this

/-- A load of the whole buffer right after such a store reads the payload. -/
theorem readCov_full [∀ e, Nonempty (Elt F e)] (v : View sg κ sp s e) (off : Fin s.rank → ℕ) (h0 : off = fun _ => 0)
    (inb : ∀ a, off a + s.size a ≤ s.size a) (w : s.Idx → Elt F e) (L : List (View.Piece (Elt F) s e)) :
    v.readCov (⟨Rect.unit (s := s) off s.size inb, w⟩ :: L) (Rect.unit (s := s) off s.size inb).toLoadRect = w := by
  subst h0
  funext y
  have := View.read_writes_cons_emb v v.junk (Rect.unit (s := s) (fun _ => 0) s.size inb) w L y
  exact this

theorem zero2 : (![0, 0] : Fin 2 → ℕ) = fun _ => 0 := by decide
theorem ldA {e : EltTy} (X : S1024x128.Idx → Elt F e) (inb) :
    View.ld X (Rect.unit (s := S1024x128) ![0, 0] (no_index S1024x128.size) inb) = X := View.ld_unit_zero zero2 inb X
theorem ldB {e : EltTy} (X : S1x1024.Idx → Elt F e) (inb) :
    View.ld X (Rect.unit (s := S1x1024) ![0, 0] (no_index S1x1024.size) inb) = X := View.ld_unit_zero zero2 inb X
theorem ldC {e : EltTy} (X : S4096x128.Idx → Elt F e) (inb) :
    View.ld X (Rect.unit (s := S4096x128) ![0, 0] (no_index S4096x128.size) inb) = X := View.ld_unit_zero zero2 inb X
theorem ldD {e : EltTy} (X : S4096x1.Idx → Elt F e) (inb) :
    View.ld X (Rect.unit (s := S4096x1) ![0, 0] (no_index S4096x1.size) inb) = X := View.ld_unit_zero zero2 inb X
theorem rcA [∀ e, Nonempty (Elt F e)] {e : EltTy} (v : View sg κ sp S1024x128 e) (inb inb') (w : S1024x128.Idx → Elt F e) (L : List (View.Piece (Elt F) S1024x128 e)) :
    v.readCov (⟨Rect.unit (s := S1024x128) ![0, 0] (no_index S1024x128.size) inb, w⟩ :: L)
      (Rect.unit (s := S1024x128) ![0, 0] (no_index S1024x128.size) inb').toLoadRect = w := readCov_full v _ zero2 inb w L
theorem rcB [∀ e, Nonempty (Elt F e)] {e : EltTy} (v : View sg κ sp S1x1024 e) (inb inb') (w : S1x1024.Idx → Elt F e) (L : List (View.Piece (Elt F) S1x1024 e)) :
    v.readCov (⟨Rect.unit (s := S1x1024) ![0, 0] (no_index S1x1024.size) inb, w⟩ :: L)
      (Rect.unit (s := S1x1024) ![0, 0] (no_index S1x1024.size) inb').toLoadRect = w := readCov_full v _ zero2 inb w L
theorem zero3 : (![0, 0, 0] : Fin 3 → ℕ) = fun _ => 0 := by decide
end

end Cert.KernelIdeal.Hand

end
-- ==== Proof.KernelIdealState.lean ====
module

public import proofs.«01_k».proof.Proof.Gen.KernelIdeal.Frame
public import proofs.«01_k».proof.Proof.KernelIdealStep
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! The blocks of a position, and what the scratch holds after it. -/

/-- The grid point at a position. -/
def pt (n : ℕ) : Fin cfg0.N := ⟨n % 80, by rw [show cfg0.N = 80 from N_0]; exact Nat.mod_lt _ (by decide)⟩
theorem pt_val (t : Fin cfg0.N) : pt t.val = t := by
  apply Fin.ext
  have h : t.val < 80 := lt_of_lt_of_eq t.isLt (show cfg0.N = 80 from N_0)
  simp only [pt]; omega

variable (c : Dev nD)
def B0 (n : ℕ) : Vec F S1024x128 .bf16 := iblk m c 0 (pt n)
theorem B0_at (t : Fin cfg0.N) : iblk m c 0 t = B0 m c t.val := by
  have h : ∀ s, s = t → (iblk m c 0 t : Vec F S1024x128 .bf16) = iblk m c 0 s := by rintro _ rfl; rfl
  exact h _ (pt_val t)
def B1 (n : ℕ) : Vec F S1024x128 .bf16 := iblk m c 1 (pt n)
theorem B1_at (t : Fin cfg0.N) : iblk m c 1 t = B1 m c t.val := by
  have h : ∀ s, s = t → (iblk m c 1 t : Vec F S1024x128 .bf16) = iblk m c 1 s := by rintro _ rfl; rfl
  exact h _ (pt_val t)
def B2 (n : ℕ) : Vec F S1024x128 .bf16 := iblk m c 2 (pt n)
theorem B2_at (t : Fin cfg0.N) : iblk m c 2 t = B2 m c t.val := by
  have h : ∀ s, s = t → (iblk m c 2 t : Vec F S1024x128 .bf16) = iblk m c 2 s := by rintro _ rfl; rfl
  exact h _ (pt_val t)
def B3 (n : ℕ) : Vec F S1024x128 .bf16 := iblk m c 3 (pt n)
theorem B3_at (t : Fin cfg0.N) : iblk m c 3 t = B3 m c t.val := by
  have h : ∀ s, s = t → (iblk m c 3 t : Vec F S1024x128 .bf16) = iblk m c 3 s := by rintro _ rfl; rfl
  exact h _ (pt_val t)
def B4 (n : ℕ) : Vec F S1024x128 .bf16 := iblk m c 4 (pt n)
theorem B4_at (t : Fin cfg0.N) : iblk m c 4 t = B4 m c t.val := by
  have h : ∀ s, s = t → (iblk m c 4 t : Vec F S1024x128 .bf16) = iblk m c 4 s := by rintro _ rfl; rfl
  exact h _ (pt_val t)
def B5 (n : ℕ) : Vec F S1024x128 .f32 := iblk m c 5 (pt n)
theorem B5_at (t : Fin cfg0.N) : iblk m c 5 t = B5 m c t.val := by
  have h : ∀ s, s = t → (iblk m c 5 t : Vec F S1024x128 .f32) = iblk m c 5 s := by rintro _ rfl; rfl
  exact h _ (pt_val t)
def B6 (n : ℕ) : Vec F S1024x128 .f32 := iblk m c 6 (pt n)
theorem B6_at (t : Fin cfg0.N) : iblk m c 6 t = B6 m c t.val := by
  have h : ∀ s, s = t → (iblk m c 6 t : Vec F S1024x128 .f32) = iblk m c 6 s := by rintro _ rfl; rfl
  exact h _ (pt_val t)
def B7 (n : ℕ) : Vec F S1024x128 .f32 := iblk m c 7 (pt n)
theorem B7_at (t : Fin cfg0.N) : iblk m c 7 t = B7 m c t.val := by
  have h : ∀ s, s = t → (iblk m c 7 t : Vec F S1024x128 .f32) = iblk m c 7 s := by rintro _ rfl; rfl
  exact h _ (pt_val t)

/-- The block of queries and the block of keys of a position, and whether they meet. -/
def qi (n : ℕ) : ℕ := if n % 10 < 4 then n % 10 else if n % 10 < 7 then n % 10 - 3 else if n % 10 < 9 then n % 10 - 5 else 3
def dia (n : ℕ) : Prop := n % 10 = 0 ∨ n % 10 = 4 ∨ n % 10 = 7 ∨ n % 10 = 9
instance (n : ℕ) : Decidable (dia n) := by unfold dia; infer_instance

def stepK (n : ℕ) (s : Vec F S1024x128 .f32) : Vec F S1024x128 .f32 :=
  if dia n then diaDK (B0 m c n) (B1 m c n) (B2 m c n) (B3 m c n) (B4 m c n) (B5 m c n) (B6 m c n) (B7 m c n) k0_pay31 else offDK (B0 m c n) (B1 m c n) (B2 m c n) (B3 m c n) (B4 m c n) (B5 m c n) (B6 m c n) (B7 m c n) s
def stepV (n : ℕ) (s : Vec F S1024x128 .f32) : Vec F S1024x128 .f32 :=
  if dia n then diaDV (B0 m c n) (B1 m c n) (B2 m c n) (B3 m c n) (B5 m c n) (B7 m c n) k0_pay32 else offDV (B0 m c n) (B1 m c n) (B2 m c n) (B3 m c n) (B5 m c n) (B7 m c n) s
def stepC (n : ℕ) (s : Vec F S1x1024 .f32) : Vec F S1x1024 .f32 :=
  if dia n then diaDC (B0 m c n) (B1 m c n) (B2 m c n) (B3 m c n) (B4 m c n) (B5 m c n) (B6 m c n) (B7 m c n) k0_pay33 else offDC (B0 m c n) (B1 m c n) (B2 m c n) (B3 m c n) (B4 m c n) (B5 m c n) (B6 m c n) (B7 m c n) s
def stepQ (n : ℕ) (s : Vec F S1024x128 .f32) : Vec F S1024x128 .f32 :=
  if dia n then (if n % 10 < 4 then diaQ0 (B0 m c n) (B1 m c n) (B2 m c n) (B3 m c n) (B4 m c n) (B5 m c n) (B6 m c n) (B7 m c n) else diaQ1 (B0 m c n) (B1 m c n) (B2 m c n) (B3 m c n) (B4 m c n) (B5 m c n) (B6 m c n) (B7 m c n) s)
  else (if n % 10 < 4 then offQ0 (B0 m c n) (B1 m c n) (B2 m c n) (B3 m c n) (B4 m c n) (B5 m c n) (B6 m c n) (B7 m c n) else offQ1 (B0 m c n) (B1 m c n) (B2 m c n) (B3 m c n) (B4 m c n) (B5 m c n) (B6 m c n) (B7 m c n) s)
def stepR (n : ℕ) (s : Vec F S1024x1 .f32) : Vec F S1024x1 .f32 :=
  if dia n then (if n % 10 < 4 then diaR0 (B0 m c n) (B1 m c n) (B2 m c n) (B3 m c n) (B4 m c n) (B5 m c n) (B6 m c n) (B7 m c n) else diaR1 (B0 m c n) (B1 m c n) (B2 m c n) (B3 m c n) (B4 m c n) (B5 m c n) (B6 m c n) (B7 m c n) s)
  else (if n % 10 < 4 then offR0 (B0 m c n) (B1 m c n) (B2 m c n) (B3 m c n) (B4 m c n) (B5 m c n) (B6 m c n) (B7 m c n) else offR1 (B0 m c n) (B1 m c n) (B2 m c n) (B3 m c n) (B4 m c n) (B5 m c n) (B6 m c n) (B7 m c n) s)

/-- The key side's accumulators after a position. -/
def DK : ℕ → Vec F S1024x128 .f32
  | 0 => stepK m c 0 k0_pay31
  | n + 1 => stepK m c (n + 1) (DK n)
def DV : ℕ → Vec F S1024x128 .f32
  | 0 => stepV m c 0 k0_pay32
  | n + 1 => stepV m c (n + 1) (DV n)
def DC : ℕ → Vec F S1x1024 .f32
  | 0 => stepC m c 0 k0_pay33
  | n + 1 => stepC m c (n + 1) (DC n)

/-- The query side's rows after a position, block by block. -/
def DQ : ℕ → ℕ → Vec F S1024x128 .f32
  | 0, _ => diaQ0 (B0 m c 0) (B1 m c 0) (B2 m c 0) (B3 m c 0) (B4 m c 0) (B5 m c 0) (B6 m c 0) (B7 m c 0)
  | n + 1, b => if qi (n + 1) = b then stepQ m c (n + 1) (DQ n b) else DQ n b
def DR : ℕ → ℕ → Vec F S1024x1 .f32
  | 0, _ => diaR0 (B0 m c 0) (B1 m c 0) (B2 m c 0) (B3 m c 0) (B4 m c 0) (B5 m c 0) (B6 m c 0) (B7 m c 0)
  | n + 1, b => if qi (n + 1) = b then stepR m c (n + 1) (DR n b) else DR n b

/-- The last block of rows the head's positions have stored. -/
def vis (n : ℕ) : ℕ := if n % 10 < 4 then n % 10 else 3

theorem rq_inb (b : ℕ) (hb : b < 4) : ∀ a, (![1024 * b, 0] : Fin 2 → ℕ) a + S1024x128.size a ≤ S4096x128.size a := by
  intro a; fin_cases a
  · show 1024 * b + 1024 ≤ 4096; omega
  · show 0 + 128 ≤ 128; omega
theorem rr_inb (b : ℕ) (hb : b < 4) : ∀ a, (![1024 * b, 0] : Fin 2 → ℕ) a + S1024x1.size a ≤ S4096x1.size a := by
  intro a; fin_cases a
  · show 1024 * b + 1024 ≤ 4096; omega
  · show 0 + 1 ≤ 1; omega
abbrev rq (b : ℕ) (hb : b < 4) : Rect S4096x128 := Rect.unit (s := S4096x128) ![1024 * b, 0] S1024x128.size (rq_inb b hb)
abbrev rr (b : ℕ) (hb : b < 4) : Rect S4096x1 := Rect.unit (s := S4096x1) ![1024 * b, 0] S1024x1.size (rr_inb b hb)

theorem ld_sameQ (b : ℕ) (hb : b < 4) (s : Vec F S4096x128 .f32) (w : Vec F S1024x128 .f32) :
    View.ld ((rq b hb).overlay s w) (rq b hb) = w := by
  funext y; exact Rect.overlay_emb (rq b hb) s w y
theorem ld_otherQ (b b' : ℕ) (hb : b < 4) (hb' : b' < 4) (hne : b ≠ b') (s : Vec F S4096x128 .f32) (w : Vec F S1024x128 .f32) :
    View.ld ((rq b hb).overlay s w) (rq b' hb') = View.ld s (rq b' hb') := by
  funext y
  refine Rect.overlay_of_not_mem _ _ _ ?_
  intro hy
  have h0 := (Rect.mem_set_unit.mp hy) (0 : Fin 2)
  have hv : (((rq b' hb').idx y) (0 : Fin 2)).val = 1024 * b' + (y (0 : Fin 2)).val := by
    rw [Rect.idx_unit_val]; rfl
  have hy0 : (y (0 : Fin 2)).val < 1024 := (y (0 : Fin 2)).isLt
  have e1 : (![1024 * b, 0] : Fin 2 → ℕ) 0 = 1024 * b := rfl
  have e2 : S1024x128.size (0 : Fin 2) = 1024 := rfl
  rw [hv, e1, e2] at h0
  omega

/-- The rows stored so far are the named ones. -/
def GoodQ (n : ℕ) (s : Vec F S4096x128 .f32) : Prop :=
  ∀ (b : ℕ) (hb : b < 4), b ≤ vis n → View.ld s (rq b hb) = DQ m c n b
def PrevQ (n : ℕ) (s : Vec F S4096x128 .f32) : Prop :=
  match n with
  | 0 => True
  | k + 1 => GoodQ m c k s
theorem goodQ_step (n : ℕ) (s : Vec F S4096x128 .f32) (off : Fin 2 → ℕ) (hoff : off = ![1024 * qi n, 0]) (inb)
    (w : Vec F S1024x128 .f32) (hw : w = stepQ m c n (View.ld s (Rect.unit (s := S4096x128) off S1024x128.size inb)))
    (hp : PrevQ m c n s) :
    GoodQ m c n ((Rect.unit (s := S4096x128) off S1024x128.size inb).overlay s w) := by
  subst hoff
  have hq : qi n < 4 := by unfold qi; split_ifs <;> omega
  intro b hb hv
  change View.ld ((rq (qi n) hq).overlay s w) (rq b hb) = DQ m c n b
  change w = stepQ m c n (View.ld s (rq (qi n) hq)) at hw
  cases n with
  | zero =>
    have h0 : b = 0 := by simpa [vis] using hv
    subst h0
    refine (ld_sameQ 0 hb s w).trans ?_
    rw [hw]; simp [stepQ, dia, DQ]
  | succ k =>
    change GoodQ m c k s at hp
    by_cases hqb : qi (k + 1) = b
    · subst hqb
      refine (ld_sameQ _ hb s w).trans ?_
      rw [hw]; simp only [DQ, if_true]
      by_cases h4 : (k + 1) % 10 < 4
      · simp [stepQ, h4]
      · have hv' : qi (k + 1) ≤ vis k := by unfold vis qi; split_ifs <;> omega
        rw [hp _ hq hv']
    · refine (ld_otherQ _ b hq hb hqb s w).trans ?_
      have hv' : b ≤ vis k := by
        unfold vis at hv ⊢; unfold qi at hqb; split_ifs at hv hqb ⊢ <;> omega
      rw [hp b hb hv', DQ, if_neg hqb]

/-- The whole buffer off its blocks of rows. -/
def glueQ (B : ℕ → Vec F S1024x128 .f32) : Vec F S4096x128 .f32 := fun y =>
  B ((y (0 : Fin 2)).val / 1024) (fun a => match a with
    | ⟨0, _⟩ => (⟨(y (0 : Fin 2)).val % 1024, Nat.mod_lt _ (by decide)⟩ : Fin 1024)
    | ⟨1, _⟩ => (y (1 : Fin 2) : Fin 128))
theorem glueQ_of (n : ℕ) (h9 : vis n = 3) (s : Vec F S4096x128 .f32) (h : GoodQ m c n s) : s = glueQ (DQ m c n) := by
  funext y
  have hy0 : (y (0 : Fin 2)).val < 4096 := (y (0 : Fin 2)).isLt
  have hb : (y (0 : Fin 2)).val / 1024 < 4 := by omega
  have := h ((y (0 : Fin 2)).val / 1024) hb (by omega)
  unfold glueQ
  rw [← this]
  show s y = s _
  congr 1
  funext a; apply Fin.ext; rw [Rect.idx_unit_val]
  fin_cases a
  · show (y (0 : Fin 2)).val = 1024 * ((y (0 : Fin 2)).val / 1024) + (y (0 : Fin 2)).val % 1024
    omega
  · show (y (1 : Fin 2)).val = 0 + (y (1 : Fin 2)).val
    omega

theorem ld_sameR (b : ℕ) (hb : b < 4) (s : Vec F S4096x1 .f32) (w : Vec F S1024x1 .f32) :
    View.ld ((rr b hb).overlay s w) (rr b hb) = w := by
  funext y; exact Rect.overlay_emb (rr b hb) s w y
theorem ld_otherR (b b' : ℕ) (hb : b < 4) (hb' : b' < 4) (hne : b ≠ b') (s : Vec F S4096x1 .f32) (w : Vec F S1024x1 .f32) :
    View.ld ((rr b hb).overlay s w) (rr b' hb') = View.ld s (rr b' hb') := by
  funext y
  refine Rect.overlay_of_not_mem _ _ _ ?_
  intro hy
  have h0 := (Rect.mem_set_unit.mp hy) (0 : Fin 2)
  have hv : (((rr b' hb').idx y) (0 : Fin 2)).val = 1024 * b' + (y (0 : Fin 2)).val := by
    rw [Rect.idx_unit_val]; rfl
  have hy0 : (y (0 : Fin 2)).val < 1024 := (y (0 : Fin 2)).isLt
  have e1 : (![1024 * b, 0] : Fin 2 → ℕ) 0 = 1024 * b := rfl
  have e2 : S1024x1.size (0 : Fin 2) = 1024 := rfl
  rw [hv, e1, e2] at h0
  omega

/-- The rows stored so far are the named ones. -/
def GoodR (n : ℕ) (s : Vec F S4096x1 .f32) : Prop :=
  ∀ (b : ℕ) (hb : b < 4), b ≤ vis n → View.ld s (rr b hb) = DR m c n b
def PrevR (n : ℕ) (s : Vec F S4096x1 .f32) : Prop :=
  match n with
  | 0 => True
  | k + 1 => GoodR m c k s
theorem goodR_step (n : ℕ) (s : Vec F S4096x1 .f32) (off : Fin 2 → ℕ) (hoff : off = ![1024 * qi n, 0]) (inb)
    (w : Vec F S1024x1 .f32) (hw : w = stepR m c n (View.ld s (Rect.unit (s := S4096x1) off S1024x1.size inb)))
    (hp : PrevR m c n s) :
    GoodR m c n ((Rect.unit (s := S4096x1) off S1024x1.size inb).overlay s w) := by
  subst hoff
  have hq : qi n < 4 := by unfold qi; split_ifs <;> omega
  intro b hb hv
  change View.ld ((rr (qi n) hq).overlay s w) (rr b hb) = DR m c n b
  change w = stepR m c n (View.ld s (rr (qi n) hq)) at hw
  cases n with
  | zero =>
    have h0 : b = 0 := by simpa [vis] using hv
    subst h0
    refine (ld_sameR 0 hb s w).trans ?_
    rw [hw]; simp [stepR, dia, DR]
  | succ k =>
    change GoodR m c k s at hp
    by_cases hqb : qi (k + 1) = b
    · subst hqb
      refine (ld_sameR _ hb s w).trans ?_
      rw [hw]; simp only [DR, if_true]
      by_cases h4 : (k + 1) % 10 < 4
      · simp [stepR, h4]
      · have hv' : qi (k + 1) ≤ vis k := by unfold vis qi; split_ifs <;> omega
        rw [hp _ hq hv']
    · refine (ld_otherR _ b hq hb hqb s w).trans ?_
      have hv' : b ≤ vis k := by
        unfold vis at hv ⊢; unfold qi at hqb; split_ifs at hv hqb ⊢ <;> omega
      rw [hp b hb hv', DR, if_neg hqb]

/-- The whole buffer off its blocks of rows. -/
def glueR (B : ℕ → Vec F S1024x1 .f32) : Vec F S4096x1 .f32 := fun y =>
  B ((y (0 : Fin 2)).val / 1024) (fun a => match a with
    | ⟨0, _⟩ => (⟨(y (0 : Fin 2)).val % 1024, Nat.mod_lt _ (by decide)⟩ : Fin 1024)
    | ⟨1, _⟩ => (y (1 : Fin 2) : Fin 1))
theorem glueR_of (n : ℕ) (h9 : vis n = 3) (s : Vec F S4096x1 .f32) (h : GoodR m c n s) : s = glueR (DR m c n) := by
  funext y
  have hy0 : (y (0 : Fin 2)).val < 4096 := (y (0 : Fin 2)).isLt
  have hb : (y (0 : Fin 2)).val / 1024 < 4 := by omega
  have := h ((y (0 : Fin 2)).val / 1024) hb (by omega)
  unfold glueR
  rw [← this]
  show s y = s _
  congr 1
  funext a; apply Fin.ext; rw [Rect.idx_unit_val]
  fin_cases a
  · show (y (0 : Fin 2)).val = 1024 * ((y (0 : Fin 2)).val / 1024) + (y (0 : Fin 2)).val % 1024
    omega
  · show (y (1 : Fin 2)).val = 0 + (y (1 : Fin 2)).val
    omega

/-- What the scratch is known to hold before a position. -/
def Inv (n : ℕ) (s15 : Vec F S4096x128 .f32) (s16 : Vec F S4096x1 .f32) (s17 s18 : Vec F S1024x128 .f32) (s19 : Vec F S1x1024 .f32) : Prop :=
  match n with
  | 0 => True
  | k + 1 => GoodQ m c k s15 ∧ GoodR m c k s16 ∧ s17 = DK m c k ∧ s18 = DV m c k ∧ s19 = DC m c k

theorem Inv_prevQ {n s15 s16 s17 s18 s19} (h : Inv m c n s15 s16 s17 s18 s19) : PrevQ m c n s15 := by
  cases n with
  | zero => trivial
  | succ k => exact h.1
theorem Inv_prevR {n s15 s16 s17 s18 s19} (h : Inv m c n s15 s16 s17 s18 s19) : PrevR m c n s16 := by
  cases n with
  | zero => trivial
  | succ k => exact h.2.1
theorem DK_of {n s15 s16 s17 s18 s19} (h : Inv m c n s15 s16 s17 s18 s19) : stepK m c n s17 = DK m c n := by
  cases n with
  | zero => simp [DK, stepK, dia]
  | succ k => rw [h.2.2.1]; rfl
theorem DK_dia {n : ℕ} (h : dia n) : DK m c n = diaDK (B0 m c n) (B1 m c n) (B2 m c n) (B3 m c n) (B4 m c n) (B5 m c n) (B6 m c n) (B7 m c n) k0_pay31 := by
  cases n <;> simp only [DK, stepK, if_pos h]
theorem DK_off {n s15 s16 s17 s18 s19} (h : Inv m c n s15 s16 s17 s18 s19) (hd : ¬ dia n) :
    DK m c n = offDK (B0 m c n) (B1 m c n) (B2 m c n) (B3 m c n) (B4 m c n) (B5 m c n) (B6 m c n) (B7 m c n) s17 := by
  rw [← DK_of m c h, stepK, if_neg hd]
theorem DV_of {n s15 s16 s17 s18 s19} (h : Inv m c n s15 s16 s17 s18 s19) : stepV m c n s18 = DV m c n := by
  cases n with
  | zero => simp [DV, stepV, dia]
  | succ k => rw [h.2.2.2.1]; rfl
theorem DV_dia {n : ℕ} (h : dia n) : DV m c n = diaDV (B0 m c n) (B1 m c n) (B2 m c n) (B3 m c n) (B5 m c n) (B7 m c n) k0_pay32 := by
  cases n <;> simp only [DV, stepV, if_pos h]
theorem DV_off {n s15 s16 s17 s18 s19} (h : Inv m c n s15 s16 s17 s18 s19) (hd : ¬ dia n) :
    DV m c n = offDV (B0 m c n) (B1 m c n) (B2 m c n) (B3 m c n) (B5 m c n) (B7 m c n) s18 := by
  rw [← DV_of m c h, stepV, if_neg hd]
theorem DC_of {n s15 s16 s17 s18 s19} (h : Inv m c n s15 s16 s17 s18 s19) : stepC m c n s19 = DC m c n := by
  cases n with
  | zero => simp [DC, stepC, dia]
  | succ k => rw [h.2.2.2.2]; rfl
theorem DC_dia {n : ℕ} (h : dia n) : DC m c n = diaDC (B0 m c n) (B1 m c n) (B2 m c n) (B3 m c n) (B4 m c n) (B5 m c n) (B6 m c n) (B7 m c n) k0_pay33 := by
  cases n <;> simp only [DC, stepC, if_pos h]
theorem DC_off {n s15 s16 s17 s18 s19} (h : Inv m c n s15 s16 s17 s18 s19) (hd : ¬ dia n) :
    DC m c n = offDC (B0 m c n) (B1 m c n) (B2 m c n) (B3 m c n) (B4 m c n) (B5 m c n) (B6 m c n) (B7 m c n) s19 := by
  rw [← DC_of m c h, stepC, if_neg hd]

end Cert.KernelIdeal.Hand

end
-- ==== Proof.KernelIdealRunA.lean ====
module

public import proofs.«01_k».proof.Proof.Gen.KernelIdeal.Skeleton
public import proofs.«01_k».proof.Proof.KernelIdealStep
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
theorem runA (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S1024x128 .bf16) (harg12 : arg12.IsWhole) (arg13 : Memref sig .tc .vmem S1024x128 .bf16) (harg13 : arg13.IsWhole) (arg14 : Memref sig .tc .vmem S1x1x1024 .f32) (harg14 : arg14.IsWhole) (arg15 : Memref sig .tc .vmem S4096x128 .f32) (harg15 : arg15.IsWhole) (arg16 : Memref sig .tc .vmem S4096x1 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1x1024 .f32) (harg19 : arg19.IsWhole)
    (h5 : k0_cond5 i = 1#1) (h2 : ¬ k0_cond2 i = 1#1) (h6 : k0_cond6 i = 1#1) (h7 : ¬ k0_cond7 i = 1#1) (h8 : ¬ k0_cond8 i = 1#1) (h9 : ¬ k0_cond9 i = 1#1)
    (x0 x1 x2 x3 x4 : Vec F S1024x128 .bf16) (x5 x6 x7 : Vec F S1024x128 .f32) (s15 : Vec F S4096x128 .f32) (s16 : Vec F S4096x1 .f32)
    (E : Set ℕ) (K : PUnit → sProp 𝕄) :
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg15 fullShare s15
            ∗ owns (c : Thread nD τ) arg16 fullShare s16
            ∗ (∃ d, owns (c : Thread nD τ) arg17 fullShare d)
            ∗ (∃ d, owns (c : Thread nD τ) arg18 fullShare d)
            ∗ (∃ d, owns (c : Thread nD τ) arg19 fullShare d)
            ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg15 fullShare ((Rect.unit (s := S4096x128) (k0_off5 i) S1024x128.size (k0_off5_inb i h5 h6)).overlay s15 (diaQ0 x0 x1 x2 x3 x4 x5 x6 x7))
            ∗ owns (c : Thread nD τ) arg16 fullShare ((Rect.unit (s := S4096x1) (k0_off6 i) S1024x1.size (k0_off6_inb i h5 h6)).overlay s16 (diaR0 x0 x1 x2 x3 x4 x5 x6 x7))
            ∗ owns (c : Thread nD τ) arg17 fullShare (diaDK x0 x1 x2 x3 x4 x5 x6 x7 k0_pay31)
            ∗ owns (c : Thread nD τ) arg18 fullShare (diaDV x0 x1 x2 x3 x5 x7 k0_pay32)
            ∗ owns (c : Thread nD τ) arg19 fullShare (diaDC x0 x1 x2 x3 x4 x5 x6 x7 k0_pay33)) -∗ K ⟨⟩))
          ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_fox_bwd_eq_skeleton, k0_part1_eq_skeleton, k0_part2_eq_skeleton, k0_part3_eq_skeleton, k0_part4_eq_skeleton, k0_part5_eq_skeleton]
  unfold cc0_fox_bwd_skel owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f15, %hf15, H15⟩, ⟨%f16, %hf16, H16⟩, ⟨%d17, %f17, -, H17⟩, ⟨%d18, %f18, -, H18⟩, ⟨%d19, %f19, -, H19⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg15.eq_unread hf15; obtain rfl := harg16.eq_unread hf16

  sl_exec (disch := first | sl_exact h5 | sl_exact h2 | sl_exact h6 | sl_exact h7 | sl_exact h8 | sl_exact h9)
  sl_step
  iapply Hk
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr
    · ipureintro; exact harg7.read_unread _
    iexact H7
  isplitl [H8]
  · iexists _; isplitr
    · ipureintro; exact harg8.read_unread _
    iexact H8
  isplitl [H9]
  · iexists _; isplitr
    · ipureintro; exact harg9.read_unread _
    iexact H9
  isplitl [H15]
  · iexists _; isplitr
    swap; · iexact H15
    ipureintro
    sl_unfold_run_names; rw [read_one]; simp only [View.readAt_eq_ld, ldA, ldB, ldC, ldD, read_one, rcA, rcB, harg2.read_unread, harg3.read_unread, harg4.read_unread, harg5.read_unread, harg6.read_unread, harg7.read_unread, harg8.read_unread, harg9.read_unread, harg15.read_unread, harg16.read_unread]; rfl
  isplitl [H16]
  · iexists _; isplitr
    swap; · iexact H16
    ipureintro
    sl_unfold_run_names; rw [read_one]; simp only [View.readAt_eq_ld, ldA, ldB, ldC, ldD, read_one, rcA, rcB, harg2.read_unread, harg3.read_unread, harg4.read_unread, harg5.read_unread, harg6.read_unread, harg7.read_unread, harg8.read_unread, harg9.read_unread, harg15.read_unread, harg16.read_unread]; rfl
  isplitl [H17]
  · iexists _; isplitr
    swap; · iexact H17
    ipureintro
    sl_unfold_run_names; rw [read_full _ zero2]; simp only [View.readAt_eq_ld, ldA, ldB, ldC, ldD, read_one, rcA, rcB, harg2.read_unread, harg3.read_unread, harg4.read_unread, harg5.read_unread, harg6.read_unread, harg7.read_unread, harg8.read_unread, harg9.read_unread, harg15.read_unread, harg16.read_unread]; rfl
  isplitl [H18]
  · iexists _; isplitr
    swap; · iexact H18
    ipureintro
    sl_unfold_run_names; rw [read_full _ zero2]; simp only [View.readAt_eq_ld, ldA, ldB, ldC, ldD, read_one, rcA, rcB, harg2.read_unread, harg3.read_unread, harg4.read_unread, harg5.read_unread, harg6.read_unread, harg7.read_unread, harg8.read_unread, harg9.read_unread, harg15.read_unread, harg16.read_unread]; rfl
  iexists _; isplitr
  swap; · iexact H19
  ipureintro
  sl_unfold_run_names; rw [read_full _ zero2]; simp only [View.readAt_eq_ld, ldA, ldB, ldC, ldD, read_one, rcA, rcB, harg2.read_unread, harg3.read_unread, harg4.read_unread, harg5.read_unread, harg6.read_unread, harg7.read_unread, harg8.read_unread, harg9.read_unread, harg15.read_unread, harg16.read_unread]; rfl

end Cert.KernelIdeal.Hand

end
-- ==== Proof.KernelIdealRunB.lean ====
module

public import proofs.«01_k».proof.Proof.Gen.KernelIdeal.Skeleton
public import proofs.«01_k».proof.Proof.KernelIdealStep
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
theorem runB (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S1024x128 .bf16) (harg12 : arg12.IsWhole) (arg13 : Memref sig .tc .vmem S1024x128 .bf16) (harg13 : arg13.IsWhole) (arg14 : Memref sig .tc .vmem S1x1x1024 .f32) (harg14 : arg14.IsWhole) (arg15 : Memref sig .tc .vmem S4096x128 .f32) (harg15 : arg15.IsWhole) (arg16 : Memref sig .tc .vmem S4096x1 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1x1024 .f32) (harg19 : arg19.IsWhole)
    (h5 : ¬ k0_cond5 i = 1#1) (h2 : k0_cond2 i = 1#1) (h3 : k0_cond3 i = 1#1) (h4 : ¬ k0_cond4 i = 1#1) (h8 : ¬ k0_cond8 i = 1#1) (h9 : ¬ k0_cond9 i = 1#1)
    (x0 x1 x2 x3 x4 : Vec F S1024x128 .bf16) (x5 x6 x7 : Vec F S1024x128 .f32) (s15 : Vec F S4096x128 .f32) (s16 : Vec F S4096x1 .f32) (s17 s18 : Vec F S1024x128 .f32) (s19 : Vec F S1x1024 .f32)
    (E : Set ℕ) (K : PUnit → sProp 𝕄) :
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg15 fullShare s15
            ∗ owns (c : Thread nD τ) arg16 fullShare s16
            ∗ owns (c : Thread nD τ) arg17 fullShare s17
            ∗ owns (c : Thread nD τ) arg18 fullShare s18
            ∗ owns (c : Thread nD τ) arg19 fullShare s19
            ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg15 fullShare ((Rect.unit (s := S4096x128) (k0_off1 i) S1024x128.size (k0_off1_inb i h2 h3)).overlay s15 (offQ0 x0 x1 x2 x3 x4 x5 x6 x7))
            ∗ owns (c : Thread nD τ) arg16 fullShare ((Rect.unit (s := S4096x1) (k0_off2 i) S1024x1.size (k0_off2_inb i h2 h3)).overlay s16 (offR0 x0 x1 x2 x3 x4 x5 x6 x7))
            ∗ owns (c : Thread nD τ) arg17 fullShare (offDK x0 x1 x2 x3 x4 x5 x6 x7 s17)
            ∗ owns (c : Thread nD τ) arg18 fullShare (offDV x0 x1 x2 x3 x5 x7 s18)
            ∗ owns (c : Thread nD τ) arg19 fullShare (offDC x0 x1 x2 x3 x4 x5 x6 x7 s19)) -∗ K ⟨⟩))
          ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_fox_bwd_eq_skeleton, k0_part1_eq_skeleton, k0_part2_eq_skeleton, k0_part3_eq_skeleton, k0_part4_eq_skeleton, k0_part5_eq_skeleton]
  unfold cc0_fox_bwd_skel owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f15, %hf15, H15⟩, ⟨%f16, %hf16, H16⟩, ⟨%f17, %hf17, H17⟩, ⟨%f18, %hf18, H18⟩, ⟨%f19, %hf19, H19⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg15.eq_unread hf15; obtain rfl := harg16.eq_unread hf16; obtain rfl := harg17.eq_unread hf17; obtain rfl := harg18.eq_unread hf18; obtain rfl := harg19.eq_unread hf19

  sl_exec (disch := first | sl_exact h5 | sl_exact h2 | sl_exact h3 | sl_exact h4 | sl_exact h8 | sl_exact h9)
  sl_step
  iapply Hk
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr
    · ipureintro; exact harg7.read_unread _
    iexact H7
  isplitl [H8]
  · iexists _; isplitr
    · ipureintro; exact harg8.read_unread _
    iexact H8
  isplitl [H9]
  · iexists _; isplitr
    · ipureintro; exact harg9.read_unread _
    iexact H9
  isplitl [H15]
  · iexists _; isplitr
    swap; · iexact H15
    ipureintro
    sl_unfold_run_names; rw [read_one]; simp only [View.readAt_eq_ld, ldA, ldB, ldC, ldD, read_one, rcA, rcB, harg2.read_unread, harg3.read_unread, harg4.read_unread, harg5.read_unread, harg6.read_unread, harg7.read_unread, harg8.read_unread, harg9.read_unread, harg15.read_unread, harg16.read_unread, harg17.read_unread, harg18.read_unread, harg19.read_unread]; rfl
  isplitl [H16]
  · iexists _; isplitr
    swap; · iexact H16
    ipureintro
    sl_unfold_run_names; rw [read_one]; simp only [View.readAt_eq_ld, ldA, ldB, ldC, ldD, read_one, rcA, rcB, harg2.read_unread, harg3.read_unread, harg4.read_unread, harg5.read_unread, harg6.read_unread, harg7.read_unread, harg8.read_unread, harg9.read_unread, harg15.read_unread, harg16.read_unread, harg17.read_unread, harg18.read_unread, harg19.read_unread]; rfl
  isplitl [H17]
  · iexists _; isplitr
    swap; · iexact H17
    ipureintro
    sl_unfold_run_names; rw [read_full _ zero2]; simp only [View.readAt_eq_ld, ldA, ldB, ldC, ldD, read_one, rcA, rcB, harg2.read_unread, harg3.read_unread, harg4.read_unread, harg5.read_unread, harg6.read_unread, harg7.read_unread, harg8.read_unread, harg9.read_unread, harg15.read_unread, harg16.read_unread, harg17.read_unread, harg18.read_unread, harg19.read_unread]; rfl
  isplitl [H18]
  · iexists _; isplitr
    swap; · iexact H18
    ipureintro
    sl_unfold_run_names; rw [read_full _ zero2]; simp only [View.readAt_eq_ld, ldA, ldB, ldC, ldD, read_one, rcA, rcB, harg2.read_unread, harg3.read_unread, harg4.read_unread, harg5.read_unread, harg6.read_unread, harg7.read_unread, harg8.read_unread, harg9.read_unread, harg15.read_unread, harg16.read_unread, harg17.read_unread, harg18.read_unread, harg19.read_unread]; rfl
  iexists _; isplitr
  swap; · iexact H19
  ipureintro
  sl_unfold_run_names; rw [read_full _ zero2]; simp only [View.readAt_eq_ld, ldA, ldB, ldC, ldD, read_one, rcA, rcB, harg2.read_unread, harg3.read_unread, harg4.read_unread, harg5.read_unread, harg6.read_unread, harg7.read_unread, harg8.read_unread, harg9.read_unread, harg15.read_unread, harg16.read_unread, harg17.read_unread, harg18.read_unread, harg19.read_unread]; rfl

end Cert.KernelIdeal.Hand

end
-- ==== Proof.KernelIdealRunC.lean ====
module

public import proofs.«01_k».proof.Proof.Gen.KernelIdeal.Skeleton
public import proofs.«01_k».proof.Proof.KernelIdealStep
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
theorem runC (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S1024x128 .bf16) (harg12 : arg12.IsWhole) (arg13 : Memref sig .tc .vmem S1024x128 .bf16) (harg13 : arg13.IsWhole) (arg14 : Memref sig .tc .vmem S1x1x1024 .f32) (harg14 : arg14.IsWhole) (arg15 : Memref sig .tc .vmem S4096x128 .f32) (harg15 : arg15.IsWhole) (arg16 : Memref sig .tc .vmem S4096x1 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1x1024 .f32) (harg19 : arg19.IsWhole)
    (h5 : ¬ k0_cond5 i = 1#1) (h2 : k0_cond2 i = 1#1) (h3 : k0_cond3 i = 1#1) (h4 : ¬ k0_cond4 i = 1#1) (h8 : k0_cond8 i = 1#1) (h9 : ¬ k0_cond9 i = 1#1)
    (x0 x1 x2 x3 x4 : Vec F S1024x128 .bf16) (x5 x6 x7 : Vec F S1024x128 .f32) (s15 : Vec F S4096x128 .f32) (s16 : Vec F S4096x1 .f32) (s17 s18 : Vec F S1024x128 .f32) (s19 : Vec F S1x1024 .f32)
    (E : Set ℕ) (K : PUnit → sProp 𝕄) :
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ (∃ d, owns (c : Thread nD τ) arg12 fullShare d)
            ∗ (∃ d, owns (c : Thread nD τ) arg13 fullShare d)
            ∗ (∃ d, owns (c : Thread nD τ) arg14 fullShare d)
            ∗ owns (c : Thread nD τ) arg15 fullShare s15
            ∗ owns (c : Thread nD τ) arg16 fullShare s16
            ∗ owns (c : Thread nD τ) arg17 fullShare s17
            ∗ owns (c : Thread nD τ) arg18 fullShare s18
            ∗ owns (c : Thread nD τ) arg19 fullShare s19
            ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg12 fullShare (k0_pay5 (offDK x0 x1 x2 x3 x4 x5 x6 x7 s17))
            ∗ owns (c : Thread nD τ) arg13 fullShare (k0_pay6 (offDV x0 x1 x2 x3 x5 x7 s18))
            ∗ owns (c : Thread nD τ) arg14 fullShare (k0_pay7 (offDC x0 x1 x2 x3 x4 x5 x6 x7 s19))
            ∗ owns (c : Thread nD τ) arg15 fullShare ((Rect.unit (s := S4096x128) (k0_off1 i) S1024x128.size (k0_off1_inb i h2 h3)).overlay s15 (offQ0 x0 x1 x2 x3 x4 x5 x6 x7))
            ∗ owns (c : Thread nD τ) arg16 fullShare ((Rect.unit (s := S4096x1) (k0_off2 i) S1024x1.size (k0_off2_inb i h2 h3)).overlay s16 (offR0 x0 x1 x2 x3 x4 x5 x6 x7))
            ∗ owns (c : Thread nD τ) arg17 fullShare (offDK x0 x1 x2 x3 x4 x5 x6 x7 s17)
            ∗ owns (c : Thread nD τ) arg18 fullShare (offDV x0 x1 x2 x3 x5 x7 s18)
            ∗ owns (c : Thread nD τ) arg19 fullShare (offDC x0 x1 x2 x3 x4 x5 x6 x7 s19)) -∗ K ⟨⟩))
          ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_fox_bwd_eq_skeleton, k0_part1_eq_skeleton, k0_part2_eq_skeleton, k0_part3_eq_skeleton, k0_part4_eq_skeleton, k0_part5_eq_skeleton]
  unfold cc0_fox_bwd_skel owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d12, %f12, -, H12⟩, ⟨%d13, %f13, -, H13⟩, ⟨%d14, %f14, -, H14⟩, ⟨%f15, %hf15, H15⟩, ⟨%f16, %hf16, H16⟩, ⟨%f17, %hf17, H17⟩, ⟨%f18, %hf18, H18⟩, ⟨%f19, %hf19, H19⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg15.eq_unread hf15; obtain rfl := harg16.eq_unread hf16; obtain rfl := harg17.eq_unread hf17; obtain rfl := harg18.eq_unread hf18; obtain rfl := harg19.eq_unread hf19

  sl_exec (disch := first | sl_exact h5 | sl_exact h2 | sl_exact h3 | sl_exact h4 | sl_exact h8 | sl_exact h9)
  sl_step
  iapply Hk
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr
    · ipureintro; exact harg7.read_unread _
    iexact H7
  isplitl [H8]
  · iexists _; isplitr
    · ipureintro; exact harg8.read_unread _
    iexact H8
  isplitl [H9]
  · iexists _; isplitr
    · ipureintro; exact harg9.read_unread _
    iexact H9
  isplitl [H12]
  · iexists _; isplitr
    swap; · iexact H12
    ipureintro
    sl_unfold_run_names; rw [read_full _ zero2]; simp only [View.readAt_eq_ld, ldA, ldB, ldC, ldD, read_one, rcA, rcB, harg2.read_unread, harg3.read_unread, harg4.read_unread, harg5.read_unread, harg6.read_unread, harg7.read_unread, harg8.read_unread, harg9.read_unread, harg15.read_unread, harg16.read_unread, harg17.read_unread, harg18.read_unread, harg19.read_unread]; rfl
  isplitl [H13]
  · iexists _; isplitr
    swap; · iexact H13
    ipureintro
    sl_unfold_run_names; rw [read_full _ zero2]; simp only [View.readAt_eq_ld, ldA, ldB, ldC, ldD, read_one, rcA, rcB, harg2.read_unread, harg3.read_unread, harg4.read_unread, harg5.read_unread, harg6.read_unread, harg7.read_unread, harg8.read_unread, harg9.read_unread, harg15.read_unread, harg16.read_unread, harg17.read_unread, harg18.read_unread, harg19.read_unread]; rfl
  isplitl [H14]
  · iexists _; isplitr
    swap; · iexact H14
    ipureintro
    sl_unfold_run_names; rw [read_full _ zero3]; simp only [View.readAt_eq_ld, ldA, ldB, ldC, ldD, read_one, rcA, rcB, harg2.read_unread, harg3.read_unread, harg4.read_unread, harg5.read_unread, harg6.read_unread, harg7.read_unread, harg8.read_unread, harg9.read_unread, harg15.read_unread, harg16.read_unread, harg17.read_unread, harg18.read_unread, harg19.read_unread]; rfl
  isplitl [H15]
  · iexists _; isplitr
    swap; · iexact H15
    ipureintro
    sl_unfold_run_names; rw [read_one]; simp only [View.readAt_eq_ld, ldA, ldB, ldC, ldD, read_one, rcA, rcB, harg2.read_unread, harg3.read_unread, harg4.read_unread, harg5.read_unread, harg6.read_unread, harg7.read_unread, harg8.read_unread, harg9.read_unread, harg15.read_unread, harg16.read_unread, harg17.read_unread, harg18.read_unread, harg19.read_unread]; rfl
  isplitl [H16]
  · iexists _; isplitr
    swap; · iexact H16
    ipureintro
    sl_unfold_run_names; rw [read_one]; simp only [View.readAt_eq_ld, ldA, ldB, ldC, ldD, read_one, rcA, rcB, harg2.read_unread, harg3.read_unread, harg4.read_unread, harg5.read_unread, harg6.read_unread, harg7.read_unread, harg8.read_unread, harg9.read_unread, harg15.read_unread, harg16.read_unread, harg17.read_unread, harg18.read_unread, harg19.read_unread]; rfl
  isplitl [H17]
  · iexists _; isplitr
    swap; · iexact H17
    ipureintro
    sl_unfold_run_names; rw [read_full _ zero2]; simp only [View.readAt_eq_ld, ldA, ldB, ldC, ldD, read_one, rcA, rcB, harg2.read_unread, harg3.read_unread, harg4.read_unread, harg5.read_unread, harg6.read_unread, harg7.read_unread, harg8.read_unread, harg9.read_unread, harg15.read_unread, harg16.read_unread, harg17.read_unread, harg18.read_unread, harg19.read_unread]; rfl
  isplitl [H18]
  · iexists _; isplitr
    swap; · iexact H18
    ipureintro
    sl_unfold_run_names; rw [read_full _ zero2]; simp only [View.readAt_eq_ld, ldA, ldB, ldC, ldD, read_one, rcA, rcB, harg2.read_unread, harg3.read_unread, harg4.read_unread, harg5.read_unread, harg6.read_unread, harg7.read_unread, harg8.read_unread, harg9.read_unread, harg15.read_unread, harg16.read_unread, harg17.read_unread, harg18.read_unread, harg19.read_unread]; rfl
  iexists _; isplitr
  swap; · iexact H19
  ipureintro
  sl_unfold_run_names; rw [read_full _ zero2]; simp only [View.readAt_eq_ld, ldA, ldB, ldC, ldD, read_one, rcA, rcB, harg2.read_unread, harg3.read_unread, harg4.read_unread, harg5.read_unread, harg6.read_unread, harg7.read_unread, harg8.read_unread, harg9.read_unread, harg15.read_unread, harg16.read_unread, harg17.read_unread, harg18.read_unread, harg19.read_unread]; rfl

end Cert.KernelIdeal.Hand

end
-- ==== Proof.KernelIdealRunD.lean ====
module

public import proofs.«01_k».proof.Proof.Gen.KernelIdeal.Skeleton
public import proofs.«01_k».proof.Proof.KernelIdealStep
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
theorem runD (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S1024x128 .bf16) (harg12 : arg12.IsWhole) (arg13 : Memref sig .tc .vmem S1024x128 .bf16) (harg13 : arg13.IsWhole) (arg14 : Memref sig .tc .vmem S1x1x1024 .f32) (harg14 : arg14.IsWhole) (arg15 : Memref sig .tc .vmem S4096x128 .f32) (harg15 : arg15.IsWhole) (arg16 : Memref sig .tc .vmem S4096x1 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1x1024 .f32) (harg19 : arg19.IsWhole)
    (h5 : k0_cond5 i = 1#1) (h2 : ¬ k0_cond2 i = 1#1) (h6 : ¬ k0_cond6 i = 1#1) (h7 : k0_cond7 i = 1#1) (h8 : ¬ k0_cond8 i = 1#1) (h9 : ¬ k0_cond9 i = 1#1)
    (x0 x1 x2 x3 x4 : Vec F S1024x128 .bf16) (x5 x6 x7 : Vec F S1024x128 .f32) (s15 : Vec F S4096x128 .f32) (s16 : Vec F S4096x1 .f32)
    (E : Set ℕ) (K : PUnit → sProp 𝕄) :
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg15 fullShare s15
            ∗ owns (c : Thread nD τ) arg16 fullShare s16
            ∗ (∃ d, owns (c : Thread nD τ) arg17 fullShare d)
            ∗ (∃ d, owns (c : Thread nD τ) arg18 fullShare d)
            ∗ (∃ d, owns (c : Thread nD τ) arg19 fullShare d)
            ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg15 fullShare ((Rect.unit (s := S4096x128) (k0_off7 i) S1024x128.size (k0_off7_inb i h5 h7)).overlay s15 (diaQ1 x0 x1 x2 x3 x4 x5 x6 x7 (View.ld s15 (Rect.unit (s := S4096x128) (k0_off7 i) S1024x128.size (k0_off7_inb i h5 h7)))))
            ∗ owns (c : Thread nD τ) arg16 fullShare ((Rect.unit (s := S4096x1) (k0_off8 i) S1024x1.size (k0_off8_inb i h5 h7)).overlay s16 (diaR1 x0 x1 x2 x3 x4 x5 x6 x7 (View.ld s16 (Rect.unit (s := S4096x1) (k0_off8 i) S1024x1.size (k0_off8_inb i h5 h7)))))
            ∗ owns (c : Thread nD τ) arg17 fullShare (diaDK x0 x1 x2 x3 x4 x5 x6 x7 k0_pay31)
            ∗ owns (c : Thread nD τ) arg18 fullShare (diaDV x0 x1 x2 x3 x5 x7 k0_pay32)
            ∗ owns (c : Thread nD τ) arg19 fullShare (diaDC x0 x1 x2 x3 x4 x5 x6 x7 k0_pay33)) -∗ K ⟨⟩))
          ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_fox_bwd_eq_skeleton, k0_part1_eq_skeleton, k0_part2_eq_skeleton, k0_part3_eq_skeleton, k0_part4_eq_skeleton, k0_part5_eq_skeleton]
  unfold cc0_fox_bwd_skel owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f15, %hf15, H15⟩, ⟨%f16, %hf16, H16⟩, ⟨%d17, %f17, -, H17⟩, ⟨%d18, %f18, -, H18⟩, ⟨%d19, %f19, -, H19⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg15.eq_unread hf15; obtain rfl := harg16.eq_unread hf16

  sl_exec (disch := first | sl_exact h5 | sl_exact h2 | sl_exact h6 | sl_exact h7 | sl_exact h8 | sl_exact h9)
  sl_step
  iapply Hk
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr
    · ipureintro; exact harg7.read_unread _
    iexact H7
  isplitl [H8]
  · iexists _; isplitr
    · ipureintro; exact harg8.read_unread _
    iexact H8
  isplitl [H9]
  · iexists _; isplitr
    · ipureintro; exact harg9.read_unread _
    iexact H9
  isplitl [H15]
  · iexists _; isplitr
    swap; · iexact H15
    ipureintro
    sl_unfold_run_names; rw [read_one]; simp only [View.readAt_eq_ld, ldA, ldB, ldC, ldD, read_one, rcA, rcB, harg2.read_unread, harg3.read_unread, harg4.read_unread, harg5.read_unread, harg6.read_unread, harg7.read_unread, harg8.read_unread, harg9.read_unread, harg15.read_unread, harg16.read_unread]; rfl
  isplitl [H16]
  · iexists _; isplitr
    swap; · iexact H16
    ipureintro
    sl_unfold_run_names; rw [read_one]; simp only [View.readAt_eq_ld, ldA, ldB, ldC, ldD, read_one, rcA, rcB, harg2.read_unread, harg3.read_unread, harg4.read_unread, harg5.read_unread, harg6.read_unread, harg7.read_unread, harg8.read_unread, harg9.read_unread, harg15.read_unread, harg16.read_unread]; rfl
  isplitl [H17]
  · iexists _; isplitr
    swap; · iexact H17
    ipureintro
    sl_unfold_run_names; rw [read_full _ zero2]; simp only [View.readAt_eq_ld, ldA, ldB, ldC, ldD, read_one, rcA, rcB, harg2.read_unread, harg3.read_unread, harg4.read_unread, harg5.read_unread, harg6.read_unread, harg7.read_unread, harg8.read_unread, harg9.read_unread, harg15.read_unread, harg16.read_unread]; rfl
  isplitl [H18]
  · iexists _; isplitr
    swap; · iexact H18
    ipureintro
    sl_unfold_run_names; rw [read_full _ zero2]; simp only [View.readAt_eq_ld, ldA, ldB, ldC, ldD, read_one, rcA, rcB, harg2.read_unread, harg3.read_unread, harg4.read_unread, harg5.read_unread, harg6.read_unread, harg7.read_unread, harg8.read_unread, harg9.read_unread, harg15.read_unread, harg16.read_unread]; rfl
  iexists _; isplitr
  swap; · iexact H19
  ipureintro
  sl_unfold_run_names; rw [read_full _ zero2]; simp only [View.readAt_eq_ld, ldA, ldB, ldC, ldD, read_one, rcA, rcB, harg2.read_unread, harg3.read_unread, harg4.read_unread, harg5.read_unread, harg6.read_unread, harg7.read_unread, harg8.read_unread, harg9.read_unread, harg15.read_unread, harg16.read_unread]; rfl

end Cert.KernelIdeal.Hand

end
-- ==== Proof.KernelIdealRunE.lean ====
module

public import proofs.«01_k».proof.Proof.Gen.KernelIdeal.Skeleton
public import proofs.«01_k».proof.Proof.KernelIdealStep
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
theorem runE (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S1024x128 .bf16) (harg12 : arg12.IsWhole) (arg13 : Memref sig .tc .vmem S1024x128 .bf16) (harg13 : arg13.IsWhole) (arg14 : Memref sig .tc .vmem S1x1x1024 .f32) (harg14 : arg14.IsWhole) (arg15 : Memref sig .tc .vmem S4096x128 .f32) (harg15 : arg15.IsWhole) (arg16 : Memref sig .tc .vmem S4096x1 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1x1024 .f32) (harg19 : arg19.IsWhole)
    (h5 : ¬ k0_cond5 i = 1#1) (h2 : k0_cond2 i = 1#1) (h3 : ¬ k0_cond3 i = 1#1) (h4 : k0_cond4 i = 1#1) (h8 : ¬ k0_cond8 i = 1#1) (h9 : ¬ k0_cond9 i = 1#1)
    (x0 x1 x2 x3 x4 : Vec F S1024x128 .bf16) (x5 x6 x7 : Vec F S1024x128 .f32) (s15 : Vec F S4096x128 .f32) (s16 : Vec F S4096x1 .f32) (s17 s18 : Vec F S1024x128 .f32) (s19 : Vec F S1x1024 .f32)
    (E : Set ℕ) (K : PUnit → sProp 𝕄) :
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg15 fullShare s15
            ∗ owns (c : Thread nD τ) arg16 fullShare s16
            ∗ owns (c : Thread nD τ) arg17 fullShare s17
            ∗ owns (c : Thread nD τ) arg18 fullShare s18
            ∗ owns (c : Thread nD τ) arg19 fullShare s19
            ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg15 fullShare ((Rect.unit (s := S4096x128) (k0_off3 i) S1024x128.size (k0_off3_inb i h2 h4)).overlay s15 (offQ1 x0 x1 x2 x3 x4 x5 x6 x7 (View.ld s15 (Rect.unit (s := S4096x128) (k0_off3 i) S1024x128.size (k0_off3_inb i h2 h4)))))
            ∗ owns (c : Thread nD τ) arg16 fullShare ((Rect.unit (s := S4096x1) (k0_off4 i) S1024x1.size (k0_off4_inb i h2 h4)).overlay s16 (offR1 x0 x1 x2 x3 x4 x5 x6 x7 (View.ld s16 (Rect.unit (s := S4096x1) (k0_off4 i) S1024x1.size (k0_off4_inb i h2 h4)))))
            ∗ owns (c : Thread nD τ) arg17 fullShare (offDK x0 x1 x2 x3 x4 x5 x6 x7 s17)
            ∗ owns (c : Thread nD τ) arg18 fullShare (offDV x0 x1 x2 x3 x5 x7 s18)
            ∗ owns (c : Thread nD τ) arg19 fullShare (offDC x0 x1 x2 x3 x4 x5 x6 x7 s19)) -∗ K ⟨⟩))
          ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_fox_bwd_eq_skeleton, k0_part1_eq_skeleton, k0_part2_eq_skeleton, k0_part3_eq_skeleton, k0_part4_eq_skeleton, k0_part5_eq_skeleton]
  unfold cc0_fox_bwd_skel owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f15, %hf15, H15⟩, ⟨%f16, %hf16, H16⟩, ⟨%f17, %hf17, H17⟩, ⟨%f18, %hf18, H18⟩, ⟨%f19, %hf19, H19⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg15.eq_unread hf15; obtain rfl := harg16.eq_unread hf16; obtain rfl := harg17.eq_unread hf17; obtain rfl := harg18.eq_unread hf18; obtain rfl := harg19.eq_unread hf19

  sl_exec (disch := first | sl_exact h5 | sl_exact h2 | sl_exact h3 | sl_exact h4 | sl_exact h8 | sl_exact h9)
  sl_step
  iapply Hk
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr
    · ipureintro; exact harg7.read_unread _
    iexact H7
  isplitl [H8]
  · iexists _; isplitr
    · ipureintro; exact harg8.read_unread _
    iexact H8
  isplitl [H9]
  · iexists _; isplitr
    · ipureintro; exact harg9.read_unread _
    iexact H9
  isplitl [H15]
  · iexists _; isplitr
    swap; · iexact H15
    ipureintro
    sl_unfold_run_names; rw [read_one]; simp only [View.readAt_eq_ld, ldA, ldB, ldC, ldD, read_one, rcA, rcB, harg2.read_unread, harg3.read_unread, harg4.read_unread, harg5.read_unread, harg6.read_unread, harg7.read_unread, harg8.read_unread, harg9.read_unread, harg15.read_unread, harg16.read_unread, harg17.read_unread, harg18.read_unread, harg19.read_unread]; rfl
  isplitl [H16]
  · iexists _; isplitr
    swap; · iexact H16
    ipureintro
    sl_unfold_run_names; rw [read_one]; simp only [View.readAt_eq_ld, ldA, ldB, ldC, ldD, read_one, rcA, rcB, harg2.read_unread, harg3.read_unread, harg4.read_unread, harg5.read_unread, harg6.read_unread, harg7.read_unread, harg8.read_unread, harg9.read_unread, harg15.read_unread, harg16.read_unread, harg17.read_unread, harg18.read_unread, harg19.read_unread]; rfl
  isplitl [H17]
  · iexists _; isplitr
    swap; · iexact H17
    ipureintro
    sl_unfold_run_names; rw [read_full _ zero2]; simp only [View.readAt_eq_ld, ldA, ldB, ldC, ldD, read_one, rcA, rcB, harg2.read_unread, harg3.read_unread, harg4.read_unread, harg5.read_unread, harg6.read_unread, harg7.read_unread, harg8.read_unread, harg9.read_unread, harg15.read_unread, harg16.read_unread, harg17.read_unread, harg18.read_unread, harg19.read_unread]; rfl
  isplitl [H18]
  · iexists _; isplitr
    swap; · iexact H18
    ipureintro
    sl_unfold_run_names; rw [read_full _ zero2]; simp only [View.readAt_eq_ld, ldA, ldB, ldC, ldD, read_one, rcA, rcB, harg2.read_unread, harg3.read_unread, harg4.read_unread, harg5.read_unread, harg6.read_unread, harg7.read_unread, harg8.read_unread, harg9.read_unread, harg15.read_unread, harg16.read_unread, harg17.read_unread, harg18.read_unread, harg19.read_unread]; rfl
  iexists _; isplitr
  swap; · iexact H19
  ipureintro
  sl_unfold_run_names; rw [read_full _ zero2]; simp only [View.readAt_eq_ld, ldA, ldB, ldC, ldD, read_one, rcA, rcB, harg2.read_unread, harg3.read_unread, harg4.read_unread, harg5.read_unread, harg6.read_unread, harg7.read_unread, harg8.read_unread, harg9.read_unread, harg15.read_unread, harg16.read_unread, harg17.read_unread, harg18.read_unread, harg19.read_unread]; rfl

end Cert.KernelIdeal.Hand

end
-- ==== Proof.KernelIdealRunG.lean ====
module

public import proofs.«01_k».proof.Proof.Gen.KernelIdeal.Skeleton
public import proofs.«01_k».proof.Proof.KernelIdealStep
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
theorem runG (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S1024x128 .bf16) (harg12 : arg12.IsWhole) (arg13 : Memref sig .tc .vmem S1024x128 .bf16) (harg13 : arg13.IsWhole) (arg14 : Memref sig .tc .vmem S1x1x1024 .f32) (harg14 : arg14.IsWhole) (arg15 : Memref sig .tc .vmem S4096x128 .f32) (harg15 : arg15.IsWhole) (arg16 : Memref sig .tc .vmem S4096x1 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1x1024 .f32) (harg19 : arg19.IsWhole)
    (h5 : ¬ k0_cond5 i = 1#1) (h2 : k0_cond2 i = 1#1) (h3 : ¬ k0_cond3 i = 1#1) (h4 : k0_cond4 i = 1#1) (h8 : k0_cond8 i = 1#1) (h9 : ¬ k0_cond9 i = 1#1)
    (x0 x1 x2 x3 x4 : Vec F S1024x128 .bf16) (x5 x6 x7 : Vec F S1024x128 .f32) (s15 : Vec F S4096x128 .f32) (s16 : Vec F S4096x1 .f32) (s17 s18 : Vec F S1024x128 .f32) (s19 : Vec F S1x1024 .f32)
    (E : Set ℕ) (K : PUnit → sProp 𝕄) :
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ (∃ d, owns (c : Thread nD τ) arg12 fullShare d)
            ∗ (∃ d, owns (c : Thread nD τ) arg13 fullShare d)
            ∗ (∃ d, owns (c : Thread nD τ) arg14 fullShare d)
            ∗ owns (c : Thread nD τ) arg15 fullShare s15
            ∗ owns (c : Thread nD τ) arg16 fullShare s16
            ∗ owns (c : Thread nD τ) arg17 fullShare s17
            ∗ owns (c : Thread nD τ) arg18 fullShare s18
            ∗ owns (c : Thread nD τ) arg19 fullShare s19
            ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg12 fullShare (k0_pay5 (offDK x0 x1 x2 x3 x4 x5 x6 x7 s17))
            ∗ owns (c : Thread nD τ) arg13 fullShare (k0_pay6 (offDV x0 x1 x2 x3 x5 x7 s18))
            ∗ owns (c : Thread nD τ) arg14 fullShare (k0_pay7 (offDC x0 x1 x2 x3 x4 x5 x6 x7 s19))
            ∗ owns (c : Thread nD τ) arg15 fullShare ((Rect.unit (s := S4096x128) (k0_off3 i) S1024x128.size (k0_off3_inb i h2 h4)).overlay s15 (offQ1 x0 x1 x2 x3 x4 x5 x6 x7 (View.ld s15 (Rect.unit (s := S4096x128) (k0_off3 i) S1024x128.size (k0_off3_inb i h2 h4)))))
            ∗ owns (c : Thread nD τ) arg16 fullShare ((Rect.unit (s := S4096x1) (k0_off4 i) S1024x1.size (k0_off4_inb i h2 h4)).overlay s16 (offR1 x0 x1 x2 x3 x4 x5 x6 x7 (View.ld s16 (Rect.unit (s := S4096x1) (k0_off4 i) S1024x1.size (k0_off4_inb i h2 h4)))))
            ∗ owns (c : Thread nD τ) arg17 fullShare (offDK x0 x1 x2 x3 x4 x5 x6 x7 s17)
            ∗ owns (c : Thread nD τ) arg18 fullShare (offDV x0 x1 x2 x3 x5 x7 s18)
            ∗ owns (c : Thread nD τ) arg19 fullShare (offDC x0 x1 x2 x3 x4 x5 x6 x7 s19)) -∗ K ⟨⟩))
          ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_fox_bwd_eq_skeleton, k0_part1_eq_skeleton, k0_part2_eq_skeleton, k0_part3_eq_skeleton, k0_part4_eq_skeleton, k0_part5_eq_skeleton]
  unfold cc0_fox_bwd_skel owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d12, %f12, -, H12⟩, ⟨%d13, %f13, -, H13⟩, ⟨%d14, %f14, -, H14⟩, ⟨%f15, %hf15, H15⟩, ⟨%f16, %hf16, H16⟩, ⟨%f17, %hf17, H17⟩, ⟨%f18, %hf18, H18⟩, ⟨%f19, %hf19, H19⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg15.eq_unread hf15; obtain rfl := harg16.eq_unread hf16; obtain rfl := harg17.eq_unread hf17; obtain rfl := harg18.eq_unread hf18; obtain rfl := harg19.eq_unread hf19

  sl_exec (disch := first | sl_exact h5 | sl_exact h2 | sl_exact h3 | sl_exact h4 | sl_exact h8 | sl_exact h9)
  sl_step
  iapply Hk
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr
    · ipureintro; exact harg7.read_unread _
    iexact H7
  isplitl [H8]
  · iexists _; isplitr
    · ipureintro; exact harg8.read_unread _
    iexact H8
  isplitl [H9]
  · iexists _; isplitr
    · ipureintro; exact harg9.read_unread _
    iexact H9
  isplitl [H12]
  · iexists _; isplitr
    swap; · iexact H12
    ipureintro
    sl_unfold_run_names; rw [read_full _ zero2]; simp only [View.readAt_eq_ld, ldA, ldB, ldC, ldD, read_one, rcA, rcB, harg2.read_unread, harg3.read_unread, harg4.read_unread, harg5.read_unread, harg6.read_unread, harg7.read_unread, harg8.read_unread, harg9.read_unread, harg15.read_unread, harg16.read_unread, harg17.read_unread, harg18.read_unread, harg19.read_unread]; rfl
  isplitl [H13]
  · iexists _; isplitr
    swap; · iexact H13
    ipureintro
    sl_unfold_run_names; rw [read_full _ zero2]; simp only [View.readAt_eq_ld, ldA, ldB, ldC, ldD, read_one, rcA, rcB, harg2.read_unread, harg3.read_unread, harg4.read_unread, harg5.read_unread, harg6.read_unread, harg7.read_unread, harg8.read_unread, harg9.read_unread, harg15.read_unread, harg16.read_unread, harg17.read_unread, harg18.read_unread, harg19.read_unread]; rfl
  isplitl [H14]
  · iexists _; isplitr
    swap; · iexact H14
    ipureintro
    sl_unfold_run_names; rw [read_full _ zero3]; simp only [View.readAt_eq_ld, ldA, ldB, ldC, ldD, read_one, rcA, rcB, harg2.read_unread, harg3.read_unread, harg4.read_unread, harg5.read_unread, harg6.read_unread, harg7.read_unread, harg8.read_unread, harg9.read_unread, harg15.read_unread, harg16.read_unread, harg17.read_unread, harg18.read_unread, harg19.read_unread]; rfl
  isplitl [H15]
  · iexists _; isplitr
    swap; · iexact H15
    ipureintro
    sl_unfold_run_names; rw [read_one]; simp only [View.readAt_eq_ld, ldA, ldB, ldC, ldD, read_one, rcA, rcB, harg2.read_unread, harg3.read_unread, harg4.read_unread, harg5.read_unread, harg6.read_unread, harg7.read_unread, harg8.read_unread, harg9.read_unread, harg15.read_unread, harg16.read_unread, harg17.read_unread, harg18.read_unread, harg19.read_unread]; rfl
  isplitl [H16]
  · iexists _; isplitr
    swap; · iexact H16
    ipureintro
    sl_unfold_run_names; rw [read_one]; simp only [View.readAt_eq_ld, ldA, ldB, ldC, ldD, read_one, rcA, rcB, harg2.read_unread, harg3.read_unread, harg4.read_unread, harg5.read_unread, harg6.read_unread, harg7.read_unread, harg8.read_unread, harg9.read_unread, harg15.read_unread, harg16.read_unread, harg17.read_unread, harg18.read_unread, harg19.read_unread]; rfl
  isplitl [H17]
  · iexists _; isplitr
    swap; · iexact H17
    ipureintro
    sl_unfold_run_names; rw [read_full _ zero2]; simp only [View.readAt_eq_ld, ldA, ldB, ldC, ldD, read_one, rcA, rcB, harg2.read_unread, harg3.read_unread, harg4.read_unread, harg5.read_unread, harg6.read_unread, harg7.read_unread, harg8.read_unread, harg9.read_unread, harg15.read_unread, harg16.read_unread, harg17.read_unread, harg18.read_unread, harg19.read_unread]; rfl
  isplitl [H18]
  · iexists _; isplitr
    swap; · iexact H18
    ipureintro
    sl_unfold_run_names; rw [read_full _ zero2]; simp only [View.readAt_eq_ld, ldA, ldB, ldC, ldD, read_one, rcA, rcB, harg2.read_unread, harg3.read_unread, harg4.read_unread, harg5.read_unread, harg6.read_unread, harg7.read_unread, harg8.read_unread, harg9.read_unread, harg15.read_unread, harg16.read_unread, harg17.read_unread, harg18.read_unread, harg19.read_unread]; rfl
  iexists _; isplitr
  swap; · iexact H19
  ipureintro
  sl_unfold_run_names; rw [read_full _ zero2]; simp only [View.readAt_eq_ld, ldA, ldB, ldC, ldD, read_one, rcA, rcB, harg2.read_unread, harg3.read_unread, harg4.read_unread, harg5.read_unread, harg6.read_unread, harg7.read_unread, harg8.read_unread, harg9.read_unread, harg15.read_unread, harg16.read_unread, harg17.read_unread, harg18.read_unread, harg19.read_unread]; rfl

end Cert.KernelIdeal.Hand

end
-- ==== Proof.KernelIdealRunH.lean ====
module

public import proofs.«01_k».proof.Proof.Gen.KernelIdeal.Skeleton
public import proofs.«01_k».proof.Proof.KernelIdealStep
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Offsets at the last block of rows. -/
class AtLast (off : Fin 2 → ℕ) : Prop where
  eq : off = ![3072, 0]
instance (i : grid0.Coords) [h : AtLast (k0_off7 i)] : ClosedOff (k0_off7 i) := ⟨![3072, 0], h.eq⟩
instance (i : grid0.Coords) [h : AtLast (k0_off8 i)] : ClosedOff (k0_off8 i) := ⟨![3072, 0], h.eq⟩

set_option maxHeartbeats 4000000 in
theorem runH (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S1024x128 .bf16) (harg12 : arg12.IsWhole) (arg13 : Memref sig .tc .vmem S1024x128 .bf16) (harg13 : arg13.IsWhole) (arg14 : Memref sig .tc .vmem S1x1x1024 .f32) (harg14 : arg14.IsWhole) (arg15 : Memref sig .tc .vmem S4096x128 .f32) (harg15 : arg15.IsWhole) (arg16 : Memref sig .tc .vmem S4096x1 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1x1024 .f32) (harg19 : arg19.IsWhole)
    (h5 : k0_cond5 i = 1#1) (h2 : ¬ k0_cond2 i = 1#1) (h6 : ¬ k0_cond6 i = 1#1) (h7 : k0_cond7 i = 1#1) (h8 : k0_cond8 i = 1#1) (h9 : k0_cond9 i = 1#1) (ho7 : k0_off7 i = ![3072, 0]) (ho8 : k0_off8 i = ![3072, 0])
    (x0 x1 x2 x3 x4 : Vec F S1024x128 .bf16) (x5 x6 x7 : Vec F S1024x128 .f32) (s15 : Vec F S4096x128 .f32) (s16 : Vec F S4096x1 .f32)
    (E : Set ℕ) (K : PUnit → sProp 𝕄) :
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ (∃ d, owns (c : Thread nD τ) arg10 fullShare d)
            ∗ (∃ d, owns (c : Thread nD τ) arg11 fullShare d)
            ∗ (∃ d, owns (c : Thread nD τ) arg12 fullShare d)
            ∗ (∃ d, owns (c : Thread nD τ) arg13 fullShare d)
            ∗ (∃ d, owns (c : Thread nD τ) arg14 fullShare d)
            ∗ owns (c : Thread nD τ) arg15 fullShare s15
            ∗ owns (c : Thread nD τ) arg16 fullShare s16
            ∗ (∃ d, owns (c : Thread nD τ) arg17 fullShare d)
            ∗ (∃ d, owns (c : Thread nD τ) arg18 fullShare d)
            ∗ (∃ d, owns (c : Thread nD τ) arg19 fullShare d)
            ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare (k0_pay8 ((Rect.unit (s := S4096x128) (k0_off7 i) S1024x128.size (k0_off7_inb i h5 h7)).overlay s15 (diaQ1 x0 x1 x2 x3 x4 x5 x6 x7 (View.ld s15 (Rect.unit (s := S4096x128) (k0_off7 i) S1024x128.size (k0_off7_inb i h5 h7))))))
            ∗ owns (c : Thread nD τ) arg11 fullShare (k0_pay9 ((Rect.unit (s := S4096x1) (k0_off8 i) S1024x1.size (k0_off8_inb i h5 h7)).overlay s16 (diaR1 x0 x1 x2 x3 x4 x5 x6 x7 (View.ld s16 (Rect.unit (s := S4096x1) (k0_off8 i) S1024x1.size (k0_off8_inb i h5 h7))))))
            ∗ owns (c : Thread nD τ) arg12 fullShare (k0_pay5 (diaDK x0 x1 x2 x3 x4 x5 x6 x7 k0_pay31))
            ∗ owns (c : Thread nD τ) arg13 fullShare (k0_pay6 (diaDV x0 x1 x2 x3 x5 x7 k0_pay32))
            ∗ owns (c : Thread nD τ) arg14 fullShare (k0_pay7 (diaDC x0 x1 x2 x3 x4 x5 x6 x7 k0_pay33))
            ∗ owns (c : Thread nD τ) arg15 fullShare ((Rect.unit (s := S4096x128) (k0_off7 i) S1024x128.size (k0_off7_inb i h5 h7)).overlay s15 (diaQ1 x0 x1 x2 x3 x4 x5 x6 x7 (View.ld s15 (Rect.unit (s := S4096x128) (k0_off7 i) S1024x128.size (k0_off7_inb i h5 h7)))))
            ∗ owns (c : Thread nD τ) arg16 fullShare ((Rect.unit (s := S4096x1) (k0_off8 i) S1024x1.size (k0_off8_inb i h5 h7)).overlay s16 (diaR1 x0 x1 x2 x3 x4 x5 x6 x7 (View.ld s16 (Rect.unit (s := S4096x1) (k0_off8 i) S1024x1.size (k0_off8_inb i h5 h7)))))
            ∗ owns (c : Thread nD τ) arg17 fullShare (diaDK x0 x1 x2 x3 x4 x5 x6 x7 k0_pay31)
            ∗ owns (c : Thread nD τ) arg18 fullShare (diaDV x0 x1 x2 x3 x5 x7 k0_pay32)
            ∗ owns (c : Thread nD τ) arg19 fullShare (diaDC x0 x1 x2 x3 x4 x5 x6 x7 k0_pay33)) -∗ K ⟨⟩))
          ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_fox_bwd_eq_skeleton, k0_part1_eq_skeleton, k0_part2_eq_skeleton, k0_part3_eq_skeleton, k0_part4_eq_skeleton, k0_part5_eq_skeleton]
  unfold cc0_fox_bwd_skel owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%f15, %hf15, H15⟩, ⟨%f16, %hf16, H16⟩, ⟨%d17, %f17, -, H17⟩, ⟨%d18, %f18, -, H18⟩, ⟨%d19, %f19, -, H19⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg15.eq_unread hf15; obtain rfl := harg16.eq_unread hf16
  haveI : AtLast (k0_off7 i) := ⟨ho7⟩
  haveI : AtLast (k0_off8 i) := ⟨ho8⟩
  sl_exec (disch := first | sl_exact h5 | sl_exact h2 | sl_exact h6 | sl_exact h7 | sl_exact h8 | sl_exact h9)
  sl_step
  iapply Hk
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr
    · ipureintro; exact harg7.read_unread _
    iexact H7
  isplitl [H8]
  · iexists _; isplitr
    · ipureintro; exact harg8.read_unread _
    iexact H8
  isplitl [H9]
  · iexists _; isplitr
    · ipureintro; exact harg9.read_unread _
    iexact H9
  isplitl [H10]
  · iexists _; isplitr
    swap; · iexact H10
    ipureintro
    sl_unfold_run_names; rw [read_full _ zero2]; simp only [View.readAt_eq_ld, ldA, ldB, ldC, ldD, read_one, rcA, rcB, harg2.read_unread, harg3.read_unread, harg4.read_unread, harg5.read_unread, harg6.read_unread, harg7.read_unread, harg8.read_unread, harg9.read_unread, harg15.read_unread, harg16.read_unread]; rfl
  isplitl [H11]
  · iexists _; isplitr
    swap; · iexact H11
    ipureintro
    sl_unfold_run_names; rw [read_full _ zero2]; simp only [View.readAt_eq_ld, ldA, ldB, ldC, ldD, read_one, rcA, rcB, harg2.read_unread, harg3.read_unread, harg4.read_unread, harg5.read_unread, harg6.read_unread, harg7.read_unread, harg8.read_unread, harg9.read_unread, harg15.read_unread, harg16.read_unread]; rfl
  isplitl [H12]
  · iexists _; isplitr
    swap; · iexact H12
    ipureintro
    sl_unfold_run_names; rw [read_full _ zero2]; simp only [View.readAt_eq_ld, ldA, ldB, ldC, ldD, read_one, rcA, rcB, harg2.read_unread, harg3.read_unread, harg4.read_unread, harg5.read_unread, harg6.read_unread, harg7.read_unread, harg8.read_unread, harg9.read_unread, harg15.read_unread, harg16.read_unread]; rfl
  isplitl [H13]
  · iexists _; isplitr
    swap; · iexact H13
    ipureintro
    sl_unfold_run_names; rw [read_full _ zero2]; simp only [View.readAt_eq_ld, ldA, ldB, ldC, ldD, read_one, rcA, rcB, harg2.read_unread, harg3.read_unread, harg4.read_unread, harg5.read_unread, harg6.read_unread, harg7.read_unread, harg8.read_unread, harg9.read_unread, harg15.read_unread, harg16.read_unread]; rfl
  isplitl [H14]
  · iexists _; isplitr
    swap; · iexact H14
    ipureintro
    sl_unfold_run_names; rw [read_full _ zero3]; simp only [View.readAt_eq_ld, ldA, ldB, ldC, ldD, read_one, rcA, rcB, harg2.read_unread, harg3.read_unread, harg4.read_unread, harg5.read_unread, harg6.read_unread, harg7.read_unread, harg8.read_unread, harg9.read_unread, harg15.read_unread, harg16.read_unread]; rfl
  isplitl [H15]
  · iexists _; isplitr
    swap; · iexact H15
    ipureintro
    sl_unfold_run_names; rw [read_one]; simp only [View.readAt_eq_ld, ldA, ldB, ldC, ldD, read_one, rcA, rcB, harg2.read_unread, harg3.read_unread, harg4.read_unread, harg5.read_unread, harg6.read_unread, harg7.read_unread, harg8.read_unread, harg9.read_unread, harg15.read_unread, harg16.read_unread]; rfl
  isplitl [H16]
  · iexists _; isplitr
    swap; · iexact H16
    ipureintro
    sl_unfold_run_names; rw [read_one]; simp only [View.readAt_eq_ld, ldA, ldB, ldC, ldD, read_one, rcA, rcB, harg2.read_unread, harg3.read_unread, harg4.read_unread, harg5.read_unread, harg6.read_unread, harg7.read_unread, harg8.read_unread, harg9.read_unread, harg15.read_unread, harg16.read_unread]; rfl
  isplitl [H17]
  · iexists _; isplitr
    swap; · iexact H17
    ipureintro
    sl_unfold_run_names; rw [read_full _ zero2]; simp only [View.readAt_eq_ld, ldA, ldB, ldC, ldD, read_one, rcA, rcB, harg2.read_unread, harg3.read_unread, harg4.read_unread, harg5.read_unread, harg6.read_unread, harg7.read_unread, harg8.read_unread, harg9.read_unread, harg15.read_unread, harg16.read_unread]; rfl
  isplitl [H18]
  · iexists _; isplitr
    swap; · iexact H18
    ipureintro
    sl_unfold_run_names; rw [read_full _ zero2]; simp only [View.readAt_eq_ld, ldA, ldB, ldC, ldD, read_one, rcA, rcB, harg2.read_unread, harg3.read_unread, harg4.read_unread, harg5.read_unread, harg6.read_unread, harg7.read_unread, harg8.read_unread, harg9.read_unread, harg15.read_unread, harg16.read_unread]; rfl
  iexists _; isplitr
  swap; · iexact H19
  ipureintro
  sl_unfold_run_names; rw [read_full _ zero2]; simp only [View.readAt_eq_ld, ldA, ldB, ldC, ldD, read_one, rcA, rcB, harg2.read_unread, harg3.read_unread, harg4.read_unread, harg5.read_unread, harg6.read_unread, harg7.read_unread, harg8.read_unread, harg9.read_unread, harg15.read_unread, harg16.read_unread]; rfl

end Cert.KernelIdeal.Hand

end
-- ==== Proof.KernelIdealFrame.lean ====
module

public import proofs.«01_k».proof.Proof.KernelIdealState
public import proofs.«01_k».proof.Proof.KernelIdealRunA
public import proofs.«01_k».proof.Proof.KernelIdealRunB
public import proofs.«01_k».proof.Proof.KernelIdealRunC
public import proofs.«01_k».proof.Proof.KernelIdealRunD
public import proofs.«01_k».proof.Proof.KernelIdealRunE
public import proofs.«01_k».proof.Proof.KernelIdealRunG
public import proofs.«01_k».proof.Proof.KernelIdealRunH
public import Idealize.ShloMosaic.Lib.Claim
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)
variable (ρ : Dev nD → PrngReg)

/-! The conditions, the offsets and the idle windows in closed form. -/
theorem caseA : ∀ t : Fin grid0.N, (t.val % 10 = 0) → k0_cond5 (grid0.coords t) = 1#1 ∧ ¬ k0_cond2 (grid0.coords t) = 1#1 ∧ k0_cond6 (grid0.coords t) = 1#1 ∧ ¬ k0_cond7 (grid0.coords t) = 1#1 ∧ ¬ k0_cond8 (grid0.coords t) = 1#1 ∧ ¬ k0_cond9 (grid0.coords t) = 1#1 := by decide +kernel
theorem caseB : ∀ t : Fin grid0.N, (t.val % 10 = 1 ∨ t.val % 10 = 2) → ¬ k0_cond5 (grid0.coords t) = 1#1 ∧ k0_cond2 (grid0.coords t) = 1#1 ∧ k0_cond3 (grid0.coords t) = 1#1 ∧ ¬ k0_cond4 (grid0.coords t) = 1#1 ∧ ¬ k0_cond8 (grid0.coords t) = 1#1 ∧ ¬ k0_cond9 (grid0.coords t) = 1#1 := by decide +kernel
theorem caseC : ∀ t : Fin grid0.N, (t.val % 10 = 3) → ¬ k0_cond5 (grid0.coords t) = 1#1 ∧ k0_cond2 (grid0.coords t) = 1#1 ∧ k0_cond3 (grid0.coords t) = 1#1 ∧ ¬ k0_cond4 (grid0.coords t) = 1#1 ∧ k0_cond8 (grid0.coords t) = 1#1 ∧ ¬ k0_cond9 (grid0.coords t) = 1#1 := by decide +kernel
theorem caseD : ∀ t : Fin grid0.N, (t.val % 10 = 4 ∨ t.val % 10 = 7) → k0_cond5 (grid0.coords t) = 1#1 ∧ ¬ k0_cond2 (grid0.coords t) = 1#1 ∧ ¬ k0_cond6 (grid0.coords t) = 1#1 ∧ k0_cond7 (grid0.coords t) = 1#1 ∧ ¬ k0_cond8 (grid0.coords t) = 1#1 ∧ ¬ k0_cond9 (grid0.coords t) = 1#1 := by decide +kernel
theorem caseE : ∀ t : Fin grid0.N, (t.val % 10 = 5) → ¬ k0_cond5 (grid0.coords t) = 1#1 ∧ k0_cond2 (grid0.coords t) = 1#1 ∧ ¬ k0_cond3 (grid0.coords t) = 1#1 ∧ k0_cond4 (grid0.coords t) = 1#1 ∧ ¬ k0_cond8 (grid0.coords t) = 1#1 ∧ ¬ k0_cond9 (grid0.coords t) = 1#1 := by decide +kernel
theorem caseG : ∀ t : Fin grid0.N, (t.val % 10 = 6 ∨ t.val % 10 = 8) → ¬ k0_cond5 (grid0.coords t) = 1#1 ∧ k0_cond2 (grid0.coords t) = 1#1 ∧ ¬ k0_cond3 (grid0.coords t) = 1#1 ∧ k0_cond4 (grid0.coords t) = 1#1 ∧ k0_cond8 (grid0.coords t) = 1#1 ∧ ¬ k0_cond9 (grid0.coords t) = 1#1 := by decide +kernel
theorem caseH : ∀ t : Fin grid0.N, (t.val % 10 = 9) → k0_cond5 (grid0.coords t) = 1#1 ∧ ¬ k0_cond2 (grid0.coords t) = 1#1 ∧ ¬ k0_cond6 (grid0.coords t) = 1#1 ∧ k0_cond7 (grid0.coords t) = 1#1 ∧ k0_cond8 (grid0.coords t) = 1#1 ∧ k0_cond9 (grid0.coords t) = 1#1 := by decide +kernel
theorem off1_at : ∀ t : Fin grid0.N, k0_off1 (grid0.coords t) = ![1024 * qi t.val, 0] := by decide +kernel
theorem off2_at : ∀ t : Fin grid0.N, k0_off2 (grid0.coords t) = ![1024 * qi t.val, 0] := by decide +kernel
theorem off3_at : ∀ t : Fin grid0.N, k0_off3 (grid0.coords t) = ![1024 * qi t.val, 0] := by decide +kernel
theorem off4_at : ∀ t : Fin grid0.N, k0_off4 (grid0.coords t) = ![1024 * qi t.val, 0] := by decide +kernel
theorem off5_at : ∀ t : Fin grid0.N, k0_off5 (grid0.coords t) = ![1024 * qi t.val, 0] := by decide +kernel
theorem off6_at : ∀ t : Fin grid0.N, k0_off6 (grid0.coords t) = ![1024 * qi t.val, 0] := by decide +kernel
theorem off7_at : ∀ t : Fin grid0.N, k0_off7 (grid0.coords t) = ![1024 * qi t.val, 0] := by decide +kernel
theorem off8_at : ∀ t : Fin grid0.N, k0_off8 (grid0.coords t) = ![1024 * qi t.val, 0] := by decide +kernel
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl
theorem live7 : ∀ t : Fin cfg0.N, cfg0.idle 7 (grid0.coords t) = false := fun _ => rfl
theorem live8 : ∀ t : Fin grid0.N, t.val % 10 = 9 → cfg0.idle 8 (grid0.coords t) = false := by decide +kernel
theorem idle8 : ∀ t : Fin grid0.N, ¬ t.val % 10 = 9 → cfg0.idle 8 (grid0.coords t) = true := by decide +kernel
theorem noflush8 : ∀ t : Fin grid0.N, ¬ t.val % 10 = 9 → win0_8.flush t = false := by decide +kernel
theorem live9 : ∀ t : Fin grid0.N, t.val % 10 = 9 → cfg0.idle 9 (grid0.coords t) = false := by decide +kernel
theorem idle9 : ∀ t : Fin grid0.N, ¬ t.val % 10 = 9 → cfg0.idle 9 (grid0.coords t) = true := by decide +kernel
theorem noflush9 : ∀ t : Fin grid0.N, ¬ t.val % 10 = 9 → win0_9.flush t = false := by decide +kernel
theorem live10 : ∀ t : Fin grid0.N, (t.val % 10 = 3 ∨ t.val % 10 = 6 ∨ t.val % 10 = 8 ∨ t.val % 10 = 9) → cfg0.idle 10 (grid0.coords t) = false := by decide +kernel
theorem idle10 : ∀ t : Fin grid0.N, ¬ (t.val % 10 = 3 ∨ t.val % 10 = 6 ∨ t.val % 10 = 8 ∨ t.val % 10 = 9) → cfg0.idle 10 (grid0.coords t) = true := by decide +kernel
theorem noflush10 : ∀ t : Fin grid0.N, ¬ (t.val % 10 = 3 ∨ t.val % 10 = 6 ∨ t.val % 10 = 8 ∨ t.val % 10 = 9) → win0_10.flush t = false := by decide +kernel
theorem live11 : ∀ t : Fin grid0.N, (t.val % 10 = 3 ∨ t.val % 10 = 6 ∨ t.val % 10 = 8 ∨ t.val % 10 = 9) → cfg0.idle 11 (grid0.coords t) = false := by decide +kernel
theorem idle11 : ∀ t : Fin grid0.N, ¬ (t.val % 10 = 3 ∨ t.val % 10 = 6 ∨ t.val % 10 = 8 ∨ t.val % 10 = 9) → cfg0.idle 11 (grid0.coords t) = true := by decide +kernel
theorem noflush11 : ∀ t : Fin grid0.N, ¬ (t.val % 10 = 3 ∨ t.val % 10 = 6 ∨ t.val % 10 = 8 ∨ t.val % 10 = 9) → win0_11.flush t = false := by decide +kernel
theorem live12 : ∀ t : Fin grid0.N, (t.val % 10 = 3 ∨ t.val % 10 = 6 ∨ t.val % 10 = 8 ∨ t.val % 10 = 9) → cfg0.idle 12 (grid0.coords t) = false := by decide +kernel
theorem idle12 : ∀ t : Fin grid0.N, ¬ (t.val % 10 = 3 ∨ t.val % 10 = 6 ∨ t.val % 10 = 8 ∨ t.val % 10 = 9) → cfg0.idle 12 (grid0.coords t) = true := by decide +kernel
theorem noflush12 : ∀ t : Fin grid0.N, ¬ (t.val % 10 = 3 ∨ t.val % 10 = 6 ∨ t.val % 10 = 8 ∨ t.val % 10 = 9) → win0_12.flush t = false := by decide +kernel

/-! The staging buffers and the scratch. -/
abbrev mst0 (t : Fin cfg0.N) : Memref sig .tc .vmem S1024x128 .bf16 := win0_0.stage (cfg0.slots t 0)
abbrev mst1 (t : Fin cfg0.N) : Memref sig .tc .vmem S1024x128 .bf16 := win0_1.stage (cfg0.slots t 1)
abbrev mst2 (t : Fin cfg0.N) : Memref sig .tc .vmem S1024x128 .bf16 := win0_2.stage (cfg0.slots t 2)
abbrev mst3 (t : Fin cfg0.N) : Memref sig .tc .vmem S1024x128 .bf16 := win0_3.stage (cfg0.slots t 3)
abbrev mst4 (t : Fin cfg0.N) : Memref sig .tc .vmem S1024x128 .bf16 := win0_4.stage (cfg0.slots t 4)
abbrev mst5 (t : Fin cfg0.N) : Memref sig .tc .vmem S1024x128 .f32 := win0_5.stage (cfg0.slots t 5)
abbrev mst6 (t : Fin cfg0.N) : Memref sig .tc .vmem S1024x128 .f32 := win0_6.stage (cfg0.slots t 6)
abbrev mst7 (t : Fin cfg0.N) : Memref sig .tc .vmem S1024x128 .f32 := win0_7.stage (cfg0.slots t 7)
abbrev mst8 (t : Fin cfg0.N) : Memref sig .tc .vmem S4096x128 .bf16 := win0_8.stage (cfg0.slots t 8)
abbrev mst9 (t : Fin cfg0.N) : Memref sig .tc .vmem S4096x128 .f32 := win0_9.stage (cfg0.slots t 9)
abbrev mst10 (t : Fin cfg0.N) : Memref sig .tc .vmem S1024x128 .bf16 := win0_10.stage (cfg0.slots t 10)
abbrev mst11 (t : Fin cfg0.N) : Memref sig .tc .vmem S1024x128 .bf16 := win0_11.stage (cfg0.slots t 11)
abbrev mst12 (t : Fin cfg0.N) : Memref sig .tc .vmem S1x1x1024 .f32 := win0_12.stage (cfg0.slots t 12)
abbrev msc0 : Memref sig .tc .vmem S4096x128 .f32 := Memref.whole cc0_scratch0
abbrev msc1 : Memref sig .tc .vmem S4096x1 .f32 := Memref.whole cc0_scratch1
abbrev msc2 : Memref sig .tc .vmem S1024x128 .f32 := Memref.whole cc0_scratch2
abbrev msc3 : Memref sig .tc .vmem S1024x128 .f32 := Memref.whole cc0_scratch3
abbrev msc4 : Memref sig .tc .vmem S1x1024 .f32 := Memref.whole cc0_scratch4

theorem PhiA_eq (c : Dev nD) :
    (Pipeline.ΦA spec0 c : sProp 𝕄)
      = iprop(iprop((∃ d, owns (c : Thread nD τ) msc0 fullShare d) ∗ (∃ d, owns (c : Thread nD τ) msc1 fullShare d) ∗ (∃ d, owns (c : Thread nD τ) msc2 fullShare d) ∗ (∃ d, owns (c : Thread nD τ) msc3 fullShare d) ∗ (∃ d, owns (c : Thread nD τ) msc4 fullShare d)) ∗ (∃ r, prngReg c r)) := by
  unfold Pipeline.ΦA; rw [scopedRest0_eq]; simp only [msc0, msc1, msc2, msc3, msc4, owns_whole]; try rfl

/-- Before a position: the scratch at contents of which `Inv` holds. -/
def Phi (c : Dev nD) (n : ℕ) (_ : n ≤ cfg0.N) : sProp 𝕄 :=
  iprop(∃ s15, ∃ s16, ∃ s17, ∃ s18, ∃ s19, ⌜Inv m c n s15 s16 s17 s18 s19⌝
    ∗ owns (c : Thread nD τ) msc0 fullShare s15 ∗ owns (c : Thread nD τ) msc1 fullShare s16 ∗ owns (c : Thread nD τ) msc2 fullShare s17 ∗ owns (c : Thread nD τ) msc3 fullShare s18 ∗ owns (c : Thread nD τ) msc4 fullShare s19 ∗ (∃ r, prngReg c r))

/-- The proof data: the inputs in place, the outputs at what the last position of their block leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => k0_pay8 (glueQ (DQ m c t.val))
    | ⟨9, _⟩ => k0_pay9 (glueR (DR m c t.val))
    | ⟨10, _⟩ => k0_pay5 (DK m c t.val)
    | ⟨11, _⟩ => k0_pay6 (DV m c t.val)
    | ⟨12, _⟩ => k0_pay7 (DC m c t.val)
  Φ t := Phi m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = Phi m c t.val (Nat.le_of_lt t.isLt) := by
  dsimp only [dats]; exact Pipeline.Dat.Φ_castSucc (Phi m c) t
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = k0_pay8 (glueQ (DQ m c t.val)) := by dsimp only [dats]
theorem after9 (c : Dev nD) (t : Fin cfg0.N) : (dats m 0 c).after 9 t = k0_pay9 (glueR (DR m c t.val)) := by dsimp only [dats]
theorem after10 (c : Dev nD) (t : Fin cfg0.N) : (dats m 0 c).after 10 t = k0_pay5 (DK m c t.val) := by dsimp only [dats]
theorem after11 (c : Dev nD) (t : Fin cfg0.N) : (dats m 0 c).after 11 t = k0_pay6 (DV m c t.val) := by dsimp only [dats]
theorem after12 (c : Dev nD) (t : Fin cfg0.N) : (dats m 0 c).after 12 t = k0_pay7 (DC m c t.val) := by dsimp only [dats]
theorem before0 (c : Dev nD) (t : Fin cfg0.N) (d) : (dats m 0 c).before 0 t d = B0 m c t.val :=
  (before0_0_of m (dats m 0 c) (A_eq m c 0) (after0 m c) t d).trans (B0_at m c t)
theorem leaves0 (c : Dev nD) (t : Fin cfg0.N) : (dats m 0 c).leavesExact 0 t = owns (c : Thread nD τ) (mst0 t) fullShare (B0 m c t.val) := by
  unfold Dat.leavesExact; rw [live0 t, after0, B0_at]
theorem before1 (c : Dev nD) (t : Fin cfg0.N) (d) : (dats m 0 c).before 1 t d = B1 m c t.val :=
  (before0_1_of m (dats m 0 c) (A_eq m c 1) (after1 m c) t d).trans (B1_at m c t)
theorem leaves1 (c : Dev nD) (t : Fin cfg0.N) : (dats m 0 c).leavesExact 1 t = owns (c : Thread nD τ) (mst1 t) fullShare (B1 m c t.val) := by
  unfold Dat.leavesExact; rw [live1 t, after1, B1_at]
theorem before2 (c : Dev nD) (t : Fin cfg0.N) (d) : (dats m 0 c).before 2 t d = B2 m c t.val :=
  (before0_2_of m (dats m 0 c) (A_eq m c 2) (after2 m c) t d).trans (B2_at m c t)
theorem leaves2 (c : Dev nD) (t : Fin cfg0.N) : (dats m 0 c).leavesExact 2 t = owns (c : Thread nD τ) (mst2 t) fullShare (B2 m c t.val) := by
  unfold Dat.leavesExact; rw [live2 t, after2, B2_at]
theorem before3 (c : Dev nD) (t : Fin cfg0.N) (d) : (dats m 0 c).before 3 t d = B3 m c t.val :=
  (before0_3_of m (dats m 0 c) (A_eq m c 3) (after3 m c) t d).trans (B3_at m c t)
theorem leaves3 (c : Dev nD) (t : Fin cfg0.N) : (dats m 0 c).leavesExact 3 t = owns (c : Thread nD τ) (mst3 t) fullShare (B3 m c t.val) := by
  unfold Dat.leavesExact; rw [live3 t, after3, B3_at]
theorem before4 (c : Dev nD) (t : Fin cfg0.N) (d) : (dats m 0 c).before 4 t d = B4 m c t.val :=
  (before0_4_of m (dats m 0 c) (A_eq m c 4) (after4 m c) t d).trans (B4_at m c t)
theorem leaves4 (c : Dev nD) (t : Fin cfg0.N) : (dats m 0 c).leavesExact 4 t = owns (c : Thread nD τ) (mst4 t) fullShare (B4 m c t.val) := by
  unfold Dat.leavesExact; rw [live4 t, after4, B4_at]
theorem before5 (c : Dev nD) (t : Fin cfg0.N) (d) : (dats m 0 c).before 5 t d = B5 m c t.val :=
  (before0_5_of m (dats m 0 c) (A_eq m c 5) (after5 m c) t d).trans (B5_at m c t)
theorem leaves5 (c : Dev nD) (t : Fin cfg0.N) : (dats m 0 c).leavesExact 5 t = owns (c : Thread nD τ) (mst5 t) fullShare (B5 m c t.val) := by
  unfold Dat.leavesExact; rw [live5 t, after5, B5_at]
theorem before6 (c : Dev nD) (t : Fin cfg0.N) (d) : (dats m 0 c).before 6 t d = B6 m c t.val :=
  (before0_6_of m (dats m 0 c) (A_eq m c 6) (after6 m c) t d).trans (B6_at m c t)
theorem leaves6 (c : Dev nD) (t : Fin cfg0.N) : (dats m 0 c).leavesExact 6 t = owns (c : Thread nD τ) (mst6 t) fullShare (B6 m c t.val) := by
  unfold Dat.leavesExact; rw [live6 t, after6, B6_at]
theorem before7 (c : Dev nD) (t : Fin cfg0.N) (d) : (dats m 0 c).before 7 t d = B7 m c t.val :=
  (before0_7_of m (dats m 0 c) (A_eq m c 7) (after7 m c) t d).trans (B7_at m c t)
theorem leaves7 (c : Dev nD) (t : Fin cfg0.N) : (dats m 0 c).leavesExact 7 t = owns (c : Thread nD τ) (mst7 t) fullShare (B7 m c t.val) := by
  unfold Dat.leavesExact; rw [live7 t, after7, B7_at]
theorem leaves8 (c : Dev nD) (t : Fin cfg0.N) (h : t.val % 10 = 9) : (dats m 0 c).leavesExact 8 t = owns (c : Thread nD τ) (mst8 t) fullShare (k0_pay8 (glueQ (DQ m c t.val))) := by
  unfold Dat.leavesExact; rw [live8 t h, after8]
theorem keeps8 (c : Dev nD) (t : Fin cfg0.N) (h : ¬ t.val % 10 = 9) : (dats m 0 c).leavesExact 8 t = iprop(∃ d, owns (c : Thread nD τ) (mst8 t) fullShare ((dats m 0 c).before 8 t d)) :=
  (dats m 0 c).leavesExact_idle 8 t (idle8 t h) (noflush8 t h)
theorem leaves9 (c : Dev nD) (t : Fin cfg0.N) (h : t.val % 10 = 9) : (dats m 0 c).leavesExact 9 t = owns (c : Thread nD τ) (mst9 t) fullShare (k0_pay9 (glueR (DR m c t.val))) := by
  unfold Dat.leavesExact; rw [live9 t h, after9]
theorem keeps9 (c : Dev nD) (t : Fin cfg0.N) (h : ¬ t.val % 10 = 9) : (dats m 0 c).leavesExact 9 t = iprop(∃ d, owns (c : Thread nD τ) (mst9 t) fullShare ((dats m 0 c).before 9 t d)) :=
  (dats m 0 c).leavesExact_idle 9 t (idle9 t h) (noflush9 t h)
theorem leaves10 (c : Dev nD) (t : Fin cfg0.N) (h : (t.val % 10 = 3 ∨ t.val % 10 = 6 ∨ t.val % 10 = 8 ∨ t.val % 10 = 9)) : (dats m 0 c).leavesExact 10 t = owns (c : Thread nD τ) (mst10 t) fullShare (k0_pay5 (DK m c t.val)) := by
  unfold Dat.leavesExact; rw [live10 t h, after10]
theorem keeps10 (c : Dev nD) (t : Fin cfg0.N) (h : ¬ (t.val % 10 = 3 ∨ t.val % 10 = 6 ∨ t.val % 10 = 8 ∨ t.val % 10 = 9)) : (dats m 0 c).leavesExact 10 t = iprop(∃ d, owns (c : Thread nD τ) (mst10 t) fullShare ((dats m 0 c).before 10 t d)) :=
  (dats m 0 c).leavesExact_idle 10 t (idle10 t h) (noflush10 t h)
theorem leaves11 (c : Dev nD) (t : Fin cfg0.N) (h : (t.val % 10 = 3 ∨ t.val % 10 = 6 ∨ t.val % 10 = 8 ∨ t.val % 10 = 9)) : (dats m 0 c).leavesExact 11 t = owns (c : Thread nD τ) (mst11 t) fullShare (k0_pay6 (DV m c t.val)) := by
  unfold Dat.leavesExact; rw [live11 t h, after11]
theorem keeps11 (c : Dev nD) (t : Fin cfg0.N) (h : ¬ (t.val % 10 = 3 ∨ t.val % 10 = 6 ∨ t.val % 10 = 8 ∨ t.val % 10 = 9)) : (dats m 0 c).leavesExact 11 t = iprop(∃ d, owns (c : Thread nD τ) (mst11 t) fullShare ((dats m 0 c).before 11 t d)) :=
  (dats m 0 c).leavesExact_idle 11 t (idle11 t h) (noflush11 t h)
theorem leaves12 (c : Dev nD) (t : Fin cfg0.N) (h : (t.val % 10 = 3 ∨ t.val % 10 = 6 ∨ t.val % 10 = 8 ∨ t.val % 10 = 9)) : (dats m 0 c).leavesExact 12 t = owns (c : Thread nD τ) (mst12 t) fullShare (k0_pay7 (DC m c t.val)) := by
  unfold Dat.leavesExact; rw [live12 t h, after12]
theorem keeps12 (c : Dev nD) (t : Fin cfg0.N) (h : ¬ (t.val % 10 = 3 ∨ t.val % 10 = 6 ∨ t.val % 10 = 8 ∨ t.val % 10 = 9)) : (dats m 0 c).leavesExact 12 t = iprop(∃ d, owns (c : Thread nD τ) (mst12 t) fullShare ((dats m 0 c).before 12 t d)) :=
  (dats m 0 c).leavesExact_idle 12 t (idle12 t h) (noflush12 t h)

def bodyPre (c : Dev nD) (t : Fin cfg0.N) : sProp 𝕄 :=
  iprop((dats m 0 c).Φ t.castSucc ∗ (dats m 0 c).owesAt () t.castSucc
    ∗ (∃ d, owns (c : Thread nD τ) (mst0 t) fullShare ((dats m 0 c).before 0 t d))
    ∗ (∃ d, owns (c : Thread nD τ) (mst1 t) fullShare ((dats m 0 c).before 1 t d))
    ∗ (∃ d, owns (c : Thread nD τ) (mst2 t) fullShare ((dats m 0 c).before 2 t d))
    ∗ (∃ d, owns (c : Thread nD τ) (mst3 t) fullShare ((dats m 0 c).before 3 t d))
    ∗ (∃ d, owns (c : Thread nD τ) (mst4 t) fullShare ((dats m 0 c).before 4 t d))
    ∗ (∃ d, owns (c : Thread nD τ) (mst5 t) fullShare ((dats m 0 c).before 5 t d))
    ∗ (∃ d, owns (c : Thread nD τ) (mst6 t) fullShare ((dats m 0 c).before 6 t d))
    ∗ (∃ d, owns (c : Thread nD τ) (mst7 t) fullShare ((dats m 0 c).before 7 t d))
    ∗ (∃ d, owns (c : Thread nD τ) (mst8 t) fullShare ((dats m 0 c).before 8 t d))
    ∗ (∃ d, owns (c : Thread nD τ) (mst9 t) fullShare ((dats m 0 c).before 9 t d))
    ∗ (∃ d, owns (c : Thread nD τ) (mst10 t) fullShare ((dats m 0 c).before 10 t d))
    ∗ (∃ d, owns (c : Thread nD τ) (mst11 t) fullShare ((dats m 0 c).before 11 t d))
    ∗ (∃ d, owns (c : Thread nD τ) (mst12 t) fullShare ((dats m 0 c).before 12 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 4800000 in
theorem bodyA (c : Dev nD) (t : Fin cfg0.N) (h : t.val % 10 = 0) :
    bodyPre m c t ⊢ wp frame (wpE (defs₀ (F := F)) Variants.none c none) Set.univ (bodyAt0 t) (fun _ => bodyPost m c t) := by
  obtain ⟨h5, h2, h6, h7, h8, h9⟩ := caseA t h
  have hd : dia t.val := by unfold dia; omega
  unfold bodyPre bodyPost bodyAt0
  simp only [before0, before1, before2, before3, before4, before5, before6, before7]
  rw [show (dats m 0 c).owesAt () t.succ = (dats m 0 c).owesAt () t.castSucc from rfl]
  rw [show (dats m 0 c).Φ t.succ = Phi m c (t.val + 1) t.isLt from rfl, Phi_castSucc]
  rw [leaves0 m c t, leaves1 m c t, leaves2 m c t, leaves3 m c t, leaves4 m c t, leaves5 m c t, leaves6 m c t, leaves7 m c t, keeps8 m c t (by omega), keeps9 m c t (by omega), keeps10 m c t (by omega), keeps11 m c t (by omega), keeps12 m c t (by omega)]
  unfold Phi
  iintro ⟨⟨%s15, %s16, %s17, %s18, %s19, %hI, S0, S1, S2, S3, S4, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (runA c (grid0.coords t) _ _ _ _ _ _ _ _ _ _ _ _ _ _ _ _ _ _ _ _ _ _ _ _ _ _ _ _ _ _ _ _ _ _ _ _ h5 h2 h6 h7 h8 h9 (B0 m c t.val) (B1 m c t.val) (B2 m c t.val) (B3 m c t.val) (B4 m c t.val) (B5 m c t.val) (B6 m c t.val) (B7 m c t.val) s15 s16  Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  isplitl [S2]; · iexists _; iexact S2
  isplitl [S3]; · iexists _; iexact S3
  isplitl [S4]; · iexists _; iexact S4
  iintro ⟨H0, H1, H2, H3, H4, H5, H6, H7, S0, S1, S2, S3, S4⟩
  have hQ := goodQ_step m c t.val s15 _ (off5_at t) (k0_off5_inb (grid0.coords t) h5 h6) _ (by unfold stepQ; rw [if_pos hd, if_pos (by omega)]) (Inv_prevQ m c hI)
  have hR := goodR_step m c t.val s16 _ (off6_at t) (k0_off6_inb (grid0.coords t) h5 h6) _ (by unfold stepR; rw [if_pos hd, if_pos (by omega)]) (Inv_prevR m c hI)
  isplitl [S0 S1 S2 S3 S4 Hg]
  · iexists _; iexists _; iexists _; iexists _; iexists _
    isplitr
    swap
    · isplitl [S0]; · iexact S0
      isplitl [S1]; · iexact S1
      isplitl [S2]; · iexact S2
      isplitl [S3]; · iexact S3
      isplitl [S4]; · iexact S4
      iexact Hg
    ipureintro
    exact ⟨hQ, hR, (DK_dia m c hd).symm, (DV_dia m c hd).symm, (DC_dia m c hd).symm⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  iexists _; iexact H12

set_option maxHeartbeats 4800000 in
theorem bodyB (c : Dev nD) (t : Fin cfg0.N) (h : t.val % 10 = 1 ∨ t.val % 10 = 2) :
    bodyPre m c t ⊢ wp frame (wpE (defs₀ (F := F)) Variants.none c none) Set.univ (bodyAt0 t) (fun _ => bodyPost m c t) := by
  obtain ⟨h5, h2, h3, h4, h8, h9⟩ := caseB t h
  have hd : ¬ dia t.val := by unfold dia; omega
  unfold bodyPre bodyPost bodyAt0
  simp only [before0, before1, before2, before3, before4, before5, before6, before7]
  rw [show (dats m 0 c).owesAt () t.succ = (dats m 0 c).owesAt () t.castSucc from rfl]
  rw [show (dats m 0 c).Φ t.succ = Phi m c (t.val + 1) t.isLt from rfl, Phi_castSucc]
  rw [leaves0 m c t, leaves1 m c t, leaves2 m c t, leaves3 m c t, leaves4 m c t, leaves5 m c t, leaves6 m c t, leaves7 m c t, keeps8 m c t (by omega), keeps9 m c t (by omega), keeps10 m c t (by omega), keeps11 m c t (by omega), keeps12 m c t (by omega)]
  unfold Phi
  iintro ⟨⟨%s15, %s16, %s17, %s18, %s19, %hI, S0, S1, S2, S3, S4, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (runB c (grid0.coords t) _ _ _ _ _ _ _ _ _ _ _ _ _ _ _ _ _ _ _ _ _ _ _ _ _ _ _ _ _ _ _ _ _ _ _ _ h5 h2 h3 h4 h8 h9 (B0 m c t.val) (B1 m c t.val) (B2 m c t.val) (B3 m c t.val) (B4 m c t.val) (B5 m c t.val) (B6 m c t.val) (B7 m c t.val) s15 s16 s17 s18 s19 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  isplitl [S2]; · iexact S2
  isplitl [S3]; · iexact S3
  isplitl [S4]; · iexact S4
  iintro ⟨H0, H1, H2, H3, H4, H5, H6, H7, S0, S1, S2, S3, S4⟩
  have hQ := goodQ_step m c t.val s15 _ (off1_at t) (k0_off1_inb (grid0.coords t) h2 h3) _ (by unfold stepQ; rw [if_neg hd, if_pos (by omega)]) (Inv_prevQ m c hI)
  have hR := goodR_step m c t.val s16 _ (off2_at t) (k0_off2_inb (grid0.coords t) h2 h3) _ (by unfold stepR; rw [if_neg hd, if_pos (by omega)]) (Inv_prevR m c hI)
  isplitl [S0 S1 S2 S3 S4 Hg]
  · iexists _; iexists _; iexists _; iexists _; iexists _
    isplitr
    swap
    · isplitl [S0]; · iexact S0
      isplitl [S1]; · iexact S1
      isplitl [S2]; · iexact S2
      isplitl [S3]; · iexact S3
      isplitl [S4]; · iexact S4
      iexact Hg
    ipureintro
    exact ⟨hQ, hR, (DK_off m c hI hd).symm, (DV_off m c hI hd).symm, (DC_off m c hI hd).symm⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  iexists _; iexact H12

set_option maxHeartbeats 4800000 in
theorem bodyC (c : Dev nD) (t : Fin cfg0.N) (h : t.val % 10 = 3) :
    bodyPre m c t ⊢ wp frame (wpE (defs₀ (F := F)) Variants.none c none) Set.univ (bodyAt0 t) (fun _ => bodyPost m c t) := by
  obtain ⟨h5, h2, h3, h4, h8, h9⟩ := caseC t h
  have hd : ¬ dia t.val := by unfold dia; omega
  unfold bodyPre bodyPost bodyAt0
  simp only [before0, before1, before2, before3, before4, before5, before6, before7]
  rw [show (dats m 0 c).owesAt () t.succ = (dats m 0 c).owesAt () t.castSucc from rfl]
  rw [show (dats m 0 c).Φ t.succ = Phi m c (t.val + 1) t.isLt from rfl, Phi_castSucc]
  rw [leaves0 m c t, leaves1 m c t, leaves2 m c t, leaves3 m c t, leaves4 m c t, leaves5 m c t, leaves6 m c t, leaves7 m c t, keeps8 m c t (by omega), keeps9 m c t (by omega), leaves10 m c t (by omega), leaves11 m c t (by omega), leaves12 m c t (by omega)]
  unfold Phi
  iintro ⟨⟨%s15, %s16, %s17, %s18, %s19, %hI, S0, S1, S2, S3, S4, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (runC c (grid0.coords t) _ _ _ _ _ _ _ _ _ _ _ _ _ _ _ _ _ _ _ _ _ _ _ _ _ _ _ _ _ _ _ _ _ _ _ _ h5 h2 h3 h4 h8 h9 (B0 m c t.val) (B1 m c t.val) (B2 m c t.val) (B3 m c t.val) (B4 m c t.val) (B5 m c t.val) (B6 m c t.val) (B7 m c t.val) s15 s16 s17 s18 s19 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H10]; · iexists _; iexact H10
  isplitl [H11]; · iexists _; iexact H11
  isplitl [H12]; · iexists _; iexact H12
  isplitl [S0]; · iexact S0
  isplitl [S1]; · iexact S1
  isplitl [S2]; · iexact S2
  isplitl [S3]; · iexact S3
  isplitl [S4]; · iexact S4
  iintro ⟨H0, H1, H2, H3, H4, H5, H6, H7, H10, H11, H12, S0, S1, S2, S3, S4⟩
  have hQ := goodQ_step m c t.val s15 _ (off1_at t) (k0_off1_inb (grid0.coords t) h2 h3) _ (by unfold stepQ; rw [if_neg hd, if_pos (by omega)]) (Inv_prevQ m c hI)
  have hR := goodR_step m c t.val s16 _ (off2_at t) (k0_off2_inb (grid0.coords t) h2 h3) _ (by unfold stepR; rw [if_neg hd, if_pos (by omega)]) (Inv_prevR m c hI)
  rw [DK_off m c hI hd, DV_off m c hI hd, DC_off m c hI hd]
  isplitl [S0 S1 S2 S3 S4 Hg]
  · iexists _; iexists _; iexists _; iexists _; iexists _
    isplitr
    swap
    · isplitl [S0]; · iexact S0
      isplitl [S1]; · iexact S1
      isplitl [S2]; · iexact S2
      isplitl [S3]; · iexact S3
      isplitl [S4]; · iexact S4
      iexact Hg
    ipureintro
    exact ⟨hQ, hR, (DK_off m c hI hd).symm, (DV_off m c hI hd).symm, (DC_off m c hI hd).symm⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexact H10
  isplitl [H11]; · iexact H11
  iexact H12

set_option maxHeartbeats 4800000 in
theorem bodyD (c : Dev nD) (t : Fin cfg0.N) (h : t.val % 10 = 4 ∨ t.val % 10 = 7) :
    bodyPre m c t ⊢ wp frame (wpE (defs₀ (F := F)) Variants.none c none) Set.univ (bodyAt0 t) (fun _ => bodyPost m c t) := by
  obtain ⟨h5, h2, h6, h7, h8, h9⟩ := caseD t h
  have hd : dia t.val := by unfold dia; omega
  unfold bodyPre bodyPost bodyAt0
  simp only [before0, before1, before2, before3, before4, before5, before6, before7]
  rw [show (dats m 0 c).owesAt () t.succ = (dats m 0 c).owesAt () t.castSucc from rfl]
  rw [show (dats m 0 c).Φ t.succ = Phi m c (t.val + 1) t.isLt from rfl, Phi_castSucc]
  rw [leaves0 m c t, leaves1 m c t, leaves2 m c t, leaves3 m c t, leaves4 m c t, leaves5 m c t, leaves6 m c t, leaves7 m c t, keeps8 m c t (by omega), keeps9 m c t (by omega), keeps10 m c t (by omega), keeps11 m c t (by omega), keeps12 m c t (by omega)]
  unfold Phi
  iintro ⟨⟨%s15, %s16, %s17, %s18, %s19, %hI, S0, S1, S2, S3, S4, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (runD c (grid0.coords t) _ _ _ _ _ _ _ _ _ _ _ _ _ _ _ _ _ _ _ _ _ _ _ _ _ _ _ _ _ _ _ _ _ _ _ _ h5 h2 h6 h7 h8 h9 (B0 m c t.val) (B1 m c t.val) (B2 m c t.val) (B3 m c t.val) (B4 m c t.val) (B5 m c t.val) (B6 m c t.val) (B7 m c t.val) s15 s16  Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  isplitl [S2]; · iexists _; iexact S2
  isplitl [S3]; · iexists _; iexact S3
  isplitl [S4]; · iexists _; iexact S4
  iintro ⟨H0, H1, H2, H3, H4, H5, H6, H7, S0, S1, S2, S3, S4⟩
  have hQ := goodQ_step m c t.val s15 _ (off7_at t) (k0_off7_inb (grid0.coords t) h5 h7) _ (by unfold stepQ; rw [if_pos hd, if_neg (by omega)]) (Inv_prevQ m c hI)
  have hR := goodR_step m c t.val s16 _ (off8_at t) (k0_off8_inb (grid0.coords t) h5 h7) _ (by unfold stepR; rw [if_pos hd, if_neg (by omega)]) (Inv_prevR m c hI)
  isplitl [S0 S1 S2 S3 S4 Hg]
  · iexists _; iexists _; iexists _; iexists _; iexists _
    isplitr
    swap
    · isplitl [S0]; · iexact S0
      isplitl [S1]; · iexact S1
      isplitl [S2]; · iexact S2
      isplitl [S3]; · iexact S3
      isplitl [S4]; · iexact S4
      iexact Hg
    ipureintro
    exact ⟨hQ, hR, (DK_dia m c hd).symm, (DV_dia m c hd).symm, (DC_dia m c hd).symm⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  iexists _; iexact H12

set_option maxHeartbeats 4800000 in
theorem bodyE (c : Dev nD) (t : Fin cfg0.N) (h : t.val % 10 = 5) :
    bodyPre m c t ⊢ wp frame (wpE (defs₀ (F := F)) Variants.none c none) Set.univ (bodyAt0 t) (fun _ => bodyPost m c t) := by
  obtain ⟨h5, h2, h3, h4, h8, h9⟩ := caseE t h
  have hd : ¬ dia t.val := by unfold dia; omega
  unfold bodyPre bodyPost bodyAt0
  simp only [before0, before1, before2, before3, before4, before5, before6, before7]
  rw [show (dats m 0 c).owesAt () t.succ = (dats m 0 c).owesAt () t.castSucc from rfl]
  rw [show (dats m 0 c).Φ t.succ = Phi m c (t.val + 1) t.isLt from rfl, Phi_castSucc]
  rw [leaves0 m c t, leaves1 m c t, leaves2 m c t, leaves3 m c t, leaves4 m c t, leaves5 m c t, leaves6 m c t, leaves7 m c t, keeps8 m c t (by omega), keeps9 m c t (by omega), keeps10 m c t (by omega), keeps11 m c t (by omega), keeps12 m c t (by omega)]
  unfold Phi
  iintro ⟨⟨%s15, %s16, %s17, %s18, %s19, %hI, S0, S1, S2, S3, S4, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (runE c (grid0.coords t) _ _ _ _ _ _ _ _ _ _ _ _ _ _ _ _ _ _ _ _ _ _ _ _ _ _ _ _ _ _ _ _ _ _ _ _ h5 h2 h3 h4 h8 h9 (B0 m c t.val) (B1 m c t.val) (B2 m c t.val) (B3 m c t.val) (B4 m c t.val) (B5 m c t.val) (B6 m c t.val) (B7 m c t.val) s15 s16 s17 s18 s19 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  isplitl [S2]; · iexact S2
  isplitl [S3]; · iexact S3
  isplitl [S4]; · iexact S4
  iintro ⟨H0, H1, H2, H3, H4, H5, H6, H7, S0, S1, S2, S3, S4⟩
  have hQ := goodQ_step m c t.val s15 _ (off3_at t) (k0_off3_inb (grid0.coords t) h2 h4) _ (by unfold stepQ; rw [if_neg hd, if_neg (by omega)]) (Inv_prevQ m c hI)
  have hR := goodR_step m c t.val s16 _ (off4_at t) (k0_off4_inb (grid0.coords t) h2 h4) _ (by unfold stepR; rw [if_neg hd, if_neg (by omega)]) (Inv_prevR m c hI)
  isplitl [S0 S1 S2 S3 S4 Hg]
  · iexists _; iexists _; iexists _; iexists _; iexists _
    isplitr
    swap
    · isplitl [S0]; · iexact S0
      isplitl [S1]; · iexact S1
      isplitl [S2]; · iexact S2
      isplitl [S3]; · iexact S3
      isplitl [S4]; · iexact S4
      iexact Hg
    ipureintro
    exact ⟨hQ, hR, (DK_off m c hI hd).symm, (DV_off m c hI hd).symm, (DC_off m c hI hd).symm⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  iexists _; iexact H12

set_option maxHeartbeats 4800000 in
theorem bodyG (c : Dev nD) (t : Fin cfg0.N) (h : t.val % 10 = 6 ∨ t.val % 10 = 8) :
    bodyPre m c t ⊢ wp frame (wpE (defs₀ (F := F)) Variants.none c none) Set.univ (bodyAt0 t) (fun _ => bodyPost m c t) := by
  obtain ⟨h5, h2, h3, h4, h8, h9⟩ := caseG t h
  have hd : ¬ dia t.val := by unfold dia; omega
  unfold bodyPre bodyPost bodyAt0
  simp only [before0, before1, before2, before3, before4, before5, before6, before7]
  rw [show (dats m 0 c).owesAt () t.succ = (dats m 0 c).owesAt () t.castSucc from rfl]
  rw [show (dats m 0 c).Φ t.succ = Phi m c (t.val + 1) t.isLt from rfl, Phi_castSucc]
  rw [leaves0 m c t, leaves1 m c t, leaves2 m c t, leaves3 m c t, leaves4 m c t, leaves5 m c t, leaves6 m c t, leaves7 m c t, keeps8 m c t (by omega), keeps9 m c t (by omega), leaves10 m c t (by omega), leaves11 m c t (by omega), leaves12 m c t (by omega)]
  unfold Phi
  iintro ⟨⟨%s15, %s16, %s17, %s18, %s19, %hI, S0, S1, S2, S3, S4, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (runG c (grid0.coords t) _ _ _ _ _ _ _ _ _ _ _ _ _ _ _ _ _ _ _ _ _ _ _ _ _ _ _ _ _ _ _ _ _ _ _ _ h5 h2 h3 h4 h8 h9 (B0 m c t.val) (B1 m c t.val) (B2 m c t.val) (B3 m c t.val) (B4 m c t.val) (B5 m c t.val) (B6 m c t.val) (B7 m c t.val) s15 s16 s17 s18 s19 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H10]; · iexists _; iexact H10
  isplitl [H11]; · iexists _; iexact H11
  isplitl [H12]; · iexists _; iexact H12
  isplitl [S0]; · iexact S0
  isplitl [S1]; · iexact S1
  isplitl [S2]; · iexact S2
  isplitl [S3]; · iexact S3
  isplitl [S4]; · iexact S4
  iintro ⟨H0, H1, H2, H3, H4, H5, H6, H7, H10, H11, H12, S0, S1, S2, S3, S4⟩
  have hQ := goodQ_step m c t.val s15 _ (off3_at t) (k0_off3_inb (grid0.coords t) h2 h4) _ (by unfold stepQ; rw [if_neg hd, if_neg (by omega)]) (Inv_prevQ m c hI)
  have hR := goodR_step m c t.val s16 _ (off4_at t) (k0_off4_inb (grid0.coords t) h2 h4) _ (by unfold stepR; rw [if_neg hd, if_neg (by omega)]) (Inv_prevR m c hI)
  rw [DK_off m c hI hd, DV_off m c hI hd, DC_off m c hI hd]
  isplitl [S0 S1 S2 S3 S4 Hg]
  · iexists _; iexists _; iexists _; iexists _; iexists _
    isplitr
    swap
    · isplitl [S0]; · iexact S0
      isplitl [S1]; · iexact S1
      isplitl [S2]; · iexact S2
      isplitl [S3]; · iexact S3
      isplitl [S4]; · iexact S4
      iexact Hg
    ipureintro
    exact ⟨hQ, hR, (DK_off m c hI hd).symm, (DV_off m c hI hd).symm, (DC_off m c hI hd).symm⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexact H10
  isplitl [H11]; · iexact H11
  iexact H12

theorem off7_lit (t : Fin cfg0.N) (h : t.val % 10 = 9) : k0_off7 (grid0.coords t) = ![3072, 0] := by
  rw [off7_at t]; simp [qi, h]
theorem off8_lit (t : Fin cfg0.N) (h : t.val % 10 = 9) : k0_off8 (grid0.coords t) = ![3072, 0] := by
  rw [off8_at t]; simp [qi, h]
set_option maxHeartbeats 4800000 in
theorem bodyH (c : Dev nD) (t : Fin cfg0.N) (h : t.val % 10 = 9) :
    bodyPre m c t ⊢ wp frame (wpE (defs₀ (F := F)) Variants.none c none) Set.univ (bodyAt0 t) (fun _ => bodyPost m c t) := by
  obtain ⟨h5, h2, h6, h7, h8, h9⟩ := caseH t h
  have hd : dia t.val := by unfold dia; omega
  unfold bodyPre bodyPost bodyAt0
  simp only [before0, before1, before2, before3, before4, before5, before6, before7]
  rw [show (dats m 0 c).owesAt () t.succ = (dats m 0 c).owesAt () t.castSucc from rfl]
  rw [show (dats m 0 c).Φ t.succ = Phi m c (t.val + 1) t.isLt from rfl, Phi_castSucc]
  rw [leaves0 m c t, leaves1 m c t, leaves2 m c t, leaves3 m c t, leaves4 m c t, leaves5 m c t, leaves6 m c t, leaves7 m c t, leaves8 m c t (by omega), leaves9 m c t (by omega), leaves10 m c t (by omega), leaves11 m c t (by omega), leaves12 m c t (by omega)]
  unfold Phi
  iintro ⟨⟨%s15, %s16, %s17, %s18, %s19, %hI, S0, S1, S2, S3, S4, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (runH c (grid0.coords t) _ _ _ _ _ _ _ _ _ _ _ _ _ _ _ _ _ _ _ _ _ _ _ _ _ _ _ _ _ _ _ _ _ _ _ _ h5 h2 h6 h7 h8 h9 (off7_lit t h) (off8_lit t h) (B0 m c t.val) (B1 m c t.val) (B2 m c t.val) (B3 m c t.val) (B4 m c t.val) (B5 m c t.val) (B6 m c t.val) (B7 m c t.val) s15 s16  Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [S0]; · iexact S0
  isplitl [S1]; · iexact S1
  isplitl [S2]; · iexists _; iexact S2
  isplitl [S3]; · iexists _; iexact S3
  isplitl [S4]; · iexists _; iexact S4
  iintro ⟨H0, H1, H2, H3, H4, H5, H6, H7, H8, H9, H10, H11, H12, S0, S1, S2, S3, S4⟩
  have hQ := goodQ_step m c t.val s15 _ (off7_at t) (k0_off7_inb (grid0.coords t) h5 h7) _ (by unfold stepQ; rw [if_pos hd, if_neg (by omega)]) (Inv_prevQ m c hI)
  have hR := goodR_step m c t.val s16 _ (off8_at t) (k0_off8_inb (grid0.coords t) h5 h7) _ (by unfold stepR; rw [if_pos hd, if_neg (by omega)]) (Inv_prevR m c hI)
  rw [← glueQ_of m c t.val (by unfold vis; split_ifs <;> omega) _ hQ, ← glueR_of m c t.val (by unfold vis; split_ifs <;> omega) _ hR]
  rw [DK_dia m c hd, DV_dia m c hd, DC_dia m c hd]
  isplitl [S0 S1 S2 S3 S4 Hg]
  · iexists _; iexists _; iexists _; iexists _; iexists _
    isplitr
    swap
    · isplitl [S0]; · iexact S0
      isplitl [S1]; · iexact S1
      isplitl [S2]; · iexact S2
      isplitl [S3]; · iexact S3
      isplitl [S4]; · iexact S4
      iexact Hg
    ipureintro
    exact ⟨hQ, hR, (DK_dia m c hd).symm, (DV_dia m c hd).symm, (DC_dia m c hd).symm⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem body_all (c : Dev nD) (t : Fin cfg0.N) :
    bodyPre m c t ⊢ wp frame (wpE (defs₀ (F := F)) Variants.none c none) Set.univ (bodyAt0 t) (fun _ => bodyPost m c t) := by
  rcases (by omega : t.val % 10 = 0 ∨ (t.val % 10 = 1 ∨ t.val % 10 = 2) ∨ t.val % 10 = 3 ∨ (t.val % 10 = 4 ∨ t.val % 10 = 7)
    ∨ t.val % 10 = 5 ∨ (t.val % 10 = 6 ∨ t.val % 10 = 8) ∨ t.val % 10 = 9) with h | h | h | h | h | h | h
  · exact bodyA m c t h
  · exact bodyB m c t h
  · exact bodyC m c t h
  · exact bodyD m c t h
  · exact bodyE m c t h
  · exact bodyG m c t h
  · exact bodyH m c t h

theorem row_at (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_at]
  exact triple_restated (body_all m c t) rfl .rfl fun _ => .rfl

theorem launch_in (c : Dev nD) : Pipeline.ΦA spec0 c ⊢ (dats m 0 c).Φ 0 := by
  rw [show (dats m 0 c).Φ 0 = Phi m c 0 (Nat.zero_le _) from rfl, PhiA_eq]
  unfold Phi
  iintro ⟨⟨⟨%s15, S0⟩, ⟨%s16, S1⟩, ⟨%s17, S2⟩, ⟨%s18, S3⟩, ⟨%s19, S4⟩⟩, Hg⟩
  iexists s15; iexists s16; iexists s17; iexists s18; iexists s19
  isplitr
  · ipureintro; trivial
  isplitl [S0]; · iexact S0
  isplitl [S1]; · iexact S1
  isplitl [S2]; · iexact S2
  isplitl [S3]; · iexact S3
  isplitl [S4]; · iexact S4
  iexact Hg

theorem launch_out (c : Dev nD) : (dats m 0 c).Φ (Fin.last cfg0.N) ⊢ Pipeline.ΦA spec0 c := by
  rw [show (dats m 0 c).Φ (Fin.last cfg0.N) = Phi m c cfg0.N (Nat.le_refl _) from rfl, PhiA_eq]
  unfold Phi
  iintro ⟨%s15, %s16, %s17, %s18, %s19, -, S0, S1, S2, S3, S4, Hg⟩
  isplitl [S0 S1 S2 S3 S4]
  · isplitl [S0]; · iexists _; iexact S0
    isplitl [S1]; · iexists _; iexact S1
    isplitl [S2]; · iexists _; iexact S2
    isplitl [S3]; · iexists _; iexact S3
    iexists _; iexact S4
  iexact Hg

-- the launch's implicit arguments are found by unifying its conclusion, which takes unfolding plain definitions in types
set_option backward.isDefEq.respectTransparency.types false in
/-- The whole run: the arrays at what the pipeline leaves, the semaphores at zero. -/
theorem run_all : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := launch_in m) (hout := launch_out m)

theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

end Cert.KernelIdeal.Hand

end
-- ==== Proof.FoxMath.lean ====
module

public import Idealize.ShloMosaic.PureOps.Ideal
public import Idealize.ShloMosaic.PureOps.Ideal.Laws
@[expose] public section

noncomputable section

namespace Cert.Fox

open Idealize.ShloMosaic Finset

/-! The forgetting attention and its gradient over the reals. `A` holds queries, keys and values side by side,
    `C` the summed log forget gates, `D` the output's gradient. -/

variable (A C D : ℕ → ℕ → ℝ)

/-- The square root of the head width, as both programs write it. -/
def root : ℝ := 11863283 / 1048576
theorem root_pos : 0 < root := by unfold root; norm_num
theorem root_ne : root ≠ 0 := root_pos.ne'

def q (h t e : ℕ) : ℝ := A t (128 * h + e)
def k (h s e : ℕ) : ℝ := A s (1024 + (128 * h + e))
def v (h s e : ℕ) : ℝ := A s (2048 + (128 * h + e))
def d (h t e : ℕ) : ℝ := D t (128 * h + e)

def qk (h t s : ℕ) : ℝ := ∑ e ∈ range 128, q A h t e * k A h s e
/-- The logits. -/
def z (h t s : ℕ) : ℝ := qk A h t s / root + (C h t - C h s)
/-- The unnormalised weights and their row sums. -/
def w (h t s : ℕ) : ℝ := if s ≤ t then Real.exp (z A C h t s) else 0
def L (h t : ℕ) : ℝ := ∑ s ∈ range 4096, w A C h t s
/-- The probabilities. -/
def p (h t s : ℕ) : ℝ := w A C h t s / L A C h t
/-- The output. -/
def o (h t e : ℕ) : ℝ := ∑ s ∈ range 4096, v A h s e * p A C h t s
/-- The probabilities' gradient, the row's correction, the logits' gradient. -/
def dp (h t s : ℕ) : ℝ := ∑ e ∈ range 128, d D h t e * v A h s e
def dl (h t : ℕ) : ℝ := ∑ e ∈ range 128, d D h t e * o A C h t e
def g (h t s : ℕ) : ℝ := p A C h t s * (dp A D h t s - dl A C D h t)

theorem w_nonneg (h t s : ℕ) : 0 ≤ w A C h t s := by
  unfold w; split_ifs
  · exact (Real.exp_pos _).le
  · exact le_refl _
theorem L_pos (h t : ℕ) (ht : t < 4096) : 0 < L A C h t := by
  unfold L
  refine sum_pos' (fun s _ => w_nonneg A C h t s) ⟨t, mem_range.2 ht, ?_⟩
  unfold w; rw [if_pos le_rfl]; exact Real.exp_pos _
theorem p_zero (h t s : ℕ) (hs : ¬ s ≤ t) : p A C h t s = 0 := by
  unfold p w; rw [if_neg hs, zero_div]
theorem g_zero (h t s : ℕ) (hs : ¬ s ≤ t) : g A C D h t s = 0 := by
  unfold g; rw [p_zero A C h t s hs, zero_mul]
theorem dl_eq (h t : ℕ) : dl A C D h t = ∑ s ∈ range 4096, dp A D h t s * p A C h t s := by
  unfold dl o dp
  simp only [mul_sum, sum_mul]
  rw [sum_comm]
  exact sum_congr rfl fun s _ => sum_congr rfl fun e _ => by ring

/-- The gradients asked for. -/
def dQ (h t e : ℕ) : ℝ := ∑ s ∈ range 4096, g A C D h t s / root * k A h s e
def dK (h s e : ℕ) : ℝ := ∑ t ∈ range 4096, g A C D h t s / root * q A h t e
def dV (h s e : ℕ) : ℝ := ∑ t ∈ range 4096, d D h t e * p A C h t s
def gR (h t : ℕ) : ℝ := ∑ s ∈ range 4096, g A C D h t s
def gC (h s : ℕ) : ℝ := ∑ t ∈ range 4096, g A C D h t s

/-- The reference's form of the logits' gradient: any shift of the exponents cancels. -/
theorem g_ref (h t s : ℕ) (ht : t < 4096) (a : ℝ) (ha : a ≠ 0) :
    (dp A D h t s / (L A C h t * a)
      + -(∑ s' ∈ range 4096, dp A D h t s' * (1 / (L A C h t * a * (L A C h t * a))) * (w A C h t s' * a))) * (w A C h t s * a)
      = g A C D h t s := by
  have hL := (L_pos A C h t ht).ne'
  have e1 : ∑ s' ∈ range 4096, dp A D h t s' * (1 / (L A C h t * a * (L A C h t * a))) * (w A C h t s' * a)
      = dl A C D h t / (L A C h t * a) := by
    rw [dl_eq, sum_div]
    refine sum_congr rfl fun s' _ => ?_
    unfold p; field_simp
  rw [e1]; unfold g p; field_simp; ring

/-- The kernel's probabilities: a power of two of the scaled logits less the row's log sum in base two. -/
theorem p_pow (h t s : ℕ) (ht : t < 4096) (hs : s ≤ t) (M : ℝ) :
    Real.rpow 2 ((qk A h t s + (C h t * root - C h s * root)) * (1048576 / 11863283 * (Real.log 2)⁻¹)
      - (M + Real.log (L A C h t * Real.exp (-M))) / Real.log 2) = p A C h t s := by
  have hL := L_pos A C h t ht
  have h2 : Real.log 2 ≠ 0 := (Real.log_pos (by norm_num)).ne'
  rw [Real.log_mul hL.ne' (Real.exp_pos _).ne', Real.log_exp]
  have e : (qk A h t s + (C h t * root - C h s * root)) * (1048576 / 11863283 * (Real.log 2)⁻¹)
      - (M + (Real.log (L A C h t) + -M)) / Real.log 2 = (z A C h t s - Real.log (L A C h t)) / Real.log 2 := by
    unfold z root; field_simp; ring
  rw [e]
  show (2 : ℝ) ^ ((z A C h t s - Real.log (L A C h t)) / Real.log 2) = _
  rw [Real.rpow_def_of_pos (by norm_num), mul_div_cancel₀ _ h2, Real.exp_sub, Real.exp_log hL]
  unfold p w; rw [if_pos hs]

/-- The forget bias' operands over a head's lanes: one lane holds the value, and three of the other side's hold ones. -/
def qlane (e : ℕ) (x : ℝ) : ℝ := if e = 0 then x else if e < 3 then 0 else if e < 6 then 1 else 0
def klane (e : ℕ) (x : ℝ) : ℝ := if e < 3 then 1 else if e = 3 then -x else 0
theorem lanes (x y : ℝ) : ∑ e ∈ range 128, qlane e x * klane e y = x - y := by
  have h : ∀ e ∈ range 128, qlane e x * klane e y = (if e = 0 then x else 0) + (if e = 3 then -y else 0) := by
    intro e _
    unfold qlane klane
    by_cases h0 : e = 0
    · subst h0; norm_num
    · by_cases h3 : e = 3
      · subst h3; norm_num
      · simp only [if_neg h0, if_neg h3]
        split_ifs <;> simp
  rw [sum_congr rfl h, sum_add_distrib, sum_ite_eq', sum_ite_eq', if_pos (by simp), if_pos (by simp)]; ring

/-- The rows' log sums in base two. -/
def lse (M : ℕ → ℕ → ℝ) (h t : ℕ) : ℝ := (M h t + Real.log (L A C h t * Real.exp (-M h t))) / Real.log 2

/-! Sums of reals among the extended reals. -/

theorem coe_sum {ι : Type} (S : Finset ι) (f : ι → ℝ) : ∑ i ∈ S, ((f i : ℝ) : EReal) = ((∑ i ∈ S, f i : ℝ) : EReal) := by
  classical
  induction S using Finset.induction_on with
  | empty => simp
  | insert a S ha ih => rw [sum_insert ha, sum_insert ha, ih, EReal.coe_add]
theorem esum (n : ℕ) (f : ℕ → ℝ) : ∑ i : Fin n, ((f i.val : ℝ) : EReal) = ((∑ i ∈ range n, f i : ℝ) : EReal) := by
  rw [coe_sum, ← Fin.sum_univ_eq_sum_range]
theorem esum_of (n : ℕ) (F : Fin n → EReal) (f : ℕ → ℝ) (h : ∀ i : Fin n, F i = ((f i.val : ℝ) : EReal)) :
    ∑ i : Fin n, F i = ((∑ i ∈ range n, f i : ℝ) : EReal) := by
  rw [← esum]; exact sum_congr rfl fun i _ => h i
theorem div_coe_coe (x y : ℝ) (hy : y ≠ 0) : Ideal.div (x : EReal) (y : EReal) = ((x / y : ℝ) : EReal) := by
  rw [Ideal.div_coe hy, ← EReal.coe_mul, mul_one_div]
/-- The largest of a row with one finite entry and none infinite upward is finite. -/
theorem fold_max_real {n : ℕ} (f : Fin n → EReal) (i : Fin n) (hi : f i ≠ ⊥) (ht : ∀ j, f j ≠ ⊤) :
    ∃ M : ℝ, (univ : Finset (Fin n)).fold max ⊥ f = (M : EReal) := by
  have h1 : (univ : Finset (Fin n)).fold max ⊥ f ≠ ⊤ :=
    ((Finset.fold_max_lt ⊤).2 ⟨bot_lt_top, fun j _ => lt_top_iff_ne_top.2 (ht j)⟩).ne
  have h2 : (univ : Finset (Fin n)).fold max ⊥ f ≠ ⊥ := by
    have : f i ≤ (univ : Finset (Fin n)).fold max ⊥ f := (Finset.le_fold_max _).2 (Or.inr ⟨i, mem_univ _, le_rfl⟩)
    intro h; rw [h] at this; exact hi (le_bot_iff.1 this)
  exact ⟨_, (EReal.coe_toReal h1 h2).symm⟩

/-- A sum over the rows up to a block's end, from the sum up to its start and the block's own. -/
theorem range_block (f : ℕ → ℝ) (b : ℕ) :
    ∑ i ∈ range (1024 * (b + 1)), f i = ∑ i ∈ range (1024 * b), f i + ∑ i ∈ range 1024, f (1024 * b + i) := by
  rw [show 1024 * (b + 1) = 1024 * b + 1024 by ring, sum_range_add]

end Cert.Fox

end
-- ==== Proof.ReferenceIdealValue.lean ====
module

public import proofs.«01_k».proof.Proof.Gen.ReferenceIdeal.Read
public import proofs.«01_k».proof.Proof.FoxMath
public import Idealize.ShloMosaic.Lib.WordCmp
public import Idealize.ShloMosaic.Lib.IdealHost
public import Idealize.ShloMosaic.Lib.ReduceAll
public import Idealize.ShloMosaic.Lib.Pointwise.Tactic
@[expose] public section

set_option maxRecDepth 16384

noncomputable section

/-! The reference's values over the reals, one operation after another, for finite arguments. -/

namespace Cert.ReferenceIdeal.Hand

open Cert.ReferenceIdeal Cert.ReferenceIdeal.Gen Cert.ReferenceIdeal.Read
open Idealize.ShloMosaic Cert.Fox Finset

variable (A C D : ℕ → ℕ → ℝ)
variable (x0 : (⟨S4096x3072, .f32⟩ : BufTy).Contents (Elt Ideal)) (x1 : (⟨S8x4096, .f32⟩ : BufTy).Contents (Elt Ideal))
  (x2 : (⟨S4096x1024, .f32⟩ : BufTy).Contents (Elt Ideal))

/-- The arguments hold the reals `A`, `C`, `D`. -/
def IsA : Prop := ∀ i : S4096x3072.Idx, (show EReal from x0 i) = ((A (i 0).val (i 1).val : ℝ) : EReal)
def IsC : Prop := ∀ i : S8x4096.Idx, (show EReal from x1 i) = ((C (i 0).val (i 1).val : ℝ) : EReal)
def IsD : Prop := ∀ i : S4096x1024.Idx, (show EReal from x2 i) = ((D (i 0).val (i 1).val : ℝ) : EReal)

theorem sel_sle (a b : ℕ) (ha : a < 4096) (hb : b < 4096) (x y : EReal) :
    Scalar.select (IntOp.cmpi .sle (BitVec.ofNat 32 a) (BitVec.ofNat 32 b)) x y = if a ≤ b then x else y := by
  have h := WordCmp.cmpi_sle_ofNat_eq_one_iff (w := 32) (a := a) (b := b) (by omega) (by omega)
  unfold Scalar.select
  by_cases hab : a ≤ b
  · rw [if_pos hab, h.2 hab]; rfl
  · rw [if_neg hab]
    have : ¬ IntOp.cmpi .sle (BitVec.ofNat 32 a) (BitVec.ofNat 32 b) = 1#1 := fun e => hab (h.1 e)
    first
      | exact if_neg this
      | simp [this]

theorem cE {x y : ℝ} (h : x = y) : (x : EReal) = (y : EReal) := congrArg _ h

theorem ofBits_root : Ideal.ofBits .f32 0x413504F3#32 = ((root : ℝ) : EReal) := by
  unfold root
  simp [Ideal.ofBits, Ideal.ieee, -EReal.coe_mul]; norm_num
theorem ofBits_bot : Ideal.ofBits .f32 0xFF800000#32 = (⊥ : EReal) := by
  simp [Ideal.ofBits, Ideal.ieee]

section
variable {A x0} (hA : IsA A x0)
include hA
theorem v3 (i : S4096x8x128.Idx) : (show EReal from val_main_v3 (F := Ideal) x0 i) = ((q A (i 1).val (i 0).val (i 2).val : ℝ) : EReal) := by
  have h0 : (i 0).val < 4096 := (i 0).isLt
  have h1 : (i 1).val < 8 := (i 1).isLt
  have h2 : (i 2).val < 128 := (i 2).isLt
  rw [val_main_v3_apply, val_main_v0_apply]
  refine (hA _).trans (cE (congrArg₂ A ?_ ?_))
  · show (((i 0).val * 8 + (i 1).val) * 128 + (i 2).val) / 1024 = (i 0).val; omega
  · show (((i 0).val * 8 + (i 1).val) * 128 + (i 2).val) % 1024 = 128 * (i 1).val + (i 2).val; omega
theorem v4 (i : S4096x8x128.Idx) : (show EReal from val_main_v4 (F := Ideal) x0 i) = ((k A (i 1).val (i 0).val (i 2).val : ℝ) : EReal) := by
  have h0 : (i 0).val < 4096 := (i 0).isLt
  have h1 : (i 1).val < 8 := (i 1).isLt
  have h2 : (i 2).val < 128 := (i 2).isLt
  rw [val_main_v4_apply, val_main_v1_apply]
  refine (hA _).trans (cE (congrArg₂ A ?_ ?_))
  · show (((i 0).val * 8 + (i 1).val) * 128 + (i 2).val) / 1024 = (i 0).val; omega
  · show 1024 + (((i 0).val * 8 + (i 1).val) * 128 + (i 2).val) % 1024 = 1024 + (128 * (i 1).val + (i 2).val); omega
theorem v5 (i : S4096x8x128.Idx) : (show EReal from val_main_v5 (F := Ideal) x0 i) = ((v A (i 1).val (i 0).val (i 2).val : ℝ) : EReal) := by
  have h0 : (i 0).val < 4096 := (i 0).isLt
  have h1 : (i 1).val < 8 := (i 1).isLt
  have h2 : (i 2).val < 128 := (i 2).isLt
  rw [val_main_v5_apply, val_main_v2_apply]
  refine (hA _).trans (cE (congrArg₂ A ?_ ?_))
  · show (((i 0).val * 8 + (i 1).val) * 128 + (i 2).val) / 1024 = (i 0).val; omega
  · show 2048 + (((i 0).val * 8 + (i 1).val) * 128 + (i 2).val) % 1024 = 2048 + (128 * (i 1).val + (i 2).val); omega
theorem v6 (i : S8x4096x4096.Idx) : (show EReal from val_main_v6 (F := Ideal) x0 i) = ((qk A (i 0).val (i 1).val (i 2).val : ℝ) : EReal) := by
  rw [val_main_v6_apply]
  refine esum_of 128 _ (fun e => q A (i 0).val (i 1).val e * k A (i 0).val (i 2).val e) fun e => ?_
  exact (congrArg₂ (fun a b : EReal => a * b) (v3 hA _) (v4 hA _)).trans (EReal.coe_mul _ _).symm
theorem v8 (i : S8x4096x4096.Idx) : (show EReal from val_main_v8 (F := Ideal) x0 i) = ((qk A (i 0).val (i 1).val (i 2).val / root : ℝ) : EReal) := by
  rw [val_main_v8_apply, val_main_v7_apply, val_main_cst_apply]
  show Ideal.div (val_main_v6 (F := Ideal) x0 i) (Ideal.ofBits .f32 0x413504F3#32) = _
  rw [ofBits_root, ← div_coe_coe _ _ root_ne]
  exact congrArg (fun a => Ideal.div a _) (v6 hA i)
end

section
variable {C x1} (hC : IsC C x1)
include hC
theorem v13 (i : S8x4096x4096.Idx) : (show EReal from val_main_v13 (F := Ideal) x1 i) = ((C (i 0).val (i 1).val - C (i 0).val (i 2).val : ℝ) : EReal) := by
  rw [val_main_v13_apply, val_main_v11_apply, val_main_v12_apply, val_main_v9_apply, val_main_v10_apply]
  exact (congrArg₂ (fun a b : EReal => a - b) (hC _) (hC _)).trans (EReal.coe_sub _ _).symm
end

section
variable {A C x0 x1} (hA : IsA A x0) (hC : IsC C x1)
include hA hC
theorem v14 (i : S8x4096x4096.Idx) : (show EReal from val_main_v14 (F := Ideal) x0 x1 i) = ((z A C (i 0).val (i 1).val (i 2).val : ℝ) : EReal) := by
  rw [val_main_v14_apply]
  exact (congrArg₂ (fun a b : EReal => a + b) (v8 hA i) (v13 hC i)).trans (EReal.coe_add _ _).symm
end

theorem v21 (i : S8x4096x4096.Idx) (x y : EReal) : Scalar.select (val_main_v21 (F := Ideal) i) x y = if (i 2).val ≤ (i 1).val then x else y := by
  rw [val_main_v21_apply, val_main_v20_apply, val_main_v18_apply, val_main_v19_apply, val_main_v16_apply, val_main_v17_apply, val_main_v15_apply, val_main_v15_apply]
  exact sel_sle (i 2).val (i 1).val (i 2).isLt (i 1).isLt x y

section
variable {A C x0 x1} (hA : IsA A x0) (hC : IsC C x1)
include hA hC
theorem v23 (i : S8x4096x4096.Idx) : (show EReal from val_main_v23 (F := Ideal) x0 x1 i)
    = if (i 2).val ≤ (i 1).val then ((z A C (i 0).val (i 1).val (i 2).val : ℝ) : EReal) else ⊥ := by
  rw [val_main_v23_apply, val_main_v22_apply, val_main_cst_0_apply]
  refine (v21 i _ _).trans ?_
  show (if (i 2).val ≤ (i 1).val then (show EReal from val_main_v14 (F := Ideal) x0 x1 i) else Ideal.ofBits .f32 0xFF800000#32) = _
  rw [ofBits_bot, v14 hA hC i]
end

/-- The rows' largest logits. -/
def Mx (h t : ℕ) : ℝ := if hh : h < 8 ∧ t < 4096 then
  EReal.toReal (show EReal from val_main_v25 (F := Ideal) x0 x1 (ix2 ⟨h, hh.1⟩ ⟨t, hh.2⟩)) else 0

section
variable {A C x0 x1} (hA : IsA A x0) (hC : IsC C x1)
include hA hC
theorem v25_real (i : S8x4096.Idx) : ∃ M : ℝ, (show EReal from val_main_v25 (F := Ideal) x0 x1 i) = (M : EReal) := by
  have hh : S8x4096x4096.Reduces [2] S8x4096 := by decide
  have e : (show EReal from val_main_v25 (F := Ideal) x0 x1 i) = _ := Host.reduce_eq_fold_single (f := (FloatOps.maximumf : Ideal .f32 → Ideal .f32 → Ideal .f32)) (val_main_v23 (F := Ideal) x0 x1) (val_main_cst_2 (F := Ideal)) reducesTo_S8x4096x4096_S8x4096_d2 hh h_S_ i
  rw [e]
  have hb : (show EReal from val_main_cst_2 (F := Ideal) (Shape.Idx.first h_S_)) = ⊥ := ofBits_bot
  obtain ⟨M, hM⟩ := fold_max_real (n := 4096) (fun s => (show EReal from val_main_v23 (F := Ideal) x0 x1 (hh.lift i s))) (i 1) (by
      refine ne_of_eq_of_ne (v23 hA hC _) ?_
      rw [if_pos (show (hh.lift i (i 1) 2).val ≤ (hh.lift i (i 1) 1).val from le_refl _)]; exact EReal.coe_ne_bot _) (fun s => by
      refine ne_of_eq_of_ne (v23 hA hC _) ?_
      split_ifs
      · exact EReal.coe_ne_top _
      · exact bot_ne_top)
  refine ⟨M, Eq.trans ?_ hM⟩
  exact congrArg (fun b : EReal => (Finset.univ : Finset (Fin 4096)).fold max b (fun s => (show EReal from val_main_v23 (F := Ideal) x0 x1 (hh.lift i s)))) hb
theorem v25 (i : S8x4096.Idx) : (show EReal from val_main_v25 (F := Ideal) x0 x1 i) = ((Mx x0 x1 (i 0).val (i 1).val : ℝ) : EReal) := by
  obtain ⟨M, hM⟩ := v25_real hA hC i
  have e : ix2 (i 0) (i 1) = i := by funext a; match a with | ⟨0, _⟩ => rfl | ⟨1, _⟩ => rfl
  rw [hM]; refine cE ?_
  unfold Mx
  rw [dif_pos ⟨(i 0).isLt, (i 1).isLt⟩]
  have e2 : (ix2 ⟨(i 0).val, (i 0).isLt⟩ ⟨(i 1).val, (i 1).isLt⟩ : S8x4096.Idx) = i := e
  rw [e2]
  show M = EReal.toReal (show EReal from val_main_v25 (F := Ideal) x0 x1 i)
  rw [hM, EReal.toReal_coe]
theorem v32 (i : S8x4096.Idx) : (show EReal from val_main_v32 (F := Ideal) x0 x1 i) = ((Mx x0 x1 (i 0).val (i 1).val : ℝ) : EReal) := by
  rw [val_main_v32_apply, val_main_v31_apply, val_main_cst_4_apply]
  refine Eq.trans ?_ (v25 hA hC i)
  exact (congrArg (fun b : EReal => max b (show EReal from val_main_v25 (F := Ideal) x0 x1 i)) ofBits_bot).trans (max_eq_right bot_le)
theorem v45 (i : S8x4096x4096.Idx) : (show EReal from val_main_v45 (F := Ideal) x0 x1 i)
    = ((w A C (i 0).val (i 1).val (i 2).val * Real.exp (-Mx x0 x1 (i 0).val (i 1).val) : ℝ) : EReal) := by
  rw [val_main_v45_apply, val_main_v44_apply, val_main_v43_apply, val_main_v42_apply]
  show Ideal.exp ((show EReal from val_main_v23 (F := Ideal) x0 x1 i) - (show EReal from val_main_v32 (F := Ideal) x0 x1 _)) = _
  rw [v23 hA hC i, v32 hA hC]
  unfold w
  split_ifs with h
  · rw [← EReal.coe_sub, Ideal.exp_coe]; refine cE ?_
    rw [← Real.exp_add]; rfl
  · rw [EReal.bot_sub, Ideal.exp_bot, zero_mul]; rfl
theorem v46 (i : S8x4096.Idx) : (show EReal from val_main_v46 (F := Ideal) x0 x1 i)
    = ((L A C (i 0).val (i 1).val * Real.exp (-Mx x0 x1 (i 0).val (i 1).val) : ℝ) : EReal) := by
  rw [val_main_v46_apply, val_main_cst_10_apply]
  have e0 : (show EReal from (FloatOps.ofBits .f32 0x00000000#32 : Ideal .f32)) = 0 := Ideal.ofBits_zero_f32
  have e1 := esum_of 4096 (fun s => (show EReal from val_main_v45 (F := Ideal) x0 x1 (idx_main_v46 i s))) (fun s => w A C (i 0).val (i 1).val s * Real.exp (-Mx x0 x1 (i 0).val (i 1).val)) (fun s => v45 hA hC _)
  refine ((congrArg₂ (fun a b : EReal => a + b) e0 e1).trans (zero_add _)).trans (cE ?_)
  unfold L; rw [sum_mul]
theorem v47 (i : S8x4096x1.Idx) : (show EReal from val_main_v47 (F := Ideal) x0 x1 i)
    = ((L A C (i 0).val (i 1).val * Real.exp (-Mx x0 x1 (i 0).val (i 1).val) : ℝ) : EReal) := by
  rw [val_main_v47_apply]; exact v46 hA hC _
omit hA hC in
theorem La_ne (h t : ℕ) (ht : t < 4096) : L A C h t * Real.exp (-Mx x0 x1 h t) ≠ 0 :=
  mul_ne_zero (L_pos A C h t ht).ne' (Real.exp_pos _).ne'
theorem v49 (i : S8x4096x4096.Idx) : (show EReal from val_main_v49 (F := Ideal) x0 x1 i) = ((p A C (i 0).val (i 1).val (i 2).val : ℝ) : EReal) := by
  rw [val_main_v49_apply, val_main_v48_apply]
  refine (congrArg₂ (fun a b : EReal => Ideal.div a b) (v45 hA hC i) (v47 hA hC _)).trans ?_
  refine (div_coe_coe _ _ (La_ne _ _ (i 1).isLt)).trans (cE ?_)
  exact mul_div_mul_right _ _ (Real.exp_pos _).ne'
theorem v54 (i : S4096x8x128.Idx) : (show EReal from val_main_v54 (F := Ideal) x0 x1 i) = ((o A C (i 1).val (i 0).val (i 2).val : ℝ) : EReal) := by
  rw [val_main_v54_apply, val_main_v53_apply]
  refine esum_of 4096 _ (fun s => v A (i 1).val s (i 2).val * p A C (i 1).val (i 0).val s) fun s => ?_
  exact (congrArg₂ (fun a b : EReal => a * b) (v5 hA _) (v49 hA hC _)).trans (EReal.coe_mul _ _).symm
theorem v52 (i : S8x4096x1.Idx) : (show EReal from val_main_v52 (F := Ideal) x0 x1 i)
    = ((1 / (L A C (i 0).val (i 1).val * Real.exp (-Mx x0 x1 (i 0).val (i 1).val) * (L A C (i 0).val (i 1).val * Real.exp (-Mx x0 x1 (i 0).val (i 1).val))) : ℝ) : EReal) := by
  rw [val_main_v52_apply, val_main_v51_apply, val_main_cst_11_apply, val_main_v50_apply]
  have e1 : (show EReal from (FloatOps.ofBits .f32 0x3F800000#32 : Ideal .f32)) = ((1 : ℝ) : EReal) := Ideal.ofBits_one_f32
  have e2 := (congrArg₂ (fun a b : EReal => a * b) (v47 hA hC i) (v47 hA hC i)).trans (EReal.coe_mul _ _).symm
  refine (congrArg₂ (fun a b : EReal => Ideal.div a b) e1 e2).trans ?_
  exact div_coe_coe _ _ (mul_ne_zero (La_ne _ _ (i 1).isLt) (La_ne _ _ (i 1).isLt))
end

section
variable {A C D x0 x1 x2} (hA : IsA A x0) (hC : IsC C x1) (hD : IsD D x2)
include hD in
theorem v55 (i : S4096x8x128.Idx) : (show EReal from val_main_v55 (F := Ideal) x2 i) = ((d D (i 1).val (i 0).val (i 2).val : ℝ) : EReal) := by
  have h0 : (i 0).val < 4096 := (i 0).isLt
  have h1 : (i 1).val < 8 := (i 1).isLt
  have h2 : (i 2).val < 128 := (i 2).isLt
  rw [val_main_v55_apply]
  refine (hD _).trans (cE (congrArg₂ D ?_ ?_))
  · show (((i 0).val * 8 + (i 1).val) * 128 + (i 2).val) / 1024 = (i 0).val; omega
  · show (((i 0).val * 8 + (i 1).val) * 128 + (i 2).val) % 1024 = 128 * (i 1).val + (i 2).val; omega
include hD in
theorem v56 (i : S8x128x4096.Idx) : (show EReal from val_main_v56 (F := Ideal) x2 i) = ((d D (i 0).val (i 2).val (i 1).val : ℝ) : EReal) := by
  rw [val_main_v56_apply]; exact v55 hD _
include hA hD in
theorem v57 (i : S8x4096x4096.Idx) : (show EReal from val_main_v57 (F := Ideal) x0 x2 i) = ((dp A D (i 0).val (i 1).val (i 2).val : ℝ) : EReal) := by
  rw [val_main_v57_apply]
  refine esum_of 128 _ (fun e => d D (i 0).val (i 1).val e * v A (i 0).val (i 2).val e) fun e => ?_
  exact (congrArg₂ (fun a b : EReal => a * b) (v56 hD _) (v5 hA _)).trans (EReal.coe_mul _ _).symm
include hA hC hD
theorem v59 (i : S4096x8x128.Idx) : (show EReal from val_main_v59 (F := Ideal) x0 x1 x2 i) = ((dV A C D (i 1).val (i 0).val (i 2).val : ℝ) : EReal) := by
  rw [val_main_v59_apply, val_main_v58_apply]
  refine esum_of 4096 _ (fun t => d D (i 1).val t (i 2).val * p A C (i 1).val t (i 0).val) fun t => ?_
  exact (congrArg₂ (fun a b : EReal => a * b) (v56 hD _) (v49 hA hC _)).trans (EReal.coe_mul _ _).symm
theorem v62 (i : S8x4096x4096.Idx) : (show EReal from val_main_v62 (F := Ideal) x0 x1 x2 i)
    = ((dp A D (i 0).val (i 1).val (i 2).val
        * (1 / (L A C (i 0).val (i 1).val * Real.exp (-Mx x0 x1 (i 0).val (i 1).val) * (L A C (i 0).val (i 1).val * Real.exp (-Mx x0 x1 (i 0).val (i 1).val))))
        * (w A C (i 0).val (i 1).val (i 2).val * Real.exp (-Mx x0 x1 (i 0).val (i 1).val)) : ℝ) : EReal) := by
  rw [val_main_v62_apply, val_main_v61_apply, val_main_v60_apply]
  have e1 := (congrArg₂ (fun a b : EReal => a * b) (v57 hA hD i) (v52 hA hC (idx_main_v60 i))).trans (EReal.coe_mul _ _).symm
  exact (congrArg₂ (fun a b : EReal => a * b) e1 (v45 hA hC i)).trans (EReal.coe_mul _ _).symm
theorem v65 (i : S8x4096x1.Idx) : (show EReal from val_main_v65 (F := Ideal) x0 x1 x2 i)
    = ((-(∑ s ∈ range 4096, dp A D (i 0).val (i 1).val s
        * (1 / (L A C (i 0).val (i 1).val * Real.exp (-Mx x0 x1 (i 0).val (i 1).val) * (L A C (i 0).val (i 1).val * Real.exp (-Mx x0 x1 (i 0).val (i 1).val))))
        * (w A C (i 0).val (i 1).val s * Real.exp (-Mx x0 x1 (i 0).val (i 1).val))) : ℝ) : EReal) := by
  have hi0 : (i 0).val < 8 := (i 0).isLt
  have hi1 : (i 1).val < 4096 := (i 1).isLt
  have hi2 : (i 2).val < 1 := (i 2).isLt
  have e : (idx_main_v64 i) = (ix2 (i 0) (i 1) : S8x4096.Idx) := by
    funext a
    match a with
    | ⟨0, _⟩ => refine Fin.ext ?_; show (((i 0).val * 4096 + (i 1).val) * 1 + (i 2).val) / 4096 = (i 0).val; omega
    | ⟨1, _⟩ => refine Fin.ext ?_; show (((i 0).val * 4096 + (i 1).val) * 1 + (i 2).val) % 4096 = (i 1).val; omega
  rw [val_main_v65_apply, val_main_v64_apply, e, val_main_v63_apply, val_main_cst_12_apply]
  have e0 : (show EReal from (FloatOps.ofBits .f32 0x00000000#32 : Ideal .f32)) = 0 := Ideal.ofBits_zero_f32
  have e1 := esum_of 4096 (fun s => (show EReal from val_main_v62 (F := Ideal) x0 x1 x2 (idx_main_v63 (ix2 (i 0) (i 1)) s))) (fun s => dp A D (i 0).val (i 1).val s * (1 / (L A C (i 0).val (i 1).val * Real.exp (-Mx x0 x1 (i 0).val (i 1).val) * (L A C (i 0).val (i 1).val * Real.exp (-Mx x0 x1 (i 0).val (i 1).val)))) * (w A C (i 0).val (i 1).val s * Real.exp (-Mx x0 x1 (i 0).val (i 1).val))) (fun s => v62 hA hC hD _)
  have e2 := (congrArg₂ (fun a b : EReal => a + b) e0 e1).trans (zero_add _)
  exact (congrArg (fun a : EReal => -a) e2).trans (EReal.coe_neg _).symm
theorem v71 (i : S8x4096x4096.Idx) : (show EReal from val_main_v71 (F := Ideal) x0 x1 x2 i) = ((g A C D (i 0).val (i 1).val (i 2).val : ℝ) : EReal) := by
  rw [val_main_v71_apply, val_main_v70_apply, val_main_v69_apply, val_main_v68_apply, val_main_cst_13_apply, val_main_v67_apply, val_main_v66_apply]
  have e0 : (show EReal from (FloatOps.ofBits .f32 0x00000000#32 : Ideal .f32)) = 0 := Ideal.ofBits_zero_f32
  have e1 := esum_of 1 (fun s => (show EReal from val_main_v65 (F := Ideal) x0 x1 x2 (idx_main_v68 (idx_main_v69 i) s))) (fun _ => -(∑ s ∈ range 4096, dp A D (i 0).val (i 1).val s * (1 / (L A C (i 0).val (i 1).val * Real.exp (-Mx x0 x1 (i 0).val (i 1).val) * (L A C (i 0).val (i 1).val * Real.exp (-Mx x0 x1 (i 0).val (i 1).val)))) * (w A C (i 0).val (i 1).val s * Real.exp (-Mx x0 x1 (i 0).val (i 1).val)))) (fun s => v65 hA hC hD _)
  have e2 := (congrArg₂ (fun a b : EReal => a + b) e0 e1).trans (zero_add _)
  have e3 := (congrArg₂ (fun a b : EReal => Ideal.div a b) (v57 hA hD i) (v47 hA hC (idx_main_v66 i))).trans (div_coe_coe _ _ (La_ne _ _ (i 1).isLt))
  have e4 := (congrArg₂ (fun a b : EReal => a + b) e3 e2).trans (EReal.coe_add _ _).symm
  refine ((congrArg₂ (fun a b : EReal => a * b) e4 (v45 hA hC i)).trans (EReal.coe_mul _ _).symm).trans (cE ?_)
  rw [sum_range_one]
  exact g_ref A C D (i 0).val (i 1).val (i 2).val (i 1).isLt _ (Real.exp_pos _).ne'
theorem v73 (i : S8x4096x4096.Idx) : (show EReal from val_main_v73 (F := Ideal) x0 x1 x2 i) = ((g A C D (i 0).val (i 1).val (i 2).val : ℝ) : EReal) := by
  rw [val_main_v73_apply, val_main_v72_apply, val_main_cst_14_apply]
  refine (v21 i _ _).trans ?_
  split_ifs with h
  · exact v71 hA hC hD i
  · rw [g_zero A C D _ _ _ h]; exact Ideal.ofBits_zero_f32
theorem v80 (i : S8x4096.Idx) : (show EReal from val_main_v80 (F := Ideal) x0 x1 x2 i) = ((gR A C D (i 0).val (i 1).val : ℝ) : EReal) := by
  have hi0 : (i 0).val < 8 := (i 0).isLt
  have hi1 : (i 1).val < 4096 := (i 1).isLt
  have e0 : (show EReal from (FloatOps.ofBits .f32 0x00000000#32 : Ideal .f32)) = 0 := Ideal.ofBits_zero_f32
  have h75 : ∀ j : S8x4096x1.Idx, (show EReal from val_main_v75 (F := Ideal) x0 x1 x2 j) = ((gR A C D (j 0).val (j 1).val : ℝ) : EReal) := by
    intro j
    have hj0 : (j 0).val < 8 := (j 0).isLt
    have hj1 : (j 1).val < 4096 := (j 1).isLt
    have hj2 : (j 2).val < 1 := (j 2).isLt
    have e : (idx_main_v75 j) = (ix2 (j 0) (j 1) : S8x4096.Idx) := by
      funext a
      match a with
      | ⟨0, _⟩ => refine Fin.ext ?_; show (((j 0).val * 4096 + (j 1).val) * 1 + (j 2).val) / 4096 = (j 0).val; omega
      | ⟨1, _⟩ => refine Fin.ext ?_; show (((j 0).val * 4096 + (j 1).val) * 1 + (j 2).val) % 4096 = (j 1).val; omega
    rw [val_main_v75_apply, e, val_main_v74_apply, val_main_cst_15_apply]
    have e1 := esum_of 4096 (fun s => (show EReal from val_main_v73 (F := Ideal) x0 x1 x2 (idx_main_v74 (ix2 (j 0) (j 1)) s))) (fun s => g A C D (j 0).val (j 1).val s) (fun s => v73 hA hC hD _)
    exact (congrArg₂ (fun a b : EReal => a + b) e0 e1).trans (zero_add _)
  rw [val_main_v80_apply, val_main_cst_18_apply]
  have e1 := esum_of 1 (fun s => (show EReal from val_main_v75 (F := Ideal) x0 x1 x2 (idx_main_v80 i s))) (fun _ => gR A C D (i 0).val (i 1).val) (fun s => h75 _)
  refine ((congrArg₂ (fun a b : EReal => a + b) e0 e1).trans (zero_add _)).trans (cE ?_)
  exact sum_range_one _
theorem v97 (i : S8x4096.Idx) : (show EReal from val_main_v97 (F := Ideal) x0 x1 x2 i) = ((gC A C D (i 0).val (i 1).val : ℝ) : EReal) := by
  have e0 : (show EReal from (FloatOps.ofBits .f32 0x00000000#32 : Ideal .f32)) = 0 := Ideal.ofBits_zero_f32
  have h76 : ∀ j : S8x4096x4096.Idx, (show EReal from val_main_v76 (F := Ideal) x0 x1 x2 j) = ((-g A C D (j 0).val (j 1).val (j 2).val : ℝ) : EReal) := by
    intro j
    rw [val_main_v76_apply]
    exact (congrArg (fun a : EReal => -a) (v73 hA hC hD j)).trans (EReal.coe_neg _).symm
  have h78 : ∀ j : S8x1x4096.Idx, (show EReal from val_main_v78 (F := Ideal) x0 x1 x2 j) = ((∑ t ∈ range 4096, -g A C D (j 0).val t (j 2).val : ℝ) : EReal) := by
    intro j
    have hj0 : (j 0).val < 8 := (j 0).isLt
    have hj1 : (j 1).val < 1 := (j 1).isLt
    have hj2 : (j 2).val < 4096 := (j 2).isLt
    have e : (idx_main_v78 j) = (ix2 (j 0) (j 2) : S8x4096.Idx) := by
      funext a
      match a with
      | ⟨0, _⟩ => refine Fin.ext ?_; show (((j 0).val * 1 + (j 1).val) * 4096 + (j 2).val) / 4096 = (j 0).val; omega
      | ⟨1, _⟩ => refine Fin.ext ?_; show (((j 0).val * 1 + (j 1).val) * 4096 + (j 2).val) % 4096 = (j 2).val; omega
    rw [val_main_v78_apply, e, val_main_v77_apply, val_main_cst_16_apply]
    have e1 := esum_of 4096 (fun s => (show EReal from val_main_v76 (F := Ideal) x0 x1 x2 (idx_main_v77 (ix2 (j 0) (j 2)) s))) (fun t => -g A C D (j 0).val t (j 2).val) (fun s => h76 _)
    exact (congrArg₂ (fun a b : EReal => a + b) e0 e1).trans (zero_add _)
  rw [val_main_v97_apply, val_main_v79_apply, val_main_cst_17_apply]
  have e1 := esum_of 1 (fun s => (show EReal from val_main_v78 (F := Ideal) x0 x1 x2 (idx_main_v79 i s))) (fun _ => ∑ t ∈ range 4096, -g A C D (i 0).val t (i 1).val) (fun s => h78 _)
  have e2 := (congrArg₂ (fun a b : EReal => a + b) e0 e1).trans (zero_add _)
  refine ((congrArg (fun a : EReal => -a) e2).trans (EReal.coe_neg _).symm).trans (cE ?_)
  rw [sum_range_one, sum_neg_distrib, neg_neg]; rfl
theorem v82 (i : S8x4096x4096.Idx) : (show EReal from val_main_v82 (F := Ideal) x0 x1 x2 i) = ((g A C D (i 0).val (i 1).val (i 2).val / root : ℝ) : EReal) := by
  rw [val_main_v82_apply, val_main_v81_apply, val_main_cst_19_apply]
  exact (congrArg₂ (fun a b : EReal => Ideal.div a b) (v73 hA hC hD i) ofBits_root).trans (div_coe_coe _ _ root_ne)
theorem v84 (i : S4096x8x128.Idx) : (show EReal from val_main_v84 (F := Ideal) x0 x1 x2 i) = ((dK A C D (i 1).val (i 0).val (i 2).val : ℝ) : EReal) := by
  rw [val_main_v84_apply, val_main_v83_apply]
  refine esum_of 4096 _ (fun t => g A C D (i 1).val t (i 0).val / root * q A (i 1).val t (i 2).val) fun t => ?_
  exact (congrArg₂ (fun a b : EReal => a * b) (v82 hA hC hD _) (v3 hA _)).trans (EReal.coe_mul _ _).symm
theorem v86 (i : S4096x8x128.Idx) : (show EReal from val_main_v86 (F := Ideal) x0 x1 x2 i) = ((dQ A C D (i 1).val (i 0).val (i 2).val : ℝ) : EReal) := by
  rw [val_main_v86_apply, val_main_v85_apply]
  refine esum_of 4096 _ (fun s => g A C D (i 1).val (i 0).val s / root * k A (i 1).val s (i 2).val) fun t => ?_
  exact (congrArg₂ (fun a b : EReal => a * b) (v82 hA hC hD _) (v4 hA _)).trans (EReal.coe_mul _ _).symm

/-! The five results. -/
theorem v92 (i : S4096x1024.Idx) : (show EReal from val_main_v92 (F := Ideal) x0 x1 x2 i) = ((dQ A C D ((i 1).val / 128) (i 0).val ((i 1).val % 128) : ℝ) : EReal) := by
  have h0 : (i 0).val < 4096 := (i 0).isLt
  have h1 : (i 1).val < 1024 := (i 1).isLt
  rw [val_main_v92_apply, val_main_v91_apply]
  refine (v86 hA hC hD _).trans (cE ?_)
  show dQ A C D (((i 0).val * 1024 + (i 1).val) / 128 % 8) (((i 0).val * 1024 + (i 1).val) / 1024) (((i 0).val * 1024 + (i 1).val) % 128) = _
  congr 1 <;> omega
theorem v94 (i : S4096x1024.Idx) : (show EReal from val_main_v94 (F := Ideal) x0 x1 x2 i) = ((dK A C D ((i 1).val / 128) (i 0).val ((i 1).val % 128) : ℝ) : EReal) := by
  have h0 : (i 0).val < 4096 := (i 0).isLt
  have h1 : (i 1).val < 1024 := (i 1).isLt
  rw [val_main_v94_apply, val_main_v93_apply]
  refine (v84 hA hC hD _).trans (cE ?_)
  show dK A C D (((i 0).val * 1024 + (i 1).val) / 128 % 8) (((i 0).val * 1024 + (i 1).val) / 1024) (((i 0).val * 1024 + (i 1).val) % 128) = _
  congr 1 <;> omega
theorem v96 (i : S4096x1024.Idx) : (show EReal from val_main_v96 (F := Ideal) x0 x1 x2 i) = ((dV A C D ((i 1).val / 128) (i 0).val ((i 1).val % 128) : ℝ) : EReal) := by
  have h0 : (i 0).val < 4096 := (i 0).isLt
  have h1 : (i 1).val < 1024 := (i 1).isLt
  rw [val_main_v96_apply, val_main_v95_apply]
  refine (v59 hA hC hD _).trans (cE ?_)
  show dV A C D (((i 0).val * 1024 + (i 1).val) / 128 % 8) (((i 0).val * 1024 + (i 1).val) / 1024) (((i 0).val * 1024 + (i 1).val) % 128) = _
  congr 1 <;> omega
theorem v90 (i : S4096x1024.Idx) : (show EReal from val_main_v90 (F := Ideal) x0 x1 x2 i) = ((gR A C D ((i 1).val / 128) (i 0).val : ℝ) : EReal) := by
  have h0 : (i 0).val < 4096 := (i 0).isLt
  have h1 : (i 1).val < 1024 := (i 1).isLt
  rw [val_main_v90_apply, val_main_v89_apply, val_main_v88_apply, val_main_v87_apply]
  refine (v80 hA hC hD _).trans (cE ?_)
  show gR A C D (((i 0).val * 1024 + (i 1).val) / 128 % 8) (((i 0).val * 1024 + (i 1).val) / 1024) = _
  congr 1 <;> omega
theorem v98 (i : S8x1x4096.Idx) : (show EReal from val_main_v98 (F := Ideal) x0 x1 x2 i) = ((gC A C D (i 0).val (i 2).val : ℝ) : EReal) := by
  rw [val_main_v98_apply]
  exact v97 hA hC hD _
end

end Cert.ReferenceIdeal.Hand

end
-- ==== Proof.KernelIdealHost.lean ====
module
public import proofs.«01_k».proof.Proof.Gen.KernelIdeal.Frame
public import proofs.«01_k».proof.Proof.ReferenceIdealValue
public import Idealize.ShloMosaic.Lib.StableHlo.ReadAt
public import Idealize.ShloMosaic.Lib.Pointwise.Tactic
@[expose] public section
set_option maxRecDepth 16384
noncomputable section

/-! What the kernel's host operations leave in the windows' arrays, over the reals. -/

namespace Cert.KernelIdeal.Hand
open Cert.KernelIdeal Cert.KernelIdeal.Gen
open Idealize.ShloMosaic Cert.Fox
open Cert.ReferenceIdeal.Hand (IsA IsC IsD Mx cE)

set_option maxHeartbeats 2000000

variable (m : (ℓ : Loc nD τ sig) → Buf (Elt Ideal) ℓ) (c : Dev nD)

/-- The three arguments. -/
def X0 : (⟨S4096x3072, .f32⟩ : BufTy).Contents (Elt Ideal) := m (c, Proc.devRef .tc main_arg0)
def X1 : (⟨S8x4096, .f32⟩ : BufTy).Contents (Elt Ideal) := m (c, Proc.devRef .tc main_arg1)
def X2 : (⟨S4096x1024, .f32⟩ : BufTy).Contents (Elt Ideal) := m (c, Proc.devRef .tc main_arg2)

/-- The buffers once the mask is applied. -/
def V1 : Valuation τ sig (Elt Ideal) := StableHlo.after (hostOps0 ++ hostOps0_1) (fun b => m (c, b))
theorem V_eq (b : Ref sig .tc) : V m c b = StableHlo.after hostOps0_2 (V1 m c) (Proc.devRef .tc b) := by
  unfold V V1
  rw [← StableHlo.after_append]; rfl

/-! The operations used here, as functions. -/
def hflat {φ : FTy} (y : FVec Ideal S4096x8x128 φ) : FVec Ideal S4096x1024 φ := shapeCast S4096x1024 y shapeCasts_S4096x8x128_S4096x1024
theorem hflat_apply {φ : FTy} (y : FVec Ideal S4096x8x128 φ) (i : S4096x1024.Idx) (j : S4096x8x128.Idx)
    (h0 : (j 0).val = (i 0).val) (h1 : (j 1).val = (i 1).val / 128) (h2 : (j 2).val = (i 1).val % 128) : hflat y i = y j := by
  unfold hflat
  exact shapeCast_apply y shapeCasts_S4096x8x128_S4096x1024 i j (by
    rewrite [Shape.rowMajor_val_three, Shape.rowMajor_val_two]
    show ((j 0).val * 8 + (j 1).val) * 128 + (j 2).val = (i 0).val * 1024 + (i 1).val
    rw [h0, h1, h2]; omega)
/-- A flat index taken apart. -/
def unflat (i : S4096x1024.Idx) : S4096x8x128.Idx :=
  ix3 ⟨(i 0).val, (i 0).isLt⟩ ⟨(i 1).val / 128, Nat.div_lt_of_lt_mul (show (i 1).val < 128 * 8 from (i 1).isLt)⟩ ⟨(i 1).val % 128, Nat.mod_lt _ (by norm_num)⟩
theorem hflat_at {φ : FTy} (y : FVec Ideal S4096x8x128 φ) (i : S4096x1024.Idx) : hflat y i = y (unflat i) :=
  hflat_apply y i (unflat i) rfl rfl rfl

def smax (X : FVec Ideal S8x4096x4096 .f32) : FVec Ideal S8x4096 .f32 :=
  Host.reduce FloatOps.maximumf X (constant (F := Ideal) S_ .f32 0xFF800000#32) reducesTo_S8x4096x4096_S8x4096_d2 h_S_
def sexp (X : FVec Ideal S8x4096x4096 .f32) : FVec Ideal S8x4096x4096 .f32 :=
  Host.exp (subf X (broadcastInDim S8x4096x4096 ![0, 1, 2] bcast_S8x4096x1_S8x4096x4096_0_1_2
    (broadcastInDim S8x4096x1 ![0, 1] bcast_S8x4096_S8x4096x1_0_1 (smax X))))
theorem sexp_apply (X : FVec Ideal S8x4096x4096 .f32) (h : Fin 8) (t s : Fin 4096) : sexp X (ix3 h t s) = Ideal.exp (X (ix3 h t s) - smax X (ix2 h t)) := by
  unfold sexp
  generalize smax X = M
  pointwise
def ssum (X : FVec Ideal S8x4096x4096 .f32) : FVec Ideal S8x4096 .f32 :=
  Host.reduceAdd (sexp X) (constant (F := Ideal) S_ .f32 0x00000000#32) reducesTo_S8x4096x4096_S8x4096_d2 h_S_
def hlse (M N : FVec Ideal S8x4096 .f32) : FVec Ideal S4096x8x128 .f32 :=
  broadcastInDim S4096x8x128 ![0, 1, 2] bcast_S4096x8x1_S4096x8x128_0_1_2 (transpose S4096x8x1 [1, 0, 2]
     (Host.divf (addf (broadcastInDim S8x4096x1 ![0, 1] bcast_S8x4096_S8x4096x1_0_1 M) (Host.log (broadcastInDim S8x4096x1 ![0, 1] bcast_S8x4096_S8x4096x1_0_1 N)))
       (broadcastInDim S8x4096x1 ![] bcast_S_S8x4096x1 (Host.log (constant (F := Ideal) S_ .f32 0x40000000#32)))) transposes_S8x4096x1_S4096x8x1_1_0_2)
theorem hlse_apply (M N : FVec Ideal S8x4096 .f32) (t : Fin 4096) (h : Fin 8) (e : Fin 128) :
    hlse M N (ix3 t h e) = Ideal.div (M (ix2 h t) + Ideal.log (N (ix2 h t))) (Ideal.log (Ideal.ofBits .f32 0x40000000#32)) := by
  unfold hlse
  pointwise
def hprob (X : FVec Ideal S8x4096x4096 .f32) : FVec Ideal S8x4096x4096 .f32 :=
  Host.divf (sexp X) (broadcastInDim S8x4096x4096 ![0, 1, 2] bcast_S8x4096x1_S8x4096x4096_0_1_2
    (broadcastInDim S8x4096x1 ![0, 1] bcast_S8x4096_S8x4096x1_0_1 (ssum X)))
def hcat (a b : FVec Ideal S4096x8x3 .bf16) (r : FVec Ideal S4096x8x122 .bf16) : FVec Ideal S4096x8x128 .bf16 :=
  concatenate S4096x8x128 2 [⟨S4096x8x3, a⟩, ⟨S4096x8x3, b⟩, ⟨S4096x8x122, r⟩] concatenates_S4096x8x3_S4096x8x3_S4096x8x122_S4096x8x128_d2
theorem hcat_apply (a b : FVec Ideal S4096x8x3 .bf16) (r : FVec Ideal S4096x8x122 .bf16) (t : Fin 4096) (h : Fin 8) (e : Fin 128) :
    hcat a b r (ix3 t h e) = if h_1 : e.val < 3 then a (ix3 t h ⟨e.val, h_1⟩)
      else if h_2 : e.val - 3 < 3 then b (ix3 t h ⟨e.val - 3, h_2⟩) else r (ix3 t h ⟨e.val - 3 - 3, by omega⟩) := by
  unfold hcat
  pointwise
def hpart (x0 x1 x2 : FVec Ideal S8x4096 .bf16) : FVec Ideal S4096x8x3 .bf16 :=
  transpose S4096x8x3 [2, 1, 0] (concatenate S3x8x4096 0 [⟨S1x8x4096, broadcastInDim S1x8x4096 ![1, 2] bcast_S8x4096_S1x8x4096_1_2 x0⟩,
    ⟨S1x8x4096, broadcastInDim S1x8x4096 ![1, 2] bcast_S8x4096_S1x8x4096_1_2 x1⟩, ⟨S1x8x4096, broadcastInDim S1x8x4096 ![1, 2] bcast_S8x4096_S1x8x4096_1_2 x2⟩]
    concatenates_S1x8x4096_S1x8x4096_S1x8x4096_S3x8x4096_d0) transposes_S3x8x4096_S4096x8x3_2_1_0
theorem hpart_apply (x0 x1 x2 : FVec Ideal S8x4096 .bf16) (t : Fin 4096) (h : Fin 8) (e : Fin 3) :
    hpart x0 x1 x2 (ix3 t h e) = if e.val < 1 then x0 (ix2 h t) else if e.val - 1 < 1 then x1 (ix2 h t) else x2 (ix2 h t) := by
  unfold hpart
  pointwise
  rfl
def hc (x : FVec Ideal S8x4096 .f32) : FVec Ideal S8x4096 .f32 := mulf x (broadcastInDim S8x4096 ![] bcast_S_S8x4096 (constant (F := Ideal) S_ .f32 0x413504F3#32))
def hhi (x : FVec Ideal S8x4096 .f32) : FVec Ideal S8x4096 .bf16 := truncf .bf16 x bitsLt_bf16_f32
def hrest (x : FVec Ideal S8x4096 .f32) : FVec Ideal S8x4096 .f32 := subf x (extf .f32 (hhi x) bitsLt_bf16_f32)
def h3 : FVec Ideal S4096x8x3 .bf16 := broadcastInDim S4096x8x3 ![] bcast_S_S4096x8x3 (constant (F := Ideal) S_ .bf16 0x3F80#16)
def h122 : FVec Ideal S4096x8x122 .bf16 := broadcastInDim S4096x8x122 ![] bcast_S_S4096x8x122 (constant (F := Ideal) S_ .bf16 0x0000#16)
def hparts (x : FVec Ideal S8x4096 .f32) : FVec Ideal S4096x8x3 .bf16 :=
  hpart (hhi (hc x)) (hhi (hrest (hc x))) (hhi (hrest (hrest (hc x))))
theorem h3_apply (t : Fin 4096) (h : Fin 8) (e : Fin 3) : (show EReal from h3 (ix3 t h e)) = ((1 : ℝ) : EReal) := by
  refine Eq.trans ?_ Ideal.ofBits_one_bf16
  unfold h3
  pointwise
theorem h122_apply (t : Fin 4096) (h : Fin 8) (e : Fin 122) : (show EReal from h122 (ix3 t h e)) = ((0 : ℝ) : EReal) := by
  refine Eq.trans ?_ Ideal.ofBits_zero_bf16
  unfold h122
  pointwise
theorem hc_apply (x : FVec Ideal S8x4096 .f32) (h : Fin 8) (t : Fin 4096) : hc x (ix2 h t) = x (ix2 h t) * Ideal.ofBits .f32 0x413504F3#32 := by
  unfold hc
  pointwise

/-! The buffers. -/
theorem V1_21 : (V1 m c (Proc.devRef .tc main_v21) : FVec Ideal S8x4096x4096 .f32) = Cert.ReferenceIdeal.Read.val_main_v23 (F := Ideal) (X0 m c) (X1 m c) := by
  unfold V1
  after_reads_simp
  rfl
theorem V1_5 : (V1 m c (Proc.devRef .tc main_v5) : FVec Ideal S4096x8x128 .f32) = Cert.ReferenceIdeal.Read.val_main_v5 (F := Ideal) (X0 m c) := by
  unfold V1
  after_reads_simp
  rfl
theorem V1_a0 : (V1 m c (Proc.devRef .tc main_arg0) : FVec Ideal S4096x3072 .f32) = X0 m c := by
  unfold V1
  after_reads_simp
  rfl
theorem V1_a1 : (V1 m c (Proc.devRef .tc main_arg1) : FVec Ideal S8x4096 .f32) = X1 m c := by
  unfold V1
  after_reads_simp
  rfl
theorem V_a2 : (V m c main_arg2 : FVec Ideal S4096x1024 .f32) = X2 m c := by
  rw [V_eq]
  unfold V1
  after_reads_simp
  rfl
theorem V37 : (V m c main_v37 : FVec Ideal S4096x1024 .f32)
    = hflat (hlse (smax (V1 m c (Proc.devRef .tc main_v21))) (ssum (V1 m c (Proc.devRef .tc main_v21)))) := by
  rw [V_eq]
  generalize V1 m c = W
  after_reads_simp
  rfl
theorem V42 : (V m c main_v42 : FVec Ideal S4096x1024 .f32)
    = hflat (transpose S4096x8x128 [2, 0, 1] (Host.dotGeneral dot_S4096x8x128_S8x4096x4096_S8x128x4096_0_2_2_1_1_0 none
        (φ₁ := .f32) (V1 m c (Proc.devRef .tc main_v5) : FVec Ideal S4096x8x128 .f32) (hprob (V1 m c (Proc.devRef .tc main_v21)))) transposes_S8x128x4096_S4096x8x128_2_0_1) := by
  rw [V_eq]
  generalize V1 m c = W
  after_reads_simp
  rfl
def hbf (x : FVec Ideal S4096x3072 .f32) : FVec Ideal S4096x3072 .bf16 := truncf .bf16 x bitsLt_bf16_f32
theorem V64 : (V m c main_v64 : FVec Ideal S4096x3072 .bf16) = hbf (X0 m c) := by
  unfold hbf
  rw [V_eq, ← V1_a0]
  generalize V1 m c = W
  after_reads_simp
section
variable (W : Valuation τ sig (Elt Ideal))
theorem u52 : (StableHlo.upto hostOps0_2 W 37 (Proc.devRef .tc main_v52) : FVec Ideal S1x8x4096 .bf16)
    = broadcastInDim S1x8x4096 ![1, 2] bcast_S8x4096_S1x8x4096_1_2 (hhi (hc (W (Proc.devRef .tc main_arg1)))) := by
  after_reads_simp
  rfl
theorem u53 : (StableHlo.upto hostOps0_2 W 37 (Proc.devRef .tc main_v53) : FVec Ideal S1x8x4096 .bf16)
    = broadcastInDim S1x8x4096 ![1, 2] bcast_S8x4096_S1x8x4096_1_2 (hhi (hrest (hc (W (Proc.devRef .tc main_arg1))))) := by
  after_reads_simp
  rfl
theorem u54 : (StableHlo.upto hostOps0_2 W 37 (Proc.devRef .tc main_v54) : FVec Ideal S1x8x4096 .bf16)
    = broadcastInDim S1x8x4096 ![1, 2] bcast_S8x4096_S1x8x4096_1_2 (hhi (hrest (hrest (hc (W (Proc.devRef .tc main_arg1)))))) := by
  after_reads_simp
  rfl
def tcat (a b r : FVec Ideal S1x8x4096 .bf16) : FVec Ideal S4096x8x3 .bf16 :=
  transpose S4096x8x3 [2, 1, 0] (concatenate S3x8x4096 0 [⟨S1x8x4096, a⟩, ⟨S1x8x4096, b⟩, ⟨S1x8x4096, r⟩]
    concatenates_S1x8x4096_S1x8x4096_S1x8x4096_S3x8x4096_d0) transposes_S3x8x4096_S4096x8x3_2_1_0
theorem u56 : (StableHlo.upto hostOps0_2 W 43 (Proc.devRef .tc main_v56) : FVec Ideal S4096x8x3 .bf16) = hparts (W (Proc.devRef .tc main_arg1)) := by
  after_reads_simp
  show tcat (StableHlo.upto hostOps0_2 W 37 (Proc.devRef .tc main_v52)) (StableHlo.upto hostOps0_2 W 37 (Proc.devRef .tc main_v53)) (StableHlo.upto hostOps0_2 W 37 (Proc.devRef .tc main_v54)) = _
  rw [u52, u53, u54]
  rfl
theorem u57 : (StableHlo.upto hostOps0_2 W 43 (Proc.devRef .tc main_v57) : FVec Ideal S4096x8x3 .bf16) = h3 := by
  after_reads_simp
  rfl
theorem u58 : (StableHlo.upto hostOps0_2 W 43 (Proc.devRef .tc main_v58) : FVec Ideal S4096x8x122 .bf16) = h122 := by
  after_reads_simp
  rfl
end
theorem V60 : (V m c main_v60 : FVec Ideal S4096x1024 .bf16) = hflat (hcat (hparts (X1 m c)) h3 h122) := by
  rw [V_eq, ← V1_a1]
  generalize V1 m c = W
  after_reads_simp
  show hflat (hcat (StableHlo.upto hostOps0_2 W 43 (Proc.devRef .tc main_v56)) (StableHlo.upto hostOps0_2 W 43 (Proc.devRef .tc main_v57)) (StableHlo.upto hostOps0_2 W 43 (Proc.devRef .tc main_v58))) = _
  rw [u56, u57, u58]
theorem u61 (W : Valuation τ sig (Elt Ideal)) : (StableHlo.upto hostOps0_2 W 46 (Proc.devRef .tc main_v61) : FVec Ideal S4096x8x3 .bf16) = Host.negf (hparts (W (Proc.devRef .tc main_arg1))) := by
  after_reads_simp
  show Host.negf (tcat (StableHlo.upto hostOps0_2 W 37 (Proc.devRef .tc main_v52)) (StableHlo.upto hostOps0_2 W 37 (Proc.devRef .tc main_v53)) (StableHlo.upto hostOps0_2 W 37 (Proc.devRef .tc main_v54))) = _
  rw [u52, u53, u54]
  rfl
theorem u57' (W : Valuation τ sig (Elt Ideal)) : (StableHlo.upto hostOps0_2 W 46 (Proc.devRef .tc main_v57) : FVec Ideal S4096x8x3 .bf16) = h3 := by
  after_reads_simp
  rfl
theorem u58' (W : Valuation τ sig (Elt Ideal)) : (StableHlo.upto hostOps0_2 W 46 (Proc.devRef .tc main_v58) : FVec Ideal S4096x8x122 .bf16) = h122 := by
  after_reads_simp
  rfl
theorem V63 : (V m c main_v63 : FVec Ideal S4096x1024 .bf16) = hflat (hcat h3 (Host.negf (hparts (X1 m c))) h122) := by
  rw [V_eq, ← V1_a1]
  generalize V1 m c = W
  after_reads_simp
  show hflat (hcat (StableHlo.upto hostOps0_2 W 46 (Proc.devRef .tc main_v57)) (StableHlo.upto hostOps0_2 W 46 (Proc.devRef .tc main_v61)) (StableHlo.upto hostOps0_2 W 46 (Proc.devRef .tc main_v58))) = _
  rw [u57', u61, u58']

/-! The same over the reals. -/
section
variable {A C D : ℕ → ℕ → ℝ} (hA : IsA A (X0 m c)) (hC : IsC C (X1 m c)) (hD : IsD D (X2 m c))
include hA hC
theorem sexp_eq : sexp (Cert.ReferenceIdeal.Read.val_main_v23 (F := Ideal) (X0 m c) (X1 m c)) = Cert.ReferenceIdeal.Read.val_main_v45 (F := Ideal) (X0 m c) (X1 m c) := by
  funext i
  obtain ⟨h, t, s, rfl⟩ : ∃ (h : Fin 8) (t s : Fin 4096), i = ix3 h t s :=
    ⟨i 0, i 1, i 2, by funext a; match a with | ⟨0, _⟩ => rfl | ⟨1, _⟩ => rfl | ⟨2, _⟩ => rfl⟩
  refine Eq.trans ?_ (Cert.ReferenceIdeal.Hand.v45 hA hC (ix3 h t s)).symm
  rw [sexp_apply]
  refine (congrArg₂ (fun a b : EReal => Ideal.exp (a - b)) (Cert.ReferenceIdeal.Hand.v23 hA hC (ix3 h t s)) (Cert.ReferenceIdeal.Hand.v25 hA hC (ix2 h t))).trans ?_
  show Ideal.exp ((if s.val ≤ t.val then ((z A C h.val t.val s.val : ℝ) : EReal) else ⊥) - ((Mx (X0 m c) (X1 m c) h.val t.val : ℝ) : EReal))
    = ((w A C h.val t.val s.val * Real.exp (-Mx (X0 m c) (X1 m c) h.val t.val) : ℝ) : EReal)
  unfold w
  split_ifs with h
  · rw [← EReal.coe_sub, Ideal.exp_coe]; refine cE ?_
    rw [← Real.exp_add]; rfl
  · rw [EReal.bot_sub, Ideal.exp_bot, zero_mul]; rfl
theorem ssum_eq : ssum (Cert.ReferenceIdeal.Read.val_main_v23 (F := Ideal) (X0 m c) (X1 m c)) = Cert.ReferenceIdeal.Read.val_main_v46 (F := Ideal) (X0 m c) (X1 m c) := by
  unfold ssum
  rw [sexp_eq m c hA hC]
  rfl
theorem hprob_eq : hprob (Cert.ReferenceIdeal.Read.val_main_v23 (F := Ideal) (X0 m c) (X1 m c)) = Cert.ReferenceIdeal.Read.val_main_v49 (F := Ideal) (X0 m c) (X1 m c) := by
  unfold hprob
  rw [sexp_eq m c hA hC, ssum_eq m c hA hC]
  rfl
theorem R42 (i : S4096x1024.Idx) : (show EReal from (V m c main_v42 : FVec Ideal S4096x1024 .f32) i) = ((o A C ((i 1).val / 128) (i 0).val ((i 1).val % 128) : ℝ) : EReal) := by
  rw [V42, V1_21, V1_5, hprob_eq m c hA hC]
  refine (hflat_at _ i).trans ?_
  exact Cert.ReferenceIdeal.Hand.v54 hA hC (unflat i)
theorem R37 (i : S4096x1024.Idx) : (show EReal from (V m c main_v37 : FVec Ideal S4096x1024 .f32) i)
    = ((lse A C (Mx (X0 m c) (X1 m c)) ((i 1).val / 128) (i 0).val : ℝ) : EReal) := by
  rw [V37, V1_21, ssum_eq m c hA hC]
  refine (hflat_at _ i).trans ?_
  refine (hlse_apply _ _ _ _ _).trans ?_
  have h0 : (i 0).val < 4096 := (i 0).isLt
  have hp := mul_pos (L_pos A C ((i 1).val / 128) (i 0).val h0) (Real.exp_pos (-Mx (X0 m c) (X1 m c) ((i 1).val / 128) (i 0).val))
  have h2 : Real.log 2 ≠ 0 := (Real.log_pos one_lt_two).ne'
  have e1 : (show EReal from Cert.ReferenceIdeal.Read.val_main_v25 (F := Ideal) (X0 m c) (X1 m c) (ix2 (unflat i 1) (unflat i 0)))
    = ((Mx (X0 m c) (X1 m c) ((i 1).val / 128) (i 0).val : ℝ) : EReal) := Cert.ReferenceIdeal.Hand.v25 hA hC _
  have e2 : (show EReal from Cert.ReferenceIdeal.Read.val_main_v46 (F := Ideal) (X0 m c) (X1 m c) (ix2 (unflat i 1) (unflat i 0)))
    = ((L A C ((i 1).val / 128) (i 0).val * Real.exp (-Mx (X0 m c) (X1 m c) ((i 1).val / 128) (i 0).val) : ℝ) : EReal) := Cert.ReferenceIdeal.Hand.v46 hA hC _
  have e3 : Ideal.ofBits .f32 0x40000000#32 = ((2 : ℝ) : EReal) := by
    simp [Ideal.ofBits, Ideal.ieee, -EReal.coe_mul]; norm_num
  refine (congrArg₂ (fun a b : EReal => Ideal.div (a + Ideal.log b) (Ideal.log (Ideal.ofBits .f32 0x40000000#32))) e1 e2).trans ?_
  show Ideal.div (_ + Ideal.log _) (Ideal.log _) = _
  rw [e3, Ideal.log_coe, Ideal.log_coe, if_neg (not_le.2 hp), if_neg (by norm_num), ← EReal.coe_add, div_coe_coe _ _ h2]
  rfl
end
section
variable {A : ℕ → ℕ → ℝ} (hA : IsA A (X0 m c))
include hA
theorem R64 (i : S4096x3072.Idx) : (show EReal from (V m c main_v64 : FVec Ideal S4096x3072 .bf16) i) = ((A (i 0).val (i 1).val : ℝ) : EReal) := by
  rw [V64]
  exact hA i
end
section
variable {C : ℕ → ℕ → ℝ} (hC : IsC C (X1 m c))
include hC
theorem hc_real (h : Fin 8) (t : Fin 4096) : (show EReal from hc (X1 m c) (ix2 h t)) = ((C h.val t.val * root : ℝ) : EReal) := by
  rw [hc_apply, Cert.ReferenceIdeal.Hand.ofBits_root, EReal.coe_mul]
  exact congrArg (fun a : EReal => a * _) (hC _)
theorem hparts_real (t : Fin 4096) (h : Fin 8) (e : Fin 3) : (show EReal from hparts (X1 m c) (ix3 t h e)) = (((if e.val = 0 then C h.val t.val * root else 0) : ℝ) : EReal) := by
  have e1 : (show EReal from hhi (hc (X1 m c)) (ix2 h t)) = _ := hc_real m c hC h t
  have e2 : (show EReal from hrest (hc (X1 m c)) (ix2 h t)) = ((0 : ℝ) : EReal) := by
    refine (congrArg₂ (fun a b : EReal => a - b) (hc_real m c hC h t) (hc_real m c hC h t)).trans ?_
    rw [← EReal.coe_sub, sub_self]
  have e3 : (show EReal from hrest (hrest (hc (X1 m c))) (ix2 h t)) = ((0 : ℝ) : EReal) := by
    refine (congrArg₂ (fun a b : EReal => a - b) e2 e2).trans ?_
    rw [← EReal.coe_sub, sub_self]
  unfold hparts
  rw [hpart_apply]
  by_cases h0 : e.val = 0
  · rw [if_pos (by omega), if_pos h0]; exact e1
  · rw [if_neg (by omega), if_neg h0]
    split_ifs
    · exact e2
    · exact e3
theorem R60 (i : S4096x1024.Idx) : (show EReal from (V m c main_v60 : FVec Ideal S4096x1024 .bf16) i)
    = ((qlane ((i 1).val % 128) (C ((i 1).val / 128) (i 0).val * root) : ℝ) : EReal) := by
  rw [V60]
  refine (hflat_at _ i).trans ?_
  refine (hcat_apply _ _ _ _ _ _).trans ?_
  show (if h_1 : (i 1).val % 128 < 3 then _ else if h_2 : (i 1).val % 128 - 3 < 3 then _ else _) = _
  unfold qlane
  by_cases h1 : (i 1).val % 128 < 3
  · rw [dif_pos h1]
    refine (hparts_real m c hC _ _ _).trans (cE ?_)
    show (if (i 1).val % 128 = 0 then _ else _) = _
    by_cases h0 : (i 1).val % 128 = 0
    · rw [if_pos h0, if_pos h0]
    · rw [if_neg h0, if_neg h0, if_pos h1]
  · rw [dif_neg h1, if_neg (by omega), if_neg h1]
    by_cases h2 : (i 1).val % 128 - 3 < 3
    · rw [dif_pos h2, if_pos (by omega)]; exact h3_apply _ _ _
    · rw [dif_neg h2, if_neg (by omega)]; exact h122_apply _ _ _
theorem R63 (i : S4096x1024.Idx) : (show EReal from (V m c main_v63 : FVec Ideal S4096x1024 .bf16) i)
    = ((klane ((i 1).val % 128) (C ((i 1).val / 128) (i 0).val * root) : ℝ) : EReal) := by
  rw [V63]
  refine (hflat_at _ i).trans ?_
  refine (hcat_apply _ _ _ _ _ _).trans ?_
  show (if h_1 : (i 1).val % 128 < 3 then _ else if h_2 : (i 1).val % 128 - 3 < 3 then _ else _) = _
  unfold klane
  by_cases h1 : (i 1).val % 128 < 3
  · rw [dif_pos h1, if_pos h1]; exact h3_apply _ _ _
  · rw [dif_neg h1, if_neg h1]
    by_cases h2 : (i 1).val % 128 - 3 < 3
    · rw [dif_pos h2]
      refine (congrArg (fun a : EReal => -a) (hparts_real m c hC _ _ _)).trans ?_
      rw [← EReal.coe_neg]
      refine cE ?_
      show -(if (i 1).val % 128 - 3 = 0 then _ else _) = _
      by_cases h0 : (i 1).val % 128 = 3
      · rw [if_pos (by omega), if_pos h0]
      · rw [if_neg (by omega), if_neg h0, neg_zero]
    · rw [dif_neg h2, if_neg (by omega)]; exact h122_apply _ _ _
end
theorem R_a2 {D : ℕ → ℕ → ℝ} (hD : IsD D (X2 m c)) (i : S4096x1024.Idx) : (show EReal from (V m c main_arg2 : FVec Ideal S4096x1024 .f32) i) = ((D (i 0).val (i 1).val : ℝ) : EReal) := by
  rw [V_a2]; exact hD i

end Cert.KernelIdeal.Hand
end
-- ==== Proof.KernelIdealBlock.lean ====
module
public import proofs.«01_k».proof.Proof.KernelIdealState
public import proofs.«01_k».proof.Proof.KernelIdealHost
public import Idealize.ShloMosaic.Lib.Pipeline.ValueKit
public import Idealize.ShloMosaic.Lib.WordCmp
public import Idealize.ShloMosaic.Lib.Pointwise.Tactic
@[expose] public section
set_option maxRecDepth 16384
noncomputable section

/-! What one grid point computes, over the reals. -/

namespace Cert.KernelIdeal.Hand
open Cert.KernelIdeal Cert.KernelIdeal.Gen
open Idealize.ShloMosaic Cert.Fox Finset
open Cert.ReferenceIdeal.Hand (IsA IsC IsD Mx cE sel_sle)

set_option maxHeartbeats 2000000

/-! The named constants. -/
theorem at_scale2 : (show EReal from (Named.named κ "scale2" 0x3E0293EE#32 : Ideal .f32)) = ((1048576 / 11863283 * (Real.log 2)⁻¹ : ℝ) : EReal) :=
  IdealRules.named_const.ideal_named_scalar _ _ _ _ rfl
theorem at_scale : (show EReal from (Named.named κ "scale" 0x3DB504F3#32 : Ideal .f32)) = ((1048576 / 11863283 : ℝ) : EReal) :=
  IdealRules.named_const.ideal_named_scalar _ _ _ _ rfl
theorem at_mask : (show EReal from (Named.named κ "mask" 0xF149F2CA#32 : Ideal .f32)) = (⊥ : EReal) :=
  IdealRules.named_const.ideal_named_scalar _ _ _ _ rfl

/-! The payloads at an index. -/
section
variable (a b : Fin 1024) (e : Fin 128) (x0 x1 x2 x3 x4 : Vec Ideal S1024x128 .bf16) (x5 x6 x7 : Vec Ideal S1024x128 .f32)
theorem lseCol_apply : lseCol x5 (ix2 a 0) = x5 (ix2 a 0) := by
  show x5 _ = x5 _
  congr 1
  funext k
  apply Fin.ext
  rw [Rect.idx_unit_val]
  match k with
  | ⟨0, _⟩ => show 0 + a.val = a.val; omega
  | ⟨1, _⟩ => rfl
theorem offP_apply : (show EReal from offP x0 x1 x2 x3 x5 (ix2 a b))
    = Ideal.exp2 (((∑ x, (show EReal from x0 (ix2 a x)) * (show EReal from x2 (ix2 b x)) + ∑ x, (show EReal from x1 (ix2 a x)) * (show EReal from x3 (ix2 b x))) * (show EReal from (Named.named κ "scale2" 0x3E0293EE#32 : Ideal .f32)) : EReal) - (show EReal from lseCol x5 (ix2 a 0))) := by
  unfold offP k0_pay11
  pointwise
  all_goals rfl
theorem diaP_apply : (show EReal from diaP x0 x1 x2 x3 x5 (ix2 a b))
    = Ideal.exp2 (Scalar.select (IntOp.cmpi .sle (BitVec.ofNat 32 b.val) (BitVec.ofNat 32 a.val)) ((∑ x, (show EReal from x0 (ix2 a x)) * (show EReal from x2 (ix2 b x)) + ∑ x, (show EReal from x1 (ix2 a x)) * (show EReal from x3 (ix2 b x))) * (show EReal from (Named.named κ "scale2" 0x3E0293EE#32 : Ideal .f32)) : EReal)
        (show EReal from (Named.named κ "mask" 0xF149F2CA#32 : Ideal .f32)) - (show EReal from lseCol x5 (ix2 a 0))) := by
  unfold diaP k0_pay23
  pointwise
  all_goals rfl
theorem offDS_apply : offDS x0 x1 x2 x3 x4 x5 x6 x7 (ix2 a b)
    = offP x0 x1 x2 x3 x5 (ix2 a b) * (∑ x, x7 (ix2 a x) * x4 (ix2 b x) - ∑ x, x7 (ix2 a x) * x6 (ix2 a x)) := by
  unfold offDS k0_pay12 offP k0_pay10
  pointwise
theorem diaDS_apply : diaDS x0 x1 x2 x3 x4 x5 x6 x7 (ix2 a b)
    = diaP x0 x1 x2 x3 x5 (ix2 a b) * (∑ x, x7 (ix2 a x) * x4 (ix2 b x) - ∑ x, x7 (ix2 a x) * x6 (ix2 a x)) := by
  unfold diaDS k0_pay24 diaP k0_pay22
  pointwise
theorem offDSs_apply : offDSs x0 x1 x2 x3 x4 x5 x6 x7 (ix2 a b) = offDS x0 x1 x2 x3 x4 x5 x6 x7 (ix2 a b) * Named.named κ "scale" 0x3DB504F3#32 := by
  unfold offDSs k0_pay13 offDS
  pointwise
theorem diaDSs_apply : diaDSs x0 x1 x2 x3 x4 x5 x6 x7 (ix2 a b) = diaDS x0 x1 x2 x3 x4 x5 x6 x7 (ix2 a b) * Named.named κ "scale" 0x3DB504F3#32 := by
  unfold diaDSs k0_pay25 diaDS
  pointwise
variable (s : Vec Ideal S1024x128 .f32) (sc : Vec Ideal S1x1024 .f32) (sr : Vec Ideal S1024x1 .f32)
theorem offDK_apply : offDK x0 x1 x2 x3 x4 x5 x6 x7 s (ix2 b e) = s (ix2 b e) + ∑ a, offDSs x0 x1 x2 x3 x4 x5 x6 x7 (ix2 a b) * x0 (ix2 a e) := by
  unfold offDK k0_pay17
  pointwise
theorem diaDK_apply : diaDK x0 x1 x2 x3 x4 x5 x6 x7 s (ix2 b e) = s (ix2 b e) + ∑ a, diaDSs x0 x1 x2 x3 x4 x5 x6 x7 (ix2 a b) * x0 (ix2 a e) := by
  unfold diaDK k0_pay28
  pointwise
theorem offDV_apply : offDV x0 x1 x2 x3 x5 x7 s (ix2 b e) = s (ix2 b e) + ∑ a, offP x0 x1 x2 x3 x5 (ix2 a b) * x7 (ix2 a e) := by
  unfold offDV k0_pay16 k0_pay10
  pointwise
theorem diaDV_apply : diaDV x0 x1 x2 x3 x5 x7 s (ix2 b e) = s (ix2 b e) + ∑ a, diaP x0 x1 x2 x3 x5 (ix2 a b) * x7 (ix2 a e) := by
  unfold diaDV k0_pay27 k0_pay22
  pointwise
theorem offDC_apply : offDC x0 x1 x2 x3 x4 x5 x6 x7 sc (ix2 0 b) = sc (ix2 0 b) + ∑ a, offDS x0 x1 x2 x3 x4 x5 x6 x7 (ix2 a b) := by
  unfold offDC k0_pay15 k0_pay14 offDS
  pointwise
theorem diaDC_apply : diaDC x0 x1 x2 x3 x4 x5 x6 x7 sc (ix2 0 b) = sc (ix2 0 b) + ∑ a, diaDS x0 x1 x2 x3 x4 x5 x6 x7 (ix2 a b) := by
  unfold diaDC k0_pay26
  pointwise
theorem offQ0_apply : offQ0 x0 x1 x2 x3 x4 x5 x6 x7 (ix2 a e) = ∑ b, offDSs x0 x1 x2 x3 x4 x5 x6 x7 (ix2 a b) * x2 (ix2 b e) := by
  unfold offQ0 k0_pay20 k0_pay18
  pointwise
theorem offQ1_apply : offQ1 x0 x1 x2 x3 x4 x5 x6 x7 s (ix2 a e) = s (ix2 a e) + ∑ b, offDSs x0 x1 x2 x3 x4 x5 x6 x7 (ix2 a b) * x2 (ix2 b e) := by
  unfold offQ1 k0_pay34 k0_pay18
  pointwise
theorem diaQ0_apply : diaQ0 x0 x1 x2 x3 x4 x5 x6 x7 (ix2 a e) = ∑ b, diaDSs x0 x1 x2 x3 x4 x5 x6 x7 (ix2 a b) * x2 (ix2 b e) := by
  unfold diaQ0 k0_pay1 k0_pay29
  pointwise
theorem diaQ1_apply : diaQ1 x0 x1 x2 x3 x4 x5 x6 x7 s (ix2 a e) = s (ix2 a e) + ∑ b, diaDSs x0 x1 x2 x3 x4 x5 x6 x7 (ix2 a b) * x2 (ix2 b e) := by
  unfold diaQ1 k0_pay3 k0_pay29
  pointwise
theorem offR0_apply : offR0 x0 x1 x2 x3 x4 x5 x6 x7 (ix2 a 0) = ∑ b, offDS x0 x1 x2 x3 x4 x5 x6 x7 (ix2 a b) := by
  unfold offR0 k0_pay21 k0_pay19
  pointwise
theorem offR1_apply : offR1 x0 x1 x2 x3 x4 x5 x6 x7 sr (ix2 a 0) = sr (ix2 a 0) + ∑ b, offDS x0 x1 x2 x3 x4 x5 x6 x7 (ix2 a b) := by
  unfold offR1 k0_pay35 k0_pay19
  pointwise
theorem diaR0_apply : diaR0 x0 x1 x2 x3 x4 x5 x6 x7 (ix2 a 0) = ∑ b, diaDS x0 x1 x2 x3 x4 x5 x6 x7 (ix2 a b) := by
  unfold diaR0 k0_pay2 k0_pay30
  pointwise
theorem diaR1_apply : diaR1 x0 x1 x2 x3 x4 x5 x6 x7 sr (ix2 a 0) = sr (ix2 a 0) + ∑ b, diaDS x0 x1 x2 x3 x4 x5 x6 x7 (ix2 a b) := by
  unfold diaR1 k0_pay4 k0_pay30
  pointwise
theorem z31 : (show EReal from (k0_pay31 (F := Ideal)) (ix2 b e)) = ((0 : ℝ) : EReal) := by
  refine Eq.trans ?_ Ideal.ofBits_zero_f32
  unfold k0_pay31
  pointwise
theorem z32 : (show EReal from (k0_pay32 (F := Ideal)) (ix2 b e)) = ((0 : ℝ) : EReal) := by
  refine Eq.trans ?_ Ideal.ofBits_zero_f32
  unfold k0_pay32
  pointwise
theorem z33 : (show EReal from (k0_pay33 (F := Ideal)) (ix2 0 b)) = ((0 : ℝ) : EReal) := by
  refine Eq.trans ?_ Ideal.ofBits_zero_f32
  unfold k0_pay33
  pointwise
end

theorem addE {x y : EReal} {a b : ℝ} (hx : x = (a : EReal)) (hy : y = (b : EReal)) : x + y = ((a + b : ℝ) : EReal) := by
  rw [hx, hy, EReal.coe_add]
theorem mulE {x y : EReal} {a b : ℝ} (hx : x = (a : EReal)) (hy : y = (b : EReal)) : x * y = ((a * b : ℝ) : EReal) := by
  rw [hx, hy, EReal.coe_mul]
theorem over_root (x : ℝ) : x * (1048576 / 11863283) = x / root := by unfold root; field_simp

/-! A point's blocks, and what it makes of them. -/
section
variable (A C D M : ℕ → ℕ → ℝ) (h r k0 : ℕ)
/-- The blocks hold head `h`'s query rows from `r` and key rows from `k0`. -/
structure Blk (x0 x1 x2 x3 x4 : Vec Ideal S1024x128 .bf16) (x5 x6 x7 : Vec Ideal S1024x128 .f32) : Prop where
  h0 : ∀ (a : Fin 1024) (e : Fin 128), (show EReal from x0 (ix2 a e)) = ((q A h (r + a.val) e.val : ℝ) : EReal)
  h1 : ∀ (a : Fin 1024) (e : Fin 128), (show EReal from x1 (ix2 a e)) = ((qlane e.val (C h (r + a.val) * root) : ℝ) : EReal)
  h2 : ∀ (a : Fin 1024) (e : Fin 128), (show EReal from x2 (ix2 a e)) = ((k A h (k0 + a.val) e.val : ℝ) : EReal)
  h3 : ∀ (a : Fin 1024) (e : Fin 128), (show EReal from x3 (ix2 a e)) = ((klane e.val (C h (k0 + a.val) * root) : ℝ) : EReal)
  h4 : ∀ (a : Fin 1024) (e : Fin 128), (show EReal from x4 (ix2 a e)) = ((v A h (k0 + a.val) e.val : ℝ) : EReal)
  h5 : ∀ (a : Fin 1024) (e : Fin 128), (show EReal from x5 (ix2 a e)) = ((lse A C M h (r + a.val) : ℝ) : EReal)
  h6 : ∀ (a : Fin 1024) (e : Fin 128), (show EReal from x6 (ix2 a e)) = ((o A C h (r + a.val) e.val : ℝ) : EReal)
  h7 : ∀ (a : Fin 1024) (e : Fin 128), (show EReal from x7 (ix2 a e)) = ((d D h (r + a.val) e.val : ℝ) : EReal)

variable {A C D M h r k0} {x0 x1 x2 x3 x4 : Vec Ideal S1024x128 .bf16} {x5 x6 x7 : Vec Ideal S1024x128 .f32}
variable (B : Blk A C D M h r k0 x0 x1 x2 x3 x4 x5 x6 x7)
include B
theorem logit (a b : Fin 1024) : ((∑ x, (show EReal from x0 (ix2 a x)) * (show EReal from x2 (ix2 b x)) + ∑ x, (show EReal from x1 (ix2 a x)) * (show EReal from x3 (ix2 b x))) * (show EReal from (Named.named κ "scale2" 0x3E0293EE#32 : Ideal .f32)) : EReal)
    = (((qk A h (r + a.val) (k0 + b.val) + (C h (r + a.val) * root - C h (k0 + b.val) * root)) * (1048576 / 11863283 * (Real.log 2)⁻¹) : ℝ) : EReal) := by
  rw [esum_of 128 _ (fun e => q A h (r + a.val) e * k A h (k0 + b.val) e) (fun e => mulE (B.h0 a e) (B.h2 b e)),
    esum_of 128 _ (fun e => qlane e (C h (r + a.val) * root) * klane e (C h (k0 + b.val) * root)) (fun e => mulE (B.h1 a e) (B.h3 b e)),
    lanes, at_scale2, ← EReal.coe_add, ← EReal.coe_mul]
  rfl
theorem less (a b : Fin 1024) : ((∑ x, (show EReal from x7 (ix2 a x)) * (show EReal from x4 (ix2 b x)) - ∑ x, (show EReal from x7 (ix2 a x)) * (show EReal from x6 (ix2 a x))) : EReal)
    = ((dp A D h (r + a.val) (k0 + b.val) - dl A C D h (r + a.val) : ℝ) : EReal) := by
  rw [esum_of 128 _ (fun e => d D h (r + a.val) e * v A h (k0 + b.val) e) (fun e => mulE (B.h7 a e) (B.h4 b e)),
    esum_of 128 _ (fun e => d D h (r + a.val) e * o A C h (r + a.val) e) (fun e => mulE (B.h7 a e) (B.h6 a e)), ← EReal.coe_sub]
  rfl
theorem power (a b : Fin 1024) (ht : r + a.val < 4096) (hs : k0 + b.val ≤ r + a.val) :
    Ideal.exp2 (((∑ x, (show EReal from x0 (ix2 a x)) * (show EReal from x2 (ix2 b x)) + ∑ x, (show EReal from x1 (ix2 a x)) * (show EReal from x3 (ix2 b x))) * (show EReal from (Named.named κ "scale2" 0x3E0293EE#32 : Ideal .f32)) : EReal) - (show EReal from lseCol x5 (ix2 a 0)))
    = ((p A C h (r + a.val) (k0 + b.val) : ℝ) : EReal) := by
  have e5 : (show EReal from lseCol x5 (ix2 a 0)) = ((lse A C M h (r + a.val) : ℝ) : EReal) := (lseCol_apply a x5).trans (B.h5 a 0)
  rw [logit B, e5, ← EReal.coe_sub, Ideal.exp2_coe]
  exact cE (p_pow A C h _ _ ht hs _)
theorem offP_real (hr : r + 1024 ≤ 4096) (hk : k0 + 1024 ≤ r) (a b : Fin 1024) : (show EReal from offP x0 x1 x2 x3 x5 (ix2 a b)) = ((p A C h (r + a.val) (k0 + b.val) : ℝ) : EReal) := by
  rw [offP_apply]
  exact power B a b (by omega) (by omega)
theorem diaP_real (hr : r + 1024 ≤ 4096) (hk : k0 = r) (a b : Fin 1024) : (show EReal from diaP x0 x1 x2 x3 x5 (ix2 a b)) = ((p A C h (r + a.val) (k0 + b.val) : ℝ) : EReal) := by
  rw [diaP_apply, sel_sle b.val a.val (by omega) (by omega)]
  by_cases hab : b.val ≤ a.val
  · rw [if_pos hab]
    exact power B a b (by omega) (by omega)
  · rw [if_neg hab]
    have e5 : (show EReal from lseCol x5 (ix2 a 0)) = ((lse A C M h (r + a.val) : ℝ) : EReal) := (lseCol_apply a x5).trans (B.h5 a 0)
    refine (congrArg₂ (fun a b : EReal => Ideal.exp2 (a - b)) at_mask e5).trans ?_
    show Ideal.exp2 (⊥ - _) = _
    rw [EReal.bot_sub, Ideal.exp2_bot, p_zero A C h _ _ (by omega)]
    rfl
end

/-- The probabilities and their gradients in hand. -/
structure Pts (A C D : ℕ → ℕ → ℝ) (h r k0 : ℕ) (P DS DSs : FVec Ideal S1024x1024 .f32) : Prop where
  p : ∀ a b : Fin 1024, (show EReal from P (ix2 a b)) = ((Fox.p A C h (r + a.val) (k0 + b.val) : ℝ) : EReal)
  g : ∀ a b : Fin 1024, (show EReal from DS (ix2 a b)) = ((Fox.g A C D h (r + a.val) (k0 + b.val) : ℝ) : EReal)
  gs : ∀ a b : Fin 1024, (show EReal from DSs (ix2 a b)) = ((Fox.g A C D h (r + a.val) (k0 + b.val) / root : ℝ) : EReal)

section
variable {A C D M : ℕ → ℕ → ℝ} {h r k0 : ℕ} {x0 x1 x2 x3 x4 : Vec Ideal S1024x128 .bf16} {x5 x6 x7 : Vec Ideal S1024x128 .f32}
variable (B : Blk A C D M h r k0 x0 x1 x2 x3 x4 x5 x6 x7)
include B
theorem off_pts (hr : r + 1024 ≤ 4096) (hk : k0 + 1024 ≤ r) : Pts A C D h r k0 (offP x0 x1 x2 x3 x5) (offDS x0 x1 x2 x3 x4 x5 x6 x7) (offDSs x0 x1 x2 x3 x4 x5 x6 x7) := by
  have hg : ∀ a b : Fin 1024, (show EReal from offDS x0 x1 x2 x3 x4 x5 x6 x7 (ix2 a b)) = ((Fox.g A C D h (r + a.val) (k0 + b.val) : ℝ) : EReal) := fun a b => by
    rw [offDS_apply]; exact mulE (offP_real B hr hk a b) (less B a b)
  refine ⟨offP_real B hr hk, hg, fun a b => ?_⟩
  rw [offDSs_apply]; exact (mulE (hg a b) at_scale).trans (cE (over_root _))
theorem dia_pts (hr : r + 1024 ≤ 4096) (hk : k0 = r) : Pts A C D h r k0 (diaP x0 x1 x2 x3 x5) (diaDS x0 x1 x2 x3 x4 x5 x6 x7) (diaDSs x0 x1 x2 x3 x4 x5 x6 x7) := by
  have hg : ∀ a b : Fin 1024, (show EReal from diaDS x0 x1 x2 x3 x4 x5 x6 x7 (ix2 a b)) = ((Fox.g A C D h (r + a.val) (k0 + b.val) : ℝ) : EReal) := fun a b => by
    rw [diaDS_apply]; exact mulE (diaP_real B hr hk a b) (less B a b)
  refine ⟨diaP_real B hr hk, hg, fun a b => ?_⟩
  rw [diaDSs_apply]; exact (mulE (hg a b) at_scale).trans (cE (over_root _))
variable {P DS DSs : FVec Ideal S1024x1024 .f32} (T : Pts A C D h r k0 P DS DSs)
include T
/-- The five sums over a block. -/
theorem sumK (b : Fin 1024) (e : Fin 128) : (∑ a, (show EReal from DSs (ix2 a b)) * (show EReal from x0 (ix2 a e)) : EReal)
    = ((∑ a ∈ range 1024, g A C D h (r + a) (k0 + b.val) / root * q A h (r + a) e.val : ℝ) : EReal) :=
  esum_of 1024 _ (fun a => g A C D h (r + a) (k0 + b.val) / root * q A h (r + a) e.val) fun a => mulE (T.gs a b) (B.h0 a e)
theorem sumV (b : Fin 1024) (e : Fin 128) : (∑ a, (show EReal from P (ix2 a b)) * (show EReal from x7 (ix2 a e)) : EReal)
    = ((∑ a ∈ range 1024, d D h (r + a) e.val * p A C h (r + a) (k0 + b.val) : ℝ) : EReal) :=
  esum_of 1024 _ (fun a => d D h (r + a) e.val * p A C h (r + a) (k0 + b.val)) fun a => (mulE (T.p a b) (B.h7 a e)).trans (cE (mul_comm _ _))
theorem sumQ (a : Fin 1024) (e : Fin 128) : (∑ b, (show EReal from DSs (ix2 a b)) * (show EReal from x2 (ix2 b e)) : EReal)
    = ((∑ b ∈ range 1024, g A C D h (r + a.val) (k0 + b) / root * k A h (k0 + b) e.val : ℝ) : EReal) :=
  esum_of 1024 _ (fun b => g A C D h (r + a.val) (k0 + b) / root * k A h (k0 + b) e.val) fun b => mulE (T.gs a b) (B.h2 b e)
omit B in
theorem sumC (b : Fin 1024) : (∑ a, (show EReal from DS (ix2 a b)) : EReal) = ((∑ a ∈ range 1024, g A C D h (r + a) (k0 + b.val) : ℝ) : EReal) :=
  esum_of 1024 _ (fun a => g A C D h (r + a) (k0 + b.val)) fun a => T.g a b
omit B in
theorem sumR (a : Fin 1024) : (∑ b, (show EReal from DS (ix2 a b)) : EReal) = ((∑ b ∈ range 1024, g A C D h (r + a.val) (k0 + b) : ℝ) : EReal) :=
  esum_of 1024 _ (fun b => g A C D h (r + a.val) (k0 + b)) fun b => T.g a b
end

/-! The blocks of a position. -/
/-- The block of keys. -/
def kj (n : ℕ) : ℕ := if n % 10 < 4 then 0 else if n % 10 < 7 then 1 else if n % 10 < 9 then 2 else 3
theorem ix_0 : ∀ t : Fin cfg0.N, win0_0.index t = ![qi t.val, t.val / 10] := (by decide +kernel : ∀ t : Fin grid0.N, win0_0.index t = ![qi t.val, t.val / 10])
theorem ix_1 : ∀ t : Fin cfg0.N, win0_1.index t = ![qi t.val, t.val / 10] := (by decide +kernel : ∀ t : Fin grid0.N, win0_1.index t = ![qi t.val, t.val / 10])
theorem ix_2 : ∀ t : Fin cfg0.N, win0_2.index t = ![kj t.val, 8 + t.val / 10] := (by decide +kernel : ∀ t : Fin grid0.N, win0_2.index t = ![kj t.val, 8 + t.val / 10])
theorem ix_3 : ∀ t : Fin cfg0.N, win0_3.index t = ![kj t.val, t.val / 10] := (by decide +kernel : ∀ t : Fin grid0.N, win0_3.index t = ![kj t.val, t.val / 10])
theorem ix_4 : ∀ t : Fin cfg0.N, win0_4.index t = ![kj t.val, 16 + t.val / 10] := (by decide +kernel : ∀ t : Fin grid0.N, win0_4.index t = ![kj t.val, 16 + t.val / 10])
theorem ix_5 : ∀ t : Fin cfg0.N, win0_5.index t = ![qi t.val, t.val / 10] := (by decide +kernel : ∀ t : Fin grid0.N, win0_5.index t = ![qi t.val, t.val / 10])
theorem ix_6 : ∀ t : Fin cfg0.N, win0_6.index t = ![qi t.val, t.val / 10] := (by decide +kernel : ∀ t : Fin grid0.N, win0_6.index t = ![qi t.val, t.val / 10])
theorem ix_7 : ∀ t : Fin cfg0.N, win0_7.index t = ![qi t.val, t.val / 10] := (by decide +kernel : ∀ t : Fin grid0.N, win0_7.index t = ![qi t.val, t.val / 10])

section
variable (m : (ℓ : Loc nD τ sig) → Buf (Elt Ideal) ℓ) (c : Dev nD)
variable {A C D : ℕ → ℕ → ℝ} (hA : IsA A (X0 m c)) (hC : IsC C (X1 m c)) (hD : IsD D (X2 m c))
include hA hC hD
theorem blk (n : ℕ) (hn : n < 80) : Blk A C D (Mx (X0 m c) (X1 m c)) (n / 10) (1024 * qi n) (1024 * kj n)
    (B0 m c n) (B1 m c n) (B2 m c n) (B3 m c n) (B4 m c n) (B5 m c n) (B6 m c n) (B7 m c n) := by
  have hp : (pt n).val = n := Nat.mod_eq_of_lt hn
  refine ⟨?_, ?_, ?_, ?_, ?_, ?_, ?_, ?_⟩ <;> intro a e
  · refine (R64 m c hA (((cfg0.win 0).blk (pt n)).view.emb (ix2 a e))).trans (cE (congrArg₂ A ?_ ?_))
    · blk_simp [ix_0, hp]; omega
    · blk_simp [ix_0, hp]; omega
  · refine (R60 m c hC (((cfg0.win 1).blk (pt n)).view.emb (ix2 a e))).trans ?_
    have e0 : ((((cfg0.win 1).blk (pt n)).view.emb (ix2 a e)) 0).val = 1024 * qi n + a.val := by blk_simp [ix_1, hp]; omega
    have e1 : ((((cfg0.win 1).blk (pt n)).view.emb (ix2 a e)) 1).val = 128 * (n / 10) + e.val := by blk_simp [ix_1, hp]; omega
    rw [e0, e1, show (128 * (n / 10) + e.val) / 128 = n / 10 by omega, show (128 * (n / 10) + e.val) % 128 = e.val by omega]
  · refine (R64 m c hA (((cfg0.win 2).blk (pt n)).view.emb (ix2 a e))).trans (cE (congrArg₂ A ?_ ?_))
    · blk_simp [ix_2, hp]; omega
    · blk_simp [ix_2, hp]; omega
  · refine (R63 m c hC (((cfg0.win 3).blk (pt n)).view.emb (ix2 a e))).trans ?_
    have e0 : ((((cfg0.win 3).blk (pt n)).view.emb (ix2 a e)) 0).val = 1024 * kj n + a.val := by blk_simp [ix_3, hp]; omega
    have e1 : ((((cfg0.win 3).blk (pt n)).view.emb (ix2 a e)) 1).val = 128 * (n / 10) + e.val := by blk_simp [ix_3, hp]; omega
    rw [e0, e1, show (128 * (n / 10) + e.val) / 128 = n / 10 by omega, show (128 * (n / 10) + e.val) % 128 = e.val by omega]
  · refine (R64 m c hA (((cfg0.win 4).blk (pt n)).view.emb (ix2 a e))).trans (cE (congrArg₂ A ?_ ?_))
    · blk_simp [ix_4, hp]; omega
    · blk_simp [ix_4, hp]; omega
  · refine (R37 m c hA hC (((cfg0.win 5).blk (pt n)).view.emb (ix2 a e))).trans ?_
    have e0 : ((((cfg0.win 5).blk (pt n)).view.emb (ix2 a e)) 0).val = 1024 * qi n + a.val := by blk_simp [ix_5, hp]; omega
    have e1 : ((((cfg0.win 5).blk (pt n)).view.emb (ix2 a e)) 1).val = 128 * (n / 10) + e.val := by blk_simp [ix_5, hp]; omega
    rw [e0, e1, show (128 * (n / 10) + e.val) / 128 = n / 10 by omega]
  · refine (R42 m c hA hC (((cfg0.win 6).blk (pt n)).view.emb (ix2 a e))).trans ?_
    have e0 : ((((cfg0.win 6).blk (pt n)).view.emb (ix2 a e)) 0).val = 1024 * qi n + a.val := by blk_simp [ix_6, hp]; omega
    have e1 : ((((cfg0.win 6).blk (pt n)).view.emb (ix2 a e)) 1).val = 128 * (n / 10) + e.val := by blk_simp [ix_6, hp]; omega
    rw [e0, e1, show (128 * (n / 10) + e.val) / 128 = n / 10 by omega, show (128 * (n / 10) + e.val) % 128 = e.val by omega]
  · refine (R_a2 m c hD (((cfg0.win 7).blk (pt n)).view.emb (ix2 a e))).trans (cE (congrArg₂ D ?_ ?_))
    · blk_simp [ix_7, hp]; omega
    · blk_simp [ix_7, hp]; omega
end
end Cert.KernelIdeal.Hand
end
-- ==== Proof.KernelIdealSums.lean ====
module
public import proofs.«01_k».proof.Proof.KernelIdealBlock
@[expose] public section
set_option maxRecDepth 16384
noncomputable section

/-! The accumulators after each position, over the reals. -/

namespace Cert.KernelIdeal.Hand
open Cert.KernelIdeal Cert.KernelIdeal.Gen
open Idealize.ShloMosaic Cert.Fox Finset
open Cert.ReferenceIdeal.Hand (IsA IsC IsD Mx cE)

set_option maxHeartbeats 2000000

/-! The positions. -/
theorem qi_lt (n : ℕ) : qi n < 4 := by unfold qi; split_ifs <;> omega
theorem dia_eq {n : ℕ} (h : dia n) : kj n = qi n := by unfold dia at h; unfold kj qi; split_ifs <;> omega
theorem off_lt {n : ℕ} (h : ¬ dia n) : kj n < qi n := by unfold dia at h; unfold kj qi; split_ifs <;> omega
theorem off_succ {n : ℕ} (h : ¬ dia (n + 1)) : qi (n + 1) = qi n + 1 ∧ kj (n + 1) = kj n ∧ (n + 1) / 10 = n / 10 := by
  unfold dia at h; unfold kj qi
  refine ⟨?_, ?_, by omega⟩
  · split_ifs <;> omega
  · split_ifs <;> omega
theorem vis_lt (n : ℕ) : vis n < 4 := by unfold vis; split_ifs <;> omega
/-- The blocks of keys a block of queries has met. -/
def cnt (n b : ℕ) : ℕ := if n % 10 < 4 then 1 else if n % 10 < 7 then (if 1 ≤ b ∧ b ≤ n % 10 - 3 then 2 else 1)
  else if n % 10 < 9 then (if b = 0 then 1 else if b = 1 then 2 else if b ≤ n % 10 - 5 then 3 else 2) else b + 1
theorem cnt_here {n b : ℕ} (h : qi n = b) : cnt n b = kj n + 1 := by
  unfold cnt kj; unfold qi at h; split_ifs at h ⊢ <;> omega
theorem cnt_first {n : ℕ} (h : n % 10 < 4) : kj n = 0 := by unfold kj; rw [if_pos h]
theorem cnt_before {n b : ℕ} (h : qi (n + 1) = b) (h4 : ¬ (n + 1) % 10 < 4) (hb : b < 4) : cnt n b = kj (n + 1) ∧ n / 10 = (n + 1) / 10 ∧ b ≤ vis n := by
  unfold cnt kj vis; unfold qi at h
  refine ⟨?_, by omega, ?_⟩
  · split_ifs at h ⊢ <;> omega
  · split_ifs at h ⊢ <;> omega
theorem cnt_other {n b : ℕ} (h : ¬ qi (n + 1) = b) (hb : b ≤ vis (n + 1)) : cnt (n + 1) b = cnt n b ∧ n / 10 = (n + 1) / 10 ∧ b ≤ vis n := by
  unfold cnt; unfold vis at hb ⊢; unfold qi at h
  refine ⟨?_, ?_, ?_⟩
  · split_ifs at h hb ⊢ <;> omega
  · split_ifs at h hb <;> omega
  · split_ifs at h hb ⊢ <;> omega

section
variable (m : (ℓ : Loc nD τ sig) → Buf (Elt Ideal) ℓ) (c : Dev nD)
variable {A C D : ℕ → ℕ → ℝ} (hA : IsA A (X0 m c)) (hC : IsC C (X1 m c)) (hD : IsD D (X2 m c))
include hA hC hD

/-! The key side: sums over the queries met, from the first. -/
theorem ptsDia (n : ℕ) (hn : n < 80) (hd : dia n) : Pts A C D (n / 10) (1024 * qi n) (1024 * kj n)
    (diaP (B0 m c n) (B1 m c n) (B2 m c n) (B3 m c n) (B5 m c n)) (diaDS (B0 m c n) (B1 m c n) (B2 m c n) (B3 m c n) (B4 m c n) (B5 m c n) (B6 m c n) (B7 m c n))
    (diaDSs (B0 m c n) (B1 m c n) (B2 m c n) (B3 m c n) (B4 m c n) (B5 m c n) (B6 m c n) (B7 m c n)) :=
  dia_pts (blk m c hA hC hD n hn) (by have := qi_lt n; omega) (by rw [dia_eq hd])
theorem ptsOff (n : ℕ) (hn : n < 80) (hd : ¬ dia n) : Pts A C D (n / 10) (1024 * qi n) (1024 * kj n)
    (offP (B0 m c n) (B1 m c n) (B2 m c n) (B3 m c n) (B5 m c n)) (offDS (B0 m c n) (B1 m c n) (B2 m c n) (B3 m c n) (B4 m c n) (B5 m c n) (B6 m c n) (B7 m c n))
    (offDSs (B0 m c n) (B1 m c n) (B2 m c n) (B3 m c n) (B4 m c n) (B5 m c n) (B6 m c n) (B7 m c n)) :=
  off_pts (blk m c hA hC hD n hn) (by have := qi_lt n; omega) (by have := off_lt hd; omega)
omit hA hC hD in
/-- A sum over the rows up to a diagonal block's end is the block's own where the rows before it give nothing. -/
theorem from_zero (f : ℕ → ℝ) (b : ℕ) (hz : ∀ t, t < 1024 * b → f t = 0) : 0 + ∑ i ∈ range 1024, f (1024 * b + i) = ∑ i ∈ range (1024 * (b + 1)), f i := by
  rw [range_block, sum_eq_zero (fun i hi => hz i (mem_range.1 hi))]

/-- The terms of the three sums. -/
def tK (A C D : ℕ → ℕ → ℝ) (h s e t : ℕ) : ℝ := g A C D h t s / root * q A h t e
def tV (A C D : ℕ → ℕ → ℝ) (h s e t : ℕ) : ℝ := d D h t e * p A C h t s
def tC (A C D : ℕ → ℕ → ℝ) (h s t : ℕ) : ℝ := g A C D h t s

theorem stepK_real (n : ℕ) (hn : n < 80) (s : Vec Ideal S1024x128 .f32)
    (hs : ¬ dia n → ∀ (b : Fin 1024) (e : Fin 128), (show EReal from s (ix2 b e)) = ((∑ t ∈ range (1024 * qi n), tK A C D (n / 10) (1024 * kj n + b.val) e.val t : ℝ) : EReal))
    (b : Fin 1024) (e : Fin 128) : (show EReal from stepK m c n s (ix2 b e)) = ((∑ t ∈ range (1024 * (qi n + 1)), tK A C D (n / 10) (1024 * kj n + b.val) e.val t : ℝ) : EReal) := by
  have Bn := blk m c hA hC hD n hn
  unfold stepK
  by_cases hd : dia n
  · rw [if_pos hd, diaDK_apply]
    refine (addE (z31 b e) (sumK Bn (ptsDia m c hA hC hD n hn hd) b e)).trans (cE ?_)
    refine from_zero (tK A C D (n / 10) (1024 * kj n + b.val) e.val) (qi n) fun t ht => ?_
    unfold tK
    rw [g_zero A C D _ _ _ (by rw [dia_eq hd]; omega), zero_div, zero_mul]
  · rw [if_neg hd, offDK_apply]
    refine (addE (hs hd b e) (sumK Bn (ptsOff m c hA hC hD n hn hd) b e)).trans (cE ?_)
    exact (range_block (tK A C D (n / 10) (1024 * kj n + b.val) e.val) (qi n)).symm
theorem stepV_real (n : ℕ) (hn : n < 80) (s : Vec Ideal S1024x128 .f32)
    (hs : ¬ dia n → ∀ (b : Fin 1024) (e : Fin 128), (show EReal from s (ix2 b e)) = ((∑ t ∈ range (1024 * qi n), tV A C D (n / 10) (1024 * kj n + b.val) e.val t : ℝ) : EReal))
    (b : Fin 1024) (e : Fin 128) : (show EReal from stepV m c n s (ix2 b e)) = ((∑ t ∈ range (1024 * (qi n + 1)), tV A C D (n / 10) (1024 * kj n + b.val) e.val t : ℝ) : EReal) := by
  have Bn := blk m c hA hC hD n hn
  unfold stepV
  by_cases hd : dia n
  · rw [if_pos hd, diaDV_apply]
    refine (addE (z32 b e) (sumV Bn (ptsDia m c hA hC hD n hn hd) b e)).trans (cE ?_)
    refine from_zero (tV A C D (n / 10) (1024 * kj n + b.val) e.val) (qi n) fun t ht => ?_
    unfold tV
    rw [p_zero A C _ _ _ (by rw [dia_eq hd]; omega), mul_zero]
  · rw [if_neg hd, offDV_apply]
    refine (addE (hs hd b e) (sumV Bn (ptsOff m c hA hC hD n hn hd) b e)).trans (cE ?_)
    exact (range_block (tV A C D (n / 10) (1024 * kj n + b.val) e.val) (qi n)).symm
theorem stepC_real (n : ℕ) (hn : n < 80) (s : Vec Ideal S1x1024 .f32)
    (hs : ¬ dia n → ∀ (b : Fin 1024), (show EReal from s (ix2 0 b)) = ((∑ t ∈ range (1024 * qi n), tC A C D (n / 10) (1024 * kj n + b.val) t : ℝ) : EReal))
    (b : Fin 1024) : (show EReal from stepC m c n s (ix2 0 b)) = ((∑ t ∈ range (1024 * (qi n + 1)), tC A C D (n / 10) (1024 * kj n + b.val) t : ℝ) : EReal) := by
  unfold stepC
  by_cases hd : dia n
  · rw [if_pos hd, diaDC_apply]
    refine (addE (z33 b) (sumC (ptsDia m c hA hC hD n hn hd) b)).trans (cE ?_)
    refine from_zero (tC A C D (n / 10) (1024 * kj n + b.val)) (qi n) fun t ht => ?_
    unfold tC
    rw [g_zero A C D _ _ _ (by rw [dia_eq hd]; omega)]
  · rw [if_neg hd, offDC_apply]
    refine (addE (hs hd b) (sumC (ptsOff m c hA hC hD n hn hd) b)).trans (cE ?_)
    exact (range_block (tC A C D (n / 10) (1024 * kj n + b.val)) (qi n)).symm

theorem DK_real : ∀ n : ℕ, n < 80 → ∀ (b : Fin 1024) (e : Fin 128), (show EReal from DK m c n (ix2 b e))
    = ((∑ t ∈ range (1024 * (qi n + 1)), tK A C D (n / 10) (1024 * kj n + b.val) e.val t : ℝ) : EReal)
  | 0, hn, b, e => stepK_real m c hA hC hD 0 hn _ (fun h => absurd (Or.inl rfl) h) b e
  | n + 1, hn, b, e => by
    refine stepK_real m c hA hC hD (n + 1) hn (DK m c n) (fun h b e => ?_) b e
    obtain ⟨e1, e2, e3⟩ := off_succ h
    rw [e1, e2, e3]
    exact DK_real n (by omega) b e
theorem DV_real : ∀ n : ℕ, n < 80 → ∀ (b : Fin 1024) (e : Fin 128), (show EReal from DV m c n (ix2 b e))
    = ((∑ t ∈ range (1024 * (qi n + 1)), tV A C D (n / 10) (1024 * kj n + b.val) e.val t : ℝ) : EReal)
  | 0, hn, b, e => stepV_real m c hA hC hD 0 hn _ (fun h => absurd (Or.inl rfl) h) b e
  | n + 1, hn, b, e => by
    refine stepV_real m c hA hC hD (n + 1) hn (DV m c n) (fun h b e => ?_) b e
    obtain ⟨e1, e2, e3⟩ := off_succ h
    rw [e1, e2, e3]
    exact DV_real n (by omega) b e
theorem DC_real : ∀ n : ℕ, n < 80 → ∀ (b : Fin 1024), (show EReal from DC m c n (ix2 0 b))
    = ((∑ t ∈ range (1024 * (qi n + 1)), tC A C D (n / 10) (1024 * kj n + b.val) t : ℝ) : EReal)
  | 0, hn, b => stepC_real m c hA hC hD 0 hn _ (fun h => absurd (Or.inl rfl) h) b
  | n + 1, hn, b => by
    refine stepC_real m c hA hC hD (n + 1) hn (DC m c n) (fun h b => ?_) b
    obtain ⟨e1, e2, e3⟩ := off_succ h
    rw [e1, e2, e3]
    exact DC_real n (by omega) b

/-! The query side: sums over the keys met. -/
def tQ (A C D : ℕ → ℕ → ℝ) (h t e s : ℕ) : ℝ := g A C D h t s / root * k A h s e
def tR (A C D : ℕ → ℕ → ℝ) (h t s : ℕ) : ℝ := g A C D h t s
theorem stepQ_real (n : ℕ) (hn : n < 80) (s : Vec Ideal S1024x128 .f32)
    (hs : ¬ n % 10 < 4 → ∀ (a : Fin 1024) (e : Fin 128), (show EReal from s (ix2 a e)) = ((∑ x ∈ range (1024 * kj n), tQ A C D (n / 10) (1024 * qi n + a.val) e.val x : ℝ) : EReal))
    (a : Fin 1024) (e : Fin 128) : (show EReal from stepQ m c n s (ix2 a e)) = ((∑ x ∈ range (1024 * (kj n + 1)), tQ A C D (n / 10) (1024 * qi n + a.val) e.val x : ℝ) : EReal) := by
  have Bn := blk m c hA hC hD n hn
  unfold stepQ
  have first : n % 10 < 4 → (∑ b ∈ range 1024, tQ A C D (n / 10) (1024 * qi n + a.val) e.val (1024 * kj n + b)) = ∑ x ∈ range (1024 * (kj n + 1)), tQ A C D (n / 10) (1024 * qi n + a.val) e.val x := fun h4 => by
    rw [range_block, cnt_first h4, Nat.mul_zero, range_zero, sum_empty, zero_add]
  by_cases hd : dia n
  · rw [if_pos hd]
    by_cases h4 : n % 10 < 4
    · rw [if_pos h4, diaQ0_apply]
      exact (sumQ Bn (ptsDia m c hA hC hD n hn hd) a e).trans (cE (first h4))
    · rw [if_neg h4, diaQ1_apply]
      refine (addE (hs h4 a e) (sumQ Bn (ptsDia m c hA hC hD n hn hd) a e)).trans (cE ?_)
      exact (range_block (tQ A C D (n / 10) (1024 * qi n + a.val) e.val) (kj n)).symm
  · rw [if_neg hd]
    by_cases h4 : n % 10 < 4
    · rw [if_pos h4, offQ0_apply]
      exact (sumQ Bn (ptsOff m c hA hC hD n hn hd) a e).trans (cE (first h4))
    · rw [if_neg h4, offQ1_apply]
      refine (addE (hs h4 a e) (sumQ Bn (ptsOff m c hA hC hD n hn hd) a e)).trans (cE ?_)
      exact (range_block (tQ A C D (n / 10) (1024 * qi n + a.val) e.val) (kj n)).symm
theorem stepR_real (n : ℕ) (hn : n < 80) (s : Vec Ideal S1024x1 .f32)
    (hs : ¬ n % 10 < 4 → ∀ (a : Fin 1024), (show EReal from s (ix2 a 0)) = ((∑ x ∈ range (1024 * kj n), tR A C D (n / 10) (1024 * qi n + a.val) x : ℝ) : EReal))
    (a : Fin 1024) : (show EReal from stepR m c n s (ix2 a 0)) = ((∑ x ∈ range (1024 * (kj n + 1)), tR A C D (n / 10) (1024 * qi n + a.val) x : ℝ) : EReal) := by
  unfold stepR
  have first : n % 10 < 4 → (∑ b ∈ range 1024, tR A C D (n / 10) (1024 * qi n + a.val) (1024 * kj n + b)) = ∑ x ∈ range (1024 * (kj n + 1)), tR A C D (n / 10) (1024 * qi n + a.val) x := fun h4 => by
    rw [range_block, cnt_first h4, Nat.mul_zero, range_zero, sum_empty, zero_add]
  by_cases hd : dia n
  · rw [if_pos hd]
    by_cases h4 : n % 10 < 4
    · rw [if_pos h4, diaR0_apply]
      exact (sumR (ptsDia m c hA hC hD n hn hd) a).trans (cE (first h4))
    · rw [if_neg h4, diaR1_apply]
      refine (addE (hs h4 a) (sumR (ptsDia m c hA hC hD n hn hd) a)).trans (cE ?_)
      exact (range_block (tR A C D (n / 10) (1024 * qi n + a.val)) (kj n)).symm
  · rw [if_neg hd]
    by_cases h4 : n % 10 < 4
    · rw [if_pos h4, offR0_apply]
      exact (sumR (ptsOff m c hA hC hD n hn hd) a).trans (cE (first h4))
    · rw [if_neg h4, offR1_apply]
      refine (addE (hs h4 a) (sumR (ptsOff m c hA hC hD n hn hd) a)).trans (cE ?_)
      exact (range_block (tR A C D (n / 10) (1024 * qi n + a.val)) (kj n)).symm

theorem DQ_real : ∀ n : ℕ, n < 80 → ∀ b : ℕ, b ≤ vis n → ∀ (a : Fin 1024) (e : Fin 128), (show EReal from DQ m c n b (ix2 a e))
    = ((∑ x ∈ range (1024 * cnt n b), tQ A C D (n / 10) (1024 * b + a.val) e.val x : ℝ) : EReal)
  | 0, hn, b, hb, a, e => by
    have hb0 : b = 0 := by unfold vis at hb; split_ifs at hb <;> omega
    subst hb0
    have := stepQ_real m c hA hC hD 0 hn (fun _ => 0) (fun h => absurd (by norm_num) h) a e
    unfold stepQ at this
    rw [if_pos (show dia 0 from Or.inl rfl), if_pos (by norm_num)] at this
    exact this
  | n + 1, hn, b, hb, a, e => by
    have hb4 : b < 4 := lt_of_le_of_lt hb (vis_lt _)
    rw [DQ]
    by_cases hq : qi (n + 1) = b
    · rw [if_pos hq, cnt_here hq]
      have := stepQ_real m c hA hC hD (n + 1) hn (DQ m c n b) (fun h a e => by
        obtain ⟨e1, e2, e3⟩ := cnt_before hq h hb4
        rw [← e1, ← e2, hq]
        exact DQ_real n (by omega) b e3 a e) a e
      rw [hq] at this
      exact this
    · rw [if_neg hq]
      obtain ⟨e1, e2, e3⟩ := cnt_other hq hb
      rw [e1, ← e2]
      exact DQ_real n (by omega) b e3 a e
theorem DR_real : ∀ n : ℕ, n < 80 → ∀ b : ℕ, b ≤ vis n → ∀ (a : Fin 1024), (show EReal from DR m c n b (ix2 a 0))
    = ((∑ x ∈ range (1024 * cnt n b), tR A C D (n / 10) (1024 * b + a.val) x : ℝ) : EReal)
  | 0, hn, b, hb, a => by
    have hb0 : b = 0 := by unfold vis at hb; split_ifs at hb <;> omega
    subst hb0
    have := stepR_real m c hA hC hD 0 hn (fun _ => 0) (fun h => absurd (by norm_num) h) a
    unfold stepR at this
    rw [if_pos (show dia 0 from Or.inl rfl), if_pos (by norm_num)] at this
    exact this
  | n + 1, hn, b, hb, a => by
    have hb4 : b < 4 := lt_of_le_of_lt hb (vis_lt _)
    rw [DR]
    by_cases hq : qi (n + 1) = b
    · rw [if_pos hq, cnt_here hq]
      have := stepR_real m c hA hC hD (n + 1) hn (DR m c n b) (fun h a => by
        obtain ⟨e1, e2, e3⟩ := cnt_before hq h hb4
        rw [← e1, ← e2, hq]
        exact DR_real n (by omega) b e3 a) a
      rw [hq] at this
      exact this
    · rw [if_neg hq]
      obtain ⟨e1, e2, e3⟩ := cnt_other hq hb
      rw [e1, ← e2]
      exact DR_real n (by omega) b e3 a

omit hA hC hD in
/-- The keys past a row's block give nothing. -/
theorem to_end (f : ℕ → ℝ) (b : ℕ) (hb : b < 4) (hz : ∀ s, 1024 * (b + 1) ≤ s → f s = 0) : ∑ s ∈ range (1024 * (b + 1)), f s = ∑ s ∈ range 4096, f s := by
  refine sum_subset (range_subset_range.2 (by omega)) fun s _ h => hz s (not_lt.1 fun hh => h (mem_range.2 hh))
end
end Cert.KernelIdeal.Hand
end
-- ==== Proof.KernelIdealValue.lean ====
module
public import proofs.«01_k».proof.Proof.KernelIdealFrame
public import proofs.«01_k».proof.Proof.KernelIdealSums
@[expose] public section
set_option maxRecDepth 16384
noncomputable section

/-! The kernel's five results are the reference's. -/

namespace Cert.KernelIdeal.Hand
open Cert.KernelIdeal Cert.KernelIdeal.Gen
open Idealize.ShloMosaic Cert.Fox Finset
open Cert.ReferenceIdeal.Hand (IsA IsC IsD Mx cE)
open Cert.ReferenceIdeal.Read

set_option maxHeartbeats 2000000

theorem ix_8 : ∀ t : Fin cfg0.N, win0_8.index t = ![0, t.val / 10] := (by decide +kernel : ∀ t : Fin grid0.N, win0_8.index t = ![0, t.val / 10])
theorem ix_9 : ∀ t : Fin cfg0.N, win0_9.index t = ![0, t.val / 10] := (by decide +kernel : ∀ t : Fin grid0.N, win0_9.index t = ![0, t.val / 10])
theorem ix_10 : ∀ t : Fin cfg0.N, win0_10.index t = ![kj t.val, t.val / 10] := (by decide +kernel : ∀ t : Fin grid0.N, win0_10.index t = ![kj t.val, t.val / 10])
theorem ix_11 : ∀ t : Fin cfg0.N, win0_11.index t = ![kj t.val, t.val / 10] := (by decide +kernel : ∀ t : Fin grid0.N, win0_11.index t = ![kj t.val, t.val / 10])
theorem ix_12 : ∀ t : Fin cfg0.N, win0_12.index t = ![t.val / 10, 0, kj t.val] := (by decide +kernel : ∀ t : Fin grid0.N, win0_12.index t = ![t.val / 10, 0, kj t.val])
theorem last10 : ∀ t : Fin cfg0.N, (cfg0.win 10).flush t = true → qi t.val = 3 := (by decide +kernel : ∀ t : Fin grid0.N, win0_10.flush t = true → qi t.val = 3)
theorem last11 : ∀ t : Fin cfg0.N, (cfg0.win 11).flush t = true → qi t.val = 3 := (by decide +kernel : ∀ t : Fin grid0.N, win0_11.flush t = true → qi t.val = 3)
theorem last12 : ∀ t : Fin cfg0.N, (cfg0.win 12).flush t = true → qi t.val = 3 := (by decide +kernel : ∀ t : Fin grid0.N, win0_12.flush t = true → qi t.val = 3)

section
variable (m : (ℓ : Loc nD τ sig) → Buf (Elt Ideal) ℓ) (c : Dev nD)
variable {A C D : ℕ → ℕ → ℝ} (hA : IsA A (X0 m c)) (hC : IsC C (X1 m c)) (hD : IsD D (X2 m c))
include hA hC hD

theorem out10 : (dats m 0 c).arrAt 10 cfg0.N = val_main_v94 (F := Ideal) (X0 m c) (X1 m c) (X2 m c) := by
  refine (dats m 0 c).arrAt_eq_of_covers 10 _ (by decide +kernel) fun t hf y => ?_
  have ht : t.val < 80 := lt_of_lt_of_eq t.isLt (show cfg0.N = 80 from N_0)
  have hq := last10 t hf
  obtain ⟨b, e, rfl⟩ : ∃ (b : Fin 1024) (e : Fin 128), y = ix2 b e := ⟨y 0, y 1, by funext a; match a with | ⟨0, _⟩ => rfl | ⟨1, _⟩ => rfl⟩
  have e0 : ((((cfg0.win 10).blk t).view.emb (ix2 b e)) 0).val = 1024 * kj t.val + b.val := by blk_simp [ix_10]; omega
  have e1 : ((((cfg0.win 10).blk t).view.emb (ix2 b e)) 1).val = 128 * (t.val / 10) + e.val := by blk_simp [ix_10]; omega
  refine Eq.trans ?_ (Cert.ReferenceIdeal.Hand.v94 hA hC hD _).symm
  rw [e0, e1, show (128 * (t.val / 10) + e.val) / 128 = t.val / 10 by omega, show (128 * (t.val / 10) + e.val) % 128 = e.val by omega]
  refine Eq.trans ?_ ((DK_real m c hA hC hD t.val ht b e).trans (cE (by rw [hq]; rfl)))
  blk_simp
  rw [after10]
  unfold k0_pay5
  pointwise
  all_goals rfl
theorem out11 : (dats m 0 c).arrAt 11 cfg0.N = val_main_v96 (F := Ideal) (X0 m c) (X1 m c) (X2 m c) := by
  refine (dats m 0 c).arrAt_eq_of_covers 11 _ (by decide +kernel) fun t hf y => ?_
  have ht : t.val < 80 := lt_of_lt_of_eq t.isLt (show cfg0.N = 80 from N_0)
  have hq := last11 t hf
  obtain ⟨b, e, rfl⟩ : ∃ (b : Fin 1024) (e : Fin 128), y = ix2 b e := ⟨y 0, y 1, by funext a; match a with | ⟨0, _⟩ => rfl | ⟨1, _⟩ => rfl⟩
  have e0 : ((((cfg0.win 11).blk t).view.emb (ix2 b e)) 0).val = 1024 * kj t.val + b.val := by blk_simp [ix_11]; omega
  have e1 : ((((cfg0.win 11).blk t).view.emb (ix2 b e)) 1).val = 128 * (t.val / 10) + e.val := by blk_simp [ix_11]; omega
  refine Eq.trans ?_ (Cert.ReferenceIdeal.Hand.v96 hA hC hD _).symm
  rw [e0, e1, show (128 * (t.val / 10) + e.val) / 128 = t.val / 10 by omega, show (128 * (t.val / 10) + e.val) % 128 = e.val by omega]
  refine Eq.trans ?_ ((DV_real m c hA hC hD t.val ht b e).trans (cE (by rw [hq]; rfl)))
  blk_simp
  rw [after11]
  unfold k0_pay6
  pointwise
  all_goals rfl
theorem out12 : (dats m 0 c).arrAt 12 cfg0.N = val_main_v98 (F := Ideal) (X0 m c) (X1 m c) (X2 m c) := by
  refine (dats m 0 c).arrAt_eq_of_covers 12 _ (by decide +kernel) fun t hf y => ?_
  have ht : t.val < 80 := lt_of_lt_of_eq t.isLt (show cfg0.N = 80 from N_0)
  have hq := last12 t hf
  obtain ⟨b, rfl⟩ : ∃ (b : Fin 1024), y = ix3 (0 : Fin 1) (0 : Fin 1) b := ⟨y 2, by
    funext a; match a with | ⟨0, _⟩ => exact Subsingleton.elim (α := Fin 1) _ _ | ⟨1, _⟩ => exact Subsingleton.elim (α := Fin 1) _ _ | ⟨2, _⟩ => rfl⟩
  have e0 : ((((cfg0.win 12).blk t).view.emb (ix3 (0 : Fin 1) (0 : Fin 1) b)) 0).val = t.val / 10 := by blk_simp [ix_12]; rfl
  have e2 : ((((cfg0.win 12).blk t).view.emb (ix3 (0 : Fin 1) (0 : Fin 1) b)) 2).val = 1024 * kj t.val + b.val := by blk_simp [ix_12]; omega
  refine Eq.trans ?_ (Cert.ReferenceIdeal.Hand.v98 hA hC hD _).symm
  rw [e0, e2]
  refine Eq.trans ?_ ((DC_real m c hA hC hD t.val ht b).trans (cE (by rw [hq]; rfl)))
  blk_simp
  rw [after12]
  unfold k0_pay7
  pointwise
  all_goals rfl
theorem out8 : (dats m 0 c).arrAt 8 cfg0.N = val_main_v92 (F := Ideal) (X0 m c) (X1 m c) (X2 m c) := by
  refine (dats m 0 c).arrAt_eq_of_covers 8 _ (by decide +kernel) fun t hf y => ?_
  have ht : t.val < 80 := lt_of_lt_of_eq t.isLt (show cfg0.N = 80 from N_0)
  have h9 : t.val % 10 = 9 := (flush0_8 t).1 hf
  obtain ⟨a, e, rfl⟩ : ∃ (a : Fin 4096) (e : Fin 128), y = ix2 a e := ⟨y 0, y 1, by funext a; match a with | ⟨0, _⟩ => rfl | ⟨1, _⟩ => rfl⟩
  have e0 : ((((cfg0.win 8).blk t).view.emb (ix2 a e)) 0).val = a.val := by blk_simp [ix_8]
  have e1 : ((((cfg0.win 8).blk t).view.emb (ix2 a e)) 1).val = 128 * (t.val / 10) + e.val := by blk_simp [ix_8]; omega
  refine Eq.trans ?_ (Cert.ReferenceIdeal.Hand.v92 hA hC hD _).symm
  rw [e0, e1, show (128 * (t.val / 10) + e.val) / 128 = t.val / 10 by omega, show (128 * (t.val / 10) + e.val) % 128 = e.val by omega]
  have ha : a.val / 1024 < 4 := by omega
  have hv : a.val / 1024 ≤ vis t.val := by unfold vis; rw [if_neg (by omega)]; omega
  have hc : cnt t.val (a.val / 1024) = a.val / 1024 + 1 := by
    unfold cnt; rw [if_neg (by omega), if_neg (by omega), if_neg (by omega)]
  refine Eq.trans ?_ ((DQ_real m c hA hC hD t.val ht (a.val / 1024) hv ⟨a.val % 1024, Nat.mod_lt _ (by norm_num)⟩ e).trans (cE ?_))
  · blk_simp
    rw [after8]
    show glueQ _ (ix2 a e) = _
    unfold glueQ
    show DQ m c t.val (a.val / 1024) _ = DQ m c t.val (a.val / 1024) _
    congr 1
    funext a; match a with | ⟨0, _⟩ => rfl | ⟨1, _⟩ => rfl
  · rw [hc, to_end _ _ ha (fun s hs => ?_)]
    · refine sum_congr rfl fun s _ => ?_
      show g A C D _ (1024 * (a.val / 1024) + a.val % 1024) _ / root * _ = _
      rw [Nat.div_add_mod]
    · show g A C D _ (1024 * (a.val / 1024) + a.val % 1024) _ / root * _ = _
      rw [g_zero A C D _ _ _ (by omega), zero_div, zero_mul]
theorem out9 : (dats m 0 c).arrAt 9 cfg0.N = val_main_v90 (F := Ideal) (X0 m c) (X1 m c) (X2 m c) := by
  refine (dats m 0 c).arrAt_eq_of_covers 9 _ (by decide +kernel) fun t hf y => ?_
  have ht : t.val < 80 := lt_of_lt_of_eq t.isLt (show cfg0.N = 80 from N_0)
  have h9 : t.val % 10 = 9 := (flush0_9 t).1 hf
  obtain ⟨a, e, rfl⟩ : ∃ (a : Fin 4096) (e : Fin 128), y = ix2 a e := ⟨y 0, y 1, by funext a; match a with | ⟨0, _⟩ => rfl | ⟨1, _⟩ => rfl⟩
  have e0 : ((((cfg0.win 9).blk t).view.emb (ix2 a e)) 0).val = a.val := by blk_simp [ix_9]
  have e1 : ((((cfg0.win 9).blk t).view.emb (ix2 a e)) 1).val = 128 * (t.val / 10) + e.val := by blk_simp [ix_9]; omega
  refine Eq.trans ?_ (Cert.ReferenceIdeal.Hand.v90 hA hC hD _).symm
  rw [e0, e1, show (128 * (t.val / 10) + e.val) / 128 = t.val / 10 by omega]
  have ha : a.val / 1024 < 4 := by omega
  have hv : a.val / 1024 ≤ vis t.val := by unfold vis; rw [if_neg (by omega)]; omega
  have hc : cnt t.val (a.val / 1024) = a.val / 1024 + 1 := by
    unfold cnt; rw [if_neg (by omega), if_neg (by omega), if_neg (by omega)]
  have hg : k0_pay9 (glueR (DR m c t.val)) (ix2 a e) = glueR (DR m c t.val) (ix2 a 0) := by
    generalize glueR (DR m c t.val) = S
    unfold k0_pay9
    pointwise
  refine Eq.trans ?_ ((DR_real m c hA hC hD t.val ht (a.val / 1024) hv ⟨a.val % 1024, Nat.mod_lt _ (by norm_num)⟩).trans (cE ?_))
  · blk_simp
    rw [after9]
    refine hg.trans ?_
    unfold glueR
    show DR m c t.val (a.val / 1024) _ = DR m c t.val (a.val / 1024) _
    congr 1
    funext a; match a with | ⟨0, _⟩ => rfl | ⟨1, _⟩ => rfl
  · rw [hc, to_end _ _ ha (fun s hs => ?_)]
    · refine sum_congr rfl fun s _ => ?_
      show g A C D _ (1024 * (a.val / 1024) + a.val % 1024) _ = _
      rw [Nat.div_add_mod]
    · show g A C D _ (1024 * (a.val / 1024) + a.val % 1024) _ = _
      rw [g_zero A C D _ _ _ (by omega)]
end
end Cert.KernelIdeal.Hand
end
-- ==== Proof.FiniteArgs.lean ====
module
public import proofs.«01_k».proof.Proof.KernelIdealValue
public import proofs.«01_k».proof.Proof.Gen.Pre_finite
public import Idealize.ShloMosaic.Lib.ReduceAll
@[expose] public section
set_option maxRecDepth 16384
noncomputable section

/-! What the precondition says: every element of the three arguments is a real number. -/

namespace Cert.KernelIdeal.Hand
open Idealize.ShloMosaic
open Cert.ReferenceIdeal.Hand (IsA IsC IsD)

theorem real_of_lt (x : EReal) (h : max x (-x) < ⊤) : x = ((x.toReal : ℝ) : EReal) := by
  induction x using EReal.rec with
  | bot => simp at h
  | coe r => rfl
  | top => simp at h
theorem top_word : FloatOps.ofBits (F := Ideal) .f32 0x7F800000#32 = (⊤ : EReal) := by
  show Ideal.ofBits _ _ = _
  simp [Ideal.ofBits, Ideal.ieee]
theorem real_at (x : Ideal .f32) (h : FloatOps.cmpf .olt (FloatOps.hostAbsf x) (FloatOps.ofBits (F := Ideal) .f32 0x7F800000#32) = 1#1) :
    (show EReal from x) = (((show EReal from x).toReal : ℝ) : EReal) := by
  refine real_of_lt x ?_
  rw [top_word] at h
  by_contra hn
  have : Ideal.cmp .olt (max x (-x) : EReal) ⊤ = 1#1 := h
  unfold Ideal.cmp at this
  simp [hn] at this

/-- One element's reading of an array by two naturals. -/
def cell {a b : ℕ} (x : Vec Ideal (⟨2, ![a, b]⟩ : Shape) .f32) (i j : ℕ) : ℝ :=
  if h : i < a ∧ j < b then (show EReal from x (ix2 ⟨i, h.1⟩ ⟨j, h.2⟩)).toReal else 0
theorem cell_at {a b : ℕ} (x : Vec Ideal (⟨2, ![a, b]⟩ : Shape) .f32) (hx : ∀ i, (show EReal from x i) = (((show EReal from x i).toReal : ℝ) : EReal))
    (i : (⟨2, ![a, b]⟩ : Shape).Idx) : (show EReal from x i) = ((cell x (i 0).val (i 1).val : ℝ) : EReal) := by
  obtain ⟨s, t, rfl⟩ : ∃ (s : Fin a) (t : Fin b), i = ix2 s t := ⟨i 0, i 1, by funext u; match u with | ⟨0, _⟩ => rfl | ⟨1, _⟩ => rfl⟩
  refine (hx _).trans ?_
  unfold cell
  rw [dif_pos (show ((ix2 s t) 0).val < a ∧ ((ix2 s t) 1).val < b from ⟨s.isLt, t.isLt⟩)]
  rfl

open Cert.Pre_finite in
theorem finite_reals [Cert.Pre_finite.Facts] (x0 : Vec Ideal S4096x3072 .f32) (x1 : Vec Ideal S8x4096 .f32) (x2 : Vec Ideal S4096x1024 .f32)
    (h : Cert.Pre_finite.fn (F := Ideal) x0 x1 x2 = fun _ => 1#1) : IsA (cell x0) x0 ∧ IsC (cell x1) x1 ∧ IsD (cell x2) x2 := by
  have h0 := congrFun h (fun a => a.elim0)
  dsimp only [Cert.Pre_finite.fn] at h0
  obtain ⟨h01, h2⟩ := IntOp.andi_eq_one.1 h0
  obtain ⟨h0, h1⟩ := IntOp.andi_eq_one.1 h01
  haveI : Subsingleton S_.Idx := ⟨fun a b => funext fun i => i.elim0⟩
  refine ⟨fun i => cell_at x0 (fun i => real_at _ ?_) i, fun i => cell_at x1 (fun i => real_at _ ?_) i, fun i => cell_at x2 (fun i => real_at _ ?_) i⟩
  · exact Host.reduce_andi_all _ _ _ _ _ h0 i
  · exact Host.reduce_andi_all _ _ _ _ _ h1 i
  · exact Host.reduce_andi_all _ _ _ _ _ h2 i
end Cert.KernelIdeal.Hand
end
-- ==== Proof.DActValue.lean ====
module
public import proofs.«01_k».proof.Proof.Gen.DActIdeal.Value
public import proofs.«01_k».proof.Proof.Gen.RefDActIdeal.Read
public import Idealize.ShloMosaic.Lib.Pipeline.ValueKit
@[expose] public section
set_option maxRecDepth 16384
noncomputable section

/-! The call that computes the activation's gradient has the reference's result. -/

namespace Cert.DActIdeal.Hand
open Cert.DActIdeal Cert.DActIdeal.Gen
open Idealize.ShloMosaic Finset
open Cert.RefDActIdeal.Read

set_option maxHeartbeats 2000000

theorem ix : ∀ t : Fin cfg0.N, win0_0.index t = ![t.val / 16, 0] ∧ win0_1.index t = ![t.val % 16, 0] ∧ win0_2.index t = ![t.val / 16, t.val % 16]
    ∧ win0_3.index t = ![t.val / 16, t.val % 16] :=
  (by decide +kernel : ∀ t : Fin grid0.N, win0_0.index t = ![t.val / 16, 0] ∧ win0_1.index t = ![t.val % 16, 0] ∧ win0_2.index t = ![t.val / 16, t.val % 16]
    ∧ win0_3.index t = ![t.val / 16, t.val % 16])

theorem two : Ideal.ofBits .f32 0x40000000#32 = (2 : EReal) := by
  simp [Ideal.ofBits, Ideal.ieee, -EReal.coe_mul]; norm_num; rfl

theorem pay (x0 : Vec Ideal S2048x2048 .bf16) (x1 : Vec Ideal S512x2048 .bf16) (x2 : Vec Ideal S2048x512 .bf16) (a : Fin 2048) (b : Fin 512) :
    (show EReal from k0_pay1 (F := Ideal) x0 x1 x2 (ix2 a b))
      = (∑ k : Fin 2048, (show EReal from x0 (ix2 a k)) * (show EReal from x1 (ix2 b k))) * (2 * max (show EReal from x2 (ix2 a b)) 0) := by
  unfold k0_pay1
  pointwise
  rw [two]

theorem gate (s u : EReal) : Scalar.select (FloatOps.cmpf (F := Ideal) (φ := .f32) .ogt u (Ideal.ofBits .f32 0x00000000#32)) (s * (Ideal.ofBits .f32 0x40000000#32 * max u (Ideal.ofBits .f32 0x00000000#32))) (Ideal.ofBits .f32 0x00000000#32)
    = s * (2 * max u 0) := by
  rw [two, Ideal.ofBits_zero_f32]
  rcases le_or_gt u 0 with h | h
  · rw [max_eq_right h, mul_zero, mul_zero]
    unfold Scalar.select
    split <;> rfl
  · have : FloatOps.cmpf (F := Ideal) (φ := .f32) .ogt u (0 : EReal) = 1#1 := by
      show (Ideal.cmp .ogt u (0 : EReal)) = 1#1
      simp [Ideal.cmp, h]
    rw [this]
    rfl

theorem ref (x0 : (⟨S4096x2048, .bf16⟩ : BufTy).Contents (Elt Ideal)) (x1 : (⟨S8192x2048, .bf16⟩ : BufTy).Contents (Elt Ideal)) (x2 : (⟨S4096x8192, .bf16⟩ : BufTy).Contents (Elt Ideal)) (i : S4096x8192.Idx) :
    (show EReal from val_main_v15 (F := Ideal) x0 x1 x2 i)
      = (∑ k : Fin 2048, (show EReal from x0 (lidx_main_v11 i k)) * (show EReal from x1 (ridx_main_v11 i k))) * (2 * max (show EReal from x2 i) 0) := by
  rw [val_main_v15_apply, val_main_v14_apply, val_main_v12_apply, val_main_v11_apply, val_main_v13_apply, val_main_cst_2_apply, val_main_v5_apply, val_main_v9_apply, val_main_v8_apply, val_main_cst_1_apply, val_main_v3_apply, val_main_call0_v0_apply, val_main_call0_cst_apply,
    val_main_v4_apply, val_main_cst_apply, val_main_v2_apply]
  exact gate _ _

variable (m : (ℓ : Loc nD τ sig) → Buf (Elt Ideal) ℓ) (c : Dev nD)

theorem out : (dats m 0 c).arrAt 3 cfg0.N = val_main_v15 (F := Ideal) (m (c, Proc.devRef .tc main_arg0)) (m (c, Proc.devRef .tc main_arg1)) (m (c, Proc.devRef .tc main_arg2)) := by
  refine (dats m 0 c).arrAt_eq_of_covers 3 _ (by decide +kernel) fun t hf y => ?_
  obtain ⟨a, b, rfl⟩ : ∃ (a : Fin 2048) (b : Fin 512), y = ix2 a b := ⟨y 0, y 1, by funext u; match u with | ⟨0, _⟩ => rfl | ⟨1, _⟩ => rfl⟩
  obtain ⟨i0, i1, i2, i3⟩ := ix t
  refine Eq.trans ?_ (ref _ _ _ _).symm
  blk_simp
  rw [after0_3]
  frame_out
  refine (pay _ _ _ a b).trans ?_
  refine congrArg₂ (fun p q : EReal => p * (2 * max q 0)) (Finset.sum_congr rfl fun k _ => congrArg₂ (fun p q : EReal => p * q) ?_ ?_) ?_
  · blk_ext [iblk, V, ix t]
  · blk_ext [iblk, V, ix t]
  · blk_ext [iblk, V, ix t]

end Cert.DActIdeal.Hand
-- ==== Proof.DActClaim.lean ====
module
public import proofs.«01_k».proof.Defs
public import proofs.«01_k».proof.Proof.DActValue
public import proofs.«01_k».proof.Proof.Gen.RefDActIdeal.Run
public import Idealize.ShloMosaic.Lib.Quiescent
public import Idealize.ShloMosaic.Adequacy
@[expose] public section
noncomputable section

/-! The reference's frame and the value claim of the call. -/

namespace Cert.DActIdeal.Hand
open Cert.DActIdeal Cert.DActIdeal.Gen
open Idealize.ShloMosaic Idealize.SL.Sem

theorem frame_ref : Cert.quiescent_RefDActIdeal := fun m g _ =>
  (θ_run Cert.RefDActIdeal.defs _ _).mono (fun r h => ⟨fun c => (h c).2, sem_eq_zero_of_no_sems (by decide) r.2⟩) (Cert.RefDActIdeal.Value.run (F := Ideal) m g)

set_option maxHeartbeats 4000000 in
theorem value : Cert.algebraic_DActIdeal_RefDActIdeal := by
  intro m g m' g' _ hag
  refine ⟨fun c => Cert.RefDActIdeal.Read.val_main_v15 (F := Ideal) (m (c, Proc.devRef .tc main_arg0)) (m (c, Proc.devRef .tc main_arg1)) (m (c, Proc.devRef .tc main_arg2)), ?_, ?_⟩
  · exact (θ_run Cert.DActIdeal.defs _ _).mono (fun r h c => ⟨(h c).1.trans (out m c), (h c).2⟩) (Cert.DActIdeal.Value.run_blocks m g)
  · refine (θ_run Cert.RefDActIdeal.defs _ _).mono (fun r h c => ⟨(h c).1.trans ?_, (h c).2⟩) (Cert.RefDActIdeal.Value.run (F := Ideal) m' g')
    obtain ⟨a0, a1, a2⟩ := hag c
    exact (Cert.RefDActIdeal.Read.val_main_v15_eq _ _ _).trans (congr (congr (congrArg (Cert.RefDActIdeal.Read.val_main_v15 (F := Ideal)) a0) a1) a2)

end Cert.DActIdeal.Hand
-- ==== Proof.DWOutValue.lean ====
module
public import proofs.«01_k».proof.Proof.Gen.DWOutIdeal.Value
public import proofs.«01_k».proof.Proof.Gen.RefDWOutIdeal.Read
public import Idealize.ShloMosaic.Lib.Pipeline.ValueKit
@[expose] public section
set_option maxRecDepth 16384
noncomputable section

/-! The gradient of the MLP's second weight is the reference's. -/

namespace Cert.DWOutIdeal.Hand
open Cert.DWOutIdeal Cert.DWOutIdeal.Gen
open Idealize.ShloMosaic Finset
open Cert.RefDWOutIdeal.Read

set_option maxHeartbeats 2000000

theorem ix : ∀ t : Fin cfg0.N, win0_0.index t = ![0, t.val / 2] ∧ win0_1.index t = ![0, t.val % 2] ∧ win0_2.index t = ![t.val / 2, t.val % 2] :=
  (by decide +kernel : ∀ t : Fin grid0.N, win0_0.index t = ![0, t.val / 2] ∧ win0_1.index t = ![0, t.val % 2] ∧ win0_2.index t = ![t.val / 2, t.val % 2])

theorem pay (x0 x1 : Vec Ideal S4096x1024 .bf16) (a b : Fin 1024) :
    (show EReal from k0_pay1 (F := Ideal) x0 x1 (ix2 a b)) = ∑ k : Fin 4096, (show EReal from x0 (ix2 k a)) * (show EReal from x1 (ix2 k b)) := by
  unfold k0_pay1
  pointwise

theorem ref (x0 : (⟨S4096x8192, .bf16⟩ : BufTy).Contents (Elt Ideal)) (x1 : (⟨S4096x2048, .bf16⟩ : BufTy).Contents (Elt Ideal)) (i : S8192x2048.Idx) :
    (show EReal from val_main_v6 (F := Ideal) x0 x1 i)
      = ∑ k : Fin 4096, (show EReal from x0 (ridx_main_v4 (idx_main_v5 i) k)) * (show EReal from x1 (lidx_main_v4 (idx_main_v5 i) k)) := by
  rw [val_main_v6_apply, val_main_v5_apply, val_main_v4_apply]
  exact Finset.sum_congr rfl fun k _ => mul_comm (G := EReal) _ _

variable (m : (ℓ : Loc nD τ sig) → Buf (Elt Ideal) ℓ) (c : Dev nD)

theorem out : (dats m 0 c).arrAt 2 cfg0.N = val_main_v6 (F := Ideal) (m (c, Proc.devRef .tc main_arg0)) (m (c, Proc.devRef .tc main_arg1)) := by
  refine (dats m 0 c).arrAt_eq_of_covers 2 _ (by decide +kernel) fun t hf y => ?_
  obtain ⟨a, b, rfl⟩ : ∃ (a : Fin 1024) (b : Fin 1024), y = ix2 a b := ⟨y 0, y 1, by funext u; match u with | ⟨0, _⟩ => rfl | ⟨1, _⟩ => rfl⟩
  refine Eq.trans ?_ (ref _ _ _).symm
  blk_simp
  rw [after0_2]
  frame_out
  refine (pay _ _ a b).trans ?_
  refine Finset.sum_congr rfl fun k _ => congrArg₂ (fun p q : EReal => p * q) ?_ ?_
  · blk_ext [iblk, V, ix t]
  · blk_ext [iblk, V, ix t]

end Cert.DWOutIdeal.Hand
-- ==== Proof.DWOutClaim.lean ====
module
public import proofs.«01_k».proof.Defs
public import proofs.«01_k».proof.Proof.DWOutValue
public import proofs.«01_k».proof.Proof.Gen.RefDWOutIdeal.Run
public import Idealize.ShloMosaic.Lib.Quiescent
public import Idealize.ShloMosaic.Adequacy
@[expose] public section
noncomputable section

/-! The reference's frame and the value claim of the call. -/

namespace Cert.DWOutIdeal.Hand
open Cert.DWOutIdeal Cert.DWOutIdeal.Gen
open Idealize.ShloMosaic Idealize.SL.Sem

theorem frame_ref : Cert.quiescent_RefDWOutIdeal := fun m g _ =>
  (θ_run Cert.RefDWOutIdeal.defs _ _).mono (fun r h => ⟨fun c => (h c).2, sem_eq_zero_of_no_sems (by decide) r.2⟩) (Cert.RefDWOutIdeal.Value.run (F := Ideal) m g)

set_option maxHeartbeats 4000000 in
theorem value : Cert.algebraic_DWOutIdeal_RefDWOutIdeal := by
  intro m g m' g' _ hag
  refine ⟨fun c => Cert.RefDWOutIdeal.Read.val_main_v6 (F := Ideal) (m (c, Proc.devRef .tc main_arg0)) (m (c, Proc.devRef .tc main_arg1)), ?_, ?_⟩
  · exact (θ_run Cert.DWOutIdeal.defs _ _).mono (fun r h c => ⟨(h c).1.trans (out m c), (h c).2⟩) (Cert.DWOutIdeal.Value.run_blocks m g)
  · refine (θ_run Cert.RefDWOutIdeal.defs _ _).mono (fun r h c => ⟨(h c).1.trans ?_, (h c).2⟩) (Cert.RefDWOutIdeal.Value.run (F := Ideal) m' g')
    obtain ⟨a0, a1⟩ := hag c
    exact (Cert.RefDWOutIdeal.Read.val_main_v6_eq _ _).trans (congr (congrArg (Cert.RefDWOutIdeal.Read.val_main_v6 (F := Ideal)) a0) a1)

end Cert.DWOutIdeal.Hand
-- ==== Proof.DHValue.lean ====
module
public import proofs.«01_k».proof.Proof.Gen.DHIdeal.Value
public import proofs.«01_k».proof.Proof.Gen.RefDHIdeal.Read
public import Idealize.ShloMosaic.Lib.Pipeline.ValueKit
@[expose] public section
set_option maxRecDepth 16384
noncomputable section

/-! The gradient of the MLP's input is the reference's. -/

namespace Cert.DHIdeal.Hand
open Cert.DHIdeal Cert.DHIdeal.Gen
open Idealize.ShloMosaic Finset
open Cert.RefDHIdeal.Read

set_option maxHeartbeats 2000000

theorem ix : ∀ t : Fin cfg0.N, win0_0.index t = ![t.val / 8, t.val % 4] ∧ win0_1.index t = ![t.val % 4, t.val / 4 % 2, 0] ∧ win0_2.index t = ![t.val / 8, t.val / 4 % 2] :=
  (by decide +kernel : ∀ t : Fin grid0.N, win0_0.index t = ![t.val / 8, t.val % 4] ∧ win0_1.index t = ![t.val % 4, t.val / 4 % 2, 0] ∧ win0_2.index t = ![t.val / 8, t.val / 4 % 2])

theorem pay1 (x0 : Vec Ideal S1024x2048 .bf16) (x1 : Vec Ideal S1x1024x2048 .bf16) (a b : Fin 1024) :
    (show EReal from k0_pay1 (F := Ideal) x0 x1 (ix2 a b)) = ∑ k : Fin 2048, (show EReal from x0 (ix2 a k)) * (show EReal from x1 (ix3 (0 : Fin 1) b k)) := by
  unfold k0_pay1
  pointwise
theorem pay2 (x0 : Vec Ideal S1024x2048 .bf16) (x1 : Vec Ideal S1x1024x2048 .bf16) (s : Vec Ideal S1024x1024 .f32) (a b : Fin 1024) :
    (show EReal from k0_pay2 (F := Ideal) x0 x1 s (ix2 a b)) = (show EReal from s (ix2 a b)) + ∑ k : Fin 2048, (show EReal from x0 (ix2 a k)) * (show EReal from x1 (ix3 (0 : Fin 1) b k)) := by
  unfold k0_pay2 k0_pay1
  pointwise

theorem ref (x0 : (⟨S4096x8192, .bf16⟩ : BufTy).Contents (Elt Ideal)) (x1 : (⟨S4x2048x2048, .bf16⟩ : BufTy).Contents (Elt Ideal)) (i : S4096x2048.Idx) :
    (show EReal from val_main_v6 (F := Ideal) x0 x1 i)
      = ∑ k : Fin 8192, (show EReal from x0 (lidx_main_v6 i k)) * (show EReal from x1 (idx_main_v3 (idx_main_v4 (ridx_main_v6 i k)))) := by
  rw [val_main_v6_apply]
  refine Finset.sum_congr rfl fun k _ => ?_
  rw [val_main_v4_apply, val_main_v3_apply]
  rfl

variable (m : (ℓ : Loc nD τ sig) → Buf (Elt Ideal) ℓ) (c : Dev nD)

/-- What a grid point adds at an entry of its block. -/
def tm (t : Fin cfg0.N) (i : S1024x1024.Idx) : EReal :=
  ∑ k : Fin 2048, (show EReal from iblk m c 0 t (ix2 (i 0) k)) * (show EReal from iblk m c 1 t (ix3 (0 : Fin 1) (i 1) k))

theorem first (t : Fin cfg0.N) (h : t.val % 4 = 0) (i : S1024x1024.Idx) : (show EReal from outsAt0 m c t.val t.isLt i) = 0 + tm m c t i := by
  obtain ⟨a, b, rfl⟩ : ∃ (a : Fin 1024) (b : Fin 1024), i = ix2 a b := ⟨i 0, i 1, by funext u; match u with | ⟨0, _⟩ => rfl | ⟨1, _⟩ => rfl⟩
  rw [outsAt0_A m c t h (by omega), zero_add]
  frame_out
  exact pay1 _ _ a b
theorem next (t : Fin cfg0.N) (h : ¬t.val % 4 = 0) (i : S1024x1024.Idx) : (show EReal from outsAt0 m c t.val t.isLt i)
    = (show EReal from outsAt0 m c (t.val - 1) (Nat.lt_of_le_of_lt (Nat.sub_le _ _) t.isLt) i) + tm m c t i := by
  obtain ⟨a, b, rfl⟩ : ∃ (a : Fin 1024) (b : Fin 1024), i = ix2 a b := ⟨i 0, i 1, by funext u; match u with | ⟨0, _⟩ => rfl | ⟨1, _⟩ => rfl⟩
  rw [outsAt0_B m c t h (by omega)]
  frame_out
  exact pay2 _ _ _ a b

theorem out : (dats m 0 c).arrAt 2 cfg0.N = val_main_v6 (F := Ideal) (m (c, Proc.devRef .tc main_arg0)) (m (c, Proc.devRef .tc main_arg1)) := by
  refine (dats m 0 c).arrAt_eq_of_covers 2 _ (by decide +kernel) fun t hf y => ?_
  obtain ⟨a, b, rfl⟩ : ∃ (a : Fin 1024) (b : Fin 1024), y = ix2 a b := ⟨y 0, y 1, by funext u; match u with | ⟨0, _⟩ => rfl | ⟨1, _⟩ => rfl⟩
  have ht : t.val < 32 := lt_of_lt_of_eq t.isLt (show cfg0.N = 32 from N_0)
  have hr := (flush0_2 t).mp hf
  refine Eq.trans ?_ (ref _ _ _).symm
  have e0 : ((((cfg0.win 2).blk t).view.emb (ix2 a b)) 0).val = 1024 * (t.val / 8) + a.val := by blk_simp [ix t]; omega
  have e1 : ((((cfg0.win 2).blk t).view.emb (ix2 a b)) 1).val = 1024 * (t.val / 4 % 2) + b.val := by blk_simp [ix t]; omega
  generalize ((cfg0.win 2).blk t).view.emb (ix2 a b) = j at e0 e1
  blk_simp
  rw [after0_2]
  refine (Pipeline.eq_sum_fin_of_reset_step_apply_of_flush (M := EReal) (fun n h => outsAt0 m c n h) 4 (fun _ => 0) (tm m c) (first m c) (next m c) t hr (ix2 a b)).trans ?_
  rw [zero_add]
  unfold tm
  refine Fin.sum_mul_add_congr fun s k hl => ?_
  have hb : 4 * (t.val / 4) + s.val < cfg0.N := Pipeline.run_point_lt_of_flush t hr s
  refine congrArg₂ (fun p q : EReal => p * q) ?_ ?_
  · blk_ext [iblk, V, ix ⟨4 * (t.val / 4) + s.val, hb⟩, e0]
  · generalize hj : idx_main_v3 (idx_main_v4 (ridx_main_v6 j ⟨s.val * 2048 + k.val, hl⟩)) = jj
    have g0 : (jj 0).val = s.val := by
      rw [← hj]
      refine Eq.trans (b := ((j 1).val * 8192 + (s.val * 2048 + k.val)) / 2048 % 4) rfl ?_
      omega
    have g1 : (jj 1).val = (j 1).val := by
      rw [← hj]
      refine Eq.trans (b := ((j 1).val * 8192 + (s.val * 2048 + k.val)) / 8192) rfl ?_
      omega
    have g2 : (jj 2).val = k.val := by
      rw [← hj]
      refine Eq.trans (b := ((j 1).val * 8192 + (s.val * 2048 + k.val)) % 2048) rfl ?_
      omega
    blk_ext [iblk, V, ix ⟨4 * (t.val / 4) + s.val, hb⟩, e1, g0, g1, g2]

end Cert.DHIdeal.Hand
-- ==== Proof.DHClaim.lean ====
module
public import proofs.«01_k».proof.Defs
public import proofs.«01_k».proof.Proof.DHValue
public import proofs.«01_k».proof.Proof.Gen.RefDHIdeal.Run
public import Idealize.ShloMosaic.Lib.Quiescent
public import Idealize.ShloMosaic.Adequacy
@[expose] public section
noncomputable section

/-! The reference's frame and the value claim of the call. -/

namespace Cert.DHIdeal.Hand
open Cert.DHIdeal Cert.DHIdeal.Gen
open Idealize.ShloMosaic Idealize.SL.Sem

theorem frame_ref : Cert.quiescent_RefDHIdeal := fun m g _ =>
  (θ_run Cert.RefDHIdeal.defs _ _).mono (fun r h => ⟨fun c => (h c).2, sem_eq_zero_of_no_sems (by decide) r.2⟩) (Cert.RefDHIdeal.Value.run (F := Ideal) m g)

set_option maxHeartbeats 4000000 in
theorem value : Cert.algebraic_DHIdeal_RefDHIdeal := by
  intro m g m' g' _ hag
  refine ⟨fun c => Cert.RefDHIdeal.Read.val_main_v6 (F := Ideal) (m (c, Proc.devRef .tc main_arg0)) (m (c, Proc.devRef .tc main_arg1)), ?_, ?_⟩
  · exact (θ_run Cert.DHIdeal.defs _ _).mono (fun r h c => ⟨(h c).1.trans (out m c), (h c).2⟩) (Cert.DHIdeal.Value.run_blocks m g)
  · refine (θ_run Cert.RefDHIdeal.defs _ _).mono (fun r h c => ⟨(h c).1.trans ?_, (h c).2⟩) (Cert.RefDHIdeal.Value.run (F := Ideal) m' g')
    obtain ⟨a0, a1⟩ := hag c
    exact (Cert.RefDHIdeal.Read.val_main_v6_eq _ _).trans (congr (congrArg (Cert.RefDHIdeal.Read.val_main_v6 (F := Ideal)) a0) a1)

end Cert.DHIdeal.Hand
-- ==== Proof.DWInValue.lean ====
module
public import proofs.«01_k».proof.Proof.Gen.DWInIdeal.Value
public import proofs.«01_k».proof.Proof.Gen.RefDWInIdeal.Read
public import Idealize.ShloMosaic.Lib.Pipeline.ValueKit
@[expose] public section
set_option maxRecDepth 16384
noncomputable section

/-! The gradient of the MLP's first weight is the reference's. -/

namespace Cert.DWInIdeal.Hand
open Cert.DWInIdeal Cert.DWInIdeal.Gen
open Idealize.ShloMosaic Finset
open Cert.RefDWInIdeal.Read

set_option maxHeartbeats 2000000

theorem ix : ∀ t : Fin cfg0.N, win0_0.index t = ![0, t.val / 8] ∧ win0_1.index t = ![0, t.val % 8] ∧ win0_2.index t = ![t.val % 8 / 2, t.val / 8, t.val % 2] :=
  (by decide +kernel : ∀ t : Fin grid0.N, win0_0.index t = ![0, t.val / 8] ∧ win0_1.index t = ![0, t.val % 8] ∧ win0_2.index t = ![t.val % 8 / 2, t.val / 8, t.val % 2])

theorem pay (x0 x1 : Vec Ideal S4096x1024 .bf16) (a b : Fin 1024) :
    (show EReal from k0_pay1 (F := Ideal) x0 x1 (ix3 (0 : Fin 1) a b)) = ∑ k : Fin 4096, (show EReal from x0 (ix2 k a)) * (show EReal from x1 (ix2 k b)) := by
  unfold k0_pay1
  pointwise

/-- The index of the reference's flat product. -/
abbrev fl (i : S4x2048x2048.Idx) := idx_main_v5 (idx_main_v7 (idx_main_v8 i))

theorem ref (x0 : (⟨S4096x2048, .bf16⟩ : BufTy).Contents (Elt Ideal)) (x1 : (⟨S4096x8192, .bf16⟩ : BufTy).Contents (Elt Ideal)) (i : S4x2048x2048.Idx) :
    (show EReal from val_main_v8 (F := Ideal) x0 x1 i)
      = ∑ k : Fin 4096, (show EReal from x0 (ridx_main_v4 (fl i) k)) * (show EReal from x1 (lidx_main_v4 (fl i) k)) := by
  rw [val_main_v8_apply, val_main_v7_apply, val_main_v6_apply, val_main_v5_apply, val_main_v4_apply]
  exact Finset.sum_congr rfl fun k _ => mul_comm (G := EReal) _ _

variable (m : (ℓ : Loc nD τ sig) → Buf (Elt Ideal) ℓ) (c : Dev nD)

theorem out : (dats m 0 c).arrAt 2 cfg0.N = val_main_v8 (F := Ideal) (m (c, Proc.devRef .tc main_arg0)) (m (c, Proc.devRef .tc main_arg1)) := by
  refine (dats m 0 c).arrAt_eq_of_covers 2 _ (by decide +kernel) fun t hf y => ?_
  obtain ⟨a, b, rfl⟩ : ∃ (a : Fin 1024) (b : Fin 1024), y = ix3 (0 : Fin 1) a b := ⟨y 1, y 2, by funext u; match u with | ⟨0, _⟩ => exact Subsingleton.elim (α := Fin 1) _ _ | ⟨1, _⟩ => rfl | ⟨2, _⟩ => rfl⟩
  have ht : t.val < 16 := lt_of_lt_of_eq t.isLt (show cfg0.N = 16 from N_0)
  refine Eq.trans ?_ (ref _ _ _).symm
  have e0 : ((((cfg0.win 2).blk t).view.emb (ix3 (0 : Fin 1) a b)) 0).val = t.val % 8 / 2 := by blk_simp [ix t]; rfl
  have e1 : ((((cfg0.win 2).blk t).view.emb (ix3 (0 : Fin 1) a b)) 1).val = 1024 * (t.val / 8) + a.val := by blk_simp [ix t]; omega
  have e2 : ((((cfg0.win 2).blk t).view.emb (ix3 (0 : Fin 1) a b)) 2).val = 1024 * (t.val % 2) + b.val := by blk_simp [ix t]; omega
  have f0 : (fl (((cfg0.win 2).blk t).view.emb (ix3 (0 : Fin 1) a b)) 0).val = 1024 * (t.val % 8) + b.val := by
    refine Eq.trans (b := ((((((cfg0.win 2).blk t).view.emb (ix3 (0 : Fin 1) a b)) 1).val * 4 + ((((cfg0.win 2).blk t).view.emb (ix3 (0 : Fin 1) a b)) 0).val) * 2048 + ((((cfg0.win 2).blk t).view.emb (ix3 (0 : Fin 1) a b)) 2).val) % 8192) rfl ?_
    rw [e0, e1, e2]; omega
  have f1 : (fl (((cfg0.win 2).blk t).view.emb (ix3 (0 : Fin 1) a b)) 1).val = 1024 * (t.val / 8) + a.val := by
    refine Eq.trans (b := ((((((cfg0.win 2).blk t).view.emb (ix3 (0 : Fin 1) a b)) 1).val * 4 + ((((cfg0.win 2).blk t).view.emb (ix3 (0 : Fin 1) a b)) 0).val) * 2048 + ((((cfg0.win 2).blk t).view.emb (ix3 (0 : Fin 1) a b)) 2).val) / 8192) rfl ?_
    rw [e0, e1, e2]; omega
  generalize fl (((cfg0.win 2).blk t).view.emb (ix3 (0 : Fin 1) a b)) = j at f0 f1
  blk_simp
  rw [after0_2]
  frame_out
  refine (pay _ _ a b).trans ?_
  refine Finset.sum_congr rfl fun k _ => congrArg₂ (fun p q : EReal => p * q) ?_ ?_
  · blk_ext [iblk, V, ix t, f1]
  · blk_ext [iblk, V, ix t, f0]

end Cert.DWInIdeal.Hand
-- ==== Proof.DWInClaim.lean ====
module
public import proofs.«01_k».proof.Defs
public import proofs.«01_k».proof.Proof.DWInValue
public import proofs.«01_k».proof.Proof.Gen.RefDWInIdeal.Run
public import Idealize.ShloMosaic.Lib.Quiescent
public import Idealize.ShloMosaic.Adequacy
@[expose] public section
noncomputable section

/-! The reference's frame and the value claim of the call. -/

namespace Cert.DWInIdeal.Hand
open Cert.DWInIdeal Cert.DWInIdeal.Gen
open Idealize.ShloMosaic Idealize.SL.Sem

theorem frame_ref : Cert.quiescent_RefDWInIdeal := fun m g _ =>
  (θ_run Cert.RefDWInIdeal.defs _ _).mono (fun r h => ⟨fun c => (h c).2, sem_eq_zero_of_no_sems (by decide) r.2⟩) (Cert.RefDWInIdeal.Value.run (F := Ideal) m g)

set_option maxHeartbeats 4000000 in
theorem value : Cert.algebraic_DWInIdeal_RefDWInIdeal := by
  intro m g m' g' _ hag
  refine ⟨fun c => Cert.RefDWInIdeal.Read.val_main_v8 (F := Ideal) (m (c, Proc.devRef .tc main_arg0)) (m (c, Proc.devRef .tc main_arg1)), ?_, ?_⟩
  · exact (θ_run Cert.DWInIdeal.defs _ _).mono (fun r h c => ⟨(h c).1.trans (out m c), (h c).2⟩) (Cert.DWInIdeal.Value.run_blocks m g)
  · refine (θ_run Cert.RefDWInIdeal.defs _ _).mono (fun r h c => ⟨(h c).1.trans ?_, (h c).2⟩) (Cert.RefDWInIdeal.Value.run (F := Ideal) m' g')
    obtain ⟨a0, a1⟩ := hag c
    exact (Cert.RefDWInIdeal.Read.val_main_v8_eq _ _).trans (congr (congrArg (Cert.RefDWInIdeal.Read.val_main_v8 (F := Ideal)) a0) a1)

end Cert.DWInIdeal.Hand
-- ==== Proof.DMixedValue.lean ====
module
public import proofs.«01_k».proof.Proof.Gen.DMixedIdeal.Value
public import proofs.«01_k».proof.Proof.Gen.RefDMixedIdeal.Read
public import Idealize.ShloMosaic.Lib.Pipeline.ValueKit
@[expose] public section
set_option maxRecDepth 16384
noncomputable section

/-! The value of the call: every block of the result holds the product of the row block and the column block, as the reference has it. -/

namespace Cert.DMixedIdeal.Hand
open Cert.DMixedIdeal Cert.DMixedIdeal.Gen
open Idealize.ShloMosaic Finset
open Cert.RefDMixedIdeal.Read

set_option maxHeartbeats 2000000

theorem ix : ∀ t : Fin cfg0.N, win0_0.index t = ![t.val / 4, 0] ∧ win0_1.index t = ![t.val % 4, 0] ∧ win0_2.index t = ![t.val / 4, t.val % 4] :=
  (by decide +kernel : ∀ t : Fin grid0.N, win0_0.index t = ![t.val / 4, 0] ∧ win0_1.index t = ![t.val % 4, 0] ∧ win0_2.index t = ![t.val / 4, t.val % 4])

theorem pay (x0 : Vec Ideal S2048x2048 .bf16) (x1 : Vec Ideal S512x2048 .bf16) (a : Fin 2048) (b : Fin 512) :
    (show EReal from k0_pay1 (F := Ideal) x0 x1 (ix2 a b)) = ∑ k : Fin 2048, (show EReal from x0 (ix2 a k)) * (show EReal from x1 (ix2 b k)) := by
  unfold k0_pay1
  pointwise

theorem ref (x0 : (⟨S4096x2048, .bf16⟩ : BufTy).Contents (Elt Ideal)) (x1 : (⟨S2048x2048, .bf16⟩ : BufTy).Contents (Elt Ideal)) (i : S4096x2048.Idx) :
    (show EReal from val_main_v4 (F := Ideal) x0 x1 i)
      = ∑ k : Fin 2048, (show EReal from x0 (lidx_main_v4 i k)) * (show EReal from x1 (ridx_main_v4 i k)) := by
  rw [val_main_v4_apply]
  refine Finset.sum_congr rfl fun k _ => ?_
  first | rfl | (simp only [val_main_v0_apply, val_main_v1_apply]; rfl)

variable (m : (ℓ : Loc nD τ sig) → Buf (Elt Ideal) ℓ) (c : Dev nD)

theorem out : (dats m 0 c).arrAt 2 cfg0.N = val_main_v4 (F := Ideal) (m (c, Proc.devRef .tc main_arg0)) (m (c, Proc.devRef .tc main_arg1)) := by
  refine (dats m 0 c).arrAt_eq_of_covers 2 _ (by decide +kernel) fun t hf y => ?_
  obtain ⟨a, b, rfl⟩ : ∃ (a : Fin 2048) (b : Fin 512), y = ix2 a b := ⟨y 0, y 1, by funext u; match u with | ⟨0, _⟩ => rfl | ⟨1, _⟩ => rfl⟩
  refine Eq.trans ?_ (ref _ _ _).symm
  blk_simp
  rw [after0_2]
  frame_out
  refine (pay _ _ a b).trans ?_
  refine Finset.sum_congr rfl fun k _ => congrArg₂ (fun p q : EReal => p * q) ?_ ?_
  · blk_ext [iblk, V, ix t]
  · blk_ext [iblk, V, ix t]

end Cert.DMixedIdeal.Hand
-- ==== Proof.DMixedClaim.lean ====
module
public import proofs.«01_k».proof.Defs
public import proofs.«01_k».proof.Proof.DMixedValue
public import proofs.«01_k».proof.Proof.Gen.RefDMixedIdeal.Run
public import Idealize.ShloMosaic.Lib.Quiescent
public import Idealize.ShloMosaic.Adequacy
@[expose] public section
noncomputable section

/-! The reference's frame and the value claim of the call. -/

namespace Cert.DMixedIdeal.Hand
open Cert.DMixedIdeal Cert.DMixedIdeal.Gen
open Idealize.ShloMosaic Idealize.SL.Sem

theorem frame_ref : Cert.quiescent_RefDMixedIdeal := fun m g _ =>
  (θ_run Cert.RefDMixedIdeal.defs _ _).mono (fun r h => ⟨fun c => (h c).2, sem_eq_zero_of_no_sems (by decide) r.2⟩) (Cert.RefDMixedIdeal.Value.run (F := Ideal) m g)

set_option maxHeartbeats 4000000 in
theorem value : Cert.algebraic_DMixedIdeal_RefDMixedIdeal := by
  intro m g m' g' _ hag
  refine ⟨fun c => Cert.RefDMixedIdeal.Read.val_main_v4 (F := Ideal) (m (c, Proc.devRef .tc main_arg0)) (m (c, Proc.devRef .tc main_arg1)), ?_, ?_⟩
  · exact (θ_run Cert.DMixedIdeal.defs _ _).mono (fun r h c => ⟨(h c).1.trans (out m c), (h c).2⟩) (Cert.DMixedIdeal.Value.run_blocks m g)
  · refine (θ_run Cert.RefDMixedIdeal.defs _ _).mono (fun r h c => ⟨(h c).1.trans ?_, (h c).2⟩) (Cert.RefDMixedIdeal.Value.run (F := Ideal) m' g')
    obtain ⟨a0, a1⟩ := hag c
    exact (Cert.RefDMixedIdeal.Read.val_main_v4_eq _ _).trans (congr (congrArg (Cert.RefDMixedIdeal.Read.val_main_v4 (F := Ideal)) a0) a1)

end Cert.DMixedIdeal.Hand
-- ==== Proof.DWProjValue.lean ====
module
public import proofs.«01_k».proof.Proof.Gen.DWProjIdeal.Value
public import proofs.«01_k».proof.Proof.Gen.RefDWProjIdeal.Read
public import Idealize.ShloMosaic.Lib.Pipeline.ValueKit
@[expose] public section
set_option maxRecDepth 16384
noncomputable section

/-! The value of the call: every block of the result holds the product of the row block and the column block, as the reference has it. -/

namespace Cert.DWProjIdeal.Hand
open Cert.DWProjIdeal Cert.DWProjIdeal.Gen
open Idealize.ShloMosaic Finset
open Cert.RefDWProjIdeal.Read

set_option maxHeartbeats 2000000

theorem ix : ∀ t : Fin cfg0.N, win0_0.index t = ![0, t.val / 2] ∧ win0_1.index t = ![0, t.val % 2] ∧ win0_2.index t = ![t.val / 2, t.val % 2] :=
  (by decide +kernel : ∀ t : Fin grid0.N, win0_0.index t = ![0, t.val / 2] ∧ win0_1.index t = ![0, t.val % 2] ∧ win0_2.index t = ![t.val / 2, t.val % 2])

theorem pay (x0 : Vec Ideal S4096x1024 .bf16) (x1 : Vec Ideal S4096x1024 .bf16) (a : Fin 1024) (b : Fin 1024) :
    (show EReal from k0_pay1 (F := Ideal) x0 x1 (ix2 a b)) = ∑ k : Fin 4096, (show EReal from x0 (ix2 k a)) * (show EReal from x1 (ix2 k b)) := by
  unfold k0_pay1
  pointwise

theorem ref (x0 : (⟨S4096x2048, .bf16⟩ : BufTy).Contents (Elt Ideal)) (x1 : (⟨S4096x2048, .bf16⟩ : BufTy).Contents (Elt Ideal)) (i : S2048x2048.Idx) :
    (show EReal from val_main_v6 (F := Ideal) x0 x1 i)
      = ∑ k : Fin 4096, (show EReal from x0 (ridx_main_v4 (idx_main_v5 i) k)) * (show EReal from x1 (lidx_main_v4 (idx_main_v5 i) k)) := by
  rw [val_main_v6_apply, val_main_v5_apply, val_main_v4_apply]
  exact Finset.sum_congr rfl fun k _ => mul_comm (G := EReal) _ _

variable (m : (ℓ : Loc nD τ sig) → Buf (Elt Ideal) ℓ) (c : Dev nD)

theorem out : (dats m 0 c).arrAt 2 cfg0.N = val_main_v6 (F := Ideal) (m (c, Proc.devRef .tc main_arg0)) (m (c, Proc.devRef .tc main_arg1)) := by
  refine (dats m 0 c).arrAt_eq_of_covers 2 _ (by decide +kernel) fun t hf y => ?_
  obtain ⟨a, b, rfl⟩ : ∃ (a : Fin 1024) (b : Fin 1024), y = ix2 a b := ⟨y 0, y 1, by funext u; match u with | ⟨0, _⟩ => rfl | ⟨1, _⟩ => rfl⟩
  refine Eq.trans ?_ (ref _ _ _).symm
  blk_simp
  rw [after0_2]
  frame_out
  refine (pay _ _ a b).trans ?_
  refine Finset.sum_congr rfl fun k _ => congrArg₂ (fun p q : EReal => p * q) ?_ ?_
  · blk_ext [iblk, V, ix t]
  · blk_ext [iblk, V, ix t]

end Cert.DWProjIdeal.Hand
-- ==== Proof.DWProjClaim.lean ====
module
public import proofs.«01_k».proof.Defs
public import proofs.«01_k».proof.Proof.DWProjValue
public import proofs.«01_k».proof.Proof.Gen.RefDWProjIdeal.Run
public import Idealize.ShloMosaic.Lib.Quiescent
public import Idealize.ShloMosaic.Adequacy
@[expose] public section
noncomputable section

/-! The reference's frame and the value claim of the call. -/

namespace Cert.DWProjIdeal.Hand
open Cert.DWProjIdeal Cert.DWProjIdeal.Gen
open Idealize.ShloMosaic Idealize.SL.Sem

theorem frame_ref : Cert.quiescent_RefDWProjIdeal := fun m g _ =>
  (θ_run Cert.RefDWProjIdeal.defs _ _).mono (fun r h => ⟨fun c => (h c).2, sem_eq_zero_of_no_sems (by decide) r.2⟩) (Cert.RefDWProjIdeal.Value.run (F := Ideal) m g)

set_option maxHeartbeats 4000000 in
theorem value : Cert.algebraic_DWProjIdeal_RefDWProjIdeal := by
  intro m g m' g' _ hag
  refine ⟨fun c => Cert.RefDWProjIdeal.Read.val_main_v6 (F := Ideal) (m (c, Proc.devRef .tc main_arg0)) (m (c, Proc.devRef .tc main_arg1)), ?_, ?_⟩
  · exact (θ_run Cert.DWProjIdeal.defs _ _).mono (fun r h c => ⟨(h c).1.trans (out m c), (h c).2⟩) (Cert.DWProjIdeal.Value.run_blocks m g)
  · refine (θ_run Cert.RefDWProjIdeal.defs _ _).mono (fun r h c => ⟨(h c).1.trans ?_, (h c).2⟩) (Cert.RefDWProjIdeal.Value.run (F := Ideal) m' g')
    obtain ⟨a0, a1⟩ := hag c
    exact (Cert.RefDWProjIdeal.Read.val_main_v6_eq _ _).trans (congr (congrArg (Cert.RefDWProjIdeal.Read.val_main_v6 (F := Ideal)) a0) a1)

end Cert.DWProjIdeal.Hand
-- ==== Proof.DWQkvValue.lean ====
module
public import proofs.«01_k».proof.Proof.Gen.DWQkvIdeal.Value
public import proofs.«01_k».proof.Proof.Gen.RefDWQkvIdeal.Read
public import Idealize.ShloMosaic.Lib.Pipeline.ValueKit
@[expose] public section
set_option maxRecDepth 16384
noncomputable section

/-! The value of the call: every block of the result holds the product of the row block and the column block, as the reference has it. -/

namespace Cert.DWQkvIdeal.Hand
open Cert.DWQkvIdeal Cert.DWQkvIdeal.Gen
open Idealize.ShloMosaic Finset
open Cert.RefDWQkvIdeal.Read

set_option maxHeartbeats 2000000

theorem ix : ∀ t : Fin cfg0.N, win0_0.index t = ![0, t.val / 6] ∧ win0_1.index t = ![0, t.val % 6] ∧ win0_2.index t = ![t.val / 6, t.val % 6] :=
  (by decide +kernel : ∀ t : Fin grid0.N, win0_0.index t = ![0, t.val / 6] ∧ win0_1.index t = ![0, t.val % 6] ∧ win0_2.index t = ![t.val / 6, t.val % 6])

theorem pay (x0 : Vec Ideal S4096x1024 .bf16) (x1 : Vec Ideal S4096x1024 .bf16) (a : Fin 1024) (b : Fin 1024) :
    (show EReal from k0_pay1 (F := Ideal) x0 x1 (ix2 a b)) = ∑ k : Fin 4096, (show EReal from x0 (ix2 k a)) * (show EReal from x1 (ix2 k b)) := by
  unfold k0_pay1
  pointwise

theorem ref (x0 : (⟨S4096x2048, .bf16⟩ : BufTy).Contents (Elt Ideal)) (x1 : (⟨S4096x6144, .bf16⟩ : BufTy).Contents (Elt Ideal)) (i : S2048x6144.Idx) :
    (show EReal from val_main_v6 (F := Ideal) x0 x1 i)
      = ∑ k : Fin 4096, (show EReal from x0 (ridx_main_v4 (idx_main_v5 i) k)) * (show EReal from x1 (lidx_main_v4 (idx_main_v5 i) k)) := by
  rw [val_main_v6_apply, val_main_v5_apply, val_main_v4_apply]
  exact Finset.sum_congr rfl fun k _ => mul_comm (G := EReal) _ _

variable (m : (ℓ : Loc nD τ sig) → Buf (Elt Ideal) ℓ) (c : Dev nD)

theorem out : (dats m 0 c).arrAt 2 cfg0.N = val_main_v6 (F := Ideal) (m (c, Proc.devRef .tc main_arg0)) (m (c, Proc.devRef .tc main_arg1)) := by
  refine (dats m 0 c).arrAt_eq_of_covers 2 _ (by decide +kernel) fun t hf y => ?_
  obtain ⟨a, b, rfl⟩ : ∃ (a : Fin 1024) (b : Fin 1024), y = ix2 a b := ⟨y 0, y 1, by funext u; match u with | ⟨0, _⟩ => rfl | ⟨1, _⟩ => rfl⟩
  refine Eq.trans ?_ (ref _ _ _).symm
  blk_simp
  rw [after0_2]
  frame_out
  refine (pay _ _ a b).trans ?_
  refine Finset.sum_congr rfl fun k _ => congrArg₂ (fun p q : EReal => p * q) ?_ ?_
  · blk_ext [iblk, V, ix t]
  · blk_ext [iblk, V, ix t]

end Cert.DWQkvIdeal.Hand
-- ==== Proof.DWQkvClaim.lean ====
module
public import proofs.«01_k».proof.Defs
public import proofs.«01_k».proof.Proof.DWQkvValue
public import proofs.«01_k».proof.Proof.Gen.RefDWQkvIdeal.Run
public import Idealize.ShloMosaic.Lib.Quiescent
public import Idealize.ShloMosaic.Adequacy
@[expose] public section
noncomputable section

/-! The reference's frame and the value claim of the call. -/

namespace Cert.DWQkvIdeal.Hand
open Cert.DWQkvIdeal Cert.DWQkvIdeal.Gen
open Idealize.ShloMosaic Idealize.SL.Sem

theorem frame_ref : Cert.quiescent_RefDWQkvIdeal := fun m g _ =>
  (θ_run Cert.RefDWQkvIdeal.defs _ _).mono (fun r h => ⟨fun c => (h c).2, sem_eq_zero_of_no_sems (by decide) r.2⟩) (Cert.RefDWQkvIdeal.Value.run (F := Ideal) m g)

set_option maxHeartbeats 4000000 in
theorem value : Cert.algebraic_DWQkvIdeal_RefDWQkvIdeal := by
  intro m g m' g' _ hag
  refine ⟨fun c => Cert.RefDWQkvIdeal.Read.val_main_v6 (F := Ideal) (m (c, Proc.devRef .tc main_arg0)) (m (c, Proc.devRef .tc main_arg1)), ?_, ?_⟩
  · exact (θ_run Cert.DWQkvIdeal.defs _ _).mono (fun r h c => ⟨(h c).1.trans (out m c), (h c).2⟩) (Cert.DWQkvIdeal.Value.run_blocks m g)
  · refine (θ_run Cert.RefDWQkvIdeal.defs _ _).mono (fun r h c => ⟨(h c).1.trans ?_, (h c).2⟩) (Cert.RefDWQkvIdeal.Value.run (F := Ideal) m' g')
    obtain ⟨a0, a1⟩ := hag c
    exact (Cert.RefDWQkvIdeal.Read.val_main_v6_eq _ _).trans (congr (congrArg (Cert.RefDWQkvIdeal.Read.val_main_v6 (F := Ideal)) a0) a1)

end Cert.DWQkvIdeal.Hand
-- ==== Proof.DWFValue.lean ====
module
public import proofs.«01_k».proof.Proof.Gen.DWFIdeal.Value
public import proofs.«01_k».proof.Proof.Gen.RefDWFIdeal.Read
public import Idealize.ShloMosaic.Lib.Pipeline.ValueKit
@[expose] public section
set_option maxRecDepth 16384
noncomputable section

/-! The value of the call: the blocks of the contracted axis add up in the result block, and their sum is the product the reference takes. -/

namespace Cert.DWFIdeal.Hand
open Cert.DWFIdeal Cert.DWFIdeal.Gen
open Idealize.ShloMosaic Finset
open Cert.RefDWFIdeal.Read

set_option maxHeartbeats 2000000

theorem ix : ∀ t : Fin cfg0.N, win0_0.index t = ![0, t.val % 2] ∧ win0_1.index t = ![t.val % 2, t.val / 2] ∧ win0_2.index t = ![0, t.val / 2] :=
  (by decide +kernel : ∀ t : Fin grid0.N, win0_0.index t = ![0, t.val % 2] ∧ win0_1.index t = ![t.val % 2, t.val / 2] ∧ win0_2.index t = ![0, t.val / 2])

theorem pay1 (x0 : Vec Ideal S8x2048 .bf16) (x1 : Vec Ideal S2048x1024 .bf16) (a : Fin 8) (b : Fin 1024) :
    (show EReal from k0_pay1 (F := Ideal) x0 x1 (ix2 a b)) = ∑ k : Fin 2048, (show EReal from x0 (ix2 a k)) * (show EReal from x1 (ix2 k b)) := by
  unfold k0_pay1
  pointwise
theorem pay2 (x0 : Vec Ideal S8x2048 .bf16) (x1 : Vec Ideal S2048x1024 .bf16) (r : Vec Ideal S8x1024 .f32) (a : Fin 8) (b : Fin 1024) :
    (show EReal from k0_pay2 (F := Ideal) x0 x1 r (ix2 a b)) = (show EReal from r (ix2 a b)) + ∑ k : Fin 2048, (show EReal from x0 (ix2 a k)) * (show EReal from x1 (ix2 k b)) := by
  unfold k0_pay2 k0_pay1
  pointwise

theorem ref (x0 : (⟨S8x4096, .bf16⟩ : BufTy).Contents (Elt Ideal)) (x1 : (⟨S4096x2048, .bf16⟩ : BufTy).Contents (Elt Ideal)) (i : S8x2048.Idx) :
    (show EReal from val_main_v7 (F := Ideal) x0 x1 i)
      = ∑ k : Fin 4096, (show EReal from x0 (idx_main_v4 (lidx_main_v5 (idx_main_v6 (idx_main_v7 i)) k))) * (show EReal from x1 (ridx_main_v5 (idx_main_v6 (idx_main_v7 i)) k)) := by
  rw [val_main_v7_apply, val_main_v6_apply, val_main_v5_apply]
  refine Finset.sum_congr rfl fun k _ => ?_
  first | rfl | (simp only [val_main_v4_apply, val_main_v0_apply, val_main_v1_apply]; rfl)

variable (m : (ℓ : Loc nD τ sig) → Buf (Elt Ideal) ℓ) (c : Dev nD)

/-- What a grid point adds at an entry of its block. -/
def tm (t : Fin cfg0.N) (i : S8x1024.Idx) : EReal :=
  ∑ k : Fin 2048, (show EReal from iblk m c 0 t (ix2 (i 0) k)) * (show EReal from iblk m c 1 t (ix2 k (i 1)))

theorem first (t : Fin cfg0.N) (h : t.val % 2 = 0) (i : S8x1024.Idx) : (show EReal from outsAt0 m c t.val t.isLt i) = 0 + tm m c t i := by
  obtain ⟨a, b, rfl⟩ : ∃ (a : Fin 8) (b : Fin 1024), i = ix2 a b := ⟨i 0, i 1, by funext u; match u with | ⟨0, _⟩ => rfl | ⟨1, _⟩ => rfl⟩
  rw [outsAt0_A m c t h (by omega), zero_add]
  frame_out
  exact pay1 _ _ a b
theorem next (t : Fin cfg0.N) (h : ¬t.val % 2 = 0) (i : S8x1024.Idx) : (show EReal from outsAt0 m c t.val t.isLt i)
    = (show EReal from outsAt0 m c (t.val - 1) (Nat.lt_of_le_of_lt (Nat.sub_le _ _) t.isLt) i) + tm m c t i := by
  obtain ⟨a, b, rfl⟩ : ∃ (a : Fin 8) (b : Fin 1024), i = ix2 a b := ⟨i 0, i 1, by funext u; match u with | ⟨0, _⟩ => rfl | ⟨1, _⟩ => rfl⟩
  rw [outsAt0_B m c t h (by omega)]
  frame_out
  exact pay2 _ _ _ a b

theorem out : (dats m 0 c).arrAt 2 cfg0.N = val_main_v7 (F := Ideal) (m (c, Proc.devRef .tc main_arg0)) (m (c, Proc.devRef .tc main_arg1)) := by
  refine (dats m 0 c).arrAt_eq_of_covers 2 _ (by decide +kernel) fun t hf y => ?_
  obtain ⟨a, b, rfl⟩ : ∃ (a : Fin 8) (b : Fin 1024), y = ix2 a b := ⟨y 0, y 1, by funext u; match u with | ⟨0, _⟩ => rfl | ⟨1, _⟩ => rfl⟩
  have hr := (flush0_2 t).mp hf
  have ht : t.val < 4 := lt_of_lt_of_eq t.isLt (show cfg0.N = 4 from N_0)
  refine Eq.trans ?_ (ref _ _ _).symm
  have e0 : ((((cfg0.win 2).blk t).view.emb (ix2 a b)) 0).val = a.val := by blk_simp [ix t]
  have e1 : ((((cfg0.win 2).blk t).view.emb (ix2 a b)) 1).val = 1024 * (t.val / 2) + b.val := by blk_simp [ix t]; omega
  generalize ((cfg0.win 2).blk t).view.emb (ix2 a b) = j at e0 e1
  blk_simp
  rw [after0_2]
  refine (Pipeline.eq_sum_fin_of_reset_step_apply_of_flush (M := EReal) (fun n h => outsAt0 m c n h) 2 (fun _ => 0) (tm m c) (first m c) (next m c) t hr (ix2 a b)).trans ?_
  rw [zero_add]
  unfold tm
  refine Fin.sum_mul_add_congr fun s k hl => ?_
  have hb : 2 * (t.val / 2) + s.val < cfg0.N := Pipeline.run_point_lt_of_flush t hr s
  refine congrArg₂ (fun p q : EReal => p * q) ?_ ?_
  · blk_ext [iblk, V, ix ⟨2 * (t.val / 2) + s.val, hb⟩, e0]
  · blk_ext [iblk, V, ix ⟨2 * (t.val / 2) + s.val, hb⟩, e1]

end Cert.DWFIdeal.Hand
-- ==== Proof.DWFClaim.lean ====
module
public import proofs.«01_k».proof.Defs
public import proofs.«01_k».proof.Proof.DWFValue
public import proofs.«01_k».proof.Proof.Gen.RefDWFIdeal.Run
public import Idealize.ShloMosaic.Lib.Quiescent
public import Idealize.ShloMosaic.Adequacy
@[expose] public section
noncomputable section

/-! The reference's frame and the value claim of the call. -/

namespace Cert.DWFIdeal.Hand
open Cert.DWFIdeal Cert.DWFIdeal.Gen
open Idealize.ShloMosaic Idealize.SL.Sem

theorem frame_ref : Cert.quiescent_RefDWFIdeal := fun m g _ =>
  (θ_run Cert.RefDWFIdeal.defs _ _).mono (fun r h => ⟨fun c => (h c).2, sem_eq_zero_of_no_sems (by decide) r.2⟩) (Cert.RefDWFIdeal.Value.run (F := Ideal) m g)

set_option maxHeartbeats 4000000 in
theorem value : Cert.algebraic_DWFIdeal_RefDWFIdeal := by
  intro m g m' g' _ hag
  refine ⟨fun c => Cert.RefDWFIdeal.Read.val_main_v7 (F := Ideal) (m (c, Proc.devRef .tc main_arg0)) (m (c, Proc.devRef .tc main_arg1)), ?_, ?_⟩
  · exact (θ_run Cert.DWFIdeal.defs _ _).mono (fun r h c => ⟨(h c).1.trans (out m c), (h c).2⟩) (Cert.DWFIdeal.Value.run_blocks m g)
  · refine (θ_run Cert.RefDWFIdeal.defs _ _).mono (fun r h c => ⟨(h c).1.trans ?_, (h c).2⟩) (Cert.RefDWFIdeal.Value.run (F := Ideal) m' g')
    obtain ⟨a0, a1⟩ := hag c
    exact (Cert.RefDWFIdeal.Read.val_main_v7_eq _ _).trans (congr (congrArg (Cert.RefDWFIdeal.Read.val_main_v7 (F := Ideal)) a0) a1)

end Cert.DWFIdeal.Hand
-- ==== Proof.DHFValue.lean ====
module
public import proofs.«01_k».proof.Proof.Gen.DHFIdeal.Value
public import proofs.«01_k».proof.Proof.Gen.RefDHFIdeal.Read
public import Idealize.ShloMosaic.Lib.Pipeline.ValueKit
@[expose] public section
set_option maxRecDepth 16384
noncomputable section

/-! The value of the call: every block of the result holds the product of the row block and the column block, as the reference has it. -/

namespace Cert.DHFIdeal.Hand
open Cert.DHFIdeal Cert.DHFIdeal.Gen
open Idealize.ShloMosaic Finset
open Cert.RefDHFIdeal.Read

set_option maxHeartbeats 2000000

theorem ix : ∀ t : Fin cfg0.N, win0_0.index t = ![0, t.val / 2] ∧ win0_1.index t = ![0, t.val % 2] ∧ win0_2.index t = ![t.val / 2, t.val % 2] :=
  (by decide +kernel : ∀ t : Fin grid0.N, win0_0.index t = ![0, t.val / 2] ∧ win0_1.index t = ![0, t.val % 2] ∧ win0_2.index t = ![t.val / 2, t.val % 2])

theorem pay (x0 : Vec Ideal S8x1024 .bf16) (x1 : Vec Ideal S8x1024 .bf16) (a : Fin 1024) (b : Fin 1024) :
    (show EReal from k0_pay1 (F := Ideal) x0 x1 (ix2 a b)) = ∑ k : Fin 8, (show EReal from x0 (ix2 k a)) * (show EReal from x1 (ix2 k b)) := by
  unfold k0_pay1
  pointwise

theorem ref (x0 : (⟨S8x4096, .bf16⟩ : BufTy).Contents (Elt Ideal)) (x1 : (⟨S8x2048, .bf16⟩ : BufTy).Contents (Elt Ideal)) (i : S4096x2048.Idx) :
    (show EReal from val_main_v6 (F := Ideal) x0 x1 i)
      = ∑ k : Fin 8, (show EReal from x0 (idx_main_v5 (lidx_main_v6 i k))) * (show EReal from x1 (idx_main_v3 (ridx_main_v6 i k))) := by
  rw [val_main_v6_apply]
  refine Finset.sum_congr rfl fun k _ => ?_
  first | rfl | (simp only [val_main_v5_apply, val_main_v3_apply, val_main_v0_apply, val_main_v1_apply]; rfl)

variable (m : (ℓ : Loc nD τ sig) → Buf (Elt Ideal) ℓ) (c : Dev nD)

theorem out : (dats m 0 c).arrAt 2 cfg0.N = val_main_v6 (F := Ideal) (m (c, Proc.devRef .tc main_arg0)) (m (c, Proc.devRef .tc main_arg1)) := by
  refine (dats m 0 c).arrAt_eq_of_covers 2 _ (by decide +kernel) fun t hf y => ?_
  obtain ⟨a, b, rfl⟩ : ∃ (a : Fin 1024) (b : Fin 1024), y = ix2 a b := ⟨y 0, y 1, by funext u; match u with | ⟨0, _⟩ => rfl | ⟨1, _⟩ => rfl⟩
  refine Eq.trans ?_ (ref _ _ _).symm
  blk_simp
  rw [after0_2]
  frame_out
  refine (pay _ _ a b).trans ?_
  refine Finset.sum_congr rfl fun k _ => congrArg₂ (fun p q : EReal => p * q) ?_ ?_
  · blk_ext [iblk, V, ix t]
  · blk_ext [iblk, V, ix t]

end Cert.DHFIdeal.Hand
-- ==== Proof.DHFClaim.lean ====
module
public import proofs.«01_k».proof.Defs
public import proofs.«01_k».proof.Proof.DHFValue
public import proofs.«01_k».proof.Proof.Gen.RefDHFIdeal.Run
public import Idealize.ShloMosaic.Lib.Quiescent
public import Idealize.ShloMosaic.Adequacy
@[expose] public section
noncomputable section

/-! The reference's frame and the value claim of the call. -/

namespace Cert.DHFIdeal.Hand
open Cert.DHFIdeal Cert.DHFIdeal.Gen
open Idealize.ShloMosaic Idealize.SL.Sem

theorem frame_ref : Cert.quiescent_RefDHFIdeal := fun m g _ =>
  (θ_run Cert.RefDHFIdeal.defs _ _).mono (fun r h => ⟨fun c => (h c).2, sem_eq_zero_of_no_sems (by decide) r.2⟩) (Cert.RefDHFIdeal.Value.run (F := Ideal) m g)

set_option maxHeartbeats 4000000 in
theorem value : Cert.algebraic_DHFIdeal_RefDHFIdeal := by
  intro m g m' g' _ hag
  refine ⟨fun c => Cert.RefDHFIdeal.Read.val_main_v6 (F := Ideal) (m (c, Proc.devRef .tc main_arg0)) (m (c, Proc.devRef .tc main_arg1)), ?_, ?_⟩
  · exact (θ_run Cert.DHFIdeal.defs _ _).mono (fun r h c => ⟨(h c).1.trans (out m c), (h c).2⟩) (Cert.DHFIdeal.Value.run_blocks m g)
  · refine (θ_run Cert.RefDHFIdeal.defs _ _).mono (fun r h c => ⟨(h c).1.trans ?_, (h c).2⟩) (Cert.RefDHFIdeal.Value.run (F := Ideal) m' g')
    obtain ⟨a0, a1⟩ := hag c
    exact (Cert.RefDHFIdeal.Read.val_main_v6_eq _ _).trans (congr (congrArg (Cert.RefDHFIdeal.Read.val_main_v6 (F := Ideal)) a0) a1)

end Cert.DHFIdeal.Hand
-- ==== Proof.DHQkvValue.lean ====
module
public import proofs.«01_k».proof.Proof.Gen.DHQkvIdeal.Value
public import proofs.«01_k».proof.Proof.Gen.RefDHQkvIdeal.Read
public import Idealize.ShloMosaic.Lib.Pipeline.ValueKit
@[expose] public section
set_option maxRecDepth 16384
noncomputable section

/-! The value of the call: the blocks of the contracted axis add up in the result block, and their sum is the product the reference takes. -/

namespace Cert.DHQkvIdeal.Hand
open Cert.DHQkvIdeal Cert.DHQkvIdeal.Gen
open Idealize.ShloMosaic Finset
open Cert.RefDHQkvIdeal.Read

set_option maxHeartbeats 2000000

theorem ix : ∀ t : Fin cfg0.N, win0_0.index t = ![t.val / 6, t.val % 3] ∧ win0_1.index t = ![t.val / 3 % 2, t.val % 3] ∧ win0_2.index t = ![t.val / 6, t.val / 3 % 2] ∧ win0_3.index t = ![t.val / 6, t.val / 3 % 2] :=
  (by decide +kernel : ∀ t : Fin grid0.N, win0_0.index t = ![t.val / 6, t.val % 3] ∧ win0_1.index t = ![t.val / 3 % 2, t.val % 3] ∧ win0_2.index t = ![t.val / 6, t.val / 3 % 2] ∧ win0_3.index t = ![t.val / 6, t.val / 3 % 2])

theorem pay2 (x0 : Vec Ideal S1024x2048 .bf16) (x1 : Vec Ideal S1024x2048 .bf16) (r : Vec Ideal S1024x1024 .f32) (a : Fin 1024) (b : Fin 1024) :
    (show EReal from k0_pay2 (F := Ideal) x0 x1 r (ix2 a b)) = (∑ k : Fin 2048, (show EReal from x0 (ix2 a k)) * (show EReal from x1 (ix2 b k))) + (show EReal from r (ix2 a b)) := by
  unfold k0_pay2 k0_pay1
  pointwise
theorem pay3 (x0 : Vec Ideal S1024x2048 .bf16) (x1 : Vec Ideal S1024x2048 .bf16) (r : Vec Ideal S1024x1024 .f32) (a : Fin 1024) (b : Fin 1024) :
    (show EReal from k0_pay3 (F := Ideal) x0 x1 r (ix2 a b)) = (show EReal from r (ix2 a b)) + ∑ k : Fin 2048, (show EReal from x0 (ix2 a k)) * (show EReal from x1 (ix2 b k)) := by
  unfold k0_pay3 k0_pay1
  pointwise

theorem ref (x0 : (⟨S4096x6144, .bf16⟩ : BufTy).Contents (Elt Ideal)) (x1 : (⟨S2048x6144, .bf16⟩ : BufTy).Contents (Elt Ideal)) (x2 : (⟨S4096x2048, .f32⟩ : BufTy).Contents (Elt Ideal)) (i : S4096x2048.Idx) :
    (show EReal from val_main_v5 (F := Ideal) x0 x1 x2 i)
      = (show EReal from x2 i) + ∑ k : Fin 6144, (show EReal from x0 (lidx_main_v4 i k)) * (show EReal from x1 (ridx_main_v4 i k)) := by
  rw [val_main_v5_apply, val_main_v4_apply]
  refine congrArg (fun q : EReal => (show EReal from x2 i) + q) (Finset.sum_congr rfl fun k _ => ?_)
  first | rfl | (simp only [val_main_v0_apply, val_main_v1_apply]; rfl)

variable (m : (ℓ : Loc nD τ sig) → Buf (Elt Ideal) ℓ) (c : Dev nD)

/-- What a grid point adds at an entry of its block. -/
def tm (t : Fin cfg0.N) (i : S1024x1024.Idx) : EReal :=
  (if t.val % 3 = 0 then (show EReal from iblk m c 2 t i) else 0) + ∑ k : Fin 2048, (show EReal from iblk m c 0 t (ix2 (i 0) k)) * (show EReal from iblk m c 1 t (ix2 (i 1) k))

theorem first (t : Fin cfg0.N) (h : t.val % 3 = 0) (i : S1024x1024.Idx) : (show EReal from outsAt0 m c t.val t.isLt i) = 0 + tm m c t i := by
  obtain ⟨a, b, rfl⟩ : ∃ (a : Fin 1024) (b : Fin 1024), i = ix2 a b := ⟨i 0, i 1, by funext u; match u with | ⟨0, _⟩ => rfl | ⟨1, _⟩ => rfl⟩
  rw [outsAt0_A m c t h (by omega), zero_add]
  frame_out
  unfold tm
  rw [if_pos h]
  exact (pay2 _ _ _ a b).trans (add_comm (G := EReal) _ _)
theorem next (t : Fin cfg0.N) (h : ¬t.val % 3 = 0) (i : S1024x1024.Idx) : (show EReal from outsAt0 m c t.val t.isLt i)
    = (show EReal from outsAt0 m c (t.val - 1) (Nat.lt_of_le_of_lt (Nat.sub_le _ _) t.isLt) i) + tm m c t i := by
  obtain ⟨a, b, rfl⟩ : ∃ (a : Fin 1024) (b : Fin 1024), i = ix2 a b := ⟨i 0, i 1, by funext u; match u with | ⟨0, _⟩ => rfl | ⟨1, _⟩ => rfl⟩
  rw [outsAt0_B m c t h (by omega)]
  frame_out
  unfold tm
  rw [if_neg h, zero_add]
  exact pay3 _ _ _ a b

theorem sum_first (J q : Nat) (hJ : 0 < J) (f : Fin J → EReal) : (∑ s : Fin J, if (J * q + s.val) % J = 0 then f s else 0) = f ⟨0, hJ⟩ := by
  rw [Finset.sum_eq_single (⟨0, hJ⟩ : Fin J)]
  · rw [if_pos (by simp)]
  · intro s _ hs
    rw [if_neg]
    rw [Nat.mul_add_mod, Nat.mod_eq_of_lt s.isLt]
    exact fun h => hs (Fin.ext h)
  · intro h
    exact absurd (Finset.mem_univ _) h

theorem out : (dats m 0 c).arrAt 3 cfg0.N = val_main_v5 (F := Ideal) (m (c, Proc.devRef .tc main_arg0)) (m (c, Proc.devRef .tc main_arg1)) (m (c, Proc.devRef .tc main_arg2)) := by
  refine (dats m 0 c).arrAt_eq_of_covers 3 _ (by decide +kernel) fun t hf y => ?_
  obtain ⟨a, b, rfl⟩ : ∃ (a : Fin 1024) (b : Fin 1024), y = ix2 a b := ⟨y 0, y 1, by funext u; match u with | ⟨0, _⟩ => rfl | ⟨1, _⟩ => rfl⟩
  have hr := (flush0_3 t).mp hf
  have ht : t.val < 24 := lt_of_lt_of_eq t.isLt (show cfg0.N = 24 from N_0)
  refine Eq.trans ?_ (ref _ _ _ _).symm
  have e0 : ((((cfg0.win 3).blk t).view.emb (ix2 a b)) 0).val = 1024 * (t.val / 6) + a.val := by blk_simp [ix t]; omega
  have e1 : ((((cfg0.win 3).blk t).view.emb (ix2 a b)) 1).val = 1024 * (t.val / 3 % 2) + b.val := by blk_simp [ix t]; omega
  generalize ((cfg0.win 3).blk t).view.emb (ix2 a b) = j at e0 e1
  blk_simp
  rw [after0_3]
  refine (Pipeline.eq_sum_fin_of_reset_step_apply_of_flush (M := EReal) (fun n h => outsAt0 m c n h) 3 (fun _ => 0) (tm m c) (first m c) (next m c) t hr (ix2 a b)).trans ?_
  rw [zero_add]
  unfold tm
  rw [Finset.sum_add_distrib]
  refine congrArg₂ (fun p q : EReal => p + q) ?_ ?_
  · have hp : ∀ p : Fin cfg0.N, p.val = 3 * (t.val / 3) → (show EReal from iblk m c 2 p (ix2 a b)) = (show EReal from (m (c, Proc.devRef .tc main_arg2)) j) := by
      intro p hp
      blk_ext [iblk, V, ix p, e0, e1]
    refine (sum_first 3 (t.val / 3) (by omega) fun s => (show EReal from iblk m c 2 ⟨3 * (t.val / 3) + s.val, Pipeline.run_point_lt_of_flush t hr s⟩ (ix2 a b))).trans (hp _ rfl)
  · refine Fin.sum_mul_add_congr fun s k hl => ?_
    have hb : 3 * (t.val / 3) + s.val < cfg0.N := Pipeline.run_point_lt_of_flush t hr s
    refine congrArg₂ (fun p q : EReal => p * q) ?_ ?_
    · blk_ext [iblk, V, ix ⟨3 * (t.val / 3) + s.val, hb⟩, e0]
    · blk_ext [iblk, V, ix ⟨3 * (t.val / 3) + s.val, hb⟩, e1]

end Cert.DHQkvIdeal.Hand
-- ==== Proof.DHQkvClaim.lean ====
module
public import proofs.«01_k».proof.Defs
public import proofs.«01_k».proof.Proof.DHQkvValue
public import proofs.«01_k».proof.Proof.Gen.RefDHQkvIdeal.Run
public import Idealize.ShloMosaic.Lib.Quiescent
public import Idealize.ShloMosaic.Adequacy
@[expose] public section
noncomputable section

/-! The reference's frame and the value claim of the call. -/

namespace Cert.DHQkvIdeal.Hand
open Cert.DHQkvIdeal Cert.DHQkvIdeal.Gen
open Idealize.ShloMosaic Idealize.SL.Sem

theorem frame_ref : Cert.quiescent_RefDHQkvIdeal := fun m g _ =>
  (θ_run Cert.RefDHQkvIdeal.defs _ _).mono (fun r h => ⟨fun c => (h c).2, sem_eq_zero_of_no_sems (by decide) r.2⟩) (Cert.RefDHQkvIdeal.Value.run (F := Ideal) m g)

set_option maxHeartbeats 4000000 in
theorem value : Cert.algebraic_DHQkvIdeal_RefDHQkvIdeal := by
  intro m g m' g' _ hag
  refine ⟨fun c => Cert.RefDHQkvIdeal.Read.val_main_v5 (F := Ideal) (m (c, Proc.devRef .tc main_arg0)) (m (c, Proc.devRef .tc main_arg1)) (m (c, Proc.devRef .tc main_arg2)), ?_, ?_⟩
  · exact (θ_run Cert.DHQkvIdeal.defs _ _).mono (fun r h c => ⟨(h c).1.trans (out m c), (h c).2⟩) (Cert.DHQkvIdeal.Value.run_blocks m g)
  · refine (θ_run Cert.RefDHQkvIdeal.defs _ _).mono (fun r h c => ⟨(h c).1.trans ?_, (h c).2⟩) (Cert.RefDHQkvIdeal.Value.run (F := Ideal) m' g')
    obtain ⟨a0, a1, a2⟩ := hag c
    exact (Cert.RefDHQkvIdeal.Read.val_main_v5_eq _ _ _).trans (congr (congr (congrArg (Cert.RefDHQkvIdeal.Read.val_main_v5 (F := Ideal)) a0) a1) a2)

end Cert.DHQkvIdeal.Hand
-- ==== Proof.ProjAValue.lean ====
module
public import proofs.«01_k».proof.Proof.Gen.ProjAIdeal.Value
public import proofs.«01_k».proof.Proof.Gen.RefProjAIdeal.Read
public import Idealize.ShloMosaic.Lib.Pipeline.ValueKit
@[expose] public section
set_option maxRecDepth 16384
noncomputable section

/-! The value of the call: every block of the result holds the product of the row block and the column block, as the reference has it. -/

namespace Cert.ProjAIdeal.Hand
open Cert.ProjAIdeal Cert.ProjAIdeal.Gen
open Idealize.ShloMosaic Finset
open Cert.RefProjAIdeal.Read

set_option maxHeartbeats 2000000

theorem ix : ∀ t : Fin cfg0.N, win0_0.index t = ![t.val / 6, 0] ∧ win0_1.index t = ![0, t.val % 6] ∧ win0_2.index t = ![t.val / 6, t.val % 6] :=
  (by decide +kernel : ∀ t : Fin grid0.N, win0_0.index t = ![t.val / 6, 0] ∧ win0_1.index t = ![0, t.val % 6] ∧ win0_2.index t = ![t.val / 6, t.val % 6])

theorem pay (x0 : Vec Ideal S2048x2048 .bf16) (x1 : Vec Ideal S2048x512 .bf16) (a : Fin 2048) (b : Fin 512) :
    (show EReal from k0_pay1 (F := Ideal) x0 x1 (ix2 a b)) = ∑ k : Fin 2048, (show EReal from x0 (ix2 a k)) * (show EReal from x1 (ix2 k b)) := by
  unfold k0_pay1
  pointwise

theorem ref (x0 : (⟨S4096x2048, .bf16⟩ : BufTy).Contents (Elt Ideal)) (x1 : (⟨S2048x6144, .bf16⟩ : BufTy).Contents (Elt Ideal)) (i : S4096x3072.Idx) :
    (show EReal from val_main_v4 (F := Ideal) x0 x1 i)
      = ∑ k : Fin 2048, (show EReal from x0 (lidx_main_v2 (idx_main_v3 i) k)) * (show EReal from x1 (ridx_main_v2 (idx_main_v3 i) k)) := by
  rw [val_main_v4_apply, val_main_v3_apply, val_main_v2_apply]
  refine Finset.sum_congr rfl fun k _ => ?_
  first | rfl | (simp only [val_main_v0_apply, val_main_v1_apply]; rfl)

variable (m : (ℓ : Loc nD τ sig) → Buf (Elt Ideal) ℓ) (c : Dev nD)

theorem out : (dats m 0 c).arrAt 2 cfg0.N = val_main_v4 (F := Ideal) (m (c, Proc.devRef .tc main_arg0)) (m (c, Proc.devRef .tc main_arg1)) := by
  refine (dats m 0 c).arrAt_eq_of_covers 2 _ (by decide +kernel) fun t hf y => ?_
  obtain ⟨a, b, rfl⟩ : ∃ (a : Fin 2048) (b : Fin 512), y = ix2 a b := ⟨y 0, y 1, by funext u; match u with | ⟨0, _⟩ => rfl | ⟨1, _⟩ => rfl⟩
  refine Eq.trans ?_ (ref _ _ _).symm
  blk_simp
  rw [after0_2]
  frame_out
  refine (pay _ _ a b).trans ?_
  refine Finset.sum_congr rfl fun k _ => congrArg₂ (fun p q : EReal => p * q) ?_ ?_
  · blk_ext [iblk, V, ix t]
  · blk_ext [iblk, V, ix t]

end Cert.ProjAIdeal.Hand
-- ==== Proof.ProjAClaim.lean ====
module
public import proofs.«01_k».proof.Defs
public import proofs.«01_k».proof.Proof.ProjAValue
public import proofs.«01_k».proof.Proof.Gen.RefProjAIdeal.Run
public import Idealize.ShloMosaic.Lib.Quiescent
public import Idealize.ShloMosaic.Adequacy
@[expose] public section
noncomputable section

/-! The reference's frame and the value claim of the call. -/

namespace Cert.ProjAIdeal.Hand
open Cert.ProjAIdeal Cert.ProjAIdeal.Gen
open Idealize.ShloMosaic Idealize.SL.Sem

theorem frame_ref : Cert.quiescent_RefProjAIdeal := fun m g _ =>
  (θ_run Cert.RefProjAIdeal.defs _ _).mono (fun r h => ⟨fun c => (h c).2, sem_eq_zero_of_no_sems (by decide) r.2⟩) (Cert.RefProjAIdeal.Value.run (F := Ideal) m g)

set_option maxHeartbeats 4000000 in
theorem value : Cert.algebraic_ProjAIdeal_RefProjAIdeal := by
  intro m g m' g' _ hag
  refine ⟨fun c => Cert.RefProjAIdeal.Read.val_main_v4 (F := Ideal) (m (c, Proc.devRef .tc main_arg0)) (m (c, Proc.devRef .tc main_arg1)), ?_, ?_⟩
  · exact (θ_run Cert.ProjAIdeal.defs _ _).mono (fun r h c => ⟨(h c).1.trans (out m c), (h c).2⟩) (Cert.ProjAIdeal.Value.run_blocks m g)
  · refine (θ_run Cert.RefProjAIdeal.defs _ _).mono (fun r h c => ⟨(h c).1.trans ?_, (h c).2⟩) (Cert.RefProjAIdeal.Value.run (F := Ideal) m' g')
    obtain ⟨a0, a1⟩ := hag c
    exact (Cert.RefProjAIdeal.Read.val_main_v4_eq _ _).trans (congr (congrArg (Cert.RefProjAIdeal.Read.val_main_v4 (F := Ideal)) a0) a1)

end Cert.ProjAIdeal.Hand
-- ==== Proof.ProjBValue.lean ====
module
public import proofs.«01_k».proof.Proof.Gen.ProjBIdeal.Value
public import proofs.«01_k».proof.Proof.Gen.RefProjBIdeal.Read
public import Idealize.ShloMosaic.Lib.Pipeline.ValueKit
@[expose] public section
set_option maxRecDepth 16384
noncomputable section

/-! The value of the call: every block of the result holds the product of the row block and the column block, as the reference has it. -/

namespace Cert.ProjBIdeal.Hand
open Cert.ProjBIdeal Cert.ProjBIdeal.Gen
open Idealize.ShloMosaic Finset
open Cert.RefProjBIdeal.Read

set_option maxHeartbeats 2000000

theorem ix : ∀ t : Fin cfg0.N, win0_0.index t = ![t.val / 6, 0] ∧ win0_1.index t = ![0, 6 + t.val % 6] ∧ win0_2.index t = ![t.val / 6, t.val % 6] :=
  (by decide +kernel : ∀ t : Fin grid0.N, win0_0.index t = ![t.val / 6, 0] ∧ win0_1.index t = ![0, 6 + t.val % 6] ∧ win0_2.index t = ![t.val / 6, t.val % 6])

theorem pay (x0 : Vec Ideal S2048x2048 .bf16) (x1 : Vec Ideal S2048x512 .bf16) (a : Fin 2048) (b : Fin 512) :
    (show EReal from k0_pay1 (F := Ideal) x0 x1 (ix2 a b)) = ∑ k : Fin 2048, (show EReal from x0 (ix2 a k)) * (show EReal from x1 (ix2 k b)) := by
  unfold k0_pay1
  pointwise

theorem ref (x0 : (⟨S4096x2048, .bf16⟩ : BufTy).Contents (Elt Ideal)) (x1 : (⟨S2048x6144, .bf16⟩ : BufTy).Contents (Elt Ideal)) (i : S4096x3072.Idx) :
    (show EReal from val_main_v3 (F := Ideal) x0 x1 i)
      = ∑ k : Fin 2048, (show EReal from x0 (lidx_main_v2 (idx_main_v3 i) k)) * (show EReal from x1 (ridx_main_v2 (idx_main_v3 i) k)) := by
  rw [val_main_v3_apply, val_main_v2_apply]
  refine Finset.sum_congr rfl fun k _ => ?_
  first | rfl | (simp only [val_main_v0_apply, val_main_v1_apply]; rfl)

variable (m : (ℓ : Loc nD τ sig) → Buf (Elt Ideal) ℓ) (c : Dev nD)

theorem out : (dats m 0 c).arrAt 2 cfg0.N = val_main_v3 (F := Ideal) (m (c, Proc.devRef .tc main_arg0)) (m (c, Proc.devRef .tc main_arg1)) := by
  refine (dats m 0 c).arrAt_eq_of_covers 2 _ (by decide +kernel) fun t hf y => ?_
  obtain ⟨a, b, rfl⟩ : ∃ (a : Fin 2048) (b : Fin 512), y = ix2 a b := ⟨y 0, y 1, by funext u; match u with | ⟨0, _⟩ => rfl | ⟨1, _⟩ => rfl⟩
  refine Eq.trans ?_ (ref _ _ _).symm
  blk_simp
  rw [after0_2]
  frame_out
  refine (pay _ _ a b).trans ?_
  refine Finset.sum_congr rfl fun k _ => congrArg₂ (fun p q : EReal => p * q) ?_ ?_
  · blk_ext [iblk, V, ix t]
  · blk_ext [iblk, V, ix t]

end Cert.ProjBIdeal.Hand
-- ==== Proof.ProjBClaim.lean ====
module
public import proofs.«01_k».proof.Defs
public import proofs.«01_k».proof.Proof.ProjBValue
public import proofs.«01_k».proof.Proof.Gen.RefProjBIdeal.Run
public import Idealize.ShloMosaic.Lib.Quiescent
public import Idealize.ShloMosaic.Adequacy
@[expose] public section
noncomputable section

/-! The reference's frame and the value claim of the call. -/

namespace Cert.ProjBIdeal.Hand
open Cert.ProjBIdeal Cert.ProjBIdeal.Gen
open Idealize.ShloMosaic Idealize.SL.Sem

theorem frame_ref : Cert.quiescent_RefProjBIdeal := fun m g _ =>
  (θ_run Cert.RefProjBIdeal.defs _ _).mono (fun r h => ⟨fun c => (h c).2, sem_eq_zero_of_no_sems (by decide) r.2⟩) (Cert.RefProjBIdeal.Value.run (F := Ideal) m g)

set_option maxHeartbeats 4000000 in
theorem value : Cert.algebraic_ProjBIdeal_RefProjBIdeal := by
  intro m g m' g' _ hag
  refine ⟨fun c => Cert.RefProjBIdeal.Read.val_main_v3 (F := Ideal) (m (c, Proc.devRef .tc main_arg0)) (m (c, Proc.devRef .tc main_arg1)), ?_, ?_⟩
  · exact (θ_run Cert.ProjBIdeal.defs _ _).mono (fun r h c => ⟨(h c).1.trans (out m c), (h c).2⟩) (Cert.ProjBIdeal.Value.run_blocks m g)
  · refine (θ_run Cert.RefProjBIdeal.defs _ _).mono (fun r h c => ⟨(h c).1.trans ?_, (h c).2⟩) (Cert.RefProjBIdeal.Value.run (F := Ideal) m' g')
    obtain ⟨a0, a1⟩ := hag c
    exact (Cert.RefProjBIdeal.Read.val_main_v3_eq _ _).trans (congr (congrArg (Cert.RefProjBIdeal.Read.val_main_v3 (F := Ideal)) a0) a1)

end Cert.ProjBIdeal.Hand
-- ==== Proof.ProjFValue.lean ====
module
public import proofs.«01_k».proof.Proof.Gen.ProjFIdeal.Value
public import proofs.«01_k».proof.Proof.Gen.RefProjFIdeal.Read
public import Idealize.ShloMosaic.Lib.Pipeline.ValueKit
@[expose] public section
set_option maxRecDepth 16384
noncomputable section

/-! The value of the call: every block of the result holds the product of the row block and the column block, as the reference has it. -/

namespace Cert.ProjFIdeal.Hand
open Cert.ProjFIdeal Cert.ProjFIdeal.Gen
open Idealize.ShloMosaic Finset
open Cert.RefProjFIdeal.Read

set_option maxHeartbeats 2000000

theorem ix : ∀ t : Fin cfg0.N, win0_0.index t = ![0, 0] ∧ win0_1.index t = ![t.val, 0] ∧ win0_2.index t = ![0, t.val] :=
  (by decide +kernel : ∀ t : Fin grid0.N, win0_0.index t = ![0, 0] ∧ win0_1.index t = ![t.val, 0] ∧ win0_2.index t = ![0, t.val])

theorem pay (x0 : Vec Ideal S8x2048 .bf16) (x1 : Vec Ideal S512x2048 .bf16) (a : Fin 8) (b : Fin 512) :
    (show EReal from k0_pay1 (F := Ideal) x0 x1 (ix2 a b)) = ∑ k : Fin 2048, (show EReal from x0 (ix2 a k)) * (show EReal from x1 (ix2 b k)) := by
  unfold k0_pay1
  pointwise

theorem ref (x0 : (⟨S8x2048, .bf16⟩ : BufTy).Contents (Elt Ideal)) (x1 : (⟨S4096x2048, .bf16⟩ : BufTy).Contents (Elt Ideal)) (i : S8x4096.Idx) :
    (show EReal from val_main_v4 (F := Ideal) x0 x1 i)
      = ∑ k : Fin 2048, (show EReal from x0 (idx_main_v2 (ridx_main_v3 (idx_main_v4 i) k))) * (show EReal from x1 (lidx_main_v3 (idx_main_v4 i) k)) := by
  rw [val_main_v4_apply, val_main_v3_apply]
  refine Finset.sum_congr rfl fun k _ => ?_
  rw [val_main_v2_apply]
  exact mul_comm (G := EReal) _ _

variable (m : (ℓ : Loc nD τ sig) → Buf (Elt Ideal) ℓ) (c : Dev nD)

theorem out : (dats m 0 c).arrAt 2 cfg0.N = val_main_v4 (F := Ideal) (m (c, Proc.devRef .tc main_arg0)) (m (c, Proc.devRef .tc main_arg1)) := by
  refine (dats m 0 c).arrAt_eq_of_covers 2 _ (by decide +kernel) fun t hf y => ?_
  obtain ⟨a, b, rfl⟩ : ∃ (a : Fin 8) (b : Fin 512), y = ix2 a b := ⟨y 0, y 1, by funext u; match u with | ⟨0, _⟩ => rfl | ⟨1, _⟩ => rfl⟩
  refine Eq.trans ?_ (ref _ _ _).symm
  blk_simp
  rw [after0_2]
  frame_out
  refine (pay _ _ a b).trans ?_
  refine Finset.sum_congr rfl fun k _ => congrArg₂ (fun p q : EReal => p * q) ?_ ?_
  · blk_ext [iblk, V, ix t]
  · blk_ext [iblk, V, ix t]

end Cert.ProjFIdeal.Hand
-- ==== Proof.ProjFClaim.lean ====
module
public import proofs.«01_k».proof.Defs
public import proofs.«01_k».proof.Proof.ProjFValue
public import proofs.«01_k».proof.Proof.Gen.RefProjFIdeal.Run
public import Idealize.ShloMosaic.Lib.Quiescent
public import Idealize.ShloMosaic.Adequacy
@[expose] public section
noncomputable section

/-! The reference's frame and the value claim of the call. -/

namespace Cert.ProjFIdeal.Hand
open Cert.ProjFIdeal Cert.ProjFIdeal.Gen
open Idealize.ShloMosaic Idealize.SL.Sem

theorem frame_ref : Cert.quiescent_RefProjFIdeal := fun m g _ =>
  (θ_run Cert.RefProjFIdeal.defs _ _).mono (fun r h => ⟨fun c => (h c).2, sem_eq_zero_of_no_sems (by decide) r.2⟩) (Cert.RefProjFIdeal.Value.run (F := Ideal) m g)

set_option maxHeartbeats 4000000 in
theorem value : Cert.algebraic_ProjFIdeal_RefProjFIdeal := by
  intro m g m' g' _ hag
  refine ⟨fun c => Cert.RefProjFIdeal.Read.val_main_v4 (F := Ideal) (m (c, Proc.devRef .tc main_arg0)) (m (c, Proc.devRef .tc main_arg1)), ?_, ?_⟩
  · exact (θ_run Cert.ProjFIdeal.defs _ _).mono (fun r h c => ⟨(h c).1.trans (out m c), (h c).2⟩) (Cert.ProjFIdeal.Value.run_blocks m g)
  · refine (θ_run Cert.RefProjFIdeal.defs _ _).mono (fun r h c => ⟨(h c).1.trans ?_, (h c).2⟩) (Cert.RefProjFIdeal.Value.run (F := Ideal) m' g')
    obtain ⟨a0, a1⟩ := hag c
    exact (Cert.RefProjFIdeal.Read.val_main_v4_eq _ _).trans (congr (congrArg (Cert.RefProjFIdeal.Read.val_main_v4 (F := Ideal)) a0) a1)

end Cert.ProjFIdeal.Hand
-- ==== Proof.AttnOutValue.lean ====
module
public import proofs.«01_k».proof.Proof.Gen.AttnOutIdeal.Value
public import proofs.«01_k».proof.Proof.Gen.RefAttnOutIdeal.Read
public import Idealize.ShloMosaic.Lib.Pipeline.ValueKit
@[expose] public section
set_option maxRecDepth 16384
noncomputable section

/-! The value of the call: every block of the result holds the product of the row block and the column block, as the reference has it. -/

namespace Cert.AttnOutIdeal.Hand
open Cert.AttnOutIdeal Cert.AttnOutIdeal.Gen
open Idealize.ShloMosaic Finset
open Cert.RefAttnOutIdeal.Read

set_option maxHeartbeats 2000000

theorem ix : ∀ t : Fin cfg0.N, win0_0.index t = ![t.val / 4, 0] ∧ win0_1.index t = ![0, t.val % 4] ∧ win0_2.index t = ![t.val / 4, t.val % 4] ∧ win0_3.index t = ![t.val / 4, t.val % 4] :=
  (by decide +kernel : ∀ t : Fin grid0.N, win0_0.index t = ![t.val / 4, 0] ∧ win0_1.index t = ![0, t.val % 4] ∧ win0_2.index t = ![t.val / 4, t.val % 4] ∧ win0_3.index t = ![t.val / 4, t.val % 4])

theorem pay (x0 : Vec Ideal S2048x2048 .bf16) (x1 : Vec Ideal S2048x512 .bf16) (x2 : Vec Ideal S2048x512 .f32) (a : Fin 2048) (b : Fin 512) :
    (show EReal from k0_pay1 (F := Ideal) x0 x1 x2 (ix2 a b)) = (∑ k : Fin 2048, (show EReal from x0 (ix2 a k)) * (show EReal from x1 (ix2 k b))) + (show EReal from x2 (ix2 a b)) := by
  unfold k0_pay1
  pointwise

theorem ref (x0 : (⟨S4096x2048, .bf16⟩ : BufTy).Contents (Elt Ideal)) (x1 : (⟨S2048x2048, .bf16⟩ : BufTy).Contents (Elt Ideal)) (x2 : (⟨S4096x2048, .f32⟩ : BufTy).Contents (Elt Ideal)) (i : S4096x2048.Idx) :
    (show EReal from val_main_v3 (F := Ideal) x0 x1 x2 i)
      = (show EReal from x2 i) + ∑ k : Fin 2048, (show EReal from x0 (lidx_main_v2 i k)) * (show EReal from x1 (ridx_main_v2 i k)) := by
  rw [val_main_v3_apply, val_main_v2_apply]
  refine congrArg (fun q : EReal => (show EReal from x2 i) + q) (Finset.sum_congr rfl fun k _ => ?_)
  first | rfl | (simp only [val_main_v0_apply, val_main_v1_apply]; rfl)

variable (m : (ℓ : Loc nD τ sig) → Buf (Elt Ideal) ℓ) (c : Dev nD)

theorem out : (dats m 0 c).arrAt 3 cfg0.N = val_main_v3 (F := Ideal) (m (c, Proc.devRef .tc main_arg0)) (m (c, Proc.devRef .tc main_arg1)) (m (c, Proc.devRef .tc main_arg2)) := by
  refine (dats m 0 c).arrAt_eq_of_covers 3 _ (by decide +kernel) fun t hf y => ?_
  obtain ⟨a, b, rfl⟩ : ∃ (a : Fin 2048) (b : Fin 512), y = ix2 a b := ⟨y 0, y 1, by funext u; match u with | ⟨0, _⟩ => rfl | ⟨1, _⟩ => rfl⟩
  refine Eq.trans ?_ (ref _ _ _ _).symm
  blk_simp
  rw [after0_3]
  frame_out
  refine (pay _ _ _ a b).trans ?_
  refine (add_comm (G := EReal) _ _).trans (congrArg₂ (fun p q : EReal => p + q) ?_ (Finset.sum_congr rfl fun k _ => congrArg₂ (fun p q : EReal => p * q) ?_ ?_))
  · blk_ext [iblk, V, ix t]
  · blk_ext [iblk, V, ix t]
  · blk_ext [iblk, V, ix t]

end Cert.AttnOutIdeal.Hand
-- ==== Proof.AttnOutClaim.lean ====
module
public import proofs.«01_k».proof.Defs
public import proofs.«01_k».proof.Proof.AttnOutValue
public import proofs.«01_k».proof.Proof.Gen.RefAttnOutIdeal.Run
public import Idealize.ShloMosaic.Lib.Quiescent
public import Idealize.ShloMosaic.Adequacy
@[expose] public section
noncomputable section

/-! The reference's frame and the value claim of the call. -/

namespace Cert.AttnOutIdeal.Hand
open Cert.AttnOutIdeal Cert.AttnOutIdeal.Gen
open Idealize.ShloMosaic Idealize.SL.Sem

theorem frame_ref : Cert.quiescent_RefAttnOutIdeal := fun m g _ =>
  (θ_run Cert.RefAttnOutIdeal.defs _ _).mono (fun r h => ⟨fun c => (h c).2, sem_eq_zero_of_no_sems (by decide) r.2⟩) (Cert.RefAttnOutIdeal.Value.run (F := Ideal) m g)

set_option maxHeartbeats 4000000 in
theorem value : Cert.algebraic_AttnOutIdeal_RefAttnOutIdeal := by
  intro m g m' g' _ hag
  refine ⟨fun c => Cert.RefAttnOutIdeal.Read.val_main_v3 (F := Ideal) (m (c, Proc.devRef .tc main_arg0)) (m (c, Proc.devRef .tc main_arg1)) (m (c, Proc.devRef .tc main_arg2)), ?_, ?_⟩
  · exact (θ_run Cert.AttnOutIdeal.defs _ _).mono (fun r h c => ⟨(h c).1.trans (out m c), (h c).2⟩) (Cert.AttnOutIdeal.Value.run_blocks m g)
  · refine (θ_run Cert.RefAttnOutIdeal.defs _ _).mono (fun r h c => ⟨(h c).1.trans ?_, (h c).2⟩) (Cert.RefAttnOutIdeal.Value.run (F := Ideal) m' g')
    obtain ⟨a0, a1, a2⟩ := hag c
    exact (Cert.RefAttnOutIdeal.Read.val_main_v3_eq _ _ _).trans (congr (congr (congrArg (Cert.RefAttnOutIdeal.Read.val_main_v3 (F := Ideal)) a0) a1) a2)

end Cert.AttnOutIdeal.Hand
-- ==== Proof.MlpInValue.lean ====
module
public import proofs.«01_k».proof.Proof.Gen.MlpInIdeal.Value
public import proofs.«01_k».proof.Proof.Gen.RefMlpInIdeal.Read
public import Idealize.ShloMosaic.Lib.Pipeline.ValueKit
@[expose] public section
set_option maxRecDepth 16384
noncomputable section

/-! The values of the call: every block of the first result holds the product of the row block and the column block of its slot, and the second result holds its relu squared. -/

namespace Cert.MlpInIdeal.Hand
open Cert.MlpInIdeal Cert.MlpInIdeal.Gen
open Idealize.ShloMosaic Finset
open Cert.RefMlpInIdeal.Read

set_option maxHeartbeats 2000000

theorem ix : ∀ t : Fin cfg0.N, win0_0.index t = ![t.val / 16, 0] ∧ win0_1.index t = ![t.val % 16 / 4, 0, t.val % 4] ∧ win0_2.index t = ![t.val / 16, t.val % 16]
    ∧ win0_3.index t = ![t.val / 16, t.val % 16] :=
  (by decide +kernel : ∀ t : Fin grid0.N, win0_0.index t = ![t.val / 16, 0] ∧ win0_1.index t = ![t.val % 16 / 4, 0, t.val % 4] ∧ win0_2.index t = ![t.val / 16, t.val % 16]
    ∧ win0_3.index t = ![t.val / 16, t.val % 16])

theorem pay2 (x0 : Vec Ideal S2048x2048 .bf16) (x1 : Vec Ideal S1x2048x512 .bf16) (a : Fin 2048) (b : Fin 512) :
    (show EReal from k0_pay2 (F := Ideal) x0 x1 (ix2 a b)) = ∑ k : Fin 2048, (show EReal from x0 (ix2 a k)) * (show EReal from x1 (ix3 (0 : Fin 1) k b)) := by
  unfold k0_pay2 k0_pay1
  pointwise

/-- Relu squared. -/
def sq (s : EReal) : EReal := max s 0 * max s 0

theorem pay3 (x0 : Vec Ideal S2048x2048 .bf16) (x1 : Vec Ideal S1x2048x512 .bf16) (a : Fin 2048) (b : Fin 512) :
    (show EReal from k0_pay3 (F := Ideal) x0 x1 (ix2 a b)) = sq (∑ k : Fin 2048, (show EReal from x0 (ix2 a k)) * (show EReal from x1 (ix3 (0 : Fin 1) k b))) := by
  unfold k0_pay3 k0_pay1 sq
  pointwise

theorem ref4 (x0 : (⟨S4096x2048, .bf16⟩ : BufTy).Contents (Elt Ideal)) (x1 : (⟨S4x2048x2048, .bf16⟩ : BufTy).Contents (Elt Ideal)) (i : S4096x8192.Idx) :
    (show EReal from val_main_v4 (F := Ideal) x0 x1 i)
      = ∑ k : Fin 2048, (show EReal from x0 (lidx_main_v4 i k)) * (show EReal from x1 (idx_main_v2 (idx_main_v3 (ridx_main_v4 i k)))) := by
  rw [val_main_v4_apply]
  refine Finset.sum_congr rfl fun k _ => ?_
  rw [val_main_v3_apply, val_main_v2_apply]
  rfl
theorem ref5 (x0 : (⟨S4096x2048, .bf16⟩ : BufTy).Contents (Elt Ideal)) (x1 : (⟨S4x2048x2048, .bf16⟩ : BufTy).Contents (Elt Ideal)) (i : S4096x8192.Idx) :
    (show EReal from val_main_v5 (F := Ideal) x0 x1 i)
      = ∑ k : Fin 2048, (show EReal from x0 (lidx_main_v4 i k)) * (show EReal from x1 (idx_main_v2 (idx_main_v3 (ridx_main_v4 i k)))) := by
  rw [val_main_v5_apply]
  exact ref4 x0 x1 i
theorem ref8 (x0 : (⟨S4096x2048, .bf16⟩ : BufTy).Contents (Elt Ideal)) (x1 : (⟨S4x2048x2048, .bf16⟩ : BufTy).Contents (Elt Ideal)) (i : S4096x8192.Idx) :
    (show EReal from val_main_v8 (F := Ideal) x0 x1 i)
      = sq (∑ k : Fin 2048, (show EReal from x0 (lidx_main_v4 i k)) * (show EReal from x1 (idx_main_v2 (idx_main_v3 (ridx_main_v4 i k))))) := by
  rw [val_main_v8_apply, val_main_v7_apply, val_main_v6_apply, val_main_call0_v0_apply, val_main_call0_cst_apply, ← ref4 x0 x1 i]
  unfold sq
  rw [← Ideal.ofBits_zero_f32]
  rfl

variable (m : (ℓ : Loc nD τ sig) → Buf (Elt Ideal) ℓ) (c : Dev nD)

/-- The product of a grid point's blocks at an entry is the reference's at the entry of the whole result. -/
theorem prod (t : Fin cfg0.N) (a : Fin 2048) (b : Fin 512) (j : S4096x8192.Idx) (e0 : (j 0).val = 2048 * (t.val / 16) + a.val) (e1 : (j 1).val = 512 * (t.val % 16) + b.val) :
    (∑ k : Fin 2048, (show EReal from iblk m c 0 t (ix2 a k)) * (show EReal from iblk m c 1 t (ix3 (0 : Fin 1) k b)))
      = ∑ k : Fin 2048, (show EReal from (m (c, Proc.devRef .tc main_arg0)) (lidx_main_v4 j k)) * (show EReal from (m (c, Proc.devRef .tc main_arg1)) (idx_main_v2 (idx_main_v3 (ridx_main_v4 j k)))) := by
  refine Finset.sum_congr rfl fun k _ => congrArg₂ (fun p q : EReal => p * q) ?_ ?_
  · blk_ext [iblk, V, ix t, e0]
  · generalize hj : idx_main_v2 (idx_main_v3 (ridx_main_v4 j k)) = jj
    have g0 : (jj 0).val = t.val % 16 / 4 := by
      rw [← hj]
      refine Eq.trans (b := (k.val * 8192 + (j 1).val) / 2048 % 4) rfl ?_
      omega
    have g1 : (jj 1).val = k.val := by
      rw [← hj]
      refine Eq.trans (b := (k.val * 8192 + (j 1).val) / 8192) rfl ?_
      omega
    have g2 : (jj 2).val = 512 * (t.val % 4) + b.val := by
      rw [← hj]
      refine Eq.trans (b := (k.val * 8192 + (j 1).val) % 2048) rfl ?_
      omega
    blk_ext [iblk, V, ix t, g0, g1, g2]

theorem out2 : (dats m 0 c).arrAt 2 cfg0.N = val_main_v5 (F := Ideal) (m (c, Proc.devRef .tc main_arg0)) (m (c, Proc.devRef .tc main_arg1)) := by
  refine (dats m 0 c).arrAt_eq_of_covers 2 _ (by decide +kernel) fun t hf y => ?_
  obtain ⟨a, b, rfl⟩ : ∃ (a : Fin 2048) (b : Fin 512), y = ix2 a b := ⟨y 0, y 1, by funext u; match u with | ⟨0, _⟩ => rfl | ⟨1, _⟩ => rfl⟩
  refine Eq.trans ?_ (ref5 _ _ _).symm
  have e0 : ((((cfg0.win 2).blk t).view.emb (ix2 a b)) 0).val = 2048 * (t.val / 16) + a.val := by blk_simp [ix t]; omega
  have e1 : ((((cfg0.win 2).blk t).view.emb (ix2 a b)) 1).val = 512 * (t.val % 16) + b.val := by blk_simp [ix t]; omega
  generalize ((cfg0.win 2).blk t).view.emb (ix2 a b) = j at e0 e1
  blk_simp
  rw [after0_2]
  frame_out
  exact (pay2 _ _ a b).trans (prod m c t a b j e0 e1)

theorem out3 : (dats m 0 c).arrAt 3 cfg0.N = val_main_v8 (F := Ideal) (m (c, Proc.devRef .tc main_arg0)) (m (c, Proc.devRef .tc main_arg1)) := by
  refine (dats m 0 c).arrAt_eq_of_covers 3 _ (by decide +kernel) fun t hf y => ?_
  obtain ⟨a, b, rfl⟩ : ∃ (a : Fin 2048) (b : Fin 512), y = ix2 a b := ⟨y 0, y 1, by funext u; match u with | ⟨0, _⟩ => rfl | ⟨1, _⟩ => rfl⟩
  refine Eq.trans ?_ (ref8 _ _ _).symm
  have e0 : ((((cfg0.win 3).blk t).view.emb (ix2 a b)) 0).val = 2048 * (t.val / 16) + a.val := by blk_simp [ix t]; omega
  have e1 : ((((cfg0.win 3).blk t).view.emb (ix2 a b)) 1).val = 512 * (t.val % 16) + b.val := by blk_simp [ix t]; omega
  generalize ((cfg0.win 3).blk t).view.emb (ix2 a b) = j at e0 e1
  blk_simp
  rw [after0_3]
  frame_out
  exact (pay3 _ _ a b).trans (congrArg sq (prod m c t a b j e0 e1))

end Cert.MlpInIdeal.Hand
-- ==== Proof.MlpInClaim.lean ====
module
public import proofs.«01_k».proof.Defs
public import proofs.«01_k».proof.Proof.MlpInValue
public import proofs.«01_k».proof.Proof.Gen.RefMlpInIdeal.Run
public import Idealize.ShloMosaic.Lib.Quiescent
public import Idealize.ShloMosaic.Adequacy
@[expose] public section
noncomputable section

/-! The reference's frame and the value claim of the call. -/

namespace Cert.MlpInIdeal.Hand
open Cert.MlpInIdeal Cert.MlpInIdeal.Gen
open Idealize.ShloMosaic Idealize.SL.Sem

theorem frame_ref : Cert.quiescent_RefMlpInIdeal := fun m g _ =>
  (θ_run Cert.RefMlpInIdeal.defs _ _).mono (fun r h => ⟨fun c => (h c).2.2, sem_eq_zero_of_no_sems (by decide) r.2⟩) (Cert.RefMlpInIdeal.Value.run (F := Ideal) m g)

set_option maxHeartbeats 4000000 in
theorem value : Cert.algebraic_MlpInIdeal_RefMlpInIdeal := by
  intro m g m' g' _ hag
  refine ⟨fun c => Cert.RefMlpInIdeal.Read.val_main_v5 (F := Ideal) (m (c, Proc.devRef .tc main_arg0)) (m (c, Proc.devRef .tc main_arg1)),
    fun c => Cert.RefMlpInIdeal.Read.val_main_v8 (F := Ideal) (m (c, Proc.devRef .tc main_arg0)) (m (c, Proc.devRef .tc main_arg1)), ?_, ?_⟩
  · exact (θ_run Cert.MlpInIdeal.defs _ _).mono (fun r h c => ⟨(h c).1.trans (out2 m c), (h c).2.1.trans (out3 m c), (h c).2.2⟩) (Cert.MlpInIdeal.Value.run_blocks m g)
  · refine (θ_run Cert.RefMlpInIdeal.defs _ _).mono (fun r h c => ⟨(h c).1.trans ?_, (h c).2.1.trans ?_, (h c).2.2⟩) (Cert.RefMlpInIdeal.Value.run (F := Ideal) m' g')
    all_goals obtain ⟨a0, a1⟩ := hag c
    · exact (Cert.RefMlpInIdeal.Read.val_main_v5_eq _ _).trans (congr (congrArg (Cert.RefMlpInIdeal.Read.val_main_v5 (F := Ideal)) a0) a1)
    · exact (Cert.RefMlpInIdeal.Read.val_main_v8_eq _ _).trans (congr (congrArg (Cert.RefMlpInIdeal.Read.val_main_v8 (F := Ideal)) a0) a1)

end Cert.MlpInIdeal.Hand
-- ==== Proof.MlpOutValue.lean ====
module
public import proofs.«01_k».proof.Proof.Gen.MlpOutIdeal.Value
public import proofs.«01_k».proof.Proof.Gen.RefMlpOutIdeal.Read
public import Idealize.ShloMosaic.Lib.Pipeline.ValueKit
@[expose] public section
set_option maxRecDepth 16384
noncomputable section

/-! The value of the call: the blocks of the contracted axis add up in the result block, and their sum is the product the reference takes. -/

namespace Cert.MlpOutIdeal.Hand
open Cert.MlpOutIdeal Cert.MlpOutIdeal.Gen
open Idealize.ShloMosaic Finset
open Cert.RefMlpOutIdeal.Read

set_option maxHeartbeats 2000000

theorem ix : ∀ t : Fin cfg0.N, win0_0.index t = ![t.val / 8, t.val % 4] ∧ win0_1.index t = ![t.val % 4, t.val / 4 % 2] ∧ win0_2.index t = ![t.val / 8, t.val / 4 % 2] ∧ win0_3.index t = ![t.val / 8, t.val / 4 % 2] :=
  (by decide +kernel : ∀ t : Fin grid0.N, win0_0.index t = ![t.val / 8, t.val % 4] ∧ win0_1.index t = ![t.val % 4, t.val / 4 % 2] ∧ win0_2.index t = ![t.val / 8, t.val / 4 % 2] ∧ win0_3.index t = ![t.val / 8, t.val / 4 % 2])

theorem pay2 (x0 : Vec Ideal S1024x2048 .bf16) (x1 : Vec Ideal S2048x1024 .bf16) (r : Vec Ideal S1024x1024 .f32) (a : Fin 1024) (b : Fin 1024) :
    (show EReal from k0_pay2 (F := Ideal) x0 x1 r (ix2 a b)) = (∑ k : Fin 2048, (show EReal from x0 (ix2 a k)) * (show EReal from x1 (ix2 k b))) + (show EReal from r (ix2 a b)) := by
  unfold k0_pay2 k0_pay1
  pointwise
theorem pay3 (x0 : Vec Ideal S1024x2048 .bf16) (x1 : Vec Ideal S2048x1024 .bf16) (r : Vec Ideal S1024x1024 .f32) (a : Fin 1024) (b : Fin 1024) :
    (show EReal from k0_pay3 (F := Ideal) x0 x1 r (ix2 a b)) = (show EReal from r (ix2 a b)) + ∑ k : Fin 2048, (show EReal from x0 (ix2 a k)) * (show EReal from x1 (ix2 k b)) := by
  unfold k0_pay3 k0_pay1
  pointwise

theorem ref (x0 : (⟨S4096x8192, .bf16⟩ : BufTy).Contents (Elt Ideal)) (x1 : (⟨S8192x2048, .bf16⟩ : BufTy).Contents (Elt Ideal)) (x2 : (⟨S4096x2048, .f32⟩ : BufTy).Contents (Elt Ideal)) (i : S4096x2048.Idx) :
    (show EReal from val_main_v3 (F := Ideal) x0 x1 x2 i)
      = (show EReal from x2 i) + ∑ k : Fin 8192, (show EReal from x0 (lidx_main_v2 i k)) * (show EReal from x1 (ridx_main_v2 i k)) := by
  rw [val_main_v3_apply, val_main_v2_apply]
  refine congrArg (fun q : EReal => (show EReal from x2 i) + q) (Finset.sum_congr rfl fun k _ => ?_)
  first | rfl | (simp only [val_main_v0_apply, val_main_v1_apply]; rfl)

variable (m : (ℓ : Loc nD τ sig) → Buf (Elt Ideal) ℓ) (c : Dev nD)

/-- What a grid point adds at an entry of its block. -/
def tm (t : Fin cfg0.N) (i : S1024x1024.Idx) : EReal :=
  (if t.val % 4 = 0 then (show EReal from iblk m c 2 t i) else 0) + ∑ k : Fin 2048, (show EReal from iblk m c 0 t (ix2 (i 0) k)) * (show EReal from iblk m c 1 t (ix2 k (i 1)))

theorem first (t : Fin cfg0.N) (h : t.val % 4 = 0) (i : S1024x1024.Idx) : (show EReal from outsAt0 m c t.val t.isLt i) = 0 + tm m c t i := by
  obtain ⟨a, b, rfl⟩ : ∃ (a : Fin 1024) (b : Fin 1024), i = ix2 a b := ⟨i 0, i 1, by funext u; match u with | ⟨0, _⟩ => rfl | ⟨1, _⟩ => rfl⟩
  rw [outsAt0_A m c t h (by omega), zero_add]
  frame_out
  unfold tm
  rw [if_pos h]
  exact (pay2 _ _ _ a b).trans (add_comm (G := EReal) _ _)
theorem next (t : Fin cfg0.N) (h : ¬t.val % 4 = 0) (i : S1024x1024.Idx) : (show EReal from outsAt0 m c t.val t.isLt i)
    = (show EReal from outsAt0 m c (t.val - 1) (Nat.lt_of_le_of_lt (Nat.sub_le _ _) t.isLt) i) + tm m c t i := by
  obtain ⟨a, b, rfl⟩ : ∃ (a : Fin 1024) (b : Fin 1024), i = ix2 a b := ⟨i 0, i 1, by funext u; match u with | ⟨0, _⟩ => rfl | ⟨1, _⟩ => rfl⟩
  rw [outsAt0_B m c t h (by omega)]
  frame_out
  unfold tm
  rw [if_neg h, zero_add]
  exact pay3 _ _ _ a b

theorem sum_first (J q : Nat) (hJ : 0 < J) (f : Fin J → EReal) : (∑ s : Fin J, if (J * q + s.val) % J = 0 then f s else 0) = f ⟨0, hJ⟩ := by
  rw [Finset.sum_eq_single (⟨0, hJ⟩ : Fin J)]
  · rw [if_pos (by simp)]
  · intro s _ hs
    rw [if_neg]
    rw [Nat.mul_add_mod, Nat.mod_eq_of_lt s.isLt]
    exact fun h => hs (Fin.ext h)
  · intro h
    exact absurd (Finset.mem_univ _) h

theorem out : (dats m 0 c).arrAt 3 cfg0.N = val_main_v3 (F := Ideal) (m (c, Proc.devRef .tc main_arg0)) (m (c, Proc.devRef .tc main_arg1)) (m (c, Proc.devRef .tc main_arg2)) := by
  refine (dats m 0 c).arrAt_eq_of_covers 3 _ (by decide +kernel) fun t hf y => ?_
  obtain ⟨a, b, rfl⟩ : ∃ (a : Fin 1024) (b : Fin 1024), y = ix2 a b := ⟨y 0, y 1, by funext u; match u with | ⟨0, _⟩ => rfl | ⟨1, _⟩ => rfl⟩
  have hr := (flush0_3 t).mp hf
  have ht : t.val < 32 := lt_of_lt_of_eq t.isLt (show cfg0.N = 32 from N_0)
  refine Eq.trans ?_ (ref _ _ _ _).symm
  have e0 : ((((cfg0.win 3).blk t).view.emb (ix2 a b)) 0).val = 1024 * (t.val / 8) + a.val := by blk_simp [ix t]; omega
  have e1 : ((((cfg0.win 3).blk t).view.emb (ix2 a b)) 1).val = 1024 * (t.val / 4 % 2) + b.val := by blk_simp [ix t]; omega
  generalize ((cfg0.win 3).blk t).view.emb (ix2 a b) = j at e0 e1
  blk_simp
  rw [after0_3]
  refine (Pipeline.eq_sum_fin_of_reset_step_apply_of_flush (M := EReal) (fun n h => outsAt0 m c n h) 4 (fun _ => 0) (tm m c) (first m c) (next m c) t hr (ix2 a b)).trans ?_
  rw [zero_add]
  unfold tm
  rw [Finset.sum_add_distrib]
  refine congrArg₂ (fun p q : EReal => p + q) ?_ ?_
  · have hp : ∀ p : Fin cfg0.N, p.val = 4 * (t.val / 4) → (show EReal from iblk m c 2 p (ix2 a b)) = (show EReal from (m (c, Proc.devRef .tc main_arg2)) j) := by
      intro p hp
      blk_ext [iblk, V, ix p, e0, e1]
    refine (sum_first 4 (t.val / 4) (by omega) fun s => (show EReal from iblk m c 2 ⟨4 * (t.val / 4) + s.val, Pipeline.run_point_lt_of_flush t hr s⟩ (ix2 a b))).trans (hp _ rfl)
  · refine Fin.sum_mul_add_congr fun s k hl => ?_
    have hb : 4 * (t.val / 4) + s.val < cfg0.N := Pipeline.run_point_lt_of_flush t hr s
    refine congrArg₂ (fun p q : EReal => p * q) ?_ ?_
    · blk_ext [iblk, V, ix ⟨4 * (t.val / 4) + s.val, hb⟩, e0]
    · blk_ext [iblk, V, ix ⟨4 * (t.val / 4) + s.val, hb⟩, e1]

end Cert.MlpOutIdeal.Hand
-- ==== Proof.MlpOutClaim.lean ====
module
public import proofs.«01_k».proof.Defs
public import proofs.«01_k».proof.Proof.MlpOutValue
public import proofs.«01_k».proof.Proof.Gen.RefMlpOutIdeal.Run
public import Idealize.ShloMosaic.Lib.Quiescent
public import Idealize.ShloMosaic.Adequacy
@[expose] public section
noncomputable section

/-! The reference's frame and the value claim of the call. -/

namespace Cert.MlpOutIdeal.Hand
open Cert.MlpOutIdeal Cert.MlpOutIdeal.Gen
open Idealize.ShloMosaic Idealize.SL.Sem

theorem frame_ref : Cert.quiescent_RefMlpOutIdeal := fun m g _ =>
  (θ_run Cert.RefMlpOutIdeal.defs _ _).mono (fun r h => ⟨fun c => (h c).2, sem_eq_zero_of_no_sems (by decide) r.2⟩) (Cert.RefMlpOutIdeal.Value.run (F := Ideal) m g)

set_option maxHeartbeats 4000000 in
theorem value : Cert.algebraic_MlpOutIdeal_RefMlpOutIdeal := by
  intro m g m' g' _ hag
  refine ⟨fun c => Cert.RefMlpOutIdeal.Read.val_main_v3 (F := Ideal) (m (c, Proc.devRef .tc main_arg0)) (m (c, Proc.devRef .tc main_arg1)) (m (c, Proc.devRef .tc main_arg2)), ?_, ?_⟩
  · exact (θ_run Cert.MlpOutIdeal.defs _ _).mono (fun r h c => ⟨(h c).1.trans (out m c), (h c).2⟩) (Cert.MlpOutIdeal.Value.run_blocks m g)
  · refine (θ_run Cert.RefMlpOutIdeal.defs _ _).mono (fun r h c => ⟨(h c).1.trans ?_, (h c).2⟩) (Cert.RefMlpOutIdeal.Value.run (F := Ideal) m' g')
    obtain ⟨a0, a1, a2⟩ := hag c
    exact (Cert.RefMlpOutIdeal.Read.val_main_v3_eq _ _ _).trans (congr (congr (congrArg (Cert.RefMlpOutIdeal.Read.val_main_v3 (F := Ideal)) a0) a1) a2)

end Cert.MlpOutIdeal.Hand
-- ==== Proof.NormMath.lean ====
module
public import proofs.«01_k».proof.Proof.FoxMath
@[expose] public section
noncomputable section

/-! The root mean square norm of a row and its gradient over the reals. -/

namespace Cert.Norm
open Idealize.ShloMosaic Finset
open Cert.Fox (coe_sum div_coe_coe)

/-- The mean of squares of a row, with the constant that keeps it from zero. -/
def msq {n : ℕ} (w : BitVec 32) (X : Fin n → EReal) : EReal :=
  Ideal.div (∑ k, X k * X k) (Ideal.ofBits .f32 w) + Ideal.ofBits .f32 0x358637BD#32
/-- What every element of the row is multiplied by. -/
def nrm {n : ℕ} (w : BitVec 32) (X : Fin n → EReal) : EReal := Ideal.rsqrt (msq w X)

def eps : ℝ := 8796093 / 8796093022208
theorem eps_pos : 0 < eps := by unfold eps; norm_num
theorem at_eps : Ideal.ofBits .f32 0x358637BD#32 = ((eps : ℝ) : EReal) := by
  unfold eps
  simp [Ideal.ofBits, Ideal.ieee, -EReal.coe_mul]; norm_num
theorem at_2048 : Ideal.ofBits .f32 0x45000000#32 = ((2048 : ℝ) : EReal) := by
  simp [Ideal.ofBits, Ideal.ieee, -EReal.coe_mul]; norm_num
theorem at_1024 : Ideal.ofBits .f32 0x44800000#32 = ((1024 : ℝ) : EReal) := by
  simp [Ideal.ofBits, Ideal.ieee, -EReal.coe_mul]; norm_num
theorem at_neg_half : Ideal.ofBits .f32 0xBF000000#32 = ((-(1 / 2) : ℝ) : EReal) := by
  simp [Ideal.ofBits, Ideal.ieee, -EReal.coe_mul]; norm_num

def ms {n : ℕ} (N : ℝ) (X : Fin n → ℝ) : ℝ := (∑ k, X k * X k) / N + eps
theorem ms_pos {n : ℕ} (N : ℝ) (hN : 0 < N) (X : Fin n → ℝ) : 0 < ms N X :=
  add_pos_of_nonneg_of_pos (div_nonneg (sum_nonneg fun k _ => mul_self_nonneg _) hN.le) eps_pos

theorem msq_coe {n : ℕ} (w : BitVec 32) (N : ℝ) (hN : 0 < N) (hw : Ideal.ofBits .f32 w = (N : EReal)) (X : Fin n → ℝ) :
    msq w (fun k => (X k : EReal)) = ((ms N X : ℝ) : EReal) := by
  unfold msq ms
  rw [hw, at_eps, sum_congr rfl (fun k _ => (EReal.coe_mul (X k) (X k)).symm), coe_sum, div_coe_coe _ _ hN.ne', ← EReal.coe_add]
theorem nrm_coe {n : ℕ} (w : BitVec 32) (N : ℝ) (hN : 0 < N) (hw : Ideal.ofBits .f32 w = (N : EReal)) (X : Fin n → ℝ) :
    nrm w (fun k => (X k : EReal)) = (((Real.sqrt (ms N X))⁻¹ : ℝ) : EReal) := by
  unfold nrm
  rw [msq_coe w N hN hw, Ideal.rsqrt_coe, if_neg (ms_pos N hN X).not_gt, if_neg (ms_pos N hN X).ne']

/-- A nonnegative real factor passes through a sum of any extended reals. -/
theorem sum_mul_real {n : ℕ} (f : Fin n → EReal) (r : ℝ) (hr : 0 ≤ r) : ∑ k, f k * (r : EReal) = (∑ k, f k) * (r : EReal) := by
  classical
  refine Finset.induction_on (motive := fun t => ∑ k ∈ t, f k * (r : EReal) = (∑ k ∈ t, f k) * (r : EReal)) univ (by simp) fun k t hk ih => ?_
  rw [sum_insert hk, sum_insert hk, ih, EReal.right_distrib_of_nonneg_of_ne_top (EReal.coe_nonneg.2 hr) (EReal.coe_ne_top r)]

/-- An infinite entry makes the mean of squares infinite. -/
theorem msq_top {n : ℕ} (w : BitVec 32) (N : ℝ) (hN : 0 < N) (hw : Ideal.ofBits .f32 w = (N : EReal)) (X : Fin n → EReal) (k : Fin n) (hk : X k = ⊤ ∨ X k = ⊥) :
    msq w X = ⊤ := by
  have hq : X k * X k = ⊤ := by rcases hk with h | h <;> rw [h] <;> rfl
  have hs : (∑ k, X k * X k) = ⊤ := by
    refine top_le_iff.1 (hq ▸ Finset.single_le_sum (f := fun k => X k * X k) (fun k _ => ?_) (mem_univ k))
    rcases le_total 0 (X k) with h | h
    · exact EReal.mul_nonneg_iff.2 (Or.inl ⟨h, h⟩)
    · exact EReal.mul_nonneg_iff.2 (Or.inr ⟨h, h⟩)
  unfold msq
  rw [hs, hw, Ideal.div_coe hN.ne', at_eps, EReal.top_mul_coe_of_pos (by positivity)]
  rfl

/-- The gradient at the row as the kernel has it, against the reference's, whatever the entries are. -/
theorem grad {n : ℕ} (w : BitVec 32) (N : ℝ) (hN : 0 < N) (hw : Ideal.ofBits .f32 w = (N : EReal)) (X H G : Fin n → EReal) (b : Fin n) :
    nrm w X * (H b * G b - X b * nrm w X * Ideal.div (∑ k, H k * G k * (X k * nrm w X)) (Ideal.ofBits .f32 w))
      = H b * G b * nrm w X
          + X b * Ideal.div ((∑ k, X k * (H k * G k)) * (Ideal.ofBits .f32 0xBF000000#32 * Ideal.div (nrm w X) (msq w X))) (Ideal.ofBits .f32 w)
        + Ideal.div ((∑ k, X k * (H k * G k)) * (Ideal.ofBits .f32 0xBF000000#32 * Ideal.div (nrm w X) (msq w X))) (Ideal.ofBits .f32 w) * X b := by
  by_cases hf : ∃ k, X k = ⊤ ∨ X k = ⊥
  · obtain ⟨k, hk⟩ := hf
    have hm := msq_top w N hN hw X k hk
    have hr : nrm w X = 0 := by unfold nrm; rw [hm]; rfl
    have hz : Ideal.div 0 ⊤ = 0 := by unfold Ideal.div; simp
    rw [hr, hm, hz, hw]
    simp [Ideal.div_coe hN.ne']
  · have hX : ∀ k, X k = ((X k).toReal : EReal) := fun k =>
      (EReal.coe_toReal (fun h => hf ⟨k, Or.inl h⟩) (fun h => hf ⟨k, Or.inr h⟩)).symm
    generalize hx : (fun k => (X k).toReal) = x at *
    obtain rfl : X = fun k => (x k : EReal) := funext fun k => by rw [hX k, ← hx]
    generalize hT : (fun k => H k * G k) = T
    have hTk : ∀ k, H k * G k = T k := fun k => congrFun hT k
    simp only [hTk]
    rw [nrm_coe w N hN hw, msq_coe w N hN hw, hw, at_neg_half]
    have hm := ms_pos N hN x
    generalize ms N x = W at *
    have hs : 0 < Real.sqrt W := Real.sqrt_pos.2 hm
    have hq : Real.sqrt W * Real.sqrt W = W := Real.mul_self_sqrt hm.le
    generalize Real.sqrt W = s at *
    subst hq
    have hr : 0 < s⁻¹ := inv_pos.2 hs
    have e : ∑ k, T k * ((x k : EReal) * ((s⁻¹ : ℝ) : EReal)) = (∑ k, (x k : EReal) * T k) * ((s⁻¹ : ℝ) : EReal) := by
      rw [← sum_mul_real _ _ hr.le]
      exact sum_congr rfl fun k _ => by rw [← mul_assoc, mul_comm (T k)]
    rw [e]
    generalize (∑ k, (x k : EReal) * T k) = S
    rw [div_coe_coe _ _ hm.ne', Ideal.div_coe hN.ne', Ideal.div_coe hN.ne', sub_eq_add_neg,
      EReal.left_distrib_of_nonneg_of_ne_top (EReal.coe_nonneg.2 hr.le) (EReal.coe_ne_top _), add_assoc, mul_comm (T b)]
    refine congrArg (fun p : EReal => ((s⁻¹ : ℝ) : EReal) * T b + p) ?_
    have d : ∀ y : EReal, y + y = y * ((2 : ℝ) : EReal) := fun y => by
      have h := EReal.left_distrib_of_nonneg (a := 1) (b := 1) (c := y) zero_le_one zero_le_one
      rw [mul_one] at h
      rw [← h]
      exact congrArg (fun p : EReal => y * p) (by norm_cast)
    generalize hA : S * (((-(1 / 2) : ℝ) : EReal) * ((s⁻¹ / (s * s) : ℝ) : EReal)) * ((1 / N : ℝ) : EReal) = A
    rw [mul_comm A, d, ← hA]
    rw [show (x b : EReal) * (S * (((-(1 / 2) : ℝ) : EReal) * ((s⁻¹ / (s * s) : ℝ) : EReal)) * ((1 / N : ℝ) : EReal)) * ((2 : ℝ) : EReal)
        = S * (((x b : ℝ) : EReal) * ((-(1 / 2) : ℝ) : EReal) * ((s⁻¹ / (s * s) : ℝ) : EReal) * ((1 / N : ℝ) : EReal) * ((2 : ℝ) : EReal)) from by ac_rfl,
      mul_neg, show ((s⁻¹ : ℝ) : EReal) * ((x b : EReal) * ((s⁻¹ : ℝ) : EReal) * (S * ((s⁻¹ : ℝ) : EReal) * ((1 / N : ℝ) : EReal)))
        = S * (((s⁻¹ : ℝ) : EReal) * (x b : EReal) * ((s⁻¹ : ℝ) : EReal) * ((s⁻¹ : ℝ) : EReal) * ((1 / N : ℝ) : EReal)) from by ac_rfl, ← mul_neg]
    refine congrArg (fun p : EReal => S * p) ?_
    simp only [← EReal.coe_mul, ← EReal.coe_neg]
    refine congrArg _ ?_
    field_simp
    try ring

end Cert.Norm
-- ==== Proof.RmsBwdValue.lean ====
module
public import proofs.«01_k».proof.Proof.NormMath
public import proofs.«01_k».proof.Proof.Gen.RmsBwdIdeal.Value
public import proofs.«01_k».proof.Proof.Gen.RefRmsBwdIdeal.Read
public import Idealize.ShloMosaic.Lib.Pipeline.ValueKit
@[expose] public section
set_option maxRecDepth 16384
noncomputable section

/-! The value of the call: the gradient of the norm at every row, and the weights' gradient summed over the row blocks. -/

namespace Cert.RmsBwdIdeal.Hand
open Cert.RmsBwdIdeal Cert.RmsBwdIdeal.Gen
open Idealize.ShloMosaic Finset
open Cert.RefRmsBwdIdeal.Read
open Cert.Norm

set_option maxHeartbeats 4000000

theorem ix : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] ∧ win0_6.index t = ![0, 0] :=
  (by decide +kernel : ∀ t : Fin grid0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] ∧ win0_6.index t = ![0, 0])

/-- The gradient at an entry of a row, as the kernel has it. -/
def dxe (X G H : Fin 2048 → EReal) (b : Fin 2048) : EReal :=
  nrm 0x45000000#32 X * (H b * G b - X b * nrm 0x45000000#32 X * Ideal.div (∑ k, H k * G k * (X k * nrm 0x45000000#32 X)) (Ideal.ofBits .f32 0x45000000#32))

theorem pay4 (x0 x1 : Vec Ideal S512x2048 .f32) (x2 : Vec Ideal S1x2048 .f32) (x3 : Vec Ideal S512x2048 .f32) (a : Fin 512) (b : Fin 2048) :
    (show EReal from k0_pay4 (F := Ideal) x0 x1 x2 x3 (ix2 a b))
      = dxe (fun k => (show EReal from x0 (ix2 a k))) (fun k => (show EReal from x2 (ix2 (0 : Fin 1) k))) (fun k => (show EReal from x1 (ix2 a k))) b + (show EReal from x3 (ix2 a b)) := by
  unfold k0_pay4 k0_pay3 k0_pay2
  pointwise
  rfl
theorem pay5 (x0 x1 : Vec Ideal S512x2048 .f32) (x2 : Vec Ideal S1x2048 .f32) (x3 : Vec Ideal S512x2048 .f32) (a : Fin 512) (b : Fin 2048) :
    (show EReal from k0_pay5 (F := Ideal) x0 x1 x2 x3 (ix2 a b)) = (show EReal from k0_pay4 (F := Ideal) x0 x1 x2 x3 (ix2 a b)) := rfl
theorem pay6 (x0 x1 : Vec Ideal S512x2048 .f32) (b : Fin 2048) :
    (show EReal from k0_pay6 (F := Ideal) x0 x1 (ix2 (0 : Fin 1) b))
      = ∑ a : Fin 512, (show EReal from x1 (ix2 a b)) * ((show EReal from x0 (ix2 a b)) * nrm 0x45000000#32 (fun k : Fin 2048 => (show EReal from x0 (ix2 a k)))) := by
  unfold k0_pay6 k0_pay3 k0_pay2
  pointwise
  rfl
theorem pay1 (p : FVec Ideal S1x2048 .f32) (o : Vec Ideal S1x2048 .f32) (b : Fin 2048) :
    (show EReal from k0_pay1 (F := Ideal) p o (ix2 (0 : Fin 1) b)) = (show EReal from o (ix2 (0 : Fin 1) b)) + (show EReal from p (ix2 (0 : Fin 1) b)) := by
  unfold k0_pay1
  pointwise

theorem ref_msq (x0 : (⟨S4096x2048, .f32⟩ : BufTy).Contents (Elt Ideal)) (s : Fin 4096) (z : Fin 1) :
    (show EReal from val_main_v6 (F := Ideal) x0 (ix2 s z)) = msq 0x45000000#32 (fun k : Fin 2048 => (show EReal from x0 (ix2 s k))) := by
  rw [val_main_v6_apply, val_main_v4_apply, val_main_v2_apply, val_main_v1_apply]
  unfold msq
  refine congrArg₂ (fun p q : EReal => p + q) (congrArg₂ Ideal.div ?_ rfl) rfl
  refine ((congrArg (fun p : EReal => p + _) Ideal.ofBits_zero_f32).trans (zero_add _)).trans ?_
  refine sum_congr rfl fun k _ => ?_
  rw [val_main_v0_apply]
  refine congrArg (fun p : EReal => p * p) (congrArg x0 ?_)
  funext u; match u with | ⟨0, _⟩ => rfl | ⟨1, _⟩ => rfl
theorem ref_nrm (x0 : (⟨S4096x2048, .f32⟩ : BufTy).Contents (Elt Ideal)) (s : Fin 4096) (z : Fin 1) :
    (show EReal from val_main_v7 (F := Ideal) x0 (ix2 s z)) = nrm 0x45000000#32 (fun k : Fin 2048 => (show EReal from x0 (ix2 s k))) := by
  rw [val_main_v7_apply]
  exact congrArg Ideal.rsqrt (ref_msq x0 s z)
theorem ref_row (x1 : (⟨S2048, .f32⟩ : BufTy).Contents (Elt Ideal)) (x2 : (⟨S4096x2048, .f32⟩ : BufTy).Contents (Elt Ideal)) (s : Fin 4096) (d : Fin 2048) :
    (show EReal from val_main_v20 (F := Ideal) x1 x2 (ix2 s d)) = (show EReal from x2 (ix2 s d)) * (show EReal from x1 (ix1 d)) := by
  rw [val_main_v20_apply, val_main_v19_apply, val_main_v13_apply]
  refine congrArg (fun p : EReal => (show EReal from x2 (ix2 s d)) * p) (congrArg x1 ?_)
  funext u; match u with | ⟨0, _⟩ => rfl

/-- What the reference's mean of squares passes back to a row. -/
def back (X G H : Fin 2048 → EReal) : EReal :=
  Ideal.div ((∑ k, X k * (H k * G k)) * (Ideal.ofBits .f32 0xBF000000#32 * Ideal.div (nrm 0x45000000#32 X) (msq 0x45000000#32 X))) (Ideal.ofBits .f32 0x45000000#32)

theorem ref_back (x0 : (⟨S4096x2048, .f32⟩ : BufTy).Contents (Elt Ideal)) (x1 : (⟨S2048, .f32⟩ : BufTy).Contents (Elt Ideal)) (x2 : (⟨S4096x2048, .f32⟩ : BufTy).Contents (Elt Ideal)) (s : Fin 4096) (z : Fin 1) :
    (show EReal from val_main_v29 (F := Ideal) x0 x1 x2 (ix2 s z))
      = back (fun k => (show EReal from x0 (ix2 s k))) (fun k => (show EReal from x1 (ix1 k))) (fun k => (show EReal from x2 (ix2 s k))) := by
  rw [val_main_v29_apply, val_main_v27_apply, val_main_v24_apply, val_main_v23_apply, val_main_v10_apply, val_main_v8_apply]
  unfold back
  refine congrArg₂ Ideal.div (congrArg₂ (fun p q : EReal => p * q) ?_ (congrArg₂ (fun p q : EReal => p * q) rfl (congrArg₂ Ideal.div (ref_nrm x0 s z) (ref_msq x0 s z)))) rfl
  refine ((congrArg (fun p : EReal => p + _) Ideal.ofBits_zero_f32).trans (zero_add _)).trans ?_
  refine sum_congr rfl fun k _ => ?_
  rw [val_main_v22_apply]
  have e : idx_main_v23 (idx_main_v24 (ix2 s z)) k = ix2 s k := by
    funext u; match u with | ⟨0, _⟩ => exact Fin.ext (show s.val * 1 + z.val = s.val by omega) | ⟨1, _⟩ => rfl
  rw [e]
  exact congrArg (fun p : EReal => (show EReal from x0 (ix2 s k)) * p) (ref_row x1 x2 s k)

theorem ref_spread (x0 : (⟨S4096x2048, .f32⟩ : BufTy).Contents (Elt Ideal)) (x1 : (⟨S2048, .f32⟩ : BufTy).Contents (Elt Ideal)) (x2 : (⟨S4096x2048, .f32⟩ : BufTy).Contents (Elt Ideal)) (s : Fin 4096) (d : Fin 2048) :
    (show EReal from val_main_v31 (F := Ideal) x0 x1 x2 (ix2 s d))
      = back (fun k => (show EReal from x0 (ix2 s k))) (fun k => (show EReal from x1 (ix1 k))) (fun k => (show EReal from x2 (ix2 s k))) := by
  rw [val_main_v31_apply, val_main_v30_apply]
  refine ((congrArg (fun p : EReal => p + _) Ideal.ofBits_zero_f32).trans (zero_add _)).trans ?_
  refine (Fin.sum_univ_one _).trans ?_
  refine (congrArg (fun i => (show EReal from val_main_v29 (F := Ideal) x0 x1 x2 i)) ?_).trans (ref_back x0 x1 x2 s 0)
  funext u; match u with | ⟨0, _⟩ => rfl | ⟨1, _⟩ => rfl

theorem ref4 (x0 : (⟨S4096x2048, .f32⟩ : BufTy).Contents (Elt Ideal)) (x1 : (⟨S2048, .f32⟩ : BufTy).Contents (Elt Ideal)) (x2 : (⟨S4096x2048, .f32⟩ : BufTy).Contents (Elt Ideal)) (x3 : (⟨S4096x2048, .f32⟩ : BufTy).Contents (Elt Ideal))
    (s : Fin 4096) (d : Fin 2048) :
    (show EReal from val_main_v36 (F := Ideal) x0 x1 x2 x3 (ix2 s d))
      = dxe (fun k => (show EReal from x0 (ix2 s k))) (fun k => (show EReal from x1 (ix1 k))) (fun k => (show EReal from x2 (ix2 s k))) d + (show EReal from x3 (ix2 s d)) := by
  rw [val_main_v36_apply, val_main_v35_apply, val_main_v34_apply, val_main_v33_apply, val_main_v32_apply, val_main_v26_apply, val_main_v25_apply]
  refine (add_comm (G := EReal) _ _).trans (congrArg (fun p : EReal => p + (show EReal from x3 (ix2 s d))) ?_)
  refine Eq.trans ?_ (grad 0x45000000#32 2048 (by norm_num) at_2048 (fun k => (show EReal from x0 (ix2 s k))) (fun k => (show EReal from x2 (ix2 s k))) (fun k => (show EReal from x1 (ix1 k))) d).symm
  refine congrArg₂ (fun p q : EReal => p + q) (congrArg₂ (fun p q : EReal => p + q) (congrArg₂ (fun p q : EReal => p * q) (ref_row x1 x2 s d) ?_)
    (congrArg₂ (fun p q : EReal => p * q) rfl (ref_spread x0 x1 x2 s d))) (congrArg₂ (fun p q : EReal => p * q) (ref_spread x0 x1 x2 s d) rfl)
  refine (congrArg (fun i => (show EReal from val_main_v7 (F := Ideal) x0 i)) ?_).trans (ref_nrm x0 s 0)
  funext u; match u with | ⟨0, _⟩ => rfl | ⟨1, _⟩ => rfl

theorem ref6 (x0 x2 : (⟨S4096x2048, .f32⟩ : BufTy).Contents (Elt Ideal)) (d : Fin 2048) :
    (show EReal from val_main_v38 (F := Ideal) x0 x2 (ix2 (0 : Fin 1) d))
      = ∑ s : Fin 4096, (show EReal from x2 (ix2 s d)) * ((show EReal from x0 (ix2 s d)) * nrm 0x45000000#32 (fun k : Fin 2048 => (show EReal from x0 (ix2 s k)))) := by
  rw [val_main_v38_apply, val_main_v21_apply]
  refine ((congrArg (fun p : EReal => p + _) Ideal.ofBits_zero_f32).trans (zero_add _)).trans ?_
  refine (Fin.sum_univ_one _).trans ?_
  rw [val_main_v18_apply, val_main_v17_apply]
  refine ((congrArg (fun p : EReal => p + _) Ideal.ofBits_zero_f32).trans (zero_add _)).trans ?_
  refine sum_congr rfl fun s _ => ?_
  have e : idx_main_v17 (idx_main_v18 (idx_main_v21 (idx_main_v38 (ix2 (0 : Fin 1) d)) 0)) s = ix2 s d := by
    funext u; match u with | ⟨0, _⟩ => rfl | ⟨1, _⟩ => exact Fin.ext (show 0 * 2048 + d.val = d.val by omega)
  rw [e, val_main_v16_apply, val_main_v12_apply, val_main_v11_apply]
  refine (mul_comm (G := EReal) _ _).trans (congrArg (fun p : EReal => (show EReal from x2 (ix2 s d)) * ((show EReal from x0 (ix2 s d)) * p)) ?_)
  refine (congrArg (fun i => (show EReal from val_main_v7 (F := Ideal) x0 i)) ?_).trans (ref_nrm x0 s 0)
  funext u; match u with | ⟨0, _⟩ => rfl | ⟨1, _⟩ => rfl

variable (m : (ℓ : Loc nD τ sig) → Buf (Elt Ideal) ℓ) (c : Dev nD)

theorem host (d : Fin 2048) :
    (show EReal from StableHlo.after hostOps0 (fun b => m (c, b)) (Proc.devRef .tc main_v0) (ix2 (0 : Fin 1) d))
      = (show EReal from m (c, Proc.devRef .tc main_arg1) (ix1 d)) := by
  simp only [StableHlo.after_cons, StableHlo.after_nil, StableHlo.reshape_result']
  exact shapeCast_apply _ shapeCasts_S2048_S1x2048 (ix2 (0 : Fin 1) d) (ix1 d) (by
    rewrite [Shape.rowMajor_val_one, Shape.rowMajor_val_two]
    show d.val = 0 * 2048 + d.val
    omega)

/-- The row blocks' results at a grid point. -/
theorem rows (t : Fin cfg0.N) (a : Fin 512) (b : Fin 2048) :
    (show EReal from (outsAt0 m c t.val t.isLt).1 (ix2 a b)) = (show EReal from k0_pay4 (F := Ideal) (iblk m c 0 t) (iblk m c 2 t) (iblk m c 1 t) (iblk m c 3 t) (ix2 a b))
    ∧ (show EReal from (outsAt0 m c t.val t.isLt).2.1 (ix2 a b)) = (show EReal from k0_pay4 (F := Ideal) (iblk m c 0 t) (iblk m c 2 t) (iblk m c 1 t) (iblk m c 3 t) (ix2 a b)) := by
  have ht : t.val < 8 := lt_of_lt_of_eq t.isLt (show cfg0.N = 8 from N_0)
  by_cases h : t.val % 8 = 0
  · rw [outsAt0_A m c t h (by omega)]
    constructor
    · frame_out
    · frame_out
      exact pay5 _ _ _ _ a b
  · rw [outsAt0_B m c t h (by omega)]
    constructor
    · frame_out
    · frame_out
      exact pay5 _ _ _ _ a b

/-- What a grid point adds to the weights' gradient. -/
def tm (t : Fin cfg0.N) (i : S1x2048.Idx) : EReal :=
  ∑ a : Fin 512, (show EReal from iblk m c 2 t (ix2 a (i 1))) * ((show EReal from iblk m c 0 t (ix2 a (i 1))) * nrm 0x45000000#32 (fun k : Fin 2048 => (show EReal from iblk m c 0 t (ix2 a k))))
theorem first (t : Fin cfg0.N) (h : t.val % 8 = 0) (i : S1x2048.Idx) : (show EReal from (outsAt0 m c t.val t.isLt).2.2 i) = 0 + tm m c t i := by
  obtain ⟨b, rfl⟩ : ∃ (b : Fin 2048), i = ix2 (0 : Fin 1) b := ⟨i 1, by funext u; match u with | ⟨0, _⟩ => exact Subsingleton.elim (α := Fin 1) _ _ | ⟨1, _⟩ => rfl⟩
  have ht : t.val < 8 := lt_of_lt_of_eq t.isLt (show cfg0.N = 8 from N_0)
  rw [outsAt0_A m c t h (by omega), zero_add]
  frame_out
  exact pay6 _ _ b
theorem next (t : Fin cfg0.N) (h : ¬t.val % 8 = 0) (i : S1x2048.Idx) : (show EReal from (outsAt0 m c t.val t.isLt).2.2 i)
    = (show EReal from (outsAt0 m c (t.val - 1) (Nat.lt_of_le_of_lt (Nat.sub_le _ _) t.isLt)).2.2 i) + tm m c t i := by
  obtain ⟨b, rfl⟩ : ∃ (b : Fin 2048), i = ix2 (0 : Fin 1) b := ⟨i 1, by funext u; match u with | ⟨0, _⟩ => exact Subsingleton.elim (α := Fin 1) _ _ | ⟨1, _⟩ => rfl⟩
  rw [outsAt0_B m c t h (by omega)]
  frame_out
  exact (pay1 _ _ b).trans (congrArg (fun p : EReal => _ + p) (pay6 _ _ b))

abbrev A0 : (⟨S4096x2048, .f32⟩ : BufTy).Contents (Elt Ideal) := m (c, Proc.devRef .tc main_arg0)
abbrev A1 : (⟨S2048, .f32⟩ : BufTy).Contents (Elt Ideal) := m (c, Proc.devRef .tc main_arg1)
abbrev A2 : (⟨S4096x2048, .f32⟩ : BufTy).Contents (Elt Ideal) := m (c, Proc.devRef .tc main_arg2)
abbrev A3 : (⟨S4096x2048, .f32⟩ : BufTy).Contents (Elt Ideal) := m (c, Proc.devRef .tc main_arg3)

/-- The kernel's row result over the argument arrays. -/
theorem row_at (t : Fin cfg0.N) (ht : t.val < 8) (a : Fin 512) (b : Fin 2048) (s : Fin 4096) (hs : s.val = t.val * 512 + a.val) :
    (show EReal from k0_pay4 (F := Ideal) (iblk m c 0 t) (iblk m c 2 t) (iblk m c 1 t) (iblk m c 3 t) (ix2 a b))
      = dxe (fun k => (show EReal from A0 m c (ix2 s k))) (fun k => (show EReal from A1 m c (ix1 k))) (fun k => (show EReal from A2 m c (ix2 s k))) b
        + (show EReal from A3 m c (ix2 s b)) := by
  refine (pay4 _ _ _ _ a b).trans ?_
  refine congrArg₂ (fun p q : EReal => p + q) ?_ ?_
  · have g0 : (fun k : Fin 2048 => (show EReal from iblk m c 0 t (ix2 a k))) = fun k => (show EReal from A0 m c (ix2 s k)) := funext fun k => by
      blk_ext [iblk, V, ix t, hs]
    have g2 : (fun k : Fin 2048 => (show EReal from iblk m c 2 t (ix2 a k))) = fun k => (show EReal from A2 m c (ix2 s k)) := funext fun k => by
      blk_ext [iblk, V, ix t, hs]
    have g1 : (fun k : Fin 2048 => (show EReal from iblk m c 1 t (ix2 (0 : Fin 1) k))) = fun k => (show EReal from A1 m c (ix1 k)) := funext fun k =>
      Eq.trans (congrArg (V m c main_v0) (by blk_ext [ix t])) (host m c k)
    rw [g0, g1, g2]
  · blk_ext [iblk, V, ix t, hs]

theorem out4 : (dats m 0 c).arrAt 4 cfg0.N = val_main_v36 (F := Ideal) (A0 m c) (A1 m c) (A2 m c) (A3 m c) := by
  refine (dats m 0 c).arrAt_eq_of_covers 4 _ (by decide +kernel) fun t hf y => ?_
  obtain ⟨a, b, rfl⟩ : ∃ (a : Fin 512) (b : Fin 2048), y = ix2 a b := ⟨y 0, y 1, by funext u; match u with | ⟨0, _⟩ => rfl | ⟨1, _⟩ => rfl⟩
  have ht : t.val < 8 := lt_of_lt_of_eq t.isLt (show cfg0.N = 8 from N_0)
  refine Eq.trans ?_ ((congrArg (val_main_v36 (F := Ideal) _ _ _ _) ?_).trans (ref4 _ _ _ _ (⟨t.val * 512 + a.val, by omega⟩ : Fin 4096) b)).symm
  · blk_simp
    rw [after0_4]
    exact ((rows m c t a b).1).trans (row_at m c t ht a b _ rfl)
  · blk_ext [iblk, V, ix t]
theorem out5 : (dats m 0 c).arrAt 5 cfg0.N = val_main_v37 (F := Ideal) (A0 m c) (A1 m c) (A2 m c) (A3 m c) := by
  refine (dats m 0 c).arrAt_eq_of_covers 5 _ (by decide +kernel) fun t hf y => ?_
  obtain ⟨a, b, rfl⟩ : ∃ (a : Fin 512) (b : Fin 2048), y = ix2 a b := ⟨y 0, y 1, by funext u; match u with | ⟨0, _⟩ => rfl | ⟨1, _⟩ => rfl⟩
  have ht : t.val < 8 := lt_of_lt_of_eq t.isLt (show cfg0.N = 8 from N_0)
  refine Eq.trans ?_ ((congrArg (val_main_v36 (F := Ideal) _ _ _ _) ?_).trans (ref4 _ _ _ _ (⟨t.val * 512 + a.val, by omega⟩ : Fin 4096) b)).symm
  · blk_simp
    rw [after0_5]
    exact ((rows m c t a b).2).trans (row_at m c t ht a b _ rfl)
  · blk_ext [iblk, V, ix t]

theorem out6 : (dats m 0 c).arrAt 6 cfg0.N = val_main_v38 (F := Ideal) (A0 m c) (A2 m c) := by
  refine (dats m 0 c).arrAt_eq_of_covers 6 _ (by decide +kernel) fun t hf y => ?_
  obtain ⟨b, rfl⟩ : ∃ (b : Fin 2048), y = ix2 (0 : Fin 1) b := ⟨y 1, by funext u; match u with | ⟨0, _⟩ => exact Subsingleton.elim (α := Fin 1) _ _ | ⟨1, _⟩ => rfl⟩
  have hr := (flush0_6 t).mp hf
  have ht : t.val < 8 := lt_of_lt_of_eq t.isLt (show cfg0.N = 8 from N_0)
  refine Eq.trans ?_ ((congrArg (val_main_v38 (F := Ideal) _ _) (a₂ := ix2 (0 : Fin 1) b) ?_).trans (ref6 _ _ b)).symm
  · blk_simp
    rw [after0_6]
    refine (Pipeline.eq_sum_fin_of_reset_step_apply_of_flush (M := EReal) (fun n h => (outsAt0 m c n h).2.2) 8 (fun _ => 0) (tm m c) (first m c) (next m c) t hr (ix2 (0 : Fin 1) b)).trans ?_
    rw [zero_add]
    unfold tm
    refine Fin.sum_mul_add_congr fun s k hl => ?_
    have hp : ∀ p : Fin cfg0.N, p.val = s.val → ∀ q : Fin 4096, q.val = 512 * s.val + k.val →
        (∀ d : Fin 2048, (show EReal from iblk m c 0 p (ix2 k d)) = (show EReal from A0 m c (ix2 q d))) ∧ (∀ d : Fin 2048, (show EReal from iblk m c 2 p (ix2 k d)) = (show EReal from A2 m c (ix2 q d))) := by
      intro p hp q hq
      exact ⟨fun d => by blk_ext [iblk, V, ix p, hp, hq], fun d => by blk_ext [iblk, V, ix p, hp, hq]⟩
    have hs : 8 * (t.val / 8) + s.val = s.val := by omega
    obtain ⟨h0, h2⟩ := hp ⟨8 * (t.val / 8) + s.val, Pipeline.run_point_lt_of_flush t hr s⟩ hs ⟨s.val * 512 + k.val, hl⟩ (by show s.val * 512 + k.val = 512 * s.val + k.val; omega)
    refine congrArg₂ (fun p q : EReal => p * q) (h2 b) (congrArg₂ (fun p q : EReal => p * q) (h0 b) (congrArg (nrm 0x45000000#32) (funext h0)))
  · blk_ext [iblk, V, ix t]

end Cert.RmsBwdIdeal.Hand
-- ==== Proof.RmsBwdClaim.lean ====
module
public import proofs.«01_k».proof.Defs
public import proofs.«01_k».proof.Proof.RmsBwdValue
public import proofs.«01_k».proof.Proof.Gen.RefRmsBwdIdeal.Run
public import Idealize.ShloMosaic.Lib.Quiescent
public import Idealize.ShloMosaic.Adequacy
@[expose] public section
set_option maxRecDepth 16384
noncomputable section

/-! The reference's frame and the value claim of the call. -/

namespace Cert.RmsBwdIdeal.Hand
open Cert.RmsBwdIdeal Cert.RmsBwdIdeal.Gen
open Idealize.ShloMosaic Idealize.SL.Sem

theorem frame_ref : Cert.quiescent_RefRmsBwdIdeal := fun m g _ =>
  (θ_run Cert.RefRmsBwdIdeal.defs _ _).mono (fun r h => ⟨fun c => (h c).2.2.2, sem_eq_zero_of_no_sems (by decide) r.2⟩) (Cert.RefRmsBwdIdeal.Value.run (F := Ideal) m g)

set_option maxHeartbeats 4000000 in
theorem value : Cert.algebraic_RmsBwdIdeal_RefRmsBwdIdeal := by
  intro m g m' g' hpre hag
  refine ⟨fun c => Cert.RefRmsBwdIdeal.Read.val_main_v36 (F := Ideal) (m (c, Proc.devRef .tc main_arg0)) (m (c, Proc.devRef .tc main_arg1)) (m (c, Proc.devRef .tc main_arg2)) (m (c, Proc.devRef .tc main_arg3)),
    fun c => Cert.RefRmsBwdIdeal.Read.val_main_v37 (F := Ideal) (m (c, Proc.devRef .tc main_arg0)) (m (c, Proc.devRef .tc main_arg1)) (m (c, Proc.devRef .tc main_arg2)) (m (c, Proc.devRef .tc main_arg3)),
    fun c => Cert.RefRmsBwdIdeal.Read.val_main_v38 (F := Ideal) (m (c, Proc.devRef .tc main_arg0)) (m (c, Proc.devRef .tc main_arg2)), ?_, ?_⟩
  · refine (θ_run Cert.RmsBwdIdeal.defs _ _).mono (fun r h c => ?_) (Cert.RmsBwdIdeal.Value.run_blocks m g)
    exact ⟨(h c).1.trans (out4 m c), (h c).2.1.trans (out5 m c), (h c).2.2.1.trans (out6 m c), (h c).2.2.2⟩
  · refine (θ_run Cert.RefRmsBwdIdeal.defs _ _).mono (fun r h c => ⟨(h c).1.trans ?_, (h c).2.1.trans ?_, (h c).2.2.1.trans ?_, (h c).2.2.2⟩) (Cert.RefRmsBwdIdeal.Value.run (F := Ideal) m' g')
    all_goals obtain ⟨a0, a1, a2, a3⟩ := hag c
    · exact (Cert.RefRmsBwdIdeal.Read.val_main_v36_eq _ _ _ _).trans (congr (congr (congr (congrArg (Cert.RefRmsBwdIdeal.Read.val_main_v36 (F := Ideal)) a0) a1) a2) a3)
    · exact (Cert.RefRmsBwdIdeal.Read.val_main_v37_eq _ _ _ _).trans (congr (congr (congr (congrArg (Cert.RefRmsBwdIdeal.Read.val_main_v37 (F := Ideal)) a0) a1) a2) a3)
    · exact (Cert.RefRmsBwdIdeal.Read.val_main_v38_eq _ _).trans (congr (congrArg (Cert.RefRmsBwdIdeal.Read.val_main_v38 (F := Ideal)) a0) a2)

end Cert.RmsBwdIdeal.Hand
-- ==== Proof.PairBwdValue.lean ====
module
public import proofs.«01_k».proof.Proof.NormMath
public import proofs.«01_k».proof.Proof.Gen.PairBwdIdeal.Value
public import proofs.«01_k».proof.Proof.Gen.RefPairBwdIdeal.Read
public import Idealize.ShloMosaic.Lib.Pipeline.ValueKit
@[expose] public section
set_option maxRecDepth 16384
noncomputable section

/-! The value of the call: the gradients of the two norms at every row, and the two weights' gradients summed over the row blocks. -/

namespace Cert.PairBwdIdeal.Hand
open Cert.PairBwdIdeal Cert.PairBwdIdeal.Gen
open Idealize.ShloMosaic Finset
open Cert.RefPairBwdIdeal.Read
open Cert.Norm

set_option maxHeartbeats 4000000

theorem ix : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![t.val, 0] ∧ win0_6.index t = ![t.val, 0] ∧ win0_7.index t = ![0, 0] ∧ win0_8.index t = ![0, 0] :=
  (by decide +kernel : ∀ t : Fin grid0.N, win0_0.index t = ![t.val, 0] ∧ win0_1.index t = ![t.val, 0] ∧ win0_2.index t = ![0, 0] ∧ win0_3.index t = ![0, 0] ∧ win0_4.index t = ![t.val, 0] ∧ win0_5.index t = ![t.val, 0] ∧ win0_6.index t = ![t.val, 0] ∧ win0_7.index t = ![0, 0] ∧ win0_8.index t = ![0, 0])

/-- A column of the left half and of the right half. -/
abbrev lft (k : Fin 1024) : Fin 2048 := ⟨k.val, by omega⟩
abbrev rgt (k : Fin 1024) : Fin 2048 := ⟨1024 + k.val, by omega⟩

/-- The gradient at an entry of a row, as the kernel has it. -/
def dxe (X G H : Fin 1024 → EReal) (b : Fin 1024) : EReal :=
  nrm 0x44800000#32 X * (H b * G b - X b * nrm 0x44800000#32 X * Ideal.div (∑ k, H k * G k * (X k * nrm 0x44800000#32 X)) (Ideal.ofBits .f32 0x44800000#32))
/-- What the reference's mean of squares passes back to a row. -/
def back (X G H : Fin 1024 → EReal) : EReal :=
  Ideal.div ((∑ k, X k * (H k * G k)) * (Ideal.ofBits .f32 0xBF000000#32 * Ideal.div (nrm 0x44800000#32 X) (msq 0x44800000#32 X))) (Ideal.ofBits .f32 0x44800000#32)

theorem pay9 (x4 : Vec Ideal S512x2048 .f32) (x0 : Vec Ideal S512x1024 .f32) (x2 : Vec Ideal S1x1024 .f32) (a : Fin 512) (b : Fin 1024) :
    (show EReal from k0_pay9 (F := Ideal) x4 x0 x2 (ix2 a b))
      = dxe (fun k => (show EReal from x0 (ix2 a k))) (fun k => (show EReal from x2 (ix2 (0 : Fin 1) k))) (fun k => (show EReal from x4 (ix2 a (lft k)))) b := by
  unfold k0_pay9 k0_pay8 k0_pay7 k0_pay6
  pointwise
  rfl
theorem pay3 (x4 : Vec Ideal S512x2048 .f32) (x0 : Vec Ideal S512x1024 .f32) (x2 : Vec Ideal S1x1024 .f32) (a : Fin 512) (b : Fin 1024) :
    (show EReal from k0_pay3 (F := Ideal) (k0_pay12 x4) x0 x2 (ix2 a b))
      = dxe (fun k => (show EReal from x0 (ix2 a k))) (fun k => (show EReal from x2 (ix2 (0 : Fin 1) k))) (fun k => (show EReal from x4 (ix2 a (rgt k)))) b := by
  unfold k0_pay3 k0_pay2 k0_pay1 k0_pay12
  pointwise
  rfl
theorem pay10 (x4 : Vec Ideal S512x2048 .f32) (x0 : Vec Ideal S512x1024 .f32) (b : Fin 1024) :
    (show EReal from k0_pay10 (F := Ideal) x4 x0 (ix2 (0 : Fin 1) b))
      = ∑ a : Fin 512, (show EReal from x4 (ix2 a (lft b))) * ((show EReal from x0 (ix2 a b)) * nrm 0x44800000#32 (fun k : Fin 1024 => (show EReal from x0 (ix2 a k)))) := by
  unfold k0_pay10 k0_pay8 k0_pay7 k0_pay6
  pointwise
  rfl
theorem pay4 (x4 : Vec Ideal S512x2048 .f32) (x0 : Vec Ideal S512x1024 .f32) (b : Fin 1024) :
    (show EReal from k0_pay4 (F := Ideal) (k0_pay12 x4) x0 (ix2 (0 : Fin 1) b))
      = ∑ a : Fin 512, (show EReal from x4 (ix2 a (rgt b))) * ((show EReal from x0 (ix2 a b)) * nrm 0x44800000#32 (fun k : Fin 1024 => (show EReal from x0 (ix2 a k)))) := by
  unfold k0_pay4 k0_pay2 k0_pay1 k0_pay12
  pointwise
  rfl
theorem pay11 (x4 : Vec Ideal S512x2048 .f32) (x0 : Vec Ideal S512x1024 .f32) (o : Vec Ideal S1x1024 .f32) (b : Fin 1024) :
    (show EReal from k0_pay11 (F := Ideal) x4 x0 o (ix2 (0 : Fin 1) b)) = (show EReal from o (ix2 (0 : Fin 1) b)) + (show EReal from k0_pay10 (F := Ideal) x4 x0 (ix2 (0 : Fin 1) b)) := by
  unfold k0_pay11
  generalize k0_pay10 x4 x0 = p
  pointwise
theorem pay5 (x4 : FVec Ideal S512x1024 .f32) (x0 : Vec Ideal S512x1024 .f32) (o : Vec Ideal S1x1024 .f32) (b : Fin 1024) :
    (show EReal from k0_pay5 (F := Ideal) x4 x0 o (ix2 (0 : Fin 1) b)) = (show EReal from o (ix2 (0 : Fin 1) b)) + (show EReal from k0_pay4 (F := Ideal) x4 x0 (ix2 (0 : Fin 1) b)) := by
  unfold k0_pay5
  generalize k0_pay4 x4 x0 = p
  pointwise

theorem ref_msqA (x0 : (⟨S4096x1024, .f32⟩ : BufTy).Contents (Elt Ideal)) (s : Fin 4096) (z : Fin 1) :
    (show EReal from val_main_v6 (F := Ideal) x0 (ix2 s z)) = msq 0x44800000#32 (fun k : Fin 1024 => (show EReal from x0 (ix2 s k))) := by
  rw [val_main_v6_apply, val_main_v4_apply, val_main_v2_apply, val_main_v1_apply]
  unfold msq
  refine congrArg₂ (fun p q : EReal => p + q) (congrArg₂ Ideal.div ?_ rfl) rfl
  refine ((congrArg (fun p : EReal => p + _) Ideal.ofBits_zero_f32).trans (zero_add _)).trans ?_
  refine sum_congr rfl fun k _ => ?_
  rw [val_main_v0_apply]
  refine congrArg (fun p : EReal => p * p) (congrArg x0 ?_)
  funext u; match u with | ⟨0, _⟩ => rfl | ⟨1, _⟩ => rfl
theorem ref_nrmA (x0 : (⟨S4096x1024, .f32⟩ : BufTy).Contents (Elt Ideal)) (s : Fin 4096) (z : Fin 1) :
    (show EReal from val_main_v7 (F := Ideal) x0 (ix2 s z)) = nrm 0x44800000#32 (fun k : Fin 1024 => (show EReal from x0 (ix2 s k))) := by
  rw [val_main_v7_apply]
  exact congrArg Ideal.rsqrt (ref_msqA x0 s z)
theorem ref_halfA (x4 : (⟨S4096x2048, .f32⟩ : BufTy).Contents (Elt Ideal)) (s : Fin 4096) (d : Fin 1024) :
    (show EReal from val_main_v33 (F := Ideal) x4 (ix2 s d)) = (show EReal from x4 (ix2 s (lft d))) := by
  rw [val_main_v33_apply]
  refine congrArg x4 ?_
  funext u; match u with | ⟨0, _⟩ => rfl | ⟨1, _⟩ => rfl
theorem ref_rowA (x2 : (⟨S1024, .f32⟩ : BufTy).Contents (Elt Ideal)) (x4 : (⟨S4096x2048, .f32⟩ : BufTy).Contents (Elt Ideal)) (s : Fin 4096) (d : Fin 1024) :
    (show EReal from val_main_v59 (F := Ideal) x2 x4 (ix2 s d)) = (show EReal from x4 (ix2 s (lft d))) * (show EReal from x2 (ix1 d)) := by
  rw [val_main_v59_apply, val_main_v58_apply, val_main_v13_apply]
  refine congrArg₂ (fun p q : EReal => p * q) (ref_halfA x4 s d) (congrArg x2 ?_)
  funext u; match u with | ⟨0, _⟩ => rfl
theorem ref_backA (x0 : (⟨S4096x1024, .f32⟩ : BufTy).Contents (Elt Ideal)) (x2 : (⟨S1024, .f32⟩ : BufTy).Contents (Elt Ideal)) (x4 : (⟨S4096x2048, .f32⟩ : BufTy).Contents (Elt Ideal)) (s : Fin 4096) (z : Fin 1) :
    (show EReal from val_main_v68 (F := Ideal) x0 x2 x4 (ix2 s z))
      = back (fun k => (show EReal from x0 (ix2 s k))) (fun k => (show EReal from x2 (ix1 k))) (fun k => (show EReal from x4 (ix2 s (lft k)))) := by
  rw [val_main_v68_apply, val_main_v66_apply, val_main_v63_apply, val_main_v62_apply, val_main_v10_apply, val_main_v8_apply]
  unfold back
  refine congrArg₂ Ideal.div (congrArg₂ (fun p q : EReal => p * q) ?_ (congrArg₂ (fun p q : EReal => p * q) rfl (congrArg₂ Ideal.div (ref_nrmA x0 s z) (ref_msqA x0 s z)))) rfl
  refine ((congrArg (fun p : EReal => p + _) Ideal.ofBits_zero_f32).trans (zero_add _)).trans ?_
  refine sum_congr rfl fun k _ => ?_
  rw [val_main_v61_apply]
  have e : idx_main_v62 (idx_main_v63 (ix2 s z)) k = ix2 s k := by
    funext u; match u with | ⟨0, _⟩ => exact Fin.ext (show s.val * 1 + z.val = s.val by omega) | ⟨1, _⟩ => rfl
  rw [e]
  exact congrArg (fun p : EReal => (show EReal from x0 (ix2 s k)) * p) (ref_rowA x2 x4 s k)
theorem ref_spreadA (x0 : (⟨S4096x1024, .f32⟩ : BufTy).Contents (Elt Ideal)) (x2 : (⟨S1024, .f32⟩ : BufTy).Contents (Elt Ideal)) (x4 : (⟨S4096x2048, .f32⟩ : BufTy).Contents (Elt Ideal)) (s : Fin 4096) (d : Fin 1024) :
    (show EReal from val_main_v70 (F := Ideal) x0 x2 x4 (ix2 s d))
      = back (fun k => (show EReal from x0 (ix2 s k))) (fun k => (show EReal from x2 (ix1 k))) (fun k => (show EReal from x4 (ix2 s (lft k)))) := by
  rw [val_main_v70_apply, val_main_v69_apply]
  refine ((congrArg (fun p : EReal => p + _) Ideal.ofBits_zero_f32).trans (zero_add _)).trans ?_
  refine (Fin.sum_univ_one _).trans ?_
  refine (congrArg (fun i => (show EReal from val_main_v68 (F := Ideal) x0 x2 x4 i)) ?_).trans (ref_backA x0 x2 x4 s 0)
  funext u; match u with | ⟨0, _⟩ => rfl | ⟨1, _⟩ => rfl
theorem ref_xA (x0 : (⟨S4096x1024, .f32⟩ : BufTy).Contents (Elt Ideal)) (x2 : (⟨S1024, .f32⟩ : BufTy).Contents (Elt Ideal)) (x4 : (⟨S4096x2048, .f32⟩ : BufTy).Contents (Elt Ideal)) (s : Fin 4096) (d : Fin 1024) :
    (show EReal from val_main_v74 (F := Ideal) x0 x2 x4 (ix2 s d))
      = dxe (fun k => (show EReal from x0 (ix2 s k))) (fun k => (show EReal from x2 (ix1 k))) (fun k => (show EReal from x4 (ix2 s (lft k)))) d := by
  rw [val_main_v74_apply, val_main_v73_apply, val_main_v72_apply, val_main_v71_apply, val_main_v65_apply, val_main_v64_apply]
  refine Eq.trans ?_ (grad 0x44800000#32 1024 (by norm_num) at_1024 (fun k => (show EReal from x0 (ix2 s k))) (fun k => (show EReal from x4 (ix2 s (lft k)))) (fun k => (show EReal from x2 (ix1 k))) d).symm
  refine congrArg₂ (fun p q : EReal => p + q) (congrArg₂ (fun p q : EReal => p + q) (congrArg₂ (fun p q : EReal => p * q) (ref_rowA x2 x4 s d) ?_)
    (congrArg₂ (fun p q : EReal => p * q) rfl (ref_spreadA x0 x2 x4 s d))) (congrArg₂ (fun p q : EReal => p * q) (ref_spreadA x0 x2 x4 s d) rfl)
  refine (congrArg (fun i => (show EReal from val_main_v7 (F := Ideal) x0 i)) ?_).trans (ref_nrmA x0 s 0)
  funext u; match u with | ⟨0, _⟩ => rfl | ⟨1, _⟩ => rfl
theorem ref_gA (x0 : (⟨S4096x1024, .f32⟩ : BufTy).Contents (Elt Ideal)) (x4 : (⟨S4096x2048, .f32⟩ : BufTy).Contents (Elt Ideal)) (d : Fin 1024) :
    (show EReal from val_main_v75 (F := Ideal) x0 x4 (ix2 (0 : Fin 1) d))
      = ∑ s : Fin 4096, (show EReal from x4 (ix2 s (lft d))) * ((show EReal from x0 (ix2 s d)) * nrm 0x44800000#32 (fun k : Fin 1024 => (show EReal from x0 (ix2 s k)))) := by
  rw [val_main_v75_apply, val_main_v60_apply]
  refine ((congrArg (fun p : EReal => p + _) Ideal.ofBits_zero_f32).trans (zero_add _)).trans ?_
  refine (Fin.sum_univ_one _).trans ?_
  rw [val_main_v57_apply, val_main_v56_apply]
  refine ((congrArg (fun p : EReal => p + _) Ideal.ofBits_zero_f32).trans (zero_add _)).trans ?_
  refine sum_congr rfl fun s _ => ?_
  have e : idx_main_v56 (idx_main_v57 (idx_main_v60 (idx_main_v75 (ix2 (0 : Fin 1) d)) 0)) s = ix2 s d := by
    funext u; match u with | ⟨0, _⟩ => rfl | ⟨1, _⟩ => exact Fin.ext (show 0 * 1024 + d.val = d.val by omega)
  rw [e, val_main_v55_apply, val_main_v12_apply, val_main_v11_apply]
  refine (mul_comm (G := EReal) _ _).trans (congrArg₂ (fun p q : EReal => p * q) (ref_halfA x4 s d) (congrArg (fun p : EReal => (show EReal from x0 (ix2 s d)) * p) ?_))
  refine (congrArg (fun i => (show EReal from val_main_v7 (F := Ideal) x0 i)) ?_).trans (ref_nrmA x0 s 0)
  funext u; match u with | ⟨0, _⟩ => rfl | ⟨1, _⟩ => rfl

theorem ref_msqB (x0 : (⟨S4096x1024, .f32⟩ : BufTy).Contents (Elt Ideal)) (s : Fin 4096) (z : Fin 1) :
    (show EReal from val_main_v22 (F := Ideal) x0 (ix2 s z)) = msq 0x44800000#32 (fun k : Fin 1024 => (show EReal from x0 (ix2 s k))) := by
  rw [val_main_v22_apply, val_main_v20_apply, val_main_v18_apply, val_main_v17_apply]
  unfold msq
  refine congrArg₂ (fun p q : EReal => p + q) (congrArg₂ Ideal.div ?_ rfl) rfl
  refine ((congrArg (fun p : EReal => p + _) Ideal.ofBits_zero_f32).trans (zero_add _)).trans ?_
  refine sum_congr rfl fun k _ => ?_
  rw [val_main_v16_apply]
  refine congrArg (fun p : EReal => p * p) (congrArg x0 ?_)
  funext u; match u with | ⟨0, _⟩ => rfl | ⟨1, _⟩ => rfl
theorem ref_nrmB (x0 : (⟨S4096x1024, .f32⟩ : BufTy).Contents (Elt Ideal)) (s : Fin 4096) (z : Fin 1) :
    (show EReal from val_main_v23 (F := Ideal) x0 (ix2 s z)) = nrm 0x44800000#32 (fun k : Fin 1024 => (show EReal from x0 (ix2 s k))) := by
  rw [val_main_v23_apply]
  exact congrArg Ideal.rsqrt (ref_msqB x0 s z)
theorem ref_halfB (x4 : (⟨S4096x2048, .f32⟩ : BufTy).Contents (Elt Ideal)) (s : Fin 4096) (d : Fin 1024) :
    (show EReal from val_main_v34 (F := Ideal) x4 (ix2 s d)) = (show EReal from x4 (ix2 s (rgt d))) := by
  rw [val_main_v34_apply]
  refine congrArg x4 ?_
  funext u; match u with | ⟨0, _⟩ => rfl | ⟨1, _⟩ => rfl
theorem ref_rowB (x2 : (⟨S1024, .f32⟩ : BufTy).Contents (Elt Ideal)) (x4 : (⟨S4096x2048, .f32⟩ : BufTy).Contents (Elt Ideal)) (s : Fin 4096) (d : Fin 1024) :
    (show EReal from val_main_v39 (F := Ideal) x2 x4 (ix2 s d)) = (show EReal from x4 (ix2 s (rgt d))) * (show EReal from x2 (ix1 d)) := by
  rw [val_main_v39_apply, val_main_v38_apply, val_main_v29_apply]
  refine congrArg₂ (fun p q : EReal => p * q) (ref_halfB x4 s d) (congrArg x2 ?_)
  funext u; match u with | ⟨0, _⟩ => rfl
theorem ref_backB (x0 : (⟨S4096x1024, .f32⟩ : BufTy).Contents (Elt Ideal)) (x2 : (⟨S1024, .f32⟩ : BufTy).Contents (Elt Ideal)) (x4 : (⟨S4096x2048, .f32⟩ : BufTy).Contents (Elt Ideal)) (s : Fin 4096) (z : Fin 1) :
    (show EReal from val_main_v48 (F := Ideal) x0 x2 x4 (ix2 s z))
      = back (fun k => (show EReal from x0 (ix2 s k))) (fun k => (show EReal from x2 (ix1 k))) (fun k => (show EReal from x4 (ix2 s (rgt k)))) := by
  rw [val_main_v48_apply, val_main_v46_apply, val_main_v43_apply, val_main_v42_apply, val_main_v26_apply, val_main_v24_apply]
  unfold back
  refine congrArg₂ Ideal.div (congrArg₂ (fun p q : EReal => p * q) ?_ (congrArg₂ (fun p q : EReal => p * q) rfl (congrArg₂ Ideal.div (ref_nrmB x0 s z) (ref_msqB x0 s z)))) rfl
  refine ((congrArg (fun p : EReal => p + _) Ideal.ofBits_zero_f32).trans (zero_add _)).trans ?_
  refine sum_congr rfl fun k _ => ?_
  rw [val_main_v41_apply]
  have e : idx_main_v42 (idx_main_v43 (ix2 s z)) k = ix2 s k := by
    funext u; match u with | ⟨0, _⟩ => exact Fin.ext (show s.val * 1 + z.val = s.val by omega) | ⟨1, _⟩ => rfl
  rw [e]
  exact congrArg (fun p : EReal => (show EReal from x0 (ix2 s k)) * p) (ref_rowB x2 x4 s k)
theorem ref_spreadB (x0 : (⟨S4096x1024, .f32⟩ : BufTy).Contents (Elt Ideal)) (x2 : (⟨S1024, .f32⟩ : BufTy).Contents (Elt Ideal)) (x4 : (⟨S4096x2048, .f32⟩ : BufTy).Contents (Elt Ideal)) (s : Fin 4096) (d : Fin 1024) :
    (show EReal from val_main_v50 (F := Ideal) x0 x2 x4 (ix2 s d))
      = back (fun k => (show EReal from x0 (ix2 s k))) (fun k => (show EReal from x2 (ix1 k))) (fun k => (show EReal from x4 (ix2 s (rgt k)))) := by
  rw [val_main_v50_apply, val_main_v49_apply]
  refine ((congrArg (fun p : EReal => p + _) Ideal.ofBits_zero_f32).trans (zero_add _)).trans ?_
  refine (Fin.sum_univ_one _).trans ?_
  refine (congrArg (fun i => (show EReal from val_main_v48 (F := Ideal) x0 x2 x4 i)) ?_).trans (ref_backB x0 x2 x4 s 0)
  funext u; match u with | ⟨0, _⟩ => rfl | ⟨1, _⟩ => rfl
theorem ref_xB (x0 : (⟨S4096x1024, .f32⟩ : BufTy).Contents (Elt Ideal)) (x2 : (⟨S1024, .f32⟩ : BufTy).Contents (Elt Ideal)) (x4 : (⟨S4096x2048, .f32⟩ : BufTy).Contents (Elt Ideal)) (s : Fin 4096) (d : Fin 1024) :
    (show EReal from val_main_v54 (F := Ideal) x0 x2 x4 (ix2 s d))
      = dxe (fun k => (show EReal from x0 (ix2 s k))) (fun k => (show EReal from x2 (ix1 k))) (fun k => (show EReal from x4 (ix2 s (rgt k)))) d := by
  rw [val_main_v54_apply, val_main_v53_apply, val_main_v52_apply, val_main_v51_apply, val_main_v45_apply, val_main_v44_apply]
  refine Eq.trans ?_ (grad 0x44800000#32 1024 (by norm_num) at_1024 (fun k => (show EReal from x0 (ix2 s k))) (fun k => (show EReal from x4 (ix2 s (rgt k)))) (fun k => (show EReal from x2 (ix1 k))) d).symm
  refine congrArg₂ (fun p q : EReal => p + q) (congrArg₂ (fun p q : EReal => p + q) (congrArg₂ (fun p q : EReal => p * q) (ref_rowB x2 x4 s d) ?_)
    (congrArg₂ (fun p q : EReal => p * q) rfl (ref_spreadB x0 x2 x4 s d))) (congrArg₂ (fun p q : EReal => p * q) (ref_spreadB x0 x2 x4 s d) rfl)
  refine (congrArg (fun i => (show EReal from val_main_v23 (F := Ideal) x0 i)) ?_).trans (ref_nrmB x0 s 0)
  funext u; match u with | ⟨0, _⟩ => rfl | ⟨1, _⟩ => rfl
theorem ref_gB (x0 : (⟨S4096x1024, .f32⟩ : BufTy).Contents (Elt Ideal)) (x4 : (⟨S4096x2048, .f32⟩ : BufTy).Contents (Elt Ideal)) (d : Fin 1024) :
    (show EReal from val_main_v76 (F := Ideal) x0 x4 (ix2 (0 : Fin 1) d))
      = ∑ s : Fin 4096, (show EReal from x4 (ix2 s (rgt d))) * ((show EReal from x0 (ix2 s d)) * nrm 0x44800000#32 (fun k : Fin 1024 => (show EReal from x0 (ix2 s k)))) := by
  rw [val_main_v76_apply, val_main_v40_apply]
  refine ((congrArg (fun p : EReal => p + _) Ideal.ofBits_zero_f32).trans (zero_add _)).trans ?_
  refine (Fin.sum_univ_one _).trans ?_
  rw [val_main_v37_apply, val_main_v36_apply]
  refine ((congrArg (fun p : EReal => p + _) Ideal.ofBits_zero_f32).trans (zero_add _)).trans ?_
  refine sum_congr rfl fun s _ => ?_
  have e : idx_main_v36 (idx_main_v37 (idx_main_v40 (idx_main_v76 (ix2 (0 : Fin 1) d)) 0)) s = ix2 s d := by
    funext u; match u with | ⟨0, _⟩ => rfl | ⟨1, _⟩ => exact Fin.ext (show 0 * 1024 + d.val = d.val by omega)
  rw [e, val_main_v35_apply, val_main_v28_apply, val_main_v27_apply]
  refine (mul_comm (G := EReal) _ _).trans (congrArg₂ (fun p q : EReal => p * q) (ref_halfB x4 s d) (congrArg (fun p : EReal => (show EReal from x0 (ix2 s d)) * p) ?_))
  refine (congrArg (fun i => (show EReal from val_main_v23 (F := Ideal) x0 i)) ?_).trans (ref_nrmB x0 s 0)
  funext u; match u with | ⟨0, _⟩ => rfl | ⟨1, _⟩ => rfl

variable (m : (ℓ : Loc nD τ sig) → Buf (Elt Ideal) ℓ) (c : Dev nD)

theorem hostA (d : Fin 1024) :
    (show EReal from StableHlo.after hostOps0 (fun b => m (c, b)) (Proc.devRef .tc main_v0) (ix2 (0 : Fin 1) d))
      = (show EReal from m (c, Proc.devRef .tc main_arg2) (ix1 d)) := by
  simp (discharger := decide) only [StableHlo.after_cons, StableHlo.after_nil, StableHlo.reshape_result', StableHlo.reshape_result_ne']
  exact shapeCast_apply _ shapeCasts_S1024_S1x1024 (ix2 (0 : Fin 1) d) (ix1 d) (by
    rewrite [Shape.rowMajor_val_one, Shape.rowMajor_val_two]
    show d.val = 0 * 1024 + d.val
    omega)
theorem hostB (d : Fin 1024) :
    (show EReal from StableHlo.after hostOps0 (fun b => m (c, b)) (Proc.devRef .tc main_v1) (ix2 (0 : Fin 1) d))
      = (show EReal from m (c, Proc.devRef .tc main_arg3) (ix1 d)) := by
  simp (discharger := decide) only [StableHlo.after_cons, StableHlo.after_nil, StableHlo.reshape_result', StableHlo.reshape_result_ne']
  exact shapeCast_apply _ shapeCasts_S1024_S1x1024 (ix2 (0 : Fin 1) d) (ix1 d) (by
    rewrite [Shape.rowMajor_val_one, Shape.rowMajor_val_two]
    show d.val = 0 * 1024 + d.val
    omega)

abbrev A0 : (⟨S4096x1024, .f32⟩ : BufTy).Contents (Elt Ideal) := m (c, Proc.devRef .tc main_arg0)
abbrev A1 : (⟨S4096x1024, .f32⟩ : BufTy).Contents (Elt Ideal) := m (c, Proc.devRef .tc main_arg1)
abbrev A2 : (⟨S1024, .f32⟩ : BufTy).Contents (Elt Ideal) := m (c, Proc.devRef .tc main_arg2)
abbrev A3 : (⟨S1024, .f32⟩ : BufTy).Contents (Elt Ideal) := m (c, Proc.devRef .tc main_arg3)
abbrev A4 : (⟨S4096x2048, .f32⟩ : BufTy).Contents (Elt Ideal) := m (c, Proc.devRef .tc main_arg4)

/-- The rows' result at a grid point. -/
theorem rowsA (t : Fin cfg0.N) (a : Fin 512) (b : Fin 1024) :
    (show EReal from (outsAt0 m c t.val t.isLt).1 (ix2 a b))
      = dxe (fun k => (show EReal from iblk m c 0 t (ix2 a k))) (fun k => (show EReal from iblk m c 2 t (ix2 (0 : Fin 1) k))) (fun k => (show EReal from iblk m c 4 t (ix2 a (lft k)))) b := by
  have ht : t.val < 8 := lt_of_lt_of_eq t.isLt (show cfg0.N = 8 from N_0)
  by_cases h : t.val % 8 = 0
  · rw [outsAt0_A m c t h (by omega) h (by omega)]
    frame_out
    exact pay9 _ _ _ a b
  · rw [outsAt0_B m c t h (by omega) h (by omega)]
    frame_out
    exact pay9 _ _ _ a b
/-- What a grid point adds to the weights' gradient. -/
def tmA (t : Fin cfg0.N) (i : S1x1024.Idx) : EReal :=
  ∑ a : Fin 512, (show EReal from iblk m c 4 t (ix2 a (lft (i 1)))) * ((show EReal from iblk m c 0 t (ix2 a (i 1))) * nrm 0x44800000#32 (fun k : Fin 1024 => (show EReal from iblk m c 0 t (ix2 a k))))
theorem firstA (t : Fin cfg0.N) (h : t.val % 8 = 0) (i : S1x1024.Idx) : (show EReal from (outsAt0 m c t.val t.isLt).2.2.1 i) = 0 + tmA m c t i := by
  obtain ⟨b, rfl⟩ : ∃ (b : Fin 1024), i = ix2 (0 : Fin 1) b := ⟨i 1, by funext u; match u with | ⟨0, _⟩ => exact Subsingleton.elim (α := Fin 1) _ _ | ⟨1, _⟩ => rfl⟩
  have ht : t.val < 8 := lt_of_lt_of_eq t.isLt (show cfg0.N = 8 from N_0)
  rw [outsAt0_A m c t h (by omega) h (by omega), zero_add]
  frame_out
  exact pay10 _ _ b
theorem nextA (t : Fin cfg0.N) (h : ¬t.val % 8 = 0) (i : S1x1024.Idx) : (show EReal from (outsAt0 m c t.val t.isLt).2.2.1 i)
    = (show EReal from (outsAt0 m c (t.val - 1) (Nat.lt_of_le_of_lt (Nat.sub_le _ _) t.isLt)).2.2.1 i) + tmA m c t i := by
  obtain ⟨b, rfl⟩ : ∃ (b : Fin 1024), i = ix2 (0 : Fin 1) b := ⟨i 1, by funext u; match u with | ⟨0, _⟩ => exact Subsingleton.elim (α := Fin 1) _ _ | ⟨1, _⟩ => rfl⟩
  rw [outsAt0_B m c t h (by omega) h (by omega)]
  frame_out
  exact (pay11 _ _ _ b).trans (congrArg (fun p : EReal => _ + p) (pay10 _ _ b))

theorem out_xA :
    (dats m 0 c).arrAt 5 cfg0.N = val_main_v74 (F := Ideal) (A0 m c) (A2 m c) (A4 m c) := by
  refine (dats m 0 c).arrAt_eq_of_covers 5 _ (by decide +kernel) fun t hf y => ?_
  obtain ⟨a, b, rfl⟩ : ∃ (a : Fin 512) (b : Fin 1024), y = ix2 a b := ⟨y 0, y 1, by funext u; match u with | ⟨0, _⟩ => rfl | ⟨1, _⟩ => rfl⟩
  have ht : t.val < 8 := lt_of_lt_of_eq t.isLt (show cfg0.N = 8 from N_0)
  refine Eq.trans ?_ ((congrArg (val_main_v74 (F := Ideal) _ _ _) ?_).trans (ref_xA _ _ _ (⟨t.val * 512 + a.val, by omega⟩ : Fin 4096) b)).symm
  · blk_simp
    rw [after0_5]
    refine (rowsA m c t a b).trans ?_
    have g0 : (fun k : Fin 1024 => (show EReal from iblk m c 0 t (ix2 a k))) = fun k => (show EReal from A0 m c (ix2 (⟨t.val * 512 + a.val, by omega⟩ : Fin 4096) k)) := funext fun k => by
      blk_ext [iblk, V, ix t]
    have g2 : (fun k : Fin 1024 => (show EReal from iblk m c 4 t (ix2 a (lft k)))) = fun k => (show EReal from A4 m c (ix2 (⟨t.val * 512 + a.val, by omega⟩ : Fin 4096) (lft k))) := funext fun k => by
      blk_ext [iblk, V, ix t]
    have g1 : (fun k : Fin 1024 => (show EReal from iblk m c 2 t (ix2 (0 : Fin 1) k))) = fun k => (show EReal from A2 m c (ix1 k)) := funext fun k =>
      Eq.trans (congrArg (V m c main_v0) (by blk_ext [ix t])) (hostA m c k)
    rw [g0, g1, g2]
  · blk_ext [iblk, V, ix t]

theorem out_gA : (dats m 0 c).arrAt 7 cfg0.N = val_main_v75 (F := Ideal) (A0 m c) (A4 m c) := by
  refine (dats m 0 c).arrAt_eq_of_covers 7 _ (by decide +kernel) fun t hf y => ?_
  obtain ⟨b, rfl⟩ : ∃ (b : Fin 1024), y = ix2 (0 : Fin 1) b := ⟨y 1, by funext u; match u with | ⟨0, _⟩ => exact Subsingleton.elim (α := Fin 1) _ _ | ⟨1, _⟩ => rfl⟩
  have hr := (flush0_7 t).mp hf
  have ht : t.val < 8 := lt_of_lt_of_eq t.isLt (show cfg0.N = 8 from N_0)
  refine Eq.trans ?_ ((congrArg (val_main_v75 (F := Ideal) _ _) (a₂ := ix2 (0 : Fin 1) b) ?_).trans (ref_gA _ _ b)).symm
  · blk_simp
    rw [after0_7]
    refine (Pipeline.eq_sum_fin_of_reset_step_apply_of_flush (M := EReal) (fun n h => (outsAt0 m c n h).2.2.1) 8 (fun _ => 0) (tmA m c) (firstA m c) (nextA m c) t hr (ix2 (0 : Fin 1) b)).trans ?_
    rw [zero_add]
    unfold tmA
    refine Fin.sum_mul_add_congr fun s k hl => ?_
    have hp : ∀ p : Fin cfg0.N, p.val = s.val → ∀ q : Fin 4096, q.val = 512 * s.val + k.val →
        (∀ d : Fin 1024, (show EReal from iblk m c 0 p (ix2 k d)) = (show EReal from A0 m c (ix2 q d))) ∧ (∀ d : Fin 2048, (show EReal from iblk m c 4 p (ix2 k d)) = (show EReal from A4 m c (ix2 q d))) := by
      intro p hp q hq
      exact ⟨fun d => by blk_ext [iblk, V, ix p, hp, hq], fun d => by blk_ext [iblk, V, ix p, hp, hq]⟩
    have hs : 8 * (t.val / 8) + s.val = s.val := by omega
    obtain ⟨h0, h2⟩ := hp ⟨8 * (t.val / 8) + s.val, Pipeline.run_point_lt_of_flush t hr s⟩ hs ⟨s.val * 512 + k.val, hl⟩ (by show s.val * 512 + k.val = 512 * s.val + k.val; omega)
    refine congrArg₂ (fun p q : EReal => p * q) (h2 (lft b)) (congrArg₂ (fun p q : EReal => p * q) (h0 b) (congrArg (nrm 0x44800000#32) (funext h0)))
  · blk_ext [iblk, V, ix t]

/-- The rows' result at a grid point. -/
theorem rowsB (t : Fin cfg0.N) (a : Fin 512) (b : Fin 1024) :
    (show EReal from (outsAt0 m c t.val t.isLt).2.1 (ix2 a b))
      = dxe (fun k => (show EReal from iblk m c 1 t (ix2 a k))) (fun k => (show EReal from iblk m c 3 t (ix2 (0 : Fin 1) k))) (fun k => (show EReal from iblk m c 4 t (ix2 a (rgt k)))) b := by
  have ht : t.val < 8 := lt_of_lt_of_eq t.isLt (show cfg0.N = 8 from N_0)
  by_cases h : t.val % 8 = 0
  · rw [outsAt0_A m c t h (by omega) h (by omega)]
    frame_out
    exact pay3 _ _ _ a b
  · rw [outsAt0_B m c t h (by omega) h (by omega)]
    frame_out
    exact pay3 _ _ _ a b
/-- What a grid point adds to the weights' gradient. -/
def tmB (t : Fin cfg0.N) (i : S1x1024.Idx) : EReal :=
  ∑ a : Fin 512, (show EReal from iblk m c 4 t (ix2 a (rgt (i 1)))) * ((show EReal from iblk m c 1 t (ix2 a (i 1))) * nrm 0x44800000#32 (fun k : Fin 1024 => (show EReal from iblk m c 1 t (ix2 a k))))
theorem firstB (t : Fin cfg0.N) (h : t.val % 8 = 0) (i : S1x1024.Idx) : (show EReal from (outsAt0 m c t.val t.isLt).2.2.2 i) = 0 + tmB m c t i := by
  obtain ⟨b, rfl⟩ : ∃ (b : Fin 1024), i = ix2 (0 : Fin 1) b := ⟨i 1, by funext u; match u with | ⟨0, _⟩ => exact Subsingleton.elim (α := Fin 1) _ _ | ⟨1, _⟩ => rfl⟩
  have ht : t.val < 8 := lt_of_lt_of_eq t.isLt (show cfg0.N = 8 from N_0)
  rw [outsAt0_A m c t h (by omega) h (by omega), zero_add]
  frame_out
  exact pay4 _ _ b
theorem nextB (t : Fin cfg0.N) (h : ¬t.val % 8 = 0) (i : S1x1024.Idx) : (show EReal from (outsAt0 m c t.val t.isLt).2.2.2 i)
    = (show EReal from (outsAt0 m c (t.val - 1) (Nat.lt_of_le_of_lt (Nat.sub_le _ _) t.isLt)).2.2.2 i) + tmB m c t i := by
  obtain ⟨b, rfl⟩ : ∃ (b : Fin 1024), i = ix2 (0 : Fin 1) b := ⟨i 1, by funext u; match u with | ⟨0, _⟩ => exact Subsingleton.elim (α := Fin 1) _ _ | ⟨1, _⟩ => rfl⟩
  rw [outsAt0_B m c t h (by omega) h (by omega)]
  frame_out
  exact (pay5 _ _ _ b).trans (congrArg (fun p : EReal => _ + p) (pay4 _ _ b))

theorem out_xB :
    (dats m 0 c).arrAt 6 cfg0.N = val_main_v54 (F := Ideal) (A1 m c) (A3 m c) (A4 m c) := by
  refine (dats m 0 c).arrAt_eq_of_covers 6 _ (by decide +kernel) fun t hf y => ?_
  obtain ⟨a, b, rfl⟩ : ∃ (a : Fin 512) (b : Fin 1024), y = ix2 a b := ⟨y 0, y 1, by funext u; match u with | ⟨0, _⟩ => rfl | ⟨1, _⟩ => rfl⟩
  have ht : t.val < 8 := lt_of_lt_of_eq t.isLt (show cfg0.N = 8 from N_0)
  refine Eq.trans ?_ ((congrArg (val_main_v54 (F := Ideal) _ _ _) ?_).trans (ref_xB _ _ _ (⟨t.val * 512 + a.val, by omega⟩ : Fin 4096) b)).symm
  · blk_simp
    rw [after0_6]
    refine (rowsB m c t a b).trans ?_
    have g0 : (fun k : Fin 1024 => (show EReal from iblk m c 1 t (ix2 a k))) = fun k => (show EReal from A1 m c (ix2 (⟨t.val * 512 + a.val, by omega⟩ : Fin 4096) k)) := funext fun k => by
      blk_ext [iblk, V, ix t]
    have g2 : (fun k : Fin 1024 => (show EReal from iblk m c 4 t (ix2 a (rgt k)))) = fun k => (show EReal from A4 m c (ix2 (⟨t.val * 512 + a.val, by omega⟩ : Fin 4096) (rgt k))) := funext fun k => by
      blk_ext [iblk, V, ix t]
    have g1 : (fun k : Fin 1024 => (show EReal from iblk m c 3 t (ix2 (0 : Fin 1) k))) = fun k => (show EReal from A3 m c (ix1 k)) := funext fun k =>
      Eq.trans (congrArg (V m c main_v1) (by blk_ext [ix t])) (hostB m c k)
    rw [g0, g1, g2]
  · blk_ext [iblk, V, ix t]

theorem out_gB : (dats m 0 c).arrAt 8 cfg0.N = val_main_v76 (F := Ideal) (A1 m c) (A4 m c) := by
  refine (dats m 0 c).arrAt_eq_of_covers 8 _ (by decide +kernel) fun t hf y => ?_
  obtain ⟨b, rfl⟩ : ∃ (b : Fin 1024), y = ix2 (0 : Fin 1) b := ⟨y 1, by funext u; match u with | ⟨0, _⟩ => exact Subsingleton.elim (α := Fin 1) _ _ | ⟨1, _⟩ => rfl⟩
  have hr := (flush0_8 t).mp hf
  have ht : t.val < 8 := lt_of_lt_of_eq t.isLt (show cfg0.N = 8 from N_0)
  refine Eq.trans ?_ ((congrArg (val_main_v76 (F := Ideal) _ _) (a₂ := ix2 (0 : Fin 1) b) ?_).trans (ref_gB _ _ b)).symm
  · blk_simp
    rw [after0_8]
    refine (Pipeline.eq_sum_fin_of_reset_step_apply_of_flush (M := EReal) (fun n h => (outsAt0 m c n h).2.2.2) 8 (fun _ => 0) (tmB m c) (firstB m c) (nextB m c) t hr (ix2 (0 : Fin 1) b)).trans ?_
    rw [zero_add]
    unfold tmB
    refine Fin.sum_mul_add_congr fun s k hl => ?_
    have hp : ∀ p : Fin cfg0.N, p.val = s.val → ∀ q : Fin 4096, q.val = 512 * s.val + k.val →
        (∀ d : Fin 1024, (show EReal from iblk m c 1 p (ix2 k d)) = (show EReal from A1 m c (ix2 q d))) ∧ (∀ d : Fin 2048, (show EReal from iblk m c 4 p (ix2 k d)) = (show EReal from A4 m c (ix2 q d))) := by
      intro p hp q hq
      exact ⟨fun d => by blk_ext [iblk, V, ix p, hp, hq], fun d => by blk_ext [iblk, V, ix p, hp, hq]⟩
    have hs : 8 * (t.val / 8) + s.val = s.val := by omega
    obtain ⟨h0, h2⟩ := hp ⟨8 * (t.val / 8) + s.val, Pipeline.run_point_lt_of_flush t hr s⟩ hs ⟨s.val * 512 + k.val, hl⟩ (by show s.val * 512 + k.val = 512 * s.val + k.val; omega)
    refine congrArg₂ (fun p q : EReal => p * q) (h2 (rgt b)) (congrArg₂ (fun p q : EReal => p * q) (h0 b) (congrArg (nrm 0x44800000#32) (funext h0)))
  · blk_ext [iblk, V, ix t]

end Cert.PairBwdIdeal.Hand
-- ==== Proof.PairBwdClaim.lean ====
module
public import proofs.«01_k».proof.Defs
public import proofs.«01_k».proof.Proof.PairBwdValue
public import proofs.«01_k».proof.Proof.Gen.RefPairBwdIdeal.Run
public import Idealize.ShloMosaic.Lib.Quiescent
public import Idealize.ShloMosaic.Adequacy
@[expose] public section
set_option maxRecDepth 16384
noncomputable section

/-! The reference's frame and the value claim of the call. -/

namespace Cert.PairBwdIdeal.Hand
open Cert.PairBwdIdeal Cert.PairBwdIdeal.Gen
open Idealize.ShloMosaic Idealize.SL.Sem

theorem frame_ref : Cert.quiescent_RefPairBwdIdeal := fun m g _ =>
  (θ_run Cert.RefPairBwdIdeal.defs _ _).mono (fun r h => ⟨fun c => (h c).2.2.2.2, sem_eq_zero_of_no_sems (by decide) r.2⟩) (Cert.RefPairBwdIdeal.Value.run (F := Ideal) m g)

set_option maxHeartbeats 4000000 in
theorem value : Cert.algebraic_PairBwdIdeal_RefPairBwdIdeal := by
  intro m g m' g' hpre hag
  refine ⟨fun c => Cert.RefPairBwdIdeal.Read.val_main_v74 (F := Ideal) (m (c, Proc.devRef .tc main_arg0)) (m (c, Proc.devRef .tc main_arg2)) (m (c, Proc.devRef .tc main_arg4)),
    fun c => Cert.RefPairBwdIdeal.Read.val_main_v54 (F := Ideal) (m (c, Proc.devRef .tc main_arg1)) (m (c, Proc.devRef .tc main_arg3)) (m (c, Proc.devRef .tc main_arg4)),
    fun c => Cert.RefPairBwdIdeal.Read.val_main_v75 (F := Ideal) (m (c, Proc.devRef .tc main_arg0)) (m (c, Proc.devRef .tc main_arg4)),
    fun c => Cert.RefPairBwdIdeal.Read.val_main_v76 (F := Ideal) (m (c, Proc.devRef .tc main_arg1)) (m (c, Proc.devRef .tc main_arg4)), ?_, ?_⟩
  · refine (θ_run Cert.PairBwdIdeal.defs _ _).mono (fun r h c => ?_) (Cert.PairBwdIdeal.Value.run_blocks m g)
    exact ⟨(h c).1.trans (out_xA m c), (h c).2.1.trans (out_xB m c), (h c).2.2.1.trans (out_gA m c), (h c).2.2.2.1.trans (out_gB m c), (h c).2.2.2.2⟩
  · refine (θ_run Cert.RefPairBwdIdeal.defs _ _).mono (fun r h c => ⟨(h c).1.trans ?_, (h c).2.1.trans ?_, (h c).2.2.1.trans ?_, (h c).2.2.2.1.trans ?_, (h c).2.2.2.2⟩) (Cert.RefPairBwdIdeal.Value.run (F := Ideal) m' g')
    all_goals obtain ⟨a0, a1, a2, a3, a4⟩ := hag c
    · exact (Cert.RefPairBwdIdeal.Read.val_main_v74_eq m' c).trans (congr (congr (congrArg (Cert.RefPairBwdIdeal.Read.val_main_v74 (F := Ideal)) a0) a2) a4)
    · exact (Cert.RefPairBwdIdeal.Read.val_main_v54_eq m' c).trans (congr (congr (congrArg (Cert.RefPairBwdIdeal.Read.val_main_v54 (F := Ideal)) a1) a3) a4)
    · exact (Cert.RefPairBwdIdeal.Read.val_main_v75_eq _ _).trans (congr (congrArg (Cert.RefPairBwdIdeal.Read.val_main_v75 (F := Ideal)) a0) a4)
    · exact (Cert.RefPairBwdIdeal.Read.val_main_v76_eq _ _).trans (congr (congrArg (Cert.RefPairBwdIdeal.Read.val_main_v76 (F := Ideal)) a1) a4)

end Cert.PairBwdIdeal.Hand
-- ==== Proof.RmsFwdValue.lean ====
module
public import proofs.«01_k».proof.Proof.NormMath
public import proofs.«01_k».proof.Proof.Gen.RmsFwdIdeal.Value
public import proofs.«01_k».proof.Proof.Gen.RefRmsFwdIdeal.Read
public import Idealize.ShloMosaic.Lib.Pipeline.ValueKit
@[expose] public section
set_option maxRecDepth 16384
noncomputable section

/-! The value of the call: every row of the result is the row divided by its root mean square, times the weights. -/

namespace Cert.RmsFwdIdeal.Hand
open Cert.RmsFwdIdeal Cert.RmsFwdIdeal.Gen
open Idealize.ShloMosaic Finset
open Cert.RefRmsFwdIdeal.Read
open Cert.Norm

set_option maxHeartbeats 2000000

theorem ix : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

theorem pay (x0 : Vec Ideal S512x2048 .f32) (x1 : Vec Ideal S1x2048 .f32) (a : Fin 512) (b : Fin 2048) :
    (show EReal from k0_pay1 (F := Ideal) x0 x1 (ix2 a b))
      = (show EReal from x0 (ix2 a b)) * nrm 0x45000000#32 (fun k : Fin 2048 => (show EReal from x0 (ix2 a k))) * (show EReal from x1 (ix2 (0 : Fin 1) b)) := by
  unfold k0_pay1
  pointwise
  rfl

theorem ref_msq (x0 : (⟨S4096x2048, .f32⟩ : BufTy).Contents (Elt Ideal)) (s : Fin 4096) (z : Fin 1) :
    (show EReal from val_main_v6 (F := Ideal) x0 (ix2 s z)) = msq 0x45000000#32 (fun k : Fin 2048 => (show EReal from x0 (ix2 s k))) := by
  rw [val_main_v6_apply, val_main_v4_apply, val_main_v2_apply, val_main_v1_apply]
  unfold msq
  refine congrArg₂ (fun p q : EReal => p + q) (congrArg₂ Ideal.div ?_ rfl) rfl
  refine ((congrArg (fun p : EReal => p + _) Ideal.ofBits_zero_f32).trans (zero_add _)).trans ?_
  refine sum_congr rfl fun k _ => ?_
  rw [val_main_v0_apply]
  refine congrArg (fun p : EReal => p * p) (congrArg x0 ?_)
  funext u; match u with | ⟨0, _⟩ => rfl | ⟨1, _⟩ => rfl

theorem ref (x0 : (⟨S4096x2048, .f32⟩ : BufTy).Contents (Elt Ideal)) (x1 : (⟨S2048, .f32⟩ : BufTy).Contents (Elt Ideal)) (s : Fin 4096) (d : Fin 2048) :
    (show EReal from val_main_v13 (F := Ideal) x0 x1 (ix2 s d))
      = (show EReal from x0 (ix2 s d)) * nrm 0x45000000#32 (fun k : Fin 2048 => (show EReal from x0 (ix2 s k))) * (show EReal from x1 (ix1 d)) := by
  rw [val_main_v13_apply, val_main_v12_apply, val_main_v9_apply, val_main_v8_apply, val_main_v11_apply, val_main_v10_apply, val_main_v7_apply]
  refine congrArg₂ (fun p q : EReal => p * q) (congrArg (fun p : EReal => (show EReal from x0 (ix2 s d)) * p) ?_) (congrArg x1 ?_)
  · refine congrArg Ideal.rsqrt ((congrArg (fun i => (show EReal from val_main_v6 (F := Ideal) x0 i)) ?_).trans (ref_msq x0 s 0))
    funext u; match u with | ⟨0, _⟩ => rfl | ⟨1, _⟩ => rfl
  · funext u; match u with | ⟨0, _⟩ => rfl

variable (m : (ℓ : Loc nD τ sig) → Buf (Elt Ideal) ℓ) (c : Dev nD)

theorem host (d : Fin 2048) :
    (show EReal from StableHlo.after hostOps0 (fun b => m (c, b)) (Proc.devRef .tc main_v0) (ix2 (0 : Fin 1) d))
      = (show EReal from m (c, Proc.devRef .tc main_arg1) (ix1 d)) := by
  simp only [StableHlo.after_cons, StableHlo.after_nil, StableHlo.reshape_result']
  exact shapeCast_apply _ shapeCasts_S2048_S1x2048 (ix2 (0 : Fin 1) d) (ix1 d) (by
    rewrite [Shape.rowMajor_val_one, Shape.rowMajor_val_two]
    show d.val = 0 * 2048 + d.val
    omega)

theorem out : (dats m 0 c).arrAt 2 cfg0.N = val_main_v13 (F := Ideal) (m (c, Proc.devRef .tc main_arg0)) (m (c, Proc.devRef .tc main_arg1)) := by
  refine (dats m 0 c).arrAt_eq_of_covers 2 _ (by decide +kernel) fun t hf y => ?_
  obtain ⟨a, b, rfl⟩ : ∃ (a : Fin 512) (b : Fin 2048), y = ix2 a b := ⟨y 0, y 1, by funext u; match u with | ⟨0, _⟩ => rfl | ⟨1, _⟩ => rfl⟩
  have ht : t.val < 8 := lt_of_lt_of_eq t.isLt (show cfg0.N = 8 from N_0)
  refine Eq.trans ?_ ((congrArg (val_main_v13 (F := Ideal) _ _) ?_).trans (ref _ _ (⟨t.val * 512 + a.val, by omega⟩ : Fin 4096) b)).symm
  · blk_simp
    rw [after0_2]
    frame_out
    refine (pay _ _ a b).trans ?_
    refine congrArg₂ (fun p q : EReal => p * q) (congrArg₂ (fun p q : EReal => p * q) ?_ (congrArg (nrm 0x45000000#32) (funext fun k => ?_))) ?_
    · blk_ext [iblk, V, ix t]
    · blk_ext [iblk, V, ix t]
    · exact Eq.trans (congrArg (V m c main_v0) (by blk_ext [ix t])) (host m c b)
  · blk_ext [iblk, V, ix t]

end Cert.RmsFwdIdeal.Hand
-- ==== Proof.RmsFwdClaim.lean ====
module
public import proofs.«01_k».proof.Defs
public import proofs.«01_k».proof.Proof.RmsFwdValue
public import proofs.«01_k».proof.Proof.Gen.RefRmsFwdIdeal.Run
public import Idealize.ShloMosaic.Lib.Quiescent
public import Idealize.ShloMosaic.Adequacy
@[expose] public section
set_option maxRecDepth 16384
noncomputable section

/-! The reference's frame and the value claim of the call. -/

namespace Cert.RmsFwdIdeal.Hand
open Cert.RmsFwdIdeal Cert.RmsFwdIdeal.Gen
open Idealize.ShloMosaic Idealize.SL.Sem

theorem frame_ref : Cert.quiescent_RefRmsFwdIdeal := fun m g _ =>
  (θ_run Cert.RefRmsFwdIdeal.defs _ _).mono (fun r h => ⟨fun c => (h c).2, sem_eq_zero_of_no_sems (by decide) r.2⟩) (Cert.RefRmsFwdIdeal.Value.run (F := Ideal) m g)

set_option maxHeartbeats 4000000 in
theorem value : Cert.algebraic_RmsFwdIdeal_RefRmsFwdIdeal := by
  intro m g m' g' hpre hag
  refine ⟨fun c => Cert.RefRmsFwdIdeal.Read.val_main_v13 (F := Ideal) (m (c, Proc.devRef .tc main_arg0)) (m (c, Proc.devRef .tc main_arg1)), ?_, ?_⟩
  · refine (θ_run Cert.RmsFwdIdeal.defs _ _).mono (fun r h c => ?_) (Cert.RmsFwdIdeal.Value.run_blocks m g)
    exact ⟨(h c).1.trans (out m c), (h c).2⟩
  · refine (θ_run Cert.RefRmsFwdIdeal.defs _ _).mono (fun r h c => ⟨(h c).1.trans ?_, (h c).2⟩) (Cert.RefRmsFwdIdeal.Value.run (F := Ideal) m' g')
    all_goals obtain ⟨a0, a1⟩ := hag c
    · exact (Cert.RefRmsFwdIdeal.Read.val_main_v13_eq _ _).trans (congr (congrArg (Cert.RefRmsFwdIdeal.Read.val_main_v13 (F := Ideal)) a0) a1)

end Cert.RmsFwdIdeal.Hand
-- ==== Proof.PairFwdValue.lean ====
module
public import proofs.«01_k».proof.Proof.NormMath
public import proofs.«01_k».proof.Proof.Gen.PairFwdIdeal.Value
public import proofs.«01_k».proof.Proof.Gen.RefPairFwdIdeal.Read
public import Idealize.ShloMosaic.Lib.Pipeline.ValueKit
@[expose] public section
set_option maxRecDepth 16384
noncomputable section

/-! The value of the call: each half of a row of the result is the row of one argument divided by its root mean square, times its weights. -/

namespace Cert.PairFwdIdeal.Hand
open Cert.PairFwdIdeal Cert.PairFwdIdeal.Gen
open Idealize.ShloMosaic Finset
open Cert.RefPairFwdIdeal.Read
open Cert.Norm

set_option maxHeartbeats 2000000

theorem ix : ∀ t : Fin cfg0.N, win0_0.index t = ![t.val, 0] ∧ win0_1.index t = ![t.val, 0] ∧ win0_2.index t = ![0, 0] ∧ win0_3.index t = ![0, 0] ∧ win0_4.index t = ![t.val, 0] :=
  (by decide +kernel : ∀ t : Fin grid0.N, win0_0.index t = ![t.val, 0] ∧ win0_1.index t = ![t.val, 0] ∧ win0_2.index t = ![0, 0] ∧ win0_3.index t = ![0, 0] ∧ win0_4.index t = ![t.val, 0])

/-- A column of the left half and of the right half. -/
abbrev lft (k : Fin 1024) : Fin 2048 := ⟨k.val, by omega⟩
abbrev rgt (k : Fin 1024) : Fin 2048 := ⟨1024 + k.val, by omega⟩

/-- An entry of a normed row. -/
def ne (X G : Fin 1024 → EReal) (b : Fin 1024) : EReal := X b * nrm 0x44800000#32 X * G b

theorem pay1 (x0 : Vec Ideal S512x1024 .f32) (x1 : Vec Ideal S1x1024 .f32) (a : Fin 512) (b : Fin 1024) :
    (show EReal from k0_pay1 (F := Ideal) x0 x1 (ix2 a b)) = ne (fun k => (show EReal from x0 (ix2 a k))) (fun k => (show EReal from x1 (ix2 (0 : Fin 1) k))) b := by
  unfold k0_pay1
  pointwise
  rfl
theorem pay2 (x0 : Vec Ideal S512x1024 .f32) (x1 : Vec Ideal S1x1024 .f32) (a : Fin 512) (b : Fin 1024) :
    (show EReal from k0_pay2 (F := Ideal) x0 x1 (ix2 a b)) = ne (fun k => (show EReal from x0 (ix2 a k))) (fun k => (show EReal from x1 (ix2 (0 : Fin 1) k))) b := by
  unfold k0_pay2
  pointwise
  rfl

theorem ref_msqA (x0 : (⟨S4096x1024, .f32⟩ : BufTy).Contents (Elt Ideal)) (s : Fin 4096) (z : Fin 1) :
    (show EReal from val_main_v6 (F := Ideal) x0 (ix2 s z)) = msq 0x44800000#32 (fun k : Fin 1024 => (show EReal from x0 (ix2 s k))) := by
  rw [val_main_v6_apply, val_main_v4_apply, val_main_v2_apply, val_main_v1_apply]
  unfold msq
  refine congrArg₂ (fun p q : EReal => p + q) (congrArg₂ Ideal.div ?_ rfl) rfl
  refine ((congrArg (fun p : EReal => p + _) Ideal.ofBits_zero_f32).trans (zero_add _)).trans ?_
  refine sum_congr rfl fun k _ => ?_
  rw [val_main_v0_apply]
  refine congrArg (fun p : EReal => p * p) (congrArg x0 ?_)
  funext u; match u with | ⟨0, _⟩ => rfl | ⟨1, _⟩ => rfl
theorem refA (x0 : (⟨S4096x1024, .f32⟩ : BufTy).Contents (Elt Ideal)) (x2 : (⟨S1024, .f32⟩ : BufTy).Contents (Elt Ideal)) (s : Fin 4096) (d : Fin 1024) :
    (show EReal from val_main_v12 (F := Ideal) x0 x2 (ix2 s d)) = ne (fun k => (show EReal from x0 (ix2 s k))) (fun k => (show EReal from x2 (ix1 k))) d := by
  rw [val_main_v12_apply, val_main_v9_apply, val_main_v8_apply, val_main_v11_apply, val_main_v10_apply, val_main_v7_apply]
  unfold ne
  refine congrArg₂ (fun p q : EReal => p * q) (congrArg (fun p : EReal => (show EReal from x0 (ix2 s d)) * p) ?_) (congrArg x2 ?_)
  · refine congrArg Ideal.rsqrt ((congrArg (fun i => (show EReal from val_main_v6 (F := Ideal) x0 i)) ?_).trans (ref_msqA x0 s 0))
    funext u; match u with | ⟨0, _⟩ => rfl | ⟨1, _⟩ => rfl
  · funext u; match u with | ⟨0, _⟩ => rfl

theorem ref_msqB (x0 : (⟨S4096x1024, .f32⟩ : BufTy).Contents (Elt Ideal)) (s : Fin 4096) (z : Fin 1) :
    (show EReal from val_main_v19 (F := Ideal) x0 (ix2 s z)) = msq 0x44800000#32 (fun k : Fin 1024 => (show EReal from x0 (ix2 s k))) := by
  rw [val_main_v19_apply, val_main_v17_apply, val_main_v15_apply, val_main_v14_apply]
  unfold msq
  refine congrArg₂ (fun p q : EReal => p + q) (congrArg₂ Ideal.div ?_ rfl) rfl
  refine ((congrArg (fun p : EReal => p + _) Ideal.ofBits_zero_f32).trans (zero_add _)).trans ?_
  refine sum_congr rfl fun k _ => ?_
  rw [val_main_v13_apply]
  refine congrArg (fun p : EReal => p * p) (congrArg x0 ?_)
  funext u; match u with | ⟨0, _⟩ => rfl | ⟨1, _⟩ => rfl
theorem refB (x0 : (⟨S4096x1024, .f32⟩ : BufTy).Contents (Elt Ideal)) (x2 : (⟨S1024, .f32⟩ : BufTy).Contents (Elt Ideal)) (s : Fin 4096) (d : Fin 1024) :
    (show EReal from val_main_v25 (F := Ideal) x0 x2 (ix2 s d)) = ne (fun k => (show EReal from x0 (ix2 s k))) (fun k => (show EReal from x2 (ix1 k))) d := by
  rw [val_main_v25_apply, val_main_v22_apply, val_main_v21_apply, val_main_v24_apply, val_main_v23_apply, val_main_v20_apply]
  unfold ne
  refine congrArg₂ (fun p q : EReal => p * q) (congrArg (fun p : EReal => (show EReal from x0 (ix2 s d)) * p) ?_) (congrArg x2 ?_)
  · refine congrArg Ideal.rsqrt ((congrArg (fun i => (show EReal from val_main_v19 (F := Ideal) x0 i)) ?_).trans (ref_msqB x0 s 0))
    funext u; match u with | ⟨0, _⟩ => rfl | ⟨1, _⟩ => rfl
  · funext u; match u with | ⟨0, _⟩ => rfl

theorem ref_left (x0 x1 : (⟨S4096x1024, .f32⟩ : BufTy).Contents (Elt Ideal)) (x2 x3 : (⟨S1024, .f32⟩ : BufTy).Contents (Elt Ideal)) (s : Fin 4096) (d : Fin 1024) (j : S4096x2048.Idx) (h0 : (j 0).val = s.val) (h1 : (j 1).val = d.val) :
    (show EReal from val_main_v27 (F := Ideal) x0 x1 x2 x3 j) = ne (fun k => (show EReal from x0 (ix2 s k))) (fun k => (show EReal from x2 (ix1 k))) d := by
  refine Eq.trans ?_ (refA x0 x2 s d)
  rw [val_main_v27_apply]
  unfold val_main_v26
  exact concatenate_pair_apply_left (s₁ := S4096x1024) (s₂ := S4096x1024) 1 _ _ _ j rfl (ix2 s d) (fun b => match b with | ⟨0, _⟩ => h0.symm | ⟨1, _⟩ => h1.symm)
theorem ref_right (x0 x1 : (⟨S4096x1024, .f32⟩ : BufTy).Contents (Elt Ideal)) (x2 x3 : (⟨S1024, .f32⟩ : BufTy).Contents (Elt Ideal)) (s : Fin 4096) (d : Fin 1024) (j : S4096x2048.Idx) (h0 : (j 0).val = s.val) (h1 : (j 1).val = 1024 + d.val) :
    (show EReal from val_main_v27 (F := Ideal) x0 x1 x2 x3 j) = ne (fun k => (show EReal from x1 (ix2 s k))) (fun k => (show EReal from x3 (ix1 k))) d := by
  refine Eq.trans ?_ (refB x1 x3 s d)
  rw [val_main_v27_apply]
  unfold val_main_v26
  exact concatenate_pair_apply_right (s₁ := S4096x1024) (s₂ := S4096x1024) 1 _ _ _ j rfl rfl (ix2 s d) (fun b hb => match b, hb with | ⟨0, _⟩, _ => h0.symm | ⟨1, _⟩, hb => absurd rfl hb)
    (show d.val + 1024 = (j 1).val by omega)

variable (m : (ℓ : Loc nD τ sig) → Buf (Elt Ideal) ℓ) (c : Dev nD)

theorem hostA (d : Fin 1024) :
    (show EReal from StableHlo.after hostOps0 (fun b => m (c, b)) (Proc.devRef .tc main_v0) (ix2 (0 : Fin 1) d))
      = (show EReal from m (c, Proc.devRef .tc main_arg2) (ix1 d)) := by
  simp (discharger := decide) only [StableHlo.after_cons, StableHlo.after_nil, StableHlo.reshape_result', StableHlo.reshape_result_ne']
  exact shapeCast_apply _ shapeCasts_S1024_S1x1024 (ix2 (0 : Fin 1) d) (ix1 d) (by
    rewrite [Shape.rowMajor_val_one, Shape.rowMajor_val_two]
    show d.val = 0 * 1024 + d.val
    omega)
theorem hostB (d : Fin 1024) :
    (show EReal from StableHlo.after hostOps0 (fun b => m (c, b)) (Proc.devRef .tc main_v1) (ix2 (0 : Fin 1) d))
      = (show EReal from m (c, Proc.devRef .tc main_arg3) (ix1 d)) := by
  simp (discharger := decide) only [StableHlo.after_cons, StableHlo.after_nil, StableHlo.reshape_result', StableHlo.reshape_result_ne']
  exact shapeCast_apply _ shapeCasts_S1024_S1x1024 (ix2 (0 : Fin 1) d) (ix1 d) (by
    rewrite [Shape.rowMajor_val_one, Shape.rowMajor_val_two]
    show d.val = 0 * 1024 + d.val
    omega)

theorem out : (dats m 0 c).arrAt 4 cfg0.N = val_main_v27 (F := Ideal) (m (c, Proc.devRef .tc main_arg0)) (m (c, Proc.devRef .tc main_arg1)) (m (c, Proc.devRef .tc main_arg2)) (m (c, Proc.devRef .tc main_arg3)) := by
  refine (dats m 0 c).arrAt_eq_of_covers 4 _ (by decide +kernel) fun t hf y => ?_
  have ht : t.val < 8 := lt_of_lt_of_eq t.isLt (show cfg0.N = 8 from N_0)
  have gA : ∀ (a : Fin 512) (k : Fin 1024), (show EReal from iblk m c 0 t (ix2 a k)) = (show EReal from m (c, Proc.devRef .tc main_arg0) (ix2 (⟨t.val * 512 + a.val, by omega⟩ : Fin 4096) k)) := fun a k => by
    blk_ext [iblk, V, ix t]
  have gB : ∀ (a : Fin 512) (k : Fin 1024), (show EReal from iblk m c 1 t (ix2 a k)) = (show EReal from m (c, Proc.devRef .tc main_arg1) (ix2 (⟨t.val * 512 + a.val, by omega⟩ : Fin 4096) k)) := fun a k => by
    blk_ext [iblk, V, ix t]
  have wA : ∀ (k : Fin 1024), (show EReal from iblk m c 2 t (ix2 (0 : Fin 1) k)) = (show EReal from m (c, Proc.devRef .tc main_arg2) (ix1 k)) := fun k =>
    Eq.trans (congrArg (V m c main_v0) (by blk_ext [ix t])) (hostA m c k)
  have wB : ∀ (k : Fin 1024), (show EReal from iblk m c 3 t (ix2 (0 : Fin 1) k)) = (show EReal from m (c, Proc.devRef .tc main_arg3) (ix1 k)) := fun k =>
    Eq.trans (congrArg (V m c main_v1) (by blk_ext [ix t])) (hostB m c k)
  obtain ⟨a, e, rfl⟩ : ∃ (a : Fin 512) (e : Fin 2048), y = ix2 a e := ⟨y 0, y 1, by funext u; match u with | ⟨0, _⟩ => rfl | ⟨1, _⟩ => rfl⟩
  by_cases hy : e.val < 1024
  · obtain ⟨b, rfl⟩ : ∃ (b : Fin 1024), e = lft b := ⟨⟨e.val, hy⟩, rfl⟩
    refine Eq.trans ?_ (ref_left _ _ _ _ (⟨t.val * 512 + a.val, by omega⟩ : Fin 4096) b _ (by blk_simp [ix t]) (by blk_simp [ix t])).symm
    blk_simp
    rw [after0_4]
    refine Eq.trans (b := (show EReal from k0_pay1 (F := Ideal) (iblk m c 0 t) (iblk m c 2 t) (ix2 a b))) ?_ ?_
    · frame_out
      canon_tiles x h
      · exact absurd (show b.val = 1024 + (x 1).val from h1) (by omega)
      · exact congrArg _ (funext fun u => match u with | ⟨0, _⟩ => Fin.ext (show (x 0).val = a.val from h0.symm) | ⟨1, _⟩ => Fin.ext (show (x 1).val = b.val by first | exact h1.symm | (have : 1024 + b.val = 1024 + (x 1).val := h1; omega)))
    · exact (pay1 _ _ a b).trans (congrArg₂ (fun p q => ne p q b) (funext (gA a)) (funext wA))
  · obtain ⟨b, rfl⟩ : ∃ (b : Fin 1024), e = rgt b := ⟨⟨e.val - 1024, by omega⟩, Fin.ext (show e.val = 1024 + (e.val - 1024) by omega)⟩
    refine Eq.trans ?_ (ref_right _ _ _ _ (⟨t.val * 512 + a.val, by omega⟩ : Fin 4096) b _ (by blk_simp [ix t]) (by blk_simp [ix t])).symm
    blk_simp
    rw [after0_4]
    refine Eq.trans (b := (show EReal from k0_pay2 (F := Ideal) (iblk m c 1 t) (iblk m c 3 t) (ix2 a b))) ?_ ?_
    · frame_out
      canon_tiles x h
      · exact congrArg _ (funext fun u => match u with | ⟨0, _⟩ => Fin.ext (show (x 0).val = a.val from h0.symm) | ⟨1, _⟩ => Fin.ext (show (x 1).val = b.val by first | exact h1.symm | (have : 1024 + b.val = 1024 + (x 1).val := h1; omega)))
      · exact absurd (show 1024 + b.val = (x 1).val from h1) (by omega)
    · exact (pay2 _ _ a b).trans (congrArg₂ (fun p q => ne p q b) (funext (gB a)) (funext wB))

end Cert.PairFwdIdeal.Hand
-- ==== Proof.PairFwdClaim.lean ====
module
public import proofs.«01_k».proof.Defs
public import proofs.«01_k».proof.Proof.PairFwdValue
public import proofs.«01_k».proof.Proof.Gen.RefPairFwdIdeal.Run
public import Idealize.ShloMosaic.Lib.Quiescent
public import Idealize.ShloMosaic.Adequacy
@[expose] public section
set_option maxRecDepth 16384
noncomputable section

/-! The reference's frame and the value claim of the call. -/

namespace Cert.PairFwdIdeal.Hand
open Cert.PairFwdIdeal Cert.PairFwdIdeal.Gen
open Idealize.ShloMosaic Idealize.SL.Sem

theorem frame_ref : Cert.quiescent_RefPairFwdIdeal := fun m g _ =>
  (θ_run Cert.RefPairFwdIdeal.defs _ _).mono (fun r h => ⟨fun c => (h c).2, sem_eq_zero_of_no_sems (by decide) r.2⟩) (Cert.RefPairFwdIdeal.Value.run (F := Ideal) m g)

set_option maxHeartbeats 4000000 in
theorem value : Cert.algebraic_PairFwdIdeal_RefPairFwdIdeal := by
  intro m g m' g' hpre hag
  refine ⟨fun c => Cert.RefPairFwdIdeal.Read.val_main_v27 (F := Ideal) (m (c, Proc.devRef .tc main_arg0)) (m (c, Proc.devRef .tc main_arg1)) (m (c, Proc.devRef .tc main_arg2)) (m (c, Proc.devRef .tc main_arg3)), ?_, ?_⟩
  · refine (θ_run Cert.PairFwdIdeal.defs _ _).mono (fun r h c => ?_) (Cert.PairFwdIdeal.Value.run_blocks m g)
    exact ⟨(h c).1.trans (out m c), (h c).2⟩
  · refine (θ_run Cert.RefPairFwdIdeal.defs _ _).mono (fun r h c => ⟨(h c).1.trans ?_, (h c).2⟩) (Cert.RefPairFwdIdeal.Value.run (F := Ideal) m' g')
    all_goals obtain ⟨a0, a1, a2, a3⟩ := hag c
    · exact (Cert.RefPairFwdIdeal.Read.val_main_v27_eq _ _ _ _).trans (congr (congr (congr (congrArg (Cert.RefPairFwdIdeal.Read.val_main_v27 (F := Ideal)) a0) a1) a2) a3)

end Cert.PairFwdIdeal.Hand
-- ==== Proof.FoxFwdMath.lean ====
module

public import proofs.«01_k».proof.Proof.FoxMath
@[expose] public section

noncomputable section

namespace Cert.Fox

open Idealize.ShloMosaic Finset

/-! A row's softmax taken block by block: the largest logit so far, the sum of powers of two under it, and the values they
    weigh, over the reals. -/

variable (A C : ℕ → ℕ → ℝ)

/-- What a row carries into its next block, once it is scaled to that block's largest logit `M`: the sums over the first `n`
    keys. -/
def Old (h t n : ℕ) (m l : EReal) (a : Fin 128 → EReal) : Prop :=
  m ≠ ⊤ ∧ ∀ M : ℝ, Ideal.exp2 (m - (M : EReal)) * l = ((∑ s ∈ range n, w A C h t s * Real.rpow 2 (-M) : ℝ) : EReal)
    ∧ ∀ e : Fin 128, Ideal.exp2 (m - (M : EReal)) * a e = ((∑ s ∈ range n, w A C h t s * Real.rpow 2 (-M) * v A h s e.val : ℝ) : EReal)

/-- What a row holds after its first `n` keys. -/
structure Row (h t n : ℕ) (M : ℝ) (m l : EReal) (a : Fin 128 → EReal) : Prop where
  hm : m = (M : EReal)
  hl : l = ((∑ s ∈ range n, w A C h t s * Real.rpow 2 (-M) : ℝ) : EReal)
  ha : ∀ e : Fin 128, a e = ((∑ s ∈ range n, w A C h t s * Real.rpow 2 (-M) * v A h s e.val : ℝ) : EReal)

theorem old_zero (h t : ℕ) (m l : EReal) (a : Fin 128 → EReal) (hm : m = ⊥) (hl : l = ((0 : ℝ) : EReal)) (ha : ∀ e, a e = ((0 : ℝ) : EReal)) :
    Old A C h t 0 m l a := by
  subst hm; subst hl
  refine ⟨bot_ne_top, fun M => ⟨?_, fun e => ?_⟩⟩
  · rw [EReal.bot_sub, Ideal.exp2_bot, zero_mul, range_zero, sum_empty]; rfl
  · rw [EReal.bot_sub, Ideal.exp2_bot, zero_mul, range_zero, sum_empty]; rfl

theorem rpow_shift (M M' : ℝ) : Real.rpow 2 (M - M') * Real.rpow 2 (-M) = Real.rpow 2 (-M') := by
  show (2 : ℝ) ^ (M - M') * (2 : ℝ) ^ (-M) = (2 : ℝ) ^ (-M')
  rw [← Real.rpow_add (by norm_num)]
  congr 1; ring

variable {A C}
theorem Row.old {h t n : ℕ} {M : ℝ} {m l : EReal} {a : Fin 128 → EReal} (R : Row A C h t n M m l a) : Old A C h t n m l a := by
  obtain ⟨hm, hl, ha⟩ := R
  subst hm
  refine ⟨EReal.coe_ne_top _, fun M' => ⟨?_, fun e => ?_⟩⟩
  · rw [hl, ← EReal.coe_sub, Ideal.exp2_coe, ← EReal.coe_mul]
    refine congrArg _ ?_
    rw [mul_sum]
    refine sum_congr rfl fun s _ => ?_
    rw [← rpow_shift M M']; ring
  · rw [ha e, ← EReal.coe_sub, Ideal.exp2_coe, ← EReal.coe_mul]
    refine congrArg _ ?_
    rw [mul_sum]
    refine sum_congr rfl fun s _ => ?_
    rw [← rpow_shift M M']; ring

/-- A power of two of a logit in base two, under any shift. -/
theorem pow_w (h t s : ℕ) (M : ℝ) (y : EReal) (hy : y = if s ≤ t then ((z A C h t s / Real.log 2 : ℝ) : EReal) else ⊥) :
    Ideal.exp2 (y - (M : EReal)) = ((w A C h t s * Real.rpow 2 (-M) : ℝ) : EReal) := by
  have h2 : Real.log 2 ≠ 0 := (Real.log_pos one_lt_two).ne'
  subst hy
  unfold w
  split_ifs with hs
  · rw [← EReal.coe_sub, Ideal.exp2_coe]
    refine congrArg _ ?_
    show (2 : ℝ) ^ (z A C h t s / Real.log 2 - M) = Real.exp (z A C h t s) * (2 : ℝ) ^ (-M)
    rw [sub_eq_add_neg, Real.rpow_add (by norm_num)]
    congr 1
    rw [Real.rpow_def_of_pos (by norm_num), mul_div_cancel₀ _ h2]
  · rw [EReal.bot_sub, Ideal.exp2_bot, zero_mul]; rfl

/-- One block. -/
theorem step {h t n : ℕ} {m l : EReal} {a : Fin 128 → EReal} (O : Old A C h t n m l a) (hn : n ≤ t)
    (y : Fin 1024 → EReal) (hy : ∀ b : Fin 1024, y b = if n + b.val ≤ t then ((z A C h t (n + b.val) / Real.log 2 : ℝ) : EReal) else ⊥)
    (x : Fin 1024 → Fin 128 → EReal) (hx : ∀ (b : Fin 1024) (e : Fin 128), x b e = ((v A h (n + b.val) e.val : ℝ) : EReal))
    (m' l' : EReal) (a' : Fin 128 → EReal) (hm' : m' = max m ((univ : Finset (Fin 1024)).fold max ⊥ y))
    (hl' : l' = Ideal.exp2 (m - m') * l + ∑ b, Ideal.exp2 (y b - m'))
    (ha' : ∀ e, a' e = Ideal.exp2 (m - m') * a e + ∑ b, Ideal.exp2 (y b - m') * x b e) :
    ∃ M : ℝ, Row A C h t (n + 1024) M m' l' a' := by
  obtain ⟨M1, hM1⟩ := fold_max_real (n := 1024) y 0 (by
    rw [hy 0, if_pos (show n + ((0 : Fin 1024) : ℕ) ≤ t from hn)]; exact EReal.coe_ne_bot _) (fun b => by
    rw [hy b]; split_ifs
    · exact EReal.coe_ne_top _
    · exact bot_ne_top)
  rw [hM1] at hm'
  have ht : m' ≠ ⊤ := by
    rw [hm']; intro e
    rcases max_choice m (M1 : EReal) with e' | e' <;> rw [e'] at e
    · exact O.1 e
    · exact EReal.coe_ne_top _ e
  have hb : m' ≠ ⊥ := by
    rw [hm']; intro e
    have := le_max_right m (M1 : EReal)
    rw [e] at this
    exact EReal.coe_ne_bot _ (le_bot_iff.1 this)
  have hM : m' = ((m'.toReal : ℝ) : EReal) := (EReal.coe_toReal ht hb).symm
  generalize m'.toReal = M at hM
  refine ⟨M, hM, ?_, fun e => ?_⟩
  · rw [hl', hM, (O.2 M).1, esum_of 1024 _ (fun b => w A C h t (n + b) * Real.rpow 2 (-M)) (fun b => pow_w h t (n + b.val) M _ (hy b)),
      ← EReal.coe_add, sum_range_add]
  · rw [ha' e, hM, (O.2 M).2 e, esum_of 1024 _ (fun b => w A C h t (n + b) * Real.rpow 2 (-M) * v A h (n + b) e.val) (fun b => by
        rw [pow_w h t (n + b.val) M _ (hy b), hx b e, ← EReal.coe_mul]),
      ← EReal.coe_add, sum_range_add]

/-- A row whose keys are all met. -/
theorem Row.sum {h t n : ℕ} (ht : t < n) (hn : n ≤ 4096) : ∑ s ∈ range n, w A C h t s = L A C h t := by
  unfold L
  refine sum_subset (range_subset_range.2 hn) fun s _ hs => ?_
  unfold w
  rw [if_neg (by rw [mem_range] at hs; omega)]
theorem Row.l_eq {h t n : ℕ} {M : ℝ} {m l : EReal} {a : Fin 128 → EReal} (R : Row A C h t n M m l a) (ht : t < n) (hn : n ≤ 4096) :
    l = ((L A C h t * Real.rpow 2 (-M) : ℝ) : EReal) := by
  rw [R.hl, ← sum_mul, Row.sum ht hn]
theorem two_pos (M : ℝ) : 0 < Real.rpow 2 (-M) := Real.rpow_pos_of_pos (by norm_num) _
theorem Row.out {h t n : ℕ} {M : ℝ} {m l : EReal} {a : Fin 128 → EReal} (R : Row A C h t n M m l a) (ht : t < n) (hn : n ≤ 4096) (e : Fin 128) :
    Ideal.div (a e) l = ((o A C h t e.val : ℝ) : EReal) := by
  have hL := L_pos A C h t (by omega)
  have hp := two_pos M
  rw [R.l_eq ht hn, R.ha e, div_coe_coe _ _ (mul_pos hL hp).ne']
  refine congrArg _ ?_
  unfold o p
  rw [sum_div]
  refine sum_subset_zero_on_sdiff (range_subset_range.2 hn) (fun s hs => ?_) (fun s _ => ?_)
  · unfold w
    rw [if_neg (by rw [mem_sdiff, mem_range, mem_range] at hs; omega), zero_div, mul_zero]
  · have := hL.ne'; have := hp.ne'; field_simp
theorem Row.logsum {h t n : ℕ} {M : ℝ} {m l : EReal} {a : Fin 128 → EReal} (R : Row A C h t n M m l a) (ht : t < n) (hn : n ≤ 4096) :
    m + Ideal.div (Ideal.log l) (Ideal.log ((2 : ℝ) : EReal)) = ((Real.log (L A C h t) / Real.log 2 : ℝ) : EReal) := by
  have hL := L_pos A C h t (by omega)
  have hp := two_pos M
  have h2 : Real.log 2 ≠ 0 := (Real.log_pos one_lt_two).ne'
  rw [R.hm, R.l_eq ht hn, Ideal.log_coe, Ideal.log_coe, if_neg (not_le.2 (mul_pos hL hp)), if_neg (by norm_num), div_coe_coe _ _ h2, ← EReal.coe_add]
  refine congrArg _ ?_
  rw [Real.log_mul hL.ne' hp.ne', show Real.log (Real.rpow 2 (-M)) = -M * Real.log 2 from Real.log_rpow (by norm_num) _]
  field_simp; ring

end Cert.Fox

end
-- ==== Proof.FoxFwdPay.lean ====
module
public import proofs.«01_k».proof.Proof.Gen.FoxFwdIdeal.Value
public import proofs.«01_k».proof.Proof.FoxFwdMath
public import proofs.«01_k».proof.Proof.ReferenceIdealValue
public import Idealize.ShloMosaic.Lib.Pipeline.ValueKit
public import Idealize.ShloMosaic.Lib.WordCmp
public import Idealize.ShloMosaic.Lib.Pointwise.Tactic
@[expose] public section
set_option maxRecDepth 16384
noncomputable section

/-! What one grid point of the forward call computes, over the reals. -/

namespace Cert.FoxFwdIdeal.Hand
open Cert.FoxFwdIdeal Cert.FoxFwdIdeal.Gen
open Idealize.ShloMosaic Cert.Fox Finset
open Cert.ReferenceIdeal.Hand (cE sel_sle)

set_option maxHeartbeats 2000000

/-! The named constants. -/
theorem at_scale2 : (show EReal from (Named.named κ "scale2" 0x3E0293EE#32 : Ideal .f32)) = ((1048576 / 11863283 * (Real.log 2)⁻¹ : ℝ) : EReal) :=
  IdealRules.named_const.ideal_named_scalar _ _ _ _ rfl
theorem at_mask : (show EReal from (Named.named κ "mask" 0xF149F2CA#32 : Ideal .f32)) = (⊥ : EReal) :=
  IdealRules.named_const.ideal_named_scalar _ _ _ _ rfl

/-! The payloads at an index. -/
section
variable (a b : Fin 1024) (z : Fin 1) (e : Fin 128) (x0 x1 x2 x3 x4 : Vec Ideal S1024x128 .bf16) (mo lo : Vec Ideal S1024x1 .f32) (ao : Vec Ideal S1024x128 .f32)
theorem off_apply : (show EReal from k0_pay3 x0 x2 x1 x3 (ix2 a b))
    = ((∑ x, (show EReal from x0 (ix2 a x)) * (show EReal from x2 (ix2 b x)) + ∑ x, (show EReal from x1 (ix2 a x)) * (show EReal from x3 (ix2 b x))) * (show EReal from (Named.named κ "scale2" 0x3E0293EE#32 : Ideal .f32)) : EReal) := by
  unfold k0_pay3
  pointwise
  all_goals rfl
theorem dia_apply : (show EReal from k0_pay11 x0 x2 x1 x3 (ix2 a b))
    = Scalar.select (IntOp.cmpi .sle (BitVec.ofNat 32 b.val) (BitVec.ofNat 32 a.val)) ((∑ x, (show EReal from x0 (ix2 a x)) * (show EReal from x2 (ix2 b x)) + ∑ x, (show EReal from x1 (ix2 a x)) * (show EReal from x3 (ix2 b x))) * (show EReal from (Named.named κ "scale2" 0x3E0293EE#32 : Ideal .f32)) : EReal)
        (show EReal from (Named.named κ "mask" 0xF149F2CA#32 : Ideal .f32)) := by
  unfold k0_pay11
  pointwise
  all_goals rfl
theorem maxOff : (show EReal from k0_pay4 x0 x2 x1 x3 mo (ix2 a z))
    = max (show EReal from mo (ix2 a z)) ((univ : Finset (Fin 1024)).fold max ⊥ fun b => (show EReal from k0_pay3 x0 x2 x1 x3 (ix2 a b))) := by
  unfold k0_pay4
  generalize k0_pay3 x0 x2 x1 x3 = y
  pointwise
  rw [Cert.ReferenceIdeal.Hand.ofBits_bot]
theorem maxDia : (show EReal from k0_pay12 x0 x2 x1 x3 mo (ix2 a z))
    = max (show EReal from mo (ix2 a z)) ((univ : Finset (Fin 1024)).fold max ⊥ fun b => (show EReal from k0_pay11 x0 x2 x1 x3 (ix2 a b))) := by
  unfold k0_pay12
  generalize k0_pay11 x0 x2 x1 x3 = y
  pointwise
  rw [Cert.ReferenceIdeal.Hand.ofBits_bot]
theorem mOff : k0_pay21 (k0_pay4 x0 x2 x1 x3 mo) (ix2 a z) = k0_pay4 x0 x2 x1 x3 mo (ix2 a z) := by
  generalize k0_pay4 x0 x2 x1 x3 mo = y
  unfold k0_pay21
  pointwise
theorem mDia : k0_pay23 (k0_pay12 x0 x2 x1 x3 mo) (ix2 a z) = k0_pay12 x0 x2 x1 x3 mo (ix2 a z) := by
  generalize k0_pay12 x0 x2 x1 x3 mo = y
  unfold k0_pay23
  pointwise
theorem lOff : (show EReal from k0_pay7 x0 x2 x1 x3 mo lo (ix2 a z))
    = Ideal.exp2 ((show EReal from mo (ix2 a z)) - (show EReal from k0_pay4 x0 x2 x1 x3 mo (ix2 a z))) * (show EReal from lo (ix2 a z))
      + ∑ b, Ideal.exp2 ((show EReal from k0_pay3 x0 x2 x1 x3 (ix2 a b)) - (show EReal from k0_pay4 x0 x2 x1 x3 mo (ix2 a z))) := by
  unfold k0_pay7 k0_pay6 k0_pay5
  generalize k0_pay4 x0 x2 x1 x3 mo = n
  generalize k0_pay3 x0 x2 x1 x3 = y
  pointwise
  obtain rfl : z = 0 := Subsingleton.elim _ _
  rfl
theorem lDia : (show EReal from k0_pay15 x0 x2 x1 x3 mo lo (ix2 a z))
    = Ideal.exp2 ((show EReal from mo (ix2 a z)) - (show EReal from k0_pay12 x0 x2 x1 x3 mo (ix2 a z))) * (show EReal from lo (ix2 a z))
      + ∑ b, Ideal.exp2 ((show EReal from k0_pay11 x0 x2 x1 x3 (ix2 a b)) - (show EReal from k0_pay12 x0 x2 x1 x3 mo (ix2 a z))) := by
  unfold k0_pay15 k0_pay14 k0_pay13
  generalize k0_pay12 x0 x2 x1 x3 mo = n
  generalize k0_pay11 x0 x2 x1 x3 = y
  pointwise
  obtain rfl : z = 0 := Subsingleton.elim _ _
  rfl
theorem aOff : (show EReal from k0_pay20 (k0_pay8 x0 x2 x1 x3 mo ao) (k0_pay9 x0 x2 x1 x3 mo) (k0_pay10 x4) (constant S1024x128 .f32 0x00000000#32) (ix2 a e))
    = Ideal.exp2 ((show EReal from mo (ix2 a 0)) - (show EReal from k0_pay4 x0 x2 x1 x3 mo (ix2 a 0))) * (show EReal from ao (ix2 a e))
      + ∑ b, Ideal.exp2 ((show EReal from k0_pay3 x0 x2 x1 x3 (ix2 a b)) - (show EReal from k0_pay4 x0 x2 x1 x3 mo (ix2 a 0))) * (show EReal from x4 (ix2 b e)) := by
  unfold k0_pay20 k0_pay8 k0_pay9 k0_pay10 k0_pay6 k0_pay5
  generalize k0_pay4 x0 x2 x1 x3 mo = n
  generalize k0_pay3 x0 x2 x1 x3 = y
  pointwise
  all_goals rfl
theorem aDia : (show EReal from k0_pay22 (k0_pay14 x0 x2 x1 x3 mo) (k0_pay16 x0 x2 x1 x3 mo ao) x4 (ix2 a e))
    = Ideal.exp2 ((show EReal from mo (ix2 a 0)) - (show EReal from k0_pay12 x0 x2 x1 x3 mo (ix2 a 0))) * (show EReal from ao (ix2 a e))
      + ∑ b, Ideal.exp2 ((show EReal from k0_pay11 x0 x2 x1 x3 (ix2 a b)) - (show EReal from k0_pay12 x0 x2 x1 x3 mo (ix2 a 0))) * (show EReal from x4 (ix2 b e)) := by
  unfold k0_pay22 k0_pay16 k0_pay14 k0_pay13
  generalize k0_pay12 x0 x2 x1 x3 mo = n
  generalize k0_pay11 x0 x2 x1 x3 = y
  pointwise
  all_goals rfl
theorem m_init : (show EReal from k0_pay17 (F := Ideal) (ix2 a z)) = ⊥ := by
  refine Eq.trans ?_ at_mask
  unfold k0_pay17
  pointwise
  all_goals rfl
theorem l_init : (show EReal from k0_pay18 (F := Ideal) (ix2 a z)) = ((0 : ℝ) : EReal) := by
  refine Eq.trans ?_ Ideal.ofBits_zero_f32
  unfold k0_pay18
  pointwise
theorem a_init : (show EReal from k0_pay19 (F := Ideal) (ix2 a e)) = ((0 : ℝ) : EReal) := by
  refine Eq.trans ?_ Ideal.ofBits_zero_f32
  unfold k0_pay19
  pointwise
theorem o_apply : (show EReal from k0_pay1 ao lo (ix2 a e)) = Ideal.div (show EReal from ao (ix2 a e)) (show EReal from lo (ix2 a 0)) := by
  unfold k0_pay1
  pointwise
  all_goals rfl
theorem lse_apply : (show EReal from k0_pay2 mo lo (ix2 a e))
    = (show EReal from mo (ix2 a 0)) + Ideal.div (Ideal.log (show EReal from lo (ix2 a 0))) (Ideal.log (Ideal.ofBits .f32 0x40000000#32)) := by
  unfold k0_pay2
  pointwise
  all_goals rfl
end
end Cert.FoxFwdIdeal.Hand
end
-- ==== Proof.RefFoxFwdValue.lean ====
module

public import proofs.«01_k».proof.Proof.Gen.RefFoxFwdIdeal.Read
public import proofs.«01_k».proof.Proof.ReferenceIdealValue
public import Idealize.ShloMosaic.Lib.WordCmp
public import Idealize.ShloMosaic.Lib.IdealHost
public import Idealize.ShloMosaic.Lib.ReduceAll
public import Idealize.ShloMosaic.Lib.Pointwise.Tactic
@[expose] public section

set_option maxRecDepth 16384

noncomputable section

/-! The forward call's reference: its values over the reals, one operation after another, for finite arguments. -/

namespace Cert.RefFoxFwdIdeal.Hand

open Cert.RefFoxFwdIdeal Cert.RefFoxFwdIdeal.Gen Cert.RefFoxFwdIdeal.Read
open Idealize.ShloMosaic Cert.Fox Finset
open Cert.ReferenceIdeal.Hand (cE sel_sle ofBits_root ofBits_bot)

variable (A C : ℕ → ℕ → ℝ)
variable (x0 : (⟨S4096x3072, .f32⟩ : BufTy).Contents (Elt Ideal)) (x1 : (⟨S8x4096, .f32⟩ : BufTy).Contents (Elt Ideal))

/-- The arguments hold the reals `A`, `C`. -/
def IsA : Prop := ∀ i : S4096x3072.Idx, (show EReal from x0 i) = ((A (i 0).val (i 1).val : ℝ) : EReal)
def IsC : Prop := ∀ i : S8x4096.Idx, (show EReal from x1 i) = ((C (i 0).val (i 1).val : ℝ) : EReal)

section
variable {A x0} (hA : IsA A x0)
include hA
theorem v3 (i : S4096x8x128.Idx) : (show EReal from val_main_v3 (F := Ideal) x0 i) = ((q A (i 1).val (i 0).val (i 2).val : ℝ) : EReal) := by
  have h0 : (i 0).val < 4096 := (i 0).isLt
  have h1 : (i 1).val < 8 := (i 1).isLt
  have h2 : (i 2).val < 128 := (i 2).isLt
  rw [val_main_v3_apply, val_main_v0_apply]
  refine (hA _).trans (cE (congrArg₂ A ?_ ?_))
  · show (((i 0).val * 8 + (i 1).val) * 128 + (i 2).val) / 1024 = (i 0).val; omega
  · show (((i 0).val * 8 + (i 1).val) * 128 + (i 2).val) % 1024 = 128 * (i 1).val + (i 2).val; omega
theorem v4 (i : S4096x8x128.Idx) : (show EReal from val_main_v4 (F := Ideal) x0 i) = ((k A (i 1).val (i 0).val (i 2).val : ℝ) : EReal) := by
  have h0 : (i 0).val < 4096 := (i 0).isLt
  have h1 : (i 1).val < 8 := (i 1).isLt
  have h2 : (i 2).val < 128 := (i 2).isLt
  rw [val_main_v4_apply, val_main_v1_apply]
  refine (hA _).trans (cE (congrArg₂ A ?_ ?_))
  · show (((i 0).val * 8 + (i 1).val) * 128 + (i 2).val) / 1024 = (i 0).val; omega
  · show 1024 + (((i 0).val * 8 + (i 1).val) * 128 + (i 2).val) % 1024 = 1024 + (128 * (i 1).val + (i 2).val); omega
theorem v5 (i : S4096x8x128.Idx) : (show EReal from val_main_v5 (F := Ideal) x0 i) = ((v A (i 1).val (i 0).val (i 2).val : ℝ) : EReal) := by
  have h0 : (i 0).val < 4096 := (i 0).isLt
  have h1 : (i 1).val < 8 := (i 1).isLt
  have h2 : (i 2).val < 128 := (i 2).isLt
  rw [val_main_v5_apply, val_main_v2_apply]
  refine (hA _).trans (cE (congrArg₂ A ?_ ?_))
  · show (((i 0).val * 8 + (i 1).val) * 128 + (i 2).val) / 1024 = (i 0).val; omega
  · show 2048 + (((i 0).val * 8 + (i 1).val) * 128 + (i 2).val) % 1024 = 2048 + (128 * (i 1).val + (i 2).val); omega
theorem v6 (i : S8x4096x4096.Idx) : (show EReal from val_main_v6 (F := Ideal) x0 i) = ((qk A (i 0).val (i 1).val (i 2).val : ℝ) : EReal) := by
  rw [val_main_v6_apply]
  refine esum_of 128 _ (fun e => q A (i 0).val (i 1).val e * k A (i 0).val (i 2).val e) fun e => ?_
  exact (congrArg₂ (fun a b : EReal => a * b) (v3 hA _) (v4 hA _)).trans (EReal.coe_mul _ _).symm
theorem v8 (i : S8x4096x4096.Idx) : (show EReal from val_main_v8 (F := Ideal) x0 i) = ((qk A (i 0).val (i 1).val (i 2).val / root : ℝ) : EReal) := by
  rw [val_main_v8_apply, val_main_v7_apply, val_main_cst_apply]
  show Ideal.div (val_main_v6 (F := Ideal) x0 i) (Ideal.ofBits .f32 0x413504F3#32) = _
  rw [ofBits_root, ← div_coe_coe _ _ root_ne]
  exact congrArg (fun a => Ideal.div a _) (v6 hA i)
end

section
variable {C x1} (hC : IsC C x1)
include hC
theorem v13 (i : S8x4096x4096.Idx) : (show EReal from val_main_v13 (F := Ideal) x1 i) = ((C (i 0).val (i 1).val - C (i 0).val (i 2).val : ℝ) : EReal) := by
  rw [val_main_v13_apply, val_main_v11_apply, val_main_v12_apply, val_main_v9_apply, val_main_v10_apply]
  exact (congrArg₂ (fun a b : EReal => a - b) (hC _) (hC _)).trans (EReal.coe_sub _ _).symm
end

section
variable {A C x0 x1} (hA : IsA A x0) (hC : IsC C x1)
include hA hC
theorem v14 (i : S8x4096x4096.Idx) : (show EReal from val_main_v14 (F := Ideal) x0 x1 i) = ((z A C (i 0).val (i 1).val (i 2).val : ℝ) : EReal) := by
  rw [val_main_v14_apply]
  exact (congrArg₂ (fun a b : EReal => a + b) (v8 hA i) (v13 hC i)).trans (EReal.coe_add _ _).symm
end

theorem v21 (i : S8x4096x4096.Idx) (x y : EReal) : Scalar.select (val_main_v21 (F := Ideal) i) x y = if (i 2).val ≤ (i 1).val then x else y := by
  rw [val_main_v21_apply, val_main_v20_apply, val_main_v18_apply, val_main_v19_apply, val_main_v16_apply, val_main_v17_apply, val_main_v15_apply, val_main_v15_apply]
  exact sel_sle (i 2).val (i 1).val (i 2).isLt (i 1).isLt x y

section
variable {A C x0 x1} (hA : IsA A x0) (hC : IsC C x1)
include hA hC
theorem v23 (i : S8x4096x4096.Idx) : (show EReal from val_main_v23 (F := Ideal) x0 x1 i)
    = if (i 2).val ≤ (i 1).val then ((z A C (i 0).val (i 1).val (i 2).val : ℝ) : EReal) else ⊥ := by
  rw [val_main_v23_apply, val_main_v22_apply, val_main_cst_0_apply]
  refine (v21 i _ _).trans ?_
  show (if (i 2).val ≤ (i 1).val then (show EReal from val_main_v14 (F := Ideal) x0 x1 i) else Ideal.ofBits .f32 0xFF800000#32) = _
  rw [ofBits_bot, v14 hA hC i]
end

/-- The rows' largest logits. -/
def Mx (h t : ℕ) : ℝ := if hh : h < 8 ∧ t < 4096 then
  EReal.toReal (show EReal from val_main_v24 (F := Ideal) x0 x1 (ix2 ⟨h, hh.1⟩ ⟨t, hh.2⟩)) else 0

section
variable {A C x0 x1} (hA : IsA A x0) (hC : IsC C x1)
include hA hC
theorem v24_real (i : S8x4096.Idx) : ∃ M : ℝ, (show EReal from val_main_v24 (F := Ideal) x0 x1 i) = (M : EReal) := by
  have hh : S8x4096x4096.Reduces [2] S8x4096 := by decide
  have e : (show EReal from val_main_v24 (F := Ideal) x0 x1 i) = _ := Host.reduce_eq_fold_single (f := (FloatOps.maximumf : Ideal .f32 → Ideal .f32 → Ideal .f32)) (val_main_v23 (F := Ideal) x0 x1) (val_main_cst_1 (F := Ideal)) reducesTo_S8x4096x4096_S8x4096_d2 hh h_S_ i
  rw [e]
  have hb : (show EReal from val_main_cst_1 (F := Ideal) (Shape.Idx.first h_S_)) = ⊥ := ofBits_bot
  obtain ⟨M, hM⟩ := fold_max_real (n := 4096) (fun s => (show EReal from val_main_v23 (F := Ideal) x0 x1 (hh.lift i s))) (i 1) (by
      refine ne_of_eq_of_ne (v23 hA hC _) ?_
      rw [if_pos (show (hh.lift i (i 1) 2).val ≤ (hh.lift i (i 1) 1).val from le_refl _)]; exact EReal.coe_ne_bot _) (fun s => by
      refine ne_of_eq_of_ne (v23 hA hC _) ?_
      split_ifs
      · exact EReal.coe_ne_top _
      · exact bot_ne_top)
  refine ⟨M, Eq.trans ?_ hM⟩
  exact congrArg (fun b : EReal => (Finset.univ : Finset (Fin 4096)).fold max b (fun s => (show EReal from val_main_v23 (F := Ideal) x0 x1 (hh.lift i s)))) hb
theorem v24 (i : S8x4096.Idx) : (show EReal from val_main_v24 (F := Ideal) x0 x1 i) = ((Mx x0 x1 (i 0).val (i 1).val : ℝ) : EReal) := by
  obtain ⟨M, hM⟩ := v24_real hA hC i
  have e : ix2 (i 0) (i 1) = i := by funext a; match a with | ⟨0, _⟩ => rfl | ⟨1, _⟩ => rfl
  rw [hM]; refine cE ?_
  unfold Mx
  rw [dif_pos ⟨(i 0).isLt, (i 1).isLt⟩]
  have e2 : (ix2 ⟨(i 0).val, (i 0).isLt⟩ ⟨(i 1).val, (i 1).isLt⟩ : S8x4096.Idx) = i := e
  rw [e2]
  show M = EReal.toReal (show EReal from val_main_v24 (F := Ideal) x0 x1 i)
  rw [hM, EReal.toReal_coe]
theorem v28 (i : S8x4096x4096.Idx) : (show EReal from val_main_v28 (F := Ideal) x0 x1 i)
    = ((w A C (i 0).val (i 1).val (i 2).val * Real.exp (-Mx x0 x1 (i 0).val (i 1).val) : ℝ) : EReal) := by
  rw [val_main_v28_apply, val_main_v27_apply, val_main_v26_apply, val_main_v25_apply]
  show Ideal.exp ((show EReal from val_main_v23 (F := Ideal) x0 x1 i) - (show EReal from val_main_v24 (F := Ideal) x0 x1 _)) = _
  rw [v23 hA hC i, v24 hA hC]
  unfold w
  split_ifs with h
  · rw [← EReal.coe_sub, Ideal.exp_coe]; refine cE ?_
    rw [← Real.exp_add]; rfl
  · rw [EReal.bot_sub, Ideal.exp_bot, zero_mul]; rfl
theorem v29 (i : S8x4096.Idx) : (show EReal from val_main_v29 (F := Ideal) x0 x1 i)
    = ((L A C (i 0).val (i 1).val * Real.exp (-Mx x0 x1 (i 0).val (i 1).val) : ℝ) : EReal) := by
  rw [val_main_v29_apply, val_main_cst_2_apply]
  have e0 : (show EReal from (FloatOps.ofBits .f32 0x00000000#32 : Ideal .f32)) = 0 := Ideal.ofBits_zero_f32
  have e1 := esum_of 4096 (fun s => (show EReal from val_main_v28 (F := Ideal) x0 x1 (idx_main_v29 i s))) (fun s => w A C (i 0).val (i 1).val s * Real.exp (-Mx x0 x1 (i 0).val (i 1).val)) (fun s => v28 hA hC _)
  refine ((congrArg₂ (fun a b : EReal => a + b) e0 e1).trans (zero_add _)).trans (cE ?_)
  unfold L; rw [sum_mul]
theorem v30 (i : S8x4096x1.Idx) : (show EReal from val_main_v30 (F := Ideal) x0 x1 i)
    = ((L A C (i 0).val (i 1).val * Real.exp (-Mx x0 x1 (i 0).val (i 1).val) : ℝ) : EReal) := by
  rw [val_main_v30_apply]; exact v29 hA hC _
omit hA hC in
theorem La_ne (h t : ℕ) (ht : t < 4096) : L A C h t * Real.exp (-Mx x0 x1 h t) ≠ 0 :=
  mul_ne_zero (L_pos A C h t ht).ne' (Real.exp_pos _).ne'
theorem v32 (i : S8x4096x4096.Idx) : (show EReal from val_main_v32 (F := Ideal) x0 x1 i) = ((p A C (i 0).val (i 1).val (i 2).val : ℝ) : EReal) := by
  rw [val_main_v32_apply, val_main_v31_apply]
  refine (congrArg₂ (fun a b : EReal => Ideal.div a b) (v28 hA hC i) (v30 hA hC _)).trans ?_
  refine (div_coe_coe _ _ (La_ne _ _ (i 1).isLt)).trans (cE ?_)
  exact mul_div_mul_right _ _ (Real.exp_pos _).ne'
theorem v34 (i : S4096x8x128.Idx) : (show EReal from val_main_v34 (F := Ideal) x0 x1 i) = ((o A C (i 1).val (i 0).val (i 2).val : ℝ) : EReal) := by
  rw [val_main_v34_apply, val_main_v33_apply]
  refine esum_of 4096 _ (fun s => v A (i 1).val s (i 2).val * p A C (i 1).val (i 0).val s) fun s => ?_
  exact (congrArg₂ (fun a b : EReal => a * b) (v5 hA _) (v32 hA hC _)).trans (EReal.coe_mul _ _).symm
/-- The output, and the rows' log sums in base two over the lanes. -/
theorem v35 (i : S4096x1024.Idx) : (show EReal from val_main_v35 (F := Ideal) x0 x1 i) = ((o A C ((i 1).val / 128) (i 0).val ((i 1).val % 128) : ℝ) : EReal) := by
  have h1 : (i 1).val < 1024 := (i 1).isLt
  rw [val_main_v35_apply]
  refine (v34 hA hC _).trans (cE ?_)
  have e0 : (idx_main_v35 i 0).val = (i 0).val := by show ((i 0).val * 1024 + (i 1).val) / 1024 = (i 0).val; omega
  have e1 : (idx_main_v35 i 1).val = (i 1).val / 128 := by show ((i 0).val * 1024 + (i 1).val) / 128 % 8 = (i 1).val / 128; omega
  have e2 : (idx_main_v35 i 2).val = (i 1).val % 128 := by show ((i 0).val * 1024 + (i 1).val) % 128 = (i 1).val % 128; omega
  rw [e0, e1, e2]
theorem v41 (i : S8x4096x1.Idx) : (show EReal from val_main_v41 (F := Ideal) x0 x1 i) = ((Real.log (L A C (i 0).val (i 1).val) / Real.log 2 : ℝ) : EReal) := by
  have hL := L_pos A C (i 0).val (i 1).val (i 1).isLt
  have hp := mul_pos hL (Real.exp_pos (-Mx x0 x1 (i 0).val (i 1).val))
  have h2 : Real.log 2 ≠ 0 := (Real.log_pos one_lt_two).ne'
  have e3 : Ideal.ofBits .f32 0x40000000#32 = ((2 : ℝ) : EReal) := by
    simp [Ideal.ofBits, Ideal.ieee, -EReal.coe_mul]; norm_num
  rw [val_main_v41_apply, val_main_v37_apply, val_main_v25_apply, val_main_v36_apply, val_main_v40_apply, val_main_v39_apply, val_main_v38_apply, val_main_cst_3_apply]
  refine (congrArg₂ (fun a b : EReal => Ideal.div (a + Ideal.log b) (Ideal.log (Ideal.ofBits .f32 0x40000000#32))) (v24 hA hC _) (v30 hA hC i)).trans ?_
  rw [e3, Ideal.log_coe, Ideal.log_coe, if_neg (not_le.2 hp), if_neg (by norm_num), ← EReal.coe_add, div_coe_coe _ _ h2]
  refine cE ?_
  rw [Real.log_mul hL.ne' (Real.exp_pos _).ne', Real.log_exp]
  show (Mx x0 x1 (i 0).val (i 1).val + _) / _ = _
  congr 1; ring
theorem v44 (i : S4096x1024.Idx) : (show EReal from val_main_v44 (F := Ideal) x0 x1 i) = ((Real.log (L A C ((i 1).val / 128) (i 0).val) / Real.log 2 : ℝ) : EReal) := by
  have h1 : (i 1).val < 1024 := (i 1).isLt
  rw [val_main_v44_apply, val_main_v43_apply, val_main_v42_apply]
  refine (v41 hA hC _).trans (cE ?_)
  have e0 : (idx_main_v42 (idx_main_v43 (idx_main_v44 i)) 1).val = (i 0).val := by show ((i 0).val * 1024 + (i 1).val) / 1024 = (i 0).val; omega
  have e1 : (idx_main_v42 (idx_main_v43 (idx_main_v44 i)) 0).val = (i 1).val / 128 := by show ((i 0).val * 1024 + (i 1).val) / 128 % 8 = (i 1).val / 128; omega
  rw [e0, e1]
end

end Cert.RefFoxFwdIdeal.Hand
end
-- ==== Proof.FoxFwdHost.lean ====
module
public import proofs.«01_k».proof.Proof.Gen.FoxFwdIdeal.Frame
public import proofs.«01_k».proof.Proof.RefFoxFwdValue
public import Idealize.ShloMosaic.Lib.StableHlo.ReadAt
public import Idealize.ShloMosaic.Lib.Pointwise.Tactic
@[expose] public section
set_option maxRecDepth 16384
noncomputable section

/-! What the kernel's host operations leave in the windows' arrays, over the reals. -/

namespace Cert.FoxFwdIdeal.Hand
open Cert.FoxFwdIdeal Cert.FoxFwdIdeal.Gen
open Idealize.ShloMosaic Cert.Fox
open Cert.RefFoxFwdIdeal.Hand (IsA IsC)
open Cert.ReferenceIdeal.Hand (cE)

set_option maxHeartbeats 2000000

variable (m : (ℓ : Loc nD τ sig) → Buf (Elt Ideal) ℓ) (c : Dev nD)

/-- The two arguments. -/
def X0 : (⟨S4096x3072, .f32⟩ : BufTy).Contents (Elt Ideal) := m (c, Proc.devRef .tc main_arg0)
def X1 : (⟨S8x4096, .f32⟩ : BufTy).Contents (Elt Ideal) := m (c, Proc.devRef .tc main_arg1)

/-! The operations used here, as functions. -/
def hflat {φ : FTy} (y : FVec Ideal S4096x8x128 φ) : FVec Ideal S4096x1024 φ := shapeCast S4096x1024 y shapeCasts_S4096x8x128_S4096x1024
theorem hflat_apply {φ : FTy} (y : FVec Ideal S4096x8x128 φ) (i : S4096x1024.Idx) (j : S4096x8x128.Idx)
    (h0 : (j 0).val = (i 0).val) (h1 : (j 1).val = (i 1).val / 128) (h2 : (j 2).val = (i 1).val % 128) : hflat y i = y j := by
  unfold hflat
  exact shapeCast_apply y shapeCasts_S4096x8x128_S4096x1024 i j (by
    rewrite [Shape.rowMajor_val_three, Shape.rowMajor_val_two]
    show ((j 0).val * 8 + (j 1).val) * 128 + (j 2).val = (i 0).val * 1024 + (i 1).val
    rw [h0, h1, h2]; omega)
/-- A flat index taken apart. -/
def unflat (i : S4096x1024.Idx) : S4096x8x128.Idx :=
  ix3 ⟨(i 0).val, (i 0).isLt⟩ ⟨(i 1).val / 128, Nat.div_lt_of_lt_mul (show (i 1).val < 128 * 8 from (i 1).isLt)⟩ ⟨(i 1).val % 128, Nat.mod_lt _ (by norm_num)⟩
theorem hflat_at {φ : FTy} (y : FVec Ideal S4096x8x128 φ) (i : S4096x1024.Idx) : hflat y i = y (unflat i) :=
  hflat_apply y i (unflat i) rfl rfl rfl

def hcat (a b : FVec Ideal S4096x8x3 .bf16) (r : FVec Ideal S4096x8x122 .bf16) : FVec Ideal S4096x8x128 .bf16 :=
  concatenate S4096x8x128 2 [⟨S4096x8x3, a⟩, ⟨S4096x8x3, b⟩, ⟨S4096x8x122, r⟩] concatenates_S4096x8x3_S4096x8x3_S4096x8x122_S4096x8x128_d2
theorem hcat_apply (a b : FVec Ideal S4096x8x3 .bf16) (r : FVec Ideal S4096x8x122 .bf16) (t : Fin 4096) (h : Fin 8) (e : Fin 128) :
    hcat a b r (ix3 t h e) = if h_1 : e.val < 3 then a (ix3 t h ⟨e.val, h_1⟩)
      else if h_2 : e.val - 3 < 3 then b (ix3 t h ⟨e.val - 3, h_2⟩) else r (ix3 t h ⟨e.val - 3 - 3, by omega⟩) := by
  unfold hcat
  pointwise
def hpart (x0 x1 x2 : FVec Ideal S8x4096 .bf16) : FVec Ideal S4096x8x3 .bf16 :=
  transpose S4096x8x3 [2, 1, 0] (concatenate S3x8x4096 0 [⟨S1x8x4096, broadcastInDim S1x8x4096 ![1, 2] bcast_S8x4096_S1x8x4096_1_2 x0⟩,
    ⟨S1x8x4096, broadcastInDim S1x8x4096 ![1, 2] bcast_S8x4096_S1x8x4096_1_2 x1⟩, ⟨S1x8x4096, broadcastInDim S1x8x4096 ![1, 2] bcast_S8x4096_S1x8x4096_1_2 x2⟩]
    concatenates_S1x8x4096_S1x8x4096_S1x8x4096_S3x8x4096_d0) transposes_S3x8x4096_S4096x8x3_2_1_0
theorem hpart_apply (x0 x1 x2 : FVec Ideal S8x4096 .bf16) (t : Fin 4096) (h : Fin 8) (e : Fin 3) :
    hpart x0 x1 x2 (ix3 t h e) = if e.val < 1 then x0 (ix2 h t) else if e.val - 1 < 1 then x1 (ix2 h t) else x2 (ix2 h t) := by
  unfold hpart
  pointwise
  all_goals rfl
def hc (x : FVec Ideal S8x4096 .f32) : FVec Ideal S8x4096 .f32 := mulf x (broadcastInDim S8x4096 ![] bcast_S_S8x4096 (constant (F := Ideal) S_ .f32 0x413504F3#32))
def hhi (x : FVec Ideal S8x4096 .f32) : FVec Ideal S8x4096 .bf16 := truncf .bf16 x bitsLt_bf16_f32
def hrest (x : FVec Ideal S8x4096 .f32) : FVec Ideal S8x4096 .f32 := subf x (extf .f32 (hhi x) bitsLt_bf16_f32)
def h3 : FVec Ideal S4096x8x3 .bf16 := broadcastInDim S4096x8x3 ![] bcast_S_S4096x8x3 (constant (F := Ideal) S_ .bf16 0x3F80#16)
def h122 : FVec Ideal S4096x8x122 .bf16 := broadcastInDim S4096x8x122 ![] bcast_S_S4096x8x122 (constant (F := Ideal) S_ .bf16 0x0000#16)
def hparts (x : FVec Ideal S8x4096 .f32) : FVec Ideal S4096x8x3 .bf16 :=
  hpart (hhi (hc x)) (hhi (hrest (hc x))) (hhi (hrest (hrest (hc x))))
theorem h3_apply (t : Fin 4096) (h : Fin 8) (e : Fin 3) : (show EReal from h3 (ix3 t h e)) = ((1 : ℝ) : EReal) := by
  refine Eq.trans ?_ Ideal.ofBits_one_bf16
  unfold h3
  pointwise
theorem h122_apply (t : Fin 4096) (h : Fin 8) (e : Fin 122) : (show EReal from h122 (ix3 t h e)) = ((0 : ℝ) : EReal) := by
  refine Eq.trans ?_ Ideal.ofBits_zero_bf16
  unfold h122
  pointwise
theorem hc_apply (x : FVec Ideal S8x4096 .f32) (h : Fin 8) (t : Fin 4096) : hc x (ix2 h t) = x (ix2 h t) * Ideal.ofBits .f32 0x413504F3#32 := by
  unfold hc
  pointwise

/-! The buffers. -/
def hbf (x : FVec Ideal S4096x3072 .f32) : FVec Ideal S4096x3072 .bf16 := truncf .bf16 x bitsLt_bf16_f32
theorem V21 : (V m c main_v21 : FVec Ideal S4096x3072 .bf16) = hbf (X0 m c) := by
  unfold hbf X0 V
  after_reads_simp
  all_goals rfl
section
variable (W : Valuation τ sig (Elt Ideal))
theorem u9 : (StableHlo.upto hostOps0 W 13 (Proc.devRef .tc main_v9) : FVec Ideal S1x8x4096 .bf16)
    = broadcastInDim S1x8x4096 ![1, 2] bcast_S8x4096_S1x8x4096_1_2 (hhi (hc (W (Proc.devRef .tc main_arg1)))) := by
  after_reads_simp
  rfl
theorem u10 : (StableHlo.upto hostOps0 W 13 (Proc.devRef .tc main_v10) : FVec Ideal S1x8x4096 .bf16)
    = broadcastInDim S1x8x4096 ![1, 2] bcast_S8x4096_S1x8x4096_1_2 (hhi (hrest (hc (W (Proc.devRef .tc main_arg1))))) := by
  after_reads_simp
  rfl
theorem u11 : (StableHlo.upto hostOps0 W 13 (Proc.devRef .tc main_v11) : FVec Ideal S1x8x4096 .bf16)
    = broadcastInDim S1x8x4096 ![1, 2] bcast_S8x4096_S1x8x4096_1_2 (hhi (hrest (hrest (hc (W (Proc.devRef .tc main_arg1)))))) := by
  after_reads_simp
  rfl
def tcat (a b r : FVec Ideal S1x8x4096 .bf16) : FVec Ideal S4096x8x3 .bf16 :=
  transpose S4096x8x3 [2, 1, 0] (concatenate S3x8x4096 0 [⟨S1x8x4096, a⟩, ⟨S1x8x4096, b⟩, ⟨S1x8x4096, r⟩]
    concatenates_S1x8x4096_S1x8x4096_S1x8x4096_S3x8x4096_d0) transposes_S3x8x4096_S4096x8x3_2_1_0
theorem u13 : (StableHlo.upto hostOps0 W 19 (Proc.devRef .tc main_v13) : FVec Ideal S4096x8x3 .bf16) = hparts (W (Proc.devRef .tc main_arg1)) := by
  after_reads_simp
  show tcat (StableHlo.upto hostOps0 W 13 (Proc.devRef .tc main_v9)) (StableHlo.upto hostOps0 W 13 (Proc.devRef .tc main_v10)) (StableHlo.upto hostOps0 W 13 (Proc.devRef .tc main_v11)) = _
  rw [u9, u10, u11]
  rfl
theorem u14 : (StableHlo.upto hostOps0 W 19 (Proc.devRef .tc main_v14) : FVec Ideal S4096x8x3 .bf16) = h3 := by
  after_reads_simp
  rfl
theorem u15 : (StableHlo.upto hostOps0 W 19 (Proc.devRef .tc main_v15) : FVec Ideal S4096x8x122 .bf16) = h122 := by
  after_reads_simp
  rfl
end
theorem V17' (W : Valuation τ sig (Elt Ideal)) : (StableHlo.after hostOps0 W (Proc.devRef .tc main_v17) : FVec Ideal S4096x1024 .bf16) = hflat (hcat (hparts (W (Proc.devRef .tc main_arg1))) h3 h122) := by
  after_reads_simp
  show hflat (hcat (StableHlo.upto hostOps0 W 19 (Proc.devRef .tc main_v13)) (StableHlo.upto hostOps0 W 19 (Proc.devRef .tc main_v14)) (StableHlo.upto hostOps0 W 19 (Proc.devRef .tc main_v15))) = _
  rw [u13, u14, u15]
theorem V17 : (V m c main_v17 : FVec Ideal S4096x1024 .bf16) = hflat (hcat (hparts (X1 m c)) h3 h122) := V17' _
theorem u18 (W : Valuation τ sig (Elt Ideal)) : (StableHlo.upto hostOps0 W 22 (Proc.devRef .tc main_v18) : FVec Ideal S4096x8x3 .bf16) = Host.negf (hparts (W (Proc.devRef .tc main_arg1))) := by
  after_reads_simp
  show Host.negf (tcat (StableHlo.upto hostOps0 W 13 (Proc.devRef .tc main_v9)) (StableHlo.upto hostOps0 W 13 (Proc.devRef .tc main_v10)) (StableHlo.upto hostOps0 W 13 (Proc.devRef .tc main_v11))) = _
  rw [u9, u10, u11]
  rfl
theorem u14' (W : Valuation τ sig (Elt Ideal)) : (StableHlo.upto hostOps0 W 22 (Proc.devRef .tc main_v14) : FVec Ideal S4096x8x3 .bf16) = h3 := by
  after_reads_simp
  rfl
theorem u15' (W : Valuation τ sig (Elt Ideal)) : (StableHlo.upto hostOps0 W 22 (Proc.devRef .tc main_v15) : FVec Ideal S4096x8x122 .bf16) = h122 := by
  after_reads_simp
  rfl
theorem V20' (W : Valuation τ sig (Elt Ideal)) : (StableHlo.after hostOps0 W (Proc.devRef .tc main_v20) : FVec Ideal S4096x1024 .bf16) = hflat (hcat h3 (Host.negf (hparts (W (Proc.devRef .tc main_arg1)))) h122) := by
  after_reads_simp
  show hflat (hcat (StableHlo.upto hostOps0 W 22 (Proc.devRef .tc main_v14)) (StableHlo.upto hostOps0 W 22 (Proc.devRef .tc main_v18)) (StableHlo.upto hostOps0 W 22 (Proc.devRef .tc main_v15))) = _
  rw [u14', u18, u15']
theorem V20 : (V m c main_v20 : FVec Ideal S4096x1024 .bf16) = hflat (hcat h3 (Host.negf (hparts (X1 m c))) h122) := V20' _

/-! The same over the reals. -/
section
variable {A : ℕ → ℕ → ℝ} (hA : IsA A (X0 m c))
include hA
theorem R21 (i : S4096x3072.Idx) : (show EReal from (V m c main_v21 : FVec Ideal S4096x3072 .bf16) i) = ((A (i 0).val (i 1).val : ℝ) : EReal) := by
  rw [V21]
  exact hA i
end
section
variable {C : ℕ → ℕ → ℝ} (hC : IsC C (X1 m c))
include hC
theorem hc_real (h : Fin 8) (t : Fin 4096) : (show EReal from hc (X1 m c) (ix2 h t)) = ((C h.val t.val * root : ℝ) : EReal) := by
  rw [hc_apply, Cert.ReferenceIdeal.Hand.ofBits_root, EReal.coe_mul]
  exact congrArg (fun a : EReal => a * _) (hC _)
theorem hparts_real (t : Fin 4096) (h : Fin 8) (e : Fin 3) : (show EReal from hparts (X1 m c) (ix3 t h e)) = (((if e.val = 0 then C h.val t.val * root else 0) : ℝ) : EReal) := by
  have e1 : (show EReal from hhi (hc (X1 m c)) (ix2 h t)) = _ := hc_real m c hC h t
  have e2 : (show EReal from hrest (hc (X1 m c)) (ix2 h t)) = ((0 : ℝ) : EReal) := by
    refine (congrArg₂ (fun a b : EReal => a - b) (hc_real m c hC h t) (hc_real m c hC h t)).trans ?_
    rw [← EReal.coe_sub, sub_self]
  have e3 : (show EReal from hrest (hrest (hc (X1 m c))) (ix2 h t)) = ((0 : ℝ) : EReal) := by
    refine (congrArg₂ (fun a b : EReal => a - b) e2 e2).trans ?_
    rw [← EReal.coe_sub, sub_self]
  unfold hparts
  rw [hpart_apply]
  by_cases h0 : e.val = 0
  · rw [if_pos (by omega), if_pos h0]; exact e1
  · rw [if_neg (by omega), if_neg h0]
    split_ifs
    · exact e2
    · exact e3
theorem R17 (i : S4096x1024.Idx) : (show EReal from (V m c main_v17 : FVec Ideal S4096x1024 .bf16) i)
    = ((qlane ((i 1).val % 128) (C ((i 1).val / 128) (i 0).val * root) : ℝ) : EReal) := by
  rw [V17]
  refine (hflat_at _ i).trans ?_
  refine (hcat_apply _ _ _ _ _ _).trans ?_
  show (if h_1 : (i 1).val % 128 < 3 then _ else if h_2 : (i 1).val % 128 - 3 < 3 then _ else _) = _
  unfold qlane
  by_cases h1 : (i 1).val % 128 < 3
  · rw [dif_pos h1]
    refine (hparts_real m c hC _ _ _).trans (cE ?_)
    show (if (i 1).val % 128 = 0 then _ else _) = _
    by_cases h0 : (i 1).val % 128 = 0
    · rw [if_pos h0, if_pos h0]
    · rw [if_neg h0, if_neg h0, if_pos h1]
  · rw [dif_neg h1, if_neg (by omega), if_neg h1]
    by_cases h2 : (i 1).val % 128 - 3 < 3
    · rw [dif_pos h2, if_pos (by omega)]; exact h3_apply _ _ _
    · rw [dif_neg h2, if_neg (by omega)]; exact h122_apply _ _ _
theorem R20 (i : S4096x1024.Idx) : (show EReal from (V m c main_v20 : FVec Ideal S4096x1024 .bf16) i)
    = ((klane ((i 1).val % 128) (C ((i 1).val / 128) (i 0).val * root) : ℝ) : EReal) := by
  rw [V20]
  refine (hflat_at _ i).trans ?_
  refine (hcat_apply _ _ _ _ _ _).trans ?_
  show (if h_1 : (i 1).val % 128 < 3 then _ else if h_2 : (i 1).val % 128 - 3 < 3 then _ else _) = _
  unfold klane
  by_cases h1 : (i 1).val % 128 < 3
  · rw [dif_pos h1, if_pos h1]; exact h3_apply _ _ _
  · rw [dif_neg h1, if_neg h1]
    by_cases h2 : (i 1).val % 128 - 3 < 3
    · rw [dif_pos h2]
      refine (congrArg (fun a : EReal => -a) (hparts_real m c hC _ _ _)).trans ?_
      rw [← EReal.coe_neg]
      refine cE ?_
      show -(if (i 1).val % 128 - 3 = 0 then _ else _) = _
      by_cases h0 : (i 1).val % 128 = 3
      · rw [if_pos (by omega), if_pos h0]
      · rw [if_neg (by omega), if_neg h0, neg_zero]
    · rw [dif_neg h2, if_neg (by omega)]; exact h122_apply _ _ _
end
end Cert.FoxFwdIdeal.Hand
end
-- ==== Proof.FoxFwdValue.lean ====
module
public import proofs.«01_k».proof.Proof.FoxFwdPay
public import proofs.«01_k».proof.Proof.FoxFwdHost
public import proofs.«01_k».proof.Proof.RefFoxFwdValue
public import Idealize.ShloMosaic.Lib.Pipeline.ReadBack
@[expose] public section
set_option maxRecDepth 16384
noncomputable section

/-! The value of the forward call: at every row the softmax over the keys it sees, block by block, and its log-sum-exp. -/

namespace Cert.FoxFwdIdeal.Hand
open Cert.FoxFwdIdeal Cert.FoxFwdIdeal.Gen
open Idealize.ShloMosaic Cert.Fox Finset
open Cert.ReferenceIdeal.Hand (cE sel_sle)
open Cert.RefFoxFwdIdeal.Hand (IsA IsC)
open Cert.RefFoxFwdIdeal.Read

set_option maxHeartbeats 4000000

theorem mulE {x y : EReal} {a b : ℝ} (hx : x = (a : EReal)) (hy : y = (b : EReal)) : x * y = ((a * b : ℝ) : EReal) := by
  rw [hx, hy, EReal.coe_mul]

/-! A point's blocks, and what it makes of them. -/
section
variable (A C : ℕ → ℕ → ℝ) (h r k0 : ℕ)
/-- The blocks hold head `h`'s query rows from `r` and key rows from `k0`. -/
structure Blk (x0 x1 x2 x3 x4 : Vec Ideal S1024x128 .bf16) : Prop where
  h0 : ∀ (a : Fin 1024) (e : Fin 128), (show EReal from x0 (ix2 a e)) = ((q A h (r + a.val) e.val : ℝ) : EReal)
  h1 : ∀ (a : Fin 1024) (e : Fin 128), (show EReal from x1 (ix2 a e)) = ((qlane e.val (C h (r + a.val) * root) : ℝ) : EReal)
  h2 : ∀ (a : Fin 1024) (e : Fin 128), (show EReal from x2 (ix2 a e)) = ((k A h (k0 + a.val) e.val : ℝ) : EReal)
  h3 : ∀ (a : Fin 1024) (e : Fin 128), (show EReal from x3 (ix2 a e)) = ((klane e.val (C h (k0 + a.val) * root) : ℝ) : EReal)
  h4 : ∀ (a : Fin 1024) (e : Fin 128), (show EReal from x4 (ix2 a e)) = ((v A h (k0 + a.val) e.val : ℝ) : EReal)

variable {A C h r k0} {x0 x1 x2 x3 x4 : Vec Ideal S1024x128 .bf16} (B : Blk A C h r k0 x0 x1 x2 x3 x4)
include B
theorem logit (a b : Fin 1024) : ((∑ x, (show EReal from x0 (ix2 a x)) * (show EReal from x2 (ix2 b x)) + ∑ x, (show EReal from x1 (ix2 a x)) * (show EReal from x3 (ix2 b x))) * (show EReal from (Named.named κ "scale2" 0x3E0293EE#32 : Ideal .f32)) : EReal)
    = ((z A C h (r + a.val) (k0 + b.val) / Real.log 2 : ℝ) : EReal) := by
  rw [esum_of 128 _ (fun e => q A h (r + a.val) e * k A h (k0 + b.val) e) (fun e => mulE (B.h0 a e) (B.h2 b e)),
    esum_of 128 _ (fun e => qlane e (C h (r + a.val) * root) * klane e (C h (k0 + b.val) * root)) (fun e => mulE (B.h1 a e) (B.h3 b e)),
    lanes, at_scale2, ← EReal.coe_add, ← EReal.coe_mul]
  refine congrArg _ ?_
  show (qk A h (r + a.val) (k0 + b.val) + _) * _ = _
  have hl : Real.log 2 ≠ 0 := (Real.log_pos (by norm_num)).ne'
  unfold z root
  field_simp
  try ring
variable {mo lo : Vec Ideal S1024x1 .f32} {ao : Vec Ideal S1024x128 .f32}
theorem stepOff (hk : k0 + 1024 ≤ r) (a : Fin 1024) (O : Old A C h (r + a.val) k0 (mo (ix2 a 0)) (lo (ix2 a 0)) (fun e => ao (ix2 a e))) :
    ∃ M, Row A C h (r + a.val) (k0 + 1024) M (k0_pay21 (k0_pay4 x0 x2 x1 x3 mo) (ix2 a 0)) (k0_pay7 x0 x2 x1 x3 mo lo (ix2 a 0))
      (fun e => k0_pay20 (k0_pay8 x0 x2 x1 x3 mo ao) (k0_pay9 x0 x2 x1 x3 mo) (k0_pay10 x4) (constant S1024x128 .f32 0x00000000#32) (ix2 a e)) := by
  rw [mOff]
  refine step O (by omega) (fun b => k0_pay3 x0 x2 x1 x3 (ix2 a b)) (fun b => ?_) (fun b e => x4 (ix2 b e)) (fun b e => B.h4 b e) _ _ _ ?_ ?_ fun e => ?_
  · rw [if_pos (by omega)]
    exact (off_apply a b x0 x1 x2 x3).trans (logit B a b)
  · exact maxOff a 0 x0 x1 x2 x3 mo
  · exact lOff a 0 x0 x1 x2 x3 mo lo
  · exact aOff a e x0 x1 x2 x3 x4 mo ao
theorem stepDia (hk : k0 = r) (hr : r + 1024 ≤ 4096) (a : Fin 1024) (O : Old A C h (r + a.val) k0 (mo (ix2 a 0)) (lo (ix2 a 0)) (fun e => ao (ix2 a e))) :
    ∃ M, Row A C h (r + a.val) (k0 + 1024) M (k0_pay23 (k0_pay12 x0 x2 x1 x3 mo) (ix2 a 0)) (k0_pay15 x0 x2 x1 x3 mo lo (ix2 a 0))
      (fun e => k0_pay22 (k0_pay14 x0 x2 x1 x3 mo) (k0_pay16 x0 x2 x1 x3 mo ao) x4 (ix2 a e)) := by
  rw [mDia]
  refine step O (by omega) (fun b => k0_pay11 x0 x2 x1 x3 (ix2 a b)) (fun b => ?_) (fun b e => x4 (ix2 b e)) (fun b e => B.h4 b e) _ _ _ ?_ ?_ fun e => ?_
  · refine (dia_apply a b x0 x1 x2 x3).trans ?_
    rw [sel_sle _ _ (by omega) (by omega), at_mask, logit B a b]
    exact if_congr (by omega) rfl rfl
  · exact maxDia a 0 x0 x1 x2 x3 mo
  · exact lDia a 0 x0 x1 x2 x3 mo lo
  · exact aDia a e x0 x1 x2 x3 x4 mo ao
end

theorem ofBits_two : Ideal.ofBits .f32 0x40000000#32 = ((2 : ℝ) : EReal) := by
  simp [Ideal.ofBits, Ideal.ieee, -EReal.coe_mul]; norm_num

/-! The blocks of a position. -/
/-- The block of queries and the block of keys. -/
def qi (n : ℕ) : ℕ := if n % 10 < 1 then 0 else if n % 10 < 3 then 1 else if n % 10 < 6 then 2 else 3
def kj (n : ℕ) : ℕ := if n % 10 < 1 then n % 10 else if n % 10 < 3 then n % 10 - 1 else if n % 10 < 6 then n % 10 - 3 else n % 10 - 6
theorem ix_0 : ∀ t : Fin cfg0.N, win0_0.index t = ![qi t.val, t.val / 10] := (by decide +kernel : ∀ t : Fin grid0.N, win0_0.index t = ![qi t.val, t.val / 10])
theorem ix_1 : ∀ t : Fin cfg0.N, win0_1.index t = ![qi t.val, t.val / 10] := (by decide +kernel : ∀ t : Fin grid0.N, win0_1.index t = ![qi t.val, t.val / 10])
theorem ix_2 : ∀ t : Fin cfg0.N, win0_2.index t = ![kj t.val, 8 + t.val / 10] := (by decide +kernel : ∀ t : Fin grid0.N, win0_2.index t = ![kj t.val, 8 + t.val / 10])
theorem ix_3 : ∀ t : Fin cfg0.N, win0_3.index t = ![kj t.val, t.val / 10] := (by decide +kernel : ∀ t : Fin grid0.N, win0_3.index t = ![kj t.val, t.val / 10])
theorem ix_4 : ∀ t : Fin cfg0.N, win0_4.index t = ![kj t.val, 16 + t.val / 10] := (by decide +kernel : ∀ t : Fin grid0.N, win0_4.index t = ![kj t.val, 16 + t.val / 10])
theorem ix_5 : ∀ t : Fin cfg0.N, win0_5.index t = ![qi t.val, t.val / 10] := (by decide +kernel : ∀ t : Fin grid0.N, win0_5.index t = ![qi t.val, t.val / 10])
theorem ix_6 : ∀ t : Fin cfg0.N, win0_6.index t = ![qi t.val, t.val / 10] := (by decide +kernel : ∀ t : Fin grid0.N, win0_6.index t = ![qi t.val, t.val / 10])

section
variable (m : (ℓ : Loc nD τ sig) → Buf (Elt Ideal) ℓ) (c : Dev nD)
abbrev B0 (t : Fin cfg0.N) : Vec Ideal S1024x128 .bf16 := iblk m c 0 t
abbrev B1 (t : Fin cfg0.N) : Vec Ideal S1024x128 .bf16 := iblk m c 1 t
abbrev B2 (t : Fin cfg0.N) : Vec Ideal S1024x128 .bf16 := iblk m c 2 t
abbrev B3 (t : Fin cfg0.N) : Vec Ideal S1024x128 .bf16 := iblk m c 3 t
abbrev B4 (t : Fin cfg0.N) : Vec Ideal S1024x128 .bf16 := iblk m c 4 t
/-- What a point leaves: the largest logits, the sums and the weighted values. -/
abbrev Sm (n : ℕ) (hn : n < cfg0.N) : Vec Ideal S1024x1 .f32 := (outsAt0 m c n hn).2.2.1
abbrev Sl (n : ℕ) (hn : n < cfg0.N) : Vec Ideal S1024x1 .f32 := (outsAt0 m c n hn).2.2.2.1
abbrev Sa (n : ℕ) (hn : n < cfg0.N) : Vec Ideal S1024x128 .f32 := (outsAt0 m c n hn).2.2.2.2

/-- A point that takes a block before the diagonal's, over `mo`, `lo` and `ao`. -/
def Off (t : Fin cfg0.N) (mo lo : Vec Ideal S1024x1 .f32) (ao : Vec Ideal S1024x128 .f32) : Prop :=
  Sm m c t.val t.isLt = k0_pay21 (k0_pay4 (B0 m c t) (B2 m c t) (B1 m c t) (B3 m c t) mo)
  ∧ Sl m c t.val t.isLt = k0_pay7 (B0 m c t) (B2 m c t) (B1 m c t) (B3 m c t) mo lo
  ∧ Sa m c t.val t.isLt = k0_pay20 (k0_pay8 (B0 m c t) (B2 m c t) (B1 m c t) (B3 m c t) mo ao) (k0_pay9 (B0 m c t) (B2 m c t) (B1 m c t) (B3 m c t) mo) (k0_pay10 (B4 m c t)) (constant S1024x128 .f32 0x00000000#32)
/-- A point that takes the diagonal's block. -/
def Dia (t : Fin cfg0.N) (mo lo : Vec Ideal S1024x1 .f32) (ao : Vec Ideal S1024x128 .f32) : Prop :=
  Sm m c t.val t.isLt = k0_pay23 (k0_pay12 (B0 m c t) (B2 m c t) (B1 m c t) (B3 m c t) mo)
  ∧ Sl m c t.val t.isLt = k0_pay15 (B0 m c t) (B2 m c t) (B1 m c t) (B3 m c t) mo lo
  ∧ Sa m c t.val t.isLt = k0_pay22 (k0_pay14 (B0 m c t) (B2 m c t) (B1 m c t) (B3 m c t) mo) (k0_pay16 (B0 m c t) (B2 m c t) (B1 m c t) (B3 m c t) mo ao) (B4 m c t)
/-- The two results of a point that ends a row of blocks. -/
def Fin2 (t : Fin cfg0.N) : Prop :=
  (outsAt0 m c t.val t.isLt).1 = k0_pay1 (Sa m c t.val t.isLt) (Sl m c t.val t.isLt)
  ∧ (outsAt0 m c t.val t.isLt).2.1 = k0_pay2 (Sm m c t.val t.isLt) (Sl m c t.val t.isLt)

theorem ptA (t : Fin cfg0.N) (h0 : t.val % 10 = 0) : Dia m c t (k0_pay17 (F := Ideal)) (k0_pay18 (F := Ideal)) (k0_pay19 (F := Ideal)) ∧ Fin2 m c t := by
  unfold Dia Fin2 Sm Sl Sa
  rw [outsAt0_A m c t (by omega) (by omega) (by omega) (by omega)]
  refine ⟨⟨?_, ?_, ?_⟩, ?_, ?_⟩
  · frame_out
  · frame_out
  · frame_out
  · frame_out
  · frame_out
theorem ptB (t : Fin cfg0.N) (h0 : t.val % 10 = 1 ∨ t.val % 10 = 3 ∨ t.val % 10 = 6) : Off m c t (k0_pay17 (F := Ideal)) (k0_pay18 (F := Ideal)) (k0_pay19 (F := Ideal)) := by
  unfold Off Sm Sl Sa
  rw [outsAt0_B m c t (by omega) (by omega) (by omega) (by omega)]
  refine ⟨?_, ?_, ?_⟩
  · frame_out
  · frame_out
  · frame_out
theorem ptC (t : Fin cfg0.N) (h0 : t.val % 10 = 2 ∨ t.val % 10 = 5 ∨ t.val % 10 = 9) (hp : t.val - 1 < cfg0.N) :
    Dia m c t (Sm m c (t.val - 1) hp) (Sl m c (t.val - 1) hp) (Sa m c (t.val - 1) hp) ∧ Fin2 m c t := by
  unfold Dia Fin2 Sm Sl Sa
  rw [outsAt0_C m c t (by omega) (by omega) (by omega) (by omega)]
  refine ⟨⟨?_, ?_, ?_⟩, ?_, ?_⟩
  · frame_out; try simp only [read_unread_whole]
  · frame_out; try simp only [read_unread_whole]
  · frame_out; try simp only [read_unread_whole]
  · frame_out; try simp only [read_unread_whole]
  · frame_out; try simp only [read_unread_whole]
theorem ptD (t : Fin cfg0.N) (h0 : t.val % 10 = 4 ∨ t.val % 10 = 7 ∨ t.val % 10 = 8) (hp : t.val - 1 < cfg0.N) :
    Off m c t (Sm m c (t.val - 1) hp) (Sl m c (t.val - 1) hp) (Sa m c (t.val - 1) hp) := by
  unfold Off Sm Sl Sa
  rw [outsAt0_D m c t (by omega) (by omega) (by omega) (by omega)]
  refine ⟨?_, ?_, ?_⟩
  · frame_out; try simp only [read_unread_whole]
  · frame_out; try simp only [read_unread_whole]
  · frame_out; try simp only [read_unread_whole]

variable {A C : ℕ → ℕ → ℝ} (hA : IsA A (X0 m c)) (hC : IsC C (X1 m c))
include hA hC
theorem blk (t : Fin cfg0.N) : Blk A C (t.val / 10) (1024 * qi t.val) (1024 * kj t.val) (B0 m c t) (B1 m c t) (B2 m c t) (B3 m c t) (B4 m c t) := by
  refine ⟨?_, ?_, ?_, ?_, ?_⟩ <;> intro a e
  · refine (R21 m c hA (((cfg0.win 0).blk t).view.emb (ix2 a e))).trans (cE (congrArg₂ A ?_ ?_))
    · blk_simp [ix_0]; omega
    · blk_simp [ix_0]; omega
  · refine (R17 m c hC (((cfg0.win 1).blk t).view.emb (ix2 a e))).trans ?_
    have e0 : ((((cfg0.win 1).blk t).view.emb (ix2 a e)) 0).val = 1024 * qi t.val + a.val := by blk_simp [ix_1]; omega
    have e1 : ((((cfg0.win 1).blk t).view.emb (ix2 a e)) 1).val = 128 * (t.val / 10) + e.val := by blk_simp [ix_1]; omega
    rw [e0, e1, show (128 * (t.val / 10) + e.val) / 128 = t.val / 10 by omega, show (128 * (t.val / 10) + e.val) % 128 = e.val by omega]
  · refine (R21 m c hA (((cfg0.win 2).blk t).view.emb (ix2 a e))).trans (cE (congrArg₂ A ?_ ?_))
    · blk_simp [ix_2]; omega
    · blk_simp [ix_2]; omega
  · refine (R20 m c hC (((cfg0.win 3).blk t).view.emb (ix2 a e))).trans ?_
    have e0 : ((((cfg0.win 3).blk t).view.emb (ix2 a e)) 0).val = 1024 * kj t.val + a.val := by blk_simp [ix_3]; omega
    have e1 : ((((cfg0.win 3).blk t).view.emb (ix2 a e)) 1).val = 128 * (t.val / 10) + e.val := by blk_simp [ix_3]; omega
    rw [e0, e1, show (128 * (t.val / 10) + e.val) / 128 = t.val / 10 by omega, show (128 * (t.val / 10) + e.val) % 128 = e.val by omega]
  · refine (R21 m c hA (((cfg0.win 4).blk t).view.emb (ix2 a e))).trans (cE (congrArg₂ A ?_ ?_))
    · blk_simp [ix_4]; omega
    · blk_simp [ix_4]; omega

/-- What every point leaves at a row. -/
theorem row (n : ℕ) : ∀ (hn : n < cfg0.N) (a : Fin 1024), ∃ M, Row A C (n / 10) (1024 * qi n + a.val) (1024 * kj n + 1024) M
    (Sm m c n hn (ix2 a 0)) (Sl m c n hn (ix2 a 0)) (fun e => Sa m c n hn (ix2 a e)) := by
  induction n using Nat.strong_induction_on with
  | _ n ih =>
    intro hn a
    have init : kj n = 0 → Old A C (n / 10) (1024 * qi n + a.val) (1024 * kj n) (k0_pay17 (F := Ideal) (ix2 a 0)) (k0_pay18 (F := Ideal) (ix2 a 0)) (fun e => k0_pay19 (F := Ideal) (ix2 a e)) := fun h0 => by
      rw [h0]
      exact old_zero A C _ _ _ _ _ (m_init a 0) (l_init a 0) (fun e => a_init a e)
    have prev : n % 10 ≠ 0 ∧ n % 10 ≠ 1 ∧ n % 10 ≠ 3 ∧ n % 10 ≠ 6 → ∀ hp : n - 1 < cfg0.N, Old A C (n / 10) (1024 * qi n + a.val) (1024 * kj n) (Sm m c (n - 1) hp (ix2 a 0)) (Sl m c (n - 1) hp (ix2 a 0)) (fun e => Sa m c (n - 1) hp (ix2 a e)) := fun h0 hp => by
      obtain ⟨M, R⟩ := ih (n - 1) (by omega) hp a
      have e1 : (n - 1) / 10 = n / 10 := by omega
      have e2 : qi (n - 1) = qi n := by unfold qi; split_ifs <;> omega
      have e3 : 1024 * kj (n - 1) + 1024 = 1024 * kj n := by unfold kj; split_ifs <;> omega
      rw [e1, e2, e3] at R
      exact R.old
    have hp : n - 1 < cfg0.N := lt_of_le_of_lt (Nat.sub_le _ _) hn
    have B := blk m c hA hC ⟨n, hn⟩
    have q4 : 1024 * qi n + 1024 ≤ 4096 := by unfold qi; split_ifs <;> omega
    have off : n % 10 = 1 ∨ n % 10 = 3 ∨ n % 10 = 6 ∨ n % 10 = 4 ∨ n % 10 = 7 ∨ n % 10 = 8 → 1024 * kj n + 1024 ≤ 1024 * qi n := by
      intro h; unfold qi kj; split_ifs <;> omega
    have dia : n % 10 = 0 ∨ n % 10 = 2 ∨ n % 10 = 5 ∨ n % 10 = 9 → 1024 * kj n = 1024 * qi n := by
      intro h; unfold qi kj; split_ifs <;> omega
    have k00 : n % 10 = 0 ∨ n % 10 = 1 ∨ n % 10 = 3 ∨ n % 10 = 6 → kj n = 0 := by
      intro h; unfold kj; split_ifs <;> omega
    by_cases hA0 : n % 10 = 0
    · obtain ⟨⟨s1, s2, s3⟩, -⟩ := ptA m c ⟨n, hn⟩ hA0
      rw [s1, s2, s3]
      exact stepDia B (dia (by omega)) q4 a (init (k00 (by omega)))
    by_cases hB0 : n % 10 = 1 ∨ n % 10 = 3 ∨ n % 10 = 6
    · obtain ⟨s1, s2, s3⟩ := ptB m c ⟨n, hn⟩ hB0
      rw [s1, s2, s3]
      exact stepOff B (off (by omega)) a (init (k00 (by omega)))
    by_cases hC0 : n % 10 = 2 ∨ n % 10 = 5 ∨ n % 10 = 9
    · obtain ⟨⟨s1, s2, s3⟩, -⟩ := ptC m c ⟨n, hn⟩ hC0 hp
      rw [s1, s2, s3]
      exact stepDia B (dia (by omega)) q4 a (prev (by omega) hp)
    · obtain ⟨s1, s2, s3⟩ := ptD m c ⟨n, hn⟩ (by show n % 10 = 4 ∨ n % 10 = 7 ∨ n % 10 = 8; omega) hp
      rw [s1, s2, s3]
      exact stepOff B (off (by omega)) a (prev (by omega) hp)

/-- The two results where they are written. -/
theorem fin2 (t : Fin cfg0.N) (hf : t.val % 10 = 0 ∨ t.val % 10 = 2 ∨ t.val % 10 = 5 ∨ t.val % 10 = 9) (a : Fin 1024) (e : Fin 128) :
    (show EReal from (outsAt0 m c t.val t.isLt).1 (ix2 a e)) = ((o A C (t.val / 10) (1024 * qi t.val + a.val) e.val : ℝ) : EReal)
    ∧ (show EReal from (outsAt0 m c t.val t.isLt).2.1 (ix2 a e)) = ((Real.log (L A C (t.val / 10) (1024 * qi t.val + a.val)) / Real.log 2 : ℝ) : EReal) := by
  have F : Fin2 m c t := by
    by_cases h : t.val % 10 = 0
    · exact (ptA m c t h).2
    · exact (ptC m c t (by omega) (lt_of_le_of_lt (Nat.sub_le _ _) t.isLt)).2
  obtain ⟨M, R⟩ := row m c hA hC t.val t.isLt a
  have h1 : 1024 * qi t.val + a.val < 1024 * kj t.val + 1024 := by
    have : qi t.val = kj t.val := by unfold qi kj; split_ifs <;> omega
    omega
  have h2 : 1024 * kj t.val + 1024 ≤ 4096 := by unfold kj; split_ifs <;> omega
  rw [F.1, F.2]
  refine ⟨(o_apply a e _ _).trans (R.out h1 h2 e), (lse_apply a e _ _).trans (Eq.trans ?_ (R.logsum h1 h2))⟩
  refine congrArg (fun p : EReal => _ + Ideal.div _ (Ideal.log p)) ?_
  exact ofBits_two

theorem out5 : (dats m 0 c).arrAt 5 cfg0.N = val_main_v35 (F := Ideal) (X0 m c) (X1 m c) := by
  refine (dats m 0 c).arrAt_eq_of_covers 5 _ (by decide +kernel) fun t hf y => ?_
  have hf := (by decide +kernel : ∀ t : Fin grid0.N, win0_5.flush t = true → (t.val % 10 = 0 ∨ t.val % 10 = 2 ∨ t.val % 10 = 5 ∨ t.val % 10 = 9)) t hf
  obtain ⟨b, e, rfl⟩ : ∃ (b : Fin 1024) (e : Fin 128), y = ix2 b e := ⟨y 0, y 1, by funext a; match a with | ⟨0, _⟩ => rfl | ⟨1, _⟩ => rfl⟩
  have e0 : ((((cfg0.win 5).blk t).view.emb (ix2 b e)) 0).val = 1024 * qi t.val + b.val := by blk_simp [ix_5]; omega
  have e1 : ((((cfg0.win 5).blk t).view.emb (ix2 b e)) 1).val = 128 * (t.val / 10) + e.val := by blk_simp [ix_5]; omega
  refine Eq.trans ?_ (Cert.RefFoxFwdIdeal.Hand.v35 hA hC _).symm
  rw [e0, e1, show (128 * (t.val / 10) + e.val) / 128 = t.val / 10 by omega, show (128 * (t.val / 10) + e.val) % 128 = e.val by omega]
  blk_simp
  rw [after0_5]
  exact (fin2 m c hA hC t hf b e).1
theorem out6 : (dats m 0 c).arrAt 6 cfg0.N = val_main_v44 (F := Ideal) (X0 m c) (X1 m c) := by
  refine (dats m 0 c).arrAt_eq_of_covers 6 _ (by decide +kernel) fun t hf y => ?_
  have hf := (by decide +kernel : ∀ t : Fin grid0.N, win0_6.flush t = true → (t.val % 10 = 0 ∨ t.val % 10 = 2 ∨ t.val % 10 = 5 ∨ t.val % 10 = 9)) t hf
  obtain ⟨b, e, rfl⟩ : ∃ (b : Fin 1024) (e : Fin 128), y = ix2 b e := ⟨y 0, y 1, by funext a; match a with | ⟨0, _⟩ => rfl | ⟨1, _⟩ => rfl⟩
  have e0 : ((((cfg0.win 6).blk t).view.emb (ix2 b e)) 0).val = 1024 * qi t.val + b.val := by blk_simp [ix_6]; omega
  have e1 : ((((cfg0.win 6).blk t).view.emb (ix2 b e)) 1).val = 128 * (t.val / 10) + e.val := by blk_simp [ix_6]; omega
  refine Eq.trans ?_ (Cert.RefFoxFwdIdeal.Hand.v44 hA hC _).symm
  rw [e0, e1, show (128 * (t.val / 10) + e.val) / 128 = t.val / 10 by omega]
  blk_simp
  rw [after0_6]
  exact (fin2 m c hA hC t hf b e).2
end
end Cert.FoxFwdIdeal.Hand
end
-- ==== Proof.FoxFwdClaim.lean ====
module
public import proofs.«01_k».proof.Defs
public import proofs.«01_k».proof.Proof.FoxFwdValue
public import proofs.«01_k».proof.Proof.Gen.RefFoxFwdIdeal.Run
public import Idealize.ShloMosaic.Lib.Quiescent
public import Idealize.ShloMosaic.Adequacy
public import proofs.«01_k».proof.Proof.Gen.Pre_finite24
public import proofs.«01_k».proof.Proof.FiniteArgs
public import Idealize.ShloMosaic.Lib.ReduceAll
@[expose] public section
set_option maxRecDepth 16384
noncomputable section

/-! The reference's frame and the value claim of the call. -/

namespace Cert.FoxFwdIdeal.Hand
open Cert.FoxFwdIdeal Cert.FoxFwdIdeal.Gen
open Idealize.ShloMosaic Idealize.SL.Sem

theorem frame_ref : Cert.quiescent_RefFoxFwdIdeal := fun m g _ =>
  (θ_run Cert.RefFoxFwdIdeal.defs _ _).mono (fun r h => ⟨fun c => (h c).2.2, sem_eq_zero_of_no_sems (by decide) r.2⟩) (Cert.RefFoxFwdIdeal.Value.run (F := Ideal) m g)
theorem frame_ref_pre : Cert.quiescent_RefFoxFwdIdeal_pre_finite24 := fun m g _ =>
  (θ_run Cert.RefFoxFwdIdeal.defs _ _).mono (fun r h => ⟨fun c => (h c).2.2, sem_eq_zero_of_no_sems (by decide) r.2⟩) (Cert.RefFoxFwdIdeal.Value.run (F := Ideal) m g)

open Cert.Pre_finite24 in
theorem finite_reals (x0 : (⟨S4096x3072, .f32⟩ : BufTy).Contents (Elt Ideal)) (x1 : (⟨S8x4096, .f32⟩ : BufTy).Contents (Elt Ideal))
    (h : Cert.Pre_finite24.fn (F := Ideal) x0 x1 = fun _ => 1#1) :
    (∀ i, (show EReal from x0 i) = ((show EReal from x0 i).toReal : EReal)) ∧ (∀ i, (show EReal from x1 i) = ((show EReal from x1 i).toReal : EReal)) := by
  have h0 := congrFun h (fun a => a.elim0)
  dsimp only [Cert.Pre_finite24.fn] at h0
  obtain ⟨h0, h_1⟩ := IntOp.andi_eq_one.1 h0
  haveI : Subsingleton S_.Idx := ⟨fun a b => funext fun i => i.elim0⟩
  refine ⟨fun i => Cert.KernelIdeal.Hand.real_at _ ?_, fun i => Cert.KernelIdeal.Hand.real_at _ ?_⟩
  · exact Host.reduce_andi_all _ _ _ _ _ h0 i
  · exact Host.reduce_andi_all _ _ _ _ _ h_1 i

set_option maxHeartbeats 4000000 in
theorem value : Cert.algebraic_FoxFwdIdeal_RefFoxFwdIdeal_pre_finite24 := by
  intro m g m' g' hpre hag
  refine ⟨fun c => Cert.RefFoxFwdIdeal.Read.val_main_v35 (F := Ideal) (m (c, Proc.devRef .tc main_arg0)) (m (c, Proc.devRef .tc main_arg1)),
    fun c => Cert.RefFoxFwdIdeal.Read.val_main_v44 (F := Ideal) (m (c, Proc.devRef .tc main_arg0)) (m (c, Proc.devRef .tc main_arg1)), ?_, ?_⟩
  · refine (θ_run Cert.FoxFwdIdeal.defs _ _).mono (fun r h c => ?_) (Cert.FoxFwdIdeal.Value.run_blocks m g)
    obtain ⟨f0, f1⟩ := finite_reals _ _ (hpre c)
    exact ⟨(h c).1.trans (out5 m c (Cert.KernelIdeal.Hand.cell_at _ f0) (Cert.KernelIdeal.Hand.cell_at _ f1)), (h c).2.1.trans (out6 m c (Cert.KernelIdeal.Hand.cell_at _ f0) (Cert.KernelIdeal.Hand.cell_at _ f1)), (h c).2.2⟩
  · refine (θ_run Cert.RefFoxFwdIdeal.defs _ _).mono (fun r h c => ⟨(h c).1.trans ?_, (h c).2.1.trans ?_, (h c).2.2⟩) (Cert.RefFoxFwdIdeal.Value.run (F := Ideal) m' g')
    all_goals obtain ⟨a0, a1⟩ := hag c
    · exact (Cert.RefFoxFwdIdeal.Read.val_main_v35_eq m' c).trans (congr (congrArg (Cert.RefFoxFwdIdeal.Read.val_main_v35 (F := Ideal)) a0) a1)
    · exact (Cert.RefFoxFwdIdeal.Read.val_main_v44_eq m' c).trans (congr (congrArg (Cert.RefFoxFwdIdeal.Read.val_main_v44 (F := Ideal)) a0) a1)

end Cert.FoxFwdIdeal.Hand
-- ==== Proof.lean ====
/- The claims: three frames, `preserves` and `algebraic`. -/
module

public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.KernelFrame
public import proofs.«01_k».proof.Proof.KernelIdealFrame
public import proofs.«01_k».proof.Proof.KernelIdealValue
public import proofs.«01_k».proof.Proof.FiniteArgs
public import proofs.«01_k».proof.Proof.Gen.DAct
public import proofs.«01_k».proof.Proof.Gen.DAct.Frame
public import proofs.«01_k».proof.Proof.Gen.DActIdeal
public import proofs.«01_k».proof.Proof.Gen.DActIdeal.Frame
public import proofs.«01_k».proof.Proof.Gen.RefDActIdeal
public import proofs.«01_k».proof.Proof.DActClaim
public import proofs.«01_k».proof.Proof.Gen.DWOut
public import proofs.«01_k».proof.Proof.Gen.DWOut.Frame
public import proofs.«01_k».proof.Proof.Gen.DWOutIdeal
public import proofs.«01_k».proof.Proof.Gen.DWOutIdeal.Frame
public import proofs.«01_k».proof.Proof.Gen.RefDWOutIdeal
public import proofs.«01_k».proof.Proof.DWOutClaim
public import proofs.«01_k».proof.Proof.Gen.DH
public import proofs.«01_k».proof.Proof.Gen.DH.Frame
public import proofs.«01_k».proof.Proof.Gen.DHIdeal
public import proofs.«01_k».proof.Proof.Gen.DHIdeal.Frame
public import proofs.«01_k».proof.Proof.Gen.RefDHIdeal
public import proofs.«01_k».proof.Proof.DHClaim
public import proofs.«01_k».proof.Proof.Gen.DWIn
public import proofs.«01_k».proof.Proof.Gen.DWIn.Frame
public import proofs.«01_k».proof.Proof.Gen.DWInIdeal
public import proofs.«01_k».proof.Proof.Gen.DWInIdeal.Frame
public import proofs.«01_k».proof.Proof.Gen.RefDWInIdeal
public import proofs.«01_k».proof.Proof.DWInClaim
public import proofs.«01_k».proof.Proof.Gen.DMixed
public import proofs.«01_k».proof.Proof.Gen.DMixed.Frame
public import proofs.«01_k».proof.Proof.Gen.DMixedIdeal
public import proofs.«01_k».proof.Proof.Gen.DMixedIdeal.Frame
public import proofs.«01_k».proof.Proof.Gen.RefDMixedIdeal
public import proofs.«01_k».proof.Proof.DMixedClaim
public import proofs.«01_k».proof.Proof.Gen.DWProj
public import proofs.«01_k».proof.Proof.Gen.DWProj.Frame
public import proofs.«01_k».proof.Proof.Gen.DWProjIdeal
public import proofs.«01_k».proof.Proof.Gen.DWProjIdeal.Frame
public import proofs.«01_k».proof.Proof.Gen.RefDWProjIdeal
public import proofs.«01_k».proof.Proof.DWProjClaim
public import proofs.«01_k».proof.Proof.Gen.DWQkv
public import proofs.«01_k».proof.Proof.Gen.DWQkv.Frame
public import proofs.«01_k».proof.Proof.Gen.DWQkvIdeal
public import proofs.«01_k».proof.Proof.Gen.DWQkvIdeal.Frame
public import proofs.«01_k».proof.Proof.Gen.RefDWQkvIdeal
public import proofs.«01_k».proof.Proof.DWQkvClaim
public import proofs.«01_k».proof.Proof.Gen.DWF
public import proofs.«01_k».proof.Proof.Gen.DWF.Frame
public import proofs.«01_k».proof.Proof.Gen.DWFIdeal
public import proofs.«01_k».proof.Proof.Gen.DWFIdeal.Frame
public import proofs.«01_k».proof.Proof.Gen.RefDWFIdeal
public import proofs.«01_k».proof.Proof.DWFClaim
public import proofs.«01_k».proof.Proof.Gen.DHF
public import proofs.«01_k».proof.Proof.Gen.DHF.Frame
public import proofs.«01_k».proof.Proof.Gen.DHFIdeal
public import proofs.«01_k».proof.Proof.Gen.DHFIdeal.Frame
public import proofs.«01_k».proof.Proof.Gen.RefDHFIdeal
public import proofs.«01_k».proof.Proof.DHFClaim
public import proofs.«01_k».proof.Proof.Gen.DHQkv
public import proofs.«01_k».proof.Proof.Gen.DHQkv.Frame
public import proofs.«01_k».proof.Proof.Gen.DHQkvIdeal
public import proofs.«01_k».proof.Proof.Gen.DHQkvIdeal.Frame
public import proofs.«01_k».proof.Proof.Gen.RefDHQkvIdeal
public import proofs.«01_k».proof.Proof.DHQkvClaim
public import proofs.«01_k».proof.Proof.Gen.ProjA
public import proofs.«01_k».proof.Proof.Gen.ProjA.Frame
public import proofs.«01_k».proof.Proof.Gen.ProjAIdeal
public import proofs.«01_k».proof.Proof.Gen.ProjAIdeal.Frame
public import proofs.«01_k».proof.Proof.Gen.RefProjAIdeal
public import proofs.«01_k».proof.Proof.ProjAClaim
public import proofs.«01_k».proof.Proof.Gen.ProjB
public import proofs.«01_k».proof.Proof.Gen.ProjB.Frame
public import proofs.«01_k».proof.Proof.Gen.ProjBIdeal
public import proofs.«01_k».proof.Proof.Gen.ProjBIdeal.Frame
public import proofs.«01_k».proof.Proof.Gen.RefProjBIdeal
public import proofs.«01_k».proof.Proof.ProjBClaim
public import proofs.«01_k».proof.Proof.Gen.ProjF
public import proofs.«01_k».proof.Proof.Gen.ProjF.Frame
public import proofs.«01_k».proof.Proof.Gen.ProjFIdeal
public import proofs.«01_k».proof.Proof.Gen.ProjFIdeal.Frame
public import proofs.«01_k».proof.Proof.Gen.RefProjFIdeal
public import proofs.«01_k».proof.Proof.ProjFClaim
public import proofs.«01_k».proof.Proof.Gen.AttnOut
public import proofs.«01_k».proof.Proof.Gen.AttnOut.Frame
public import proofs.«01_k».proof.Proof.Gen.AttnOutIdeal
public import proofs.«01_k».proof.Proof.Gen.AttnOutIdeal.Frame
public import proofs.«01_k».proof.Proof.Gen.RefAttnOutIdeal
public import proofs.«01_k».proof.Proof.AttnOutClaim
public import proofs.«01_k».proof.Proof.Gen.MlpIn
public import proofs.«01_k».proof.Proof.Gen.MlpIn.Frame
public import proofs.«01_k».proof.Proof.Gen.MlpInIdeal
public import proofs.«01_k».proof.Proof.Gen.MlpInIdeal.Frame
public import proofs.«01_k».proof.Proof.Gen.RefMlpInIdeal
public import proofs.«01_k».proof.Proof.MlpInClaim
public import proofs.«01_k».proof.Proof.Gen.MlpOut
public import proofs.«01_k».proof.Proof.Gen.MlpOut.Frame
public import proofs.«01_k».proof.Proof.Gen.MlpOutIdeal
public import proofs.«01_k».proof.Proof.Gen.MlpOutIdeal.Frame
public import proofs.«01_k».proof.Proof.Gen.RefMlpOutIdeal
public import proofs.«01_k».proof.Proof.MlpOutClaim
public import proofs.«01_k».proof.Proof.Gen.RmsBwd
public import proofs.«01_k».proof.Proof.Gen.RmsBwd.Frame
public import proofs.«01_k».proof.Proof.Gen.RmsBwdIdeal
public import proofs.«01_k».proof.Proof.Gen.RmsBwdIdeal.Frame
public import proofs.«01_k».proof.Proof.Gen.RefRmsBwdIdeal
public import proofs.«01_k».proof.Proof.RmsBwdClaim
public import proofs.«01_k».proof.Proof.Gen.PairBwd
public import proofs.«01_k».proof.Proof.Gen.PairBwd.Frame
public import proofs.«01_k».proof.Proof.Gen.PairBwdIdeal
public import proofs.«01_k».proof.Proof.Gen.PairBwdIdeal.Frame
public import proofs.«01_k».proof.Proof.Gen.RefPairBwdIdeal
public import proofs.«01_k».proof.Proof.PairBwdClaim
public import proofs.«01_k».proof.Proof.Gen.RmsFwd
public import proofs.«01_k».proof.Proof.Gen.RmsFwd.Frame
public import proofs.«01_k».proof.Proof.Gen.RmsFwdIdeal
public import proofs.«01_k».proof.Proof.Gen.RmsFwdIdeal.Frame
public import proofs.«01_k».proof.Proof.Gen.RefRmsFwdIdeal
public import proofs.«01_k».proof.Proof.RmsFwdClaim
public import proofs.«01_k».proof.Proof.Gen.PairFwd
public import proofs.«01_k».proof.Proof.Gen.PairFwd.Frame
public import proofs.«01_k».proof.Proof.Gen.PairFwdIdeal
public import proofs.«01_k».proof.Proof.Gen.PairFwdIdeal.Frame
public import proofs.«01_k».proof.Proof.Gen.RefPairFwdIdeal
public import proofs.«01_k».proof.Proof.PairFwdClaim
public import proofs.«01_k».proof.Proof.Gen.FoxFwd
public import proofs.«01_k».proof.Proof.Gen.FoxFwd.Frame
public import proofs.«01_k».proof.Proof.Gen.FoxFwdIdeal
public import proofs.«01_k».proof.Proof.Gen.FoxFwdIdeal.Frame
public import proofs.«01_k».proof.Proof.Gen.RefFoxFwdIdeal
public import proofs.«01_k».proof.Proof.FoxFwdClaim
public import proofs.«01_k».proof.Proof.Gen.Pre_finite24
public import Idealize.ShloMosaic.Lib.Quiescent
public import Idealize.ShloMosaic.Adequacy
public import Idealize.ShloMosaic.Init

@[expose] public section

noncomputable section

namespace Cert.Proof

open Idealize.ShloMosaic Idealize.SL.Sem

/-- The reference declares no semaphore; no operation of it writes an argument. -/
theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2.2.2.2.2, sem_eq_zero_of_no_sems (by decide) r.2⟩)
    (Cert.ReferenceIdeal.Value.run (F := Ideal) m g)

set_option maxHeartbeats 4000000 in
open Cert.KernelIdeal.Hand in
/-- The five gradients are the reference's. -/
theorem value : Cert.algebraic_KernelIdeal_ReferenceIdeal_pre_finite := by
  intro m g m' g' hpre hag
  refine ⟨fun c => Cert.ReferenceIdeal.Read.val_main_v92 (F := Ideal) (X0 m c) (X1 m c) (X2 m c), fun c => Cert.ReferenceIdeal.Read.val_main_v90 (F := Ideal) (X0 m c) (X1 m c) (X2 m c),
    fun c => Cert.ReferenceIdeal.Read.val_main_v94 (F := Ideal) (X0 m c) (X1 m c) (X2 m c), fun c => Cert.ReferenceIdeal.Read.val_main_v96 (F := Ideal) (X0 m c) (X1 m c) (X2 m c),
    fun c => Cert.ReferenceIdeal.Read.val_main_v98 (F := Ideal) (X0 m c) (X1 m c) (X2 m c), ?_, ?_⟩
  · refine (θ_run Cert.KernelIdeal.defs _ _).mono (fun r h c => ?_) (θ_run_and (run_all m g) (frame_all m g))
    obtain ⟨hA, hC, hD⟩ := finite_reals (X0 m c) (X1 m c) (X2 m c) (hpre c)
    have e8 := h.1.1.out_eq c 8
    have e9 := h.1.1.out_eq c 9
    have e10 := h.1.1.out_eq c 10
    have e11 := h.1.1.out_eq c 11
    have e12 := h.1.1.out_eq c 12
    refine ⟨?_, ?_, ?_, ?_, ?_, h.2.1 c⟩
    · exact e8.trans (out8 m c hA hC hD)
    · exact e9.trans (out9 m c hA hC hD)
    · exact e10.trans (out10 m c hA hC hD)
    · exact e11.trans (out11 m c hA hC hD)
    · exact e12.trans (out12 m c hA hC hD)
  · refine (θ_run Cert.ReferenceIdeal.defs _ _).mono (fun r h c => ?_) (Cert.ReferenceIdeal.Value.run (F := Ideal) m' g')
    obtain ⟨h0, h1, h2, h3, h4, ha⟩ := h c
    obtain ⟨a0, a1, a2⟩ := hag c
    have e (x0 x1 x2) : m' ((c.tc : Thread Cert.ReferenceIdeal.nD Cert.ReferenceIdeal.τ).loc Cert.ReferenceIdeal.main_arg0) = x0 → m' ((c.tc : Thread Cert.ReferenceIdeal.nD Cert.ReferenceIdeal.τ).loc Cert.ReferenceIdeal.main_arg1) = x1 → m' ((c.tc : Thread Cert.ReferenceIdeal.nD Cert.ReferenceIdeal.τ).loc Cert.ReferenceIdeal.main_arg2) = x2 →
        Cert.ReferenceIdeal.Value.res_main_v92 m' c = Cert.ReferenceIdeal.Read.val_main_v92 (F := Ideal) x0 x1 x2 ∧ Cert.ReferenceIdeal.Value.res_main_v90 m' c = Cert.ReferenceIdeal.Read.val_main_v90 (F := Ideal) x0 x1 x2
        ∧ Cert.ReferenceIdeal.Value.res_main_v94 m' c = Cert.ReferenceIdeal.Read.val_main_v94 (F := Ideal) x0 x1 x2 ∧ Cert.ReferenceIdeal.Value.res_main_v96 m' c = Cert.ReferenceIdeal.Read.val_main_v96 (F := Ideal) x0 x1 x2
        ∧ Cert.ReferenceIdeal.Value.res_main_v98 m' c = Cert.ReferenceIdeal.Read.val_main_v98 (F := Ideal) x0 x1 x2 := by
      rintro rfl rfl rfl
      exact ⟨Cert.ReferenceIdeal.Read.val_main_v92_eq m' c, Cert.ReferenceIdeal.Read.val_main_v90_eq m' c, Cert.ReferenceIdeal.Read.val_main_v94_eq m' c, Cert.ReferenceIdeal.Read.val_main_v96_eq m' c, Cert.ReferenceIdeal.Read.val_main_v98_eq m' c⟩
    obtain ⟨e0, e1, e2, e3, e4⟩ := e (X0 m c) (X1 m c) (X2 m c) a0 a1 a2
    exact ⟨h0.trans e0, h1.trans e1, h2.trans e2, h3.trans e3, h4.trans e4, ha⟩

theorem claim : Cert.Claim := ⟨Cert.Kernel.Gen.facts, Cert.KernelIdeal.Gen.facts, Cert.ReferenceIdeal.Gen.facts, Cert.DAct.Gen.facts, Cert.DActIdeal.Gen.facts, Cert.RefDActIdeal.Gen.facts, Cert.DWOut.Gen.facts, Cert.DWOutIdeal.Gen.facts, Cert.RefDWOutIdeal.Gen.facts, Cert.DH.Gen.facts, Cert.DHIdeal.Gen.facts, Cert.RefDHIdeal.Gen.facts, Cert.DWIn.Gen.facts, Cert.DWInIdeal.Gen.facts, Cert.RefDWInIdeal.Gen.facts, Cert.DMixed.Gen.facts, Cert.DMixedIdeal.Gen.facts, Cert.RefDMixedIdeal.Gen.facts, Cert.DWProj.Gen.facts, Cert.DWProjIdeal.Gen.facts, Cert.RefDWProjIdeal.Gen.facts, Cert.DWQkv.Gen.facts, Cert.DWQkvIdeal.Gen.facts, Cert.RefDWQkvIdeal.Gen.facts, Cert.DWF.Gen.facts, Cert.DWFIdeal.Gen.facts, Cert.RefDWFIdeal.Gen.facts, Cert.DHF.Gen.facts, Cert.DHFIdeal.Gen.facts, Cert.RefDHFIdeal.Gen.facts, Cert.DHQkv.Gen.facts, Cert.DHQkvIdeal.Gen.facts, Cert.RefDHQkvIdeal.Gen.facts, Cert.ProjA.Gen.facts, Cert.ProjAIdeal.Gen.facts, Cert.RefProjAIdeal.Gen.facts, Cert.ProjB.Gen.facts, Cert.ProjBIdeal.Gen.facts, Cert.RefProjBIdeal.Gen.facts, Cert.ProjF.Gen.facts, Cert.ProjFIdeal.Gen.facts, Cert.RefProjFIdeal.Gen.facts, Cert.AttnOut.Gen.facts, Cert.AttnOutIdeal.Gen.facts, Cert.RefAttnOutIdeal.Gen.facts, Cert.MlpIn.Gen.facts, Cert.MlpInIdeal.Gen.facts, Cert.RefMlpInIdeal.Gen.facts, Cert.MlpOut.Gen.facts, Cert.MlpOutIdeal.Gen.facts, Cert.RefMlpOutIdeal.Gen.facts, Cert.RmsBwd.Gen.facts, Cert.RmsBwdIdeal.Gen.facts, Cert.RefRmsBwdIdeal.Gen.facts, Cert.PairBwd.Gen.facts, Cert.PairBwdIdeal.Gen.facts, Cert.RefPairBwdIdeal.Gen.facts, Cert.RmsFwd.Gen.facts, Cert.RmsFwdIdeal.Gen.facts, Cert.RefRmsFwdIdeal.Gen.facts, Cert.PairFwd.Gen.facts, Cert.PairFwdIdeal.Gen.facts, Cert.RefPairFwdIdeal.Gen.facts, Cert.FoxFwd.Gen.facts, Cert.FoxFwdIdeal.Gen.facts, Cert.RefFoxFwdIdeal.Gen.facts, Cert.Pre_finite.Gen.facts, Cert.Pre_finite24.Gen.facts,
  fun m g _ => Cert.Kernel.Hand.frame_all m g, fun m g _ => Cert.KernelIdeal.Hand.frame_all m g, fun m g _ => Cert.KernelIdeal.Hand.frame_all m g,
  fun m g _ => frame_reference m g, fun m g _ => frame_reference m g,
  fun m g _ => Cert.DAct.Gen.frame m g, fun m g _ => Cert.DActIdeal.Gen.frame m g, Cert.DActIdeal.Hand.frame_ref,
  fun m g _ => Cert.DWOut.Gen.frame m g, fun m g _ => Cert.DWOutIdeal.Gen.frame m g, Cert.DWOutIdeal.Hand.frame_ref,
  fun m g _ => Cert.DH.Gen.frame m g, fun m g _ => Cert.DHIdeal.Gen.frame m g, Cert.DHIdeal.Hand.frame_ref,
  fun m g _ => Cert.DWIn.Gen.frame m g, fun m g _ => Cert.DWInIdeal.Gen.frame m g, Cert.DWInIdeal.Hand.frame_ref,
  fun m g _ => Cert.DMixed.Gen.frame m g, fun m g _ => Cert.DMixedIdeal.Gen.frame m g, Cert.DMixedIdeal.Hand.frame_ref,
  fun m g _ => Cert.DWProj.Gen.frame m g, fun m g _ => Cert.DWProjIdeal.Gen.frame m g, Cert.DWProjIdeal.Hand.frame_ref,
  fun m g _ => Cert.DWQkv.Gen.frame m g, fun m g _ => Cert.DWQkvIdeal.Gen.frame m g, Cert.DWQkvIdeal.Hand.frame_ref,
  fun m g _ => Cert.DWF.Gen.frame m g, fun m g _ => Cert.DWFIdeal.Gen.frame m g, Cert.DWFIdeal.Hand.frame_ref,
  fun m g _ => Cert.DHF.Gen.frame m g, fun m g _ => Cert.DHFIdeal.Gen.frame m g, Cert.DHFIdeal.Hand.frame_ref,
  fun m g _ => Cert.DHQkv.Gen.frame m g, fun m g _ => Cert.DHQkvIdeal.Gen.frame m g, Cert.DHQkvIdeal.Hand.frame_ref,
  fun m g _ => Cert.ProjA.Gen.frame m g, fun m g _ => Cert.ProjAIdeal.Gen.frame m g, Cert.ProjAIdeal.Hand.frame_ref,
  fun m g _ => Cert.ProjB.Gen.frame m g, fun m g _ => Cert.ProjBIdeal.Gen.frame m g, Cert.ProjBIdeal.Hand.frame_ref,
  fun m g _ => Cert.ProjF.Gen.frame m g, fun m g _ => Cert.ProjFIdeal.Gen.frame m g, Cert.ProjFIdeal.Hand.frame_ref,
  fun m g _ => Cert.AttnOut.Gen.frame m g, fun m g _ => Cert.AttnOutIdeal.Gen.frame m g, Cert.AttnOutIdeal.Hand.frame_ref,
  fun m g _ => Cert.MlpIn.Gen.frame m g, fun m g _ => Cert.MlpInIdeal.Gen.frame m g, Cert.MlpInIdeal.Hand.frame_ref,
  fun m g _ => Cert.MlpOut.Gen.frame m g, fun m g _ => Cert.MlpOutIdeal.Gen.frame m g, Cert.MlpOutIdeal.Hand.frame_ref,
  fun m g _ => Cert.RmsBwd.Gen.frame m g, fun m g _ => Cert.RmsBwdIdeal.Gen.frame m g, Cert.RmsBwdIdeal.Hand.frame_ref,
  fun m g _ => Cert.PairBwd.Gen.frame m g, fun m g _ => Cert.PairBwdIdeal.Gen.frame m g, Cert.PairBwdIdeal.Hand.frame_ref,
  fun m g _ => Cert.RmsFwd.Gen.frame m g, fun m g _ => Cert.RmsFwdIdeal.Gen.frame m g, Cert.RmsFwdIdeal.Hand.frame_ref,
  fun m g _ => Cert.PairFwd.Gen.frame m g, fun m g _ => Cert.PairFwdIdeal.Gen.frame m g, Cert.PairFwdIdeal.Hand.frame_ref,
  fun m g _ => Cert.FoxFwd.Gen.frame m g, fun m g _ => Cert.FoxFwdIdeal.Gen.frame m g, fun m g _ => Cert.FoxFwdIdeal.Gen.frame m g, Cert.FoxFwdIdeal.Hand.frame_ref, Cert.FoxFwdIdeal.Hand.frame_ref_pre,
  ⟨IdealRules.named_const.statement Cert.KernelIdeal.κ "scale2" .f32 0x3E0293EE#32 _ rfl, IdealRules.named_const.statement Cert.KernelIdeal.κ "scale" .f32 0x3DB504F3#32 _ rfl,
    IdealRules.named_const.statement Cert.KernelIdeal.κ "mask" .f32 0xF149F2CA#32 _ rfl⟩,
  value,
  trivial, Cert.DActIdeal.Hand.value,
  trivial, Cert.DWOutIdeal.Hand.value,
  trivial, Cert.DHIdeal.Hand.value,
  trivial, Cert.DWInIdeal.Hand.value,
  trivial, Cert.DMixedIdeal.Hand.value,
  trivial, Cert.DWProjIdeal.Hand.value,
  trivial, Cert.DWQkvIdeal.Hand.value,
  trivial, Cert.DWFIdeal.Hand.value,
  trivial, Cert.DHFIdeal.Hand.value,
  trivial, Cert.DHQkvIdeal.Hand.value,
  trivial, Cert.ProjAIdeal.Hand.value,
  trivial, Cert.ProjBIdeal.Hand.value,
  trivial, Cert.ProjFIdeal.Hand.value,
  trivial, Cert.AttnOutIdeal.Hand.value,
  trivial, Cert.MlpInIdeal.Hand.value,
  trivial, Cert.MlpOutIdeal.Hand.value,
  trivial, Cert.RmsBwdIdeal.Hand.value,
  trivial, Cert.PairBwdIdeal.Hand.value,
  trivial, Cert.RmsFwdIdeal.Hand.value,
  trivial, Cert.PairFwdIdeal.Hand.value,
  ⟨IdealRules.named_const.statement Cert.FoxFwdIdeal.κ "mask" .f32 0xF149F2CA#32 _ rfl, IdealRules.named_const.statement Cert.FoxFwdIdeal.κ "scale2" .f32 0x3E0293EE#32 _ rfl⟩, Cert.FoxFwdIdeal.Hand.value⟩

end Cert.Proof

end
